-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_up_finite [hPre_up_finite : Cert.Pre_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).1 = (fun _ => 1#1)
    ∧ (Cert.Pre_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_up_finite [hPre_up_finite : Cert.Pre_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).1 = (fun _ => 1#1)
    ∧ (Cert.Pre_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).2 = (fun _ => 1#1)

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_act_finite [hPre_act_finite : Cert.Pre_act_finite.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).2.1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3))).2.2 = (fun _ => 1#1)

def Pre_ActBwdRefIdeal (m : (ℓ : Loc Cert.ActBwdRefIdeal.nD Cert.ActBwdRefIdeal.τ Cert.ActBwdRefIdeal.sig) → Buf (Elt Ideal) ℓ) : Prop :=
  True

def Pre_ActBwdRefIdeal_act_finite [hPre_act_finite : Cert.Pre_act_finite.Facts] (m : (ℓ : Loc Cert.ActBwdRefIdeal.nD Cert.ActBwdRefIdeal.τ Cert.ActBwdRefIdeal.sig) → Buf (Elt Ideal) ℓ) : Prop :=
  ∀ c : Dev Cert.ActBwdRefIdeal.nD,
    (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2)) (m ((c.tc : Thread Cert.ActBwdRefIdeal.nD Cert.ActBwdRefIdeal.τ).loc Cert.ActBwdRefIdeal.main_arg3))).1 = (fun _ => 1#1)
    ∧ (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2)) (m ((c.tc : Thread Cert.ActBwdRefIdeal.nD Cert.ActBwdRefIdeal.τ).loc Cert.ActBwdRefIdeal.main_arg3))).2.1 = (fun _ => 1#1)
    ∧ (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2)) (m ((c.tc : Thread Cert.ActBwdRefIdeal.nD Cert.ActBwdRefIdeal.τ).loc Cert.ActBwdRefIdeal.main_arg3))).2.2 = (fun _ => 1#1)

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_UpGradSum (m : (ℓ : Loc Cert.UpGradSum.nD Cert.UpGradSum.τ Cert.UpGradSum.sig) → Buf (Elt Bits) ℓ) : Prop :=
  True

def Pre_UpGradSumIdeal (m : (ℓ : Loc Cert.UpGradSumIdeal.nD Cert.UpGradSumIdeal.τ Cert.UpGradSumIdeal.sig) → Buf (Elt Ideal) ℓ) : Prop :=
  True

def Pre_UpGradSumRefIdeal (m : (ℓ : Loc Cert.UpGradSumRefIdeal.nD Cert.UpGradSumRefIdeal.τ Cert.UpGradSumRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_DownGradSum (m : (ℓ : Loc Cert.DownGradSum.nD Cert.DownGradSum.τ Cert.DownGradSum.sig) → Buf (Elt Bits) ℓ) : Prop :=
  True

def Pre_DownGradSumIdeal (m : (ℓ : Loc Cert.DownGradSumIdeal.nD Cert.DownGradSumIdeal.τ Cert.DownGradSumIdeal.sig) → Buf (Elt Ideal) ℓ) : Prop :=
  True

def Pre_DownGradSumRefIdeal (m : (ℓ : Loc Cert.DownGradSumRefIdeal.nD Cert.DownGradSumRefIdeal.τ Cert.DownGradSumRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_ParamsBwd (m : (ℓ : Loc Cert.ParamsBwd.nD Cert.ParamsBwd.τ Cert.ParamsBwd.sig) → Buf (Elt Bits) ℓ) : Prop :=
  True

def Pre_ParamsBwdIdeal (m : (ℓ : Loc Cert.ParamsBwdIdeal.nD Cert.ParamsBwdIdeal.τ Cert.ParamsBwdIdeal.sig) → Buf (Elt Ideal) ℓ) : Prop :=
  True

def Pre_ParamsBwdRefIdeal (m : (ℓ : Loc Cert.ParamsBwdRefIdeal.nD Cert.ParamsBwdRefIdeal.τ Cert.ParamsBwdRefIdeal.sig) → Buf (Elt Ideal) ℓ) : Prop :=
  True

def Pre_Params (m : (ℓ : Loc Cert.Params.nD Cert.Params.τ Cert.Params.sig) → Buf (Elt Bits) ℓ) : Prop :=
  True

def Pre_ParamsIdeal (m : (ℓ : Loc Cert.ParamsIdeal.nD Cert.ParamsIdeal.τ Cert.ParamsIdeal.sig) → Buf (Elt Ideal) ℓ) : Prop :=
  True

def Pre_ParamsRefIdeal (m : (ℓ : Loc Cert.ParamsRefIdeal.nD Cert.ParamsRefIdeal.τ Cert.ParamsRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_loss_finite [hPre_loss_finite : Cert.Pre_loss_finite.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).2.2 = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_loss_finite [hPre_loss_finite : Cert.Pre_loss_finite.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).2.2 = (fun _ => 1#1)

def Pre_DxLn (m : (ℓ : Loc Cert.DxLn.nD Cert.DxLn.τ Cert.DxLn.sig) → Buf (Elt Bits) ℓ) : Prop :=
  True

def Pre_DxLnIdeal (m : (ℓ : Loc Cert.DxLnIdeal.nD Cert.DxLnIdeal.τ Cert.DxLnIdeal.sig) → Buf (Elt Ideal) ℓ) : Prop :=
  True

def Pre_DxLnIdeal_dx_finite [hPre_dx_finite : Cert.Pre_dx_finite.Facts] (m : (ℓ : Loc Cert.DxLnIdeal.nD Cert.DxLnIdeal.τ Cert.DxLnIdeal.sig) → Buf (Elt Ideal) ℓ) : Prop :=
  ∀ c : Dev Cert.DxLnIdeal.nD,
    (Cert.Pre_dx_finite.fn (F := Ideal) (m ((c.tc : Thread Cert.DxLnIdeal.nD Cert.DxLnIdeal.τ).loc Cert.DxLnIdeal.main_arg0)) (m ((c.tc : Thread Cert.DxLnIdeal.nD Cert.DxLnIdeal.τ).loc Cert.DxLnIdeal.main_arg1)) (m ((c.tc : Thread Cert.DxLnIdeal.nD Cert.DxLnIdeal.τ).loc Cert.DxLnIdeal.main_arg2)) (m ((c.tc : Thread Cert.DxLnIdeal.nD Cert.DxLnIdeal.τ).loc Cert.DxLnIdeal.main_arg3))).1 = (fun _ => 1#1)
    ∧ (Cert.Pre_dx_finite.fn (F := Ideal) (m ((c.tc : Thread Cert.DxLnIdeal.nD Cert.DxLnIdeal.τ).loc Cert.DxLnIdeal.main_arg0)) (m ((c.tc : Thread Cert.DxLnIdeal.nD Cert.DxLnIdeal.τ).loc Cert.DxLnIdeal.main_arg1)) (m ((c.tc : Thread Cert.DxLnIdeal.nD Cert.DxLnIdeal.τ).loc Cert.DxLnIdeal.main_arg2)) (m ((c.tc : Thread Cert.DxLnIdeal.nD Cert.DxLnIdeal.τ).loc Cert.DxLnIdeal.main_arg3))).2.1 = (fun _ => 1#1)
    ∧ (Cert.Pre_dx_finite.fn (F := Ideal) (m ((c.tc : Thread Cert.DxLnIdeal.nD Cert.DxLnIdeal.τ).loc Cert.DxLnIdeal.main_arg0)) (m ((c.tc : Thread Cert.DxLnIdeal.nD Cert.DxLnIdeal.τ).loc Cert.DxLnIdeal.main_arg1)) (m ((c.tc : Thread Cert.DxLnIdeal.nD Cert.DxLnIdeal.τ).loc Cert.DxLnIdeal.main_arg2)) (m ((c.tc : Thread Cert.DxLnIdeal.nD Cert.DxLnIdeal.τ).loc Cert.DxLnIdeal.main_arg3))).2.2 = (fun _ => 1#1)

def Pre_DxLnRefIdeal (m : (ℓ : Loc Cert.DxLnRefIdeal.nD Cert.DxLnRefIdeal.τ Cert.DxLnRefIdeal.sig) → Buf (Elt Ideal) ℓ) : Prop :=
  True

def Pre_DxLnRefIdeal_dx_finite [hPre_dx_finite : Cert.Pre_dx_finite.Facts] (m : (ℓ : Loc Cert.DxLnRefIdeal.nD Cert.DxLnRefIdeal.τ Cert.DxLnRefIdeal.sig) → Buf (Elt Ideal) ℓ) : Prop :=
  ∀ c : Dev Cert.DxLnRefIdeal.nD,
    (Cert.Pre_dx_finite.fn (F := Ideal) (m ((c.tc : Thread Cert.DxLnRefIdeal.nD Cert.DxLnRefIdeal.τ).loc Cert.DxLnRefIdeal.main_arg0)) (m ((c.tc : Thread Cert.DxLnRefIdeal.nD Cert.DxLnRefIdeal.τ).loc Cert.DxLnRefIdeal.main_arg1)) (m ((c.tc : Thread Cert.DxLnRefIdeal.nD Cert.DxLnRefIdeal.τ).loc Cert.DxLnRefIdeal.main_arg2)) (m ((c.tc : Thread Cert.DxLnRefIdeal.nD Cert.DxLnRefIdeal.τ).loc Cert.DxLnRefIdeal.main_arg3))).1 = (fun _ => 1#1)
    ∧ (Cert.Pre_dx_finite.fn (F := Ideal) (m ((c.tc : Thread Cert.DxLnRefIdeal.nD Cert.DxLnRefIdeal.τ).loc Cert.DxLnRefIdeal.main_arg0)) (m ((c.tc : Thread Cert.DxLnRefIdeal.nD Cert.DxLnRefIdeal.τ).loc Cert.DxLnRefIdeal.main_arg1)) (m ((c.tc : Thread Cert.DxLnRefIdeal.nD Cert.DxLnRefIdeal.τ).loc Cert.DxLnRefIdeal.main_arg2)) (m ((c.tc : Thread Cert.DxLnRefIdeal.nD Cert.DxLnRefIdeal.τ).loc Cert.DxLnRefIdeal.main_arg3))).2.1 = (fun _ => 1#1)
    ∧ (Cert.Pre_dx_finite.fn (F := Ideal) (m ((c.tc : Thread Cert.DxLnRefIdeal.nD Cert.DxLnRefIdeal.τ).loc Cert.DxLnRefIdeal.main_arg0)) (m ((c.tc : Thread Cert.DxLnRefIdeal.nD Cert.DxLnRefIdeal.τ).loc Cert.DxLnRefIdeal.main_arg1)) (m ((c.tc : Thread Cert.DxLnRefIdeal.nD Cert.DxLnRefIdeal.τ).loc Cert.DxLnRefIdeal.main_arg2)) (m ((c.tc : Thread Cert.DxLnRefIdeal.nD Cert.DxLnRefIdeal.τ).loc Cert.DxLnRefIdeal.main_arg3))).2.2 = (fun _ => 1#1)

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnRefIdeal (m : (ℓ : Loc Cert.ResLnRefIdeal.nD Cert.ResLnRefIdeal.τ Cert.ResLnRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_ReduceRefIdeal (m : (ℓ : Loc Cert.ReduceRefIdeal.nD Cert.ReduceRefIdeal.τ Cert.ReduceRefIdeal.sig) → Buf (Elt Ideal) ℓ) : Prop :=
  True

def Pre_DxRes (m : (ℓ : Loc Cert.DxRes.nD Cert.DxRes.τ Cert.DxRes.sig) → Buf (Elt Bits) ℓ) : Prop :=
  True

def Pre_DxResIdeal (m : (ℓ : Loc Cert.DxResIdeal.nD Cert.DxResIdeal.τ Cert.DxResIdeal.sig) → Buf (Elt Ideal) ℓ) : Prop :=
  True

def Pre_DxResRefIdeal (m : (ℓ : Loc Cert.DxResRefIdeal.nD Cert.DxResRefIdeal.τ Cert.DxResRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwGlu (m : (ℓ : Loc Cert.AdamwGlu.nD Cert.AdamwGlu.τ Cert.AdamwGlu.sig) → Buf (Elt Bits) ℓ) : Prop :=
  True

def Pre_AdamwGluIdeal (m : (ℓ : Loc Cert.AdamwGluIdeal.nD Cert.AdamwGluIdeal.τ Cert.AdamwGluIdeal.sig) → Buf (Elt Ideal) ℓ) : Prop :=
  True

def Pre_AdamwGluRefIdeal (m : (ℓ : Loc Cert.AdamwGluRefIdeal.nD Cert.AdamwGluRefIdeal.τ Cert.AdamwGluRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_up_finite [hFfnUpIdeal : Cert.FfnUpIdeal.Facts] [hPre_up_finite : Cert.Pre_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_up_finite [hFfnUpRefIdeal : Cert.FfnUpRefIdeal.Facts] [hPre_up_finite : Cert.Pre_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2)
      ∧ r.2.mem ((c.tc : Thread Cert.ActBwd.nD Cert.ActBwd.τ).loc Cert.ActBwd.main_arg3) = m ((c.tc : Thread Cert.ActBwd.nD Cert.ActBwd.τ).loc Cert.ActBwd.main_arg3))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ r.2.sem = fun _ => 0)

def quiescent_ActBwdIdeal_pre_act_finite [hActBwdIdeal : Cert.ActBwdIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_act_finite m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2)
      ∧ r.2.mem ((c.tc : Thread Cert.ActBwdRefIdeal.nD Cert.ActBwdRefIdeal.τ).loc Cert.ActBwdRefIdeal.main_arg3) = m ((c.tc : Thread Cert.ActBwdRefIdeal.nD Cert.ActBwdRefIdeal.τ).loc Cert.ActBwdRefIdeal.main_arg3))
      ∧ r.2.sem = fun _ => 0)

def quiescent_ActBwdRefIdeal_pre_act_finite [hActBwdRefIdeal : Cert.ActBwdRefIdeal.Facts] [hPre_act_finite : Cert.Pre_act_finite.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal_act_finite m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2)
      ∧ r.2.mem ((c.tc : Thread Cert.ActBwdRefIdeal.nD Cert.ActBwdRefIdeal.τ).loc Cert.ActBwdRefIdeal.main_arg3) = m ((c.tc : Thread Cert.ActBwdRefIdeal.nD Cert.ActBwdRefIdeal.τ).loc Cert.ActBwdRefIdeal.main_arg3))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_UpGradSum [hUpGradSum : Cert.UpGradSum.Facts] : Prop :=
  ∀ (m : (ℓ : Loc Cert.UpGradSum.nD Cert.UpGradSum.τ Cert.UpGradSum.sig) → Buf (Elt Bits) ℓ) (g : Dev Cert.UpGradSum.nD → PrngReg), Pre_UpGradSum m →
    θ_run (Cert.UpGradSum.defs (F := Bits)) (onTc (τ := Cert.UpGradSum.τ) (Cert.UpGradSum.main (F := Bits))) ⟨m, fun _ => 0, g⟩ (fun r => (∀ c : Dev Cert.UpGradSum.nD,
      r.2.mem ((c.tc : Thread Cert.UpGradSum.nD Cert.UpGradSum.τ).loc Cert.UpGradSum.main_arg0) = m ((c.tc : Thread Cert.UpGradSum.nD Cert.UpGradSum.τ).loc Cert.UpGradSum.main_arg0)
      ∧ r.2.mem ((c.tc : Thread Cert.UpGradSum.nD Cert.UpGradSum.τ).loc Cert.UpGradSum.main_arg1) = m ((c.tc : Thread Cert.UpGradSum.nD Cert.UpGradSum.τ).loc Cert.UpGradSum.main_arg1)
      ∧ r.2.mem ((c.tc : Thread Cert.UpGradSum.nD Cert.UpGradSum.τ).loc Cert.UpGradSum.main_arg2) = m ((c.tc : Thread Cert.UpGradSum.nD Cert.UpGradSum.τ).loc Cert.UpGradSum.main_arg2))
      ∧ r.2.sem = fun _ => 0)

def quiescent_UpGradSumIdeal [hUpGradSumIdeal : Cert.UpGradSumIdeal.Facts] : Prop :=
  ∀ (m : (ℓ : Loc Cert.UpGradSumIdeal.nD Cert.UpGradSumIdeal.τ Cert.UpGradSumIdeal.sig) → Buf (Elt Ideal) ℓ) (g : Dev Cert.UpGradSumIdeal.nD → PrngReg), Pre_UpGradSumIdeal m →
    θ_run (Cert.UpGradSumIdeal.defs (F := Ideal)) (onTc (τ := Cert.UpGradSumIdeal.τ) (Cert.UpGradSumIdeal.main (F := Ideal))) ⟨m, fun _ => 0, g⟩ (fun r => (∀ c : Dev Cert.UpGradSumIdeal.nD,
      r.2.mem ((c.tc : Thread Cert.UpGradSumIdeal.nD Cert.UpGradSumIdeal.τ).loc Cert.UpGradSumIdeal.main_arg0) = m ((c.tc : Thread Cert.UpGradSumIdeal.nD Cert.UpGradSumIdeal.τ).loc Cert.UpGradSumIdeal.main_arg0)
      ∧ r.2.mem ((c.tc : Thread Cert.UpGradSumIdeal.nD Cert.UpGradSumIdeal.τ).loc Cert.UpGradSumIdeal.main_arg1) = m ((c.tc : Thread Cert.UpGradSumIdeal.nD Cert.UpGradSumIdeal.τ).loc Cert.UpGradSumIdeal.main_arg1)
      ∧ r.2.mem ((c.tc : Thread Cert.UpGradSumIdeal.nD Cert.UpGradSumIdeal.τ).loc Cert.UpGradSumIdeal.main_arg2) = m ((c.tc : Thread Cert.UpGradSumIdeal.nD Cert.UpGradSumIdeal.τ).loc Cert.UpGradSumIdeal.main_arg2))
      ∧ r.2.sem = fun _ => 0)

def quiescent_UpGradSumRefIdeal [hUpGradSumRefIdeal : Cert.UpGradSumRefIdeal.Facts] : Prop :=
  ∀ (m : (ℓ : Loc Cert.UpGradSumRefIdeal.nD Cert.UpGradSumRefIdeal.τ Cert.UpGradSumRefIdeal.sig) → Buf (Elt Ideal) ℓ) (g : Dev Cert.UpGradSumRefIdeal.nD → PrngReg), Pre_UpGradSumRefIdeal m →
    θ_run (Cert.UpGradSumRefIdeal.defs (F := Ideal)) (onTc (τ := Cert.UpGradSumRefIdeal.τ) (Cert.UpGradSumRefIdeal.main (F := Ideal))) ⟨m, fun _ => 0, g⟩ (fun r => (∀ c : Dev Cert.UpGradSumRefIdeal.nD,
      r.2.mem ((c.tc : Thread Cert.UpGradSumRefIdeal.nD Cert.UpGradSumRefIdeal.τ).loc Cert.UpGradSumRefIdeal.main_arg0) = m ((c.tc : Thread Cert.UpGradSumRefIdeal.nD Cert.UpGradSumRefIdeal.τ).loc Cert.UpGradSumRefIdeal.main_arg0)
      ∧ r.2.mem ((c.tc : Thread Cert.UpGradSumRefIdeal.nD Cert.UpGradSumRefIdeal.τ).loc Cert.UpGradSumRefIdeal.main_arg1) = m ((c.tc : Thread Cert.UpGradSumRefIdeal.nD Cert.UpGradSumRefIdeal.τ).loc Cert.UpGradSumRefIdeal.main_arg1)
      ∧ r.2.mem ((c.tc : Thread Cert.UpGradSumRefIdeal.nD Cert.UpGradSumRefIdeal.τ).loc Cert.UpGradSumRefIdeal.main_arg2) = m ((c.tc : Thread Cert.UpGradSumRefIdeal.nD Cert.UpGradSumRefIdeal.τ).loc Cert.UpGradSumRefIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_DownGradSum [hDownGradSum : Cert.DownGradSum.Facts] : Prop :=
  ∀ (m : (ℓ : Loc Cert.DownGradSum.nD Cert.DownGradSum.τ Cert.DownGradSum.sig) → Buf (Elt Bits) ℓ) (g : Dev Cert.DownGradSum.nD → PrngReg), Pre_DownGradSum m →
    θ_run (Cert.DownGradSum.defs (F := Bits)) (onTc (τ := Cert.DownGradSum.τ) (Cert.DownGradSum.main (F := Bits))) ⟨m, fun _ => 0, g⟩ (fun r => (∀ c : Dev Cert.DownGradSum.nD,
      r.2.mem ((c.tc : Thread Cert.DownGradSum.nD Cert.DownGradSum.τ).loc Cert.DownGradSum.main_arg0) = m ((c.tc : Thread Cert.DownGradSum.nD Cert.DownGradSum.τ).loc Cert.DownGradSum.main_arg0)
      ∧ r.2.mem ((c.tc : Thread Cert.DownGradSum.nD Cert.DownGradSum.τ).loc Cert.DownGradSum.main_arg1) = m ((c.tc : Thread Cert.DownGradSum.nD Cert.DownGradSum.τ).loc Cert.DownGradSum.main_arg1)
      ∧ r.2.mem ((c.tc : Thread Cert.DownGradSum.nD Cert.DownGradSum.τ).loc Cert.DownGradSum.main_arg2) = m ((c.tc : Thread Cert.DownGradSum.nD Cert.DownGradSum.τ).loc Cert.DownGradSum.main_arg2))
      ∧ r.2.sem = fun _ => 0)

def quiescent_DownGradSumIdeal [hDownGradSumIdeal : Cert.DownGradSumIdeal.Facts] : Prop :=
  ∀ (m : (ℓ : Loc Cert.DownGradSumIdeal.nD Cert.DownGradSumIdeal.τ Cert.DownGradSumIdeal.sig) → Buf (Elt Ideal) ℓ) (g : Dev Cert.DownGradSumIdeal.nD → PrngReg), Pre_DownGradSumIdeal m →
    θ_run (Cert.DownGradSumIdeal.defs (F := Ideal)) (onTc (τ := Cert.DownGradSumIdeal.τ) (Cert.DownGradSumIdeal.main (F := Ideal))) ⟨m, fun _ => 0, g⟩ (fun r => (∀ c : Dev Cert.DownGradSumIdeal.nD,
      r.2.mem ((c.tc : Thread Cert.DownGradSumIdeal.nD Cert.DownGradSumIdeal.τ).loc Cert.DownGradSumIdeal.main_arg0) = m ((c.tc : Thread Cert.DownGradSumIdeal.nD Cert.DownGradSumIdeal.τ).loc Cert.DownGradSumIdeal.main_arg0)
      ∧ r.2.mem ((c.tc : Thread Cert.DownGradSumIdeal.nD Cert.DownGradSumIdeal.τ).loc Cert.DownGradSumIdeal.main_arg1) = m ((c.tc : Thread Cert.DownGradSumIdeal.nD Cert.DownGradSumIdeal.τ).loc Cert.DownGradSumIdeal.main_arg1)
      ∧ r.2.mem ((c.tc : Thread Cert.DownGradSumIdeal.nD Cert.DownGradSumIdeal.τ).loc Cert.DownGradSumIdeal.main_arg2) = m ((c.tc : Thread Cert.DownGradSumIdeal.nD Cert.DownGradSumIdeal.τ).loc Cert.DownGradSumIdeal.main_arg2))
      ∧ r.2.sem = fun _ => 0)

def quiescent_DownGradSumRefIdeal [hDownGradSumRefIdeal : Cert.DownGradSumRefIdeal.Facts] : Prop :=
  ∀ (m : (ℓ : Loc Cert.DownGradSumRefIdeal.nD Cert.DownGradSumRefIdeal.τ Cert.DownGradSumRefIdeal.sig) → Buf (Elt Ideal) ℓ) (g : Dev Cert.DownGradSumRefIdeal.nD → PrngReg), Pre_DownGradSumRefIdeal m →
    θ_run (Cert.DownGradSumRefIdeal.defs (F := Ideal)) (onTc (τ := Cert.DownGradSumRefIdeal.τ) (Cert.DownGradSumRefIdeal.main (F := Ideal))) ⟨m, fun _ => 0, g⟩ (fun r => (∀ c : Dev Cert.DownGradSumRefIdeal.nD,
      r.2.mem ((c.tc : Thread Cert.DownGradSumRefIdeal.nD Cert.DownGradSumRefIdeal.τ).loc Cert.DownGradSumRefIdeal.main_arg0) = m ((c.tc : Thread Cert.DownGradSumRefIdeal.nD Cert.DownGradSumRefIdeal.τ).loc Cert.DownGradSumRefIdeal.main_arg0)
      ∧ r.2.mem ((c.tc : Thread Cert.DownGradSumRefIdeal.nD Cert.DownGradSumRefIdeal.τ).loc Cert.DownGradSumRefIdeal.main_arg1) = m ((c.tc : Thread Cert.DownGradSumRefIdeal.nD Cert.DownGradSumRefIdeal.τ).loc Cert.DownGradSumRefIdeal.main_arg1)
      ∧ r.2.mem ((c.tc : Thread Cert.DownGradSumRefIdeal.nD Cert.DownGradSumRefIdeal.τ).loc Cert.DownGradSumRefIdeal.main_arg2) = m ((c.tc : Thread Cert.DownGradSumRefIdeal.nD Cert.DownGradSumRefIdeal.τ).loc Cert.DownGradSumRefIdeal.main_arg2))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_ParamsBwd [hParamsBwd : Cert.ParamsBwd.Facts] : Prop :=
  ∀ (m : (ℓ : Loc Cert.ParamsBwd.nD Cert.ParamsBwd.τ Cert.ParamsBwd.sig) → Buf (Elt Bits) ℓ) (g : Dev Cert.ParamsBwd.nD → PrngReg), Pre_ParamsBwd m →
    θ_run (Cert.ParamsBwd.defs (F := Bits)) (onTc (τ := Cert.ParamsBwd.τ) (Cert.ParamsBwd.main (F := Bits))) ⟨m, fun _ => 0, g⟩ (fun r => (∀ c : Dev Cert.ParamsBwd.nD,
      r.2.mem ((c.tc : Thread Cert.ParamsBwd.nD Cert.ParamsBwd.τ).loc Cert.ParamsBwd.main_arg0) = m ((c.tc : Thread Cert.ParamsBwd.nD Cert.ParamsBwd.τ).loc Cert.ParamsBwd.main_arg0)
      ∧ r.2.mem ((c.tc : Thread Cert.ParamsBwd.nD Cert.ParamsBwd.τ).loc Cert.ParamsBwd.main_arg1) = m ((c.tc : Thread Cert.ParamsBwd.nD Cert.ParamsBwd.τ).loc Cert.ParamsBwd.main_arg1)
      ∧ r.2.mem ((c.tc : Thread Cert.ParamsBwd.nD Cert.ParamsBwd.τ).loc Cert.ParamsBwd.main_arg2) = m ((c.tc : Thread Cert.ParamsBwd.nD Cert.ParamsBwd.τ).loc Cert.ParamsBwd.main_arg2)
      ∧ r.2.mem ((c.tc : Thread Cert.ParamsBwd.nD Cert.ParamsBwd.τ).loc Cert.ParamsBwd.main_arg3) = m ((c.tc : Thread Cert.ParamsBwd.nD Cert.ParamsBwd.τ).loc Cert.ParamsBwd.main_arg3)
      ∧ r.2.mem ((c.tc : Thread Cert.ParamsBwd.nD Cert.ParamsBwd.τ).loc Cert.ParamsBwd.main_arg4) = m ((c.tc : Thread Cert.ParamsBwd.nD Cert.ParamsBwd.τ).loc Cert.ParamsBwd.main_arg4)
      ∧ r.2.mem ((c.tc : Thread Cert.ParamsBwd.nD Cert.ParamsBwd.τ).loc Cert.ParamsBwd.main_arg5) = m ((c.tc : Thread Cert.ParamsBwd.nD Cert.ParamsBwd.τ).loc Cert.ParamsBwd.main_arg5)
      ∧ r.2.mem ((c.tc : Thread Cert.ParamsBwd.nD Cert.ParamsBwd.τ).loc Cert.ParamsBwd.main_arg6) = m ((c.tc : Thread Cert.ParamsBwd.nD Cert.ParamsBwd.τ).loc Cert.ParamsBwd.main_arg6)
      ∧ r.2.mem ((c.tc : Thread Cert.ParamsBwd.nD Cert.ParamsBwd.τ).loc Cert.ParamsBwd.main_arg7) = m ((c.tc : Thread Cert.ParamsBwd.nD Cert.ParamsBwd.τ).loc Cert.ParamsBwd.main_arg7)
      ∧ r.2.mem ((c.tc : Thread Cert.ParamsBwd.nD Cert.ParamsBwd.τ).loc Cert.ParamsBwd.main_arg8) = m ((c.tc : Thread Cert.ParamsBwd.nD Cert.ParamsBwd.τ).loc Cert.ParamsBwd.main_arg8))
      ∧ r.2.sem = fun _ => 0)

def quiescent_ParamsBwdIdeal [hParamsBwdIdeal : Cert.ParamsBwdIdeal.Facts] : Prop :=
  ∀ (m : (ℓ : Loc Cert.ParamsBwdIdeal.nD Cert.ParamsBwdIdeal.τ Cert.ParamsBwdIdeal.sig) → Buf (Elt Ideal) ℓ) (g : Dev Cert.ParamsBwdIdeal.nD → PrngReg), Pre_ParamsBwdIdeal m →
    θ_run (Cert.ParamsBwdIdeal.defs (F := Ideal)) (onTc (τ := Cert.ParamsBwdIdeal.τ) (Cert.ParamsBwdIdeal.main (F := Ideal))) ⟨m, fun _ => 0, g⟩ (fun r => (∀ c : Dev Cert.ParamsBwdIdeal.nD,
      r.2.mem ((c.tc : Thread Cert.ParamsBwdIdeal.nD Cert.ParamsBwdIdeal.τ).loc Cert.ParamsBwdIdeal.main_arg0) = m ((c.tc : Thread Cert.ParamsBwdIdeal.nD Cert.ParamsBwdIdeal.τ).loc Cert.ParamsBwdIdeal.main_arg0)
      ∧ r.2.mem ((c.tc : Thread Cert.ParamsBwdIdeal.nD Cert.ParamsBwdIdeal.τ).loc Cert.ParamsBwdIdeal.main_arg1) = m ((c.tc : Thread Cert.ParamsBwdIdeal.nD Cert.ParamsBwdIdeal.τ).loc Cert.ParamsBwdIdeal.main_arg1)
      ∧ r.2.mem ((c.tc : Thread Cert.ParamsBwdIdeal.nD Cert.ParamsBwdIdeal.τ).loc Cert.ParamsBwdIdeal.main_arg2) = m ((c.tc : Thread Cert.ParamsBwdIdeal.nD Cert.ParamsBwdIdeal.τ).loc Cert.ParamsBwdIdeal.main_arg2)
      ∧ r.2.mem ((c.tc : Thread Cert.ParamsBwdIdeal.nD Cert.ParamsBwdIdeal.τ).loc Cert.ParamsBwdIdeal.main_arg3) = m ((c.tc : Thread Cert.ParamsBwdIdeal.nD Cert.ParamsBwdIdeal.τ).loc Cert.ParamsBwdIdeal.main_arg3)
      ∧ r.2.mem ((c.tc : Thread Cert.ParamsBwdIdeal.nD Cert.ParamsBwdIdeal.τ).loc Cert.ParamsBwdIdeal.main_arg4) = m ((c.tc : Thread Cert.ParamsBwdIdeal.nD Cert.ParamsBwdIdeal.τ).loc Cert.ParamsBwdIdeal.main_arg4)
      ∧ r.2.mem ((c.tc : Thread Cert.ParamsBwdIdeal.nD Cert.ParamsBwdIdeal.τ).loc Cert.ParamsBwdIdeal.main_arg5) = m ((c.tc : Thread Cert.ParamsBwdIdeal.nD Cert.ParamsBwdIdeal.τ).loc Cert.ParamsBwdIdeal.main_arg5)
      ∧ r.2.mem ((c.tc : Thread Cert.ParamsBwdIdeal.nD Cert.ParamsBwdIdeal.τ).loc Cert.ParamsBwdIdeal.main_arg6) = m ((c.tc : Thread Cert.ParamsBwdIdeal.nD Cert.ParamsBwdIdeal.τ).loc Cert.ParamsBwdIdeal.main_arg6)
      ∧ r.2.mem ((c.tc : Thread Cert.ParamsBwdIdeal.nD Cert.ParamsBwdIdeal.τ).loc Cert.ParamsBwdIdeal.main_arg7) = m ((c.tc : Thread Cert.ParamsBwdIdeal.nD Cert.ParamsBwdIdeal.τ).loc Cert.ParamsBwdIdeal.main_arg7)
      ∧ r.2.mem ((c.tc : Thread Cert.ParamsBwdIdeal.nD Cert.ParamsBwdIdeal.τ).loc Cert.ParamsBwdIdeal.main_arg8) = m ((c.tc : Thread Cert.ParamsBwdIdeal.nD Cert.ParamsBwdIdeal.τ).loc Cert.ParamsBwdIdeal.main_arg8))
      ∧ r.2.sem = fun _ => 0)

def quiescent_ParamsBwdRefIdeal [hParamsBwdRefIdeal : Cert.ParamsBwdRefIdeal.Facts] : Prop :=
  ∀ (m : (ℓ : Loc Cert.ParamsBwdRefIdeal.nD Cert.ParamsBwdRefIdeal.τ Cert.ParamsBwdRefIdeal.sig) → Buf (Elt Ideal) ℓ) (g : Dev Cert.ParamsBwdRefIdeal.nD → PrngReg), Pre_ParamsBwdRefIdeal m →
    θ_run (Cert.ParamsBwdRefIdeal.defs (F := Ideal)) (onTc (τ := Cert.ParamsBwdRefIdeal.τ) (Cert.ParamsBwdRefIdeal.main (F := Ideal))) ⟨m, fun _ => 0, g⟩ (fun r => (∀ c : Dev Cert.ParamsBwdRefIdeal.nD,
      r.2.mem ((c.tc : Thread Cert.ParamsBwdRefIdeal.nD Cert.ParamsBwdRefIdeal.τ).loc Cert.ParamsBwdRefIdeal.main_arg0) = m ((c.tc : Thread Cert.ParamsBwdRefIdeal.nD Cert.ParamsBwdRefIdeal.τ).loc Cert.ParamsBwdRefIdeal.main_arg0)
      ∧ r.2.mem ((c.tc : Thread Cert.ParamsBwdRefIdeal.nD Cert.ParamsBwdRefIdeal.τ).loc Cert.ParamsBwdRefIdeal.main_arg1) = m ((c.tc : Thread Cert.ParamsBwdRefIdeal.nD Cert.ParamsBwdRefIdeal.τ).loc Cert.ParamsBwdRefIdeal.main_arg1)
      ∧ r.2.mem ((c.tc : Thread Cert.ParamsBwdRefIdeal.nD Cert.ParamsBwdRefIdeal.τ).loc Cert.ParamsBwdRefIdeal.main_arg2) = m ((c.tc : Thread Cert.ParamsBwdRefIdeal.nD Cert.ParamsBwdRefIdeal.τ).loc Cert.ParamsBwdRefIdeal.main_arg2)
      ∧ r.2.mem ((c.tc : Thread Cert.ParamsBwdRefIdeal.nD Cert.ParamsBwdRefIdeal.τ).loc Cert.ParamsBwdRefIdeal.main_arg3) = m ((c.tc : Thread Cert.ParamsBwdRefIdeal.nD Cert.ParamsBwdRefIdeal.τ).loc Cert.ParamsBwdRefIdeal.main_arg3)
      ∧ r.2.mem ((c.tc : Thread Cert.ParamsBwdRefIdeal.nD Cert.ParamsBwdRefIdeal.τ).loc Cert.ParamsBwdRefIdeal.main_arg4) = m ((c.tc : Thread Cert.ParamsBwdRefIdeal.nD Cert.ParamsBwdRefIdeal.τ).loc Cert.ParamsBwdRefIdeal.main_arg4)
      ∧ r.2.mem ((c.tc : Thread Cert.ParamsBwdRefIdeal.nD Cert.ParamsBwdRefIdeal.τ).loc Cert.ParamsBwdRefIdeal.main_arg5) = m ((c.tc : Thread Cert.ParamsBwdRefIdeal.nD Cert.ParamsBwdRefIdeal.τ).loc Cert.ParamsBwdRefIdeal.main_arg5)
      ∧ r.2.mem ((c.tc : Thread Cert.ParamsBwdRefIdeal.nD Cert.ParamsBwdRefIdeal.τ).loc Cert.ParamsBwdRefIdeal.main_arg6) = m ((c.tc : Thread Cert.ParamsBwdRefIdeal.nD Cert.ParamsBwdRefIdeal.τ).loc Cert.ParamsBwdRefIdeal.main_arg6)
      ∧ r.2.mem ((c.tc : Thread Cert.ParamsBwdRefIdeal.nD Cert.ParamsBwdRefIdeal.τ).loc Cert.ParamsBwdRefIdeal.main_arg7) = m ((c.tc : Thread Cert.ParamsBwdRefIdeal.nD Cert.ParamsBwdRefIdeal.τ).loc Cert.ParamsBwdRefIdeal.main_arg7)
      ∧ r.2.mem ((c.tc : Thread Cert.ParamsBwdRefIdeal.nD Cert.ParamsBwdRefIdeal.τ).loc Cert.ParamsBwdRefIdeal.main_arg8) = m ((c.tc : Thread Cert.ParamsBwdRefIdeal.nD Cert.ParamsBwdRefIdeal.τ).loc Cert.ParamsBwdRefIdeal.main_arg8))
      ∧ r.2.sem = fun _ => 0)

def quiescent_Params [hParams : Cert.Params.Facts] : Prop :=
  ∀ (m : (ℓ : Loc Cert.Params.nD Cert.Params.τ Cert.Params.sig) → Buf (Elt Bits) ℓ) (g : Dev Cert.Params.nD → PrngReg), Pre_Params m →
    θ_run (Cert.Params.defs (F := Bits)) (onTc (τ := Cert.Params.τ) (Cert.Params.main (F := Bits))) ⟨m, fun _ => 0, g⟩ (fun r => (∀ c : Dev Cert.Params.nD,
      r.2.mem ((c.tc : Thread Cert.Params.nD Cert.Params.τ).loc Cert.Params.main_arg0) = m ((c.tc : Thread Cert.Params.nD Cert.Params.τ).loc Cert.Params.main_arg0)
      ∧ r.2.mem ((c.tc : Thread Cert.Params.nD Cert.Params.τ).loc Cert.Params.main_arg1) = m ((c.tc : Thread Cert.Params.nD Cert.Params.τ).loc Cert.Params.main_arg1)
      ∧ r.2.mem ((c.tc : Thread Cert.Params.nD Cert.Params.τ).loc Cert.Params.main_arg2) = m ((c.tc : Thread Cert.Params.nD Cert.Params.τ).loc Cert.Params.main_arg2)
      ∧ r.2.mem ((c.tc : Thread Cert.Params.nD Cert.Params.τ).loc Cert.Params.main_arg3) = m ((c.tc : Thread Cert.Params.nD Cert.Params.τ).loc Cert.Params.main_arg3)
      ∧ r.2.mem ((c.tc : Thread Cert.Params.nD Cert.Params.τ).loc Cert.Params.main_arg4) = m ((c.tc : Thread Cert.Params.nD Cert.Params.τ).loc Cert.Params.main_arg4))
      ∧ r.2.sem = fun _ => 0)

def quiescent_ParamsIdeal [hParamsIdeal : Cert.ParamsIdeal.Facts] : Prop :=
  ∀ (m : (ℓ : Loc Cert.ParamsIdeal.nD Cert.ParamsIdeal.τ Cert.ParamsIdeal.sig) → Buf (Elt Ideal) ℓ) (g : Dev Cert.ParamsIdeal.nD → PrngReg), Pre_ParamsIdeal m →
    θ_run (Cert.ParamsIdeal.defs (F := Ideal)) (onTc (τ := Cert.ParamsIdeal.τ) (Cert.ParamsIdeal.main (F := Ideal))) ⟨m, fun _ => 0, g⟩ (fun r => (∀ c : Dev Cert.ParamsIdeal.nD,
      r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
      ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
      ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
      ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
      ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4))
      ∧ r.2.sem = fun _ => 0)

def quiescent_ParamsRefIdeal [hParamsRefIdeal : Cert.ParamsRefIdeal.Facts] : Prop :=
  ∀ (m : (ℓ : Loc Cert.ParamsRefIdeal.nD Cert.ParamsRefIdeal.τ Cert.ParamsRefIdeal.sig) → Buf (Elt Ideal) ℓ) (g : Dev Cert.ParamsRefIdeal.nD → PrngReg), Pre_ParamsRefIdeal m →
    θ_run (Cert.ParamsRefIdeal.defs (F := Ideal)) (onTc (τ := Cert.ParamsRefIdeal.τ) (Cert.ParamsRefIdeal.main (F := Ideal))) ⟨m, fun _ => 0, g⟩ (fun r => (∀ c : Dev Cert.ParamsRefIdeal.nD,
      r.2.mem ((c.tc : Thread Cert.ParamsRefIdeal.nD Cert.ParamsRefIdeal.τ).loc Cert.ParamsRefIdeal.main_arg0) = m ((c.tc : Thread Cert.ParamsRefIdeal.nD Cert.ParamsRefIdeal.τ).loc Cert.ParamsRefIdeal.main_arg0)
      ∧ r.2.mem ((c.tc : Thread Cert.ParamsRefIdeal.nD Cert.ParamsRefIdeal.τ).loc Cert.ParamsRefIdeal.main_arg1) = m ((c.tc : Thread Cert.ParamsRefIdeal.nD Cert.ParamsRefIdeal.τ).loc Cert.ParamsRefIdeal.main_arg1)
      ∧ r.2.mem ((c.tc : Thread Cert.ParamsRefIdeal.nD Cert.ParamsRefIdeal.τ).loc Cert.ParamsRefIdeal.main_arg2) = m ((c.tc : Thread Cert.ParamsRefIdeal.nD Cert.ParamsRefIdeal.τ).loc Cert.ParamsRefIdeal.main_arg2)
      ∧ r.2.mem ((c.tc : Thread Cert.ParamsRefIdeal.nD Cert.ParamsRefIdeal.τ).loc Cert.ParamsRefIdeal.main_arg3) = m ((c.tc : Thread Cert.ParamsRefIdeal.nD Cert.ParamsRefIdeal.τ).loc Cert.ParamsRefIdeal.main_arg3)
      ∧ r.2.mem ((c.tc : Thread Cert.ParamsRefIdeal.nD Cert.ParamsRefIdeal.τ).loc Cert.ParamsRefIdeal.main_arg4) = m ((c.tc : Thread Cert.ParamsRefIdeal.nD Cert.ParamsRefIdeal.τ).loc Cert.ParamsRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ r.2.sem = fun _ => 0)

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0)
      ∧ r.2.mem ((c.tc : Thread Cert.ScanBwd.nD Cert.ScanBwd.τ).loc Cert.ScanBwd.main_arg1) = m ((c.tc : Thread Cert.ScanBwd.nD Cert.ScanBwd.τ).loc Cert.ScanBwd.main_arg1)
      ∧ r.2.mem ((c.tc : Thread Cert.ScanBwd.nD Cert.ScanBwd.τ).loc Cert.ScanBwd.main_arg2) = m ((c.tc : Thread Cert.ScanBwd.nD Cert.ScanBwd.τ).loc Cert.ScanBwd.main_arg2)
      ∧ r.2.mem ((c.tc : Thread Cert.ScanBwd.nD Cert.ScanBwd.τ).loc Cert.ScanBwd.main_arg3) = m ((c.tc : Thread Cert.ScanBwd.nD Cert.ScanBwd.τ).loc Cert.ScanBwd.main_arg3)
      ∧ r.2.mem ((c.tc : Thread Cert.ScanBwd.nD Cert.ScanBwd.τ).loc Cert.ScanBwd.main_arg4) = m ((c.tc : Thread Cert.ScanBwd.nD Cert.ScanBwd.τ).loc Cert.ScanBwd.main_arg4)
      ∧ r.2.mem ((c.tc : Thread Cert.ScanBwd.nD Cert.ScanBwd.τ).loc Cert.ScanBwd.main_arg5) = m ((c.tc : Thread Cert.ScanBwd.nD Cert.ScanBwd.τ).loc Cert.ScanBwd.main_arg5)
      ∧ r.2.mem ((c.tc : Thread Cert.ScanBwd.nD Cert.ScanBwd.τ).loc Cert.ScanBwd.main_arg6) = m ((c.tc : Thread Cert.ScanBwd.nD Cert.ScanBwd.τ).loc Cert.ScanBwd.main_arg6)
      ∧ r.2.mem ((c.tc : Thread Cert.ScanBwd.nD Cert.ScanBwd.τ).loc Cert.ScanBwd.main_arg7) = m ((c.tc : Thread Cert.ScanBwd.nD Cert.ScanBwd.τ).loc Cert.ScanBwd.main_arg7)
      ∧ r.2.mem ((c.tc : Thread Cert.ScanBwd.nD Cert.ScanBwd.τ).loc Cert.ScanBwd.main_arg8) = m ((c.tc : Thread Cert.ScanBwd.nD Cert.ScanBwd.τ).loc Cert.ScanBwd.main_arg8)
      ∧ r.2.mem ((c.tc : Thread Cert.ScanBwd.nD Cert.ScanBwd.τ).loc Cert.ScanBwd.main_arg9) = m ((c.tc : Thread Cert.ScanBwd.nD Cert.ScanBwd.τ).loc Cert.ScanBwd.main_arg9)
      ∧ r.2.mem ((c.tc : Thread Cert.ScanBwd.nD Cert.ScanBwd.τ).loc Cert.ScanBwd.main_arg10) = m ((c.tc : Thread Cert.ScanBwd.nD Cert.ScanBwd.τ).loc Cert.ScanBwd.main_arg10))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
      ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
      ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4)
      ∧ r.2.mem ((c.tc : Thread Cert.ScanBwdIdeal.nD Cert.ScanBwdIdeal.τ).loc Cert.ScanBwdIdeal.main_arg5) = m ((c.tc : Thread Cert.ScanBwdIdeal.nD Cert.ScanBwdIdeal.τ).loc Cert.ScanBwdIdeal.main_arg5)
      ∧ r.2.mem ((c.tc : Thread Cert.ScanBwdIdeal.nD Cert.ScanBwdIdeal.τ).loc Cert.ScanBwdIdeal.main_arg6) = m ((c.tc : Thread Cert.ScanBwdIdeal.nD Cert.ScanBwdIdeal.τ).loc Cert.ScanBwdIdeal.main_arg6)
      ∧ r.2.mem ((c.tc : Thread Cert.ScanBwdIdeal.nD Cert.ScanBwdIdeal.τ).loc Cert.ScanBwdIdeal.main_arg7) = m ((c.tc : Thread Cert.ScanBwdIdeal.nD Cert.ScanBwdIdeal.τ).loc Cert.ScanBwdIdeal.main_arg7)
      ∧ r.2.mem ((c.tc : Thread Cert.ScanBwdIdeal.nD Cert.ScanBwdIdeal.τ).loc Cert.ScanBwdIdeal.main_arg8) = m ((c.tc : Thread Cert.ScanBwdIdeal.nD Cert.ScanBwdIdeal.τ).loc Cert.ScanBwdIdeal.main_arg8)
      ∧ r.2.mem ((c.tc : Thread Cert.ScanBwdIdeal.nD Cert.ScanBwdIdeal.τ).loc Cert.ScanBwdIdeal.main_arg9) = m ((c.tc : Thread Cert.ScanBwdIdeal.nD Cert.ScanBwdIdeal.τ).loc Cert.ScanBwdIdeal.main_arg9)
      ∧ r.2.mem ((c.tc : Thread Cert.ScanBwdIdeal.nD Cert.ScanBwdIdeal.τ).loc Cert.ScanBwdIdeal.main_arg10) = m ((c.tc : Thread Cert.ScanBwdIdeal.nD Cert.ScanBwdIdeal.τ).loc Cert.ScanBwdIdeal.main_arg10))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3))
      ∧ r.2.sem = fun _ => 0)

def quiescent_LossLnIdeal_pre_loss_finite [hLossLnIdeal : Cert.LossLnIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_loss_finite m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3))
      ∧ r.2.sem = fun _ => 0)

def quiescent_LossLnRefIdeal_pre_loss_finite [hLossLnRefIdeal : Cert.LossLnRefIdeal.Facts] [hPre_loss_finite : Cert.Pre_loss_finite.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_loss_finite m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3))
      ∧ r.2.sem = fun _ => 0)

def quiescent_DxLn [hDxLn : Cert.DxLn.Facts] : Prop :=
  ∀ (m : (ℓ : Loc Cert.DxLn.nD Cert.DxLn.τ Cert.DxLn.sig) → Buf (Elt Bits) ℓ) (g : Dev Cert.DxLn.nD → PrngReg), Pre_DxLn m →
    θ_run (Cert.DxLn.defs (F := Bits)) (onTc (τ := Cert.DxLn.τ) (Cert.DxLn.main (F := Bits))) ⟨m, fun _ => 0, g⟩ (fun r => (∀ c : Dev Cert.DxLn.nD,
      r.2.mem ((c.tc : Thread Cert.DxLn.nD Cert.DxLn.τ).loc Cert.DxLn.main_arg0) = m ((c.tc : Thread Cert.DxLn.nD Cert.DxLn.τ).loc Cert.DxLn.main_arg0)
      ∧ r.2.mem ((c.tc : Thread Cert.DxLn.nD Cert.DxLn.τ).loc Cert.DxLn.main_arg1) = m ((c.tc : Thread Cert.DxLn.nD Cert.DxLn.τ).loc Cert.DxLn.main_arg1)
      ∧ r.2.mem ((c.tc : Thread Cert.DxLn.nD Cert.DxLn.τ).loc Cert.DxLn.main_arg2) = m ((c.tc : Thread Cert.DxLn.nD Cert.DxLn.τ).loc Cert.DxLn.main_arg2)
      ∧ r.2.mem ((c.tc : Thread Cert.DxLn.nD Cert.DxLn.τ).loc Cert.DxLn.main_arg3) = m ((c.tc : Thread Cert.DxLn.nD Cert.DxLn.τ).loc Cert.DxLn.main_arg3))
      ∧ r.2.sem = fun _ => 0)

def quiescent_DxLnIdeal [hDxLnIdeal : Cert.DxLnIdeal.Facts] : Prop :=
  ∀ (m : (ℓ : Loc Cert.DxLnIdeal.nD Cert.DxLnIdeal.τ Cert.DxLnIdeal.sig) → Buf (Elt Ideal) ℓ) (g : Dev Cert.DxLnIdeal.nD → PrngReg), Pre_DxLnIdeal m →
    θ_run (Cert.DxLnIdeal.defs (F := Ideal)) (onTc (τ := Cert.DxLnIdeal.τ) (Cert.DxLnIdeal.main (F := Ideal))) ⟨m, fun _ => 0, g⟩ (fun r => (∀ c : Dev Cert.DxLnIdeal.nD,
      r.2.mem ((c.tc : Thread Cert.DxLnIdeal.nD Cert.DxLnIdeal.τ).loc Cert.DxLnIdeal.main_arg0) = m ((c.tc : Thread Cert.DxLnIdeal.nD Cert.DxLnIdeal.τ).loc Cert.DxLnIdeal.main_arg0)
      ∧ r.2.mem ((c.tc : Thread Cert.DxLnIdeal.nD Cert.DxLnIdeal.τ).loc Cert.DxLnIdeal.main_arg1) = m ((c.tc : Thread Cert.DxLnIdeal.nD Cert.DxLnIdeal.τ).loc Cert.DxLnIdeal.main_arg1)
      ∧ r.2.mem ((c.tc : Thread Cert.DxLnIdeal.nD Cert.DxLnIdeal.τ).loc Cert.DxLnIdeal.main_arg2) = m ((c.tc : Thread Cert.DxLnIdeal.nD Cert.DxLnIdeal.τ).loc Cert.DxLnIdeal.main_arg2)
      ∧ r.2.mem ((c.tc : Thread Cert.DxLnIdeal.nD Cert.DxLnIdeal.τ).loc Cert.DxLnIdeal.main_arg3) = m ((c.tc : Thread Cert.DxLnIdeal.nD Cert.DxLnIdeal.τ).loc Cert.DxLnIdeal.main_arg3))
      ∧ r.2.sem = fun _ => 0)

def quiescent_DxLnIdeal_pre_dx_finite [hDxLnIdeal : Cert.DxLnIdeal.Facts] [hPre_dx_finite : Cert.Pre_dx_finite.Facts] : Prop :=
  ∀ (m : (ℓ : Loc Cert.DxLnIdeal.nD Cert.DxLnIdeal.τ Cert.DxLnIdeal.sig) → Buf (Elt Ideal) ℓ) (g : Dev Cert.DxLnIdeal.nD → PrngReg), Pre_DxLnIdeal_dx_finite m →
    θ_run (Cert.DxLnIdeal.defs (F := Ideal)) (onTc (τ := Cert.DxLnIdeal.τ) (Cert.DxLnIdeal.main (F := Ideal))) ⟨m, fun _ => 0, g⟩ (fun r => (∀ c : Dev Cert.DxLnIdeal.nD,
      r.2.mem ((c.tc : Thread Cert.DxLnIdeal.nD Cert.DxLnIdeal.τ).loc Cert.DxLnIdeal.main_arg0) = m ((c.tc : Thread Cert.DxLnIdeal.nD Cert.DxLnIdeal.τ).loc Cert.DxLnIdeal.main_arg0)
      ∧ r.2.mem ((c.tc : Thread Cert.DxLnIdeal.nD Cert.DxLnIdeal.τ).loc Cert.DxLnIdeal.main_arg1) = m ((c.tc : Thread Cert.DxLnIdeal.nD Cert.DxLnIdeal.τ).loc Cert.DxLnIdeal.main_arg1)
      ∧ r.2.mem ((c.tc : Thread Cert.DxLnIdeal.nD Cert.DxLnIdeal.τ).loc Cert.DxLnIdeal.main_arg2) = m ((c.tc : Thread Cert.DxLnIdeal.nD Cert.DxLnIdeal.τ).loc Cert.DxLnIdeal.main_arg2)
      ∧ r.2.mem ((c.tc : Thread Cert.DxLnIdeal.nD Cert.DxLnIdeal.τ).loc Cert.DxLnIdeal.main_arg3) = m ((c.tc : Thread Cert.DxLnIdeal.nD Cert.DxLnIdeal.τ).loc Cert.DxLnIdeal.main_arg3))
      ∧ r.2.sem = fun _ => 0)

def quiescent_DxLnRefIdeal [hDxLnRefIdeal : Cert.DxLnRefIdeal.Facts] : Prop :=
  ∀ (m : (ℓ : Loc Cert.DxLnRefIdeal.nD Cert.DxLnRefIdeal.τ Cert.DxLnRefIdeal.sig) → Buf (Elt Ideal) ℓ) (g : Dev Cert.DxLnRefIdeal.nD → PrngReg), Pre_DxLnRefIdeal m →
    θ_run (Cert.DxLnRefIdeal.defs (F := Ideal)) (onTc (τ := Cert.DxLnRefIdeal.τ) (Cert.DxLnRefIdeal.main (F := Ideal))) ⟨m, fun _ => 0, g⟩ (fun r => (∀ c : Dev Cert.DxLnRefIdeal.nD,
      r.2.mem ((c.tc : Thread Cert.DxLnRefIdeal.nD Cert.DxLnRefIdeal.τ).loc Cert.DxLnRefIdeal.main_arg0) = m ((c.tc : Thread Cert.DxLnRefIdeal.nD Cert.DxLnRefIdeal.τ).loc Cert.DxLnRefIdeal.main_arg0)
      ∧ r.2.mem ((c.tc : Thread Cert.DxLnRefIdeal.nD Cert.DxLnRefIdeal.τ).loc Cert.DxLnRefIdeal.main_arg1) = m ((c.tc : Thread Cert.DxLnRefIdeal.nD Cert.DxLnRefIdeal.τ).loc Cert.DxLnRefIdeal.main_arg1)
      ∧ r.2.mem ((c.tc : Thread Cert.DxLnRefIdeal.nD Cert.DxLnRefIdeal.τ).loc Cert.DxLnRefIdeal.main_arg2) = m ((c.tc : Thread Cert.DxLnRefIdeal.nD Cert.DxLnRefIdeal.τ).loc Cert.DxLnRefIdeal.main_arg2)
      ∧ r.2.mem ((c.tc : Thread Cert.DxLnRefIdeal.nD Cert.DxLnRefIdeal.τ).loc Cert.DxLnRefIdeal.main_arg3) = m ((c.tc : Thread Cert.DxLnRefIdeal.nD Cert.DxLnRefIdeal.τ).loc Cert.DxLnRefIdeal.main_arg3))
      ∧ r.2.sem = fun _ => 0)

def quiescent_DxLnRefIdeal_pre_dx_finite [hDxLnRefIdeal : Cert.DxLnRefIdeal.Facts] [hPre_dx_finite : Cert.Pre_dx_finite.Facts] : Prop :=
  ∀ (m : (ℓ : Loc Cert.DxLnRefIdeal.nD Cert.DxLnRefIdeal.τ Cert.DxLnRefIdeal.sig) → Buf (Elt Ideal) ℓ) (g : Dev Cert.DxLnRefIdeal.nD → PrngReg), Pre_DxLnRefIdeal_dx_finite m →
    θ_run (Cert.DxLnRefIdeal.defs (F := Ideal)) (onTc (τ := Cert.DxLnRefIdeal.τ) (Cert.DxLnRefIdeal.main (F := Ideal))) ⟨m, fun _ => 0, g⟩ (fun r => (∀ c : Dev Cert.DxLnRefIdeal.nD,
      r.2.mem ((c.tc : Thread Cert.DxLnRefIdeal.nD Cert.DxLnRefIdeal.τ).loc Cert.DxLnRefIdeal.main_arg0) = m ((c.tc : Thread Cert.DxLnRefIdeal.nD Cert.DxLnRefIdeal.τ).loc Cert.DxLnRefIdeal.main_arg0)
      ∧ r.2.mem ((c.tc : Thread Cert.DxLnRefIdeal.nD Cert.DxLnRefIdeal.τ).loc Cert.DxLnRefIdeal.main_arg1) = m ((c.tc : Thread Cert.DxLnRefIdeal.nD Cert.DxLnRefIdeal.τ).loc Cert.DxLnRefIdeal.main_arg1)
      ∧ r.2.mem ((c.tc : Thread Cert.DxLnRefIdeal.nD Cert.DxLnRefIdeal.τ).loc Cert.DxLnRefIdeal.main_arg2) = m ((c.tc : Thread Cert.DxLnRefIdeal.nD Cert.DxLnRefIdeal.τ).loc Cert.DxLnRefIdeal.main_arg2)
      ∧ r.2.mem ((c.tc : Thread Cert.DxLnRefIdeal.nD Cert.DxLnRefIdeal.τ).loc Cert.DxLnRefIdeal.main_arg3) = m ((c.tc : Thread Cert.DxLnRefIdeal.nD Cert.DxLnRefIdeal.τ).loc Cert.DxLnRefIdeal.main_arg3))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ r.2.sem = fun _ => 0)

def quiescent_ResLnRefIdeal [hResLnRefIdeal : Cert.ResLnRefIdeal.Facts] : Prop :=
  ∀ (m : (ℓ : Loc Cert.ResLnRefIdeal.nD Cert.ResLnRefIdeal.τ Cert.ResLnRefIdeal.sig) → Buf (Elt Ideal) ℓ) (g : Dev Cert.ResLnRefIdeal.nD → PrngReg), Pre_ResLnRefIdeal m →
    θ_run (Cert.ResLnRefIdeal.defs (F := Ideal)) (onTc (τ := Cert.ResLnRefIdeal.τ) (Cert.ResLnRefIdeal.main (F := Ideal))) ⟨m, fun _ => 0, g⟩ (fun r => (∀ c : Dev Cert.ResLnRefIdeal.nD,
      r.2.mem ((c.tc : Thread Cert.ResLnRefIdeal.nD Cert.ResLnRefIdeal.τ).loc Cert.ResLnRefIdeal.main_arg0) = m ((c.tc : Thread Cert.ResLnRefIdeal.nD Cert.ResLnRefIdeal.τ).loc Cert.ResLnRefIdeal.main_arg0)
      ∧ r.2.mem ((c.tc : Thread Cert.ResLnRefIdeal.nD Cert.ResLnRefIdeal.τ).loc Cert.ResLnRefIdeal.main_arg1) = m ((c.tc : Thread Cert.ResLnRefIdeal.nD Cert.ResLnRefIdeal.τ).loc Cert.ResLnRefIdeal.main_arg1)
      ∧ r.2.mem ((c.tc : Thread Cert.ResLnRefIdeal.nD Cert.ResLnRefIdeal.τ).loc Cert.ResLnRefIdeal.main_arg2) = m ((c.tc : Thread Cert.ResLnRefIdeal.nD Cert.ResLnRefIdeal.τ).loc Cert.ResLnRefIdeal.main_arg2)
      ∧ r.2.mem ((c.tc : Thread Cert.ResLnRefIdeal.nD Cert.ResLnRefIdeal.τ).loc Cert.ResLnRefIdeal.main_arg3) = m ((c.tc : Thread Cert.ResLnRefIdeal.nD Cert.ResLnRefIdeal.τ).loc Cert.ResLnRefIdeal.main_arg3))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0))
      ∧ r.2.sem = fun _ => 0)

def quiescent_ReduceRefIdeal [hReduceRefIdeal : Cert.ReduceRefIdeal.Facts] : Prop :=
  ∀ (m : (ℓ : Loc Cert.ReduceRefIdeal.nD Cert.ReduceRefIdeal.τ Cert.ReduceRefIdeal.sig) → Buf (Elt Ideal) ℓ) (g : Dev Cert.ReduceRefIdeal.nD → PrngReg), Pre_ReduceRefIdeal m →
    θ_run (Cert.ReduceRefIdeal.defs (F := Ideal)) (onTc (τ := Cert.ReduceRefIdeal.τ) (Cert.ReduceRefIdeal.main (F := Ideal))) ⟨m, fun _ => 0, g⟩ (fun r => (∀ c : Dev Cert.ReduceRefIdeal.nD,
      r.2.mem ((c.tc : Thread Cert.ReduceRefIdeal.nD Cert.ReduceRefIdeal.τ).loc Cert.ReduceRefIdeal.main_arg0) = m ((c.tc : Thread Cert.ReduceRefIdeal.nD Cert.ReduceRefIdeal.τ).loc Cert.ReduceRefIdeal.main_arg0))
      ∧ r.2.sem = fun _ => 0)

def quiescent_DxRes [hDxRes : Cert.DxRes.Facts] : Prop :=
  ∀ (m : (ℓ : Loc Cert.DxRes.nD Cert.DxRes.τ Cert.DxRes.sig) → Buf (Elt Bits) ℓ) (g : Dev Cert.DxRes.nD → PrngReg), Pre_DxRes m →
    θ_run (Cert.DxRes.defs (F := Bits)) (onTc (τ := Cert.DxRes.τ) (Cert.DxRes.main (F := Bits))) ⟨m, fun _ => 0, g⟩ (fun r => (∀ c : Dev Cert.DxRes.nD,
      r.2.mem ((c.tc : Thread Cert.DxRes.nD Cert.DxRes.τ).loc Cert.DxRes.main_arg0) = m ((c.tc : Thread Cert.DxRes.nD Cert.DxRes.τ).loc Cert.DxRes.main_arg0)
      ∧ r.2.mem ((c.tc : Thread Cert.DxRes.nD Cert.DxRes.τ).loc Cert.DxRes.main_arg1) = m ((c.tc : Thread Cert.DxRes.nD Cert.DxRes.τ).loc Cert.DxRes.main_arg1))
      ∧ r.2.sem = fun _ => 0)

def quiescent_DxResIdeal [hDxResIdeal : Cert.DxResIdeal.Facts] : Prop :=
  ∀ (m : (ℓ : Loc Cert.DxResIdeal.nD Cert.DxResIdeal.τ Cert.DxResIdeal.sig) → Buf (Elt Ideal) ℓ) (g : Dev Cert.DxResIdeal.nD → PrngReg), Pre_DxResIdeal m →
    θ_run (Cert.DxResIdeal.defs (F := Ideal)) (onTc (τ := Cert.DxResIdeal.τ) (Cert.DxResIdeal.main (F := Ideal))) ⟨m, fun _ => 0, g⟩ (fun r => (∀ c : Dev Cert.DxResIdeal.nD,
      r.2.mem ((c.tc : Thread Cert.DxResIdeal.nD Cert.DxResIdeal.τ).loc Cert.DxResIdeal.main_arg0) = m ((c.tc : Thread Cert.DxResIdeal.nD Cert.DxResIdeal.τ).loc Cert.DxResIdeal.main_arg0)
      ∧ r.2.mem ((c.tc : Thread Cert.DxResIdeal.nD Cert.DxResIdeal.τ).loc Cert.DxResIdeal.main_arg1) = m ((c.tc : Thread Cert.DxResIdeal.nD Cert.DxResIdeal.τ).loc Cert.DxResIdeal.main_arg1))
      ∧ r.2.sem = fun _ => 0)

def quiescent_DxResRefIdeal [hDxResRefIdeal : Cert.DxResRefIdeal.Facts] : Prop :=
  ∀ (m : (ℓ : Loc Cert.DxResRefIdeal.nD Cert.DxResRefIdeal.τ Cert.DxResRefIdeal.sig) → Buf (Elt Ideal) ℓ) (g : Dev Cert.DxResRefIdeal.nD → PrngReg), Pre_DxResRefIdeal m →
    θ_run (Cert.DxResRefIdeal.defs (F := Ideal)) (onTc (τ := Cert.DxResRefIdeal.τ) (Cert.DxResRefIdeal.main (F := Ideal))) ⟨m, fun _ => 0, g⟩ (fun r => (∀ c : Dev Cert.DxResRefIdeal.nD,
      r.2.mem ((c.tc : Thread Cert.DxResRefIdeal.nD Cert.DxResRefIdeal.τ).loc Cert.DxResRefIdeal.main_arg0) = m ((c.tc : Thread Cert.DxResRefIdeal.nD Cert.DxResRefIdeal.τ).loc Cert.DxResRefIdeal.main_arg0)
      ∧ r.2.mem ((c.tc : Thread Cert.DxResRefIdeal.nD Cert.DxResRefIdeal.τ).loc Cert.DxResRefIdeal.main_arg1) = m ((c.tc : Thread Cert.DxResRefIdeal.nD Cert.DxResRefIdeal.τ).loc Cert.DxResRefIdeal.main_arg1))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwGlu [hAdamwGlu : Cert.AdamwGlu.Facts] : Prop :=
  ∀ (m : (ℓ : Loc Cert.AdamwGlu.nD Cert.AdamwGlu.τ Cert.AdamwGlu.sig) → Buf (Elt Bits) ℓ) (g : Dev Cert.AdamwGlu.nD → PrngReg), Pre_AdamwGlu m →
    θ_run (Cert.AdamwGlu.defs (F := Bits)) (onTc (τ := Cert.AdamwGlu.τ) (Cert.AdamwGlu.main (F := Bits))) ⟨m, fun _ => 0, g⟩ (fun r => (∀ c : Dev Cert.AdamwGlu.nD,
      r.2.mem ((c.tc : Thread Cert.AdamwGlu.nD Cert.AdamwGlu.τ).loc Cert.AdamwGlu.main_arg0) = m ((c.tc : Thread Cert.AdamwGlu.nD Cert.AdamwGlu.τ).loc Cert.AdamwGlu.main_arg0)
      ∧ r.2.mem ((c.tc : Thread Cert.AdamwGlu.nD Cert.AdamwGlu.τ).loc Cert.AdamwGlu.main_arg1) = m ((c.tc : Thread Cert.AdamwGlu.nD Cert.AdamwGlu.τ).loc Cert.AdamwGlu.main_arg1)
      ∧ r.2.mem ((c.tc : Thread Cert.AdamwGlu.nD Cert.AdamwGlu.τ).loc Cert.AdamwGlu.main_arg2) = m ((c.tc : Thread Cert.AdamwGlu.nD Cert.AdamwGlu.τ).loc Cert.AdamwGlu.main_arg2)
      ∧ r.2.mem ((c.tc : Thread Cert.AdamwGlu.nD Cert.AdamwGlu.τ).loc Cert.AdamwGlu.main_arg3) = m ((c.tc : Thread Cert.AdamwGlu.nD Cert.AdamwGlu.τ).loc Cert.AdamwGlu.main_arg3))
      ∧ r.2.sem = fun _ => 0)

def quiescent_AdamwGluIdeal [hAdamwGluIdeal : Cert.AdamwGluIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg), Pre_AdamwGluIdeal m →
    θ_run (Cert.AdamwGluIdeal.defs (F := Ideal)) (onTc (τ := Cert.AdamwGluIdeal.τ) (Cert.AdamwGluIdeal.main (F := Ideal))) ⟨m, fun _ => 0, g⟩ (fun r => (∀ c : Dev Cert.AdamwGluIdeal.nD,
      r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
      ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
      ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
      ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ r.2.sem = fun _ => 0)

def quiescent_AdamwGluRefIdeal [hAdamwGluRefIdeal : Cert.AdamwGluRefIdeal.Facts] : Prop :=
  ∀ (m : (ℓ : Loc Cert.AdamwGluRefIdeal.nD Cert.AdamwGluRefIdeal.τ Cert.AdamwGluRefIdeal.sig) → Buf (Elt Ideal) ℓ) (g : Dev Cert.AdamwGluRefIdeal.nD → PrngReg), Pre_AdamwGluRefIdeal m →
    θ_run (Cert.AdamwGluRefIdeal.defs (F := Ideal)) (onTc (τ := Cert.AdamwGluRefIdeal.τ) (Cert.AdamwGluRefIdeal.main (F := Ideal))) ⟨m, fun _ => 0, g⟩ (fun r => (∀ c : Dev Cert.AdamwGluRefIdeal.nD,
      r.2.mem ((c.tc : Thread Cert.AdamwGluRefIdeal.nD Cert.AdamwGluRefIdeal.τ).loc Cert.AdamwGluRefIdeal.main_arg0) = m ((c.tc : Thread Cert.AdamwGluRefIdeal.nD Cert.AdamwGluRefIdeal.τ).loc Cert.AdamwGluRefIdeal.main_arg0)
      ∧ r.2.mem ((c.tc : Thread Cert.AdamwGluRefIdeal.nD Cert.AdamwGluRefIdeal.τ).loc Cert.AdamwGluRefIdeal.main_arg1) = m ((c.tc : Thread Cert.AdamwGluRefIdeal.nD Cert.AdamwGluRefIdeal.τ).loc Cert.AdamwGluRefIdeal.main_arg1)
      ∧ r.2.mem ((c.tc : Thread Cert.AdamwGluRefIdeal.nD Cert.AdamwGluRefIdeal.τ).loc Cert.AdamwGluRefIdeal.main_arg2) = m ((c.tc : Thread Cert.AdamwGluRefIdeal.nD Cert.AdamwGluRefIdeal.τ).loc Cert.AdamwGluRefIdeal.main_arg2)
      ∧ r.2.mem ((c.tc : Thread Cert.AdamwGluRefIdeal.nD Cert.AdamwGluRefIdeal.τ).loc Cert.AdamwGluRefIdeal.main_arg3) = m ((c.tc : Thread Cert.AdamwGluRefIdeal.nD Cert.AdamwGluRefIdeal.τ).loc Cert.AdamwGluRefIdeal.main_arg3))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnUp_FfnUpIdeal : Prop :=
  True

def algebraic_FfnUpIdeal_FfnUpRefIdeal_pre_up_finite [hFfnUpIdeal : Cert.FfnUpIdeal.Facts] [hFfnUpRefIdeal : Cert.FfnUpRefIdeal.Facts] [hPre_up_finite : Cert.Pre_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)) (v2 : (c : Dev Cert.FfnUpIdeal.nD) → Buf (Elt Ideal) ((c.tc : Thread Cert.FfnUpIdeal.nD Cert.FfnUpIdeal.τ).loc Cert.FfnUpIdeal.main_v5_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_v5_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_v9) = v1 c
          ∧ r.2.mem ((c.tc : Thread Cert.FfnUpRefIdeal.nD Cert.FfnUpRefIdeal.τ).loc Cert.FfnUpRefIdeal.main_v10) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_ActBwd_ActBwdIdeal : Prop :=
  True

def algebraic_ActBwdIdeal_ActBwdRefIdeal_pre_act_finite [hActBwdIdeal : Cert.ActBwdIdeal.Facts] [hActBwdRefIdeal : Cert.ActBwdRefIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal_act_finite m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)
      ∧ m' ((c.tc : Thread Cert.ActBwdRefIdeal.nD Cert.ActBwdRefIdeal.τ).loc Cert.ActBwdRefIdeal.main_arg3) = m ((c.tc : Thread Cert.ActBwdIdeal.nD Cert.ActBwdIdeal.τ).loc Cert.ActBwdIdeal.main_arg3)) →
    ∃ (v0 : (c : Dev Cert.ActBwdIdeal.nD) → Buf (Elt Ideal) ((c.tc : Thread Cert.ActBwdIdeal.nD Cert.ActBwdIdeal.τ).loc Cert.ActBwdIdeal.main_v10_0)) (v1 : (c : Dev Cert.ActBwdIdeal.nD) → Buf (Elt Ideal) ((c.tc : Thread Cert.ActBwdIdeal.nD Cert.ActBwdIdeal.τ).loc Cert.ActBwdIdeal.main_v10_1)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v10_0) = v0 c
          ∧ r.2.mem ((c.tc : Thread Cert.ActBwdIdeal.nD Cert.ActBwdIdeal.τ).loc Cert.ActBwdIdeal.main_v10_1) = v1 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
          ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v11) = v0 c
          ∧ r.2.mem ((c.tc : Thread Cert.ActBwdRefIdeal.nD Cert.ActBwdRefIdeal.τ).loc Cert.ActBwdRefIdeal.main_v12) = v1 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2)
          ∧ r.2.mem ((c.tc : Thread Cert.ActBwdRefIdeal.nD Cert.ActBwdRefIdeal.τ).loc Cert.ActBwdRefIdeal.main_arg3) = m' ((c.tc : Thread Cert.ActBwdRefIdeal.nD Cert.ActBwdRefIdeal.τ).loc Cert.ActBwdRefIdeal.main_arg3))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v2)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v2) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v6) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_UpGradSum_UpGradSumIdeal : Prop :=
  True

def algebraic_UpGradSumIdeal_UpGradSumRefIdeal [hUpGradSumIdeal : Cert.UpGradSumIdeal.Facts] [hUpGradSumRefIdeal : Cert.UpGradSumRefIdeal.Facts] : Prop :=
  ∀ (m : (ℓ : Loc Cert.UpGradSumIdeal.nD Cert.UpGradSumIdeal.τ Cert.UpGradSumIdeal.sig) → Buf (Elt Ideal) ℓ) (g : Dev Cert.UpGradSumIdeal.nD → PrngReg)
    (m' : (ℓ : Loc Cert.UpGradSumRefIdeal.nD Cert.UpGradSumRefIdeal.τ Cert.UpGradSumRefIdeal.sig) → Buf (Elt Ideal) ℓ) (g' : Dev Cert.UpGradSumRefIdeal.nD → PrngReg), Pre_UpGradSumIdeal m →
    (∀ c : Dev Cert.UpGradSumIdeal.nD,
      m' ((c.tc : Thread Cert.UpGradSumRefIdeal.nD Cert.UpGradSumRefIdeal.τ).loc Cert.UpGradSumRefIdeal.main_arg0) = m ((c.tc : Thread Cert.UpGradSumIdeal.nD Cert.UpGradSumIdeal.τ).loc Cert.UpGradSumIdeal.main_arg0)
      ∧ m' ((c.tc : Thread Cert.UpGradSumRefIdeal.nD Cert.UpGradSumRefIdeal.τ).loc Cert.UpGradSumRefIdeal.main_arg1) = m ((c.tc : Thread Cert.UpGradSumIdeal.nD Cert.UpGradSumIdeal.τ).loc Cert.UpGradSumIdeal.main_arg1)
      ∧ m' ((c.tc : Thread Cert.UpGradSumRefIdeal.nD Cert.UpGradSumRefIdeal.τ).loc Cert.UpGradSumRefIdeal.main_arg2) = m ((c.tc : Thread Cert.UpGradSumIdeal.nD Cert.UpGradSumIdeal.τ).loc Cert.UpGradSumIdeal.main_arg2)) →
    ∃ (v0 : (c : Dev Cert.UpGradSumIdeal.nD) → Buf (Elt Ideal) ((c.tc : Thread Cert.UpGradSumIdeal.nD Cert.UpGradSumIdeal.τ).loc Cert.UpGradSumIdeal.main_v3)),
      θ_run (Cert.UpGradSumIdeal.defs (F := Ideal)) (onTc (τ := Cert.UpGradSumIdeal.τ) (Cert.UpGradSumIdeal.main (F := Ideal))) ⟨m, fun _ => 0, g⟩ (fun r => ∀ c : Dev Cert.UpGradSumIdeal.nD,
          r.2.mem ((c.tc : Thread Cert.UpGradSumIdeal.nD Cert.UpGradSumIdeal.τ).loc Cert.UpGradSumIdeal.main_v3) = v0 c
          ∧ r.2.mem ((c.tc : Thread Cert.UpGradSumIdeal.nD Cert.UpGradSumIdeal.τ).loc Cert.UpGradSumIdeal.main_arg0) = m ((c.tc : Thread Cert.UpGradSumIdeal.nD Cert.UpGradSumIdeal.τ).loc Cert.UpGradSumIdeal.main_arg0)
          ∧ r.2.mem ((c.tc : Thread Cert.UpGradSumIdeal.nD Cert.UpGradSumIdeal.τ).loc Cert.UpGradSumIdeal.main_arg1) = m ((c.tc : Thread Cert.UpGradSumIdeal.nD Cert.UpGradSumIdeal.τ).loc Cert.UpGradSumIdeal.main_arg1)
          ∧ r.2.mem ((c.tc : Thread Cert.UpGradSumIdeal.nD Cert.UpGradSumIdeal.τ).loc Cert.UpGradSumIdeal.main_arg2) = m ((c.tc : Thread Cert.UpGradSumIdeal.nD Cert.UpGradSumIdeal.τ).loc Cert.UpGradSumIdeal.main_arg2))
      ∧ θ_run (Cert.UpGradSumRefIdeal.defs (F := Ideal)) (onTc (τ := Cert.UpGradSumRefIdeal.τ) (Cert.UpGradSumRefIdeal.main (F := Ideal))) ⟨m', fun _ => 0, g'⟩ (fun r => ∀ c : Dev Cert.UpGradSumRefIdeal.nD,
          r.2.mem ((c.tc : Thread Cert.UpGradSumRefIdeal.nD Cert.UpGradSumRefIdeal.τ).loc Cert.UpGradSumRefIdeal.main_v7) = v0 c
          ∧ r.2.mem ((c.tc : Thread Cert.UpGradSumRefIdeal.nD Cert.UpGradSumRefIdeal.τ).loc Cert.UpGradSumRefIdeal.main_arg0) = m' ((c.tc : Thread Cert.UpGradSumRefIdeal.nD Cert.UpGradSumRefIdeal.τ).loc Cert.UpGradSumRefIdeal.main_arg0)
          ∧ r.2.mem ((c.tc : Thread Cert.UpGradSumRefIdeal.nD Cert.UpGradSumRefIdeal.τ).loc Cert.UpGradSumRefIdeal.main_arg1) = m' ((c.tc : Thread Cert.UpGradSumRefIdeal.nD Cert.UpGradSumRefIdeal.τ).loc Cert.UpGradSumRefIdeal.main_arg1)
          ∧ r.2.mem ((c.tc : Thread Cert.UpGradSumRefIdeal.nD Cert.UpGradSumRefIdeal.τ).loc Cert.UpGradSumRefIdeal.main_arg2) = m' ((c.tc : Thread Cert.UpGradSumRefIdeal.nD Cert.UpGradSumRefIdeal.τ).loc Cert.UpGradSumRefIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v2)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v2) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v9) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_DownGradSum_DownGradSumIdeal : Prop :=
  True

def algebraic_DownGradSumIdeal_DownGradSumRefIdeal [hDownGradSumIdeal : Cert.DownGradSumIdeal.Facts] [hDownGradSumRefIdeal : Cert.DownGradSumRefIdeal.Facts] : Prop :=
  ∀ (m : (ℓ : Loc Cert.DownGradSumIdeal.nD Cert.DownGradSumIdeal.τ Cert.DownGradSumIdeal.sig) → Buf (Elt Ideal) ℓ) (g : Dev Cert.DownGradSumIdeal.nD → PrngReg)
    (m' : (ℓ : Loc Cert.DownGradSumRefIdeal.nD Cert.DownGradSumRefIdeal.τ Cert.DownGradSumRefIdeal.sig) → Buf (Elt Ideal) ℓ) (g' : Dev Cert.DownGradSumRefIdeal.nD → PrngReg), Pre_DownGradSumIdeal m →
    (∀ c : Dev Cert.DownGradSumIdeal.nD,
      m' ((c.tc : Thread Cert.DownGradSumRefIdeal.nD Cert.DownGradSumRefIdeal.τ).loc Cert.DownGradSumRefIdeal.main_arg0) = m ((c.tc : Thread Cert.DownGradSumIdeal.nD Cert.DownGradSumIdeal.τ).loc Cert.DownGradSumIdeal.main_arg0)
      ∧ m' ((c.tc : Thread Cert.DownGradSumRefIdeal.nD Cert.DownGradSumRefIdeal.τ).loc Cert.DownGradSumRefIdeal.main_arg1) = m ((c.tc : Thread Cert.DownGradSumIdeal.nD Cert.DownGradSumIdeal.τ).loc Cert.DownGradSumIdeal.main_arg1)
      ∧ m' ((c.tc : Thread Cert.DownGradSumRefIdeal.nD Cert.DownGradSumRefIdeal.τ).loc Cert.DownGradSumRefIdeal.main_arg2) = m ((c.tc : Thread Cert.DownGradSumIdeal.nD Cert.DownGradSumIdeal.τ).loc Cert.DownGradSumIdeal.main_arg2)) →
    ∃ (v0 : (c : Dev Cert.DownGradSumIdeal.nD) → Buf (Elt Ideal) ((c.tc : Thread Cert.DownGradSumIdeal.nD Cert.DownGradSumIdeal.τ).loc Cert.DownGradSumIdeal.main_v3)),
      θ_run (Cert.DownGradSumIdeal.defs (F := Ideal)) (onTc (τ := Cert.DownGradSumIdeal.τ) (Cert.DownGradSumIdeal.main (F := Ideal))) ⟨m, fun _ => 0, g⟩ (fun r => ∀ c : Dev Cert.DownGradSumIdeal.nD,
          r.2.mem ((c.tc : Thread Cert.DownGradSumIdeal.nD Cert.DownGradSumIdeal.τ).loc Cert.DownGradSumIdeal.main_v3) = v0 c
          ∧ r.2.mem ((c.tc : Thread Cert.DownGradSumIdeal.nD Cert.DownGradSumIdeal.τ).loc Cert.DownGradSumIdeal.main_arg0) = m ((c.tc : Thread Cert.DownGradSumIdeal.nD Cert.DownGradSumIdeal.τ).loc Cert.DownGradSumIdeal.main_arg0)
          ∧ r.2.mem ((c.tc : Thread Cert.DownGradSumIdeal.nD Cert.DownGradSumIdeal.τ).loc Cert.DownGradSumIdeal.main_arg1) = m ((c.tc : Thread Cert.DownGradSumIdeal.nD Cert.DownGradSumIdeal.τ).loc Cert.DownGradSumIdeal.main_arg1)
          ∧ r.2.mem ((c.tc : Thread Cert.DownGradSumIdeal.nD Cert.DownGradSumIdeal.τ).loc Cert.DownGradSumIdeal.main_arg2) = m ((c.tc : Thread Cert.DownGradSumIdeal.nD Cert.DownGradSumIdeal.τ).loc Cert.DownGradSumIdeal.main_arg2))
      ∧ θ_run (Cert.DownGradSumRefIdeal.defs (F := Ideal)) (onTc (τ := Cert.DownGradSumRefIdeal.τ) (Cert.DownGradSumRefIdeal.main (F := Ideal))) ⟨m', fun _ => 0, g'⟩ (fun r => ∀ c : Dev Cert.DownGradSumRefIdeal.nD,
          r.2.mem ((c.tc : Thread Cert.DownGradSumRefIdeal.nD Cert.DownGradSumRefIdeal.τ).loc Cert.DownGradSumRefIdeal.main_v10) = v0 c
          ∧ r.2.mem ((c.tc : Thread Cert.DownGradSumRefIdeal.nD Cert.DownGradSumRefIdeal.τ).loc Cert.DownGradSumRefIdeal.main_arg0) = m' ((c.tc : Thread Cert.DownGradSumRefIdeal.nD Cert.DownGradSumRefIdeal.τ).loc Cert.DownGradSumRefIdeal.main_arg0)
          ∧ r.2.mem ((c.tc : Thread Cert.DownGradSumRefIdeal.nD Cert.DownGradSumRefIdeal.τ).loc Cert.DownGradSumRefIdeal.main_arg1) = m' ((c.tc : Thread Cert.DownGradSumRefIdeal.nD Cert.DownGradSumRefIdeal.τ).loc Cert.DownGradSumRefIdeal.main_arg1)
          ∧ r.2.mem ((c.tc : Thread Cert.DownGradSumRefIdeal.nD Cert.DownGradSumRefIdeal.τ).loc Cert.DownGradSumRefIdeal.main_arg2) = m' ((c.tc : Thread Cert.DownGradSumRefIdeal.nD Cert.DownGradSumRefIdeal.τ).loc Cert.DownGradSumRefIdeal.main_arg2))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)) →
    ∃ (v0 : (c : Dev Cert.FfnDxIdeal.nD) → Buf (Elt Ideal) ((c.tc : Thread Cert.FfnDxIdeal.nD Cert.FfnDxIdeal.τ).loc Cert.FfnDxIdeal.main_v6)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v6) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v5) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v2)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v2) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v5) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_ParamsBwd_ParamsBwdIdeal : Prop :=
  True

def algebraic_ParamsBwdIdeal_ParamsBwdRefIdeal [hParamsBwdIdeal : Cert.ParamsBwdIdeal.Facts] [hParamsBwdRefIdeal : Cert.ParamsBwdRefIdeal.Facts] : Prop :=
  ∀ (m : (ℓ : Loc Cert.ParamsBwdIdeal.nD Cert.ParamsBwdIdeal.τ Cert.ParamsBwdIdeal.sig) → Buf (Elt Ideal) ℓ) (g : Dev Cert.ParamsBwdIdeal.nD → PrngReg)
    (m' : (ℓ : Loc Cert.ParamsBwdRefIdeal.nD Cert.ParamsBwdRefIdeal.τ Cert.ParamsBwdRefIdeal.sig) → Buf (Elt Ideal) ℓ) (g' : Dev Cert.ParamsBwdRefIdeal.nD → PrngReg), Pre_ParamsBwdIdeal m →
    (∀ c : Dev Cert.ParamsBwdIdeal.nD,
      m' ((c.tc : Thread Cert.ParamsBwdRefIdeal.nD Cert.ParamsBwdRefIdeal.τ).loc Cert.ParamsBwdRefIdeal.main_arg0) = m ((c.tc : Thread Cert.ParamsBwdIdeal.nD Cert.ParamsBwdIdeal.τ).loc Cert.ParamsBwdIdeal.main_arg0)
      ∧ m' ((c.tc : Thread Cert.ParamsBwdRefIdeal.nD Cert.ParamsBwdRefIdeal.τ).loc Cert.ParamsBwdRefIdeal.main_arg1) = m ((c.tc : Thread Cert.ParamsBwdIdeal.nD Cert.ParamsBwdIdeal.τ).loc Cert.ParamsBwdIdeal.main_arg1)
      ∧ m' ((c.tc : Thread Cert.ParamsBwdRefIdeal.nD Cert.ParamsBwdRefIdeal.τ).loc Cert.ParamsBwdRefIdeal.main_arg2) = m ((c.tc : Thread Cert.ParamsBwdIdeal.nD Cert.ParamsBwdIdeal.τ).loc Cert.ParamsBwdIdeal.main_arg2)
      ∧ m' ((c.tc : Thread Cert.ParamsBwdRefIdeal.nD Cert.ParamsBwdRefIdeal.τ).loc Cert.ParamsBwdRefIdeal.main_arg3) = m ((c.tc : Thread Cert.ParamsBwdIdeal.nD Cert.ParamsBwdIdeal.τ).loc Cert.ParamsBwdIdeal.main_arg3)
      ∧ m' ((c.tc : Thread Cert.ParamsBwdRefIdeal.nD Cert.ParamsBwdRefIdeal.τ).loc Cert.ParamsBwdRefIdeal.main_arg4) = m ((c.tc : Thread Cert.ParamsBwdIdeal.nD Cert.ParamsBwdIdeal.τ).loc Cert.ParamsBwdIdeal.main_arg4)
      ∧ m' ((c.tc : Thread Cert.ParamsBwdRefIdeal.nD Cert.ParamsBwdRefIdeal.τ).loc Cert.ParamsBwdRefIdeal.main_arg5) = m ((c.tc : Thread Cert.ParamsBwdIdeal.nD Cert.ParamsBwdIdeal.τ).loc Cert.ParamsBwdIdeal.main_arg5)
      ∧ m' ((c.tc : Thread Cert.ParamsBwdRefIdeal.nD Cert.ParamsBwdRefIdeal.τ).loc Cert.ParamsBwdRefIdeal.main_arg6) = m ((c.tc : Thread Cert.ParamsBwdIdeal.nD Cert.ParamsBwdIdeal.τ).loc Cert.ParamsBwdIdeal.main_arg6)
      ∧ m' ((c.tc : Thread Cert.ParamsBwdRefIdeal.nD Cert.ParamsBwdRefIdeal.τ).loc Cert.ParamsBwdRefIdeal.main_arg7) = m ((c.tc : Thread Cert.ParamsBwdIdeal.nD Cert.ParamsBwdIdeal.τ).loc Cert.ParamsBwdIdeal.main_arg7)
      ∧ m' ((c.tc : Thread Cert.ParamsBwdRefIdeal.nD Cert.ParamsBwdRefIdeal.τ).loc Cert.ParamsBwdRefIdeal.main_arg8) = m ((c.tc : Thread Cert.ParamsBwdIdeal.nD Cert.ParamsBwdIdeal.τ).loc Cert.ParamsBwdIdeal.main_arg8)) →
    ∃ (v0 : (c : Dev Cert.ParamsBwdIdeal.nD) → Buf (Elt Ideal) ((c.tc : Thread Cert.ParamsBwdIdeal.nD Cert.ParamsBwdIdeal.τ).loc Cert.ParamsBwdIdeal.main_v13_0)) (v1 : (c : Dev Cert.ParamsBwdIdeal.nD) → Buf (Elt Ideal) ((c.tc : Thread Cert.ParamsBwdIdeal.nD Cert.ParamsBwdIdeal.τ).loc Cert.ParamsBwdIdeal.main_v13_1)) (v2 : (c : Dev Cert.ParamsBwdIdeal.nD) → Buf (Elt Ideal) ((c.tc : Thread Cert.ParamsBwdIdeal.nD Cert.ParamsBwdIdeal.τ).loc Cert.ParamsBwdIdeal.main_v13_2)) (v3 : (c : Dev Cert.ParamsBwdIdeal.nD) → Buf (Elt Ideal) ((c.tc : Thread Cert.ParamsBwdIdeal.nD Cert.ParamsBwdIdeal.τ).loc Cert.ParamsBwdIdeal.main_v13_3)) (v4 : (c : Dev Cert.ParamsBwdIdeal.nD) → Buf (Elt Ideal) ((c.tc : Thread Cert.ParamsBwdIdeal.nD Cert.ParamsBwdIdeal.τ).loc Cert.ParamsBwdIdeal.main_v13_4)),
      θ_run (Cert.ParamsBwdIdeal.defs (F := Ideal)) (onTc (τ := Cert.ParamsBwdIdeal.τ) (Cert.ParamsBwdIdeal.main (F := Ideal))) ⟨m, fun _ => 0, g⟩ (fun r => ∀ c : Dev Cert.ParamsBwdIdeal.nD,
          r.2.mem ((c.tc : Thread Cert.ParamsBwdIdeal.nD Cert.ParamsBwdIdeal.τ).loc Cert.ParamsBwdIdeal.main_v13_0) = v0 c
          ∧ r.2.mem ((c.tc : Thread Cert.ParamsBwdIdeal.nD Cert.ParamsBwdIdeal.τ).loc Cert.ParamsBwdIdeal.main_v13_1) = v1 c
          ∧ r.2.mem ((c.tc : Thread Cert.ParamsBwdIdeal.nD Cert.ParamsBwdIdeal.τ).loc Cert.ParamsBwdIdeal.main_v13_2) = v2 c
          ∧ r.2.mem ((c.tc : Thread Cert.ParamsBwdIdeal.nD Cert.ParamsBwdIdeal.τ).loc Cert.ParamsBwdIdeal.main_v13_3) = v3 c
          ∧ r.2.mem ((c.tc : Thread Cert.ParamsBwdIdeal.nD Cert.ParamsBwdIdeal.τ).loc Cert.ParamsBwdIdeal.main_v13_4) = v4 c
          ∧ r.2.mem ((c.tc : Thread Cert.ParamsBwdIdeal.nD Cert.ParamsBwdIdeal.τ).loc Cert.ParamsBwdIdeal.main_arg0) = m ((c.tc : Thread Cert.ParamsBwdIdeal.nD Cert.ParamsBwdIdeal.τ).loc Cert.ParamsBwdIdeal.main_arg0)
          ∧ r.2.mem ((c.tc : Thread Cert.ParamsBwdIdeal.nD Cert.ParamsBwdIdeal.τ).loc Cert.ParamsBwdIdeal.main_arg1) = m ((c.tc : Thread Cert.ParamsBwdIdeal.nD Cert.ParamsBwdIdeal.τ).loc Cert.ParamsBwdIdeal.main_arg1)
          ∧ r.2.mem ((c.tc : Thread Cert.ParamsBwdIdeal.nD Cert.ParamsBwdIdeal.τ).loc Cert.ParamsBwdIdeal.main_arg2) = m ((c.tc : Thread Cert.ParamsBwdIdeal.nD Cert.ParamsBwdIdeal.τ).loc Cert.ParamsBwdIdeal.main_arg2)
          ∧ r.2.mem ((c.tc : Thread Cert.ParamsBwdIdeal.nD Cert.ParamsBwdIdeal.τ).loc Cert.ParamsBwdIdeal.main_arg3) = m ((c.tc : Thread Cert.ParamsBwdIdeal.nD Cert.ParamsBwdIdeal.τ).loc Cert.ParamsBwdIdeal.main_arg3)
          ∧ r.2.mem ((c.tc : Thread Cert.ParamsBwdIdeal.nD Cert.ParamsBwdIdeal.τ).loc Cert.ParamsBwdIdeal.main_arg4) = m ((c.tc : Thread Cert.ParamsBwdIdeal.nD Cert.ParamsBwdIdeal.τ).loc Cert.ParamsBwdIdeal.main_arg4)
          ∧ r.2.mem ((c.tc : Thread Cert.ParamsBwdIdeal.nD Cert.ParamsBwdIdeal.τ).loc Cert.ParamsBwdIdeal.main_arg5) = m ((c.tc : Thread Cert.ParamsBwdIdeal.nD Cert.ParamsBwdIdeal.τ).loc Cert.ParamsBwdIdeal.main_arg5)
          ∧ r.2.mem ((c.tc : Thread Cert.ParamsBwdIdeal.nD Cert.ParamsBwdIdeal.τ).loc Cert.ParamsBwdIdeal.main_arg6) = m ((c.tc : Thread Cert.ParamsBwdIdeal.nD Cert.ParamsBwdIdeal.τ).loc Cert.ParamsBwdIdeal.main_arg6)
          ∧ r.2.mem ((c.tc : Thread Cert.ParamsBwdIdeal.nD Cert.ParamsBwdIdeal.τ).loc Cert.ParamsBwdIdeal.main_arg7) = m ((c.tc : Thread Cert.ParamsBwdIdeal.nD Cert.ParamsBwdIdeal.τ).loc Cert.ParamsBwdIdeal.main_arg7)
          ∧ r.2.mem ((c.tc : Thread Cert.ParamsBwdIdeal.nD Cert.ParamsBwdIdeal.τ).loc Cert.ParamsBwdIdeal.main_arg8) = m ((c.tc : Thread Cert.ParamsBwdIdeal.nD Cert.ParamsBwdIdeal.τ).loc Cert.ParamsBwdIdeal.main_arg8))
      ∧ θ_run (Cert.ParamsBwdRefIdeal.defs (F := Ideal)) (onTc (τ := Cert.ParamsBwdRefIdeal.τ) (Cert.ParamsBwdRefIdeal.main (F := Ideal))) ⟨m', fun _ => 0, g'⟩ (fun r => ∀ c : Dev Cert.ParamsBwdRefIdeal.nD,
          r.2.mem ((c.tc : Thread Cert.ParamsBwdRefIdeal.nD Cert.ParamsBwdRefIdeal.τ).loc Cert.ParamsBwdRefIdeal.main_v135) = v0 c
          ∧ r.2.mem ((c.tc : Thread Cert.ParamsBwdRefIdeal.nD Cert.ParamsBwdRefIdeal.τ).loc Cert.ParamsBwdRefIdeal.main_v136) = v1 c
          ∧ r.2.mem ((c.tc : Thread Cert.ParamsBwdRefIdeal.nD Cert.ParamsBwdRefIdeal.τ).loc Cert.ParamsBwdRefIdeal.main_v137) = v2 c
          ∧ r.2.mem ((c.tc : Thread Cert.ParamsBwdRefIdeal.nD Cert.ParamsBwdRefIdeal.τ).loc Cert.ParamsBwdRefIdeal.main_v139) = v3 c
          ∧ r.2.mem ((c.tc : Thread Cert.ParamsBwdRefIdeal.nD Cert.ParamsBwdRefIdeal.τ).loc Cert.ParamsBwdRefIdeal.main_v141) = v4 c
          ∧ r.2.mem ((c.tc : Thread Cert.ParamsBwdRefIdeal.nD Cert.ParamsBwdRefIdeal.τ).loc Cert.ParamsBwdRefIdeal.main_arg0) = m' ((c.tc : Thread Cert.ParamsBwdRefIdeal.nD Cert.ParamsBwdRefIdeal.τ).loc Cert.ParamsBwdRefIdeal.main_arg0)
          ∧ r.2.mem ((c.tc : Thread Cert.ParamsBwdRefIdeal.nD Cert.ParamsBwdRefIdeal.τ).loc Cert.ParamsBwdRefIdeal.main_arg1) = m' ((c.tc : Thread Cert.ParamsBwdRefIdeal.nD Cert.ParamsBwdRefIdeal.τ).loc Cert.ParamsBwdRefIdeal.main_arg1)
          ∧ r.2.mem ((c.tc : Thread Cert.ParamsBwdRefIdeal.nD Cert.ParamsBwdRefIdeal.τ).loc Cert.ParamsBwdRefIdeal.main_arg2) = m' ((c.tc : Thread Cert.ParamsBwdRefIdeal.nD Cert.ParamsBwdRefIdeal.τ).loc Cert.ParamsBwdRefIdeal.main_arg2)
          ∧ r.2.mem ((c.tc : Thread Cert.ParamsBwdRefIdeal.nD Cert.ParamsBwdRefIdeal.τ).loc Cert.ParamsBwdRefIdeal.main_arg3) = m' ((c.tc : Thread Cert.ParamsBwdRefIdeal.nD Cert.ParamsBwdRefIdeal.τ).loc Cert.ParamsBwdRefIdeal.main_arg3)
          ∧ r.2.mem ((c.tc : Thread Cert.ParamsBwdRefIdeal.nD Cert.ParamsBwdRefIdeal.τ).loc Cert.ParamsBwdRefIdeal.main_arg4) = m' ((c.tc : Thread Cert.ParamsBwdRefIdeal.nD Cert.ParamsBwdRefIdeal.τ).loc Cert.ParamsBwdRefIdeal.main_arg4)
          ∧ r.2.mem ((c.tc : Thread Cert.ParamsBwdRefIdeal.nD Cert.ParamsBwdRefIdeal.τ).loc Cert.ParamsBwdRefIdeal.main_arg5) = m' ((c.tc : Thread Cert.ParamsBwdRefIdeal.nD Cert.ParamsBwdRefIdeal.τ).loc Cert.ParamsBwdRefIdeal.main_arg5)
          ∧ r.2.mem ((c.tc : Thread Cert.ParamsBwdRefIdeal.nD Cert.ParamsBwdRefIdeal.τ).loc Cert.ParamsBwdRefIdeal.main_arg6) = m' ((c.tc : Thread Cert.ParamsBwdRefIdeal.nD Cert.ParamsBwdRefIdeal.τ).loc Cert.ParamsBwdRefIdeal.main_arg6)
          ∧ r.2.mem ((c.tc : Thread Cert.ParamsBwdRefIdeal.nD Cert.ParamsBwdRefIdeal.τ).loc Cert.ParamsBwdRefIdeal.main_arg7) = m' ((c.tc : Thread Cert.ParamsBwdRefIdeal.nD Cert.ParamsBwdRefIdeal.τ).loc Cert.ParamsBwdRefIdeal.main_arg7)
          ∧ r.2.mem ((c.tc : Thread Cert.ParamsBwdRefIdeal.nD Cert.ParamsBwdRefIdeal.τ).loc Cert.ParamsBwdRefIdeal.main_arg8) = m' ((c.tc : Thread Cert.ParamsBwdRefIdeal.nD Cert.ParamsBwdRefIdeal.τ).loc Cert.ParamsBwdRefIdeal.main_arg8))

def preserves_Params_ParamsIdeal : Prop :=
  True

def algebraic_ParamsIdeal_ParamsRefIdeal [hParamsIdeal : Cert.ParamsIdeal.Facts] [hParamsRefIdeal : Cert.ParamsRefIdeal.Facts] : Prop :=
  ∀ (m : (ℓ : Loc Cert.ParamsIdeal.nD Cert.ParamsIdeal.τ Cert.ParamsIdeal.sig) → Buf (Elt Ideal) ℓ) (g : Dev Cert.ParamsIdeal.nD → PrngReg)
    (m' : (ℓ : Loc Cert.ParamsRefIdeal.nD Cert.ParamsRefIdeal.τ Cert.ParamsRefIdeal.sig) → Buf (Elt Ideal) ℓ) (g' : Dev Cert.ParamsRefIdeal.nD → PrngReg), Pre_ParamsIdeal m →
    (∀ c : Dev Cert.ParamsIdeal.nD,
      m' ((c.tc : Thread Cert.ParamsRefIdeal.nD Cert.ParamsRefIdeal.τ).loc Cert.ParamsRefIdeal.main_arg0) = m ((c.tc : Thread Cert.ParamsIdeal.nD Cert.ParamsIdeal.τ).loc Cert.ParamsIdeal.main_arg0)
      ∧ m' ((c.tc : Thread Cert.ParamsRefIdeal.nD Cert.ParamsRefIdeal.τ).loc Cert.ParamsRefIdeal.main_arg1) = m ((c.tc : Thread Cert.ParamsIdeal.nD Cert.ParamsIdeal.τ).loc Cert.ParamsIdeal.main_arg1)
      ∧ m' ((c.tc : Thread Cert.ParamsRefIdeal.nD Cert.ParamsRefIdeal.τ).loc Cert.ParamsRefIdeal.main_arg2) = m ((c.tc : Thread Cert.ParamsIdeal.nD Cert.ParamsIdeal.τ).loc Cert.ParamsIdeal.main_arg2)
      ∧ m' ((c.tc : Thread Cert.ParamsRefIdeal.nD Cert.ParamsRefIdeal.τ).loc Cert.ParamsRefIdeal.main_arg3) = m ((c.tc : Thread Cert.ParamsIdeal.nD Cert.ParamsIdeal.τ).loc Cert.ParamsIdeal.main_arg3)
      ∧ m' ((c.tc : Thread Cert.ParamsRefIdeal.nD Cert.ParamsRefIdeal.τ).loc Cert.ParamsRefIdeal.main_arg4) = m ((c.tc : Thread Cert.ParamsIdeal.nD Cert.ParamsIdeal.τ).loc Cert.ParamsIdeal.main_arg4)) →
    ∃ (v0 : (c : Dev Cert.ParamsIdeal.nD) → Buf (Elt Ideal) ((c.tc : Thread Cert.ParamsIdeal.nD Cert.ParamsIdeal.τ).loc Cert.ParamsIdeal.main_v7_0)) (v1 : (c : Dev Cert.ParamsIdeal.nD) → Buf (Elt Ideal) ((c.tc : Thread Cert.ParamsIdeal.nD Cert.ParamsIdeal.τ).loc Cert.ParamsIdeal.main_v7_1)) (v2 : (c : Dev Cert.ParamsIdeal.nD) → Buf (Elt Ideal) ((c.tc : Thread Cert.ParamsIdeal.nD Cert.ParamsIdeal.τ).loc Cert.ParamsIdeal.main_v7_2)) (v3 : (c : Dev Cert.ParamsIdeal.nD) → Buf (Elt Ideal) ((c.tc : Thread Cert.ParamsIdeal.nD Cert.ParamsIdeal.τ).loc Cert.ParamsIdeal.main_v7_3)),
      θ_run (Cert.ParamsIdeal.defs (F := Ideal)) (onTc (τ := Cert.ParamsIdeal.τ) (Cert.ParamsIdeal.main (F := Ideal))) ⟨m, fun _ => 0, g⟩ (fun r => ∀ c : Dev Cert.ParamsIdeal.nD,
          r.2.mem ((c.tc : Thread Cert.ParamsIdeal.nD Cert.ParamsIdeal.τ).loc Cert.ParamsIdeal.main_v7_0) = v0 c
          ∧ r.2.mem ((c.tc : Thread Cert.ParamsIdeal.nD Cert.ParamsIdeal.τ).loc Cert.ParamsIdeal.main_v7_1) = v1 c
          ∧ r.2.mem ((c.tc : Thread Cert.ParamsIdeal.nD Cert.ParamsIdeal.τ).loc Cert.ParamsIdeal.main_v7_2) = v2 c
          ∧ r.2.mem ((c.tc : Thread Cert.ParamsIdeal.nD Cert.ParamsIdeal.τ).loc Cert.ParamsIdeal.main_v7_3) = v3 c
          ∧ r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
          ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
          ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
          ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
          ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4))
      ∧ θ_run (Cert.ParamsRefIdeal.defs (F := Ideal)) (onTc (τ := Cert.ParamsRefIdeal.τ) (Cert.ParamsRefIdeal.main (F := Ideal))) ⟨m', fun _ => 0, g'⟩ (fun r => ∀ c : Dev Cert.ParamsRefIdeal.nD,
          r.2.mem ((c.tc : Thread Cert.ParamsRefIdeal.nD Cert.ParamsRefIdeal.τ).loc Cert.ParamsRefIdeal.main_v38) = v0 c
          ∧ r.2.mem ((c.tc : Thread Cert.ParamsRefIdeal.nD Cert.ParamsRefIdeal.τ).loc Cert.ParamsRefIdeal.main_v39) = v1 c
          ∧ r.2.mem ((c.tc : Thread Cert.ParamsRefIdeal.nD Cert.ParamsRefIdeal.τ).loc Cert.ParamsRefIdeal.main_v41) = v2 c
          ∧ r.2.mem ((c.tc : Thread Cert.ParamsRefIdeal.nD Cert.ParamsRefIdeal.τ).loc Cert.ParamsRefIdeal.main_v43) = v3 c
          ∧ r.2.mem ((c.tc : Thread Cert.ParamsRefIdeal.nD Cert.ParamsRefIdeal.τ).loc Cert.ParamsRefIdeal.main_arg0) = m' ((c.tc : Thread Cert.ParamsRefIdeal.nD Cert.ParamsRefIdeal.τ).loc Cert.ParamsRefIdeal.main_arg0)
          ∧ r.2.mem ((c.tc : Thread Cert.ParamsRefIdeal.nD Cert.ParamsRefIdeal.τ).loc Cert.ParamsRefIdeal.main_arg1) = m' ((c.tc : Thread Cert.ParamsRefIdeal.nD Cert.ParamsRefIdeal.τ).loc Cert.ParamsRefIdeal.main_arg1)
          ∧ r.2.mem ((c.tc : Thread Cert.ParamsRefIdeal.nD Cert.ParamsRefIdeal.τ).loc Cert.ParamsRefIdeal.main_arg2) = m' ((c.tc : Thread Cert.ParamsRefIdeal.nD Cert.ParamsRefIdeal.τ).loc Cert.ParamsRefIdeal.main_arg2)
          ∧ r.2.mem ((c.tc : Thread Cert.ParamsRefIdeal.nD Cert.ParamsRefIdeal.τ).loc Cert.ParamsRefIdeal.main_arg3) = m' ((c.tc : Thread Cert.ParamsRefIdeal.nD Cert.ParamsRefIdeal.τ).loc Cert.ParamsRefIdeal.main_arg3)
          ∧ r.2.mem ((c.tc : Thread Cert.ParamsRefIdeal.nD Cert.ParamsRefIdeal.τ).loc Cert.ParamsRefIdeal.main_arg4) = m' ((c.tc : Thread Cert.ParamsRefIdeal.nD Cert.ParamsRefIdeal.τ).loc Cert.ParamsRefIdeal.main_arg4))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v15_0)) (v1 : (c : Dev Cert.MixBwdIdeal.nD) → Buf (Elt Ideal) ((c.tc : Thread Cert.MixBwdIdeal.nD Cert.MixBwdIdeal.τ).loc Cert.MixBwdIdeal.main_v15_1)) (v2 : (c : Dev Cert.MixBwdIdeal.nD) → Buf (Elt Ideal) ((c.tc : Thread Cert.MixBwdIdeal.nD Cert.MixBwdIdeal.τ).loc Cert.MixBwdIdeal.main_v15_2)) (v3 : (c : Dev Cert.MixBwdIdeal.nD) → Buf (Elt Ideal) ((c.tc : Thread Cert.MixBwdIdeal.nD Cert.MixBwdIdeal.τ).loc Cert.MixBwdIdeal.main_v15_3)) (v4 : (c : Dev Cert.MixBwdIdeal.nD) → Buf (Elt Ideal) ((c.tc : Thread Cert.MixBwdIdeal.nD Cert.MixBwdIdeal.τ).loc Cert.MixBwdIdeal.main_v15_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v15_0) = v0 c
          ∧ r.2.mem ((c.tc : Thread Cert.MixBwdIdeal.nD Cert.MixBwdIdeal.τ).loc Cert.MixBwdIdeal.main_v15_1) = v1 c
          ∧ r.2.mem ((c.tc : Thread Cert.MixBwdIdeal.nD Cert.MixBwdIdeal.τ).loc Cert.MixBwdIdeal.main_v15_2) = v2 c
          ∧ r.2.mem ((c.tc : Thread Cert.MixBwdIdeal.nD Cert.MixBwdIdeal.τ).loc Cert.MixBwdIdeal.main_v15_3) = v3 c
          ∧ r.2.mem ((c.tc : Thread Cert.MixBwdIdeal.nD Cert.MixBwdIdeal.τ).loc Cert.MixBwdIdeal.main_v15_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v121) = v0 c
          ∧ r.2.mem ((c.tc : Thread Cert.MixBwdRefIdeal.nD Cert.MixBwdRefIdeal.τ).loc Cert.MixBwdRefIdeal.main_v83) = v1 c
          ∧ r.2.mem ((c.tc : Thread Cert.MixBwdRefIdeal.nD Cert.MixBwdRefIdeal.τ).loc Cert.MixBwdRefIdeal.main_v107) = v2 c
          ∧ r.2.mem ((c.tc : Thread Cert.MixBwdRefIdeal.nD Cert.MixBwdRefIdeal.τ).loc Cert.MixBwdRefIdeal.main_v86) = v3 c
          ∧ r.2.mem ((c.tc : Thread Cert.MixBwdRefIdeal.nD Cert.MixBwdRefIdeal.τ).loc Cert.MixBwdRefIdeal.main_v67) = v4 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v46) = v0 c
          ∧ r.2.mem ((c.tc : Thread Cert.MixRefIdeal.nD Cert.MixRefIdeal.τ).loc Cert.MixRefIdeal.main_v60) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v28) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_Scan_ScanIdeal : Prop :=
  True

def preserves_ScanBwd_ScanBwdIdeal : Prop :=
  True

def preserves_LossLn_LossLnIdeal : Prop :=
  True

def algebraic_LossLnIdeal_LossLnRefIdeal_pre_loss_finite [hLossLnIdeal : Cert.LossLnIdeal.Facts] [hLossLnRefIdeal : Cert.LossLnRefIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_loss_finite m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)) →
    ∃ (v0 : (c : Dev Cert.LossLnIdeal.nD) → Buf (Elt Ideal) ((c.tc : Thread Cert.LossLnIdeal.nD Cert.LossLnIdeal.τ).loc Cert.LossLnIdeal.main_v21_0)) (v1 : (c : Dev Cert.LossLnIdeal.nD) → Buf (Elt Ideal) ((c.tc : Thread Cert.LossLnIdeal.nD Cert.LossLnIdeal.τ).loc Cert.LossLnIdeal.main_v21_1)) (v2 : (c : Dev Cert.LossLnIdeal.nD) → Buf (Elt Ideal) ((c.tc : Thread Cert.LossLnIdeal.nD Cert.LossLnIdeal.τ).loc Cert.LossLnIdeal.main_v21_2)) (v3 : (c : Dev Cert.LossLnIdeal.nD) → Buf (Elt Ideal) ((c.tc : Thread Cert.LossLnIdeal.nD Cert.LossLnIdeal.τ).loc Cert.LossLnIdeal.main_v21_3)) (v4 : (c : Dev Cert.LossLnIdeal.nD) → Buf (Elt Ideal) ((c.tc : Thread Cert.LossLnIdeal.nD Cert.LossLnIdeal.τ).loc Cert.LossLnIdeal.main_v21_4)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v21_0) = v0 c
          ∧ r.2.mem ((c.tc : Thread Cert.LossLnIdeal.nD Cert.LossLnIdeal.τ).loc Cert.LossLnIdeal.main_v21_1) = v1 c
          ∧ r.2.mem ((c.tc : Thread Cert.LossLnIdeal.nD Cert.LossLnIdeal.τ).loc Cert.LossLnIdeal.main_v21_2) = v2 c
          ∧ r.2.mem ((c.tc : Thread Cert.LossLnIdeal.nD Cert.LossLnIdeal.τ).loc Cert.LossLnIdeal.main_v21_3) = v3 c
          ∧ r.2.mem ((c.tc : Thread Cert.LossLnIdeal.nD Cert.LossLnIdeal.τ).loc Cert.LossLnIdeal.main_v21_4) = v4 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v66) = v0 c
          ∧ r.2.mem ((c.tc : Thread Cert.LossLnRefIdeal.nD Cert.LossLnRefIdeal.τ).loc Cert.LossLnRefIdeal.main_v67) = v1 c
          ∧ r.2.mem ((c.tc : Thread Cert.LossLnRefIdeal.nD Cert.LossLnRefIdeal.τ).loc Cert.LossLnRefIdeal.main_v42) = v2 c
          ∧ r.2.mem ((c.tc : Thread Cert.LossLnRefIdeal.nD Cert.LossLnRefIdeal.τ).loc Cert.LossLnRefIdeal.main_v39) = v3 c
          ∧ r.2.mem ((c.tc : Thread Cert.LossLnRefIdeal.nD Cert.LossLnRefIdeal.τ).loc Cert.LossLnRefIdeal.main_v68) = v4 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3))

def preserves_DxLn_DxLnIdeal : Prop :=
  True

def algebraic_DxLnIdeal_DxLnRefIdeal_pre_dx_finite [hDxLnIdeal : Cert.DxLnIdeal.Facts] [hDxLnRefIdeal : Cert.DxLnRefIdeal.Facts] [hPre_dx_finite : Cert.Pre_dx_finite.Facts] : Prop :=
  ∀ (m : (ℓ : Loc Cert.DxLnIdeal.nD Cert.DxLnIdeal.τ Cert.DxLnIdeal.sig) → Buf (Elt Ideal) ℓ) (g : Dev Cert.DxLnIdeal.nD → PrngReg)
    (m' : (ℓ : Loc Cert.DxLnRefIdeal.nD Cert.DxLnRefIdeal.τ Cert.DxLnRefIdeal.sig) → Buf (Elt Ideal) ℓ) (g' : Dev Cert.DxLnRefIdeal.nD → PrngReg), Pre_DxLnIdeal_dx_finite m →
    (∀ c : Dev Cert.DxLnIdeal.nD,
      m' ((c.tc : Thread Cert.DxLnRefIdeal.nD Cert.DxLnRefIdeal.τ).loc Cert.DxLnRefIdeal.main_arg0) = m ((c.tc : Thread Cert.DxLnIdeal.nD Cert.DxLnIdeal.τ).loc Cert.DxLnIdeal.main_arg0)
      ∧ m' ((c.tc : Thread Cert.DxLnRefIdeal.nD Cert.DxLnRefIdeal.τ).loc Cert.DxLnRefIdeal.main_arg1) = m ((c.tc : Thread Cert.DxLnIdeal.nD Cert.DxLnIdeal.τ).loc Cert.DxLnIdeal.main_arg1)
      ∧ m' ((c.tc : Thread Cert.DxLnRefIdeal.nD Cert.DxLnRefIdeal.τ).loc Cert.DxLnRefIdeal.main_arg2) = m ((c.tc : Thread Cert.DxLnIdeal.nD Cert.DxLnIdeal.τ).loc Cert.DxLnIdeal.main_arg2)
      ∧ m' ((c.tc : Thread Cert.DxLnRefIdeal.nD Cert.DxLnRefIdeal.τ).loc Cert.DxLnRefIdeal.main_arg3) = m ((c.tc : Thread Cert.DxLnIdeal.nD Cert.DxLnIdeal.τ).loc Cert.DxLnIdeal.main_arg3)) →
    ∃ (v0 : (c : Dev Cert.DxLnIdeal.nD) → Buf (Elt Ideal) ((c.tc : Thread Cert.DxLnIdeal.nD Cert.DxLnIdeal.τ).loc Cert.DxLnIdeal.main_v17_0)) (v1 : (c : Dev Cert.DxLnIdeal.nD) → Buf (Elt Ideal) ((c.tc : Thread Cert.DxLnIdeal.nD Cert.DxLnIdeal.τ).loc Cert.DxLnIdeal.main_v17_1)) (v2 : (c : Dev Cert.DxLnIdeal.nD) → Buf (Elt Ideal) ((c.tc : Thread Cert.DxLnIdeal.nD Cert.DxLnIdeal.τ).loc Cert.DxLnIdeal.main_v17_2)) (v3 : (c : Dev Cert.DxLnIdeal.nD) → Buf (Elt Ideal) ((c.tc : Thread Cert.DxLnIdeal.nD Cert.DxLnIdeal.τ).loc Cert.DxLnIdeal.main_v17_3)),
      θ_run (Cert.DxLnIdeal.defs (F := Ideal)) (onTc (τ := Cert.DxLnIdeal.τ) (Cert.DxLnIdeal.main (F := Ideal))) ⟨m, fun _ => 0, g⟩ (fun r => ∀ c : Dev Cert.DxLnIdeal.nD,
          r.2.mem ((c.tc : Thread Cert.DxLnIdeal.nD Cert.DxLnIdeal.τ).loc Cert.DxLnIdeal.main_v17_0) = v0 c
          ∧ r.2.mem ((c.tc : Thread Cert.DxLnIdeal.nD Cert.DxLnIdeal.τ).loc Cert.DxLnIdeal.main_v17_1) = v1 c
          ∧ r.2.mem ((c.tc : Thread Cert.DxLnIdeal.nD Cert.DxLnIdeal.τ).loc Cert.DxLnIdeal.main_v17_2) = v2 c
          ∧ r.2.mem ((c.tc : Thread Cert.DxLnIdeal.nD Cert.DxLnIdeal.τ).loc Cert.DxLnIdeal.main_v17_3) = v3 c
          ∧ r.2.mem ((c.tc : Thread Cert.DxLnIdeal.nD Cert.DxLnIdeal.τ).loc Cert.DxLnIdeal.main_arg0) = m ((c.tc : Thread Cert.DxLnIdeal.nD Cert.DxLnIdeal.τ).loc Cert.DxLnIdeal.main_arg0)
          ∧ r.2.mem ((c.tc : Thread Cert.DxLnIdeal.nD Cert.DxLnIdeal.τ).loc Cert.DxLnIdeal.main_arg1) = m ((c.tc : Thread Cert.DxLnIdeal.nD Cert.DxLnIdeal.τ).loc Cert.DxLnIdeal.main_arg1)
          ∧ r.2.mem ((c.tc : Thread Cert.DxLnIdeal.nD Cert.DxLnIdeal.τ).loc Cert.DxLnIdeal.main_arg2) = m ((c.tc : Thread Cert.DxLnIdeal.nD Cert.DxLnIdeal.τ).loc Cert.DxLnIdeal.main_arg2)
          ∧ r.2.mem ((c.tc : Thread Cert.DxLnIdeal.nD Cert.DxLnIdeal.τ).loc Cert.DxLnIdeal.main_arg3) = m ((c.tc : Thread Cert.DxLnIdeal.nD Cert.DxLnIdeal.τ).loc Cert.DxLnIdeal.main_arg3))
      ∧ θ_run (Cert.DxLnRefIdeal.defs (F := Ideal)) (onTc (τ := Cert.DxLnRefIdeal.τ) (Cert.DxLnRefIdeal.main (F := Ideal))) ⟨m', fun _ => 0, g'⟩ (fun r => ∀ c : Dev Cert.DxLnRefIdeal.nD,
          r.2.mem ((c.tc : Thread Cert.DxLnRefIdeal.nD Cert.DxLnRefIdeal.τ).loc Cert.DxLnRefIdeal.main_v55) = v0 c
          ∧ r.2.mem ((c.tc : Thread Cert.DxLnRefIdeal.nD Cert.DxLnRefIdeal.τ).loc Cert.DxLnRefIdeal.main_v56) = v1 c
          ∧ r.2.mem ((c.tc : Thread Cert.DxLnRefIdeal.nD Cert.DxLnRefIdeal.τ).loc Cert.DxLnRefIdeal.main_v31) = v2 c
          ∧ r.2.mem ((c.tc : Thread Cert.DxLnRefIdeal.nD Cert.DxLnRefIdeal.τ).loc Cert.DxLnRefIdeal.main_v28) = v3 c
          ∧ r.2.mem ((c.tc : Thread Cert.DxLnRefIdeal.nD Cert.DxLnRefIdeal.τ).loc Cert.DxLnRefIdeal.main_arg0) = m' ((c.tc : Thread Cert.DxLnRefIdeal.nD Cert.DxLnRefIdeal.τ).loc Cert.DxLnRefIdeal.main_arg0)
          ∧ r.2.mem ((c.tc : Thread Cert.DxLnRefIdeal.nD Cert.DxLnRefIdeal.τ).loc Cert.DxLnRefIdeal.main_arg1) = m' ((c.tc : Thread Cert.DxLnRefIdeal.nD Cert.DxLnRefIdeal.τ).loc Cert.DxLnRefIdeal.main_arg1)
          ∧ r.2.mem ((c.tc : Thread Cert.DxLnRefIdeal.nD Cert.DxLnRefIdeal.τ).loc Cert.DxLnRefIdeal.main_arg2) = m' ((c.tc : Thread Cert.DxLnRefIdeal.nD Cert.DxLnRefIdeal.τ).loc Cert.DxLnRefIdeal.main_arg2)
          ∧ r.2.mem ((c.tc : Thread Cert.DxLnRefIdeal.nD Cert.DxLnRefIdeal.τ).loc Cert.DxLnRefIdeal.main_arg3) = m' ((c.tc : Thread Cert.DxLnRefIdeal.nD Cert.DxLnRefIdeal.τ).loc Cert.DxLnRefIdeal.main_arg3))

def preserves_ResLn_ResLnIdeal : Prop :=
  True

def algebraic_ResLnIdeal_ResLnRefIdeal [hResLnIdeal : Cert.ResLnIdeal.Facts] [hResLnRefIdeal : Cert.ResLnRefIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnRefIdeal.nD Cert.ResLnRefIdeal.τ Cert.ResLnRefIdeal.sig) → Buf (Elt Ideal) ℓ) (g' : Dev Cert.ResLnRefIdeal.nD → PrngReg), Pre_ResLnIdeal m →
    (∀ c : Dev Cert.ResLnIdeal.nD,
      m' ((c.tc : Thread Cert.ResLnRefIdeal.nD Cert.ResLnRefIdeal.τ).loc Cert.ResLnRefIdeal.main_arg0) = m ((c.tc : Thread Cert.ResLnIdeal.nD Cert.ResLnIdeal.τ).loc Cert.ResLnIdeal.main_arg0)
      ∧ m' ((c.tc : Thread Cert.ResLnRefIdeal.nD Cert.ResLnRefIdeal.τ).loc Cert.ResLnRefIdeal.main_arg1) = m ((c.tc : Thread Cert.ResLnIdeal.nD Cert.ResLnIdeal.τ).loc Cert.ResLnIdeal.main_arg1)
      ∧ m' ((c.tc : Thread Cert.ResLnRefIdeal.nD Cert.ResLnRefIdeal.τ).loc Cert.ResLnRefIdeal.main_arg2) = m ((c.tc : Thread Cert.ResLnIdeal.nD Cert.ResLnIdeal.τ).loc Cert.ResLnIdeal.main_arg2)
      ∧ m' ((c.tc : Thread Cert.ResLnRefIdeal.nD Cert.ResLnRefIdeal.τ).loc Cert.ResLnRefIdeal.main_arg3) = m ((c.tc : Thread Cert.ResLnIdeal.nD Cert.ResLnIdeal.τ).loc Cert.ResLnIdeal.main_arg3)) →
    ∃ (v0 : (c : Dev Cert.ResLnIdeal.nD) → Buf (Elt Ideal) ((c.tc : Thread Cert.ResLnIdeal.nD Cert.ResLnIdeal.τ).loc Cert.ResLnIdeal.main_v0_0)) (v1 : (c : Dev Cert.ResLnIdeal.nD) → Buf (Elt Ideal) ((c.tc : Thread Cert.ResLnIdeal.nD Cert.ResLnIdeal.τ).loc Cert.ResLnIdeal.main_v0_1)) (v2 : (c : Dev Cert.ResLnIdeal.nD) → Buf (Elt Ideal) ((c.tc : Thread Cert.ResLnIdeal.nD Cert.ResLnIdeal.τ).loc Cert.ResLnIdeal.main_v0_2)) (v3 : (c : Dev Cert.ResLnIdeal.nD) → Buf (Elt Ideal) ((c.tc : Thread Cert.ResLnIdeal.nD Cert.ResLnIdeal.τ).loc Cert.ResLnIdeal.main_v0_3)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v0_0) = v0 c
          ∧ r.2.mem ((c.tc : Thread Cert.ResLnIdeal.nD Cert.ResLnIdeal.τ).loc Cert.ResLnIdeal.main_v0_1) = v1 c
          ∧ r.2.mem ((c.tc : Thread Cert.ResLnIdeal.nD Cert.ResLnIdeal.τ).loc Cert.ResLnIdeal.main_v0_2) = v2 c
          ∧ r.2.mem ((c.tc : Thread Cert.ResLnIdeal.nD Cert.ResLnIdeal.τ).loc Cert.ResLnIdeal.main_v0_3) = v3 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ θ_run (Cert.ResLnRefIdeal.defs (F := Ideal)) (onTc (τ := Cert.ResLnRefIdeal.τ) (Cert.ResLnRefIdeal.main (F := Ideal))) ⟨m', fun _ => 0, g'⟩ (fun r => ∀ c : Dev Cert.ResLnRefIdeal.nD,
          r.2.mem ((c.tc : Thread Cert.ResLnRefIdeal.nD Cert.ResLnRefIdeal.τ).loc Cert.ResLnRefIdeal.main_v24) = v0 c
          ∧ r.2.mem ((c.tc : Thread Cert.ResLnRefIdeal.nD Cert.ResLnRefIdeal.τ).loc Cert.ResLnRefIdeal.main_v25) = v1 c
          ∧ r.2.mem ((c.tc : Thread Cert.ResLnRefIdeal.nD Cert.ResLnRefIdeal.τ).loc Cert.ResLnRefIdeal.main_v26) = v2 c
          ∧ r.2.mem ((c.tc : Thread Cert.ResLnRefIdeal.nD Cert.ResLnRefIdeal.τ).loc Cert.ResLnRefIdeal.main_v18) = v3 c
          ∧ r.2.mem ((c.tc : Thread Cert.ResLnRefIdeal.nD Cert.ResLnRefIdeal.τ).loc Cert.ResLnRefIdeal.main_arg0) = m' ((c.tc : Thread Cert.ResLnRefIdeal.nD Cert.ResLnRefIdeal.τ).loc Cert.ResLnRefIdeal.main_arg0)
          ∧ r.2.mem ((c.tc : Thread Cert.ResLnRefIdeal.nD Cert.ResLnRefIdeal.τ).loc Cert.ResLnRefIdeal.main_arg1) = m' ((c.tc : Thread Cert.ResLnRefIdeal.nD Cert.ResLnRefIdeal.τ).loc Cert.ResLnRefIdeal.main_arg1)
          ∧ r.2.mem ((c.tc : Thread Cert.ResLnRefIdeal.nD Cert.ResLnRefIdeal.τ).loc Cert.ResLnRefIdeal.main_arg2) = m' ((c.tc : Thread Cert.ResLnRefIdeal.nD Cert.ResLnRefIdeal.τ).loc Cert.ResLnRefIdeal.main_arg2)
          ∧ r.2.mem ((c.tc : Thread Cert.ResLnRefIdeal.nD Cert.ResLnRefIdeal.τ).loc Cert.ResLnRefIdeal.main_arg3) = m' ((c.tc : Thread Cert.ResLnRefIdeal.nD Cert.ResLnRefIdeal.τ).loc Cert.ResLnRefIdeal.main_arg3))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Reduce_ReduceIdeal : Prop :=
  True

def algebraic_ReduceIdeal_ReduceRefIdeal [hReduceIdeal : Cert.ReduceIdeal.Facts] [hReduceRefIdeal : Cert.ReduceRefIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReduceRefIdeal.nD Cert.ReduceRefIdeal.τ Cert.ReduceRefIdeal.sig) → Buf (Elt Ideal) ℓ) (g' : Dev Cert.ReduceRefIdeal.nD → PrngReg), Pre_ReduceIdeal m →
    (∀ c : Dev Cert.ReduceIdeal.nD,
      m' ((c.tc : Thread Cert.ReduceRefIdeal.nD Cert.ReduceRefIdeal.τ).loc Cert.ReduceRefIdeal.main_arg0) = m ((c.tc : Thread Cert.ReduceIdeal.nD Cert.ReduceIdeal.τ).loc Cert.ReduceIdeal.main_arg0)) →
    ∃ (v0 : (c : Dev Cert.ReduceIdeal.nD) → Buf (Elt Ideal) ((c.tc : Thread Cert.ReduceIdeal.nD Cert.ReduceIdeal.τ).loc Cert.ReduceIdeal.main_v0)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v0) = v0 c
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0))
      ∧ θ_run (Cert.ReduceRefIdeal.defs (F := Ideal)) (onTc (τ := Cert.ReduceRefIdeal.τ) (Cert.ReduceRefIdeal.main (F := Ideal))) ⟨m', fun _ => 0, g'⟩ (fun r => ∀ c : Dev Cert.ReduceRefIdeal.nD,
          r.2.mem ((c.tc : Thread Cert.ReduceRefIdeal.nD Cert.ReduceRefIdeal.τ).loc Cert.ReduceRefIdeal.main_v1) = v0 c
          ∧ r.2.mem ((c.tc : Thread Cert.ReduceRefIdeal.nD Cert.ReduceRefIdeal.τ).loc Cert.ReduceRefIdeal.main_arg0) = m' ((c.tc : Thread Cert.ReduceRefIdeal.nD Cert.ReduceRefIdeal.τ).loc Cert.ReduceRefIdeal.main_arg0))

def preserves_DxRes_DxResIdeal : Prop :=
  True

def algebraic_DxResIdeal_DxResRefIdeal [hDxResIdeal : Cert.DxResIdeal.Facts] [hDxResRefIdeal : Cert.DxResRefIdeal.Facts] : Prop :=
  ∀ (m : (ℓ : Loc Cert.DxResIdeal.nD Cert.DxResIdeal.τ Cert.DxResIdeal.sig) → Buf (Elt Ideal) ℓ) (g : Dev Cert.DxResIdeal.nD → PrngReg)
    (m' : (ℓ : Loc Cert.DxResRefIdeal.nD Cert.DxResRefIdeal.τ Cert.DxResRefIdeal.sig) → Buf (Elt Ideal) ℓ) (g' : Dev Cert.DxResRefIdeal.nD → PrngReg), Pre_DxResIdeal m →
    (∀ c : Dev Cert.DxResIdeal.nD,
      m' ((c.tc : Thread Cert.DxResRefIdeal.nD Cert.DxResRefIdeal.τ).loc Cert.DxResRefIdeal.main_arg0) = m ((c.tc : Thread Cert.DxResIdeal.nD Cert.DxResIdeal.τ).loc Cert.DxResIdeal.main_arg0)
      ∧ m' ((c.tc : Thread Cert.DxResRefIdeal.nD Cert.DxResRefIdeal.τ).loc Cert.DxResRefIdeal.main_arg1) = m ((c.tc : Thread Cert.DxResIdeal.nD Cert.DxResIdeal.τ).loc Cert.DxResIdeal.main_arg1)) →
    ∃ (v0 : (c : Dev Cert.DxResIdeal.nD) → Buf (Elt Ideal) ((c.tc : Thread Cert.DxResIdeal.nD Cert.DxResIdeal.τ).loc Cert.DxResIdeal.main_v0)),
      θ_run (Cert.DxResIdeal.defs (F := Ideal)) (onTc (τ := Cert.DxResIdeal.τ) (Cert.DxResIdeal.main (F := Ideal))) ⟨m, fun _ => 0, g⟩ (fun r => ∀ c : Dev Cert.DxResIdeal.nD,
          r.2.mem ((c.tc : Thread Cert.DxResIdeal.nD Cert.DxResIdeal.τ).loc Cert.DxResIdeal.main_v0) = v0 c
          ∧ r.2.mem ((c.tc : Thread Cert.DxResIdeal.nD Cert.DxResIdeal.τ).loc Cert.DxResIdeal.main_arg0) = m ((c.tc : Thread Cert.DxResIdeal.nD Cert.DxResIdeal.τ).loc Cert.DxResIdeal.main_arg0)
          ∧ r.2.mem ((c.tc : Thread Cert.DxResIdeal.nD Cert.DxResIdeal.τ).loc Cert.DxResIdeal.main_arg1) = m ((c.tc : Thread Cert.DxResIdeal.nD Cert.DxResIdeal.τ).loc Cert.DxResIdeal.main_arg1))
      ∧ θ_run (Cert.DxResRefIdeal.defs (F := Ideal)) (onTc (τ := Cert.DxResRefIdeal.τ) (Cert.DxResRefIdeal.main (F := Ideal))) ⟨m', fun _ => 0, g'⟩ (fun r => ∀ c : Dev Cert.DxResRefIdeal.nD,
          r.2.mem ((c.tc : Thread Cert.DxResRefIdeal.nD Cert.DxResRefIdeal.τ).loc Cert.DxResRefIdeal.main_v2) = v0 c
          ∧ r.2.mem ((c.tc : Thread Cert.DxResRefIdeal.nD Cert.DxResRefIdeal.τ).loc Cert.DxResRefIdeal.main_arg0) = m' ((c.tc : Thread Cert.DxResRefIdeal.nD Cert.DxResRefIdeal.τ).loc Cert.DxResRefIdeal.main_arg0)
          ∧ r.2.mem ((c.tc : Thread Cert.DxResRefIdeal.nD Cert.DxResRefIdeal.τ).loc Cert.DxResRefIdeal.main_arg1) = m' ((c.tc : Thread Cert.DxResRefIdeal.nD Cert.DxResRefIdeal.τ).loc Cert.DxResRefIdeal.main_arg1))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_arg0) = v0 c
          ∧ r.2.mem ((c.tc : Thread Cert.AdamwInRefIdeal.nD Cert.AdamwInRefIdeal.τ).loc Cert.AdamwInRefIdeal.main_v23) = v1 c
          ∧ r.2.mem ((c.tc : Thread Cert.AdamwInRefIdeal.nD Cert.AdamwInRefIdeal.τ).loc Cert.AdamwInRefIdeal.main_v4) = v2 c
          ∧ r.2.mem ((c.tc : Thread Cert.AdamwInRefIdeal.nD Cert.AdamwInRefIdeal.τ).loc Cert.AdamwInRefIdeal.main_v10) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v1) = v0 c
          ∧ r.2.mem ((c.tc : Thread Cert.AdamwOutRefIdeal.nD Cert.AdamwOutRefIdeal.τ).loc Cert.AdamwOutRefIdeal.main_v25) = v1 c
          ∧ r.2.mem ((c.tc : Thread Cert.AdamwOutRefIdeal.nD Cert.AdamwOutRefIdeal.τ).loc Cert.AdamwOutRefIdeal.main_v6) = v2 c
          ∧ r.2.mem ((c.tc : Thread Cert.AdamwOutRefIdeal.nD Cert.AdamwOutRefIdeal.τ).loc Cert.AdamwOutRefIdeal.main_v12) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwGlu_AdamwGluIdeal : Prop :=
  True

def algebraic_AdamwGluIdeal_AdamwGluRefIdeal [hAdamwGluIdeal : Cert.AdamwGluIdeal.Facts] [hAdamwGluRefIdeal : Cert.AdamwGluRefIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg)
    (m' : (ℓ : Loc Cert.AdamwGluRefIdeal.nD Cert.AdamwGluRefIdeal.τ Cert.AdamwGluRefIdeal.sig) → Buf (Elt Ideal) ℓ) (g' : Dev Cert.AdamwGluRefIdeal.nD → PrngReg), Pre_AdamwGluIdeal m →
    (∀ c : Dev Cert.AdamwGluIdeal.nD,
      m' ((c.tc : Thread Cert.AdamwGluRefIdeal.nD Cert.AdamwGluRefIdeal.τ).loc Cert.AdamwGluRefIdeal.main_arg0) = m ((c.tc : Thread Cert.AdamwGluIdeal.nD Cert.AdamwGluIdeal.τ).loc Cert.AdamwGluIdeal.main_arg0)
      ∧ m' ((c.tc : Thread Cert.AdamwGluRefIdeal.nD Cert.AdamwGluRefIdeal.τ).loc Cert.AdamwGluRefIdeal.main_arg1) = m ((c.tc : Thread Cert.AdamwGluIdeal.nD Cert.AdamwGluIdeal.τ).loc Cert.AdamwGluIdeal.main_arg1)
      ∧ m' ((c.tc : Thread Cert.AdamwGluRefIdeal.nD Cert.AdamwGluRefIdeal.τ).loc Cert.AdamwGluRefIdeal.main_arg2) = m ((c.tc : Thread Cert.AdamwGluIdeal.nD Cert.AdamwGluIdeal.τ).loc Cert.AdamwGluIdeal.main_arg2)
      ∧ m' ((c.tc : Thread Cert.AdamwGluRefIdeal.nD Cert.AdamwGluRefIdeal.τ).loc Cert.AdamwGluRefIdeal.main_arg3) = m ((c.tc : Thread Cert.AdamwGluIdeal.nD Cert.AdamwGluIdeal.τ).loc Cert.AdamwGluIdeal.main_arg3)) →
    ∃ (v0 : (c : Dev Cert.AdamwGluIdeal.nD) → Buf (Elt Ideal) ((c.tc : Thread Cert.AdamwGluIdeal.nD Cert.AdamwGluIdeal.τ).loc Cert.AdamwGluIdeal.main_v0_0)) (v1 : (c : Dev Cert.AdamwGluIdeal.nD) → Buf (Elt Ideal) ((c.tc : Thread Cert.AdamwGluIdeal.nD Cert.AdamwGluIdeal.τ).loc Cert.AdamwGluIdeal.main_v0_1)) (v2 : (c : Dev Cert.AdamwGluIdeal.nD) → Buf (Elt Ideal) ((c.tc : Thread Cert.AdamwGluIdeal.nD Cert.AdamwGluIdeal.τ).loc Cert.AdamwGluIdeal.main_v0_2)) (v3 : (c : Dev Cert.AdamwGluIdeal.nD) → Buf (Elt Ideal) ((c.tc : Thread Cert.AdamwGluIdeal.nD Cert.AdamwGluIdeal.τ).loc Cert.AdamwGluIdeal.main_v0_3)),
      θ_run (Cert.AdamwGluIdeal.defs (F := Ideal)) (onTc (τ := Cert.AdamwGluIdeal.τ) (Cert.AdamwGluIdeal.main (F := Ideal))) ⟨m, fun _ => 0, g⟩ (fun r => ∀ c : Dev Cert.AdamwGluIdeal.nD,
          r.2.mem ((c.tc : Thread Cert.AdamwGluIdeal.nD Cert.AdamwGluIdeal.τ).loc Cert.AdamwGluIdeal.main_v0_0) = v0 c
          ∧ r.2.mem ((c.tc : Thread Cert.AdamwGluIdeal.nD Cert.AdamwGluIdeal.τ).loc Cert.AdamwGluIdeal.main_v0_1) = v1 c
          ∧ r.2.mem ((c.tc : Thread Cert.AdamwGluIdeal.nD Cert.AdamwGluIdeal.τ).loc Cert.AdamwGluIdeal.main_v0_2) = v2 c
          ∧ r.2.mem ((c.tc : Thread Cert.AdamwGluIdeal.nD Cert.AdamwGluIdeal.τ).loc Cert.AdamwGluIdeal.main_v0_3) = v3 c
          ∧ r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
          ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
          ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
          ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ θ_run (Cert.AdamwGluRefIdeal.defs (F := Ideal)) (onTc (τ := Cert.AdamwGluRefIdeal.τ) (Cert.AdamwGluRefIdeal.main (F := Ideal))) ⟨m', fun _ => 0, g'⟩ (fun r => ∀ c : Dev Cert.AdamwGluRefIdeal.nD,
          r.2.mem ((c.tc : Thread Cert.AdamwGluRefIdeal.nD Cert.AdamwGluRefIdeal.τ).loc Cert.AdamwGluRefIdeal.main_v1) = v0 c
          ∧ r.2.mem ((c.tc : Thread Cert.AdamwGluRefIdeal.nD Cert.AdamwGluRefIdeal.τ).loc Cert.AdamwGluRefIdeal.main_v25) = v1 c
          ∧ r.2.mem ((c.tc : Thread Cert.AdamwGluRefIdeal.nD Cert.AdamwGluRefIdeal.τ).loc Cert.AdamwGluRefIdeal.main_v6) = v2 c
          ∧ r.2.mem ((c.tc : Thread Cert.AdamwGluRefIdeal.nD Cert.AdamwGluRefIdeal.τ).loc Cert.AdamwGluRefIdeal.main_v12) = v3 c
          ∧ r.2.mem ((c.tc : Thread Cert.AdamwGluRefIdeal.nD Cert.AdamwGluRefIdeal.τ).loc Cert.AdamwGluRefIdeal.main_arg0) = m' ((c.tc : Thread Cert.AdamwGluRefIdeal.nD Cert.AdamwGluRefIdeal.τ).loc Cert.AdamwGluRefIdeal.main_arg0)
          ∧ r.2.mem ((c.tc : Thread Cert.AdamwGluRefIdeal.nD Cert.AdamwGluRefIdeal.τ).loc Cert.AdamwGluRefIdeal.main_arg1) = m' ((c.tc : Thread Cert.AdamwGluRefIdeal.nD Cert.AdamwGluRefIdeal.τ).loc Cert.AdamwGluRefIdeal.main_arg1)
          ∧ r.2.mem ((c.tc : Thread Cert.AdamwGluRefIdeal.nD Cert.AdamwGluRefIdeal.τ).loc Cert.AdamwGluRefIdeal.main_arg2) = m' ((c.tc : Thread Cert.AdamwGluRefIdeal.nD Cert.AdamwGluRefIdeal.τ).loc Cert.AdamwGluRefIdeal.main_arg2)
          ∧ r.2.mem ((c.tc : Thread Cert.AdamwGluRefIdeal.nD Cert.AdamwGluRefIdeal.τ).loc Cert.AdamwGluRefIdeal.main_arg3) = m' ((c.tc : Thread Cert.AdamwGluRefIdeal.nD Cert.AdamwGluRefIdeal.τ).loc Cert.AdamwGluRefIdeal.main_arg3))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v1) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v4) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hActBwd : Cert.ActBwd.Facts) (hActBwdIdeal : Cert.ActBwdIdeal.Facts) (hActBwdRefIdeal : Cert.ActBwdRefIdeal.Facts) (hUpGrad : Cert.UpGrad.Facts) (hUpGradIdeal : Cert.UpGradIdeal.Facts) (hUpGradRefIdeal : Cert.UpGradRefIdeal.Facts) (hUpGradSum : Cert.UpGradSum.Facts) (hUpGradSumIdeal : Cert.UpGradSumIdeal.Facts) (hUpGradSumRefIdeal : Cert.UpGradSumRefIdeal.Facts) (hDownGrad : Cert.DownGrad.Facts) (hDownGradIdeal : Cert.DownGradIdeal.Facts) (hDownGradRefIdeal : Cert.DownGradRefIdeal.Facts) (hDownGradSum : Cert.DownGradSum.Facts) (hDownGradSumIdeal : Cert.DownGradSumIdeal.Facts) (hDownGradSumRefIdeal : Cert.DownGradSumRefIdeal.Facts) (hFfnDx : Cert.FfnDx.Facts) (hFfnDxIdeal : Cert.FfnDxIdeal.Facts) (hFfnDxRefIdeal : Cert.FfnDxRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hInGrad : Cert.InGrad.Facts) (hInGradIdeal : Cert.InGradIdeal.Facts) (hInGradRefIdeal : Cert.InGradRefIdeal.Facts) (hInDx : Cert.InDx.Facts) (hInDxIdeal : Cert.InDxIdeal.Facts) (hInDxRefIdeal : Cert.InDxRefIdeal.Facts) (hOutProj : Cert.OutProj.Facts) (hOutProjIdeal : Cert.OutProjIdeal.Facts) (hOutProjRefIdeal : Cert.OutProjRefIdeal.Facts) (hOutGrad : Cert.OutGrad.Facts) (hOutGradIdeal : Cert.OutGradIdeal.Facts) (hOutGradRefIdeal : Cert.OutGradRefIdeal.Facts) (hOutDx : Cert.OutDx.Facts) (hOutDxIdeal : Cert.OutDxIdeal.Facts) (hOutDxRefIdeal : Cert.OutDxRefIdeal.Facts) (hParamsBwd : Cert.ParamsBwd.Facts) (hParamsBwdIdeal : Cert.ParamsBwdIdeal.Facts) (hParamsBwdRefIdeal : Cert.ParamsBwdRefIdeal.Facts) (hParams : Cert.Params.Facts) (hParamsIdeal : Cert.ParamsIdeal.Facts) (hParamsRefIdeal : Cert.ParamsRefIdeal.Facts) (hMixBwd : Cert.MixBwd.Facts) (hMixBwdIdeal : Cert.MixBwdIdeal.Facts) (hMixBwdRefIdeal : Cert.MixBwdRefIdeal.Facts) (hMix : Cert.Mix.Facts) (hMixIdeal : Cert.MixIdeal.Facts) (hMixRefIdeal : Cert.MixRefIdeal.Facts) (hConvFwd : Cert.ConvFwd.Facts) (hConvFwdIdeal : Cert.ConvFwdIdeal.Facts) (hConvFwdRefIdeal : Cert.ConvFwdRefIdeal.Facts) (hScan : Cert.Scan.Facts) (hScanIdeal : Cert.ScanIdeal.Facts) (hScanBwd : Cert.ScanBwd.Facts) (hScanBwdIdeal : Cert.ScanBwdIdeal.Facts) (hLossLn : Cert.LossLn.Facts) (hLossLnIdeal : Cert.LossLnIdeal.Facts) (hLossLnRefIdeal : Cert.LossLnRefIdeal.Facts) (hDxLn : Cert.DxLn.Facts) (hDxLnIdeal : Cert.DxLnIdeal.Facts) (hDxLnRefIdeal : Cert.DxLnRefIdeal.Facts) (hResLn : Cert.ResLn.Facts) (hResLnIdeal : Cert.ResLnIdeal.Facts) (hResLnRefIdeal : Cert.ResLnRefIdeal.Facts) (hAdamw : Cert.Adamw.Facts) (hAdamwIdeal : Cert.AdamwIdeal.Facts) (hAdamwRefIdeal : Cert.AdamwRefIdeal.Facts) (hReduce : Cert.Reduce.Facts) (hReduceIdeal : Cert.ReduceIdeal.Facts) (hReduceRefIdeal : Cert.ReduceRefIdeal.Facts) (hDxRes : Cert.DxRes.Facts) (hDxResIdeal : Cert.DxResIdeal.Facts) (hDxResRefIdeal : Cert.DxResRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hAdamwGlu : Cert.AdamwGlu.Facts) (hAdamwGluIdeal : Cert.AdamwGluIdeal.Facts) (hAdamwGluRefIdeal : Cert.AdamwGluRefIdeal.Facts) (hPairSum : Cert.PairSum.Facts) (hPairSumIdeal : Cert.PairSumIdeal.Facts) (hPairSumRefIdeal : Cert.PairSumRefIdeal.Facts) (hPre_up_finite : Cert.Pre_up_finite.Facts) (hPre_act_finite : Cert.Pre_act_finite.Facts) (hPre_loss_finite : Cert.Pre_loss_finite.Facts) (hPre_dx_finite : Cert.Pre_dx_finite.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpIdeal_pre_up_finite (hFfnUpIdeal := hFfnUpIdeal) (hPre_up_finite := hPre_up_finite)
    ∧ quiescent_FfnUpRefIdeal (hFfnUpRefIdeal := hFfnUpRefIdeal)
    ∧ quiescent_FfnUpRefIdeal_pre_up_finite (hFfnUpRefIdeal := hFfnUpRefIdeal) (hPre_up_finite := hPre_up_finite)
    ∧ quiescent_ActBwd (hActBwd := hActBwd)
    ∧ quiescent_ActBwdIdeal (hActBwdIdeal := hActBwdIdeal)
    ∧ quiescent_ActBwdIdeal_pre_act_finite (hActBwdIdeal := hActBwdIdeal) (hPre_act_finite := hPre_act_finite)
    ∧ quiescent_ActBwdRefIdeal (hActBwdRefIdeal := hActBwdRefIdeal)
    ∧ quiescent_ActBwdRefIdeal_pre_act_finite (hActBwdRefIdeal := hActBwdRefIdeal) (hPre_act_finite := hPre_act_finite)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_UpGradSum (hUpGradSum := hUpGradSum)
    ∧ quiescent_UpGradSumIdeal (hUpGradSumIdeal := hUpGradSumIdeal)
    ∧ quiescent_UpGradSumRefIdeal (hUpGradSumRefIdeal := hUpGradSumRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_DownGradSum (hDownGradSum := hDownGradSum)
    ∧ quiescent_DownGradSumIdeal (hDownGradSumIdeal := hDownGradSumIdeal)
    ∧ quiescent_DownGradSumRefIdeal (hDownGradSumRefIdeal := hDownGradSumRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InDx (hInDx := hInDx)
    ∧ quiescent_InDxIdeal (hInDxIdeal := hInDxIdeal)
    ∧ quiescent_InDxRefIdeal (hInDxRefIdeal := hInDxRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_ParamsBwd (hParamsBwd := hParamsBwd)
    ∧ quiescent_ParamsBwdIdeal (hParamsBwdIdeal := hParamsBwdIdeal)
    ∧ quiescent_ParamsBwdRefIdeal (hParamsBwdRefIdeal := hParamsBwdRefIdeal)
    ∧ quiescent_Params (hParams := hParams)
    ∧ quiescent_ParamsIdeal (hParamsIdeal := hParamsIdeal)
    ∧ quiescent_ParamsRefIdeal (hParamsRefIdeal := hParamsRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_Mix (hMix := hMix)
    ∧ quiescent_MixIdeal (hMixIdeal := hMixIdeal)
    ∧ quiescent_MixRefIdeal (hMixRefIdeal := hMixRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Scan (hScan := hScan)
    ∧ quiescent_ScanIdeal (hScanIdeal := hScanIdeal)
    ∧ quiescent_ScanBwd (hScanBwd := hScanBwd)
    ∧ quiescent_ScanBwdIdeal (hScanBwdIdeal := hScanBwdIdeal)
    ∧ quiescent_LossLn (hLossLn := hLossLn)
    ∧ quiescent_LossLnIdeal (hLossLnIdeal := hLossLnIdeal)
    ∧ quiescent_LossLnIdeal_pre_loss_finite (hLossLnIdeal := hLossLnIdeal) (hPre_loss_finite := hPre_loss_finite)
    ∧ quiescent_LossLnRefIdeal (hLossLnRefIdeal := hLossLnRefIdeal)
    ∧ quiescent_LossLnRefIdeal_pre_loss_finite (hLossLnRefIdeal := hLossLnRefIdeal) (hPre_loss_finite := hPre_loss_finite)
    ∧ quiescent_DxLn (hDxLn := hDxLn)
    ∧ quiescent_DxLnIdeal (hDxLnIdeal := hDxLnIdeal)
    ∧ quiescent_DxLnIdeal_pre_dx_finite (hDxLnIdeal := hDxLnIdeal) (hPre_dx_finite := hPre_dx_finite)
    ∧ quiescent_DxLnRefIdeal (hDxLnRefIdeal := hDxLnRefIdeal)
    ∧ quiescent_DxLnRefIdeal_pre_dx_finite (hDxLnRefIdeal := hDxLnRefIdeal) (hPre_dx_finite := hPre_dx_finite)
    ∧ quiescent_ResLn (hResLn := hResLn)
    ∧ quiescent_ResLnIdeal (hResLnIdeal := hResLnIdeal)
    ∧ quiescent_ResLnRefIdeal (hResLnRefIdeal := hResLnRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Reduce (hReduce := hReduce)
    ∧ quiescent_ReduceIdeal (hReduceIdeal := hReduceIdeal)
    ∧ quiescent_ReduceRefIdeal (hReduceRefIdeal := hReduceRefIdeal)
    ∧ quiescent_DxRes (hDxRes := hDxRes)
    ∧ quiescent_DxResIdeal (hDxResIdeal := hDxResIdeal)
    ∧ quiescent_DxResRefIdeal (hDxResRefIdeal := hDxResRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwGlu (hAdamwGlu := hAdamwGlu)
    ∧ quiescent_AdamwGluIdeal (hAdamwGluIdeal := hAdamwGluIdeal)
    ∧ quiescent_AdamwGluRefIdeal (hAdamwGluRefIdeal := hAdamwGluRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpRefIdeal_pre_up_finite (hFfnUpIdeal := hFfnUpIdeal) (hFfnUpRefIdeal := hFfnUpRefIdeal) (hPre_up_finite := hPre_up_finite)
    ∧ preserves_ActBwd_ActBwdIdeal
    ∧ algebraic_ActBwdIdeal_ActBwdRefIdeal_pre_act_finite (hActBwdIdeal := hActBwdIdeal) (hActBwdRefIdeal := hActBwdRefIdeal) (hPre_act_finite := hPre_act_finite)
    ∧ preserves_UpGrad_UpGradIdeal
    ∧ algebraic_UpGradIdeal_UpGradRefIdeal (hUpGradIdeal := hUpGradIdeal) (hUpGradRefIdeal := hUpGradRefIdeal)
    ∧ preserves_UpGradSum_UpGradSumIdeal
    ∧ algebraic_UpGradSumIdeal_UpGradSumRefIdeal (hUpGradSumIdeal := hUpGradSumIdeal) (hUpGradSumRefIdeal := hUpGradSumRefIdeal)
    ∧ preserves_DownGrad_DownGradIdeal
    ∧ algebraic_DownGradIdeal_DownGradRefIdeal (hDownGradIdeal := hDownGradIdeal) (hDownGradRefIdeal := hDownGradRefIdeal)
    ∧ preserves_DownGradSum_DownGradSumIdeal
    ∧ algebraic_DownGradSumIdeal_DownGradSumRefIdeal (hDownGradSumIdeal := hDownGradSumIdeal) (hDownGradSumRefIdeal := hDownGradSumRefIdeal)
    ∧ preserves_FfnDx_FfnDxIdeal
    ∧ algebraic_FfnDxIdeal_FfnDxRefIdeal (hFfnDxIdeal := hFfnDxIdeal) (hFfnDxRefIdeal := hFfnDxRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_InGrad_InGradIdeal
    ∧ algebraic_InGradIdeal_InGradRefIdeal (hInGradIdeal := hInGradIdeal) (hInGradRefIdeal := hInGradRefIdeal)
    ∧ preserves_InDx_InDxIdeal
    ∧ algebraic_InDxIdeal_InDxRefIdeal (hInDxIdeal := hInDxIdeal) (hInDxRefIdeal := hInDxRefIdeal)
    ∧ preserves_OutProj_OutProjIdeal
    ∧ algebraic_OutProjIdeal_OutProjRefIdeal (hOutProjIdeal := hOutProjIdeal) (hOutProjRefIdeal := hOutProjRefIdeal)
    ∧ preserves_OutGrad_OutGradIdeal
    ∧ algebraic_OutGradIdeal_OutGradRefIdeal (hOutGradIdeal := hOutGradIdeal) (hOutGradRefIdeal := hOutGradRefIdeal)
    ∧ preserves_OutDx_OutDxIdeal
    ∧ algebraic_OutDxIdeal_OutDxRefIdeal (hOutDxIdeal := hOutDxIdeal) (hOutDxRefIdeal := hOutDxRefIdeal)
    ∧ preserves_ParamsBwd_ParamsBwdIdeal
    ∧ algebraic_ParamsBwdIdeal_ParamsBwdRefIdeal (hParamsBwdIdeal := hParamsBwdIdeal) (hParamsBwdRefIdeal := hParamsBwdRefIdeal)
    ∧ preserves_Params_ParamsIdeal
    ∧ algebraic_ParamsIdeal_ParamsRefIdeal (hParamsIdeal := hParamsIdeal) (hParamsRefIdeal := hParamsRefIdeal)
    ∧ preserves_MixBwd_MixBwdIdeal
    ∧ algebraic_MixBwdIdeal_MixBwdRefIdeal (hMixBwdIdeal := hMixBwdIdeal) (hMixBwdRefIdeal := hMixBwdRefIdeal)
    ∧ preserves_Mix_MixIdeal
    ∧ algebraic_MixIdeal_MixRefIdeal (hMixIdeal := hMixIdeal) (hMixRefIdeal := hMixRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Scan_ScanIdeal
    ∧ preserves_ScanBwd_ScanBwdIdeal
    ∧ preserves_LossLn_LossLnIdeal
    ∧ algebraic_LossLnIdeal_LossLnRefIdeal_pre_loss_finite (hLossLnIdeal := hLossLnIdeal) (hLossLnRefIdeal := hLossLnRefIdeal) (hPre_loss_finite := hPre_loss_finite)
    ∧ preserves_DxLn_DxLnIdeal
    ∧ algebraic_DxLnIdeal_DxLnRefIdeal_pre_dx_finite (hDxLnIdeal := hDxLnIdeal) (hDxLnRefIdeal := hDxLnRefIdeal) (hPre_dx_finite := hPre_dx_finite)
    ∧ preserves_ResLn_ResLnIdeal
    ∧ algebraic_ResLnIdeal_ResLnRefIdeal (hResLnIdeal := hResLnIdeal) (hResLnRefIdeal := hResLnRefIdeal)
    ∧ preserves_Adamw_AdamwIdeal
    ∧ algebraic_AdamwIdeal_AdamwRefIdeal (hAdamwIdeal := hAdamwIdeal) (hAdamwRefIdeal := hAdamwRefIdeal)
    ∧ preserves_Reduce_ReduceIdeal
    ∧ algebraic_ReduceIdeal_ReduceRefIdeal (hReduceIdeal := hReduceIdeal) (hReduceRefIdeal := hReduceRefIdeal)
    ∧ preserves_DxRes_DxResIdeal
    ∧ algebraic_DxResIdeal_DxResRefIdeal (hDxResIdeal := hDxResIdeal) (hDxResRefIdeal := hDxResRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwGlu_AdamwGluIdeal
    ∧ algebraic_AdamwGluIdeal_AdamwGluRefIdeal (hAdamwGluIdeal := hAdamwGluIdeal) (hAdamwGluRefIdeal := hAdamwGluRefIdeal)
    ∧ preserves_PairSum_PairSumIdeal
    ∧ algebraic_PairSumIdeal_PairSumRefIdeal (hPairSumIdeal := hPairSumIdeal) (hPairSumRefIdeal := hPairSumRefIdeal)
-- ==== Pre_act_finite.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn {F : FTy → Type} [FloatOps F] (main_arg0 : FVec F S2048x2048 .f32) (main_arg1 : FVec F S5632x2048 .f32) (main_arg2 : FVec F S2048x5632 .f32) (main_arg3 : FVec F S2048x5632 .f32) : IVec S2048x2048 1 × IVec S5632x2048 1 × IVec S2048x5632 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S2048x5632 .f32 := Host.absf main_arg3
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  (main_v2, main_v5, main_v8)
-- ==== Pre_dx_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S2048x2048 .f32) (main_arg3 : FVec F S1x2048 .f32) : IVec S2048x2048 1 × IVec S2048x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg3
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_loss_finite.lean ====
abbrev S2048x2048 : Shape := ⟨2, ![2048, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S1x2048 .f32) (main_arg2 : FVec F S1x2048 .f32) (main_arg3 : FVec F S2048x2048 .f32) : IVec S1x2048 1 × IVec S1x2048 1 × IVec S2048x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg2
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := Host.absf main_arg3
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_up_finite.lean ====
abbrev S2048x2048 : Shape := ⟨2, ![2048, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  bcast_S_S2048x5632 : S_.BroadcastsInDim S2048x5632 (![] : Fin 0 → Fin S2048x5632.rank)

variable [Facts]

def fn {F : FTy → Type} [FloatOps F] (main_arg0 : FVec F S2048x2048 .f32) (main_arg1 : FVec F S2048x5632 .f32) (main_arg2 : FVec F S2048x5632 .f32) : IVec S2048x2048 1 × IVec S2048x5632 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x5632 .f32 := Host.absf main_arg2
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  (main_v2, main_v5)
-- ==== Kernel.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 9
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S3x1024, .f32⟩
  | .hbm, ⟨3, _⟩ => ⟨S1x1024, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S3x1024, .f32⟩
  | .hbm, ⟨8, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x1024 : Shape := ⟨2, ![2048, 1024]⟩
abbrev S2048x4096 : Shape := ⟨2, ![2048, 4096]⟩
abbrev S3x1024 : Shape := ⟨2, ![3, 1024]⟩
abbrev S1x1024 : Shape := ⟨2, ![1, 1024]⟩
abbrev S_ : Shape := ⟨0, ![]⟩
abbrev S2x1024 : Shape := ⟨2, ![2, 1024]⟩
abbrev S2050x1024 : Shape := ⟨2, ![2050, 1024]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S3x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S2050x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S2050x1024, .f32⟩
  | .hbm, ⟨61, _⟩ => ⟨S2050x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S2050x1024, .f32⟩
  | .hbm, ⟨79, _⟩ => ⟨S2050x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S2x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .bf16⟩
  | .hbm, ⟨89, _⟩ => ⟨S2048x1024, .bf16⟩
  | .hbm, ⟨90, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== FfnUp.lean ====
abbrev S2048x2048 : Shape := ⟨2, ![2048, 2048]⟩
abbrev S2048x5632 : Shape := ⟨2, ![2048, 5632]⟩
abbrev S5632x2048 : Shape := ⟨2, ![5632, 2048]⟩
abbrev S256x2048 : Shape := ⟨2, ![256, 2048]⟩
abbrev S2048x256 : Shape := ⟨2, ![2048, 256]⟩

abbrev nBuf : Space → Nat
  | .hbm => 11
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S5632x2048, .f32⟩
  | .hbm, ⟨5, _⟩ => ⟨S5632x2048, .bf16⟩
  | .hbm, ⟨6, _⟩ => ⟨S5632x2048, .f32⟩
  | .hbm, ⟨7, _⟩ => ⟨S5632x2048, .bf16⟩
  | .hbm, ⟨8, _⟩ => ⟨S2048x5632, .bf16⟩
  | .hbm, ⟨9, _⟩ => ⟨S2048x5632, .bf16⟩
  | .hbm, ⟨10, _⟩ => ⟨S2048x5632, .bf16⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .bf16⟩
  | .hbm, ⟨28, _⟩ => ⟨S2048x5632, .bf16⟩
  | .hbm, ⟨29, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== ActBwd.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩
abbrev S256x2048 : Shape := ⟨2, ![256, 2048]⟩
abbrev S2048x256 : Shape := ⟨2, ![2048, 256]⟩

abbrev nBuf : Space → Nat
  | .hbm => 32
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x2048, .bf16⟩
  | .hbm, ⟨27, _⟩ => ⟨S5632x2048, .bf16⟩
  | .hbm, ⟨28, _⟩ => ⟨S2048x5632, .bf16⟩
  | .hbm, ⟨29, _⟩ => ⟨S2048x5632, .bf16⟩
  | .hbm, ⟨30, _⟩ => ⟨S2048x5632, .bf16⟩
  | .hbm, ⟨31, _⟩ => ⟨S2048x5632, .bf16⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActBwdRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .bf16⟩
  | .hbm, ⟨33, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== UpGrad.lean ====
abbrev S2048x5632 : Shape := ⟨2, ![2048, 5632]⟩
abbrev S2048x2048 : Shape := ⟨2, ![2048, 2048]⟩
abbrev S2816x2048 : Shape := ⟨2, ![2816, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S2816x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpGradRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S2816x2048 : Shape := ⟨2, ![2816, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .f32⟩
  | .hbm, ⟨7, _⟩ => ⟨S5632x2048, .f32⟩
  | .hbm, ⟨8, _⟩ => ⟨S2816x2048, .f32⟩
  | .hbm, ⟨9, _⟩ => ⟨S2816x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpGradSum.lean ====
abbrev S2048x5632 : Shape := ⟨2, ![2048, 5632]⟩
abbrev S2048x2048 : Shape := ⟨2, ![2048, 2048]⟩
abbrev S2816x2048 : Shape := ⟨2, ![2816, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2816x2048, .f32⟩
  | .hbm, ⟨3, _⟩ => ⟨S2048x5632, .bf16⟩
  | .hbm, ⟨4, _⟩ => ⟨S2048x2048, .bf16⟩
  | .hbm, ⟨5, _⟩ => ⟨S2816x2048, .bf16⟩
  | .hbm, ⟨6, _⟩ => ⟨S2816x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpGradSumRefIdeal.lean ====
abbrev S2048x5632 : Shape := ⟨2, ![2048, 5632]⟩
abbrev S2048x2048 : Shape := ⟨2, ![2048, 2048]⟩
abbrev S2816x2048 : Shape := ⟨2, ![2816, 2048]⟩
abbrev S_ : Shape := ⟨0, ![]⟩
abbrev S5632x2048 : Shape := ⟨2, ![5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2816x2048, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S5632x2048, .f32⟩
  | .hbm, ⟨9, _⟩ => ⟨S2816x2048, .f32⟩
  | .hbm, ⟨10, _⟩ => ⟨S2816x2048, .f32⟩
  | .hbm, ⟨11, _⟩ => ⟨S2816x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownGrad.lean ====
abbrev S2048x5632 : Shape := ⟨2, ![2048, 5632]⟩
abbrev S2048x2048 : Shape := ⟨2, ![2048, 2048]⟩
abbrev S2816x2048 : Shape := ⟨2, ![2816, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S2816x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownGradRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S2816x2048 : Shape := ⟨2, ![2816, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x5632, .f32⟩
  | .hbm, ⟨12, _⟩ => ⟨S5632x2048, .f32⟩
  | .hbm, ⟨13, _⟩ => ⟨S2816x2048, .f32⟩
  | .hbm, ⟨14, _⟩ => ⟨S2816x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DownGradSum.lean ====
abbrev S2048x5632 : Shape := ⟨2, ![2048, 5632]⟩
abbrev S2048x2048 : Shape := ⟨2, ![2048, 2048]⟩
abbrev S2816x2048 : Shape := ⟨2, ![2816, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2816x2048, .f32⟩
  | .hbm, ⟨3, _⟩ => ⟨S2048x5632, .bf16⟩
  | .hbm, ⟨4, _⟩ => ⟨S2048x2048, .bf16⟩
  | .hbm, ⟨5, _⟩ => ⟨S2816x2048, .bf16⟩
  | .hbm, ⟨6, _⟩ => ⟨S2816x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownGradSumRefIdeal.lean ====
abbrev S2048x5632 : Shape := ⟨2, ![2048, 5632]⟩
abbrev S2048x2048 : Shape := ⟨2, ![2048, 2048]⟩
abbrev S2816x2048 : Shape := ⟨2, ![2816, 2048]⟩
abbrev S_ : Shape := ⟨0, ![]⟩
abbrev S5632x2048 : Shape := ⟨2, ![5632, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2816x2048, .f32⟩
  | .hbm, ⟨3, _⟩ => ⟨S_, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x5632, .f32⟩
  | .hbm, ⟨13, _⟩ => ⟨S5632x2048, .f32⟩
  | .hbm, ⟨14, _⟩ => ⟨S2816x2048, .f32⟩
  | .hbm, ⟨15, _⟩ => ⟨S2816x2048, .f32⟩
  | .hbm, ⟨16, _⟩ => ⟨S2816x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== FfnDx.lean ====
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 11
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S5632x2048, .f32⟩
  | .hbm, ⟨6, _⟩ => ⟨S5632x2048, .bf16⟩
  | .hbm, ⟨7, _⟩ => ⟨S2048x5632, .bf16⟩
  | .hbm, ⟨8, _⟩ => ⟨S5632x2048, .f32⟩
  | .hbm, ⟨9, _⟩ => ⟨S5632x2048, .bf16⟩
  | .hbm, ⟨10, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FfnDxRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InProj.lean ====
abbrev S2048x2048 : Shape := ⟨2, ![2048, 2048]⟩
abbrev S2048x4096 : Shape := ⟨2, ![2048, 4096]⟩
abbrev S4096x2048 : Shape := ⟨2, ![4096, 2048]⟩
abbrev S256x2048 : Shape := ⟨2, ![256, 2048]⟩
abbrev S2048x256 : Shape := ⟨2, ![2048, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .bf16⟩
  | .hbm, ⟨3, _⟩ => ⟨S4096x2048, .f32⟩
  | .hbm, ⟨4, _⟩ => ⟨S4096x2048, .bf16⟩
  | .hbm, ⟨5, _⟩ => ⟨S2048x4096, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2048x2048 : Shape := ⟨2, ![2048, 2048]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InGrad.lean ====
abbrev S2048x4096 : Shape := ⟨2, ![2048, 4096]⟩
abbrev S2048x2048 : Shape := ⟨2, ![2048, 2048]⟩
abbrev S4096x2048 : Shape := ⟨2, ![4096, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x4096, .bf16⟩
  | .hbm, ⟨3, _⟩ => ⟨S2048x2048, .bf16⟩
  | .hbm, ⟨4, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGradRefIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S4096x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S2048x4096 : Shape := ⟨2, ![2048, 4096]⟩
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .bf16⟩
  | .hbm, ⟨3, _⟩ => ⟨S4096x2048, .f32⟩
  | .hbm, ⟨4, _⟩ => ⟨S4096x2048, .bf16⟩
  | .hbm, ⟨5, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== InDxRefIdeal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S_, .f32⟩
  | .hbm, ⟨3, _⟩ => ⟨S2048x2048, .f32⟩
  | .hbm, ⟨4, _⟩ => ⟨S2048x4096, .f32⟩
  | .hbm, ⟨5, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProj.lean ====
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutProjRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutGrad.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutGradRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .f32⟩
  | .local _ .vmem, ⟨4, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ParamsBwd.lean ====
abbrev S4x64x64 : Shape := ⟨3, ![4, 64, 64]⟩
abbrev S4x64 : Shape := ⟨2, ![4, 64]⟩
abbrev S4x64x64x16 : Shape := ⟨4, ![4, 64, 64, 16]⟩
abbrev S256x64 : Shape := ⟨2, ![256, 64]⟩
abbrev S256x1 : Shape := ⟨2, ![256, 1]⟩
abbrev S16x4x64x64 : Shape := ⟨4, ![16, 4, 64, 64]⟩
abbrev S16x256x64 : Shape := ⟨3, ![16, 256, 64]⟩
abbrev S1x256x64 : Shape := ⟨3, ![1, 256, 64]⟩
abbrev S256 : Shape := ⟨1, ![256]⟩

abbrev nBuf : Space → Nat
  | .hbm => 27
  | .vmem => 14
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S4x64x64x16, .f32⟩
  | .hbm, ⟨4, _⟩ => ⟨S4x64x64x16, .f32⟩
  | .hbm, ⟨5, _⟩ => ⟨S4x64x64, .f32⟩
  | .hbm, ⟨6, _⟩ => ⟨S4x64x64, .f32⟩
  | .hbm, ⟨7, _⟩ => ⟨S4x64x64x16, .f32⟩
  | .hbm, ⟨8, _⟩ => ⟨S4x64x64x16, .f32⟩
  | .hbm, ⟨9, _⟩ => ⟨S256x64, .f32⟩
  | .hbm, ⟨10, _⟩ => ⟨S256x64, .f32⟩
  | .hbm, ⟨11, _⟩ => ⟨S256x1, .f32⟩
  | .hbm, ⟨12, _⟩ => ⟨S16x4x64x64, .f32⟩
  | .hbm, ⟨13, _⟩ => ⟨S16x256x64, .f32⟩
  | .hbm, ⟨14, _⟩ => ⟨S16x4x64x64, .f32⟩
  | .hbm, ⟨15, _⟩ => ⟨S16x256x64, .f32⟩
  | .hbm, ⟨16, _⟩ => ⟨S256x64, .f32⟩
  | .hbm, ⟨17, _⟩ => ⟨S256x64, .f32⟩
  | .hbm, ⟨18, _⟩ => ⟨S16x4x64x64, .f32⟩
  | .hbm, ⟨19, _⟩ => ⟨S16x256x64, .f32⟩
  | .hbm, ⟨20, _⟩ => ⟨S16x4x64x64, .f32⟩
  | .hbm, ⟨21, _⟩ => ⟨S16x256x64, .f32⟩
  | .hbm, ⟨22, _⟩ => ⟨S256x64, .f32⟩
  | .hbm, ⟨23, _⟩ => ⟨S256x64, .f32⟩
  | .hbm, ⟨24, _⟩ => ⟨S256x1, .f32⟩
  | .hbm, ⟨25, _⟩ => ⟨S16x256x64, .f32⟩
  | .hbm, ⟨26, _⟩ => ⟨S16x256x64, .f32⟩
  | .local _ .vmem, ⟨0, _⟩ => ⟨S256x64, .f32⟩
  | .local _ .vmem, ⟨1, _⟩ => ⟨S256x64, .f32⟩
  | .local _ .vmem, ⟨2, _⟩ => ⟨S256x1, .f32⟩
  | .local _ .vmem, ⟨3, _⟩ => ⟨S16x256x64, .f32⟩
  | .local _ .vmem, ⟨4, _⟩ => ⟨S16x256x64, .f32⟩
  | .local _ .vmem, ⟨5, _⟩ => ⟨S256x64, .f32⟩
  | .local _ .vmem, ⟨6, _⟩ => ⟨S256x64, .f32⟩
  | .local _ .vmem, ⟨7, _⟩ => ⟨S16x256x64, .f32⟩
  | .local _ .vmem, ⟨8, _⟩ => ⟨S16x256x64, .f32⟩
  | .local _ .vmem, ⟨9, _⟩ => ⟨S256x64, .f32⟩
  | .local _ .vmem, ⟨10, _⟩ => ⟨S256x64, .f32⟩
  | .local _ .vmem, ⟨11, _⟩ => ⟨S256x1, .f32⟩
  | .local _ .vmem, ⟨12, _⟩ => ⟨S16x256x64, .f32⟩
  | .local _ .vmem, ⟨13, _⟩ => ⟨S16x256x64, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x256x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ParamsBwdRefIdeal.lean ====
abbrev S4x64x64 : Shape := ⟨3, ![4, 64, 64]⟩
abbrev S4x64 : Shape := ⟨2, ![4, 64]⟩
abbrev S4x64x64x16 : Shape := ⟨4, ![4, 64, 64, 16]⟩
abbrev S4x64x1 : Shape := ⟨3, ![4, 64, 1]⟩
abbrev S_ : Shape := ⟨0, ![]⟩
abbrev S4x64x64x1 : Shape := ⟨4, ![4, 64, 64, 1]⟩
abbrev S256x64 : Shape := ⟨2, ![256, 64]⟩
abbrev S256x1 : Shape := ⟨2, ![256, 1]⟩
abbrev S16x4x64x64 : Shape := ⟨4, ![16, 4, 64, 64]⟩
abbrev S16x256x64 : Shape := ⟨3, ![16, 256, 64]⟩

abbrev nBuf : Space → Nat
  | .hbm => 165
  | .vmem => 0
  | .smem => 0
  | _ => 0

abbrev hbmTy0_0 (i : Nat) : BufTy := match i % 128 with
  | 0 => ⟨S4x64x64, .f32⟩
  | 1 => ⟨S4x64x64, .f32⟩
  | 2 => ⟨S4x64, .f32⟩
  | 3 => ⟨S4x64x64x16, .f32⟩
  | 4 => ⟨S4x64x64x16, .f32⟩
  | 5 => ⟨S4x64x64, .f32⟩
  | 6 => ⟨S4x64x64, .f32⟩
  | 7 => ⟨S4x64x64x16, .f32⟩
  | 8 => ⟨S4x64x64x16, .f32⟩
  | 9 => ⟨S4x64, .f32⟩
  | 10 => ⟨S4x64x1, .f32⟩
  | 11 => ⟨S4x64x64, .f32⟩
  | 12 => ⟨S4x64x64, .f32⟩
  | 13 => ⟨S4x64x64, .f32⟩
  | 14 => ⟨S4x64x64, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S_, .f32⟩
  | 26 => ⟨S4x64x64, .f32⟩
  | 27 => ⟨S4x64x64, .f32⟩
  | 28 => ⟨S4x64x64, .f32⟩
  | 29 => ⟨S4x64x64, .f32⟩
  | 30 => ⟨S4x64x64, .f32⟩
  | 31 => ⟨S4x64x64, .f32⟩
  | 32 => ⟨S4x64x64, .f32⟩
  | 33 => ⟨S_, .f32⟩
  | 34 => ⟨S4x64x64, .f32⟩
  | 35 => ⟨S4x64x64, .f32⟩
  | 36 => ⟨S4x64x64, .f32⟩
  | 37 => ⟨S4x64x64, .f32⟩
  | 38 => ⟨S4x64x64, .f32⟩
  | 39 => ⟨S4x64x64, .f32⟩
  | 40 => ⟨S4x64x64, .f32⟩
  | 41 => ⟨S_, .f32⟩
  | 42 => ⟨S4x64x64, .f32⟩
  | 43 => ⟨S4x64x64, .f32⟩
  | 44 => ⟨S4x64x64x1, .f32⟩
  | 45 => ⟨S4x64x64x16, .f32⟩
  | 46 => ⟨S4x64x64x16, .f32⟩
  | 47 => ⟨S4x64x64x1, .f32⟩
  | 48 => ⟨S4x64x64x16, .f32⟩
  | 49 => ⟨S4x64x64x16, .f32⟩
  | 50 => ⟨S4x64x64x16, .f32⟩
  | 51 => ⟨S4x64x64x1, .f32⟩
  | 52 => ⟨S4x64x64x16, .f32⟩
  | 53 => ⟨S4x64x64x16, .f32⟩
  | 54 => ⟨S4x64x64x1, .f32⟩
  | 55 => ⟨S4x64x64x16, .f32⟩
  | 56 => ⟨S4x64x64x16, .f32⟩
  | 57 => ⟨S4x64x64x16, .f32⟩
  | 58 => ⟨S4x64x64x16, .f32⟩
  | 59 => ⟨S4x64x64x16, .f32⟩
  | 60 => ⟨S4x64x64x16, .f32⟩
  | 61 => ⟨S4x64x64x16, .f32⟩
  | 62 => ⟨S4x64x64x16, .f32⟩
  | 63 => ⟨S_, .f32⟩
  | 64 => ⟨S4x64x64, .f32⟩
  | 65 => ⟨S4x64x64x1, .f32⟩
  | 66 => ⟨S_, .f32⟩
  | 67 => ⟨S4x64x64, .f32⟩
  | 68 => ⟨S4x64x64x16, .f32⟩
  | 69 => ⟨S4x64x64x16, .f32⟩
  | 70 => ⟨S4x64x64x16, .f32⟩
  | 71 => ⟨S_, .f32⟩
  | 72 => ⟨S4x64x64, .f32⟩
  | 73 => ⟨S4x64x64x1, .f32⟩
  | 74 => ⟨S_, .f32⟩
  | 75 => ⟨S4x64x64, .f32⟩
  | 76 => ⟨S4x64x64x16, .f32⟩
  | 77 => ⟨S4x64x64x16, .f32⟩
  | 78 => ⟨S4x64x64x16, .f32⟩
  | 79 => ⟨S4x64x64x16, .f32⟩
  | 80 => ⟨S4x64x64x16, .f32⟩
  | 81 => ⟨S4x64x64x16, .f32⟩
  | 82 => ⟨S_, .f32⟩
  | 83 => ⟨S4x64x64, .f32⟩
  | 84 => ⟨S4x64x64x1, .f32⟩
  | 85 => ⟨S_, .f32⟩
  | 86 => ⟨S4x64x64, .f32⟩
  | 87 => ⟨S4x64x64, .f32⟩
  | 88 => ⟨S4x64x64x16, .f32⟩
  | 89 => ⟨S4x64x64x16, .f32⟩
  | 90 => ⟨S4x64x64x16, .f32⟩
  | 91 => ⟨S4x64x64x16, .f32⟩
  | 92 => ⟨S_, .f32⟩
  | 93 => ⟨S4x64x64, .f32⟩
  | 94 => ⟨S4x64x64x1, .f32⟩
  | 95 => ⟨S_, .f32⟩
  | 96 => ⟨S4x64x64, .f32⟩
  | 97 => ⟨S4x64x64, .f32⟩
  | 98 => ⟨S4x64x64, .f32⟩
  | 99 => ⟨S4x64x64, .f32⟩
  | 100 => ⟨S4x64x64, .f32⟩
  | 101 => ⟨S4x64x64, .f32⟩
  | 102 => ⟨S4x64x64, .f32⟩
  | 103 => ⟨S4x64x64, .f32⟩
  | 104 => ⟨S4x64x64, .f32⟩
  | 105 => ⟨S4x64x64, .f32⟩
  | 106 => ⟨S4x64x64, .f32⟩
  | 107 => ⟨S4x64x64, .f32⟩
  | 108 => ⟨S4x64x64, .f32⟩
  | 109 => ⟨S4x64x64, .f32⟩
  | 110 => ⟨S4x64x64, .f32⟩
  | 111 => ⟨S4x64x64, .f32⟩
  | 112 => ⟨S4x64x64, .f32⟩
  | 113 => ⟨S4x64x64, .f32⟩
  | 114 => ⟨S4x64x64, .f32⟩
  | 115 => ⟨S4x64x64, .f32⟩
  | 116 => ⟨S4x64x64, .f32⟩
  | 117 => ⟨S4x64x64, .f32⟩
  | 118 => ⟨S4x64x64, .f32⟩
  | 119 => ⟨S4x64x64, .f32⟩
  | 120 => ⟨S4x64x64, .f32⟩
  | 121 => ⟨S4x64x64, .f32⟩
  | 122 => ⟨S4x64x64, .f32⟩
  | 123 => ⟨S4x64x64, .f32⟩
  | 124 => ⟨S4x64x64, .f32⟩
  | 125 => ⟨S4x64x64, .f32⟩
  | 126 => ⟨S4x64x64, .f32⟩
  | 127 => ⟨S4x64x64, .f32⟩
  | _ => ⟨S4x64x64, .f32⟩

abbrev hbmTy0_1 (i : Nat) : BufTy := match i % 128 with
  | 0 => ⟨S4x64x64, .f32⟩
  | 1 => ⟨S4x64x64, .f32⟩
  | 2 => ⟨S4x64x64, .f32⟩
  | 3 => ⟨S4x64x64, .f32⟩
  | 4 => ⟨S4x64x64, .f32⟩
  | 5 => ⟨S4x64x64, .f32⟩
  | 6 => ⟨S4x64x64, .f32⟩
  | 7 => ⟨S4x64x64, .f32⟩
  | 8 => ⟨S4x64x64, .f32⟩
  | 9 => ⟨S4x64x64, .f32⟩
  | 10 => ⟨S4x64x64, .f32⟩
  | 11 => ⟨S4x64x64, .f32⟩
  | 12 => ⟨S_, .f32⟩
  | 13 => ⟨S4x64, .f32⟩
  | 14 => ⟨S4x64x1, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S_, .f32⟩
  | 21 => ⟨S4x64, .f32⟩
  | 22 => ⟨S4x64x1, .f32⟩
  | 23 => ⟨S4x64x1, .f32⟩
  | 24 => ⟨S4x64x64, .f32⟩
  | 25 => ⟨S4x64x64, .f32⟩
  | 26 => ⟨S4x64x64, .f32⟩
  | 27 => ⟨S_, .f32⟩
  | 28 => ⟨S4x64, .f32⟩
  | 29 => ⟨S4x64, .f32⟩
  | 30 => ⟨S256x64, .f32⟩
  | 31 => ⟨S256x64, .f32⟩
  | 32 => ⟨S256x1, .f32⟩
  | 33 => ⟨S16x4x64x64, .f32⟩
  | 34 => ⟨S16x256x64, .f32⟩
  | 35 => ⟨S16x4x64x64, .f32⟩
  | 36 => ⟨S16x256x64, .f32⟩
  | _ => ⟨S4x64x64, .f32⟩

abbrev hbmTy (i : Nat) : BufTy := match i / 128 with
  | 0 => hbmTy0_0 i
  | 1 => hbmTy0_1 i
  | _ => ⟨S4x64x64, .f32⟩

abbrev bufTy : (tb : Table) → Fin (tcTables nBuf tb) → BufTy
  | .hbm, ⟨i, _⟩ => hbmTy i
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_10 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_12 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩

abbrev nD : Nat := 1
abbrev τ : Topo := Topo.v7x

variable {F : FTy → Type} [FloatOps F]
-- ==== Params.lean ====
abbrev S4x64x64 : Shape := ⟨3, ![4, 64, 64]⟩
abbrev S4x64 : Shape := ⟨2, ![4, 64]⟩
abbrev S4x64x64x16 : Shape := ⟨4, ![4, 64, 64, 16]⟩
abbrev S256x64 : Shape := ⟨2, ![256, 64]⟩
abbrev S256x1 : Shape := ⟨2, ![256, 1]⟩
abbrev S16x4x64x64 : Shape := ⟨4, ![16, 4, 64, 64]⟩
abbrev S16x256x64 : Shape := ⟨3, ![16, 256, 64]⟩
abbrev S1x256x64 : Shape := ⟨3, ![1, 256, 64]⟩

abbrev nBuf : Space → Nat
  | .hbm => 16
  | .vmem => 9
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S4x64x64x16, .f32⟩
  | .hbm, ⟨4, _⟩ => ⟨S4x64x64x16, .f32⟩
  | .hbm, ⟨5, _⟩ => ⟨S256x64, .f32⟩
  | .hbm, ⟨6, _⟩ => ⟨S256x64, .f32⟩
  | .hbm, ⟨7, _⟩ => ⟨S256x1, .f32⟩
  | .hbm, ⟨8, _⟩ => ⟨S16x4x64x64, .f32⟩
  | .hbm, ⟨9, _⟩ => ⟨S16x256x64, .f32⟩
  | .hbm, ⟨10, _⟩ => ⟨S16x4x64x64, .f32⟩
  | .hbm, ⟨11, _⟩ => ⟨S16x256x64, .f32⟩
  | .hbm, ⟨12, _⟩ => ⟨S256x64, .f32⟩
  | .hbm, ⟨13, _⟩ => ⟨S256x64, .f32⟩
  | .hbm, ⟨14, _⟩ => ⟨S16x256x64, .f32⟩
  | .hbm, ⟨15, _⟩ => ⟨S16x256x64, .f32⟩
  | .local _ .vmem, ⟨0, _⟩ => ⟨S256x64, .f32⟩
  | .local _ .vmem, ⟨1, _⟩ => ⟨S256x64, .f32⟩
  | .local _ .vmem, ⟨2, _⟩ => ⟨S256x1, .f32⟩
  | .local _ .vmem, ⟨3, _⟩ => ⟨S16x256x64, .f32⟩
  | .local _ .vmem, ⟨4, _⟩ => ⟨S16x256x64, .f32⟩
  | .local _ .vmem, ⟨5, _⟩ => ⟨S256x64, .f32⟩
  | .local _ .vmem, ⟨6, _⟩ => ⟨S256x64, .f32⟩
  | .local _ .vmem, ⟨7, _⟩ => ⟨S16x256x64, .f32⟩
  | .local _ .vmem, ⟨8, _⟩ => ⟨S16x256x64, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ParamsRefIdeal.lean ====
abbrev S4x64x64 : Shape := ⟨3, ![4, 64, 64]⟩
abbrev S4x64 : Shape := ⟨2, ![4, 64]⟩
abbrev S4x64x64x16 : Shape := ⟨4, ![4, 64, 64, 16]⟩
abbrev S4x64x1 : Shape := ⟨3, ![4, 64, 1]⟩
abbrev S_ : Shape := ⟨0, ![]⟩
abbrev S4x64x64x1 : Shape := ⟨4, ![4, 64, 64, 1]⟩
abbrev S256x64 : Shape := ⟨2, ![256, 64]⟩
abbrev S16x4x64x64 : Shape := ⟨4, ![16, 4, 64, 64]⟩
abbrev S16x256x64 : Shape := ⟨3, ![16, 256, 64]⟩

abbrev nBuf : Space → Nat
  | .hbm => 50
  | .vmem => 0
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64, .f32⟩
  | .hbm, ⟨3, _⟩ => ⟨S4x64x64x16, .f32⟩
  | .hbm, ⟨4, _⟩ => ⟨S4x64x64x16, .f32⟩
  | .hbm, ⟨5, _⟩ => ⟨S4x64, .f32⟩
  | .hbm, ⟨6, _⟩ => ⟨S4x64x1, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S4x64x64, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S4x64x64, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S_, .f32⟩
  | .hbm, ⟨20, _⟩ => ⟨S4x64x64, .f32⟩
  | .hbm, ⟨21, _⟩ => ⟨S4x64x64, .f32⟩
  | .hbm, ⟨22, _⟩ => ⟨S4x64x64, .f32⟩
  | .hbm, ⟨23, _⟩ => ⟨S4x64x64, .f32⟩
  | .hbm, ⟨24, _⟩ => ⟨S4x64x64, .f32⟩
  | .hbm, ⟨25, _⟩ => ⟨S4x64x64, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S4x64x64x1, .f32⟩
  | .hbm, ⟨31, _⟩ => ⟨S4x64x64x16, .f32⟩
  | .hbm, ⟨32, _⟩ => ⟨S4x64x64x16, .f32⟩
  | .hbm, ⟨33, _⟩ => ⟨S4x64x64x1, .f32⟩
  | .hbm, ⟨34, _⟩ => ⟨S4x64x64x16, .f32⟩
  | .hbm, ⟨35, _⟩ => ⟨S4x64x64x16, .f32⟩
  | .hbm, ⟨36, _⟩ => ⟨S4x64x64x16, .f32⟩
  | .hbm, ⟨37, _⟩ => ⟨S4x64x64x1, .f32⟩
  | .hbm, ⟨38, _⟩ => ⟨S4x64x64x16, .f32⟩
  | .hbm, ⟨39, _⟩ => ⟨S4x64x64x16, .f32⟩
  | .hbm, ⟨40, _⟩ => ⟨S4x64x64x1, .f32⟩
  | .hbm, ⟨41, _⟩ => ⟨S4x64x64x16, .f32⟩
  | .hbm, ⟨42, _⟩ => ⟨S4x64x64x16, .f32⟩
  | .hbm, ⟨43, _⟩ => ⟨S4x64x64x16, .f32⟩
  | .hbm, ⟨44, _⟩ => ⟨S256x64, .f32⟩
  | .hbm, ⟨45, _⟩ => ⟨S256x64, .f32⟩
  | .hbm, ⟨46, _⟩ => ⟨S16x4x64x64, .f32⟩
  | .hbm, ⟨47, _⟩ => ⟨S16x256x64, .f32⟩
  | .hbm, ⟨48, _⟩ => ⟨S16x4x64x64, .f32⟩
  | .hbm, ⟨49, _⟩ => ⟨S16x256x64, .f32⟩
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== MixBwd.lean ====
abbrev S2048x2048 : Shape := ⟨2, ![2048, 2048]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x1024, .bf16⟩
  | .hbm, ⟨25, _⟩ => ⟨S2048x1024, .f32⟩
  | .hbm, ⟨26, _⟩ => ⟨S2048x1024, .f32⟩
  | .hbm, ⟨27, _⟩ => ⟨S1024x1024, .f32⟩
  | .hbm, ⟨28, _⟩ => ⟨S1x1024, .f32⟩
  | .hbm, ⟨29, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixBwdRefIdeal.lean ====
abbrev S2048x2048 : Shape := ⟨2, ![2048, 2048]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 157
  | .vmem => 0
  | .smem => 0
  | _ => 0

abbrev hbmTy0_0 (i : Nat) : BufTy := match i % 128 with
  | 0 => ⟨S2048x2048, .f32⟩
  | 1 => ⟨S2048x1024, .f32⟩
  | 2 => ⟨S2048x1024, .f32⟩
  | 3 => ⟨S1024x1024, .f32⟩
  | 4 => ⟨S1x1024, .f32⟩
  | 5 => ⟨S1x1024, .f32⟩
  | 6 => ⟨S2048x1024, .f32⟩
  | 7 => ⟨S2048x1024, .f32⟩
  | 8 => ⟨S2048x1024, .f32⟩
  | 9 => ⟨S_, .f32⟩
  | 10 => ⟨S2048x1024, .f32⟩
  | 11 => ⟨S2048x1024, .f32⟩
  | 12 => ⟨S_, .f32⟩
  | 13 => ⟨S2048x1024, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S_, .f32⟩
  | 41 => ⟨S2048x1024, .f32⟩
  | 42 => ⟨S2048x1024, .f32⟩
  | 43 => ⟨S_, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S2048, .f32⟩
  | 70 => ⟨S2048x1, .f32⟩
  | 71 => ⟨S_, .f32⟩
  | 72 => ⟨S2048x1, .f32⟩
  | 73 => ⟨S2048x1, .f32⟩
  | 74 => ⟨S_, .f32⟩
  | 75 => ⟨S2048x1, .f32⟩
  | 76 => ⟨S2048x1, .f32⟩
  | 77 => ⟨S2048x1, .f32⟩
  | 78 => ⟨S2048x1, .f32⟩
  | 79 => ⟨S_, .f32⟩
  | 80 => ⟨S2048x1, .f32⟩
  | 81 => ⟨S2048x1, .f32⟩
  | 82 => ⟨S2048x1024, .f32⟩
  | 83 => ⟨S2048x1024, .f32⟩
  | 84 => ⟨S2048x1024, .f32⟩
  | 85 => ⟨S2048x1024, .f32⟩
  | 86 => ⟨S2048x2048, .f32⟩
  | 87 => ⟨S2048x1024, .f32⟩
  | 88 => ⟨S2048x1024, .f32⟩
  | 89 => ⟨S2048x1024, .f32⟩
  | 90 => ⟨S_, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S_, .f32⟩
  | 97 => ⟨S2048, .f32⟩
  | 98 => ⟨S2048x1, .f32⟩
  | 99 => ⟨S2048x1024, .f32⟩
  | 100 => ⟨S2048x1024, .f32⟩
  | 101 => ⟨S2048x1, .f32⟩
  | 102 => ⟨S_, .f32⟩
  | 103 => ⟨S2048x1, .f32⟩
  | 104 => ⟨S2048x1, .f32⟩
  | 105 => ⟨S_, .f32⟩
  | 106 => ⟨S2048, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S_, .f32⟩
  | 114 => ⟨S1024, .f32⟩
  | 115 => ⟨S1x1024, .f32⟩
  | 116 => ⟨S2048x1024, .f32⟩
  | 117 => ⟨S2048x1024, .f32⟩
  | 118 => ⟨S2048x1024, .f32⟩
  | 119 => ⟨S_, .f32⟩
  | 120 => ⟨S2048, .f32⟩
  | 121 => ⟨S2048x1, .f32⟩
  | 122 => ⟨S2048x1024, .f32⟩
  | 123 => ⟨S2048x1024, .f32⟩
  | 124 => ⟨S2048x1, .f32⟩
  | 125 => ⟨S_, .f32⟩
  | 126 => ⟨S2048x1, .f32⟩
  | 127 => ⟨S2048x1, .f32⟩
  | _ => ⟨S2048x2048, .f32⟩

abbrev hbmTy0_1 (i : Nat) : BufTy := match i % 128 with
  | 0 => ⟨S_, .f32⟩
  | 1 => ⟨S2048, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S1024x1024, .f32⟩
  | 11 => ⟨S1024x1024, .f32⟩
  | 12 => ⟨S2048x1024, .f32⟩
  | 13 => ⟨S2048x1024, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S2048x1024, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_19 : Ref sig .tc := ⟨.hbm, 102, rfl⟩
abbrev main_v76 : Ref sig .tc := ⟨.hbm, 103, rfl⟩
abbrev main_v77 : Ref sig .tc := ⟨.hbm, 104, rfl⟩
abbrev main_cst_20 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_21 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_22 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_23 : Ref sig .tc := ⟨.hbm, 125, rfl⟩
abbrev main_v95 : Ref sig .tc := ⟨.hbm, 126, rfl⟩
abbrev main_v96 : Ref sig .tc := ⟨.hbm, 127, rfl⟩
abbrev main_cst_24 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_26 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_27 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩

abbrev nD : Nat := 1
abbrev τ : Topo := Topo.v7x

variable {F : FTy → Type} [FloatOps F]
-- ==== Mix.lean ====
abbrev S2048x1024 : Shape := ⟨2, ![2048, 1024]⟩
abbrev S1024x1024 : Shape := ⟨2, ![1024, 1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S2048x2048, .bf16⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S256x2048, .bf16⟩
  | .local _ .vmem, ⟨8, _⟩ => ⟨S256x2048, .bf16⟩
  | .local _ .vmem, ⟨9, _⟩ => ⟨S256x1024, .f32⟩
  | .local _ .vmem, ⟨10, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x2048, .f32⟩
  | .hbm, ⟨63, _⟩ => ⟨S2048x2048, .bf16⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== ConvFwd.lean ====
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S3x1024, .f32⟩
  | .hbm, ⟨2, _⟩ => ⟨S1x1024, .f32⟩
  | .hbm, ⟨3, _⟩ => ⟨S2048x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdRefIdeal.lean ====
abbrev S2048x4096 : Shape := ⟨2, ![2048, 4096]⟩
abbrev S3x1024 : Shape := ⟨2, ![3, 1024]⟩
abbrev S1x1024 : Shape := ⟨2, ![1, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1024 : Shape := ⟨1, ![1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S1x1024, .f32⟩
  | .hbm, ⟨11, _⟩ => ⟨S1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Scan.lean ====
abbrev S2048x4096 : Shape := ⟨2, ![2048, 4096]⟩
abbrev S8x128x512 : Shape := ⟨3, ![8, 128, 512]⟩
abbrev S8x512x128 : Shape := ⟨3, ![8, 512, 128]⟩
abbrev S1x4096 : Shape := ⟨2, ![1, 4096]⟩
abbrev S1x1024 : Shape := ⟨2, ![1, 1024]⟩
abbrev S2048x1024 : Shape := ⟨2, ![2048, 1024]⟩
abbrev S256x128 : Shape := ⟨2, ![256, 128]⟩
abbrev S1x128x512 : Shape := ⟨3, ![1, 128, 512]⟩
abbrev S1x512x128 : Shape := ⟨3, ![1, 512, 128]⟩
abbrev S1x512 : Shape := ⟨2, ![1, 512]⟩
abbrev S1x128 : Shape := ⟨2, ![1, 128]⟩
abbrev S256x512 : Shape := ⟨2, ![256, 512]⟩
abbrev S32x512 : Shape := ⟨2, ![32, 512]⟩
abbrev S8x512 : Shape := ⟨2, ![8, 512]⟩
abbrev S8x128 : Shape := ⟨2, ![8, 128]⟩
abbrev S128x512 : Shape := ⟨2, ![128, 512]⟩
abbrev S512x128 : Shape := ⟨2, ![512, 128]⟩

abbrev nBuf : Space → Nat
  | .hbm => 15
  | .vmem => 30
  | .smem => 0
  | _ => 0

abbrev bufTy : (tb : Table) → Fin (tcTables nBuf tb) → BufTy
  | .hbm, ⟨0, _⟩ => ⟨S2048x4096, .f32⟩
  | .hbm, ⟨1, _⟩ => ⟨S8x128x512, .f32⟩
  | .hbm, ⟨2, _⟩ => ⟨S8x128x512, .f32⟩
  | .hbm, ⟨3, _⟩ => ⟨S8x512x128, .f32⟩
  | .hbm, ⟨4, _⟩ => ⟨S8x512x128, .f32⟩
  | .hbm, ⟨5, _⟩ => ⟨S1x4096, .f32⟩
  | .hbm, ⟨6, _⟩ => ⟨S1x4096, .f32⟩
  | .hbm, ⟨7, _⟩ => ⟨S1x1024, .f32⟩
  | .hbm, ⟨8, _⟩ => ⟨S8x128x512, .bf16⟩
  | .hbm, ⟨9, _⟩ => ⟨S8x128x512, .bf16⟩
  | .hbm, ⟨10, _⟩ => ⟨S8x512x128, .bf16⟩
  | .hbm, ⟨11, _⟩ => ⟨S8x512x128, .bf16⟩
  | .hbm, ⟨12, _⟩ => ⟨S2048x1024, .f32⟩
  | .hbm, ⟨13, _⟩ => ⟨S2048x4096, .f32⟩
  | .hbm, ⟨14, _⟩ => ⟨S2048x4096, .f32⟩
  | .local _ .vmem, ⟨0, _⟩ => ⟨S256x128, .f32⟩
  | .local _ .vmem, ⟨1, _⟩ => ⟨S256x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S1x512, .f32⟩
  | .local _ .vmem, ⟨23, _⟩ => ⟨S1x512, .f32⟩
  | .local _ .vmem, ⟨24, _⟩ => ⟨S32x512, .f32⟩
  | .local _ .vmem, ⟨25, _⟩ => ⟨S32x512, .f32⟩
  | .local _ .vmem, ⟨26, _⟩ => ⟨S8x512, .f32⟩
  | .local _ .vmem, ⟨27, _⟩ => ⟨S8x512, .f32⟩
  | .local _ .vmem, ⟨28, _⟩ => ⟨S256x128, .f32⟩
  | .local _ .vmem, ⟨29, _⟩ => ⟨S256x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_3 : BitVec 32 := 0#32
  let v4 : BitVec 1 := Scalar.cmpi .ne v3 c0_i32_3
  v4

@[reducible] def k0_t1_loop : Scf.Loop 32 :=
  let c0_i32_293 : BitVec 32 := 0#32
  let c32_i32_294 : BitVec 32 := 32#32
  let v382 : BitVec 32 := Scalar.addi c0_i32_293 c32_i32_294
  let c1_i32_295 : BitVec 32 := 1#32
  ⟨c0_i32_293, v382, c1_i32_295⟩
def k0_off1 (k0_t1 : Fin k0_t1_loop.trips) : Fin 2 → Nat :=
  let c0_i32_293 : BitVec 32 := 0#32
  let c1_i32_295 : BitVec 32 := 1#32
  let arg21 : BitVec 32 := Scf.iv c0_i32_293 c1_i32_295 k0_t1
  let v384 : Index := Scalar.indexCast arg21
  let c0_297 : Index := 0#32
  ![v384.toNat, 0]
@[reducible] def k0_t2_loop : Scf.Loop 32 :=
  let c1_i32 : BitVec 32 := 1#32
  let c31_i32 : BitVec 32 := 31#32
  let v147 : BitVec 32 := Scalar.addi c1_i32 c31_i32
  let c1_i32_90 : BitVec 32 := 1#32
  ⟨c1_i32, v147, c1_i32_90⟩
def k0_mult1 (k0_t2 : Fin k0_t2_loop.trips) : BitVec 32 :=
  let c1_i32 : BitVec 32 := 1#32
  let c1_i32_90 : BitVec 32 := 1#32
  let arg21 : BitVec 32 := Scf.iv c1_i32 c1_i32_90 k0_t2
  let c8_i32 : BitVec 32 := 8#32
  let v374 : BitVec 32 := Scalar.muli arg21 c8_i32
  v374
def k0_off2 (k0_t2 : Fin k0_t2_loop.trips) : Fin 2 → Nat :=
  let c1_i32 : BitVec 32 := 1#32
  let c1_i32_90 : BitVec 32 := 1#32
  let arg21 : BitVec 32 := Scf.iv c1_i32 c1_i32_90 k0_t2
  let c8_i32 : BitVec 32 := 8#32
  let v374 : BitVec 32 := Scalar.muli arg21 c8_i32
  let v375 : BitVec 32 := v374
  let v386 : Index := Scalar.indexCast v375
  let c0_287 : Index := 0#32
  ![v386.toNat, 0]
@[reducible] def k0_t3_loop : Scf.Loop 32 :=
  let c0_i32_140 : BitVec 32 := 0#32
  let c32_i32 : BitVec 32 := 32#32
  let v289 : BitVec 32 := Scalar.addi c0_i32_140 c32_i32
  let c1_i32_141 : BitVec 32 := 1#32
  ⟨c0_i32_140, v289, c1_i32_141⟩
def k0_mult2 (k0_t3 : Fin k0_t3_loop.trips) : BitVec 32 :=
  let c0_i32_140 : BitVec 32 := 0#32
  let c1_i32_141 : BitVec 32 := 1#32
  let arg21 : BitVec 32 := Scf.iv c0_i32_140 c1_i32_141 k0_t3
  let c8_i32 : BitVec 32 := 8#32
  let v374 : BitVec 32 := Scalar.muli arg21 c8_i32
  v374
def k0_off3 (k0_t3 : Fin k0_t3_loop.trips) : Fin 2 → Nat :=
  let c0_i32_140 : BitVec 32 := 0#32
  let c1_i32_141 : BitVec 32 := 1#32
  let arg21 : BitVec 32 := Scf.iv c0_i32_140 c1_i32_141 k0_t3
  let v376 : Index := Scalar.indexCast arg21
  let c0_287 : Index := 0#32
  ![v376.toNat, 0]
def k0_off4 (k0_t3 : Fin k0_t3_loop.trips) : Fin 2 → Nat :=
  let c0_i32_140 : BitVec 32 := 0#32
  let c1_i32_141 : BitVec 32 := 1#32
  let arg21 : BitVec 32 := Scf.iv c0_i32_140 c1_i32_141 k0_t3
  let c8_i32 : BitVec 32 := 8#32
  let v374 : BitVec 32 := Scalar.muli arg21 c8_i32
  let v375 : BitVec 32 := v374
  let v390 : Index := Scalar.indexCast v375
  let c0_289 : Index := 0#32
  ![v390.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ScanBwd.lean ====
abbrev S2048x1024 : Shape := ⟨2, ![2048, 1024]⟩
abbrev S2048x4096 : Shape := ⟨2, ![2048, 4096]⟩
abbrev S8x128x512 : Shape := ⟨3, ![8, 128, 512]⟩
abbrev S8x512x128 : Shape := ⟨3, ![8, 512, 128]⟩
abbrev S1x4096 : Shape := ⟨2, ![1, 4096]⟩
abbrev S1x1024 : Shape := ⟨2, ![1, 1024]⟩
abbrev S256x128 : Shape := ⟨2, ![256, 128]⟩
abbrev S256x512 : Shape := ⟨2, ![256, 512]⟩
abbrev S8x512 : Shape := ⟨2, ![8, 512]⟩
abbrev S1x128x512 : Shape := ⟨3, ![1, 128, 512]⟩
abbrev S1x512x128 : Shape := ⟨3, ![1, 512, 128]⟩
abbrev S1x512 : Shape := ⟨2, ![1, 512]⟩
abbrev S1x128 : Shape := ⟨2, ![1, 128]⟩
abbrev S32x512 : Shape := ⟨2, ![32, 512]⟩
abbrev S128x512 : Shape := ⟨2, ![128, 512]⟩
abbrev S512x128 : Shape := ⟨2, ![512, 128]⟩
abbrev S8x128 : Shape := ⟨2, ![8, 128]⟩
abbrev S512 : Shape := ⟨1, ![512]⟩
abbrev S128 : Shape := ⟨1, ![128]⟩

abbrev nBuf : Space → Nat
  | .hbm => 23
  | .vmem => 53
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S8x128x512, .f32⟩
  | .hbm, ⟨5, _⟩ => ⟨S8x128x512, .f32⟩
  | .hbm, ⟨6, _⟩ => ⟨S8x512x128, .f32⟩
  | .hbm, ⟨7, _⟩ => ⟨S8x512x128, .f32⟩
  | .hbm, ⟨8, _⟩ => ⟨S1x4096, .f32⟩
  | .hbm, ⟨9, _⟩ => ⟨S1x4096, .f32⟩
  | .hbm, ⟨10, _⟩ => ⟨S1x1024, .f32⟩
  | .hbm, ⟨11, _⟩ => ⟨S8x128x512, .bf16⟩
  | .hbm, ⟨12, _⟩ => ⟨S8x128x512, .bf16⟩
  | .hbm, ⟨13, _⟩ => ⟨S8x512x128, .bf16⟩
  | .hbm, ⟨14, _⟩ => ⟨S8x512x128, .bf16⟩
  | .hbm, ⟨15, _⟩ => ⟨S2048x1024, .f32⟩
  | .hbm, ⟨16, _⟩ => ⟨S8x128x512, .f32⟩
  | .hbm, ⟨17, _⟩ => ⟨S8x128x512, .f32⟩
  | .hbm, ⟨18, _⟩ => ⟨S8x512x128, .f32⟩
  | .hbm, ⟨19, _⟩ => ⟨S8x512x128, .f32⟩
  | .hbm, ⟨20, _⟩ => ⟨S1x4096, .f32⟩
  | .hbm, ⟨21, _⟩ => ⟨S1x4096, .f32⟩
  | .hbm, ⟨22, _⟩ => ⟨S1x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x128, .f32⟩
  | .local _ .vmem, ⟨25, _⟩ => ⟨S1x128, .f32⟩
  | .local _ .vmem, ⟨26, _⟩ => ⟨S256x128, .f32⟩
  | .local _ .vmem, ⟨27, _⟩ => ⟨S256x128, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x512x128, .f32⟩
  | .local _ .vmem, ⟨33, _⟩ => ⟨S1x512x128, .f32⟩
  | .local _ .vmem, ⟨34, _⟩ => ⟨S1x512x128, .f32⟩
  | .local _ .vmem, ⟨35, _⟩ => ⟨S1x512x128, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x128, .f32⟩
  | .local _ .vmem, ⟨41, _⟩ => ⟨S1x128, .f32⟩
  | .local _ .vmem, ⟨42, _⟩ => ⟨S256x512, .f32⟩
  | .local _ .vmem, ⟨43, _⟩ => ⟨S256x512, .f32⟩
  | .local _ .vmem, ⟨44, _⟩ => ⟨S32x512, .f32⟩
  | .local _ .vmem, ⟨45, _⟩ => ⟨S32x512, .f32⟩
  | .local _ .vmem, ⟨46, _⟩ => ⟨S8x512, .f32⟩
  | .local _ .vmem, ⟨47, _⟩ => ⟨S8x512, .f32⟩
  | .local _ .vmem, ⟨48, _⟩ => ⟨S1x512, .f32⟩
  | .local _ .vmem, ⟨49, _⟩ => ⟨S1x512, .f32⟩
  | .local _ .vmem, ⟨50, _⟩ => ⟨S256x128, .f32⟩
  | .local _ .vmem, ⟨51, _⟩ => ⟨S256x128, .f32⟩
  | .local _ .vmem, ⟨52, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v4_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_scratch6 : Ref sig .tc := ⟨.vmem, 48, rfl⟩
abbrev cc0_scratch7 : Ref sig .tc := ⟨.vmem, 49, rfl⟩
abbrev cc0_scratch8 : Ref sig .tc := ⟨.vmem, 50, rfl⟩
abbrev cc0_scratch9 : Ref sig .tc := ⟨.vmem, 51, rfl⟩
abbrev cc0_scratch10 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

@[reducible] def k0_t1_loop : Scf.Loop 32 :=
  let c0_i32_526 : BitVec 32 := 0#32
  let c32_i32 : BitVec 32 := 32#32
  let v646 : BitVec 32 := Scalar.addi c0_i32_526 c32_i32
  let c1_i32_527 : BitVec 32 := 1#32
  ⟨c0_i32_526, v646, c1_i32_527⟩
def k0_off1 (k0_t1 : Fin k0_t1_loop.trips) : Fin 2 → Nat :=
  let c0_i32_526 : BitVec 32 := 0#32
  let c1_i32_527 : BitVec 32 := 1#32
  let arg34 : BitVec 32 := Scf.iv c0_i32_526 c1_i32_527 k0_t1
  let v648 : Index := Scalar.indexCast arg34
  let c0_529 : Index := 0#32
  ![v648.toNat, 0]
@[reducible] def k0_t2_loop : Scf.Loop 32 :=
  let c1_i32 : BitVec 32 := 1#32
  let c31_i32 : BitVec 32 := 31#32
  let v299 : BitVec 32 := Scalar.addi c1_i32 c31_i32
  let c1_i32_239 : BitVec 32 := 1#32
  ⟨c1_i32, v299, c1_i32_239⟩
def k0_mult1 (k0_t2 : Fin k0_t2_loop.trips) : BitVec 32 :=
  let c31_i32_495 : BitVec 32 := 31#32
  let c1_i32 : BitVec 32 := 1#32
  let c1_i32_239 : BitVec 32 := 1#32
  let arg34 : BitVec 32 := Scf.iv c1_i32 c1_i32_239 k0_t2
  let v616 : BitVec 32 := Scalar.subi c31_i32_495 arg34
  let c8_i32 : BitVec 32 := 8#32
  let v617 : BitVec 32 := Scalar.muli v616 c8_i32
  v617
def k0_off2 (k0_t2 : Fin k0_t2_loop.trips) : Fin 2 → Nat :=
  let c31_i32_495 : BitVec 32 := 31#32
  let c1_i32 : BitVec 32 := 1#32
  let c1_i32_239 : BitVec 32 := 1#32
  let arg34 : BitVec 32 := Scf.iv c1_i32 c1_i32_239 k0_t2
  let v616 : BitVec 32 := Scalar.subi c31_i32_495 arg34
  let c8_i32 : BitVec 32 := 8#32
  let v617 : BitVec 32 := Scalar.muli v616 c8_i32
  let v618 : BitVec 32 := v617
  let v619 : Index := Scalar.indexCast v618
  let c0_496 : Index := 0#32
  ![v619.toNat, 0]
@[reducible] def k0_t3_loop : Scf.Loop 32 :=
  let c1_i32_318 : BitVec 32 := 1#32
  let c31_i32_319 : BitVec 32 := 31#32
  let v498 : BitVec 32 := Scalar.addi c1_i32_318 c31_i32_319
  let c1_i32_320 : BitVec 32 := 1#32
  ⟨c1_i32_318, v498, c1_i32_320⟩
def k0_mult2 (k0_t3 : Fin k0_t3_loop.trips) : BitVec 32 :=
  let c1_i32_318 : BitVec 32 := 1#32
  let c1_i32_320 : BitVec 32 := 1#32
  let arg34 : BitVec 32 := Scf.iv c1_i32_318 c1_i32_320 k0_t3
  let c1_i32_495 : BitVec 32 := 1#32
  let v616 : BitVec 32 := Scalar.subi arg34 c1_i32_495
  let c8_i32 : BitVec 32 := 8#32
  let v617 : BitVec 32 := Scalar.muli v616 c8_i32
  v617
def k0_off3 (k0_t3 : Fin k0_t3_loop.trips) : Fin 2 → Nat :=
  let c1_i32_318 : BitVec 32 := 1#32
  let c1_i32_320 : BitVec 32 := 1#32
  let arg34 : BitVec 32 := Scf.iv c1_i32_318 c1_i32_320 k0_t3
  let c1_i32_495 : BitVec 32 := 1#32
  let v616 : BitVec 32 := Scalar.subi arg34 c1_i32_495
  let c8_i32 : BitVec 32 := 8#32
  let v617 : BitVec 32 := Scalar.muli v616 c8_i32
  let v618 : BitVec 32 := v617
  let v619 : Index := Scalar.indexCast v618
  let c0_496 : Index := 0#32
  ![v619.toNat, 0]
def k0_mult3 (k0_t3 : Fin k0_t3_loop.trips) : BitVec 32 :=
  let c1_i32_318 : BitVec 32 := 1#32
  let c1_i32_320 : BitVec 32 := 1#32
  let arg34 : BitVec 32 := Scf.iv c1_i32_318 c1_i32_320 k0_t3
  let c1_i32_497 : BitVec 32 := 1#32
  let v621 : BitVec 32 := Scalar.subi arg34 c1_i32_497
  let c8_i32_498 : BitVec 32 := 8#32
  let v622 : BitVec 32 := Scalar.muli v621 c8_i32_498
  v622
def k0_mult4 (k0_t3 : Fin k0_t3_loop.trips) : BitVec 32 :=
  let c1_i32_318 : BitVec 32 := 1#32
  let c1_i32_320 : BitVec 32 := 1#32
  let arg34 : BitVec 32 := Scf.iv c1_i32_318 c1_i32_320 k0_t3
  let c8_i32_500 : BitVec 32 := 8#32
  let v626 : BitVec 32 := Scalar.muli arg34 c8_i32_500
  v626
def k0_off4 (k0_t3 : Fin k0_t3_loop.trips) : Fin 2 → Nat :=
  let c31_i32_501 : BitVec 32 := 31#32
  let c1_i32_318 : BitVec 32 := 1#32
  let c1_i32_320 : BitVec 32 := 1#32
  let arg34 : BitVec 32 := Scf.iv c1_i32_318 c1_i32_320 k0_t3
  let v628 : BitVec 32 := Scalar.subi c31_i32_501 arg34
  let v629 : Index := Scalar.indexCast v628
  let c0_502 : Index := 0#32
  ![v629.toNat, 0]
def k0_off5 (k0_t3 : Fin k0_t3_loop.trips) : Fin 2 → Nat :=
  let c1_i32_318 : BitVec 32 := 1#32
  let c1_i32_320 : BitVec 32 := 1#32
  let arg34 : BitVec 32 := Scf.iv c1_i32_318 c1_i32_320 k0_t3
  let c8_i32_500 : BitVec 32 := 8#32
  let v626 : BitVec 32 := Scalar.muli arg34 c8_i32_500
  let v627 : BitVec 32 := v626
  let v645 : Index := Scalar.indexCast v627
  let c0_505 : Index := 0#32
  ![v645.toNat, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== LossLn.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩
abbrev S256x2048 : Shape := ⟨2, ![256, 2048]⟩
abbrev S256x1 : Shape := ⟨2, ![256, 1]⟩
abbrev S256 : Shape := ⟨1, ![256]⟩
abbrev S1 : Shape := ⟨1, ![1]⟩

abbrev nBuf : Space → Nat
  | .hbm => 35
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S2048x2048, .f32⟩
  | .hbm, ⟨31, _⟩ => ⟨S2048x2048, .bf16⟩
  | .hbm, ⟨32, _⟩ => ⟨S1x2048, .f32⟩
  | .hbm, ⟨33, _⟩ => ⟨S1x2048, .f32⟩
  | .hbm, ⟨34, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossLnRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x2048, .f32⟩
  | .hbm, ⟨92, _⟩ => ⟨S2048x2048, .f32⟩
  | .hbm, ⟨93, _⟩ => ⟨S2048x2048, .bf16⟩
  | .hbm, ⟨94, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== DxLn.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 30
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S2048x2048, .f32⟩
  | .hbm, ⟨27, _⟩ => ⟨S2048x2048, .bf16⟩
  | .hbm, ⟨28, _⟩ => ⟨S1x2048, .f32⟩
  | .hbm, ⟨29, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DxLnRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x2048, .f32⟩
  | .hbm, ⟨75, _⟩ => ⟨S2048x2048, .f32⟩
  | .hbm, ⟨76, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== ResLn.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x1, .f32⟩
  | .local _ .vmem, ⟨13, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResLnRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .bf16⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Adamw.lean ====
abbrev S4x4x704x2048 : Shape := ⟨4, ![4, 4, 704, 2048]⟩
abbrev S4x704x2048 : Shape := ⟨3, ![4, 704, 2048]⟩
abbrev S1x4x176x2048 : Shape := ⟨4, ![1, 4, 176, 2048]⟩
abbrev S1x176x2048 : Shape := ⟨3, ![1, 176, 2048]⟩
abbrev S1x1x176x2048 : Shape := ⟨4, ![1, 1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .local _ .vmem, ⟨0, _⟩ => ⟨S1x4x176x2048, .bf16⟩
  | .local _ .vmem, ⟨1, _⟩ => ⟨S1x4x176x2048, .bf16⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S4x4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwIdeal.lean ====
abbrev S4x4x704x2048 : Shape := ⟨4, ![4, 4, 704, 2048]⟩
abbrev S4x704x2048 : Shape := ⟨3, ![4, 704, 2048]⟩
abbrev S1x4x176x2048 : Shape := ⟨4, ![1, 4, 176, 2048]⟩
abbrev S1x176x2048 : Shape := ⟨3, ![1, 176, 2048]⟩
abbrev S1x1x176x2048 : Shape := ⟨4, ![1, 1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .local _ .vmem, ⟨0, _⟩ => ⟨S1x4x176x2048, .bf16⟩
  | .local _ .vmem, ⟨1, _⟩ => ⟨S1x4x176x2048, .bf16⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S4x4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwRefIdeal.lean ====
abbrev S4x4x704x2048 : Shape := ⟨4, ![4, 4, 704, 2048]⟩
abbrev S4x704x2048 : Shape := ⟨3, ![4, 704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x4x704x2048, .f32⟩
  | .hbm, ⟨5, _⟩ => ⟨S_, .f32⟩
  | .hbm, ⟨6, _⟩ => ⟨S4x704x2048, .f32⟩
  | .hbm, ⟨7, _⟩ => ⟨S_, .f32⟩
  | .hbm, ⟨8, _⟩ => ⟨S4x704x2048, .f32⟩
  | .hbm, ⟨9, _⟩ => ⟨S4x704x2048, .f32⟩
  | .hbm, ⟨10, _⟩ => ⟨S_, .f32⟩
  | .hbm, ⟨11, _⟩ => ⟨S4x704x2048, .f32⟩
  | .hbm, ⟨12, _⟩ => ⟨S4x704x2048, .f32⟩
  | .hbm, ⟨13, _⟩ => ⟨S4x704x2048, .f32⟩
  | .hbm, ⟨14, _⟩ => ⟨S_, .f32⟩
  | .hbm, ⟨15, _⟩ => ⟨S4x704x2048, .f32⟩
  | .hbm, ⟨16, _⟩ => ⟨S4x704x2048, .f32⟩
  | .hbm, ⟨17, _⟩ => ⟨S4x704x2048, .f32⟩
  | .hbm, ⟨18, _⟩ => ⟨S_, .f32⟩
  | .hbm, ⟨19, _⟩ => ⟨S4x704x2048, .f32⟩
  | .hbm, ⟨20, _⟩ => ⟨S4x704x2048, .f32⟩
  | .hbm, ⟨21, _⟩ => ⟨S4x704x2048, .f32⟩
  | .hbm, ⟨22, _⟩ => ⟨S_, .f32⟩
  | .hbm, ⟨23, _⟩ => ⟨S4x704x2048, .f32⟩
  | .hbm, ⟨24, _⟩ => ⟨S4x704x2048, .f32⟩
  | .hbm, ⟨25, _⟩ => ⟨S_, .f32⟩
  | .hbm, ⟨26, _⟩ => ⟨S4x704x2048, .f32⟩
  | .hbm, ⟨27, _⟩ => ⟨S4x704x2048, .f32⟩
  | .hbm, ⟨28, _⟩ => ⟨S4x704x2048, .f32⟩
  | .hbm, ⟨29, _⟩ => ⟨S_, .f32⟩
  | .hbm, ⟨30, _⟩ => ⟨S4x704x2048, .f32⟩
  | .hbm, ⟨31, _⟩ => ⟨S4x704x2048, .f32⟩
  | .hbm, ⟨32, _⟩ => ⟨S4x704x2048, .f32⟩
  | .hbm, ⟨33, _⟩ => ⟨S_, .f32⟩
  | .hbm, ⟨34, _⟩ => ⟨S4x704x2048, .f32⟩
  | .hbm, ⟨35, _⟩ => ⟨S4x704x2048, .f32⟩
  | .hbm, ⟨36, _⟩ => ⟨S4x704x2048, .f32⟩
  | .hbm, ⟨37, _⟩ => ⟨S_, .f32⟩
  | .hbm, ⟨38, _⟩ => ⟨S4x704x2048, .f32⟩
  | .hbm, ⟨39, _⟩ => ⟨S4x704x2048, .f32⟩
  | _, _ => ⟨S4x4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Reduce.lean ====
abbrev S4x4x512x2048 : Shape := ⟨4, ![4, 4, 512, 2048]⟩
abbrev S4x512x2048 : Shape := ⟨3, ![4, 512, 2048]⟩
abbrev S1x4x256x2048 : Shape := ⟨4, ![1, 4, 256, 2048]⟩
abbrev S1x256x2048 : Shape := ⟨3, ![1, 256, 2048]⟩
abbrev S1x1x256x2048 : Shape := ⟨4, ![1, 1, 256, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x4x512x2048, .bf16⟩
  | .hbm, ⟨1, _⟩ => ⟨S4x512x2048, .f32⟩
  | .local _ .vmem, ⟨0, _⟩ => ⟨S1x4x256x2048, .bf16⟩
  | .local _ .vmem, ⟨1, _⟩ => ⟨S1x4x256x2048, .bf16⟩
  | .local _ .vmem, ⟨2, _⟩ => ⟨S1x256x2048, .f32⟩
  | .local _ .vmem, ⟨3, _⟩ => ⟨S1x256x2048, .f32⟩
  | _, _ => ⟨S4x4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReduceRefIdeal.lean ====
abbrev S4x4x512x2048 : Shape := ⟨4, ![4, 4, 512, 2048]⟩
abbrev S_ : Shape := ⟨0, ![]⟩
abbrev S4x512x2048 : Shape := ⟨3, ![4, 512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x4x512x2048, .bf16⟩
  | .hbm, ⟨1, _⟩ => ⟨S4x4x512x2048, .f32⟩
  | .hbm, ⟨2, _⟩ => ⟨S_, .f32⟩
  | .hbm, ⟨3, _⟩ => ⟨S4x512x2048, .f32⟩
  | _, _ => ⟨S4x4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DxRes.lean ====
abbrev S2048x2048 : Shape := ⟨2, ![2048, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DxResRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamwIn.lean ====
abbrev S4x2048x512 : Shape := ⟨3, ![4, 2048, 512]⟩
abbrev S1x1024x512 : Shape := ⟨3, ![1, 1024, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwInRefIdeal.lean ====
abbrev S4x2048x512 : Shape := ⟨3, ![4, 2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S_, .f32⟩
  | .hbm, ⟨5, _⟩ => ⟨S4x2048x512, .f32⟩
  | .hbm, ⟨6, _⟩ => ⟨S4x2048x512, .f32⟩
  | .hbm, ⟨7, _⟩ => ⟨S_, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S_, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S_, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S_, .f32⟩
  | .hbm, ⟨20, _⟩ => ⟨S4x2048x512, .f32⟩
  | .hbm, ⟨21, _⟩ => ⟨S4x2048x512, .f32⟩
  | .hbm, ⟨22, _⟩ => ⟨S_, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S_, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S_, .f32⟩
  | .hbm, ⟨35, _⟩ => ⟨S4x2048x512, .f32⟩
  | .hbm, ⟨36, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S4x4x256x2048 : Shape := ⟨4, ![4, 4, 256, 2048]⟩
abbrev S4x256x2048 : Shape := ⟨3, ![4, 256, 2048]⟩
abbrev S1x4x128x2048 : Shape := ⟨4, ![1, 4, 128, 2048]⟩
abbrev S1x128x2048 : Shape := ⟨3, ![1, 128, 2048]⟩
abbrev S1x1x128x2048 : Shape := ⟨4, ![1, 1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .local _ .vmem, ⟨0, _⟩ => ⟨S1x4x128x2048, .bf16⟩
  | .local _ .vmem, ⟨1, _⟩ => ⟨S1x4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwOutIdeal.lean ====
abbrev S4x4x256x2048 : Shape := ⟨4, ![4, 4, 256, 2048]⟩
abbrev S4x256x2048 : Shape := ⟨3, ![4, 256, 2048]⟩
abbrev S1x4x128x2048 : Shape := ⟨4, ![1, 4, 128, 2048]⟩
abbrev S1x128x2048 : Shape := ⟨3, ![1, 128, 2048]⟩
abbrev S1x1x128x2048 : Shape := ⟨4, ![1, 1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .local _ .vmem, ⟨0, _⟩ => ⟨S1x4x128x2048, .bf16⟩
  | .local _ .vmem, ⟨1, _⟩ => ⟨S1x4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwOutRefIdeal.lean ====
abbrev S4x4x256x2048 : Shape := ⟨4, ![4, 4, 256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x4x256x2048, .f32⟩
  | .hbm, ⟨5, _⟩ => ⟨S_, .f32⟩
  | .hbm, ⟨6, _⟩ => ⟨S4x256x2048, .f32⟩
  | .hbm, ⟨7, _⟩ => ⟨S_, .f32⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S_, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S_, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .hbm, ⟨22, _⟩ => ⟨S_, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S4x256x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S_, .f32⟩
  | .hbm, ⟨34, _⟩ => ⟨S4x256x2048, .f32⟩
  | .hbm, ⟨35, _⟩ => ⟨S4x256x2048, .f32⟩
  | .hbm, ⟨36, _⟩ => ⟨S4x256x2048, .f32⟩
  | .hbm, ⟨37, _⟩ => ⟨S_, .f32⟩
  | .hbm, ⟨38, _⟩ => ⟨S4x256x2048, .f32⟩
  | .hbm, ⟨39, _⟩ => ⟨S4x256x2048, .f32⟩
  | _, _ => ⟨S4x4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwGlu.lean ====
abbrev S4x4x128x1024 : Shape := ⟨4, ![4, 4, 128, 1024]⟩
abbrev S4x128x1024 : Shape := ⟨3, ![4, 128, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S1x4x128x1024, .bf16⟩
  | .local _ .vmem, ⟨1, _⟩ => ⟨S1x4x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwGluRefIdeal.lean ====
abbrev S4x4x128x1024 : Shape := ⟨4, ![4, 4, 128, 1024]⟩
abbrev S4x128x1024 : Shape := ⟨3, ![4, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x4x128x1024, .f32⟩
  | .hbm, ⟨5, _⟩ => ⟨S_, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S_, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S_, .f32⟩
  | .hbm, ⟨15, _⟩ => ⟨S4x128x1024, .f32⟩
  | .hbm, ⟨16, _⟩ => ⟨S4x128x1024, .f32⟩
  | .hbm, ⟨17, _⟩ => ⟨S4x128x1024, .f32⟩
  | .hbm, ⟨18, _⟩ => ⟨S_, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S_, .f32⟩
  | .hbm, ⟨26, _⟩ => ⟨S4x128x1024, .f32⟩
  | .hbm, ⟨27, _⟩ => ⟨S4x128x1024, .f32⟩
  | .hbm, ⟨28, _⟩ => ⟨S4x128x1024, .f32⟩
  | .hbm, ⟨29, _⟩ => ⟨S_, .f32⟩
  | .hbm, ⟨30, _⟩ => ⟨S4x128x1024, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S4x128x1024, .f32⟩
  | .hbm, ⟨37, _⟩ => ⟨S_, .f32⟩
  | .hbm, ⟨38, _⟩ => ⟨S4x128x1024, .f32⟩
  | .hbm, ⟨39, _⟩ => ⟨S4x128x1024, .f32⟩
  | _, _ => ⟨S4x4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== PairSum.lean ====
abbrev S8x512x2048 : Shape := ⟨3, ![8, 512, 2048]⟩
abbrev S4x512x2048 : Shape := ⟨3, ![4, 512, 2048]⟩
abbrev S4x2x512x2048 : Shape := ⟨4, ![4, 2, 512, 2048]⟩
abbrev S1x2x512x2048 : Shape := ⟨4, ![1, 2, 512, 2048]⟩
abbrev S1x512x2048 : Shape := ⟨3, ![1, 512, 2048]⟩
abbrev S1x1x512x2048 : Shape := ⟨4, ![1, 1, 512, 2048]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8x512x2048, .bf16⟩
  | .hbm, ⟨1, _⟩ => ⟨S4x512x2048, .bf16⟩
  | .hbm, ⟨2, _⟩ => ⟨S4x2x512x2048, .bf16⟩
  | .hbm, ⟨3, _⟩ => ⟨S4x512x2048, .bf16⟩
  | .local _ .vmem, ⟨0, _⟩ => ⟨S1x2x512x2048, .bf16⟩
  | .local _ .vmem, ⟨1, _⟩ => ⟨S1x2x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S8x512x2048 : Shape := ⟨3, ![8, 512, 2048]⟩
abbrev S4x512x2048 : Shape := ⟨3, ![4, 512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S4x512x2048, .bf16⟩
  | .hbm, ⟨2, _⟩ => ⟨S4x512x2048, .bf16⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .bf16⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Conv.Spec.lean ====
/-
  The backward pass of the gated causal convolution `gate_b · (b + Σ_k w_k · (gate_c · h) shifted)`, written index by
  index over the extended reals: what both the kernel's result arrays and the reference's are shown to hold.

  `dz` is the gradient that arrives, `proj` the projected rows (columns 1024.. are `gate_b`, 2048.. `gate_c`,
  3072.. `h`), `w` the three taps, `b` the bias.
-/
module

public import proofs.«01_k».proof.Proof.Gen.ReferenceIdeal
public import Idealize.ShloMosaic.Lib.Pointwise

@[expose] public section

noncomputable section

namespace Cert.Proof.Conv

open Idealize.ShloMosaic Cert.ReferenceIdeal

variable (dz : Vec Ideal S2048x1024 .f32) (proj : Vec Ideal S2048x4096 .f32) (w : Vec Ideal S3x1024 .f32)
  (b : Vec Ideal S1x1024 .f32)

/-- The convolution's input `gate_c · h` at row `r`, channel `l`. -/
def gated (r : Fin 2048) (l : Fin 1024) : EReal :=
  proj (ix2 r ⟨2048 + l.val, by omega⟩) * proj (ix2 r ⟨3072 + l.val, by omega⟩)

/-- The convolution's input `k` rows earlier, zero before the first row. -/
def earlier (k : Nat) (r : Fin 2048) (l : Fin 1024) : EReal :=
  if k ≤ r.val then gated proj ⟨r.val - k, by omega⟩ l else 0

/-- The convolution's result at row `r`, channel `l`. -/
def conv (r : Fin 2048) (l : Fin 1024) : EReal :=
  b (ix2 0 l) + w (ix2 0 l) * earlier proj 2 r l + w (ix2 1 l) * earlier proj 1 r l + w (ix2 2 l) * gated proj r l

/-- The gradient of the convolution's result: `gate_b · dz`. -/
def dconv (r : Fin 2048) (l : Fin 1024) : EReal :=
  proj (ix2 r ⟨1024 + l.val, by omega⟩) * dz (ix2 r l)

/-- That gradient `k` rows later, zero past the last row. -/
def later (k : Nat) (r : Fin 2048) (l : Fin 1024) : EReal :=
  if h : r.val + k < 2048 then dconv dz proj ⟨r.val + k, h⟩ l else 0

/-- The gradient of the convolution's input: the taps run backwards in time. -/
def dgated (r : Fin 2048) (l : Fin 1024) : EReal :=
  w (ix2 2 l) * dconv dz proj r l + w (ix2 1 l) * later dz proj 1 r l + w (ix2 0 l) * later dz proj 2 r l

/-- The gradient of the first gate. -/
def dGateB : Vec Ideal S2048x1024 .bf16 := fun i => dz i * conv proj w b (i 0) (i 1)

/-- The gradient of the second gate. -/
def dGateC : Vec Ideal S2048x1024 .bf16 :=
  fun i => dgated dz proj w (i 0) (i 1) * proj (ix2 (i 0) ⟨3072 + (i 1).val, by have : (i 1).val < 1024 := (i 1).isLt; omega⟩)

/-- The gradient of the gated value. -/
def dHead : Vec Ideal S2048x1024 .bf16 :=
  fun i => dgated dz proj w (i 0) (i 1) * proj (ix2 (i 0) ⟨2048 + (i 1).val, by have : (i 1).val < 1024 := (i 1).isLt; omega⟩)

/-- The gradient of tap `i 0`: the sum over the rows of the result's gradient against the input `2 - i 0` rows earlier. -/
def dTaps : Vec Ideal S3x1024 .f32 :=
  fun i => ∑ r : Fin 2048, dconv dz proj r (i 1) * earlier proj (2 - (i 0).val) r (i 1)

/-- The gradient of the bias: the column sums of the result's gradient. -/
def dBias : Vec Ideal S1x1024 .f32 := fun i => ∑ r : Fin 2048, dconv dz proj r (i 1)

/-- No rows earlier is the row itself. -/
theorem earlier_zero (r : Fin 2048) (l : Fin 1024) : earlier proj 0 r l = gated proj r l := by
  unfold earlier
  rw [if_pos (Nat.zero_le _)]
  rfl

end Cert.Proof.Conv

end
-- ==== Proof.Conv.Kernel.lean ====
/-
  The kernel's five result arrays hold the gradients of the gated causal convolution. Each of the four grid points
  computes one block of 256 channels from the same channels of its operands.
-/
module

public import proofs.«01_k».proof.Proof.Gen.KernelIdeal.Value
public import proofs.«01_k».proof.Proof.Conv.Spec
public import Idealize.ShloMosaic.Lib.Pipeline.ValueKit

@[expose] public section

set_option maxRecDepth 16384

noncomputable section

namespace Cert.Proof.Conv

open Idealize.ShloMosaic Idealize.ShloMosaic.TcCoe Idealize.SL.Sem
open Cert.KernelIdeal Cert.KernelIdeal.Gen

/-- Where each window's block lies at grid point `t`: the three operands cut from one array at their channel offsets. -/
theorem idx : ∀ t : Fin cfg0.N, win0_0.index t = ![0, t.val] ∧ win0_1.index t = ![0, 4 + t.val] ∧ win0_2.index t = ![0, 8 + t.val]
    ∧ win0_3.index t = ![0, 12 + t.val] ∧ win0_4.index t = ![0, t.val] ∧ win0_5.index t = ![0, t.val]
    ∧ win0_6.index t = ![0, t.val] ∧ win0_7.index t = ![0, t.val] ∧ win0_8.index t = ![0, t.val]
    ∧ win0_9.index t = ![0, t.val] ∧ win0_10.index t = ![0, t.val] :=
  (by decide +kernel : ∀ t : Fin grid0.N, _)

/-! ## The masks of the shifted rows -/

/-- The mask «row `r` is at least one» selects as the condition. -/
theorem select_ge_one (r : Fin 2048) (x y : EReal) :
    Scalar.select (IntOp.cmpi CmpIPredicate.sge (BitVec.ofNat 32 r.val) 1#32) x y = if 1 ≤ r.val then x else y := by
  have e : ∀ r : Fin 2048, IntOp.cmpi CmpIPredicate.sge (BitVec.ofNat 32 r.val) 1#32 = if 1 ≤ r.val then 1#1 else 0#1 := by
    decide +kernel
  rw [e]
  split <;> rfl

/-- The mask «row `r` is at least two» selects as the condition. -/
theorem select_ge_two (r : Fin 2048) (x y : EReal) :
    Scalar.select (IntOp.cmpi CmpIPredicate.sge (BitVec.ofNat 32 r.val) 2#32) x y = if 2 ≤ r.val then x else y := by
  have e : ∀ r : Fin 2048, IntOp.cmpi CmpIPredicate.sge (BitVec.ofNat 32 r.val) 2#32 = if 2 ≤ r.val then 1#1 else 0#1 := by
    decide +kernel
  rw [e]
  split <;> rfl

/-- The mask «row `r` is before the last» selects as the condition. -/
theorem select_lt_last (r : Fin 2048) (x y : EReal) :
    Scalar.select (IntOp.cmpi CmpIPredicate.slt (BitVec.ofNat 32 r.val) 2047#32) x y = if r.val + 1 < 2048 then x else y := by
  have e : ∀ r : Fin 2048, IntOp.cmpi CmpIPredicate.slt (BitVec.ofNat 32 r.val) 2047#32 = if r.val + 1 < 2048 then 1#1 else 0#1 := by
    decide +kernel
  rw [e]
  split <;> rfl

/-- The mask «row `r` is before the last two» selects as the condition. -/
theorem select_lt_last_two (r : Fin 2048) (x y : EReal) :
    Scalar.select (IntOp.cmpi CmpIPredicate.slt (BitVec.ofNat 32 r.val) 2046#32) x y = if r.val + 2 < 2048 then x else y := by
  have e : ∀ r : Fin 2048, IntOp.cmpi CmpIPredicate.slt (BitVec.ofNat 32 r.val) 2046#32 = if r.val + 2 < 2048 then 1#1 else 0#1 := by
    decide +kernel
  rw [e]
  split <;> rfl

/-! ## What one block computes

`dz`, `gb`, `gc`, `h`, `w`, `b` are the blocks; `Blocks` says of which channels of the arrays they are: those from
`256 · t` on. -/

/-- The channel of the arrays that column `q` of block `t` holds. -/
abbrev chan (t : Fin 4) (q : Fin 256) : Fin 1024 := ⟨t.val * 256 + q.val, by omega⟩

/-- The six blocks hold the channels from `256 · t` on of the arriving gradient, the projected rows, the taps and the bias. -/
structure Blocks (DZ : Vec Ideal S2048x1024 .f32) (PR : Vec Ideal S2048x4096 .f32) (W : Vec Ideal S3x1024 .f32)
    (B : Vec Ideal S1x1024 .f32) (t : Fin 4) (dz gb gc h : Vec Ideal S2048x256 .f32) (w : Vec Ideal S3x256 .f32)
    (b : Vec Ideal S1x256 .f32) : Prop where
  dz : ∀ (r : Fin 2048) (q : Fin 256), dz (ix2 r q) = DZ (ix2 r (chan t q))
  gb : ∀ (r : Fin 2048) (q : Fin 256), gb (ix2 r q) = PR (ix2 r ⟨1024 + (chan t q).val, by omega⟩)
  gc : ∀ (r : Fin 2048) (q : Fin 256), gc (ix2 r q) = PR (ix2 r ⟨2048 + (chan t q).val, by omega⟩)
  h : ∀ (r : Fin 2048) (q : Fin 256), h (ix2 r q) = PR (ix2 r ⟨3072 + (chan t q).val, by omega⟩)
  w : ∀ (k : Fin 3) (q : Fin 256), w (ix2 k q) = W (ix2 k (chan t q))
  b : ∀ (k : Fin 1) (q : Fin 256), b (ix2 k q) = B (ix2 k (chan t q))

section Block

variable {DZ : Vec Ideal S2048x1024 .f32} {PR : Vec Ideal S2048x4096 .f32} {W : Vec Ideal S3x1024 .f32}
  {B : Vec Ideal S1x1024 .f32} {t : Fin 4} {dz gb gc h : Vec Ideal S2048x256 .f32} {w : Vec Ideal S3x256 .f32}
  {b : Vec Ideal S1x256 .f32} (hB : Blocks DZ PR W B t dz gb gc h w b)
include hB

/-- The gated input of the convolution. -/
theorem pay2_apply (r : Fin 2048) (q : Fin 256) : k0_pay2 gc h (ix2 r q) = gated PR r (chan t q) := by
  pointwise [k0_pay2]
  rw [hB.gc, hB.h]
  rfl

/-- The gated input one row earlier. -/
theorem pay3_apply (r : Fin 2048) (q : Fin 256) : k0_pay3 gc h (ix2 r q) = earlier PR 1 r (chan t q) := by
  pointwise [k0_pay3]
  rw [select_ge_one]
  unfold earlier
  by_cases hr : 1 ≤ r.val
  · rw [if_pos hr, if_pos hr, pay2_apply hB]
    exact congrArg (gated PR · _) (Fin.ext (by simp only; omega))
  · rw [if_neg hr, if_neg hr]

/-- The gated input two rows earlier. -/
theorem pay4_apply (r : Fin 2048) (q : Fin 256) : k0_pay4 gc h (ix2 r q) = earlier PR 2 r (chan t q) := by
  pointwise [k0_pay4]
  rw [select_ge_two]
  unfold earlier
  by_cases hr : 2 ≤ r.val
  · rw [if_pos hr, if_pos hr, pay2_apply hB]
    exact congrArg (gated PR · _) (Fin.ext (by simp only; omega))
  · rw [if_neg hr, if_neg hr]

/-- The gradient of the first gate. -/
theorem pay5_apply (r : Fin 2048) (q : Fin 256) :
    k0_pay5 gc h dz w b (ix2 r q) = dGateB DZ PR W B (ix2 r (chan t q)) := by
  pointwise [k0_pay5]
  rw [pay2_apply hB, pay3_apply hB, pay4_apply hB, hB.dz, hB.b, hB.w, hB.w, hB.w]
  rfl

/-- The gradient of the convolution's result. -/
theorem pay14_apply (r : Fin 2048) (q : Fin 256) :
    k0_pay6 dz gb (ix2 r q) = dconv DZ PR r (chan t q) := by
  pointwise [k0_pay6]
  rw [hB.dz, hB.gb, mul_comm]
  rfl

/-- The gradient of the convolution's input. -/
theorem pay8_apply (r : Fin 2048) (q : Fin 256) :
    k0_pay8 w (k0_pay6 dz gb) (k0_pay7 w) (ix2 r q) = dgated DZ PR W r (chan t q) := by
  pointwise [k0_pay8, k0_pay7]
  rw [select_lt_last, select_lt_last_two]
  unfold dgated later
  rw [hB.w, hB.w, hB.w, pay14_apply hB, pay14_apply hB, pay14_apply hB]
  congr 1
  · congr 1
    by_cases hr : r.val + 1 < 2048
    · rw [if_pos hr, dif_pos hr]
      exact congrArg (_ * dconv DZ PR · _) (Fin.ext (by simp only; omega))
    · rw [if_neg hr, dif_neg hr, mul_zero]
  · by_cases hr : r.val + 2 < 2048
    · rw [if_pos hr, dif_pos hr]
      exact congrArg (_ * dconv DZ PR · _) (Fin.ext (by simp only; omega))
    · rw [if_neg hr, dif_neg hr, mul_zero]

/-- The gradient of the second gate. -/
theorem pay9_apply (r : Fin 2048) (q : Fin 256) :
    k0_pay9 h w (k0_pay6 dz gb) (k0_pay7 w) (ix2 r q) = dGateC DZ PR W (ix2 r (chan t q)) := by
  pointwise [k0_pay9]
  rw [pay8_apply hB, hB.h]
  rfl

/-- The gradient of the gated value. -/
theorem pay10_apply (r : Fin 2048) (q : Fin 256) :
    k0_pay10 gc w (k0_pay6 dz gb) (k0_pay7 w) (ix2 r q) = dHead DZ PR W (ix2 r (chan t q)) := by
  pointwise [k0_pay10]
  rw [pay8_apply hB, hB.gc]
  rfl

/-- The gradient of the bias. -/
theorem pay1_apply (k : Fin 1) (q : Fin 256) : k0_pay1 (k0_pay6 dz gb) (ix2 k q) = dBias DZ PR (ix2 k (chan t q)) := by
  pointwise [k0_pay1]
  exact Finset.sum_congr rfl fun r _ => pay14_apply hB r q

/-- The gradient of the first tap. -/
theorem pay11_apply (k : Fin 1) (q : Fin 256) :
    k0_pay11 (k0_pay4 gc h) (k0_pay6 dz gb) (ix2 k q) = dTaps DZ PR (ix2 0 (chan t q)) := by
  pointwise [k0_pay11]
  exact Finset.sum_congr rfl fun r _ => congrArg₂ (· * ·) (pay14_apply hB r q) (pay4_apply hB r q)

/-- The gradient of the second tap. -/
theorem pay12_apply (k : Fin 1) (q : Fin 256) :
    k0_pay12 (k0_pay3 gc h) (k0_pay6 dz gb) (ix2 k q) = dTaps DZ PR (ix2 1 (chan t q)) := by
  pointwise [k0_pay12]
  exact Finset.sum_congr rfl fun r _ => congrArg₂ (· * ·) (pay14_apply hB r q) (pay3_apply hB r q)

/-- The gradient of the third tap. -/
theorem pay13_apply (k : Fin 1) (q : Fin 256) :
    k0_pay13 (k0_pay2 gc h) (k0_pay6 dz gb) (ix2 k q) = dTaps DZ PR (ix2 2 (chan t q)) := by
  pointwise [k0_pay13]
  exact Finset.sum_congr rfl fun r _ =>
    congrArg₂ (· * ·) (pay14_apply hB r q) ((pay2_apply hB r q).trans (earlier_zero PR r _).symm)

end Block

/-- The convolution result's gradient, named with all six blocks, is a product of two of them. -/
theorem pay14_eq (dz gb gc h : Vec Ideal S2048x256 .f32) (w : Vec Ideal S3x256 .f32) (b : Vec Ideal S1x256 .f32) :
    k0_pay14 dz gb gc h w b = k0_pay6 dz gb := by
  unfold k0_pay14
  rw [View.ld_unit_zero (by decide), View.ld_unit_zero (by decide)]

/-- The last tap's row, named with all six blocks, is of the taps' block alone. -/
theorem pay15_eq (dz gb gc h : Vec Ideal S2048x256 .f32) (w : Vec Ideal S3x256 .f32) (b : Vec Ideal S1x256 .f32) :
    k0_pay15 dz gb gc h w b = k0_pay7 w := by
  unfold k0_pay15
  rw [View.ld_unit_zero (by decide)]

/-! ## The arrays after the run -/

variable (m : (ℓ : Loc nD τ sig) → Buf (Elt Ideal) ℓ)

/-- Grid point `t`'s input blocks are those of channels `256 · t` on. -/
theorem blocks (c : Dev nD) (t : Fin cfg0.N) :
    Blocks (m ((c : Thread nD τ).loc main_arg0)) (m ((c : Thread nD τ).loc main_arg1)) (m ((c : Thread nD τ).loc main_arg2))
      (m ((c : Thread nD τ).loc main_arg3)) t (iblk m c 0 t) (iblk m c 1 t) (iblk m c 2 t) (iblk m c 3 t) (iblk m c 4 t)
      (iblk m c 5 t) where
  dz r q := by blk_ext [iblk, V, idx t]
  gb r q := by blk_ext [iblk, V, idx t]
  gc r q := by blk_ext [iblk, V, idx t]
  h r q := by blk_ext [iblk, V, idx t]
  w r q := by blk_ext [iblk, V, idx t]
  b r q := by blk_ext [iblk, V, idx t]

/-- The first result array: the gradient of the first gate. -/
theorem final6 (c : Dev nD) : (dats m 0 c).arrAt 6 cfg0.N = dGateB (m ((c : Thread nD τ).loc main_arg0))
    (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  rw [pay5_apply (blocks m c t)]
  refine congrArg _ ?_
  blk_ext [idx t]

/-- The second result array: the gradient of the second gate. -/
theorem final7 (c : Dev nD) : (dats m 0 c).arrAt 7 cfg0.N = dGateC (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp
  rw [after0_7]
  frame_out
  idx_vars y
  rw [pay14_eq, pay15_eq, pay9_apply (blocks m c t)]
  refine congrArg _ ?_
  blk_ext [idx t]

/-- The third result array: the gradient of the gated value. -/
theorem final8 (c : Dev nD) : (dats m 0 c).arrAt 8 cfg0.N = dHead (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp
  rw [after0_8]
  frame_out
  idx_vars y
  rw [pay14_eq, pay15_eq, pay10_apply (blocks m c t)]
  refine congrArg _ ?_
  blk_ext [idx t]

/-- The fourth result array: the gradient of the three taps, one row stored for each. -/
theorem final9 (c : Dev nD) : (dats m 0 c).arrAt 9 cfg0.N = dTaps (m ((c : Thread nD τ).loc main_arg0))
    (m ((c : Thread nD τ).loc main_arg1)) := by
  refine (dats m 0 c).arrAt_eq_of_covers 9 _ (by decide +kernel) fun t hf y => ?_
  blk_simp
  rw [after0_9]
  frame_out
  canon_tiles x h
  all_goals idx_vars x
  · rw [pay14_eq, pay13_apply (blocks m c t)]
    refine congrArg _ ?_
    blk_ext [idx t]
  · rw [pay14_eq, pay12_apply (blocks m c t)]
    refine congrArg _ ?_
    blk_ext [idx t]
  · rw [pay14_eq, pay11_apply (blocks m c t)]
    refine congrArg _ ?_
    blk_ext [idx t]

/-- The fifth result array: the gradient of the bias. -/
theorem final10 (c : Dev nD) : (dats m 0 c).arrAt 10 cfg0.N = dBias (m ((c : Thread nD τ).loc main_arg0))
    (m ((c : Thread nD τ).loc main_arg1)) := by
  refine (dats m 0 c).arrAt_eq_of_covers 10 _ (by decide +kernel) fun t hf y => ?_
  blk_simp
  rw [after0_10]
  frame_out
  idx_vars y
  rw [pay14_eq, pay1_apply (blocks m c t)]
  refine congrArg _ ?_
  blk_ext [idx t]

end Cert.Proof.Conv

end
-- ==== Proof.Conv.Reference.lean ====
/-
  The reference's five results are the gradients of the gated causal convolution written index by index.
-/
module

public import proofs.«01_k».proof.Proof.Gen.ReferenceIdeal.Read
public import proofs.«01_k».proof.Proof.Conv.Spec

@[expose] public section

set_option maxRecDepth 16384

noncomputable section

namespace Cert.Proof.Conv

open Idealize.ShloMosaic Cert.ReferenceIdeal Cert.ReferenceIdeal.Read

variable (dz : Vec Ideal S2048x1024 .f32) (proj : Vec Ideal S2048x4096 .f32) (w : Vec Ideal S3x1024 .f32)
  (b : Vec Ideal S1x1024 .f32)

/-- Row `a + r` of two zero rows put before `g` is `g` at `k` rows before `r`, zero where there is none, where `a + k = 2`. -/
theorem padded_row (g : Fin 2048 → EReal) (a k : Nat) (hak : a + k = 2) (r : Fin 2048) :
    (if h : a + r.val < 2 then (0 : EReal) else g ⟨a + r.val - 2, by omega⟩)
      = if k ≤ r.val then g ⟨r.val - k, by omega⟩ else 0 := by
  by_cases h : k ≤ r.val
  · rw [dif_neg (by omega), if_pos h]
    exact congrArg g (Fin.ext (by simp only; omega))
  · rw [dif_pos (by omega), if_neg h]

/-- The same row at `a = 0`, as the concatenation is read there. -/
theorem padded_row_zero (g : Fin 2048 → EReal) (r : Fin 2048) :
    (if h : r.val < 2 then (0 : EReal) else g ⟨r.val - 2, by omega⟩)
      = if 2 ≤ r.val then g ⟨r.val - 2, by omega⟩ else 0 := by
  by_cases h : 2 ≤ r.val
  · rw [dif_neg (by omega), if_pos h]
  · rw [dif_pos (by omega), if_neg h]

/-- A sum over the rows against `g` two rows earlier, cut at the first two rows, where it is zero. -/
theorem sum_two_later (f g : Fin 2048 → EReal) :
    (∑ x : Fin 2, f ⟨x.val, by omega⟩ * 0 + ∑ x : Fin 2046, f ⟨2 + x.val, by omega⟩ * g ⟨x.val, by omega⟩)
      = ∑ r : Fin 2048, f r * if 2 ≤ r.val then g ⟨r.val - 2, by omega⟩ else 0 := by
  rw [Fin.sum_univ_two_halves 2 2046 rfl]
  refine congrArg₂ (· + ·) (Finset.sum_congr rfl fun x _ => ?_) (Finset.sum_congr rfl fun x _ => ?_)
  · exact congrArg _ (if_neg (by simp only; omega)).symm
  · refine congrArg _ (((if_pos (by simp only; omega)).trans (congrArg g (Fin.ext ?_))).symm)
    simp only
    omega

/-- The reference's gradient of the first gate. -/
theorem ref_dGateB : val_main_v69 dz proj w b = dGateB dz proj w b := by
  funext i
  idx_vars i
  rw [← val_main_v69_eq]
  pointwise [dGateB, conv]
  refine congrArg _ (congrArg₂ (· + ·) (congrArg₂ (· + ·) (congrArg _ (congrArg _ ?_)) (congrArg _ ?_)) rfl)
  · exact padded_row_zero (fun r => gated proj r i1) i0
  · exact padded_row (fun r => gated proj r i1) 1 1 rfl i0

/-- The gradient of the gated value before the last product, in the order in which the reference adds its three terms. -/
theorem dgated_eq (r : Fin 2048) (l : Fin 1024) :
    w (ix2 2 l) * (proj (ix2 r ⟨1024 + l.val, by omega⟩) * dz (ix2 r l))
      + (if h : 1 ≤ 2 + r.val ∧ 2 + r.val - 1 < 2048 then
          w (ix2 1 l) * (proj (ix2 ⟨2 + r.val - 1, h.2⟩ ⟨1024 + l.val, by omega⟩) * dz (ix2 ⟨2 + r.val - 1, h.2⟩ l)) else 0)
      + (if h : 2 + r.val < 2048 then
          w (ix2 0 l) * (proj (ix2 ⟨2 + r.val, h⟩ ⟨1024 + l.val, by omega⟩) * dz (ix2 ⟨2 + r.val, h⟩ l)) else 0)
      = dgated dz proj w r l := by
  unfold dgated later
  congr 1
  · congr 1
    by_cases h : r.val + 1 < 2048
    · rw [dif_pos (by omega), dif_pos h]
      have e : (⟨2 + r.val - 1, by omega⟩ : Fin 2048) = ⟨r.val + 1, h⟩ := Fin.ext (by simp only; omega)
      rw [e]
      rfl
    · rw [dif_neg (by omega), dif_neg h, mul_zero]
  · by_cases h : r.val + 2 < 2048
    · rw [dif_pos (by omega), dif_pos h]
      have e : (⟨2 + r.val, by omega⟩ : Fin 2048) = ⟨r.val + 2, h⟩ := Fin.ext (by simp only; omega)
      rw [e]
      rfl
    · rw [dif_neg (by omega), dif_neg h, mul_zero]

/-- The reference's gradient of the second gate. -/
theorem ref_dGateC : val_main_v70 dz proj w = dGateC dz proj w := by
  funext i
  idx_vars i
  rw [← val_main_v70_eq]
  pointwise [dGateC]
  rw [← dgated_eq]

/-- The reference's gradient of the gated value. -/
theorem ref_dHead : val_main_v71 dz proj w = dHead dz proj w := by
  funext i
  idx_vars i
  rw [← val_main_v71_eq]
  pointwise [dHead]
  rw [← dgated_eq, mul_comm]

/-- The reference's gradient of the taps. -/
theorem ref_dTaps : val_main_v64 dz proj = dTaps dz proj := by
  funext i
  idx_vars i
  rw [← val_main_v64_eq]
  pointwise [dTaps]
  fin_vals i0 with hk
  · obtain rfl : i0 = 0 := Fin.ext hk
    refine (congrArg₂ (· + ·) (congrArg₂ (· + ·) (dif_neg (by decide)) (dif_neg (by decide))) (dif_pos (by decide))).trans ?_
    rw [Fin.sum_univ_one, zero_add, zero_add]
    exact sum_two_later (fun r => dconv dz proj r i1) (fun r => gated proj r i1)
  · obtain rfl : i0 = 1 := Fin.ext hk
    refine (congrArg₂ (· + ·) (congrArg₂ (· + ·) (dif_neg (by decide)) (dif_pos (by decide))) (dif_neg (by decide))).trans ?_
    rw [Fin.sum_univ_one, zero_add, add_zero]
    exact Finset.sum_congr rfl fun x _ => congrArg (dconv dz proj x i1 * ·) (padded_row (fun r => gated proj r i1) 1 1 rfl x)
  · obtain rfl : i0 = 2 := Fin.ext hk
    refine (congrArg₂ (· + ·) (congrArg₂ (· + ·) (dif_pos (by decide)) (dif_neg (by decide))) (dif_neg (by decide))).trans ?_
    rw [Fin.sum_univ_one, add_zero, add_zero]
    exact Finset.sum_congr rfl fun x _ => congrArg (dconv dz proj x i1 * ·) (earlier_zero proj x i1).symm

/-- The reference's gradient of the bias. -/
theorem ref_dBias : val_main_v53 dz proj = dBias dz proj := by
  funext i
  idx_vars i
  rw [← val_main_v53_eq]
  pointwise [dBias, dconv]

end Cert.Proof.Conv

end
-- ==== Proof.Conv.Claim.lean ====
/-
  The backward pass of the gated causal convolution: the kernel's run and the reference's end with equal results.
-/
module

public import proofs.«01_k».proof.Defs
public import proofs.«01_k».proof.Proof.Conv.Kernel
public import proofs.«01_k».proof.Proof.Conv.Reference
public import Idealize.ShloMosaic.Lib.Claim
public import Idealize.ShloMosaic.Lib.Quiescent

@[expose] public section

set_option maxRecDepth 16384

noncomputable section

namespace Cert.Proof.Conv

open Idealize.ShloMosaic Idealize.ShloMosaic.TcCoe Idealize.SL.Sem

/-- The reference runs to the end with its arguments unchanged and every counter at zero. -/
theorem reference_frame : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

open Cert.ReferenceIdeal.Read in
/-- The kernel's five results are the reference's, element by element. -/
theorem algebraic : Cert.algebraic_KernelIdeal_ReferenceIdeal := by
  intro m g m' g' _ hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks (F := Ideal) m g,
    (θ_run Cert.ReferenceIdeal.defs _ _).mono (fun r h c => ⟨?_, ?_, ?_, ?_, ?_, (h c).2.2.2.2.2⟩)
      (Cert.ReferenceIdeal.Value.run (F := Ideal) m' g')⟩
  · refine ((h c).1.trans ((val_main_v69_eq _ _ _ _).trans (ref_dGateB _ _ _ _))).trans ?_
    rw [(hagree c).1, (hagree c).2.1, (hagree c).2.2.1, (hagree c).2.2.2]
    exact (final6 m c).symm
  · refine ((h c).2.1.trans ((val_main_v70_eq _ _ _).trans (ref_dGateC _ _ _))).trans ?_
    rw [(hagree c).1, (hagree c).2.1, (hagree c).2.2.1]
    exact (final7 m c).symm
  · refine ((h c).2.2.1.trans ((val_main_v71_eq _ _ _).trans (ref_dHead _ _ _))).trans ?_
    rw [(hagree c).1, (hagree c).2.1, (hagree c).2.2.1]
    exact (final8 m c).symm
  · refine ((h c).2.2.2.1.trans ((val_main_v64_eq _ _).trans (ref_dTaps _ _))).trans ?_
    rw [(hagree c).1, (hagree c).2.1]
    exact (final9 m c).symm
  · refine ((h c).2.2.2.2.1.trans ((val_main_v53_eq _ _).trans (ref_dBias _ _))).trans ?_
    rw [(hagree c).1, (hagree c).2.1]
    exact (final10 m c).symm

end Cert.Proof.Conv

end
-- ==== Proof.Conv.Forward.lean ====
/-
  The gated causal convolution: the kernel's run and the reference's end with equal results. Each of the four grid points
  computes one block of 256 channels.
-/
module

public import proofs.«01_k».proof.Defs
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Conv.Kernel
public import proofs.«01_k».proof.Proof.Conv.Reference
public import Idealize.ShloMosaic.Lib.Claim
public import Idealize.ShloMosaic.Lib.Quiescent

@[expose] public section

set_option maxRecDepth 16384

noncomputable section

namespace Cert.Proof.ConvFwd

open Idealize.ShloMosaic Idealize.ShloMosaic.TcCoe Idealize.SL.Sem
open Cert.Proof.Conv (gated earlier conv chan select_ge_one select_ge_two padded_row padded_row_zero)

section Kernel

open Cert.ConvFwdIdeal Cert.ConvFwdIdeal.Gen

/-- The gated convolution's result: the first gate times the convolution. -/
def out (proj : Vec Ideal S2048x4096 .f32) (w : Vec Ideal S3x1024 .f32) (b : Vec Ideal S1x1024 .f32) : Vec Ideal S2048x1024 .f32 :=
  fun i => proj (ix2 (i 0) ⟨1024 + (i 1).val, by have : (i 1).val < 1024 := (i 1).isLt; omega⟩) * conv proj w b (i 0) (i 1)

/-- Where each window's block lies at grid point `t`. -/
theorem idx : ∀ t : Fin cfg0.N, win0_0.index t = ![0, 4 + t.val] ∧ win0_1.index t = ![0, 8 + t.val]
    ∧ win0_2.index t = ![0, 12 + t.val] ∧ win0_3.index t = ![0, t.val] ∧ win0_4.index t = ![0, t.val]
    ∧ win0_5.index t = ![0, t.val] :=
  (by decide +kernel : ∀ t : Fin grid0.N, _)

/-- The five blocks hold the channels from `256 · t` on of the projected rows, the taps and the bias. -/
structure Blocks (PR : Vec Ideal S2048x4096 .f32) (W : Vec Ideal S3x1024 .f32)
    (B : Vec Ideal S1x1024 .f32) (t : Fin 4) (gb gc h : Vec Ideal S2048x256 .f32) (w : Vec Ideal S3x256 .f32)
    (b : Vec Ideal S1x256 .f32) : Prop where
  gb : ∀ (r : Fin 2048) (q : Fin 256), gb (ix2 r q) = PR (ix2 r ⟨1024 + (chan t q).val, by omega⟩)
  gc : ∀ (r : Fin 2048) (q : Fin 256), gc (ix2 r q) = PR (ix2 r ⟨2048 + (chan t q).val, by omega⟩)
  h : ∀ (r : Fin 2048) (q : Fin 256), h (ix2 r q) = PR (ix2 r ⟨3072 + (chan t q).val, by omega⟩)
  w : ∀ (k : Fin 3) (q : Fin 256), w (ix2 k q) = W (ix2 k (chan t q))
  b : ∀ (k : Fin 1) (q : Fin 256), b (ix2 k q) = B (ix2 k (chan t q))

/-- What one block computes. -/
theorem pay_apply {PR : Vec Ideal S2048x4096 .f32} {W : Vec Ideal S3x1024 .f32} {B : Vec Ideal S1x1024 .f32} {t : Fin 4}
    {gb gc h : Vec Ideal S2048x256 .f32} {w : Vec Ideal S3x256 .f32} {b : Vec Ideal S1x256 .f32}
    (hB : Blocks PR W B t gb gc h w b) (r : Fin 2048) (q : Fin 256) :
    k0_pay1 gc h w b gb (ix2 r q) = out PR W B (ix2 r (chan t q)) := by
  pointwise [k0_pay1]
  rw [select_ge_one, select_ge_two]
  simp only [hB.gb, hB.gc, hB.h, hB.w, hB.b]
  refine congrArg₂ (· * ·) rfl (congrArg₂ (· + ·) (congrArg₂ (· + ·) (congrArg₂ (· + ·) rfl ?_) ?_) rfl)
  · unfold earlier gated
    by_cases hr : 2 ≤ r.val
    · rw [if_pos hr]
      refine congrArg _ ?_
      rw [if_pos (show 2 ≤ ((ix2 r (chan t q) : S2048x1024.Idx) 0).val from hr)]
      have e : ∀ h' : (r.val + 2048 - 2) % 2048 < 2048, (⟨(r.val + 2048 - 2) % 2048, h'⟩ : Fin 2048) = ⟨r.val - 2, by omega⟩ :=
        fun h' => Fin.ext (by simp only; omega)
      rw [e]
      rfl
    · rw [if_neg hr, if_neg (show ¬ 2 ≤ ((ix2 r (chan t q) : S2048x1024.Idx) 0).val from hr)]
      exact (mul_zero _).symm
  · unfold earlier gated
    by_cases hr : 1 ≤ r.val
    · rw [if_pos hr]
      refine congrArg _ ?_
      rw [if_pos (show 1 ≤ ((ix2 r (chan t q) : S2048x1024.Idx) 0).val from hr)]
      have e : ∀ h' : (r.val + 2048 - 1) % 2048 < 2048, (⟨(r.val + 2048 - 1) % 2048, h'⟩ : Fin 2048) = ⟨r.val - 1, by omega⟩ :=
        fun h' => Fin.ext (by simp only; omega)
      rw [e]
      rfl
    · rw [if_neg hr, if_neg (show ¬ 1 ≤ ((ix2 r (chan t q) : S2048x1024.Idx) 0).val from hr)]
      exact (mul_zero _).symm

variable (m : (ℓ : Loc nD τ sig) → Buf (Elt Ideal) ℓ)

/-- Grid point `t`'s input blocks are those of channels `256 · t` on. -/
theorem blocks (c : Dev nD) (t : Fin cfg0.N) :
    Blocks (m ((c : Thread nD τ).loc main_arg0)) (m ((c : Thread nD τ).loc main_arg1)) (m ((c : Thread nD τ).loc main_arg2)) t
      (iblk m c 0 t) (iblk m c 1 t) (iblk m c 2 t) (iblk m c 3 t) (iblk m c 4 t) where
  gb r q := by blk_ext [iblk, V, idx t]
  gc r q := by blk_ext [iblk, V, idx t]
  h r q := by blk_ext [iblk, V, idx t]
  w r q := by blk_ext [iblk, V, idx t]
  b r q := by blk_ext [iblk, V, idx t]

/-- The result array holds the gated convolution. -/
theorem final (c : Dev nD) : (dats m 0 c).arrAt 5 cfg0.N = out (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  rw [pay_apply (blocks m c t)]
  refine congrArg _ ?_
  blk_ext [idx t]

end Kernel

section Reference

open Cert.ConvFwdRefIdeal Cert.ConvFwdRefIdeal.Read

/-- The reference's result is the gated convolution. -/
theorem ref_eq (proj : Vec Ideal S2048x4096 .f32) (w : Vec Ideal S3x1024 .f32) (b : Vec Ideal S1x1024 .f32) :
    val_main_v28 proj w b = out proj w b := by
  funext i
  idx_vars i
  rw [← val_main_v28_eq]
  pointwise [out, conv]
  refine congrArg _ (congrArg₂ (· + ·) (congrArg₂ (· + ·) (congrArg _ (congrArg _ ?_)) (congrArg _ ?_)) rfl)
  · exact padded_row_zero (fun r => gated proj r i1) i0
  · exact padded_row (fun r => gated proj r i1) 1 1 rfl i0

/-- The reference runs to the end with its arguments unchanged and every counter at zero. -/
theorem reference_frame : Cert.quiescent_ConvFwdRefIdeal := fun m ρ _ =>
  (θ_run Cert.ConvFwdRefIdeal.defs _ _).mono
    (fun r h => ⟨fun c => (h c).2, Idealize.ShloMosaic.sem_eq_zero_of_no_sems (by decide) r.2⟩)
    (Cert.ConvFwdRefIdeal.Value.run (F := Ideal) m ρ)

/-- The kernel's result is the reference's, element by element. -/
theorem algebraic : Cert.algebraic_ConvFwdIdeal_ConvFwdRefIdeal := by
  intro m g m' g' _ hagree
  refine ⟨fun c => (Cert.ConvFwdIdeal.Gen.dats m 0 c).arrAt 5 Cert.ConvFwdIdeal.cfg0.N,
    Cert.ConvFwdIdeal.Value.run_blocks (F := Ideal) m g,
    (θ_run Cert.ConvFwdRefIdeal.defs _ _).mono (fun r h c => ⟨?_, (h c).2⟩)
      (Cert.ConvFwdRefIdeal.Value.run (F := Ideal) m' g')⟩
  refine ((h c).1.trans ((val_main_v28_eq _ _ _).trans (ref_eq _ _ _))).trans ?_
  rw [(hagree c).1, (hagree c).2.1, (hagree c).2.2]
  exact (final m c).symm

end Reference

end Cert.Proof.ConvFwd

end
-- ==== Proof.Mix.Spec.lean ====
/-
  The two head groups between the mixers and the output product, as functions of a row and a channel: the gate behind the
  state space model, and the root mean square norms.
-/
module

public import Idealize.ShloMosaic.Lib.Pipeline.ValueKit
public import Idealize.ShloMosaic.Lib.Pointwise

@[expose] public section

noncomputable section

namespace Cert.Proof.Mix

open Idealize.ShloMosaic

/-- The single precision constants of the Gaussian unit: one half, the cubic's coefficient, the root of two over pi. -/
abbrev half : EReal := Ideal.ofBits FTy.f32 1056964608#32
abbrev cubic : EReal := Ideal.ofBits FTy.f32 1027024659#32
abbrev slope : EReal := Ideal.ofBits FTy.f32 1061962282#32
/-- The number of channels, and what is added to a mean of squares. -/
abbrev width : EReal := Ideal.ofBits FTy.f32 1149239296#32
abbrev eps : EReal := Ideal.ofBits FTy.f32 897988541#32

/-- The hyperbolic tangent in the Gaussian unit. -/
def bend (x : EReal) : EReal := Ideal.tanh (slope * (x + cubic * (x * (x * x))))

/-- The Gaussian unit, by its hyperbolic approximation. -/
def gelu (x : EReal) : EReal := x * (half * (1 + bend x))

/-- The reciprocal of a row's root mean square. -/
def scale (v : Fin 1024 → EReal) : EReal := Ideal.rsqrt (Ideal.div (∑ k, v k * v k) width + eps)

/-- The mixers' two results, the gate's weight and the norms' weights. -/
structure Heads where
  y : Fin 2048 → Fin 1024 → EReal
  z : Fin 2048 → Fin 1024 → EReal
  w : Fin 1024 → Fin 1024 → EReal
  gs : Fin 1024 → EReal
  gc : Fin 1024 → EReal

namespace Heads

variable (H : Heads) (r : Fin 2048) (l : Fin 1024)

/-- The gate's product. -/
def glu : EReal := ∑ k, gelu (H.y r k) * H.w k l

/-- The gated rows. -/
def gated : EReal := gelu (H.y r l) * Ideal.logistic (H.glu r l)

/-- The first group: the gated rows, normalised. -/
def first : EReal := H.gated r l * scale (H.gated r) * H.gs l

/-- The second group: the convolution's rows, normalised. -/
def second : EReal := H.z r l * scale (H.z r) * H.gc l

/-- The two groups side by side. -/
def both (l : Fin 2048) : EReal :=
  if h : l.val < 1024 then H.first r ⟨l.val, h⟩ else H.second r ⟨l.val - 1024, by omega⟩

end Heads

end Cert.Proof.Mix

end
-- ==== Proof.Mix.Norm.lean ====
/-
  The gradient of a root mean square norm, in two forms that are equal for all rows of extended reals.
-/
module

public import proofs.«01_k».proof.Proof.Mix.Spec
public import Idealize.ShloMosaic.Lib.IdealHost

@[expose] public section

noncomputable section

namespace Cert.Proof.Mix

open Idealize.ShloMosaic

/-- The single precision constant minus one half. -/
abbrev minusHalf : EReal := Ideal.ofBits FTy.f32 3204448256#32

/-- The number of channels is the real 1024. -/
theorem width_eq : width = ((1024 : ℝ) : EReal) := by
  simp [width, Ideal.ofBits, Ideal.ieee, -EReal.coe_mul]; norm_num

/-- Minus one half as a real. -/
theorem minusHalf_eq : minusHalf = ((-(1 / 2) : ℝ) : EReal) := by
  simp [minusHalf, Ideal.ofBits, Ideal.ieee, -EReal.coe_mul]; norm_num

/-- What is added to a mean of squares is a positive real. -/
theorem eps_eq : ∃ e : ℝ, 0 < e ∧ eps = (e : EReal) := by
  refine ⟨8796093 * (2 : ℝ) ^ (-43 : ℤ), by positivity, ?_⟩
  simp [eps, Ideal.ofBits, Ideal.ieee, -EReal.coe_mul]

/-- A square of an extended real is not negative. -/
theorem square_nonneg (x : EReal) : 0 ≤ x * x := by
  induction x with
  | bot => simp
  | top => simp
  | coe r => rw [← EReal.coe_mul]; exact EReal.coe_nonneg.mpr (mul_self_nonneg r)

/-- The reciprocal root over its argument is its cube, at a positive real and at the top. -/
theorem rsqrt_over (v : EReal) (h : v = ⊤ ∨ ∃ r : ℝ, 0 < r ∧ v = (r : EReal)) :
    Ideal.div (Ideal.rsqrt v) v = Ideal.rsqrt v * Ideal.rsqrt v * Ideal.rsqrt v := by
  rcases h with rfl | ⟨r, hr, rfl⟩
  · simp [Ideal.div]
  · rw [Ideal.div_coe hr.ne', Ideal.rsqrt_coe, if_neg hr.not_gt, if_neg hr.ne', ← EReal.coe_mul, ← EReal.coe_mul, ← EReal.coe_mul]
    have h2 : r⁻¹ = (Real.sqrt r)⁻¹ * (Real.sqrt r)⁻¹ := by rw [← mul_inv, Real.mul_self_sqrt hr.le]
    exact congrArg _ (by rw [one_div, h2]; ring)

/-- A mean of squares with the constant added is a positive real or the top. -/
theorem variance_cases (v : Fin 1024 → EReal) :
    Ideal.div (∑ k, v k * v k) width + eps = ⊤ ∨ ∃ r : ℝ, 0 < r ∧ Ideal.div (∑ k, v k * v k) width + eps = (r : EReal) := by
  obtain ⟨e, he, hE⟩ := eps_eq
  have hs : 0 ≤ ∑ k, v k * v k := Finset.sum_nonneg fun k _ => square_nonneg _
  rw [hE, width_eq, Ideal.div_coe (by norm_num)]
  generalize ∑ k, v k * v k = s at hs
  induction s with
  | bot => simp at hs
  | top => left; rw [EReal.top_mul_coe_of_pos (by norm_num)]; simp
  | coe s =>
    right
    have h0 : (0 : ℝ) ≤ s := EReal.coe_nonneg.mp hs
    exact ⟨s * (1 / 1024) + e, by positivity, by rw [← EReal.coe_mul, ← EReal.coe_add]⟩

/-- The gradient of a norm with respect to its row: weight `g`, row `v`, gradient `d` of the result. -/
def normBack (d g v : Fin 1024 → EReal) (l : Fin 1024) : EReal :=
  scale v * (d l * g l) - v l * (scale v * scale v * scale v) * Ideal.div (∑ k, d k * g k * v k) width

/-- The reference's factor of the row in a norm's gradient. -/
def factor (d g v : Fin 1024 → EReal) : EReal :=
  Ideal.div ((∑ k, v k * (d k * g k)) * (minusHalf * Ideal.div (scale v) (Ideal.div (∑ k, v k * v k) width + eps))) width

/-- Twice minus one half of an extended real is its negative. -/
theorem minusHalf_twice (x : EReal) : x * minusHalf + x * minusHalf = -x := by
  rw [minusHalf_eq]
  induction x with
  | bot => rw [EReal.bot_mul_coe_of_neg (by norm_num)]; rfl
  | top => rw [EReal.top_mul_coe_of_neg (by norm_num)]; rfl
  | coe r => rw [← EReal.coe_mul, ← EReal.coe_add, ← EReal.coe_neg]; exact congrArg _ (by ring)

/-- The factor times the row's element, added twice, is the second term of the gradient taken off. -/
theorem normBack_eq (d g v : Fin 1024 → EReal) (l : Fin 1024) :
    d l * g l * scale v + v l * factor d g v + factor d g v * v l = normBack d g v l := by
  unfold normBack factor
  rw [show Ideal.div (scale v) (Ideal.div (∑ k, v k * v k) width + eps) = scale v * scale v * scale v from rsqrt_over _ (variance_cases v),
    add_assoc, mul_comm (d l * g l), sub_eq_add_neg, Finset.sum_congr rfl fun k _ => mul_comm (v k) (d k * g k)]
  refine congrArg _ ?_
  generalize scale v * scale v * scale v = q
  rw [← minusHalf_twice, width_eq, Ideal.div_coe (by norm_num), Ideal.div_coe (by norm_num)]
  refine congrArg₂ (· + ·) ?_ ?_ <;> ac_rfl

end Cert.Proof.Mix

end
-- ==== Proof.Ln.Norm.lean ====
/-
  The gradient of a layer norm, in two forms that are equal at every row of extended reals when the arriving gradient is real.
-/
module

public import proofs.«01_k».proof.Proof.Mix.Norm

@[expose] public section

noncomputable section

namespace Cert.Proof.Ln

open Idealize.ShloMosaic

/-- The number of channels. -/
abbrev cols : EReal := Ideal.ofBits FTy.f32 1157627904#32
/-- What is added to a row's variance. -/
abbrev eps : EReal := Ideal.ofBits FTy.f32 925353388#32

/-- The number of channels is the real 2048. -/
theorem cols_eq : cols = ((2048 : ℝ) : EReal) := by
  simp [cols, Ideal.ofBits, Ideal.ieee, -EReal.coe_mul]; norm_num

/-- What is added to a variance is a positive real. -/
theorem eps_eq : ∃ e : ℝ, 0 < e ∧ eps = (e : EReal) := by
  refine ⟨10995116 * (2 : ℝ) ^ (-40 : ℤ), by positivity, ?_⟩
  simp [eps, Ideal.ofBits, Ideal.ieee, -EReal.coe_mul]

/-- A sum of reals is the same among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The mean of a row. -/
def mean (x : Fin 2048 → EReal) : EReal := Ideal.div (∑ k, x k) cols

/-- A row less its mean. -/
def center (x : Fin 2048 → EReal) (l : Fin 2048) : EReal := x l - mean x

/-- A row's variance, with the constant added. -/
def spread (x : Fin 2048 → EReal) : EReal := Ideal.div (∑ k, center x k * center x k) cols + eps

/-- The reciprocal root of a row's variance. -/
def rstd (x : Fin 2048 → EReal) : EReal := Ideal.rsqrt (spread x)

/-- The normalised row. -/
def unit (x : Fin 2048 → EReal) (l : Fin 2048) : EReal := center x l * rstd x

/-- The gradient of a layer norm with respect to its row `x`, with gradient `d` of the normalised row. -/
def back (x d : Fin 2048 → EReal) (l : Fin 2048) : EReal :=
  rstd x * (d l - mean d - unit x l * mean (fun k => d k * unit x k))

/-- The reference's factor of the centered row. -/
def factor (x d : Fin 2048 → EReal) : EReal :=
  Ideal.div ((∑ k, center x k * d k) * (Mix.minusHalf * Ideal.div (rstd x) (spread x))) cols

/-- The reference's gradient of the centered row. -/
def dCenter (x d : Fin 2048 → EReal) (l : Fin 2048) : EReal :=
  d l * rstd x + center x l * factor x d + factor x d * center x l

/-- The mean of real numbers. -/
theorem mean_coe (x : Fin 2048 → ℝ) : mean (fun k => (x k : EReal)) = (((∑ k, x k) / 2048 : ℝ) : EReal) := by
  unfold mean
  rw [← coe_sum, cols_eq, Ideal.div_coe (by norm_num), ← EReal.coe_mul]
  exact congrArg _ (by ring)

/-- A square that is not infinite is that of a real. -/
theorem real_of_square {y : EReal} (h : y * y ≠ ⊤) : ∃ r : ℝ, y = (r : EReal) := by
  induction y with
  | bot => simp at h
  | top => simp at h
  | coe r => exact ⟨r, rfl⟩

/-- Either a row's variance is infinite, or the row is real and so is its variance, which is positive. -/
theorem spread_cases (x : Fin 2048 → EReal) :
    spread x = ⊤ ∨ ∃ y : Fin 2048 → ℝ, (x = fun k => (y k : EReal)) ∧ ∃ v : ℝ, 0 < v ∧ spread x = (v : EReal) := by
  obtain ⟨e, he, hE⟩ := eps_eq
  have hs : 0 ≤ ∑ k, center x k * center x k := Finset.sum_nonneg fun k _ => Mix.square_nonneg _
  by_cases hT : ∑ k, center x k * center x k = ⊤
  · left
    unfold spread
    rw [hT, hE, cols_eq, Ideal.div_coe (by norm_num), EReal.top_mul_coe_of_pos (by norm_num)]
    simp
  · right
    have hc : ∀ k, ∃ r : ℝ, center x k = (r : EReal) := fun k => real_of_square fun h =>
      hT (top_le_iff.mp (h ▸ Finset.single_le_sum (f := fun k => center x k * center x k) (fun k _ => Mix.square_nonneg _) (Finset.mem_univ k)))
    have hx : ∀ k, ∃ r : ℝ, x k = (r : EReal) := by
      intro k
      obtain ⟨r, hr⟩ := hc k
      unfold center at hr
      generalize mean x = μ at hr
      generalize x k = a at hr ⊢
      induction a with
      | coe a => exact ⟨a, rfl⟩
      | bot => exact absurd hr (by simp [sub_eq_add_neg])
      | top =>
        exfalso
        induction μ with
        | coe a => rw [EReal.top_sub_coe] at hr; exact absurd hr (EReal.coe_ne_top r).symm
        | bot => exact absurd hr (by simp [sub_eq_add_neg])
        | top => exact absurd hr (by simp [sub_eq_add_neg])
    choose y hy using hx
    choose z hz using hc
    refine ⟨y, funext hy, (∑ k, z k * z k) * (1 / 2048) + e, ?_, ?_⟩
    · have : (0 : ℝ) ≤ ∑ k, z k * z k := Finset.sum_nonneg fun k _ => mul_self_nonneg _
      positivity
    · unfold spread
      simp only [hz, ← EReal.coe_mul]
      rw [← coe_sum, hE, cols_eq, Ideal.div_coe (by norm_num), ← EReal.coe_mul, ← EReal.coe_add]

/-- The identity behind both forms, for reals: `x` is centered, `q` the reciprocal root. -/
theorem back_real (x d : Fin 2048 → ℝ) (q : ℝ) (hx : ∑ k, x k = 0) (l : Fin 2048) (F : ℝ)
    (hF : F = -(1 / 2) * (q * q * q) * (∑ k, x k * d k) / 2048) :
    (d l * q + x l * F + F * x l) + (∑ k, -(d k * q + x k * F + F * x k)) / 2048
      = q * (d l - (∑ k, d k) / 2048 - x l * q * ((∑ k, d k * (x k * q)) / 2048)) := by
  have h1 : ∑ k, -(d k * q + x k * F + F * x k) = -(q * ∑ k, d k) - 2 * F * ∑ k, x k := by
    rw [Finset.mul_sum, Finset.mul_sum, ← Finset.sum_neg_distrib, ← Finset.sum_sub_distrib]
    exact Finset.sum_congr rfl fun k _ => by ring
  have h2 : ∑ k, d k * (x k * q) = q * ∑ k, x k * d k := by
    rw [Finset.mul_sum]
    exact Finset.sum_congr rfl fun k _ => by ring
  rw [h1, h2, hx, hF]
  ring

/-- The reference's gradient of a row is the kernel's, where the arriving gradient is real. -/
theorem back_eq (x : Fin 2048 → EReal) (d : Fin 2048 → ℝ) (l : Fin 2048) :
    dCenter x (fun k => (d k : EReal)) l + Ideal.div (∑ k, -dCenter x (fun k => (d k : EReal)) k) cols = back x (fun k => (d k : EReal)) l := by
  rcases spread_cases x with hT | ⟨y, rfl, v, hv, hV⟩
  · have hq : rstd x = 0 := by unfold rstd; rw [hT]; simp
    have hF : factor x (fun k => (d k : EReal)) = 0 := by
      unfold factor
      rw [show Ideal.div (rstd x) (spread x) = rstd x * rstd x * rstd x from Mix.rsqrt_over _ (.inl hT), hq, cols_eq, Ideal.div_coe (by norm_num)]
      simp
    have hD : ∀ k, dCenter x (fun k => (d k : EReal)) k = 0 := fun k => by unfold dCenter; rw [hF, hq]; simp
    simp only [hD]
    unfold back
    rw [hq, cols_eq, Ideal.div_coe (by norm_num)]
    simp
  · generalize hx : (fun k => (y k : EReal)) = x at hV ⊢
    have hc : ∀ k, center x k = ((y k - (∑ k, y k) / 2048 : ℝ) : EReal) := fun k => by
      unfold center; rw [← hx, mean_coe, EReal.coe_sub]
    have hq : rstd x = (((Real.sqrt v)⁻¹ : ℝ) : EReal) := by
      unfold rstd; rw [hV, Ideal.rsqrt_coe, if_neg hv.not_gt, if_neg hv.ne']
    generalize (Real.sqrt v)⁻¹ = q at hq
    generalize hz : (fun k => y k - (∑ k, y k) / 2048) = z
    have hc' : ∀ k, center x k = (z k : EReal) := fun k => by rw [hc, ← hz]
    have hz0 : ∑ k, z k = 0 := by
      rw [← hz, Finset.sum_sub_distrib]
      simp
      ring
    have hF : factor x (fun k => (d k : EReal)) = ((-(1 / 2) * (q * q * q) * (∑ k, z k * d k) / 2048 : ℝ) : EReal) := by
      unfold factor
      rw [show Ideal.div (rstd x) (spread x) = rstd x * rstd x * rstd x from Mix.rsqrt_over _ (.inr ⟨v, hv, hV⟩), hq, cols_eq, Ideal.div_coe (by norm_num)]
      simp only [hc', ← EReal.coe_mul, Mix.minusHalf_eq]
      rw [← coe_sum, ← EReal.coe_mul, ← EReal.coe_mul]
      exact congrArg _ (by ring)
    generalize hG : (-(1 / 2) * (q * q * q) * (∑ k, z k * d k) / 2048 : ℝ) = F at hF
    have hD : ∀ k, dCenter x (fun k => (d k : EReal)) k = ((d k * q + z k * F + F * z k : ℝ) : EReal) := fun k => by
      unfold dCenter; rw [hF, hq, hc']; norm_cast
    have hB : back x (fun k => (d k : EReal)) l
        = ((q * (d l - (∑ k, d k) / 2048 - z l * q * ((∑ k, d k * (z k * q)) / 2048)) : ℝ) : EReal) := by
      unfold back unit
      rw [mean_coe, hq, hc']
      simp only [hc', ← EReal.coe_mul]
      rw [mean_coe]
      norm_cast
    rw [hB, ← back_real z d q hz0 l F hG.symm]
    simp only [hD, ← EReal.coe_neg]
    rw [← coe_sum, cols_eq, Ideal.div_coe (by norm_num), ← EReal.coe_mul, ← EReal.coe_add]
    exact congrArg _ (by ring)

/-- The normalised row is real. -/
theorem unit_real (x : Fin 2048 → EReal) (l : Fin 2048) : ∃ r : ℝ, unit x l = (r : EReal) := by
  rcases spread_cases x with hT | ⟨y, rfl, v, hv, hV⟩
  · refine ⟨0, ?_⟩
    unfold unit rstd
    rw [hT]
    simp
  · refine ⟨(y l - (∑ k, y k) / 2048) * (Real.sqrt v)⁻¹, ?_⟩
    unfold unit center rstd
    rw [hV, mean_coe, Ideal.rsqrt_coe, if_neg hv.not_gt, if_neg hv.ne', ← EReal.coe_sub, ← EReal.coe_mul]

end Cert.Proof.Ln

end
-- ==== Proof.Ln.Grad.lean ====
/-
  The loss head and its gradients, as functions of a row and a channel.
-/
module

public import proofs.«01_k».proof.Proof.Ln.Norm

@[expose] public section

noncomputable section

namespace Cert.Proof.Ln

open Idealize.ShloMosaic

/-- One over the number of channels. -/
abbrev invCols : EReal := Ideal.ofBits FTy.f32 973078528#32
/-- One half over the number of channels. -/
abbrev halfInvCols : EReal := Ideal.ofBits FTy.f32 964689920#32
/-- One half and two. -/
abbrev half : EReal := Ideal.ofBits FTy.f32 1056964608#32
abbrev two : EReal := Ideal.ofBits FTy.f32 1073741824#32

theorem invCols_eq : invCols = ((1 / 2048 : ℝ) : EReal) := by
  simp [invCols, Ideal.ofBits, Ideal.ieee, -EReal.coe_mul]; norm_num

theorem halfInvCols_eq : halfInvCols = ((1 / 4096 : ℝ) : EReal) := by
  simp [halfInvCols, Ideal.ofBits, Ideal.ieee, -EReal.coe_mul]; norm_num

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- The row of the arrays that row `p` of block `t` holds. -/
abbrev row (t : Fin 8) (p : Fin 256) : Fin 2048 := ⟨t.val * 256 + p.val, by omega⟩

/-- The rows `x`, the norm's gain `g` and shift `b`, and the target `t`. -/
structure Head where
  x : Fin 2048 → Fin 2048 → EReal
  t : Fin 2048 → Fin 2048 → EReal
  g : Fin 2048 → EReal
  b : Fin 2048 → EReal

namespace Head

variable (H : Head) (r l : Fin 2048)

/-- What the norm's result is off the target by. -/
def err : EReal := unit (H.x r) l * H.g l + H.b l - H.t r l

/-- The gradient of the norm's result. -/
def dY : EReal := H.err r l * invCols

/-- The gradient of the rows. -/
def dX : EReal := back (H.x r) (fun k => H.dY r k * H.g k) l

/-- The gradient of the gain. -/
def dG : EReal := ∑ r, H.dY r l * unit (H.x r) l

/-- The gradient of the shift. -/
def dB : EReal := ∑ r, H.dY r l

/-- The loss, summed block by block. -/
def loss : EReal := ∑ t : Fin 8, halfInvCols * ∑ p : Fin 256, ∑ l, H.err (row t p) l * H.err (row t p) l

/-- The gain, the shift and the target are real. -/
structure Real : Prop where
  g : ∀ l, ∃ a : ℝ, H.g l = a
  b : ∀ l, ∃ a : ℝ, H.b l = a
  t : ∀ r l, ∃ a : ℝ, H.t r l = a

variable {H}

/-- Then the error is real, since the normalised row always is. -/
theorem err_real (h : H.Real) : ∃ a : ℝ, H.err r l = a := by
  obtain ⟨u, hu⟩ := unit_real (H.x r) l
  obtain ⟨g, hg⟩ := h.g l
  obtain ⟨b, hb⟩ := h.b l
  obtain ⟨t, ht⟩ := h.t r l
  refine ⟨u * g + b - t, ?_⟩
  unfold err
  rw [hu, hg, hb, ht]
  norm_cast

/-- The reference's gradient of the norm's result, a half of one over the number of channels times twice the error. -/
theorem dY_eq (h : H.Real) : Ideal.div half cols * (two * H.err r l) = H.dY r l := by
  obtain ⟨e, he⟩ := err_real r l h
  unfold dY
  rw [he, half_eq, two_eq, invCols_eq, cols_eq, Ideal.div_coe (by norm_num), ← EReal.coe_mul, ← EReal.coe_mul,
    ← EReal.coe_mul, ← EReal.coe_mul]
  exact congrArg _ (by ring)

/-- The reference's gradient of the rows. -/
theorem dX_eq (h : H.Real) : dCenter (H.x r) (fun k => H.dY r k * H.g k) l
    + Ideal.div (∑ k, -dCenter (H.x r) (fun k => H.dY r k * H.g k) k) cols = H.dX r l := by
  have hd : ∀ k, ∃ a : ℝ, H.dY r k * H.g k = a := fun k => by
    obtain ⟨e, he⟩ := err_real r k h
    obtain ⟨g, hg⟩ := h.g k
    refine ⟨e * (1 / 2048) * g, ?_⟩
    unfold dY
    rw [he, hg, invCols_eq, ← EReal.coe_mul, ← EReal.coe_mul]
  choose d hd using hd
  have hd' : (fun k => H.dY r k * H.g k) = fun k => (d k : EReal) := funext hd
  unfold dX
  rw [hd']
  exact back_eq (H.x r) d l

/-- The reference's loss, half the sum of the rows' means of squares. -/
theorem loss_eq (h : H.Real) : half * ∑ r, Ideal.div (∑ l, H.err r l * H.err r l) cols = H.loss := by
  choose e he using fun r l => err_real (H := H) r l h
  have hs : ∑ r : Fin 2048, ∑ l, e r l * e r l = ∑ t : Fin 8, ∑ p : Fin 256, ∑ l, e (row t p) l * e (row t p) l :=
    (Fin.sum_mul_add_congr fun s p hl => rfl).symm
  unfold loss
  simp only [he, ← EReal.coe_mul, ← coe_sum, half_eq, halfInvCols_eq, cols_eq, Ideal.div_coe (show (2048 : ℝ) ≠ 0 by norm_num)]
  refine congrArg _ ?_
  rw [← Finset.sum_mul, hs, ← Finset.mul_sum]
  ring

end Head

end Cert.Proof.Ln

end
-- ==== Proof.Ln.Layer.lean ====
/-
  A layer norm inside a layer, forward and backward, as functions of a row and a channel.
-/
module

public import proofs.«01_k».proof.Proof.Ln.Grad

@[expose] public section

noncomputable section

namespace Cert.Proof.Ln

open Idealize.ShloMosaic

/-- The weight of the rows carried past a part of the layer. -/
abbrev alpha : EReal := Ideal.ofBits FTy.f32 1071072509#32

/-- It is a real number. -/
theorem alpha_real : ∃ a : ℝ, alpha = a :=
  ⟨_, by simp [alpha, Ideal.ofBits, Ideal.ieee, -EReal.coe_mul]; rfl⟩

/-- The rows `x` of a layer norm, the gradient `a` that arrives through the next part of the layer, the gradient `e` that is carried past
it, and the norm's gain `g`. -/
structure Back where
  x : Fin 2048 → Fin 2048 → EReal
  a : Fin 2048 → Fin 2048 → EReal
  e : Fin 2048 → Fin 2048 → EReal
  g : Fin 2048 → EReal

namespace Back

variable (B : Back) (r l : Fin 2048)

/-- The gradient of the norm's result. -/
def dY : EReal := alpha * B.e r l + B.a r l

/-- The gradient of the rows. -/
def dX : EReal := back (B.x r) (fun k => B.dY r k * B.g k) l

/-- The gradient of the gain. -/
def dG : EReal := ∑ r, B.dY r l * unit (B.x r) l

/-- The gradient of the shift. -/
def dB : EReal := ∑ r, B.dY r l

/-- The two terms of the arriving gradient and the gain are real. -/
structure Real : Prop where
  a : ∀ r l, ∃ y : ℝ, B.a r l = y
  e : ∀ r l, ∃ y : ℝ, B.e r l = y
  g : ∀ l, ∃ y : ℝ, B.g l = y

variable {B}

/-- The reference's gradient of the rows. -/
theorem dX_eq (h : B.Real) : dCenter (B.x r) (fun k => B.dY r k * B.g k) l
    + Ideal.div (∑ k, -dCenter (B.x r) (fun k => B.dY r k * B.g k) k) cols = B.dX r l := by
  have hd : ∀ k, ∃ y : ℝ, B.dY r k * B.g k = y := fun k => by
    obtain ⟨w, hw⟩ := alpha_real
    obtain ⟨e, he⟩ := h.e r k
    obtain ⟨a, ha⟩ := h.a r k
    obtain ⟨g, hg⟩ := h.g k
    refine ⟨(w * e + a) * g, ?_⟩
    unfold dY
    rw [he, hg, ha, hw]
    norm_cast
  choose d hd using hd
  have hd' : (fun k => B.dY r k * B.g k) = fun k => (d k : EReal) := funext hd
  unfold dX
  rw [hd']
  exact back_eq (B.x r) d l

end Back

/-- The carried rows `e`, the result `a` of a part of the layer, and the norm's gain and shift. -/
structure Layer where
  a : Fin 2048 → Fin 2048 → EReal
  e : Fin 2048 → Fin 2048 → EReal
  g : Fin 2048 → EReal
  b : Fin 2048 → EReal

namespace Layer

variable (N : Layer) (r l : Fin 2048)

/-- The rows of the norm. -/
def x : EReal := alpha * N.e r l + half * N.a r l

/-- The norm's result. -/
def y : EReal := unit (N.x r) l * N.g l + N.b l

end Layer

end Cert.Proof.Ln

end
-- ==== Proof.Ln.Blocks.lean ====
/-
  The loss head with the norm before it: what one grid point of the kernel computes from its blocks.
-/
module

public import proofs.«01_k».proof.Proof.Gen.LossLnIdeal.Skeleton
public import proofs.«01_k».proof.Proof.Ln.Grad

@[expose] public section

set_option maxRecDepth 16384

noncomputable section

namespace Cert.Proof.LossLn

open Idealize.ShloMosaic Idealize.ShloMosaic.TcCoe Idealize.SL.Sem Cert.LossLnIdeal Cert.LossLnIdeal.Gen Cert.Proof.Ln

/-- The blocks hold the rows from `256 · t` on of the norm's result, the target, the normalised rows and the reciprocal roots, and the whole gain. -/
structure Blocks (H : Head) (t : Fin 8) (y tg : Vec Ideal S256x2048 .f32) (u : Vec Ideal S256x2048 .bf16)
    (q : Vec Ideal S256x1 .f32) (g : Vec Ideal S1x2048 .f32) : Prop where
  y : ∀ (p : Fin 256) (l : Fin 2048), y (ix2 p l) = unit (H.x (row t p)) l * H.g l + H.b l
  tg : ∀ (p : Fin 256) (l : Fin 2048), tg (ix2 p l) = H.t (row t p) l
  u : ∀ (p : Fin 256) (l : Fin 2048), u (ix2 p l) = unit (H.x (row t p)) l
  q : ∀ p : Fin 256, q (ix2 p 0) = rstd (H.x (row t p))
  g : ∀ l : Fin 2048, g (ix2 0 l) = H.g l

variable {H : Head} {t : Fin 8} {y tg : Vec Ideal S256x2048 .f32} {u : Vec Ideal S256x2048 .bf16}
  {q : Vec Ideal S256x1 .f32} {g : Vec Ideal S1x2048 .f32}

/-- The error of a block's element. -/
theorem err_apply (h : Blocks H t y tg u q g) (p : Fin 256) (l : Fin 2048) : k0_pay8 y tg (ix2 p l) = H.err (row t p) l := by
  pointwise [k0_pay8]
  rw [h.y, h.tg]
  rfl

/-- The gradient of the norm's result at a block's element. -/
theorem dY_apply (h : Blocks H t y tg u q g) (p : Fin 256) (l : Fin 2048) : k0_pay10 y tg (ix2 p l) = H.dY (row t p) l := by
  pointwise [k0_pay10]
  rw [err_apply h]
  rfl

/-- That gradient times the gain. -/
theorem dU_apply (h : Blocks H t y tg u q g) (p : Fin 256) (l : Fin 2048) :
    k0_pay13 y tg g (ix2 p l) = H.dY (row t p) l * H.g l := by
  pointwise [k0_pay13]
  rw [dY_apply h, h.g]

/-- A block's element of the gradient of the rows. -/
theorem dX_apply (h : Blocks H t y tg u q g) (p : Fin 256) (l : Fin 2048) :
    k0_pay1 (k0_pay11 u) (k0_pay12 q) (k0_pay14 y tg g) (k0_pay15 y tg u g) (ix2 p l) = H.dX (row t p) l := by
  pointwise [k0_pay1, k0_pay11, k0_pay12, k0_pay14, k0_pay15]
  simp only [dU_apply h, h.u, h.q]
  rfl

/-- The same, at half precision. -/
theorem dX_half_apply (h : Blocks H t y tg u q g) (p : Fin 256) (l : Fin 2048) :
    k0_pay2 (k0_pay11 u) (k0_pay12 q) (k0_pay14 y tg g) (k0_pay15 y tg u g) (ix2 p l) = H.dX (row t p) l := by
  pointwise [k0_pay2]
  exact dX_apply h p l

/-- A block's part of the gain's gradient, over what was there. -/
theorem dG_apply (h : Blocks H t y tg u q g) (acc : Vec Ideal S1x2048 .f32) (l : Fin 2048) :
    (k0_pay3 (k0_pay10 y tg) (k0_pay11 u) acc (ix2 0 l) : EReal)
      = acc (ix2 0 l) + ∑ p : Fin 256, H.dY (row t p) l * unit (H.x (row t p)) l := by
  pointwise [k0_pay3, k0_pay11]
  simp only [dY_apply h, h.u]

/-- A block's part of the shift's gradient, over what was there. -/
theorem dB_apply (h : Blocks H t y tg u q g) (acc : Vec Ideal S1x2048 .f32) (l : Fin 2048) :
    (k0_pay4 (k0_pay10 y tg) acc (ix2 0 l) : EReal) = acc (ix2 0 l) + ∑ p : Fin 256, H.dY (row t p) l := by
  pointwise [k0_pay4]
  simp only [dY_apply h]

/-- A block's part of the loss, over what was there. -/
theorem loss_apply (h : Blocks H t y tg u q g) (acc : Vec Ideal S1x1 .f32) :
    (k0_pay9 y tg acc (ix2 0 0) : EReal)
      = acc (ix2 0 0) + halfInvCols * ∑ p : Fin 256, ∑ l : Fin 2048, H.err (row t p) l * H.err (row t p) l := by
  pointwise [k0_pay9]
  simp only [err_apply h]

/-- The gain's gradient is zero at the start. -/
theorem zero_g (l : Fin 2048) : (k0_pay5 (F := Ideal) (ix2 0 l) : EReal) = 0 := by pointwise [k0_pay5]

/-- The shift's gradient is zero at the start. -/
theorem zero_b (l : Fin 2048) : (k0_pay6 (F := Ideal) (ix2 0 l) : EReal) = 0 := by pointwise [k0_pay6]

/-- The loss is zero at the start. -/
theorem zero_loss : (k0_pay7 (F := Ideal) (ix2 0 0) : EReal) = 0 := by pointwise [k0_pay7]

end Cert.Proof.LossLn

end
-- ==== Proof.Ln.Kernel.lean ====
/-
  The loss head with the norm before it: what the kernel's run leaves in its five results.
-/
module

public import proofs.«01_k».proof.Proof.Gen.LossLnIdeal.Value
public import proofs.«01_k».proof.Proof.Ln.Blocks

@[expose] public section

set_option maxRecDepth 16384

noncomputable section

namespace Cert.Proof.LossLn

open Idealize.ShloMosaic Idealize.ShloMosaic.TcCoe Idealize.SL.Sem Cert.LossLnIdeal Cert.LossLnIdeal.Gen Cert.Proof.Ln

/-- The arrays as functions of their indices. -/
def head (x : Vec Ideal S2048x2048 .f32) (g b : Vec Ideal S1x2048 .f32) (t : Vec Ideal S2048x2048 .f32) : Head where
  x r l := x (ix2 r l)
  t r l := t (ix2 r l)
  g l := g (ix2 0 l)
  b l := b (ix2 0 l)

/-- Where each window's block lies at grid point `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0]
    ∧ win0_9.index t = ![0, 0] :=
  (by decide +kernel : ∀ t : Fin grid0.N, _)

/-- The mean of each row of an array, as the host computes it. -/
def hostMean (x : FVec Ideal S2048x2048 .f32) : FVec Ideal S2048x1 .f32 :=
  Host.divf (broadcastInDim S2048x1 ![0] bcast_S2048_S2048x1_0
      (Host.reduceAdd x (constant S_ FTy.f32 0#32) reducesTo_S2048x2048_S2048_d1 h_S_))
    (broadcastInDim S2048x1 ![] bcast_S_S2048x1 (constant S_ FTy.f32 1157627904#32))

/-- The rows less their means, as the host computes them. -/
def hostCenter (x : FVec Ideal S2048x2048 .f32) : FVec Ideal S2048x2048 .f32 :=
  subf x (broadcastInDim S2048x2048 ![0, 1] bcast_S2048x1_S2048x2048_0_1 (hostMean x))

/-- The reciprocal roots of the rows' variances, as the host computes them. -/
def hostRstd (x : FVec Ideal S2048x2048 .f32) : FVec Ideal S2048x1 .f32 :=
  Host.rsqrt (addf (hostMean (mulf (hostCenter x) (hostCenter x)))
    (broadcastInDim S2048x1 ![] bcast_S_S2048x1 (constant S_ FTy.f32 925353388#32)))

/-- The normalised rows, as the host computes them. -/
def hostUnit (x : FVec Ideal S2048x2048 .f32) : FVec Ideal S2048x2048 .f32 :=
  mulf (hostCenter x) (broadcastInDim S2048x2048 ![0, 1] bcast_S2048x1_S2048x2048_0_1 (hostRstd x))

/-- The norm's result, as the host computes it. -/
def hostNorm (x : FVec Ideal S2048x2048 .f32) (g b : FVec Ideal S1x2048 .f32) : FVec Ideal S2048x2048 .f32 :=
  addf (mulf (hostUnit x) (broadcastInDim S2048x2048 ![0, 1] bcast_S1x2048_S2048x2048_0_1 g))
    (broadcastInDim S2048x2048 ![0, 1] bcast_S1x2048_S2048x2048_0_1 b)

/-- An element of the host's means. -/
theorem hostMean_apply (x : Vec Ideal S2048x2048 .f32) (r : Fin 2048) : hostMean x (ix2 r 0) = mean fun l => x (ix2 r l) := by
  pointwise [hostMean]
  rfl

/-- An element of the host's centered rows. -/
theorem hostCenter_apply (x : Vec Ideal S2048x2048 .f32) (r l : Fin 2048) :
    hostCenter x (ix2 r l) = center (fun l => x (ix2 r l)) l := by
  pointwise [hostCenter]
  rw [hostMean_apply]
  rfl

/-- An element of the host's reciprocal roots. -/
theorem hostRstd_apply (x : Vec Ideal S2048x2048 .f32) (r : Fin 2048) : hostRstd x (ix2 r 0) = rstd fun l => x (ix2 r l) := by
  pointwise [hostRstd]
  rw [hostMean_apply]
  pointwise []
  simp only [hostCenter_apply]
  rfl

/-- An element of the host's normalised rows. -/
theorem hostUnit_apply (x : Vec Ideal S2048x2048 .f32) (r l : Fin 2048) :
    hostUnit x (ix2 r l) = unit (fun l => x (ix2 r l)) l := by
  pointwise [hostUnit]
  rw [hostCenter_apply, hostRstd_apply]
  rfl

/-- An element of the host's norm. -/
theorem hostNorm_apply (x : Vec Ideal S2048x2048 .f32) (g b : Vec Ideal S1x2048 .f32) (r l : Fin 2048) :
    hostNorm x g b (ix2 r l) = unit (fun l => x (ix2 r l)) l * g (ix2 0 l) + b (ix2 0 l) := by
  pointwise [hostNorm]
  rw [hostUnit_apply]

variable (m : (ℓ : Loc nD τ sig) → Buf (Elt Ideal) ℓ)

/-- The arrays the program is called with. -/
abbrev argHead (c : Dev nD) : Head := head (m ((c : Thread nD τ).loc main_arg0)) (m ((c : Thread nD τ).loc main_arg1))
  (m ((c : Thread nD τ).loc main_arg2)) (m ((c : Thread nD τ).loc main_arg3))

/-- The norm's result as the call reads it. -/
theorem V_norm (c : Dev nD) : V m c main_v19
    = hostNorm (m ((c : Thread nD τ).loc main_arg0)) (m ((c : Thread nD τ).loc main_arg1)) (m ((c : Thread nD τ).loc main_arg2)) := by
  unfold V hostNorm hostUnit hostRstd hostMean hostCenter hostMean
  after_results

/-- The normalised rows as the call reads them. -/
theorem V_unit (c : Dev nD) : V m c main_v20
    = truncf (F := Ideal) (s := S2048x2048) .bf16 (hostUnit (m ((c : Thread nD τ).loc main_arg0))) bitsLt_bf16_f32 := by
  unfold V hostUnit hostRstd hostMean hostCenter hostMean
  after_results

/-- The reciprocal roots as the call reads them. -/
theorem V_rstd (c : Dev nD) : V m c main_v13 = hostRstd (m ((c : Thread nD τ).loc main_arg0)) := by
  unfold V hostRstd hostMean hostCenter hostMean
  after_results

/-- A block of the norm's result is the rows from `256 · t` on. -/
theorem block_y (c : Dev nD) (t : Fin cfg0.N) (p : Fin 256) (l : Fin 2048) :
    iblk m c 0 t (ix2 p l) = V m c main_v19 (ix2 (row t p) l) := by blk_ext [iblk, idx t]

/-- A block of the target is the rows from `256 · t` on. -/
theorem block_t (c : Dev nD) (t : Fin cfg0.N) (p : Fin 256) (l : Fin 2048) :
    iblk m c 1 t (ix2 p l) = V m c main_arg3 (ix2 (row t p) l) := by blk_ext [iblk, idx t]

/-- A block of the normalised rows is the rows from `256 · t` on. -/
theorem block_u (c : Dev nD) (t : Fin cfg0.N) (p : Fin 256) (l : Fin 2048) :
    iblk m c 2 t (ix2 p l) = V m c main_v20 (ix2 (row t p) l) := by blk_ext [iblk, idx t]

/-- A block of the reciprocal roots is the rows from `256 · t` on. -/
theorem block_q (c : Dev nD) (t : Fin cfg0.N) (p : Fin 256) :
    iblk m c 3 t (ix2 p 0) = V m c main_v13 (ix2 (row t p) 0) := by blk_ext [iblk, idx t]

/-- Every block of the gain is the whole gain. -/
theorem block_g (c : Dev nD) (t : Fin cfg0.N) (l : Fin 2048) :
    iblk m c 4 t (ix2 0 l) = V m c main_arg1 (ix2 0 l) := by blk_ext [iblk, idx t]

/-- Grid point `t`'s blocks are those of the rows from `256 · t` on. -/
theorem blocks (c : Dev nD) (t : Fin cfg0.N) :
    Blocks (argHead m c) t (iblk m c 0 t) (iblk m c 1 t) (iblk m c 2 t) (iblk m c 3 t) (iblk m c 4 t) where
  y p l := (block_y m c t p l).trans ((congrFun (V_norm m c) _).trans (hostNorm_apply _ _ _ _ _))
  tg p l := (block_t m c t p l).trans (congrFun (V_main_arg3 m c) _)
  u p l := (block_u m c t p l).trans ((congrFun (V_unit m c) _).trans (hostUnit_apply _ _ _))
  q p := (block_q m c t p).trans ((congrFun (V_rstd m c) _).trans (hostRstd_apply _ _))
  g l := (block_g m c t l).trans (congrFun (V_main_arg1 m c) _)

/-- The gradients and the loss as arrays. -/
def gradX (H : Head) : Vec Ideal S2048x2048 .f32 := fun i => H.dX (i 0) (i 1)
def gradXHalf (H : Head) : Vec Ideal S2048x2048 .bf16 := fun i => H.dX (i 0) (i 1)
def gradG (H : Head) : Vec Ideal S1x2048 .f32 := fun i => H.dG (i 1)
def gradB (H : Head) : Vec Ideal S1x2048 .f32 := fun i => H.dB (i 1)
def lossAt (H : Head) : Vec Ideal S1x1 .f32 := fun _ => H.loss

/-- One row block's part of the gain's gradient, of the shift's gradient and of the loss. -/
def partG (H : Head) (t : Fin 8) (i : S1x2048.Idx) : EReal := ∑ p : Fin 256, H.dY (row t p) (i 1) * unit (H.x (row t p)) (i 1)
def partB (H : Head) (t : Fin 8) (i : S1x2048.Idx) : EReal := ∑ p : Fin 256, H.dY (row t p) (i 1)
def partLoss (H : Head) (t : Fin 8) : EReal := halfInvCols * ∑ p : Fin 256, ∑ l, H.err (row t p) l * H.err (row t p) l

/-- A point leaves its rows of the gradient of the rows. -/
theorem outs_x (c : Dev nD) (t : Fin cfg0.N) (p : Fin 256) (l : Fin 2048) :
    (outsAt0 m c t.val t.isLt).1 (ix2 p l) = (argHead m c).dX (row t p) l := by
  by_cases h : t.val % 8 = 0
  · rw [outsAt0_A m c t h]
    frame_out
    exact dX_apply (blocks m c t) p l
  · rw [outsAt0_B m c t h]
    frame_out
    exact dX_apply (blocks m c t) p l

/-- It leaves them at half precision too. -/
theorem outs_xh (c : Dev nD) (t : Fin cfg0.N) (p : Fin 256) (l : Fin 2048) :
    (outsAt0 m c t.val t.isLt).2.1 (ix2 p l) = (argHead m c).dX (row t p) l := by
  by_cases h : t.val % 8 = 0
  · rw [outsAt0_A m c t h]
    frame_out
    exact dX_half_apply (blocks m c t) p l
  · rw [outsAt0_B m c t h]
    frame_out
    exact dX_half_apply (blocks m c t) p l

/-- After the last point the first accumulator holds the gain's gradient. -/
theorem outs_g (c : Dev nD) (t : Fin cfg0.N) (ht : t.val + 1 = cfg0.N) (i : S1x2048.Idx) :
    (outsAt0 m c t.val t.isLt).2.2.1 i = gradG (argHead m c) i := by
  rw [Pipeline.eq_sum_fin_of_reset_step_apply_last (M := EReal) (fun n h => (outsAt0 m c n h).2.2.1) 8 (fun _ => 0)
    (fun t i => partG (argHead m c) t i) (fun t h i => ?_) (fun t h i => ?_) (le_of_eq N_0) t ht i, zero_add]
  · exact Fin.sum_mul_add_congr fun s p hl => rfl
  · rw [outsAt0_A m c t h]
    frame_out
    idx_vars i
    obtain rfl := Fin.eq_zero i0
    rw [dG_apply (blocks m c t), zero_g]
    rfl
  · rw [outsAt0_B m c t h]
    frame_out
    idx_vars i
    obtain rfl := Fin.eq_zero i0
    rw [dG_apply (blocks m c t)]
    rfl

/-- After the last point the second accumulator holds the shift's gradient. -/
theorem outs_b (c : Dev nD) (t : Fin cfg0.N) (ht : t.val + 1 = cfg0.N) (i : S1x2048.Idx) :
    (outsAt0 m c t.val t.isLt).2.2.2.1 i = gradB (argHead m c) i := by
  rw [Pipeline.eq_sum_fin_of_reset_step_apply_last (M := EReal) (fun n h => (outsAt0 m c n h).2.2.2.1) 8 (fun _ => 0)
    (fun t i => partB (argHead m c) t i) (fun t h i => ?_) (fun t h i => ?_) (le_of_eq N_0) t ht i, zero_add]
  · exact Fin.sum_mul_add_congr fun s p hl => rfl
  · rw [outsAt0_A m c t h]
    frame_out
    idx_vars i
    obtain rfl := Fin.eq_zero i0
    rw [dB_apply (blocks m c t), zero_b]
    rfl
  · rw [outsAt0_B m c t h]
    frame_out
    idx_vars i
    obtain rfl := Fin.eq_zero i0
    rw [dB_apply (blocks m c t)]
    rfl

/-- After the last point the third accumulator holds the loss. -/
theorem outs_loss (c : Dev nD) (t : Fin cfg0.N) (ht : t.val + 1 = cfg0.N) (i : S1x1.Idx) :
    (outsAt0 m c t.val t.isLt).2.2.2.2 i = lossAt (argHead m c) i := by
  rw [Pipeline.eq_sum_fin_of_reset_step_apply_last (M := EReal) (fun n h => (outsAt0 m c n h).2.2.2.2) 8 (fun _ => 0)
    (fun t _ => partLoss (argHead m c) t) (fun t h i => ?_) (fun t h i => ?_) (le_of_eq N_0) t ht i, zero_add]
  · rfl
  · rw [outsAt0_A m c t h]
    frame_out
    idx_vars i
    obtain rfl := Fin.eq_zero i0
    obtain rfl := Fin.eq_zero i1
    rw [loss_apply (blocks m c t), zero_loss]
    rfl
  · rw [outsAt0_B m c t h]
    frame_out
    idx_vars i
    obtain rfl := Fin.eq_zero i0
    obtain rfl := Fin.eq_zero i1
    rw [loss_apply (blocks m c t)]
    rfl

/-- The first result holds the gradient of the rows. -/
theorem final_x (c : Dev nD) : (dats m 0 c).arrAt 5 cfg0.N = gradX (argHead m c) := by
  refine (dats m 0 c).arrAt_eq_of_covers 5 _ (by decide +kernel) fun t hf y => ?_
  blk_simp
  rw [after0_5]
  idx_vars y
  rw [outs_x m c t]
  have e : gradX (argHead m c) (ix2 (row t y0) y1) = gradX (argHead m c) (((View.whole main_v21_0).slice (win0_5.rect t)).emb (ix2 y0 y1)) := by
    refine congrArg _ ?_
    blk_ext [idx t]
  exact e

/-- The second result holds it at half precision. -/
theorem final_xh (c : Dev nD) : (dats m 0 c).arrAt 6 cfg0.N = gradXHalf (argHead m c) := by
  refine (dats m 0 c).arrAt_eq_of_covers 6 _ (by decide +kernel) fun t hf y => ?_
  blk_simp
  rw [after0_6]
  idx_vars y
  rw [outs_xh m c t]
  have e : gradXHalf (argHead m c) (ix2 (row t y0) y1) = gradXHalf (argHead m c) (((View.whole main_v21_1).slice (win0_6.rect t)).emb (ix2 y0 y1)) := by
    refine congrArg _ ?_
    blk_ext [idx t]
  exact e

/-- The third result holds the gain's gradient. -/
theorem final_g (c : Dev nD) : (dats m 0 c).arrAt 7 cfg0.N = gradG (argHead m c) := by
  refine (dats m 0 c).arrAt_eq_of_covers 7 _ (by decide +kernel) fun t hf y => ?_
  have h10 := (flush0_7 t).mp hf
  have hN : cfg0.N = 8 := N_0
  have hlt := t.isLt
  blk_simp
  rw [after0_7, outs_g m c t (by omega) _]
  refine congrArg _ ?_
  blk_ext [idx t]

/-- The fourth result holds the shift's gradient. -/
theorem final_b (c : Dev nD) : (dats m 0 c).arrAt 8 cfg0.N = gradB (argHead m c) := by
  refine (dats m 0 c).arrAt_eq_of_covers 8 _ (by decide +kernel) fun t hf y => ?_
  have h10 := (flush0_8 t).mp hf
  have hN : cfg0.N = 8 := N_0
  have hlt := t.isLt
  blk_simp
  rw [after0_8, outs_b m c t (by omega) _]
  refine congrArg _ ?_
  blk_ext [idx t]

/-- The fifth result holds the loss. -/
theorem final_loss (c : Dev nD) : (dats m 0 c).arrAt 9 cfg0.N = lossAt (argHead m c) := by
  refine (dats m 0 c).arrAt_eq_of_covers 9 _ (by decide +kernel) fun t hf y => ?_
  have h10 := (flush0_9 t).mp hf
  have hN : cfg0.N = 8 := N_0
  have hlt := t.isLt
  blk_simp
  rw [after0_9, outs_loss m c t (by omega) _]
  rfl

end Cert.Proof.LossLn

end
-- ==== Proof.Ln.BackwardKernel.lean ====
/-
  The gradient of a layer norm inside a layer: what the kernel's run leaves in its four results.
-/
module

public import proofs.«01_k».proof.Proof.Gen.DxLnIdeal.Value
public import proofs.«01_k».proof.Proof.Ln.Layer
public import proofs.«01_k».proof.Proof.Ln.Kernel

@[expose] public section

set_option maxRecDepth 16384

noncomputable section

namespace Cert.Proof.DxLn

open Idealize.ShloMosaic Idealize.ShloMosaic.TcCoe Idealize.SL.Sem Cert.DxLnIdeal Cert.DxLnIdeal.Gen Cert.Proof.Ln

section Points

/-- The blocks hold the rows from `256 · t` on of the two terms of the arriving gradient, the normalised rows and the reciprocal roots, and
the whole gain. -/
structure Blocks (B : Back) (t : Fin 8) (a e : Vec Ideal S256x2048 .f32) (u : Vec Ideal S256x2048 .bf16)
    (q : Vec Ideal S256x1 .f32) (g : Vec Ideal S1x2048 .f32) : Prop where
  a : ∀ (p : Fin 256) (l : Fin 2048), a (ix2 p l) = B.a (row t p) l
  e : ∀ (p : Fin 256) (l : Fin 2048), e (ix2 p l) = B.e (row t p) l
  u : ∀ (p : Fin 256) (l : Fin 2048), u (ix2 p l) = unit (B.x (row t p)) l
  q : ∀ p : Fin 256, q (ix2 p 0) = rstd (B.x (row t p))
  g : ∀ l : Fin 2048, g (ix2 0 l) = B.g l

variable {B : Back} {t : Fin 8} {a e : Vec Ideal S256x2048 .f32} {u : Vec Ideal S256x2048 .bf16}
  {q : Vec Ideal S256x1 .f32} {g : Vec Ideal S1x2048 .f32}

/-- The gradient of the norm's result at a block's element. -/
theorem dY_apply (h : Blocks B t a e u q g) (p : Fin 256) (l : Fin 2048) : k0_pay4 e a (ix2 p l) = B.dY (row t p) l := by
  pointwise [k0_pay4]
  rw [h.a, h.e]
  rfl

/-- A block's element of the gradient of the rows. -/
theorem dX_apply (h : Blocks B t a e u q g) (p : Fin 256) (l : Fin 2048) : k0_pay8 e a u q g (ix2 p l) = B.dX (row t p) l := by
  pointwise [k0_pay8, k0_pay7]
  simp only [dY_apply h, h.g, h.u, h.q]
  rfl

/-- The same, at half precision. -/
theorem dX_half_apply (h : Blocks B t a e u q g) (p : Fin 256) (l : Fin 2048) : k0_pay1 (k0_pay8 e a u q g) (ix2 p l) = B.dX (row t p) l := by
  pointwise [k0_pay1]
  exact dX_apply h p l

/-- A block's part of the gain's gradient, over what was there. -/
theorem dG_apply (h : Blocks B t a e u q g) (acc : Vec Ideal S1x2048 .f32) (l : Fin 2048) :
    (k0_pay2 (k0_pay9 e a u) acc (ix2 0 l) : EReal) = acc (ix2 0 l) + ∑ p : Fin 256, B.dY (row t p) l * unit (B.x (row t p)) l := by
  pointwise [k0_pay2, k0_pay9, k0_pay7]
  simp only [dY_apply h, h.u]

/-- A block's part of the shift's gradient, over what was there. -/
theorem dB_apply (h : Blocks B t a e u q g) (acc : Vec Ideal S1x2048 .f32) (l : Fin 2048) :
    (k0_pay3 (k0_pay10 e a) acc (ix2 0 l) : EReal) = acc (ix2 0 l) + ∑ p : Fin 256, B.dY (row t p) l := by
  pointwise [k0_pay3, k0_pay10]
  simp only [dY_apply h]

/-- The gain's gradient is zero at the start. -/
theorem zero_g (l : Fin 2048) : (k0_pay5 (F := Ideal) (ix2 0 l) : EReal) = 0 := by pointwise [k0_pay5]

/-- The shift's gradient is zero at the start. -/
theorem zero_b (l : Fin 2048) : (k0_pay6 (F := Ideal) (ix2 0 l) : EReal) = 0 := by pointwise [k0_pay6]

end Points

/-- The arrays as functions of their indices. -/
def layer (a e x : Vec Ideal S2048x2048 .f32) (g : Vec Ideal S1x2048 .f32) : Back where
  x r l := x (ix2 r l)
  a r l := a (ix2 r l)
  e r l := e (ix2 r l)
  g l := g (ix2 0 l)

/-- Where each window's block lies at grid point `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

variable (m : (ℓ : Loc nD τ sig) → Buf (Elt Ideal) ℓ)

/-- The arrays the program is called with. -/
abbrev argLayer (c : Dev nD) : Back := layer (m ((c : Thread nD τ).loc main_arg0)) (m ((c : Thread nD τ).loc main_arg1))
  (m ((c : Thread nD τ).loc main_arg2)) (m ((c : Thread nD τ).loc main_arg3))

/-- The normalised rows as the call reads them. -/
theorem V_unit (c : Dev nD) : V m c main_v16
    = truncf (F := Ideal) (s := S2048x2048) .bf16 (LossLn.hostUnit (m ((c : Thread nD τ).loc main_arg2))) bitsLt_bf16_f32 := by
  unfold V LossLn.hostUnit LossLn.hostRstd LossLn.hostMean LossLn.hostCenter LossLn.hostMean
  after_results

/-- The reciprocal roots as the call reads them. -/
theorem V_rstd (c : Dev nD) : V m c main_v13 = LossLn.hostRstd (m ((c : Thread nD τ).loc main_arg2)) := by
  unfold V LossLn.hostRstd LossLn.hostMean LossLn.hostCenter LossLn.hostMean
  after_results

/-- A block of the product's gradient is the rows from `256 · t` on. -/
theorem block_a (c : Dev nD) (t : Fin cfg0.N) (p : Fin 256) (l : Fin 2048) :
    iblk m c 0 t (ix2 p l) = V m c main_arg0 (ix2 (row t p) l) := by blk_ext [iblk, idx t]

/-- A block of the carried gradient is the rows from `256 · t` on. -/
theorem block_e (c : Dev nD) (t : Fin cfg0.N) (p : Fin 256) (l : Fin 2048) :
    iblk m c 1 t (ix2 p l) = V m c main_arg1 (ix2 (row t p) l) := by blk_ext [iblk, idx t]

/-- A block of the normalised rows is the rows from `256 · t` on. -/
theorem block_u (c : Dev nD) (t : Fin cfg0.N) (p : Fin 256) (l : Fin 2048) :
    iblk m c 2 t (ix2 p l) = V m c main_v16 (ix2 (row t p) l) := by blk_ext [iblk, idx t]

/-- A block of the reciprocal roots is the rows from `256 · t` on. -/
theorem block_q (c : Dev nD) (t : Fin cfg0.N) (p : Fin 256) :
    iblk m c 3 t (ix2 p 0) = V m c main_v13 (ix2 (row t p) 0) := by blk_ext [iblk, idx t]

/-- Every block of the gain is the whole gain. -/
theorem block_g (c : Dev nD) (t : Fin cfg0.N) (l : Fin 2048) :
    iblk m c 4 t (ix2 0 l) = V m c main_arg3 (ix2 0 l) := by blk_ext [iblk, idx t]

/-- Grid point `t`'s blocks are those of the rows from `256 · t` on. -/
theorem blocks (c : Dev nD) (t : Fin cfg0.N) :
    Blocks (argLayer m c) t (iblk m c 0 t) (iblk m c 1 t) (iblk m c 2 t) (iblk m c 3 t) (iblk m c 4 t) where
  a p l := (block_a m c t p l).trans (congrFun (V_main_arg0 m c) _)
  e p l := (block_e m c t p l).trans (congrFun (V_main_arg1 m c) _)
  u p l := (block_u m c t p l).trans ((congrFun (V_unit m c) _).trans (LossLn.hostUnit_apply _ _ _))
  q p := (block_q m c t p).trans ((congrFun (V_rstd m c) _).trans (LossLn.hostRstd_apply _ _))
  g l := (block_g m c t l).trans (congrFun (V_main_arg3 m c) _)

/-- The gradients as arrays. -/
def gradX (B : Back) : Vec Ideal S2048x2048 .f32 := fun i => B.dX (i 0) (i 1)
def gradXHalf (B : Back) : Vec Ideal S2048x2048 .bf16 := fun i => B.dX (i 0) (i 1)
def gradG (B : Back) : Vec Ideal S1x2048 .f32 := fun i => B.dG (i 1)
def gradB (B : Back) : Vec Ideal S1x2048 .f32 := fun i => B.dB (i 1)

/-- One row block's part of the gain's gradient and of the shift's. -/
def partG (B : Back) (t : Fin 8) (i : S1x2048.Idx) : EReal := ∑ p : Fin 256, B.dY (row t p) (i 1) * unit (B.x (row t p)) (i 1)
def partB (B : Back) (t : Fin 8) (i : S1x2048.Idx) : EReal := ∑ p : Fin 256, B.dY (row t p) (i 1)

/-- A point leaves its rows of the gradient of the rows. -/
theorem outs_x (c : Dev nD) (t : Fin cfg0.N) (p : Fin 256) (l : Fin 2048) :
    (outsAt0 m c t.val t.isLt).1 (ix2 p l) = (argLayer m c).dX (row t p) l := by
  by_cases h : t.val % 8 = 0
  · rw [outsAt0_A m c t h]
    frame_out
    exact dX_apply (blocks m c t) p l
  · rw [outsAt0_B m c t h]
    frame_out
    exact dX_apply (blocks m c t) p l

/-- It leaves them at half precision too. -/
theorem outs_xh (c : Dev nD) (t : Fin cfg0.N) (p : Fin 256) (l : Fin 2048) :
    (outsAt0 m c t.val t.isLt).2.1 (ix2 p l) = (argLayer m c).dX (row t p) l := by
  by_cases h : t.val % 8 = 0
  · rw [outsAt0_A m c t h]
    frame_out
    exact dX_half_apply (blocks m c t) p l
  · rw [outsAt0_B m c t h]
    frame_out
    exact dX_half_apply (blocks m c t) p l

/-- After the last point the first accumulator holds the gain's gradient. -/
theorem outs_g (c : Dev nD) (t : Fin cfg0.N) (ht : t.val + 1 = cfg0.N) (i : S1x2048.Idx) :
    (outsAt0 m c t.val t.isLt).2.2.1 i = gradG (argLayer m c) i := by
  rw [Pipeline.eq_sum_fin_of_reset_step_apply_last (M := EReal) (fun n h => (outsAt0 m c n h).2.2.1) 8 (fun _ => 0)
    (fun t i => partG (argLayer m c) t i) (fun t h i => ?_) (fun t h i => ?_) (le_of_eq N_0) t ht i, zero_add]
  · exact Fin.sum_mul_add_congr fun s p hl => rfl
  · rw [outsAt0_A m c t h]
    frame_out
    idx_vars i
    obtain rfl := Fin.eq_zero i0
    rw [dG_apply (blocks m c t), zero_g]
    rfl
  · rw [outsAt0_B m c t h]
    frame_out
    idx_vars i
    obtain rfl := Fin.eq_zero i0
    rw [dG_apply (blocks m c t)]
    rfl

/-- After the last point the second accumulator holds the shift's gradient. -/
theorem outs_b (c : Dev nD) (t : Fin cfg0.N) (ht : t.val + 1 = cfg0.N) (i : S1x2048.Idx) :
    (outsAt0 m c t.val t.isLt).2.2.2 i = gradB (argLayer m c) i := by
  rw [Pipeline.eq_sum_fin_of_reset_step_apply_last (M := EReal) (fun n h => (outsAt0 m c n h).2.2.2) 8 (fun _ => 0)
    (fun t i => partB (argLayer m c) t i) (fun t h i => ?_) (fun t h i => ?_) (le_of_eq N_0) t ht i, zero_add]
  · exact Fin.sum_mul_add_congr fun s p hl => rfl
  · rw [outsAt0_A m c t h]
    frame_out
    idx_vars i
    obtain rfl := Fin.eq_zero i0
    rw [dB_apply (blocks m c t), zero_b]
    rfl
  · rw [outsAt0_B m c t h]
    frame_out
    idx_vars i
    obtain rfl := Fin.eq_zero i0
    rw [dB_apply (blocks m c t)]
    rfl

/-- The first result holds the gradient of the rows. -/
theorem final_x (c : Dev nD) : (dats m 0 c).arrAt 5 cfg0.N = gradX (argLayer m c) := by
  refine (dats m 0 c).arrAt_eq_of_covers 5 _ (by decide +kernel) fun t hf y => ?_
  blk_simp
  rw [after0_5]
  idx_vars y
  rw [outs_x m c t]
  have e : gradX (argLayer m c) (ix2 (row t y0) y1) = gradX (argLayer m c) (((View.whole main_v17_0).slice (win0_5.rect t)).emb (ix2 y0 y1)) := by
    refine congrArg _ ?_
    blk_ext [idx t]
  exact e

/-- The second result holds it at half precision. -/
theorem final_xh (c : Dev nD) : (dats m 0 c).arrAt 6 cfg0.N = gradXHalf (argLayer m c) := by
  refine (dats m 0 c).arrAt_eq_of_covers 6 _ (by decide +kernel) fun t hf y => ?_
  blk_simp
  rw [after0_6]
  idx_vars y
  rw [outs_xh m c t]
  have e : gradXHalf (argLayer m c) (ix2 (row t y0) y1) = gradXHalf (argLayer m c) (((View.whole main_v17_1).slice (win0_6.rect t)).emb (ix2 y0 y1)) := by
    refine congrArg _ ?_
    blk_ext [idx t]
  exact e

/-- The third result holds the gain's gradient. -/
theorem final_g (c : Dev nD) : (dats m 0 c).arrAt 7 cfg0.N = gradG (argLayer m c) := by
  refine (dats m 0 c).arrAt_eq_of_covers 7 _ (by decide +kernel) fun t hf y => ?_
  have h10 := (flush0_7 t).mp hf
  have hN : cfg0.N = 8 := N_0
  have hlt := t.isLt
  blk_simp
  rw [after0_7, outs_g m c t (by omega) _]
  refine congrArg _ ?_
  blk_ext [idx t]

/-- The fourth result holds the shift's gradient. -/
theorem final_b (c : Dev nD) : (dats m 0 c).arrAt 8 cfg0.N = gradB (argLayer m c) := by
  refine (dats m 0 c).arrAt_eq_of_covers 8 _ (by decide +kernel) fun t hf y => ?_
  have h10 := (flush0_8 t).mp hf
  have hN : cfg0.N = 8 := N_0
  have hlt := t.isLt
  blk_simp
  rw [after0_8, outs_b m c t (by omega) _]
  refine congrArg _ ?_
  blk_ext [idx t]

end Cert.Proof.DxLn

end
-- ==== Proof.Products.Scale.lean ====
/-
  The factor one half over a sum of extended reals.
-/
module

public import Idealize.ShloMosaic.Lib.Pointwise
public import Idealize.ShloMosaic.Lib.IdealHost

@[expose] public section

noncomputable section

namespace Cert.Proof

open Idealize.ShloMosaic

/-- The pattern `0x3F000000` is the real one half. -/
theorem ofBits_half : Ideal.ofBits .f32 0x3F000000#32 = (((1 : ℝ) / 2 : ℝ) : EReal) := by
  simp [Ideal.ofBits, Ideal.ieee, -EReal.coe_mul]; norm_num

/-- One half distributes over a finite sum, whatever its terms: it is neither negative nor infinite. -/
theorem mul_half_sum {n : Nat} (f : Fin n → EReal) :
    Ideal.ofBits .f32 0x3F000000#32 * ∑ k, f k = ∑ k, Ideal.ofBits .f32 0x3F000000#32 * f k := by
  have h0 : (0 : EReal) ≤ Ideal.ofBits .f32 0x3F000000#32 := by
    rw [ofBits_half]
    exact EReal.coe_nonneg.mpr (by norm_num)
  have h1 : Ideal.ofBits .f32 0x3F000000#32 ≠ ⊤ := by
    rw [ofBits_half]
    exact EReal.coe_ne_top _
  generalize Ideal.ofBits .f32 0x3F000000#32 = s at h0 h1
  induction n with
  | zero => simp
  | succ n ih => rw [Fin.sum_univ_succ, Fin.sum_univ_succ, EReal.left_distrib_of_nonneg_of_ne_top h0 h1, ih]

/-- The scaled factor in front, and the factors exchanged. -/
theorem scaled_comm (s x y : EReal) : s * y * x = s * (x * y) := by
  rw [mul_assoc, mul_comm y x]

end Cert.Proof

end
-- ==== Proof.Products.Silu.lean ====
/-
  The logistic function and the derivative of `g ↦ g · σ(g)` over the extended reals.
-/
module

public import Idealize.ShloMosaic.Lib.Pointwise
public import Idealize.ShloMosaic.Lib.IdealHost
public import proofs.«01_k».proof.Proof.Products.Scale

@[expose] public section

noncomputable section

namespace Cert.Proof

open Idealize.ShloMosaic

/-- `σ(g) = 1 / (1 + e^{-g})`. -/
def sigma (g : EReal) : EReal := Ideal.div 1 (1 + Ideal.exp (-g))

/-- The derivative of `g · σ(g)` applied to `u`, as the chain rule writes it: `u σ + (g u) (σ (1 - σ))`. -/
def dsilu (u g : EReal) : EReal := u * sigma g + g * u * (sigma g * (1 - sigma g))

/-- At `+∞` the logistic is one. -/
theorem sigma_top : sigma ⊤ = 1 := by
  have h : Ideal.exp (-⊤) = 0 := rfl
  simp [sigma, h, Ideal.div]

/-- At `-∞` it is zero. -/
theorem sigma_bot : sigma ⊥ = 0 := by
  have h : Ideal.exp (-⊥) = ⊤ := rfl
  have h1 : (1 : EReal) + ⊤ = ⊤ := EReal.coe_add_top 1
  simp [sigma, h, h1, Ideal.div]

/-- One less one is zero. -/
theorem one_sub_one : (1 : EReal) - 1 = 0 := by
  rw [← EReal.coe_one, ← EReal.coe_sub]
  simp

/-- At a real it is a real. -/
theorem sigma_coe (g : ℝ) : ∃ s : ℝ, sigma (g : EReal) = (s : EReal) := by
  have h : (1 : EReal) + Ideal.exp (-(g : EReal)) = ((1 + Real.exp (-g) : ℝ) : EReal) := by
    rw [← EReal.coe_neg, EReal.coe_add, EReal.coe_one]
    rfl
  have hne : ((1 + Real.exp (-g) : ℝ) : EReal) ≠ 0 := by
    have : 0 < 1 + Real.exp (-g) := by positivity
    exact_mod_cast this.ne'
  refine ⟨(1 + Real.exp (-g))⁻¹, ?_⟩
  rw [sigma, h, Ideal.div, if_neg hne, one_mul, ← EReal.coe_inv]

/-- At a real `u` the factored derivative `u (σ (1 + g (1 - σ)))` is the chain rule's. -/
theorem factored (u : ℝ) (g : EReal) :
    (u : EReal) * (sigma g * (1 + g * (1 - sigma g))) = dsilu u g := by
  induction g with
  | bot => simp [dsilu, sigma_bot]
  | top => simp [dsilu, sigma_top, one_sub_one]
  | coe g =>
    obtain ⟨s, hs⟩ := sigma_coe g
    rw [dsilu, hs, ← EReal.coe_one]
    norm_cast
    ring

/-- The derivative is linear in `u`, for real factors. -/
theorem mul_dsilu (d u : ℝ) (g : EReal) : (d : EReal) * dsilu u g = dsilu (d * u) g := by
  induction g with
  | bot => simp [dsilu, sigma_bot]
  | top => simp [dsilu, sigma_top, one_sub_one]
  | coe g =>
    obtain ⟨s, hs⟩ := sigma_coe g
    rw [dsilu, dsilu, hs, ← EReal.coe_one]
    norm_cast
    ring

/-- A finite sum of products of reals is a real. -/
theorem sum_mul_real {n : Nat} (a b : Fin n → EReal) (ha : ∀ k, ∃ r : ℝ, a k = r) (hb : ∀ k, ∃ r : ℝ, b k = r) :
    ∃ r : ℝ, ∑ k, a k * b k = (r : EReal) := by
  choose f hf using ha
  choose g hg using hb
  refine ⟨∑ k, f k * g k, ?_⟩
  simp only [hf, hg]
  clear hf hg
  induction n with
  | zero => simp
  | succ n ih =>
    rw [Fin.sum_univ_succ, Fin.sum_univ_succ, EReal.coe_add, EReal.coe_mul, ← ih (fun k => a k.succ) (fun k => b k.succ)]

/-- An extended real whose absolute value is below infinity is a real. -/
theorem real_of_abs_lt (x : EReal) (h : max x (-x) < ⊤) : ∃ r : ℝ, x = r := by
  induction x with
  | bot => simp at h
  | top => simp at h
  | coe r => exact ⟨r, rfl⟩

/-- The word of the infinity a finite element is compared with. -/
theorem ofBits_infinity : Ideal.ofBits .f32 0x7F800000#32 = ⊤ := by
  simp [Ideal.ofBits, Ideal.ieee]

/-- An extended real whose absolute value compares below infinity is a real. -/
theorem real_of_bit (x : EReal)
    (h : BitVec.ofBool (decide (max x (-x) < Ideal.ofBits .f32 0x7F800000#32)) = 1#1) : ∃ r : ℝ, x = r := by
  refine real_of_abs_lt x ?_
  rw [ofBits_infinity] at h
  by_contra hn
  rw [decide_eq_false hn] at h
  exact absurd h (by decide)

end Cert.Proof

end
-- ==== Proof.Ln.Backward.lean ====
/-
  The gradient of a layer norm inside a layer: the kernel's run and the reference's end with equal results.
-/
module

public import proofs.«01_k».proof.Defs
public import proofs.«01_k».proof.Proof.Gen.DxLnRefIdeal.Run
public import proofs.«01_k».proof.Proof.Gen.DxLnRefIdeal.Read
public import proofs.«01_k».proof.Proof.Ln.BackwardKernel
public import proofs.«01_k».proof.Proof.Products.Silu
public import Idealize.ShloMosaic.Lib.Claim
public import Idealize.ShloMosaic.Lib.Quiescent

@[expose] public section

set_option maxRecDepth 16384

noncomputable section

namespace Cert.Proof.DxLn

open Idealize.ShloMosaic Idealize.ShloMosaic.TcCoe Idealize.SL.Sem Cert.Proof.Ln

section Reference

open Cert.DxLnRefIdeal Cert.DxLnRefIdeal.Read

variable (a e x : Vec Ideal S2048x2048 .f32) (g : Vec Ideal S1x2048 .f32)

/-- The reference's centered rows. -/
theorem ref_center (r l : Fin 2048) : val_main_v6 (F := Ideal) x (ix2 r l) = center ((layer a e x g).x r) l := by
  pointwise [val_main_v6, val_main_v5, val_main_v4, val_main_v3, val_main_v2, val_main_v1, val_main_cst_0, val_main_cst_1]
  rfl

/-- The reference's variances, with the constant added. -/
theorem ref_spread (r : Fin 2048) : val_main_v13 (F := Ideal) x (ix2 r 0) = spread ((layer a e x g).x r) := by
  pointwise [val_main_v13, val_main_v12, val_main_v11, val_main_v10, val_main_v9, val_main_v8, val_main_v7, val_main_cst_2, val_main_cst_3, val_main_cst_4]
  simp only [ref_center a e x g]
  rfl

/-- The reference's reciprocal roots. -/
theorem ref_rstd (r : Fin 2048) : val_main_v14 (F := Ideal) x (ix2 r 0) = rstd ((layer a e x g).x r) := by
  pointwise [val_main_v14]
  rw [ref_spread a e x g]
  rfl

/-- The reference's normalised rows. -/
theorem ref_unit (r l : Fin 2048) : val_main_v19 (F := Ideal) x (ix2 r l) = unit ((layer a e x g).x r) l := by
  pointwise [val_main_v19, val_main_v18]
  rw [ref_center a e x g, ref_rstd a e x g]
  rfl

/-- The reference's gradient of the norm's result. -/
theorem ref_dY (r l : Fin 2048) : val_main_v26 (F := Ideal) a e (ix2 r l) = (layer a e x g).dY r l := by
  pointwise [val_main_v26, val_main_v25, val_main_v24, val_main_cst_6]
  rfl

/-- The reference's gradient of the normalised rows. -/
theorem ref_dU (r l : Fin 2048) : val_main_v33 (F := Ideal) a e g (ix2 r l) = (layer a e x g).dY r l * (layer a e x g).g l := by
  pointwise [val_main_v33, val_main_v32]
  rw [ref_dY a e x g]
  rfl

/-- The reference's gradient of the centered rows. -/
theorem ref_dCenter (r l : Fin 2048) : val_main_v47 (F := Ideal) a e x g (ix2 r l)
    = dCenter ((layer a e x g).x r) (fun k => (layer a e x g).dY r k * (layer a e x g).g k) l := by
  have hf : val_main_v43 (F := Ideal) a e x g (ix2 r l)
      = factor ((layer a e x g).x r) (fun k => (layer a e x g).dY r k * (layer a e x g).g k) := by
    pointwise [val_main_v43, val_main_v42, val_main_v41, val_main_v40, val_main_v39, val_main_v36, val_main_v35, val_main_v34, val_main_v17, val_main_v16, val_main_v15, val_main_cst_5, val_main_cst_9, val_main_cst_10, val_main_cst_11]
    refine (Fin.sum_univ_one _).trans ?_
    simp only [ref_center a e x g, ref_dU a e x g, ref_rstd a e x g, ref_spread a e x g]
    rfl
  pointwise [val_main_v47, val_main_v46, val_main_v45, val_main_v44, val_main_v38, val_main_v37]
  rw [hf, ref_center a e x g, ref_dU a e x g, ref_rstd a e x g]
  rfl

/-- The reference's third result is the gain's gradient. -/
theorem ref_gradG : val_main_v31 (F := Ideal) a e x = gradG (layer a e x g) := by
  funext i
  idx_vars i
  pointwise [val_main_v31, val_main_v30, val_main_v29, val_main_cst_8]
  show _ = (layer a e x g).dG i1
  unfold Back.dG
  refine Finset.sum_congr rfl fun r _ => ?_
  rw [ref_unit a e x g, ref_dY a e x g, mul_comm]

/-- The fourth is the shift's gradient. -/
theorem ref_gradB : val_main_v28 (F := Ideal) a e = gradB (layer a e x g) := by
  funext i
  idx_vars i
  pointwise [val_main_v28, val_main_v27, val_main_cst_7]
  show _ = (layer a e x g).dB i1
  unfold Back.dB
  exact Finset.sum_congr rfl fun r _ => ref_dY a e x g r i1

variable {a e x g} (h : (layer a e x g).Real)
include h

/-- The reference's gradient of the rows. -/
theorem ref_dX (r l : Fin 2048) : val_main_v55 (F := Ideal) a e x g (ix2 r l) = (layer a e x g).dX r l := by
  have hs : val_main_v54 (F := Ideal) a e x g (ix2 r l)
      = Ideal.div (∑ k, -dCenter ((layer a e x g).x r) (fun k => (layer a e x g).dY r k * (layer a e x g).g k) k) cols := by
    pointwise [val_main_v54, val_main_v53, val_main_v52, val_main_v51, val_main_v50, val_main_v49, val_main_v48, val_main_cst_12, val_main_cst_13, val_main_cst_14]
    refine (Fin.sum_univ_one _).trans ?_
    simp only [ref_dCenter a e x g]
  pointwise [val_main_v55]
  rw [hs, ref_dCenter a e x g]
  exact Back.dX_eq r l h

/-- The first result is the gradient of the rows. -/
theorem ref_gradX : val_main_v55 (F := Ideal) a e x g = gradX (layer a e x g) := by
  funext i
  idx_vars i
  exact ref_dX h i0 i1

/-- The second is the same at half precision. -/
theorem ref_gradXHalf : val_main_v56 (F := Ideal) a e x g = gradXHalf (layer a e x g) := by
  funext i
  idx_vars i
  pointwise [val_main_v56]
  exact ref_dX h i0 i1

omit h

/-- Where the precondition holds, the arriving gradient's two terms and the gain are real. -/
theorem layer_real [Cert.Pre_dx_finite.Facts] (h : (Cert.Pre_dx_finite.fn (F := Ideal) a e x g).1 = (fun _ => 1#1)
    ∧ (Cert.Pre_dx_finite.fn (F := Ideal) a e x g).2.1 = (fun _ => 1#1) ∧ (Cert.Pre_dx_finite.fn (F := Ideal) a e x g).2.2 = fun _ => 1#1) :
    (layer a e x g).Real where
  a r l := by
    have h1 := congrFun h.1 (ix2 r l)
    revert h1
    pointwise [Cert.Pre_dx_finite.fn]
    exact real_of_bit _
  e r l := by
    have h1 := congrFun h.2.1 (ix2 r l)
    revert h1
    pointwise [Cert.Pre_dx_finite.fn]
    exact real_of_bit _
  g l := by
    have h1 := congrFun h.2.2 (ix2 0 l)
    revert h1
    pointwise [Cert.Pre_dx_finite.fn]
    exact real_of_bit _

/-- The reference runs to the end with its arguments unchanged and every counter at zero. -/
theorem reference_frame : Cert.quiescent_DxLnRefIdeal := fun m ρ _ =>
  (θ_run Cert.DxLnRefIdeal.defs _ _).mono
    (fun r h => ⟨fun c => (h c).2.2.2.2, Idealize.ShloMosaic.sem_eq_zero_of_no_sems (by decide) r.2⟩)
    (Cert.DxLnRefIdeal.Value.run (F := Ideal) m ρ)

/-- It does so under the precondition. -/
theorem reference_frame_pre [Cert.Pre_dx_finite.Facts] : Cert.quiescent_DxLnRefIdeal_pre_dx_finite := fun m ρ _ =>
  reference_frame m ρ trivial

/-- Equal arrays give equal functions. -/
theorem layer_agree {m : (ℓ : Loc Cert.DxLnIdeal.nD Cert.DxLnIdeal.τ Cert.DxLnIdeal.sig) → Buf (Elt Ideal) ℓ}
    {m' : (ℓ : Loc nD τ sig) → Buf (Elt Ideal) ℓ} (c : Dev nD)
    (h : m' (c.tc.loc main_arg0) = m (c.tc.loc Cert.DxLnIdeal.main_arg0) ∧ m' (c.tc.loc main_arg1) = m (c.tc.loc Cert.DxLnIdeal.main_arg1)
      ∧ m' (c.tc.loc main_arg2) = m (c.tc.loc Cert.DxLnIdeal.main_arg2) ∧ m' (c.tc.loc main_arg3) = m (c.tc.loc Cert.DxLnIdeal.main_arg3)) :
    layer (m' (c.tc.loc main_arg0)) (m' (c.tc.loc main_arg1)) (m' (c.tc.loc main_arg2)) (m' (c.tc.loc main_arg3)) = argLayer m c := by
  rw [h.1, h.2.1, h.2.2.1, h.2.2.2]

/-- The kernel's results are the reference's, element by element, where the arriving gradient and the gain are finite. -/
theorem algebraic [Cert.Pre_dx_finite.Facts] : Cert.algebraic_DxLnIdeal_DxLnRefIdeal_pre_dx_finite := by
  intro m ρ m' ρ' hpre hagree
  have hr : ∀ c : Dev nD, (layer (m' (c.tc.loc main_arg0)) (m' (c.tc.loc main_arg1)) (m' (c.tc.loc main_arg2)) (m' (c.tc.loc main_arg3))).Real :=
    fun c => (congrArg Back.Real (layer_agree c (hagree c))).mpr (layer_real (hpre c))
  refine ⟨fun c => (Cert.DxLnIdeal.Gen.dats m 0 c).arrAt 5 Cert.DxLnIdeal.cfg0.N,
    fun c => (Cert.DxLnIdeal.Gen.dats m 0 c).arrAt 6 Cert.DxLnIdeal.cfg0.N,
    fun c => (Cert.DxLnIdeal.Gen.dats m 0 c).arrAt 7 Cert.DxLnIdeal.cfg0.N,
    fun c => (Cert.DxLnIdeal.Gen.dats m 0 c).arrAt 8 Cert.DxLnIdeal.cfg0.N,
    Cert.DxLnIdeal.Value.run_blocks (F := Ideal) m ρ,
    (θ_run Cert.DxLnRefIdeal.defs _ _).mono (fun r h c => ⟨?_, ?_, ?_, ?_, (h c).2.2.2.2⟩)
      (Cert.DxLnRefIdeal.Value.run (F := Ideal) m' ρ')⟩
  · exact ((h c).1.trans ((val_main_v55_eq _ _).trans (ref_gradX (hr c)))).trans
      ((congrArg gradX (layer_agree c (hagree c))).trans (final_x m c).symm)
  · exact ((h c).2.1.trans ((val_main_v56_eq _ _).trans (ref_gradXHalf (hr c)))).trans
      ((congrArg gradXHalf (layer_agree c (hagree c))).trans (final_xh m c).symm)
  · exact ((h c).2.2.1.trans ((val_main_v31_eq _ _ _).trans (ref_gradG (m' (c.tc.loc main_arg0)) (m' (c.tc.loc main_arg1))
      (m' (c.tc.loc main_arg2)) (m' (c.tc.loc main_arg3))))).trans
      ((congrArg gradG (layer_agree c (hagree c))).trans (final_g m c).symm)
  · exact ((h c).2.2.2.1.trans ((val_main_v28_eq _ _).trans (ref_gradB (m' (c.tc.loc main_arg0)) (m' (c.tc.loc main_arg1))
      (m' (c.tc.loc main_arg2)) (m' (c.tc.loc main_arg3))))).trans
      ((congrArg gradB (layer_agree c (hagree c))).trans (final_b m c).symm)

end Reference

end Cert.Proof.DxLn

end
-- ==== Proof.Ln.Claim.lean ====
/-
  The loss head with the norm before it: the kernel's run and the reference's end with equal results.
-/
module

public import proofs.«01_k».proof.Defs
public import proofs.«01_k».proof.Proof.Gen.LossLnRefIdeal.Run
public import proofs.«01_k».proof.Proof.Gen.LossLnRefIdeal.Read
public import proofs.«01_k».proof.Proof.Ln.Kernel
public import proofs.«01_k».proof.Proof.Products.Silu
public import Idealize.ShloMosaic.Lib.Claim
public import Idealize.ShloMosaic.Lib.Quiescent

@[expose] public section

set_option maxRecDepth 16384

noncomputable section

namespace Cert.Proof.LossLn

open Idealize.ShloMosaic Idealize.ShloMosaic.TcCoe Idealize.SL.Sem Cert.Proof.Ln

section Reference

open Cert.LossLnRefIdeal Cert.LossLnRefIdeal.Read

variable (x : Vec Ideal S2048x2048 .f32) (g b : Vec Ideal S1x2048 .f32) (t : Vec Ideal S2048x2048 .f32)

/-- The reference's centered rows. -/
theorem ref_center (r l : Fin 2048) : val_main_v5 (F := Ideal) x (ix2 r l) = center ((head x g b t).x r) l := by
  pointwise [val_main_v5, val_main_v4, val_main_v3, val_main_v2, val_main_v1, val_main_v0, val_main_cst, val_main_cst_0]
  rfl

/-- The reference's variances, with the constant added. -/
theorem ref_spread (r : Fin 2048) : val_main_v12 (F := Ideal) x (ix2 r 0) = spread ((head x g b t).x r) := by
  pointwise [val_main_v12, val_main_v11, val_main_v10, val_main_v9, val_main_v8, val_main_v7, val_main_v6, val_main_cst_1, val_main_cst_2, val_main_cst_3]
  simp only [ref_center x g b t]
  rfl

/-- The reference's reciprocal roots. -/
theorem ref_rstd (r : Fin 2048) : val_main_v13 (F := Ideal) x (ix2 r 0) = rstd ((head x g b t).x r) := by
  pointwise [val_main_v13]
  rw [ref_spread x g b t]
  rfl

/-- The reference's normalised rows. -/
theorem ref_unit (r l : Fin 2048) : val_main_v18 (F := Ideal) x (ix2 r l) = unit ((head x g b t).x r) l := by
  pointwise [val_main_v18, val_main_v17]
  rw [ref_center x g b t, ref_rstd x g b t]
  rfl

/-- The reference's error. -/
theorem ref_err (r l : Fin 2048) : val_main_v23 (F := Ideal) x g b t (ix2 r l) = (head x g b t).err r l := by
  pointwise [val_main_v23, val_main_v22, val_main_v21, val_main_v20, val_main_v19]
  rw [ref_unit x g b t]
  rfl

variable {x g b t} (h : (head x g b t).Real)
include h

/-- The reference's gradient of the norm's result. -/
theorem ref_dY (r l : Fin 2048) : val_main_v37 (F := Ideal) x g b t (ix2 r l) = (head x g b t).dY r l := by
  pointwise [val_main_v37, val_main_v36, val_main_v35, val_main_v34, val_main_v33, val_main_v32, val_main_v26, val_main_v25, val_main_cst_5,
    val_main_cst_10, val_main_cst_11, val_main_cst_12]
  rw [ref_err]
  exact Head.dY_eq r l h

/-- The reference's gradient of the normalised rows. -/
theorem ref_dU (r l : Fin 2048) : val_main_v44 (F := Ideal) x g b t (ix2 r l) = (head x g b t).dY r l * (head x g b t).g l := by
  pointwise [val_main_v44, val_main_v43]
  rw [ref_dY h]
  rfl

/-- The reference's gradient of the centered rows. -/
theorem ref_dCenter (r l : Fin 2048) : val_main_v58 (F := Ideal) x g b t (ix2 r l)
    = dCenter ((head x g b t).x r) (fun k => (head x g b t).dY r k * (head x g b t).g k) l := by
  have hf : val_main_v54 (F := Ideal) x g b t (ix2 r l)
      = factor ((head x g b t).x r) (fun k => (head x g b t).dY r k * (head x g b t).g k) := by
    pointwise [val_main_v54, val_main_v53, val_main_v52, val_main_v51, val_main_v50, val_main_v47, val_main_v46, val_main_v45, val_main_v16,
      val_main_v15, val_main_v14, val_main_cst_4, val_main_cst_15, val_main_cst_16, val_main_cst_17]
    refine (Fin.sum_univ_one _).trans ?_
    simp only [ref_center x g b t, ref_dU h, ref_rstd x g b t, ref_spread x g b t]
    rfl
  pointwise [val_main_v58, val_main_v57, val_main_v56, val_main_v55, val_main_v49, val_main_v48]
  rw [hf, ref_center x g b t, ref_dU h, ref_rstd x g b t]
  rfl

/-- The reference's gradient of the rows. -/
theorem ref_dX (r l : Fin 2048) : val_main_v66 (F := Ideal) x g b t (ix2 r l) = (head x g b t).dX r l := by
  have hs : val_main_v65 (F := Ideal) x g b t (ix2 r l)
      = Ideal.div (∑ k, -dCenter ((head x g b t).x r) (fun k => (head x g b t).dY r k * (head x g b t).g k) k) cols := by
    pointwise [val_main_v65, val_main_v64, val_main_v63, val_main_v62, val_main_v61, val_main_v60, val_main_v59, val_main_cst_18,
      val_main_cst_19, val_main_cst_20]
    refine (Fin.sum_univ_one _).trans ?_
    simp only [ref_dCenter h]
  pointwise [val_main_v66]
  rw [hs, ref_dCenter h]
  exact Head.dX_eq r l h

/-- The reference's first result is the gradient of the rows. -/
theorem ref_gradX : val_main_v66 (F := Ideal) x g b t = gradX (head x g b t) := by
  funext i
  idx_vars i
  exact ref_dX h i0 i1

/-- The second is the same at half precision. -/
theorem ref_gradXHalf : val_main_v67 (F := Ideal) x g b t = gradXHalf (head x g b t) := by
  funext i
  idx_vars i
  pointwise [val_main_v67]
  exact ref_dX h i0 i1

/-- The third is the gain's gradient. -/
theorem ref_gradG : val_main_v42 (F := Ideal) x g b t = gradG (head x g b t) := by
  funext i
  idx_vars i
  pointwise [val_main_v42, val_main_v41, val_main_v40, val_main_cst_14]
  show _ = (head x g b t).dG i1
  unfold Head.dG
  refine Finset.sum_congr rfl fun r _ => ?_
  rw [ref_unit x g b t, ref_dY h, mul_comm]

/-- The fourth is the shift's gradient. -/
theorem ref_gradB : val_main_v39 (F := Ideal) x g b t = gradB (head x g b t) := by
  funext i
  idx_vars i
  pointwise [val_main_v39, val_main_v38, val_main_cst_13]
  show _ = (head x g b t).dB i1
  unfold Head.dB
  exact Finset.sum_congr rfl fun r _ => ref_dY h r i1

/-- The fifth is the loss. -/
theorem ref_loss : val_main_v68 (F := Ideal) x g b t = lossAt (head x g b t) := by
  funext i
  idx_vars i
  pointwise [val_main_v68, val_main_v31, val_main_v30, val_main_v29, val_main_v28, val_main_v27, val_main_v24, val_main_cst_6, val_main_cst_7,
    val_main_cst_8, val_main_cst_9]
  simp only [ref_err]
  exact Head.loss_eq h

omit h

/-- Where the precondition holds, the gain, the shift and the target are real. -/
theorem head_real [Cert.Pre_loss_finite.Facts] (h : (Cert.Pre_loss_finite.fn (F := Ideal) x g b t).1 = (fun _ => 1#1)
    ∧ (Cert.Pre_loss_finite.fn (F := Ideal) x g b t).2.1 = (fun _ => 1#1) ∧ (Cert.Pre_loss_finite.fn (F := Ideal) x g b t).2.2 = fun _ => 1#1) :
    (head x g b t).Real where
  g l := by
    have h1 := congrFun h.1 (ix2 0 l)
    revert h1
    pointwise [Cert.Pre_loss_finite.fn]
    exact real_of_bit _
  b l := by
    have h1 := congrFun h.2.1 (ix2 0 l)
    revert h1
    pointwise [Cert.Pre_loss_finite.fn]
    exact real_of_bit _
  t r l := by
    have h1 := congrFun h.2.2 (ix2 r l)
    revert h1
    pointwise [Cert.Pre_loss_finite.fn]
    exact real_of_bit _

/-- The reference runs to the end with its arguments unchanged and every counter at zero. -/
theorem reference_frame : Cert.quiescent_LossLnRefIdeal := fun m ρ _ =>
  (θ_run Cert.LossLnRefIdeal.defs _ _).mono
    (fun r h => ⟨fun c => (h c).2.2.2.2.2, Idealize.ShloMosaic.sem_eq_zero_of_no_sems (by decide) r.2⟩)
    (Cert.LossLnRefIdeal.Value.run (F := Ideal) m ρ)

/-- It does so under the precondition. -/
theorem reference_frame_pre [Cert.Pre_loss_finite.Facts] : Cert.quiescent_LossLnRefIdeal_pre_loss_finite := fun m ρ _ =>
  reference_frame m ρ trivial

/-- Equal arrays give equal functions. -/
theorem head_agree {m : (ℓ : Loc Cert.LossLnIdeal.nD Cert.LossLnIdeal.τ Cert.LossLnIdeal.sig) → Buf (Elt Ideal) ℓ}
    {m' : (ℓ : Loc nD τ sig) → Buf (Elt Ideal) ℓ} (c : Dev nD)
    (h : m' (c.tc.loc main_arg0) = m (c.tc.loc Cert.LossLnIdeal.main_arg0) ∧ m' (c.tc.loc main_arg1) = m (c.tc.loc Cert.LossLnIdeal.main_arg1)
      ∧ m' (c.tc.loc main_arg2) = m (c.tc.loc Cert.LossLnIdeal.main_arg2) ∧ m' (c.tc.loc main_arg3) = m (c.tc.loc Cert.LossLnIdeal.main_arg3)) :
    head (m' (c.tc.loc main_arg0)) (m' (c.tc.loc main_arg1)) (m' (c.tc.loc main_arg2)) (m' (c.tc.loc main_arg3)) = argHead m c := by
  rw [h.1, h.2.1, h.2.2.1, h.2.2.2]

/-- The kernel's results are the reference's, element by element, where the gain, the shift and the target are finite. -/
theorem algebraic [Cert.Pre_loss_finite.Facts] : Cert.algebraic_LossLnIdeal_LossLnRefIdeal_pre_loss_finite := by
  intro m ρ m' ρ' hpre hagree
  have hr : ∀ c : Dev nD, (head (m' (c.tc.loc main_arg0)) (m' (c.tc.loc main_arg1)) (m' (c.tc.loc main_arg2)) (m' (c.tc.loc main_arg3))).Real :=
    fun c => (congrArg Head.Real (head_agree c (hagree c))).mpr (head_real (hpre c))
  refine ⟨fun c => (Cert.LossLnIdeal.Gen.dats m 0 c).arrAt 5 Cert.LossLnIdeal.cfg0.N,
    fun c => (Cert.LossLnIdeal.Gen.dats m 0 c).arrAt 6 Cert.LossLnIdeal.cfg0.N,
    fun c => (Cert.LossLnIdeal.Gen.dats m 0 c).arrAt 7 Cert.LossLnIdeal.cfg0.N,
    fun c => (Cert.LossLnIdeal.Gen.dats m 0 c).arrAt 8 Cert.LossLnIdeal.cfg0.N,
    fun c => (Cert.LossLnIdeal.Gen.dats m 0 c).arrAt 9 Cert.LossLnIdeal.cfg0.N,
    Cert.LossLnIdeal.Value.run_blocks (F := Ideal) m ρ,
    (θ_run Cert.LossLnRefIdeal.defs _ _).mono (fun r h c => ⟨?_, ?_, ?_, ?_, ?_, (h c).2.2.2.2.2⟩)
      (Cert.LossLnRefIdeal.Value.run (F := Ideal) m' ρ')⟩
  · exact ((h c).1.trans ((val_main_v66_eq _ _).trans (ref_gradX (hr c)))).trans
      ((congrArg gradX (head_agree c (hagree c))).trans (final_x m c).symm)
  · exact ((h c).2.1.trans ((val_main_v67_eq _ _).trans (ref_gradXHalf (hr c)))).trans
      ((congrArg gradXHalf (head_agree c (hagree c))).trans (final_xh m c).symm)
  · exact ((h c).2.2.1.trans ((val_main_v42_eq _ _ _ _).trans (ref_gradG (hr c)))).trans
      ((congrArg gradG (head_agree c (hagree c))).trans (final_g m c).symm)
  · exact ((h c).2.2.2.1.trans ((val_main_v39_eq _ _ _ _).trans (ref_gradB (hr c)))).trans
      ((congrArg gradB (head_agree c (hagree c))).trans (final_b m c).symm)
  · exact ((h c).2.2.2.2.1.trans ((val_main_v68_eq _ _ _ _).trans (ref_loss (hr c)))).trans
      ((congrArg lossAt (head_agree c (hagree c))).trans (final_loss m c).symm)

end Reference

end Cert.Proof.LossLn

end
-- ==== Proof.Ln.Forward.lean ====
/-
  A layer norm inside a layer, forward: the kernel's run and the reference's end with equal results.
-/
module

public import proofs.«01_k».proof.Defs
public import proofs.«01_k».proof.Proof.Gen.ResLnIdeal.Value
public import proofs.«01_k».proof.Proof.Gen.ResLnRefIdeal.Run
public import proofs.«01_k».proof.Proof.Gen.ResLnRefIdeal.Read
public import proofs.«01_k».proof.Proof.Ln.Layer
public import Idealize.ShloMosaic.Lib.Claim
public import Idealize.ShloMosaic.Lib.Quiescent

@[expose] public section

set_option maxRecDepth 16384

noncomputable section

namespace Cert.Proof.ResLn

open Idealize.ShloMosaic Idealize.ShloMosaic.TcCoe Idealize.SL.Sem Cert.Proof.Ln

section Kernel

open Cert.ResLnIdeal Cert.ResLnIdeal.Gen

/-- The blocks hold the rows from `256 · t` on of the part's result and of the carried rows, and the whole gain and shift. -/
structure Blocks (N : Layer) (t : Fin 8) (a e : Vec Ideal S256x2048 .f32) (g b : Vec Ideal S1x2048 .f32) : Prop where
  a : ∀ (p : Fin 256) (l : Fin 2048), a (ix2 p l) = N.a (row t p) l
  e : ∀ (p : Fin 256) (l : Fin 2048), e (ix2 p l) = N.e (row t p) l
  g : ∀ l : Fin 2048, g (ix2 0 l) = N.g l
  b : ∀ l : Fin 2048, b (ix2 0 l) = N.b l

section Points

variable {N : Layer} {t : Fin 8} {a e : Vec Ideal S256x2048 .f32} {g b : Vec Ideal S1x2048 .f32}

/-- A centered row's element. -/
theorem center_apply (h : Blocks N t a e g b) (p : Fin 256) (l : Fin 2048) : k0_pay1 e a (ix2 p l) = center (N.x (row t p)) l := by
  pointwise [k0_pay1]
  simp only [h.a, h.e]
  rfl

/-- A row's reciprocal root. -/
theorem rstd_apply (h : Blocks N t a e g b) (p : Fin 256) : k0_pay2 e a (ix2 p 0) = rstd (N.x (row t p)) := by
  pointwise [k0_pay2]
  simp only [center_apply h]
  rfl

/-- A normalised row's element. -/
theorem normal_apply (h : Blocks N t a e g b) (p : Fin 256) (l : Fin 2048) : k0_pay3 e a (ix2 p l) = unit (N.x (row t p)) l := by
  pointwise [k0_pay3]
  rw [center_apply h, rstd_apply h]
  rfl

/-- The same, at half precision. -/
theorem unit_apply (h : Blocks N t a e g b) (p : Fin 256) (l : Fin 2048) : k0_pay6 e a (ix2 p l) = unit (N.x (row t p)) l := by
  pointwise [k0_pay6]
  exact normal_apply h p l

/-- The norm's result. -/
theorem y_apply (h : Blocks N t a e g b) (p : Fin 256) (l : Fin 2048) : k0_pay4 e a g b (ix2 p l) = N.y (row t p) l := by
  pointwise [k0_pay4]
  rw [normal_apply h, h.g, h.b]
  rfl

/-- The same, at half precision. -/
theorem y_half_apply (h : Blocks N t a e g b) (p : Fin 256) (l : Fin 2048) : k0_pay5 e a g b (ix2 p l) = N.y (row t p) l := by
  pointwise [k0_pay5]
  exact y_apply h p l

end Points

/-- The arrays as functions of their indices. -/
def layer (a e : Vec Ideal S2048x2048 .f32) (g b : Vec Ideal S1x2048 .f32) : Layer where
  a r l := a (ix2 r l)
  e r l := e (ix2 r l)
  g l := g (ix2 0 l)
  b l := b (ix2 0 l)

/-- Where each window's block lies at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

/-- The arrays the program is called with. -/
abbrev argLayer (c : Dev nD) : Layer := layer (m ((c : Thread nD τ).loc main_arg0)) (m ((c : Thread nD τ).loc main_arg1))
  (m ((c : Thread nD τ).loc main_arg2)) (m ((c : Thread nD τ).loc main_arg3))

/-- A block of the part's result is the rows from `256 · t` on. -/
theorem block_a (c : Dev nD) (t : Fin cfg0.N) (p : Fin 256) (l : Fin 2048) :
    iblk m c 0 t (ix2 p l) = V m c main_arg0 (ix2 (row t p) l) := by blk_ext [iblk, idx t]

/-- A block of the carried rows is the rows from `256 · t` on. -/
theorem block_e (c : Dev nD) (t : Fin cfg0.N) (p : Fin 256) (l : Fin 2048) :
    iblk m c 1 t (ix2 p l) = V m c main_arg1 (ix2 (row t p) l) := by blk_ext [iblk, idx t]

/-- Every block of the gain is the whole gain. -/
theorem block_g (c : Dev nD) (t : Fin cfg0.N) (l : Fin 2048) :
    iblk m c 2 t (ix2 0 l) = V m c main_arg2 (ix2 0 l) := by blk_ext [iblk, idx t]

/-- Every block of the shift is the whole shift. -/
theorem block_b (c : Dev nD) (t : Fin cfg0.N) (l : Fin 2048) :
    iblk m c 3 t (ix2 0 l) = V m c main_arg3 (ix2 0 l) := by blk_ext [iblk, idx t]

/-- Grid point `t`'s blocks are those of the rows from `256 · t` on. -/
theorem blocks (c : Dev nD) (t : Fin cfg0.N) :
    Blocks (argLayer m c) t (iblk m c 0 t) (iblk m c 1 t) (iblk m c 2 t) (iblk m c 3 t) where
  a p l := (block_a m c t p l).trans (congrFun (V_main_arg0 m c) _)
  e p l := (block_e m c t p l).trans (congrFun (V_main_arg1 m c) _)
  g l := (block_g m c t l).trans (congrFun (V_main_arg2 m c) _)
  b l := (block_b m c t l).trans (congrFun (V_main_arg3 m c) _)

/-- The results as arrays. -/
def resY (N : Layer) : Vec Ideal S2048x2048 .f32 := fun i => N.y (i 0) (i 1)
def resYHalf (N : Layer) : Vec Ideal S2048x2048 .bf16 := fun i => N.y (i 0) (i 1)
def resUnit (N : Layer) : Vec Ideal S2048x2048 .bf16 := fun i => unit (N.x (i 0)) (i 1)
def resRstd (N : Layer) : Vec Ideal S2048x1 .f32 := fun i => rstd (N.x (i 0))

/-- The first result holds the norm's result. -/
theorem final_y (c : Dev nD) : (dats m 0 c).arrAt 4 cfg0.N = resY (argLayer m c) := by
  refine (dats m 0 c).arrAt_eq_of_covers 4 _ (by decide +kernel) fun t hf y => ?_
  blk_simp
  rw [after0_4]
  idx_vars y
  frame_out
  refine (y_apply (blocks m c t) y0 y1).trans ?_
  have e : resY (argLayer m c) (ix2 (row t y0) y1) = resY (argLayer m c) (((View.whole main_v0_0).slice (win0_4.rect t)).emb (ix2 y0 y1)) := by
    refine congrArg _ ?_
    blk_ext [idx t]
  exact e

/-- The second result holds it at half precision. -/
theorem final_yh (c : Dev nD) : (dats m 0 c).arrAt 5 cfg0.N = resYHalf (argLayer m c) := by
  refine (dats m 0 c).arrAt_eq_of_covers 5 _ (by decide +kernel) fun t hf y => ?_
  blk_simp
  rw [after0_5]
  idx_vars y
  frame_out
  refine (y_half_apply (blocks m c t) y0 y1).trans ?_
  have e : resYHalf (argLayer m c) (ix2 (row t y0) y1) = resYHalf (argLayer m c) (((View.whole main_v0_1).slice (win0_5.rect t)).emb (ix2 y0 y1)) := by
    refine congrArg _ ?_
    blk_ext [idx t]
  exact e

/-- The third result holds the normalised rows. -/
theorem final_unit (c : Dev nD) : (dats m 0 c).arrAt 6 cfg0.N = resUnit (argLayer m c) := by
  refine (dats m 0 c).arrAt_eq_of_covers 6 _ (by decide +kernel) fun t hf y => ?_
  blk_simp
  rw [after0_6]
  idx_vars y
  frame_out
  refine (unit_apply (blocks m c t) y0 y1).trans ?_
  have e : resUnit (argLayer m c) (ix2 (row t y0) y1) = resUnit (argLayer m c) (((View.whole main_v0_2).slice (win0_6.rect t)).emb (ix2 y0 y1)) := by
    refine congrArg _ ?_
    blk_ext [idx t]
  exact e

/-- The fourth result holds the reciprocal roots. -/
theorem final_rstd (c : Dev nD) : (dats m 0 c).arrAt 7 cfg0.N = resRstd (argLayer m c) := by
  refine (dats m 0 c).arrAt_eq_of_covers 7 _ (by decide +kernel) fun t hf y => ?_
  blk_simp
  rw [after0_7]
  idx_vars y
  obtain rfl := Fin.eq_zero y1
  frame_out
  refine (rstd_apply (blocks m c t) y0).trans ?_
  have e : resRstd (argLayer m c) (ix2 (row t y0) 0) = resRstd (argLayer m c) (((View.whole main_v0_3).slice (win0_7.rect t)).emb (ix2 y0 0)) := by
    refine congrArg _ ?_
    blk_ext [idx t]
  exact e

end Kernel

section Reference

open Cert.ResLnRefIdeal Cert.ResLnRefIdeal.Read

variable (a e : Vec Ideal S2048x2048 .f32) (g b : Vec Ideal S1x2048 .f32)

/-- The reference's rows. -/
theorem ref_x (r l : Fin 2048) : val_main_v4 (F := Ideal) a e (ix2 r l) = (layer a e g b).x r l := by
  pointwise [val_main_v4, val_main_v3, val_main_v2, val_main_v1, val_main_v0, val_main_cst, val_main_cst_0]
  rfl

/-- The reference's centered rows. -/
theorem ref_center (r l : Fin 2048) : val_main_v10 (F := Ideal) a e (ix2 r l) = center ((layer a e g b).x r) l := by
  pointwise [val_main_v10, val_main_v9, val_main_v8, val_main_v7, val_main_v6, val_main_v5, val_main_cst_1, val_main_cst_2]
  simp only [ref_x a e g b]
  rfl

/-- The reference's reciprocal roots. -/
theorem ref_rstd (r : Fin 2048) : val_main_v18 (F := Ideal) a e (ix2 r 0) = rstd ((layer a e g b).x r) := by
  pointwise [val_main_v18, val_main_v17, val_main_v16, val_main_v15, val_main_v14, val_main_v13, val_main_v12, val_main_v11, val_main_cst_3, val_main_cst_4, val_main_cst_5]
  simp only [ref_center a e g b]
  rfl

/-- The reference's normalised rows. -/
theorem ref_unit (r l : Fin 2048) : val_main_v20 (F := Ideal) a e (ix2 r l) = unit ((layer a e g b).x r) l := by
  pointwise [val_main_v20, val_main_v19]
  rw [ref_center a e g b, ref_rstd a e g b]
  rfl

/-- The reference's first result is the norm's. -/
theorem ref_y : val_main_v24 (F := Ideal) a e g b = resY (layer a e g b) := by
  funext i
  idx_vars i
  pointwise [val_main_v24, val_main_v23, val_main_v22, val_main_v21]
  rw [ref_unit a e g b]
  rfl

/-- The second is the same at half precision. -/
theorem ref_yh : val_main_v25 (F := Ideal) a e g b = resYHalf (layer a e g b) := by
  funext i
  idx_vars i
  pointwise [val_main_v25]
  exact congrFun (ref_y a e g b) (ix2 i0 i1)

/-- The third is the normalised rows. -/
theorem ref_uh : val_main_v26 (F := Ideal) a e = resUnit (layer a e g b) := by
  funext i
  idx_vars i
  pointwise [val_main_v26]
  exact ref_unit a e g b i0 i1

/-- The fourth is the reciprocal roots. -/
theorem ref_q : val_main_v18 (F := Ideal) a e = resRstd (layer a e g b) := by
  funext i
  idx_vars i
  obtain rfl := Fin.eq_zero i1
  exact ref_rstd a e g b i0

/-- The reference runs to the end with its arguments unchanged and every counter at zero. -/
theorem reference_frame : Cert.quiescent_ResLnRefIdeal := fun m ρ _ =>
  (θ_run Cert.ResLnRefIdeal.defs _ _).mono
    (fun r h => ⟨fun c => (h c).2.2.2.2, Idealize.ShloMosaic.sem_eq_zero_of_no_sems (by decide) r.2⟩)
    (Cert.ResLnRefIdeal.Value.run (F := Ideal) m ρ)

/-- Equal arrays give equal functions. -/
theorem layer_agree {m : (ℓ : Loc Cert.ResLnIdeal.nD Cert.ResLnIdeal.τ Cert.ResLnIdeal.sig) → Buf (Elt Ideal) ℓ}
    {m' : (ℓ : Loc nD τ sig) → Buf (Elt Ideal) ℓ} (c : Dev nD)
    (h : m' (c.tc.loc main_arg0) = m (c.tc.loc Cert.ResLnIdeal.main_arg0) ∧ m' (c.tc.loc main_arg1) = m (c.tc.loc Cert.ResLnIdeal.main_arg1)
      ∧ m' (c.tc.loc main_arg2) = m (c.tc.loc Cert.ResLnIdeal.main_arg2) ∧ m' (c.tc.loc main_arg3) = m (c.tc.loc Cert.ResLnIdeal.main_arg3)) :
    layer (m' (c.tc.loc main_arg0)) (m' (c.tc.loc main_arg1)) (m' (c.tc.loc main_arg2)) (m' (c.tc.loc main_arg3)) = argLayer m c := by
  rw [h.1, h.2.1, h.2.2.1, h.2.2.2]

/-- The kernel's results are the reference's, element by element. -/
theorem algebraic : Cert.algebraic_ResLnIdeal_ResLnRefIdeal := by
  intro m ρ m' ρ' _ hagree
  refine ⟨fun c => (Cert.ResLnIdeal.Gen.dats m 0 c).arrAt 4 Cert.ResLnIdeal.cfg0.N,
    fun c => (Cert.ResLnIdeal.Gen.dats m 0 c).arrAt 5 Cert.ResLnIdeal.cfg0.N,
    fun c => (Cert.ResLnIdeal.Gen.dats m 0 c).arrAt 6 Cert.ResLnIdeal.cfg0.N,
    fun c => (Cert.ResLnIdeal.Gen.dats m 0 c).arrAt 7 Cert.ResLnIdeal.cfg0.N,
    Cert.ResLnIdeal.Value.run_blocks (F := Ideal) m ρ,
    (θ_run Cert.ResLnRefIdeal.defs _ _).mono (fun r h c => ⟨?_, ?_, ?_, ?_, (h c).2.2.2.2⟩)
      (Cert.ResLnRefIdeal.Value.run (F := Ideal) m' ρ')⟩
  · exact ((h c).1.trans ((val_main_v24_eq _ _ _ _).trans (ref_y (m' (c.tc.loc main_arg0)) (m' (c.tc.loc main_arg1))
      (m' (c.tc.loc main_arg2)) (m' (c.tc.loc main_arg3))))).trans
      ((congrArg resY (layer_agree c (hagree c))).trans (final_y m c).symm)
  · exact ((h c).2.1.trans ((val_main_v25_eq _ _ _ _).trans (ref_yh (m' (c.tc.loc main_arg0)) (m' (c.tc.loc main_arg1))
      (m' (c.tc.loc main_arg2)) (m' (c.tc.loc main_arg3))))).trans
      ((congrArg resYHalf (layer_agree c (hagree c))).trans (final_yh m c).symm)
  · exact ((h c).2.2.1.trans ((val_main_v26_eq _ _).trans (ref_uh (m' (c.tc.loc main_arg0)) (m' (c.tc.loc main_arg1))
      (m' (c.tc.loc main_arg2)) (m' (c.tc.loc main_arg3))))).trans
      ((congrArg resUnit (layer_agree c (hagree c))).trans (final_unit m c).symm)
  · exact ((h c).2.2.2.1.trans ((val_main_v18_eq _ _).trans (ref_q (m' (c.tc.loc main_arg0)) (m' (c.tc.loc main_arg1))
      (m' (c.tc.loc main_arg2)) (m' (c.tc.loc main_arg3))))).trans
      ((congrArg resRstd (layer_agree c (hagree c))).trans (final_rstd m c).symm)

end Reference

end Cert.Proof.ResLn

end
-- ==== Proof.Mix.Grad.lean ====
/-
  The gradients of the two head groups, as functions of a row and a channel.
-/
module

public import proofs.«01_k».proof.Proof.Mix.Norm

@[expose] public section

noncomputable section

namespace Cert.Proof.Mix

open Idealize.ShloMosaic

/-- The single precision constant three. -/
abbrev three : EReal := Ideal.ofBits FTy.f32 1077936128#32

/-- What the hyperbolic tangent's argument receives in the Gaussian unit's gradient, at `x` with gradient `g` of the result. -/
def geluInner (x g : EReal) : EReal := slope * (half * (x * g) * ((1 + bend x) * (1 - bend x)))

/-- The gradient of the Gaussian unit at `x`, with gradient `g` of the result. -/
def geluBack (x g : EReal) : EReal :=
  g * (half * (1 + bend x)) + geluInner x g + cubic * geluInner x g * (three * (x * x))

/-- The head groups with the gradients of their two results. -/
structure Back where
  H : Heads
  d : Fin 2048 → Fin 1024 → EReal
  e : Fin 2048 → Fin 1024 → EReal

namespace Back

variable (B : Back) (r : Fin 2048) (k l : Fin 1024)

/-- The gate. -/
def sig : EReal := Ideal.logistic (B.H.glu r l)

/-- The gradient of the gated rows. -/
def dGated : EReal := normBack (B.d r) B.H.gs (B.H.gated r) l

/-- The gradient of the convolution's rows. -/
def dZ : EReal := normBack (B.e r) B.H.gc (B.H.z r) l

/-- The gradient of the first norm's weight. -/
def dGs : EReal := ∑ r, B.d r l * B.H.gated r l * scale (B.H.gated r)

/-- The gradient of the second norm's weight. -/
def dGc : EReal := ∑ r, B.e r l * B.H.z r l * scale (B.H.z r)

/-- The gradient of the gate's product. -/
def dGlu : EReal := B.dGated r l * gelu (B.H.y r l) * B.sig r l * (1 - B.sig r l)

/-- The gradient of the Gaussian unit's result. -/
def dGelu : EReal := B.dGated r k * B.sig r k + ∑ l, B.dGlu r l * B.H.w k l

/-- The gradient of the gate's weight. -/
def dW : EReal := ∑ r, gelu (B.H.y r k) * B.dGlu r l

/-- The gradient of the state space model's rows. -/
def dY : EReal := geluBack (B.H.y r l) (B.dGelu r l)

end Back

end Cert.Proof.Mix

end
-- ==== Proof.Mix.BackwardBlocks.lean ====
/-
  The gradient of the two head groups: what one grid point of the kernel computes from its blocks.
-/
module

public import proofs.«01_k».proof.Proof.Gen.MixBwdIdeal.Skeleton
public import proofs.«01_k».proof.Proof.Mix.Grad

@[expose] public section

set_option maxRecDepth 16384

noncomputable section

namespace Cert.Proof.MixBwd

open Idealize.ShloMosaic Idealize.ShloMosaic.TcCoe Idealize.SL.Sem Cert.MixBwdIdeal Cert.MixBwdIdeal.Gen Cert.Proof.Mix

/-- The row of the arrays that row `p` of block `t` holds. -/
abbrev row (t : Fin 8) (p : Fin 256) : Fin 2048 := ⟨t.val * 256 + p.val, by omega⟩

/-- The blocks hold the rows from `256 · t` on, the whole weight and the norms' weights. -/
structure Blocks (B : Back) (t : Fin 8) (dm : Vec Ideal S256x2048 .f32) (y gl z : Vec Ideal S256x1024 .f32)
    (w : Vec Ideal S1024x1024 .bf16) (gs gc : Vec Ideal S1x1024 .f32) : Prop where
  d : ∀ (p : Fin 256) (l : Fin 1024), dm (ix2 p (⟨l.val, by omega⟩ : Fin 2048)) = B.d (row t p) l
  e : ∀ (p : Fin 256) (l : Fin 1024), dm (ix2 p (⟨1024 + l.val, by omega⟩ : Fin 2048)) = B.e (row t p) l
  y : ∀ (p : Fin 256) (l : Fin 1024), y (ix2 p l) = B.H.y (row t p) l
  gl : ∀ (p : Fin 256) (l : Fin 1024), gl (ix2 p l) = B.H.glu (row t p) l
  z : ∀ (p : Fin 256) (l : Fin 1024), z (ix2 p l) = B.H.z (row t p) l
  w : ∀ (k l : Fin 1024), w (ix2 k l) = B.H.w k l
  gs : ∀ l : Fin 1024, gs (ix2 0 l) = B.H.gs l
  gc : ∀ l : Fin 1024, gc (ix2 0 l) = B.H.gc l

/-- The left half of a block of the joined gradient. -/
abbrev left (dm : Vec Ideal S256x2048 .f32) : Vec Ideal S256x1024 .f32 :=
  View.ld dm (Rect.unit ![0, 0] ![256, 1024] inb_S256x2048_S256x1024_0_0)

/-- The right half of a block of the joined gradient. -/
abbrev right (dm : Vec Ideal S256x2048 .f32) : Vec Ideal S256x1024 .f32 :=
  View.ld dm (Rect.unit ![0, 1024] ![256, 1024] inb_S256x2048_S256x1024_0_1024)

variable {B : Back} {t : Fin 8} {dm : Vec Ideal S256x2048 .f32} {y gl z : Vec Ideal S256x1024 .f32}
  {w : Vec Ideal S1024x1024 .bf16} {gs gc : Vec Ideal S1x1024 .f32}

/-- An element of the left half is the first group's gradient. -/
theorem left_apply (h : Blocks B t dm y gl z w gs gc) (p : Fin 256) (l : Fin 1024) : left dm (ix2 p l) = B.d (row t p) l := by
  refine Eq.trans ?_ (h.d p l)
  refine View.ld_unit_apply_of dm _ _ inb_S256x2048_S256x1024_0_0 _ _ fun a => ?_
  fin_cases a
  · show p.val = 0 + p.val
    omega
  · show l.val = 0 + l.val
    omega

/-- An element of the right half is the second group's gradient. -/
theorem right_apply (h : Blocks B t dm y gl z w gs gc) (p : Fin 256) (l : Fin 1024) : right dm (ix2 p l) = B.e (row t p) l := by
  refine Eq.trans ?_ (h.e p l)
  refine View.ld_unit_apply_of dm _ _ inb_S256x2048_S256x1024_0_1024 _ _ fun a => ?_
  fin_cases a
  · show p.val = 0 + p.val
    omega
  · rfl

/-- The hyperbolic tangent of a block's element. -/
theorem bend_apply (h : Blocks B t dm y gl z w gs gc) (p : Fin 256) (l : Fin 1024) : k0_pay6 y (ix2 p l) = bend (B.H.y (row t p) l) := by
  pointwise [k0_pay6]
  rw [h.y]
  rfl

/-- The Gaussian unit of a block's element. -/
theorem gelu_apply (h : Blocks B t dm y gl z w gs gc) (p : Fin 256) (l : Fin 1024) : k0_pay9 y (ix2 p l) = gelu (B.H.y (row t p) l) := by
  pointwise [k0_pay9, k0_pay8]
  rw [h.y, bend_apply h]
  rfl

/-- The gate of a block's element. -/
theorem sig_apply (h : Blocks B t dm y gl z w gs gc) (p : Fin 256) (l : Fin 1024) : k0_pay10 gl (ix2 p l) = B.sig (row t p) l := by
  pointwise [k0_pay10]
  rw [h.gl]
  rfl

/-- The gated rows of a block. -/
theorem gated_apply (h : Blocks B t dm y gl z w gs gc) (p : Fin 256) (l : Fin 1024) : k0_pay11 y gl (ix2 p l) = B.H.gated (row t p) l := by
  pointwise [k0_pay11]
  rw [gelu_apply h, sig_apply h]
  rfl

/-- The reciprocal root mean square of a gated row. -/
theorem scale_gated (h : Blocks B t dm y gl z w gs gc) (p : Fin 256) : k0_pay12 y gl (ix2 p 0) = scale (B.H.gated (row t p)) := by
  pointwise [k0_pay12]
  simp only [gated_apply h]
  rfl

/-- The reciprocal root mean square of a row of the second group. -/
theorem scale_z (h : Blocks B t dm y gl z w gs gc) (p : Fin 256) : k0_pay19 z (ix2 p 0) = scale (B.H.z (row t p)) := by
  pointwise [k0_pay19]
  simp only [h.z]
  rfl

/-- The gradient of the gated rows. -/
theorem dGated_apply (h : Blocks B t dm y gl z w gs gc) (p : Fin 256) (l : Fin 1024) :
    k0_pay13 (k0_pay11 y gl) (k0_pay12 y gl) (left dm) gs (ix2 p l) = B.dGated (row t p) l := by
  pointwise [k0_pay13]
  simp only [gated_apply h, scale_gated h, left_apply h, h.gs]
  rfl

/-- The gradient of the second group's rows. -/
theorem dZ_apply (h : Blocks B t dm y gl z w gs gc) (p : Fin 256) (l : Fin 1024) :
    k0_pay20 z (right dm) gc (ix2 p l) = B.dZ (row t p) l := by
  pointwise [k0_pay20]
  simp only [scale_z h, right_apply h, h.z, h.gc]
  rfl

/-- The gradient of the gate's product. -/
theorem dGlu_apply (h : Blocks B t dm y gl z w gs gc) (p : Fin 256) (l : Fin 1024) :
    k0_pay15 (k0_pay9 y) (k0_pay10 gl) (k0_pay11 y gl) (k0_pay12 y gl) (left dm) gs (ix2 p l) = B.dGlu (row t p) l := by
  pointwise [k0_pay15]
  rw [dGated_apply h, gelu_apply h, sig_apply h]
  rfl

/-- The gradient of the Gaussian unit's result. -/
theorem dGelu_apply (h : Blocks B t dm y gl z w gs gc) (p : Fin 256) (k : Fin 1024) :
    k0_pay16 (k0_pay9 y) (k0_pay10 gl) (k0_pay11 y gl) (k0_pay12 y gl) (left dm) gs w (ix2 p k) = B.dGelu (row t p) k := by
  pointwise [k0_pay16]
  rw [dGated_apply h, sig_apply h]
  exact congrArg (_ + ·) (Finset.sum_congr rfl fun l _ => congrArg₂ (· * ·) (dGlu_apply h p l) (h.w k l))

/-- The gradient of the first mixer's rows. -/
theorem dY_apply (h : Blocks B t dm y gl z w gs gc) (p : Fin 256) (l : Fin 1024) :
    k0_pay18 y (k0_pay5 y) (k0_pay7 y) (k0_pay8 y)
      (k0_pay16 (k0_pay9 y) (k0_pay10 gl) (k0_pay11 y gl) (k0_pay12 y gl) (left dm) gs w) (ix2 p l) = B.dY (row t p) l := by
  pointwise [k0_pay18, k0_pay5, k0_pay7, k0_pay8]
  rw [dGelu_apply h, bend_apply h, h.y]
  rfl

/-- A block's part of the gate's weight gradient, over what was there. -/
theorem dW_apply (h : Blocks B t dm y gl z w gs gc) (acc : Vec Ideal S1024x1024 .f32) (k l : Fin 1024) :
    (k0_pay17 (k0_pay9 y) (k0_pay10 gl) (k0_pay11 y gl) (k0_pay12 y gl) (left dm) gs acc (ix2 k l) : EReal)
      = acc (ix2 k l) + ∑ p : Fin 256, gelu (B.H.y (row t p) k) * B.dGlu (row t p) l := by
  pointwise [k0_pay17]
  exact congrArg (_ + ·) (Finset.sum_congr rfl fun p _ => congrArg₂ (· * ·) (gelu_apply h p k) (dGlu_apply h p l))

/-- A block's part of the first norm's weight gradient, over what was there. -/
theorem dGs_apply (h : Blocks B t dm y gl z w gs gc) (acc : Vec Ideal S1x1024 .f32) (l : Fin 1024) :
    (k0_pay14 (k0_pay11 y gl) (k0_pay12 y gl) (left dm) acc (ix2 0 l) : EReal)
      = acc (ix2 0 l) + ∑ p : Fin 256, B.d (row t p) l * B.H.gated (row t p) l * scale (B.H.gated (row t p)) := by
  pointwise [k0_pay14]
  simp only [gated_apply h, scale_gated h, left_apply h]

/-- A block's part of the second norm's weight gradient, over what was there. -/
theorem dGc_apply (h : Blocks B t dm y gl z w gs gc) (acc : Vec Ideal S1x1024 .f32) (l : Fin 1024) :
    (k0_pay1 (k0_pay21 z (right dm)) (k0_pay22 z) acc (ix2 0 l) : EReal)
      = acc (ix2 0 l) + ∑ p : Fin 256, B.e (row t p) l * B.H.z (row t p) l * scale (B.H.z (row t p)) := by
  pointwise [k0_pay1, k0_pay21, k0_pay22]
  simp only [scale_z h, right_apply h, h.z]

/-- The first product is zero at the start. -/
theorem zero_w (k l : Fin 1024) : (k0_pay2 (F := Ideal) (ix2 k l) : EReal) = 0 := by pointwise [k0_pay2]

/-- The first sum is zero at the start. -/
theorem zero_s (l : Fin 1024) : (k0_pay3 (F := Ideal) (ix2 0 l) : EReal) = 0 := by pointwise [k0_pay3]

/-- The second sum is zero at the start. -/
theorem zero_c (l : Fin 1024) : (k0_pay4 (F := Ideal) (ix2 0 l) : EReal) = 0 := by pointwise [k0_pay4]

end Cert.Proof.MixBwd

end
-- ==== Proof.Mix.BackwardKernel.lean ====
/-
  The gradient of the two head groups: what the kernel's run leaves in its five results.
-/
module

public import proofs.«01_k».proof.Proof.Gen.MixBwdIdeal.Value
public import proofs.«01_k».proof.Proof.Mix.BackwardBlocks

@[expose] public section

set_option maxRecDepth 16384

noncomputable section

namespace Cert.Proof.MixBwd

open Idealize.ShloMosaic Idealize.ShloMosaic.TcCoe Idealize.SL.Sem Cert.MixBwdIdeal Cert.MixBwdIdeal.Gen Cert.Proof.Mix

/-- The arrays as functions of their indices. -/
def back (dm : Vec Ideal S2048x2048 .f32) (y z : Vec Ideal S2048x1024 .f32) (w : Vec Ideal S1024x1024 .f32)
    (gs gc : Vec Ideal S1x1024 .f32) : Back where
  H := { y := fun r l => y (ix2 r l), z := fun r l => z (ix2 r l), w := fun k l => w (ix2 k l), gs := fun l => gs (ix2 0 l), gc := fun l => gc (ix2 0 l) }
  d r l := dm (ix2 r (⟨l.val, by omega⟩ : Fin 2048))
  e r l := dm (ix2 r (⟨1024 + l.val, by omega⟩ : Fin 2048))

/-- Where each window's block lies at grid point `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![t.val, 0] ∧ win0_8.index t = ![t.val, 0]
    ∧ win0_9.index t = ![0, 0] ∧ win0_10.index t = ![0, 0] ∧ win0_11.index t = ![0, 0] :=
  (by decide +kernel : ∀ t : Fin grid0.N, _)

/-- The gate's product, as the host computes it from the mixer's rows and the gate's weight. -/
def product (y : FVec Ideal S2048x1024 .f32) (w : FVec Ideal S1024x1024 .f32) : FVec Ideal S2048x1024 .f32 :=
  Host.dotGeneral dot_S2048x1024_S1024x1024_S2048x1024_1_0_0_1_n_n none
    (mulf y
      (mulf (broadcastInDim S2048x1024 ![] bcast_S_S2048x1024 (constant S_ FTy.f32 1056964608#32))
        (addf (broadcastInDim S2048x1024 ![] bcast_S_S2048x1024 (constant S_ FTy.f32 1065353216#32))
          (Host.tanh
            (mulf (broadcastInDim S2048x1024 ![] bcast_S_S2048x1024 (constant S_ FTy.f32 1061962282#32))
              (addf y
                (mulf (broadcastInDim S2048x1024 ![] bcast_S_S2048x1024 (constant S_ FTy.f32 1027024659#32))
                  (mulf (mulf y y) y))))))))
    w

/-- An element of the gate's product. -/
theorem product_apply (dm : Vec Ideal S2048x2048 .f32) (y z : Vec Ideal S2048x1024 .f32) (w : Vec Ideal S1024x1024 .f32)
    (gs gc : Vec Ideal S1x1024 .f32) (r : Fin 2048) (l : Fin 1024) : product y w (ix2 r l) = (back dm y z w gs gc).H.glu r l := by
  pointwise [product]
  refine Finset.sum_congr rfl fun k _ => congrArg (· * _) ?_
  rw [mul_comm (y (ix2 r k) * y (ix2 r k))]
  rfl

variable (m : (ℓ : Loc nD τ sig) → Buf (Elt Ideal) ℓ)

/-- The arrays the program is called with. -/
abbrev argBack (c : Dev nD) : Back := back (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The gate's product as the call reads it. -/
theorem V_product (c : Dev nD) : V m c main_v13
    = product (m ((c : Thread nD τ).loc main_arg1)) (m ((c : Thread nD τ).loc main_arg3)) := by
  unfold V product
  after_results

/-- The weight as the call reads it. -/
theorem V_weight (c : Dev nD) : V m c main_v14
    = truncf (F := Ideal) (s := S1024x1024) .bf16 (m ((c : Thread nD τ).loc main_arg3)) bitsLt_bf16_f32 := by
  unfold V
  after_results

/-- A block of the joined gradient is the rows from `256 · t` on. -/
theorem block_dm (c : Dev nD) (t : Fin cfg0.N) (p : Fin 256) (l : Fin 2048) :
    iblk m c 0 t (ix2 p l) = V m c main_arg0 (ix2 (row t p) l) := by blk_ext [iblk, idx t]

/-- A block of the first mixer's rows is the rows from `256 · t` on. -/
theorem block_y (c : Dev nD) (t : Fin cfg0.N) (p : Fin 256) (l : Fin 1024) :
    iblk m c 1 t (ix2 p l) = V m c main_arg1 (ix2 (row t p) l) := by blk_ext [iblk, idx t]

/-- A block of the gate's product is the rows from `256 · t` on. -/
theorem block_gl (c : Dev nD) (t : Fin cfg0.N) (p : Fin 256) (l : Fin 1024) :
    iblk m c 2 t (ix2 p l) = V m c main_v13 (ix2 (row t p) l) := by blk_ext [iblk, idx t]

/-- A block of the second mixer's rows is the rows from `256 · t` on. -/
theorem block_z (c : Dev nD) (t : Fin cfg0.N) (p : Fin 256) (l : Fin 1024) :
    iblk m c 3 t (ix2 p l) = V m c main_arg2 (ix2 (row t p) l) := by blk_ext [iblk, idx t]

/-- Every block of the weight is the whole weight. -/
theorem block_w (c : Dev nD) (t : Fin cfg0.N) (k l : Fin 1024) :
    iblk m c 4 t (ix2 k l) = V m c main_v14 (ix2 k l) := by blk_ext [iblk, idx t]

/-- Every block of the first norm's weight is the whole weight. -/
theorem block_gs (c : Dev nD) (t : Fin cfg0.N) (l : Fin 1024) :
    iblk m c 5 t (ix2 0 l) = V m c main_arg4 (ix2 0 l) := by blk_ext [iblk, idx t]

/-- Every block of the second norm's weight is the whole weight. -/
theorem block_gc (c : Dev nD) (t : Fin cfg0.N) (l : Fin 1024) :
    iblk m c 6 t (ix2 0 l) = V m c main_arg5 (ix2 0 l) := by blk_ext [iblk, idx t]

/-- Grid point `t`'s blocks are those of the rows from `256 · t` on. -/
theorem blocks (c : Dev nD) (t : Fin cfg0.N) :
    Blocks (argBack m c) t (iblk m c 0 t) (iblk m c 1 t) (iblk m c 2 t) (iblk m c 3 t) (iblk m c 4 t) (iblk m c 5 t) (iblk m c 6 t) where
  d p l := (block_dm m c t p _).trans (congrFun (V_main_arg0 m c) _)
  e p l := (block_dm m c t p _).trans (congrFun (V_main_arg0 m c) _)
  y p l := (block_y m c t p l).trans (congrFun (V_main_arg1 m c) _)
  gl p l := (block_gl m c t p l).trans ((congrFun (V_product m c) _).trans (product_apply _ _ _ _ _ _ _ _))
  z p l := (block_z m c t p l).trans (congrFun (V_main_arg2 m c) _)
  w k l := (block_w m c t k l).trans (congrFun (V_weight m c) _)
  gs l := (block_gs m c t l).trans (congrFun (V_main_arg4 m c) _)
  gc l := (block_gc m c t l).trans (congrFun (V_main_arg5 m c) _)

/-- The gradients as arrays. -/
def gradY (B : Back) : Vec Ideal S2048x1024 .f32 := fun i => B.dY (i 0) (i 1)
def gradZ (B : Back) : Vec Ideal S2048x1024 .f32 := fun i => B.dZ (i 0) (i 1)
def gradW (B : Back) : Vec Ideal S1024x1024 .f32 := fun i => B.dW (i 0) (i 1)
def gradGs (B : Back) : Vec Ideal S1x1024 .f32 := fun i => B.dGs (i 1)
def gradGc (B : Back) : Vec Ideal S1x1024 .f32 := fun i => B.dGc (i 1)

/-- A point leaves its rows of the first gradient. -/
theorem outs_y (c : Dev nD) (t : Fin cfg0.N) (p : Fin 256) (l : Fin 1024) :
    (outsAt0 m c t.val t.isLt).1 (ix2 p l) = (argBack m c).dY (row t p) l := by
  by_cases h : t.val % 8 = 0
  · rw [outsAt0_A m c t h]
    frame_out
    exact dY_apply (blocks m c t) p l
  · rw [outsAt0_B m c t h]
    frame_out
    exact dY_apply (blocks m c t) p l

/-- A point leaves its rows of the second gradient. -/
theorem outs_z (c : Dev nD) (t : Fin cfg0.N) (p : Fin 256) (l : Fin 1024) :
    (outsAt0 m c t.val t.isLt).2.1 (ix2 p l) = (argBack m c).dZ (row t p) l := by
  by_cases h : t.val % 8 = 0
  · rw [outsAt0_A m c t h]
    frame_out
    exact dZ_apply (blocks m c t) p l
  · rw [outsAt0_B m c t h]
    frame_out
    exact dZ_apply (blocks m c t) p l

/-- One row block's part of the gate's weight gradient, and of the norms' weights' gradients. -/
def partW (B : Back) (t : Fin 8) (i : S1024x1024.Idx) : EReal := ∑ p : Fin 256, gelu (B.H.y (row t p) (i 0)) * B.dGlu (row t p) (i 1)
def partGs (B : Back) (t : Fin 8) (i : S1x1024.Idx) : EReal := ∑ p : Fin 256, B.d (row t p) (i 1) * B.H.gated (row t p) (i 1) * scale (B.H.gated (row t p))
def partGc (B : Back) (t : Fin 8) (i : S1x1024.Idx) : EReal := ∑ p : Fin 256, B.e (row t p) (i 1) * B.H.z (row t p) (i 1) * scale (B.H.z (row t p))

/-- After the last point the first accumulator holds the gate's weight gradient. -/
theorem outs_w (c : Dev nD) (t : Fin cfg0.N) (ht : t.val + 1 = cfg0.N) (i : S1024x1024.Idx) :
    (outsAt0 m c t.val t.isLt).2.2.1 i = gradW (argBack m c) i := by
  rw [Pipeline.eq_sum_fin_of_reset_step_apply_last (M := EReal) (fun n h => (outsAt0 m c n h).2.2.1) 8 (fun _ => 0)
    (fun t i => partW (argBack m c) t i) (fun t h i => ?_) (fun t h i => ?_) (le_of_eq N_0) t ht i, zero_add]
  · exact Fin.sum_mul_add_congr fun s p hl => rfl
  · rw [outsAt0_A m c t h]
    frame_out
    idx_vars i
    rw [dW_apply (blocks m c t), zero_w]
    rfl
  · rw [outsAt0_B m c t h]
    frame_out
    idx_vars i
    rw [dW_apply (blocks m c t)]
    rfl

/-- After the last point the second accumulator holds the first norm's weight gradient. -/
theorem outs_gs (c : Dev nD) (t : Fin cfg0.N) (ht : t.val + 1 = cfg0.N) (i : S1x1024.Idx) :
    (outsAt0 m c t.val t.isLt).2.2.2.1 i = gradGs (argBack m c) i := by
  rw [Pipeline.eq_sum_fin_of_reset_step_apply_last (M := EReal) (fun n h => (outsAt0 m c n h).2.2.2.1) 8 (fun _ => 0)
    (fun t i => partGs (argBack m c) t i) (fun t h i => ?_) (fun t h i => ?_) (le_of_eq N_0) t ht i, zero_add]
  · exact Fin.sum_mul_add_congr fun s p hl => rfl
  · rw [outsAt0_A m c t h]
    frame_out
    idx_vars i
    obtain rfl := Fin.eq_zero i0
    rw [dGs_apply (blocks m c t), zero_s]
    rfl
  · rw [outsAt0_B m c t h]
    frame_out
    idx_vars i
    obtain rfl := Fin.eq_zero i0
    rw [dGs_apply (blocks m c t)]
    rfl

/-- After the last point the third accumulator holds the second norm's weight gradient. -/
theorem outs_gc (c : Dev nD) (t : Fin cfg0.N) (ht : t.val + 1 = cfg0.N) (i : S1x1024.Idx) :
    (outsAt0 m c t.val t.isLt).2.2.2.2 i = gradGc (argBack m c) i := by
  rw [Pipeline.eq_sum_fin_of_reset_step_apply_last (M := EReal) (fun n h => (outsAt0 m c n h).2.2.2.2) 8 (fun _ => 0)
    (fun t i => partGc (argBack m c) t i) (fun t h i => ?_) (fun t h i => ?_) (le_of_eq N_0) t ht i, zero_add]
  · exact Fin.sum_mul_add_congr fun s p hl => rfl
  · rw [outsAt0_A m c t h]
    frame_out
    idx_vars i
    obtain rfl := Fin.eq_zero i0
    rw [dGc_apply (blocks m c t), zero_c]
    rfl
  · rw [outsAt0_B m c t h]
    frame_out
    idx_vars i
    obtain rfl := Fin.eq_zero i0
    rw [dGc_apply (blocks m c t)]
    rfl

/-- The first result holds the gradient of the first mixer's rows. -/
theorem final_y (c : Dev nD) : (dats m 0 c).arrAt 7 cfg0.N = gradY (argBack m c) := by
  refine (dats m 0 c).arrAt_eq_of_covers 7 _ (by decide +kernel) fun t hf y => ?_
  blk_simp
  rw [after0_7]
  idx_vars y
  rw [outs_y m c t]
  have e : gradY (argBack m c) (ix2 (row t y0) y1) = gradY (argBack m c) (((View.whole main_v15_0).slice (win0_7.rect t)).emb (ix2 y0 y1)) := by
    refine congrArg _ ?_
    blk_ext [idx t]
  exact e

/-- The second result holds the gradient of the second mixer's rows. -/
theorem final_z (c : Dev nD) : (dats m 0 c).arrAt 8 cfg0.N = gradZ (argBack m c) := by
  refine (dats m 0 c).arrAt_eq_of_covers 8 _ (by decide +kernel) fun t hf y => ?_
  blk_simp
  rw [after0_8]
  idx_vars y
  rw [outs_z m c t]
  have e : gradZ (argBack m c) (ix2 (row t y0) y1) = gradZ (argBack m c) (((View.whole main_v15_1).slice (win0_8.rect t)).emb (ix2 y0 y1)) := by
    refine congrArg _ ?_
    blk_ext [idx t]
  exact e

/-- The third result holds the gradient of the gate's weight. -/
theorem final_w (c : Dev nD) : (dats m 0 c).arrAt 9 cfg0.N = gradW (argBack m c) := by
  refine (dats m 0 c).arrAt_eq_of_covers 9 _ (by decide +kernel) fun t hf y => ?_
  have h10 := (flush0_9 t).mp hf
  have hN : cfg0.N = 8 := N_0
  have hlt := t.isLt
  blk_simp
  rw [after0_9, outs_w m c t (by omega) _]
  refine congrArg _ ?_
  blk_ext [idx t]

/-- The fourth result holds the gradient of the first norm's weight. -/
theorem final_gs (c : Dev nD) : (dats m 0 c).arrAt 10 cfg0.N = gradGs (argBack m c) := by
  refine (dats m 0 c).arrAt_eq_of_covers 10 _ (by decide +kernel) fun t hf y => ?_
  have h10 := (flush0_10 t).mp hf
  have hN : cfg0.N = 8 := N_0
  have hlt := t.isLt
  blk_simp
  rw [after0_10, outs_gs m c t (by omega) _]
  refine congrArg _ ?_
  blk_ext [idx t]

/-- The fifth result holds the gradient of the second norm's weight. -/
theorem final_gc (c : Dev nD) : (dats m 0 c).arrAt 11 cfg0.N = gradGc (argBack m c) := by
  refine (dats m 0 c).arrAt_eq_of_covers 11 _ (by decide +kernel) fun t hf y => ?_
  have h10 := (flush0_11 t).mp hf
  have hN : cfg0.N = 8 := N_0
  have hlt := t.isLt
  blk_simp
  rw [after0_11, outs_gc m c t (by omega) _]
  refine congrArg _ ?_
  blk_ext [idx t]

end Cert.Proof.MixBwd

end
-- ==== Proof.Mix.Backward.lean ====
/-
  The gradient of the two head groups: the kernel's run and the reference's end with equal results.
-/
module

public import proofs.«01_k».proof.Defs
public import proofs.«01_k».proof.Proof.Gen.MixBwdRefIdeal.Run
public import proofs.«01_k».proof.Proof.Gen.MixBwdRefIdeal.Read
public import proofs.«01_k».proof.Proof.Mix.BackwardKernel
public import Idealize.ShloMosaic.Lib.Claim
public import Idealize.ShloMosaic.Lib.Quiescent

@[expose] public section

set_option maxRecDepth 16384

noncomputable section

namespace Cert.Proof.MixBwd

open Idealize.ShloMosaic Idealize.ShloMosaic.TcCoe Idealize.SL.Sem Cert.Proof.Mix

section Reference

open Cert.MixBwdRefIdeal Cert.MixBwdRefIdeal.Read

variable (dm : Vec Ideal S2048x2048 .f32) (y z : Vec Ideal S2048x1024 .f32) (w : Vec Ideal S1024x1024 .f32) (gs gc : Vec Ideal S1x1024 .f32)

/-- The reference's hyperbolic tangent. -/
theorem ref_bend (r : Fin 2048) (l : Fin 1024) : val_main_v10 (F := Ideal) y (ix2 r l) = bend (y (ix2 r l)) := by
  pointwise [val_main_v10, val_main_v9, val_main_v8, val_main_v7, val_main_v6, val_main_v5, val_main_v1, val_main_v0, val_main_cst_0, val_main_cst_1]
  rw [mul_comm (y (ix2 r l) * y (ix2 r l))]
  rfl

/-- The reference's Gaussian unit. -/
theorem ref_gelu (r : Fin 2048) (l : Fin 1024) : val_main_v20 (F := Ideal) y (ix2 r l) = gelu (y (ix2 r l)) := by
  pointwise [val_main_v20, val_main_v19, val_main_v18, val_main_v17, val_main_v16, val_main_cst_4, val_main_cst_5]
  rw [ref_bend]
  rfl

/-- The reference's gate. -/
theorem ref_sig (r : Fin 2048) (l : Fin 1024) :
    val_main_v27 (F := Ideal) y w (ix2 r l) = (back dm y z w gs gc).sig r l := by
  have h : val_main_v21 (F := Ideal) y w (ix2 r l) = (back dm y z w gs gc).H.glu r l := by
    pointwise [val_main_v21]
    exact Finset.sum_congr rfl fun k _ => congrArg (· * _) (ref_gelu y r k)
  pointwise [val_main_v27, val_main_v26, val_main_v25, val_main_v24, val_main_v23, val_main_v22, val_main_cst_6, val_main_cst_7]
  rw [h]
  rfl

/-- The reference's gated rows. -/
theorem ref_gated (r : Fin 2048) (l : Fin 1024) :
    val_main_v31 (F := Ideal) y w (ix2 r l) = (back dm y z w gs gc).H.gated r l := by
  pointwise [val_main_v31]
  rw [ref_gelu, ref_sig dm y z w gs gc]
  rfl

/-- The reference's mean of squares of a gated row, with the constant added. -/
theorem ref_var_gated (r : Fin 2048) : val_main_v38 (F := Ideal) y w (ix2 r 0)
    = Ideal.div (∑ k, (back dm y z w gs gc).H.gated r k * (back dm y z w gs gc).H.gated r k) width + eps := by
  pointwise [val_main_v38, val_main_v37, val_main_v36, val_main_v35, val_main_v34, val_main_v33, val_main_v32, val_main_cst_9, val_main_cst_10, val_main_cst_11]
  simp only [ref_gated dm y z w gs gc]

/-- The reference's mean of squares of a row of the second group, with the constant added. -/
theorem ref_var_z (r : Fin 2048) : val_main_v53 (F := Ideal) z (ix2 r 0)
    = Ideal.div (∑ k, (back dm y z w gs gc).H.z r k * (back dm y z w gs gc).H.z r k) width + eps := by
  pointwise [val_main_v53, val_main_v52, val_main_v51, val_main_v50, val_main_v49, val_main_v48, val_main_v47, val_main_cst_13, val_main_cst_14, val_main_cst_15]
  rfl

/-- The left half of the joined gradient. -/
theorem ref_left (r : Fin 2048) (l : Fin 1024) : val_main_v63 (F := Ideal) dm (ix2 r l) = (back dm y z w gs gc).d r l := by
  pointwise [val_main_v63]
  rfl

/-- The right half of the joined gradient. -/
theorem ref_right (r : Fin 2048) (l : Fin 1024) : val_main_v64 (F := Ideal) dm (ix2 r l) = (back dm y z w gs gc).e r l := by
  pointwise [val_main_v64]
  rfl

/-- The reference's gradient of the gated rows. -/
theorem ref_dGated (r : Fin 2048) (l : Fin 1024) :
    val_main_v102 (F := Ideal) dm y w gs (ix2 r l) = (back dm y z w gs gc).dGated r l := by
  have hf : val_main_v98 (F := Ideal) dm y w gs (ix2 r l)
      = factor ((back dm y z w gs gc).d r) (back dm y z w gs gc).H.gs ((back dm y z w gs gc).H.gated r) := by
    pointwise [val_main_v98, val_main_v97, val_main_v96, val_main_v95, val_main_v94, val_main_v91, val_main_v90, val_main_v89, val_main_v88,
      val_main_v87, val_main_v42, val_main_v41, val_main_v40, val_main_v39, val_main_cst_24, val_main_cst_23, val_main_cst_22, val_main_cst_12]
    refine (Fin.sum_univ_one _).trans ?_
    simp only [ref_gated dm y z w gs gc, ref_left dm y z w gs gc, ref_var_gated dm y z w gs gc]
    rfl
  pointwise [val_main_v102, val_main_v101, val_main_v100, val_main_v99, val_main_v93, val_main_v92, val_main_v88, val_main_v87, val_main_v39]
  rw [hf, ref_gated dm y z w gs gc, ref_left dm y z w gs gc, ref_var_gated dm y z w gs gc]
  exact normBack_eq ((back dm y z w gs gc).d r) (back dm y z w gs gc).H.gs ((back dm y z w gs gc).H.gated r) l

/-- The reference's second result is the gradient of the second mixer's rows. -/
theorem ref_gradZ : val_main_v83 (F := Ideal) dm z gc = gradZ (back dm y z w gs gc) := by
  funext i
  idx_vars i
  have hf : val_main_v79 (F := Ideal) dm z gc (ix2 i0 i1)
      = factor ((back dm y z w gs gc).e i0) (back dm y z w gs gc).H.gc ((back dm y z w gs gc).H.z i0) := by
    pointwise [val_main_v79, val_main_v78, val_main_v77, val_main_v76, val_main_v75, val_main_v72, val_main_v71, val_main_v70, val_main_v69,
      val_main_v68, val_main_v57, val_main_v56, val_main_v55, val_main_v54, val_main_cst_20, val_main_cst_19, val_main_cst_18, val_main_cst_16]
    refine (Fin.sum_univ_one _).trans ?_
    simp only [ref_right dm y z w gs gc, ref_var_z dm y z w gs gc]
    rfl
  pointwise [val_main_v83, val_main_v82, val_main_v81, val_main_v80, val_main_v74, val_main_v73, val_main_v69, val_main_v68, val_main_v54]
  rw [hf, ref_right dm y z w gs gc, ref_var_z dm y z w gs gc]
  exact normBack_eq ((back dm y z w gs gc).e i0) (back dm y z w gs gc).H.gc ((back dm y z w gs gc).H.z i0) i1

/-- The reference's fourth result is the gradient of the first norm's weight. -/
theorem ref_gradGs : val_main_v86 (F := Ideal) dm y w = gradGs (back dm y z w gs gc) := by
  funext i
  idx_vars i
  pointwise [val_main_v86, val_main_v85, val_main_v84, val_main_v44, val_main_v43, val_main_v39, val_main_cst_21]
  show _ = (back dm y z w gs gc).dGs i1
  unfold Back.dGs
  refine Finset.sum_congr rfl fun r _ => ?_
  rw [ref_gated dm y z w gs gc, ref_left dm y z w gs gc, ref_var_gated dm y z w gs gc]
  exact (mul_comm _ _).trans (mul_assoc _ _ _).symm

/-- The reference's fifth result is the gradient of the second norm's weight. -/
theorem ref_gradGc : val_main_v67 (F := Ideal) dm z = gradGc (back dm y z w gs gc) := by
  funext i
  idx_vars i
  pointwise [val_main_v67, val_main_v66, val_main_v65, val_main_v59, val_main_v58, val_main_v54, val_main_cst_17]
  show _ = (back dm y z w gs gc).dGc i1
  unfold Back.dGc
  refine Finset.sum_congr rfl fun r _ => ?_
  rw [ref_right dm y z w gs gc, ref_var_z dm y z w gs gc]
  exact (mul_comm _ _).trans (mul_assoc _ _ _).symm

/-- The reference's gradient of the gate's product. -/
theorem ref_dGlu (r : Fin 2048) (l : Fin 1024) :
    val_main_v105 (F := Ideal) dm y w gs (ix2 r l) = (back dm y z w gs gc).dGlu r l := by
  pointwise [val_main_v105, val_main_v103, val_main_v30, val_main_v29, val_main_v28, val_main_cst_8]
  rw [ref_dGated dm y z w gs gc, ref_gelu, ref_sig dm y z w gs gc, mul_comm (gelu _), ← mul_assoc]
  rfl

/-- The reference's third result is the gradient of the gate's weight. -/
theorem ref_gradW : val_main_v107 (F := Ideal) dm y w gs = gradW (back dm y z w gs gc) := by
  funext i
  idx_vars i
  pointwise [val_main_v107, val_main_v106]
  show _ = (back dm y z w gs gc).dW i0 i1
  unfold Back.dW
  refine Finset.sum_congr rfl fun r _ => ?_
  rw [ref_dGlu dm y z w gs gc, ref_gelu, mul_comm]
  rfl

/-- The reference's first result is the gradient of the first mixer's rows. -/
theorem ref_gradY : val_main_v121 (F := Ideal) dm y w gs = gradY (back dm y z w gs gc) := by
  funext i
  idx_vars i
  have hg : val_main_v109 (F := Ideal) dm y w gs (ix2 i0 i1) = (back dm y z w gs gc).dGelu i0 i1 := by
    pointwise [val_main_v109, val_main_v108, val_main_v104]
    rw [ref_dGated dm y z w gs gc, ref_sig dm y z w gs gc]
    exact congrArg (_ + ·) (Finset.sum_congr rfl fun l _ => congrArg (· * _) (ref_dGlu dm y z w gs gc i0 l))
  pointwise [val_main_v121, val_main_v120, val_main_v119, val_main_v118, val_main_v117, val_main_v116, val_main_v115, val_main_v114,
    val_main_v113, val_main_v112, val_main_v111, val_main_v110, val_main_v19, val_main_v18, val_main_v17, val_main_v16, val_main_v15,
    val_main_v14, val_main_v13, val_main_v12, val_main_v11, val_main_v4, val_main_v3, val_main_v2, val_main_cst, val_main_cst_2,
    val_main_cst_3, val_main_cst_4, val_main_cst_5, val_main_cst_25, val_main_cst_26, val_main_cst_27]
  rw [hg, ref_bend]
  rfl

/-- The reference runs to the end with its arguments unchanged and every counter at zero. -/
theorem reference_frame : Cert.quiescent_MixBwdRefIdeal := fun m ρ _ =>
  (θ_run Cert.MixBwdRefIdeal.defs _ _).mono
    (fun r h => ⟨fun c => (h c).2.2.2.2.2, Idealize.ShloMosaic.sem_eq_zero_of_no_sems (by decide) r.2⟩)
    (Cert.MixBwdRefIdeal.Value.run (F := Ideal) m ρ)

/-- Equal arrays give equal functions. -/
theorem back_agree {m : (ℓ : Loc Cert.MixBwdIdeal.nD Cert.MixBwdIdeal.τ Cert.MixBwdIdeal.sig) → Buf (Elt Ideal) ℓ}
    {m' : (ℓ : Loc nD τ sig) → Buf (Elt Ideal) ℓ} (c : Dev nD)
    (h : m' (c.tc.loc main_arg0) = m (c.tc.loc Cert.MixBwdIdeal.main_arg0) ∧ m' (c.tc.loc main_arg1) = m (c.tc.loc Cert.MixBwdIdeal.main_arg1)
      ∧ m' (c.tc.loc main_arg2) = m (c.tc.loc Cert.MixBwdIdeal.main_arg2) ∧ m' (c.tc.loc main_arg3) = m (c.tc.loc Cert.MixBwdIdeal.main_arg3)
      ∧ m' (c.tc.loc main_arg4) = m (c.tc.loc Cert.MixBwdIdeal.main_arg4) ∧ m' (c.tc.loc main_arg5) = m (c.tc.loc Cert.MixBwdIdeal.main_arg5)) :
    back (m' (c.tc.loc main_arg0)) (m' (c.tc.loc main_arg1)) (m' (c.tc.loc main_arg2)) (m' (c.tc.loc main_arg3)) (m' (c.tc.loc main_arg4)) (m' (c.tc.loc main_arg5))
      = argBack m c := by
  rw [h.1, h.2.1, h.2.2.1, h.2.2.2.1, h.2.2.2.2.1, h.2.2.2.2.2]

/-- The kernel's results are the reference's, element by element. -/
theorem algebraic : Cert.algebraic_MixBwdIdeal_MixBwdRefIdeal := by
  intro m g m' g' _ hagree
  refine ⟨fun c => (Cert.MixBwdIdeal.Gen.dats m 0 c).arrAt 7 Cert.MixBwdIdeal.cfg0.N,
    fun c => (Cert.MixBwdIdeal.Gen.dats m 0 c).arrAt 8 Cert.MixBwdIdeal.cfg0.N,
    fun c => (Cert.MixBwdIdeal.Gen.dats m 0 c).arrAt 9 Cert.MixBwdIdeal.cfg0.N,
    fun c => (Cert.MixBwdIdeal.Gen.dats m 0 c).arrAt 10 Cert.MixBwdIdeal.cfg0.N,
    fun c => (Cert.MixBwdIdeal.Gen.dats m 0 c).arrAt 11 Cert.MixBwdIdeal.cfg0.N,
    Cert.MixBwdIdeal.Value.run_blocks (F := Ideal) m g,
    (θ_run Cert.MixBwdRefIdeal.defs _ _).mono (fun r h c => ⟨?_, ?_, ?_, ?_, ?_, (h c).2.2.2.2.2⟩)
      (Cert.MixBwdRefIdeal.Value.run (F := Ideal) m' g')⟩
  · exact ((h c).1.trans ((val_main_v121_eq _).trans (ref_gradY (m' (c.tc.loc main_arg0)) (m' (c.tc.loc main_arg1)) (m' (c.tc.loc main_arg2))
      (m' (c.tc.loc main_arg3)) (m' (c.tc.loc main_arg4)) (m' (c.tc.loc main_arg5))))).trans
      ((congrArg gradY (back_agree c (hagree c))).trans (final_y m c).symm)
  · exact ((h c).2.1.trans ((val_main_v83_eq _).trans (ref_gradZ (m' (c.tc.loc main_arg0)) (m' (c.tc.loc main_arg1)) (m' (c.tc.loc main_arg2))
      (m' (c.tc.loc main_arg3)) (m' (c.tc.loc main_arg4)) (m' (c.tc.loc main_arg5))))).trans
      ((congrArg gradZ (back_agree c (hagree c))).trans (final_z m c).symm)
  · exact ((h c).2.2.1.trans ((val_main_v107_eq _).trans (ref_gradW (m' (c.tc.loc main_arg0)) (m' (c.tc.loc main_arg1)) (m' (c.tc.loc main_arg2))
      (m' (c.tc.loc main_arg3)) (m' (c.tc.loc main_arg4)) (m' (c.tc.loc main_arg5))))).trans
      ((congrArg gradW (back_agree c (hagree c))).trans (final_w m c).symm)
  · exact ((h c).2.2.2.1.trans ((val_main_v86_eq _).trans (ref_gradGs (m' (c.tc.loc main_arg0)) (m' (c.tc.loc main_arg1)) (m' (c.tc.loc main_arg2))
      (m' (c.tc.loc main_arg3)) (m' (c.tc.loc main_arg4)) (m' (c.tc.loc main_arg5))))).trans
      ((congrArg gradGs (back_agree c (hagree c))).trans (final_gs m c).symm)
  · exact ((h c).2.2.2.2.1.trans ((val_main_v67_eq _).trans (ref_gradGc (m' (c.tc.loc main_arg0)) (m' (c.tc.loc main_arg1)) (m' (c.tc.loc main_arg2))
      (m' (c.tc.loc main_arg3)) (m' (c.tc.loc main_arg4)) (m' (c.tc.loc main_arg5))))).trans
      ((congrArg gradGc (back_agree c (hagree c))).trans (final_gc m c).symm)

end Reference

end Cert.Proof.MixBwd

end
-- ==== Proof.Mix.Halves.lean ====
/-
  An array of two halves of 1024 columns: written by a store per half, or by joining two arrays.
-/
module

public import Idealize.ShloMosaic.Lib.Pipeline.ValueKit
public import Idealize.ShloMosaic.Lib.Pipeline.RowLoads
public import Idealize.ShloMosaic.Lib.Pipeline.Value
public import Idealize.ShloMosaic.Lib.Pointwise

@[expose] public section

noncomputable section

namespace Cert.Proof.Mix

open Idealize.ShloMosaic

/-- A block of 256 rows of both halves. -/
abbrev Wide : Shape := ⟨2, ![256, 2048]⟩
/-- A block of 256 rows of one half. -/
abbrev Half : Shape := ⟨2, ![256, 1024]⟩

variable {Val : EltTy → Type} [∀ e, Nonempty (Val e)] {e : EltTy}

/-- After a store of columns `o … o + 1023`, an element is the stored one if its column is among them, else what it was. -/
theorem canon_half (o : Nat) (inb : ∀ a, (![0, o] : Fin 2 → Nat) a + (![256, 1024] : Fin 2 → Nat) a ≤ Wide.size a)
    (w : Half.Idx → Val e) (L : List (View.Piece Val Wide e)) (i : Fin 256) (j : Fin 2048) (v : Val e)
    (h1 : ∀ p : Fin 1024, j.val = o + p.val → w (ix2 i p) = v)
    (h2 : ¬(o ≤ j.val ∧ j.val < o + 1024) → View.canon L (ix2 i j) = v) :
    View.canon ((⟨Rect.unit (s := Wide) ![0, o] ![256, 1024] inb, w⟩ : View.Piece Val Wide e) :: L) (ix2 i j) = v := by
  by_cases hj : o ≤ j.val ∧ j.val < o + 1024
  · have hx : (ix2 i j : Wide.Idx) = (Rect.unit (s := Wide) ![0, o] ![256, 1024] inb).emb
        (ix2 i (⟨j.val - o, by omega⟩ : Fin 1024)) := by
      funext a
      refine Fin.ext ?_
      refine Eq.trans ?_ (Rect.idx_unit_val _ _ inb _ a).symm
      fin_cases a
      · show i.val = 0 + i.val
        omega
      · show j.val = o + (j.val - o)
        omega
    rw [hx, View.canon_cons_emb]
    exact h1 _ (by show j.val = o + (j.val - o); omega)
  · rw [View.canon_cons_of_not_mem _ _ ?_]
    · exact h2 hj
    · intro hm
      obtain ⟨x, hx⟩ := LoadRect.exists_idx_of_mem _ hm
      have h0 := congrArg Fin.val (congrFun hx 1)
      have hv : ((Rect.unit (s := Wide) ![0, o] ![256, 1024] inb).idx x 1 : Nat) = o + (x 1).val := Rect.idx_unit_val _ _ inb x 1
      have hl : (x 1).val < 1024 := (x 1).isLt
      have h0' : ((Rect.unit (s := Wide) ![0, o] ![256, 1024] inb).idx x 1 : Nat) = j.val := h0
      omega

/-- After a store of each half, an element is that of its half. -/
theorem canon_halves (inb0 : ∀ a, (![0, 0] : Fin 2 → Nat) a + (![256, 1024] : Fin 2 → Nat) a ≤ Wide.size a)
    (inb1 : ∀ a, (![0, 1024] : Fin 2 → Nat) a + (![256, 1024] : Fin 2 → Nat) a ≤ Wide.size a)
    (w0 w1 : Half.Idx → Val e) (i : Fin 256) (j : Fin 2048) :
    View.canon [(⟨Rect.unit (s := Wide) ![0, 1024] ![256, 1024] inb1, w1⟩ : View.Piece Val Wide e),
      ⟨Rect.unit (s := Wide) ![0, 0] ![256, 1024] inb0, w0⟩] (ix2 i j)
    = if h : j.val < 1024 then w0 (ix2 i (⟨j.val, h⟩ : Fin 1024)) else w1 (ix2 i (⟨j.val - 1024, by omega⟩ : Fin 1024)) := by
  refine canon_half 1024 inb1 w1 _ i j _ (fun p hp => ?_) (fun h => canon_half 0 inb0 w0 _ i j _ (fun p hp => ?_) (fun h' => ?_))
  · rw [dif_neg (by omega)]
    exact congrArg (fun q : Fin 1024 => w1 (ix2 i q)) (Fin.ext (by show p.val = j.val - 1024; omega))
  · rw [dif_pos (by omega)]
    exact congrArg (fun q : Fin 1024 => w0 (ix2 i q)) (Fin.ext (by show p.val = j.val; omega))
  · exact absurd ⟨by omega, by omega⟩ h'

/-- An element of two arrays joined side by side is that of its half. -/
theorem concatenate_halves {α : Type} (x0 x1 : (⟨2, ![2048, 1024]⟩ : Shape).Idx → α)
    (h : Shape.Concatenates [(⟨2, ![2048, 1024]⟩ : Shape), ⟨2, ![2048, 1024]⟩] ⟨2, ![2048, 2048]⟩ 1) (i : Fin 2048) (j : Fin 2048) :
    concatenate (⟨2, ![2048, 2048]⟩ : Shape) 1 [⟨⟨2, ![2048, 1024]⟩, x0⟩, ⟨⟨2, ![2048, 1024]⟩, x1⟩] h (ix2 i j)
    = if h : j.val < 1024 then x0 (ix2 i (⟨j.val, h⟩ : Fin 1024)) else x1 (ix2 i (⟨j.val - 1024, by omega⟩ : Fin 1024)) := by
  split
  · rename_i hj
    refine concatenate_pair_apply_left (t := ⟨2, ![2048, 2048]⟩) (s₁ := ⟨2, ![2048, 1024]⟩) (s₂ := ⟨2, ![2048, 1024]⟩) 1 x0 x1 h (ix2 i j) rfl (ix2 i ⟨j.val, hj⟩) (fun b => ?_)
    fin_cases b <;> rfl
  · rename_i hj
    refine concatenate_pair_apply_right (t := ⟨2, ![2048, 2048]⟩) (s₁ := ⟨2, ![2048, 1024]⟩) (s₂ := ⟨2, ![2048, 1024]⟩) 1 x0 x1 h (ix2 i j) rfl rfl
      (ix2 i (⟨j.val - 1024, by omega⟩ : Fin 1024)) (fun b hb => ?_) ?_
    · fin_cases b
      · rfl
      · exact absurd rfl hb
    · show j.val - 1024 + 1024 = j.val
      omega

end Cert.Proof.Mix

end
-- ==== Proof.Mix.Forward.lean ====
/-
  The two head groups: the kernel's run and the reference's end with equal results, the joined groups and the gate's product.
-/
module

public import proofs.«01_k».proof.Defs
public import proofs.«01_k».proof.Proof.Gen.MixIdeal.Value
public import proofs.«01_k».proof.Proof.Gen.MixRefIdeal.Run
public import proofs.«01_k».proof.Proof.Gen.MixRefIdeal.Read
public import proofs.«01_k».proof.Proof.Mix.Spec
public import proofs.«01_k».proof.Proof.Mix.Halves
public import Idealize.ShloMosaic.Lib.Claim
public import Idealize.ShloMosaic.Lib.Quiescent

@[expose] public section

set_option maxRecDepth 16384

noncomputable section

namespace Cert.Proof.Mix

open Idealize.ShloMosaic Idealize.ShloMosaic.TcCoe Idealize.SL.Sem

section Kernel

open Cert.MixIdeal Cert.MixIdeal.Gen

/-- The row of the arrays that row `p` of block `t` holds. -/
abbrev row (t : Fin 8) (p : Fin 256) : Fin 2048 := ⟨t.val * 256 + p.val, by omega⟩

/-- The arrays as functions of their indices. -/
def heads (y z : Vec Ideal S2048x1024 .f32) (w : Vec Ideal S1024x1024 .f32) (gs gc : Vec Ideal S1x1024 .f32) : Heads where
  y r l := y (ix2 r l)
  z r l := z (ix2 r l)
  w k l := w (ix2 k l)
  gs l := gs (ix2 0 l)
  gc l := gc (ix2 0 l)

/-- Where each window's block lies at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![t.val, 0] ∧ win0_6.index t = ![t.val, 0] :=
  (by decide +kernel : ∀ t : Fin grid0.N, _)

/-- The blocks hold the rows from `256 · t` on, the whole weight and the norms' weights. -/
structure Blocks (H : Heads) (t : Fin 8) (y z : Vec Ideal S256x1024 .f32) (w : Vec Ideal S1024x1024 .bf16)
    (gs gc : Vec Ideal S1x1024 .f32) : Prop where
  y : ∀ (p : Fin 256) (l : Fin 1024), y (ix2 p l) = H.y (row t p) l
  z : ∀ (p : Fin 256) (l : Fin 1024), z (ix2 p l) = H.z (row t p) l
  w : ∀ (k l : Fin 1024), w (ix2 k l) = H.w k l
  gs : ∀ l : Fin 1024, gs (ix2 0 l) = H.gs l
  gc : ∀ l : Fin 1024, gc (ix2 0 l) = H.gc l

section Payloads

variable {H : Heads} {t : Fin 8} {y z : Vec Ideal S256x1024 .f32} {w : Vec Ideal S1024x1024 .bf16} {gs gc : Vec Ideal S1x1024 .f32}

/-- The Gaussian unit of a block's element. -/
theorem gelu_apply (h : Blocks H t y z w gs gc) (p : Fin 256) (l : Fin 1024) : k0_pay3 y (ix2 p l) = gelu (H.y (row t p) l) := by
  pointwise [k0_pay3]
  rw [h.y]
  rfl

/-- The gate's product of a block's rows. -/
theorem glu_apply (h : Blocks H t y z w gs gc) (p : Fin 256) (l : Fin 1024) : k0_pay4 y w (ix2 p l) = H.glu (row t p) l := by
  pointwise [k0_pay4]
  exact Finset.sum_congr rfl fun k _ => congrArg₂ (· * ·) (gelu_apply h p k) (h.w k l)

/-- The first group of a block's rows. -/
theorem first_apply (h : Blocks H t y z w gs gc) (p : Fin 256) (l : Fin 1024) :
    k0_pay1 (k0_pay5 y w gs) (ix2 p l) = H.first (row t p) l := by
  have e : ∀ x : Fin 1024, k0_pay3 y (ix2 p x) * Ideal.logistic (k0_pay4 y w (ix2 p x)) = H.gated (row t p) x := fun x => by
    rw [gelu_apply h, glu_apply h]; rfl
  pointwise [k0_pay1, k0_pay5]
  rw [e, h.gs]
  simp only [e]
  rfl

/-- The second group of a block's rows. -/
theorem second_apply (h : Blocks H t y z w gs gc) (p : Fin 256) (l : Fin 1024) :
    k0_pay2 z gc (k0_pay6 z) (ix2 p l) = H.second (row t p) l := by
  pointwise [k0_pay2, k0_pay6]
  simp only [h.z, h.gc]
  rfl

end Payloads

variable (m : (ℓ : Loc nD τ sig) → Buf (Elt Ideal) ℓ)

/-- The arrays the program is called with. -/
abbrev argHeads (c : Dev nD) : Heads := heads (m ((c : Thread nD τ).loc main_arg0)) (m ((c : Thread nD τ).loc main_arg1))
  (m ((c : Thread nD τ).loc main_arg2)) (m ((c : Thread nD τ).loc main_arg3)) (m ((c : Thread nD τ).loc main_arg4))

/-- The weight as the call reads it. -/
theorem V_weight (c : Dev nD) : V m c main_v0
    = truncf (F := Ideal) (s := S1024x1024) .bf16 (m ((c : Thread nD τ).loc main_arg2)) bitsLt_bf16_f32 := by
  unfold V
  after_results

/-- A block of the first mixer's rows is the rows from `256 · t` on. -/
theorem block_y (c : Dev nD) (t : Fin cfg0.N) (p : Fin 256) (l : Fin 1024) :
    iblk m c 0 t (ix2 p l) = V m c main_arg0 (ix2 (row t p) l) := by blk_ext [iblk, idx t]

/-- A block of the second mixer's rows is the rows from `256 · t` on. -/
theorem block_z (c : Dev nD) (t : Fin cfg0.N) (p : Fin 256) (l : Fin 1024) :
    iblk m c 1 t (ix2 p l) = V m c main_arg1 (ix2 (row t p) l) := by blk_ext [iblk, idx t]

/-- Every block of the weight is the whole weight. -/
theorem block_w (c : Dev nD) (t : Fin cfg0.N) (k l : Fin 1024) :
    iblk m c 2 t (ix2 k l) = V m c main_v0 (ix2 k l) := by blk_ext [iblk, idx t]

/-- Every block of the first norm's weight is the whole weight. -/
theorem block_gs (c : Dev nD) (t : Fin cfg0.N) (l : Fin 1024) :
    iblk m c 3 t (ix2 0 l) = V m c main_arg3 (ix2 0 l) := by blk_ext [iblk, idx t]

/-- Every block of the second norm's weight is the whole weight. -/
theorem block_gc (c : Dev nD) (t : Fin cfg0.N) (l : Fin 1024) :
    iblk m c 4 t (ix2 0 l) = V m c main_arg4 (ix2 0 l) := by blk_ext [iblk, idx t]

/-- Grid point `t`'s blocks are those of the rows from `256 · t` on. -/
theorem blocks (c : Dev nD) (t : Fin cfg0.N) :
    Blocks (argHeads m c) t (iblk m c 0 t) (iblk m c 1 t) (iblk m c 2 t) (iblk m c 3 t) (iblk m c 4 t) where
  y p l := (block_y m c t p l).trans (congrFun (V_main_arg0 m c) _)
  z p l := (block_z m c t p l).trans (congrFun (V_main_arg1 m c) _)
  w k l := (block_w m c t k l).trans (congrFun (V_weight m c) _)
  gs l := (block_gs m c t l).trans (congrFun (V_main_arg3 m c) _)
  gc l := (block_gc m c t l).trans (congrFun (V_main_arg4 m c) _)

/-- The joined groups, as an array. -/
def joined (H : Heads) : Vec Ideal S2048x2048 .bf16 := fun i => H.both (i 0) (i 1)

/-- The gate's product, as an array. -/
def product (H : Heads) : Vec Ideal S2048x1024 .f32 := fun i => H.glu (i 0) (i 1)

/-- The first result holds the joined groups. -/
theorem final_joined (c : Dev nD) : (dats m 0 c).arrAt 5 cfg0.N = joined (argHeads m c) := by
  refine (dats m 0 c).arrAt_eq_of_covers 5 _ (by decide +kernel) fun t hf y => ?_
  blk_simp
  rw [after0_5]
  frame_out
  idx_vars y
  refine (canon_halves _ _ _ _ _ _).trans ?_
  have e : joined (argHeads m c) (ix2 (row t y0) y1) = joined (argHeads m c) (((View.whole main_v1_0).slice (win0_5.rect t)).emb (ix2 y0 y1)) := by
    refine congrArg _ ?_
    blk_ext [idx t]
  refine Eq.trans ?_ e
  show _ = (argHeads m c).both (row t y0) y1
  unfold Heads.both
  split
  · exact first_apply (blocks m c t) _ _
  · exact second_apply (blocks m c t) _ _

/-- The second result holds the gate's product. -/
theorem final_product (c : Dev nD) : (dats m 0 c).arrAt 6 cfg0.N = product (argHeads m c) := by
  refine (dats m 0 c).arrAt_eq_of_covers 6 _ (by decide +kernel) fun t hf y => ?_
  blk_simp
  rw [after0_6]
  frame_out
  idx_vars y
  rw [glu_apply (blocks m c t)]
  have e : product (argHeads m c) (ix2 (row t y0) y1) = product (argHeads m c) (((View.whole main_v1_1).slice (win0_6.rect t)).emb (ix2 y0 y1)) := by
    refine congrArg _ ?_
    blk_ext [idx t]
  exact e

end Kernel

section Reference

open Cert.MixRefIdeal Cert.MixRefIdeal.Read

variable (y z : Vec Ideal S2048x1024 .f32) (w : Vec Ideal S1024x1024 .f32) (gs gc : Vec Ideal S1x1024 .f32)

/-- The reference's Gaussian unit. -/
theorem ref_gelu (r : Fin 2048) (l : Fin 1024) : val_main_v12 (F := Ideal) y (ix2 r l) = gelu (y (ix2 r l)) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rw [mul_comm (y (ix2 r l) * y (ix2 r l))]
  rfl

/-- The reference's Gaussian unit, where it is computed again for the gate's product. -/
theorem ref_gelu_again (r : Fin 2048) (l : Fin 1024) : val_main_v59 (F := Ideal) y (ix2 r l) = gelu (y (ix2 r l)) := by
  pointwise [val_main_v59, val_main_v58, val_main_v57, val_main_v56, val_main_v55, val_main_v54, val_main_v53, val_main_v52, val_main_v51,
    val_main_v50, val_main_v49, val_main_v48, val_main_v47, val_main_cst_11, val_main_cst_12, val_main_cst_13, val_main_cst_14]
  rw [mul_comm (y (ix2 r l) * y (ix2 r l))]
  rfl

/-- The reference's product in the gate. -/
theorem ref_glu (r : Fin 2048) (l : Fin 1024) :
    val_main_v13 (F := Ideal) y w (ix2 r l) = (heads y z w gs gc).glu r l := by
  pointwise [val_main_v13]
  exact Finset.sum_congr rfl fun k _ => congrArg (· * _) (ref_gelu y r k)

/-- The reference's second result is the gate's product. -/
theorem ref_product : val_main_v60 (F := Ideal) y w = product (heads y z w gs gc) := by
  funext i
  idx_vars i
  pointwise [val_main_v60]
  exact Finset.sum_congr rfl fun k _ => congrArg (· * _) (ref_gelu_again y i0 k)

/-- The reference's gated rows. -/
theorem ref_gated (r : Fin 2048) (l : Fin 1024) :
    val_main_v20 (F := Ideal) y w (ix2 r l) = (heads y z w gs gc).gated r l := by
  pointwise [val_main_v20, val_main_v19, val_main_v18, val_main_v17, val_main_v16, val_main_v15, val_main_v14, val_main_cst_3, val_main_cst_4]
  rw [ref_gelu, ref_glu y z w gs gc]
  rfl

/-- The reference's first group. -/
theorem ref_first (r : Fin 2048) (l : Fin 1024) :
    val_main_v32 (F := Ideal) y w gs (ix2 r l) = (heads y z w gs gc).first r l := by
  pointwise [val_main_v32, val_main_v31, val_main_v30, val_main_v29, val_main_v28, val_main_v27, val_main_v26, val_main_v25, val_main_v24,
    val_main_v23, val_main_v22, val_main_v21, val_main_cst_5, val_main_cst_6, val_main_cst_7]
  simp only [ref_gated y z w gs gc]
  rfl

/-- The reference's second group. -/
theorem ref_second (r : Fin 2048) (l : Fin 1024) :
    val_main_v44 (F := Ideal) z gc (ix2 r l) = (heads y z w gs gc).second r l := by
  pointwise [val_main_v44, val_main_v43, val_main_v42, val_main_v41, val_main_v40, val_main_v39, val_main_v38, val_main_v37, val_main_v36,
    val_main_v35, val_main_v34, val_main_v33, val_main_cst_8, val_main_cst_9, val_main_cst_10]
  rfl

/-- The reference's first result is the joined groups. -/
theorem ref_joined : val_main_v46 (F := Ideal) y z w gs gc = joined (heads y z w gs gc) := by
  funext i
  idx_vars i
  pointwise [val_main_v46]
  unfold val_main_v45
  refine (concatenate_halves _ _ _ i0 i1).trans ?_
  show _ = (heads y z w gs gc).both i0 i1
  unfold Heads.both
  split
  · exact ref_first y z w gs gc _ _
  · exact ref_second y z w gs gc _ _

/-- The reference runs to the end with its arguments unchanged and every counter at zero. -/
theorem reference_frame : Cert.quiescent_MixRefIdeal := fun m ρ _ =>
  (θ_run Cert.MixRefIdeal.defs _ _).mono
    (fun r h => ⟨fun c => (h c).2.2, Idealize.ShloMosaic.sem_eq_zero_of_no_sems (by decide) r.2⟩)
    (Cert.MixRefIdeal.Value.run (F := Ideal) m ρ)

/-- The kernel's results are the reference's, element by element. -/
theorem algebraic : Cert.algebraic_MixIdeal_MixRefIdeal := by
  intro m g m' g' _ hagree
  refine ⟨fun c => (Cert.MixIdeal.Gen.dats m 0 c).arrAt 5 Cert.MixIdeal.cfg0.N,
    fun c => (Cert.MixIdeal.Gen.dats m 0 c).arrAt 6 Cert.MixIdeal.cfg0.N,
    Cert.MixIdeal.Value.run_blocks (F := Ideal) m g,
    (θ_run Cert.MixRefIdeal.defs _ _).mono (fun r h c => ⟨?_, ?_, (h c).2.2⟩)
      (Cert.MixRefIdeal.Value.run (F := Ideal) m' g')⟩
  · refine ((h c).1.trans ((val_main_v46_eq _ _).trans (ref_joined _ _ _ _ _))).trans ?_
    rw [(hagree c).1, (hagree c).2.1, (hagree c).2.2.1, (hagree c).2.2.2.1, (hagree c).2.2.2.2]
    exact (final_joined m c).symm
  · refine ((h c).2.1.trans ((val_main_v60_eq _ _).trans (ref_product _ (m' (c.tc.loc main_arg1)) _
      (m' (c.tc.loc main_arg3)) (m' (c.tc.loc main_arg4))))).trans ?_
    rw [(hagree c).1, (hagree c).2.1, (hagree c).2.2.1, (hagree c).2.2.2.1, (hagree c).2.2.2.2]
    exact (final_product m c).symm

end Reference

end Cert.Proof.Mix

end
-- ==== Proof.Optim.InputGrad.lean ====
/-
  The gradient of the step's input, the sum of the carried gradient and the product's: the kernel's run and the reference's end
  with equal results.
-/
module

public import proofs.«01_k».proof.Defs
public import proofs.«01_k».proof.Proof.Gen.DxResIdeal.Value
public import proofs.«01_k».proof.Proof.Gen.DxResRefIdeal.Run
public import proofs.«01_k».proof.Proof.Gen.DxResRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.DxRes

open Idealize.ShloMosaic Idealize.ShloMosaic.TcCoe Idealize.SL.Sem

section Kernel

open Cert.DxResIdeal Cert.DxResIdeal.Gen

/-- The carried gradient `b`, scaled, and the product's `a`. -/
def total (a b : Vec Ideal S2048x2048 .f32) : Vec Ideal S2048x2048 .f32 :=
  fun i => Ideal.ofBits FTy.f32 0x3FD744FD#32 * b i + a i

/-- The row of the array that row `p` of block `t` holds. -/
abbrev row (t : Fin 8) (p : Fin 256) : Fin 2048 := ⟨t.val * 256 + p.val, by omega⟩

/-- Where each window's block lies. -/
theorem idx : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ)

/-- A block of the product. -/
theorem block_a (c : Dev nD) (t : Fin cfg0.N) (p : Fin 256) (l : Fin 2048) :
    iblk m c 0 t (ix2 p l) = V m c main_arg0 (ix2 (row t p) l) := by blk_ext [iblk, idx t]

/-- A block of the carried gradient. -/
theorem block_b (c : Dev nD) (t : Fin cfg0.N) (p : Fin 256) (l : Fin 2048) :
    iblk m c 1 t (ix2 p l) = V m c main_arg1 (ix2 (row t p) l) := by blk_ext [iblk, idx t]

/-- A block of the result, from its blocks of the arguments. -/
theorem out_apply (a b : Vec Ideal S256x2048 .f32) (p : Fin 256) (l : Fin 2048) :
    (out0_2 a b (ix2 p l) : EReal) = Ideal.ofBits FTy.f32 0x3FD744FD#32 * b (ix2 p l) + a (ix2 p l) := by
  frame_out
  pointwise [k0_pay1]

/-- The result array holds the sum. -/
theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2]
  idx_vars y
  refine (out_apply _ _ y0 y1).trans ?_
  rw [block_a, block_b, V_main_arg0, V_main_arg1]
  refine congrArg (total (m ((c : Thread nD τ).loc main_arg0)) (m ((c : Thread nD τ).loc main_arg1))) (a₁ := ix2 (row t y0) y1) ?_
  blk_ext [idx t]

end Kernel

section Reference

open Cert.DxResRefIdeal.Read

/-- The reference's value is the sum. -/
theorem ref_eq (a b : Vec Ideal Cert.DxResIdeal.S2048x2048 .f32) : val_main_v2 (F := Ideal) a b = total a b := by
  funext i
  idx_vars i
  pointwise [val_main_v2, val_main_v1, val_main_v0, val_main_cst]
  rfl

/-- The reference runs to the end with its arguments unchanged and every counter at zero. -/
theorem reference_frame : Cert.quiescent_DxResRefIdeal := fun m ρ _ =>
  (θ_run Cert.DxResRefIdeal.defs _ _).mono
    (fun r h => ⟨fun c => (h c).2, Idealize.ShloMosaic.sem_eq_zero_of_no_sems (by decide) r.2⟩)
    (Cert.DxResRefIdeal.Value.run (F := Ideal) m ρ)

/-- The kernel's result is the reference's, element by element. -/
theorem algebraic : Cert.algebraic_DxResIdeal_DxResRefIdeal := by
  intro m g m' g' _ hagree
  refine ⟨fun c => (Cert.DxResIdeal.Gen.dats m 0 c).arrAt 2 Cert.DxResIdeal.cfg0.N,
    Cert.DxResIdeal.Value.run_blocks (F := Ideal) m g,
    (θ_run Cert.DxResRefIdeal.defs _ _).mono (fun r h c => ⟨?_, (h c).2⟩)
      (Cert.DxResRefIdeal.Value.run (F := Ideal) m' g')⟩
  refine ((h c).1.trans ((val_main_v2_eq _ _).trans (ref_eq _ _))).trans ?_
  rw [(hagree c).1, (hagree c).2]
  exact (final m c).symm

end Reference

end Cert.Proof.DxRes

end
-- ==== Proof.Optim.PairSum.lean ====
/-
  The sum of the two cores' gradients: the kernel's run and the reference's end with equal results.
-/
module

public import proofs.«01_k».proof.Defs
public import proofs.«01_k».proof.Proof.Gen.PairSumIdeal.Value
public import proofs.«01_k».proof.Proof.Gen.PairSumRefIdeal.Run
public import proofs.«01_k».proof.Proof.Gen.PairSumRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.PairSum

open Idealize.ShloMosaic Idealize.ShloMosaic.TcCoe Idealize.SL.Sem

section Kernel

open Cert.PairSumIdeal Cert.PairSumIdeal.Gen

/-- The part of the gradient `a` that is the first core's of chip `q`. -/
abbrev core (q : Fin 4) : Fin 8 := ⟨2 * q.val, by omega⟩

/-- The first core's parts of the gradient `a`, and the other core's gradient `b` of the same parts. -/
def total (a : Vec Ideal S8x512x2048 .bf16) (b : Vec Ideal S4x512x2048 .bf16) : Vec Ideal S4x512x2048 .bf16 :=
  fun i => (a (ix3 (core (i 0)) (i 1) (i 2)) : EReal) + b (ix3 (i 0) (i 1) (i 2))

/-- The first core's half of a block, as the body loads it. -/
theorem half_apply (x : Vec Ideal S1x2x512x2048 .bf16)
    (h : ∀ a, ![0, 0, 0, 0] a + S1x1x512x2048.size a ≤ S1x2x512x2048.size a) (p : Fin 512) (l : Fin 2048) :
    View.ld x (Rect.unit (s := S1x2x512x2048) ![0, 0, 0, 0] S1x1x512x2048.size h) (ix4 0 0 p l) = x (ix4 0 0 p l) := by
  refine View.ld_unit_apply_of x _ _ h _ _ fun a => ?_
  fin_cases a
  · rfl
  · rfl
  · show p.val = 0 + p.val
    omega
  · show l.val = 0 + l.val
    omega

/-- The sum of two blocks. -/
theorem pay_apply (x : Vec Ideal S1x1x512x2048 .bf16) (y : Vec Ideal S1x512x2048 .bf16) (p : Fin 512) (l : Fin 2048) :
    (k0_pay1 x y (ix3 0 p l) : EReal) = x (ix4 0 0 p l) + y (ix3 0 p l) := by
  pointwise [k0_pay1]

/-- A block of the result, from its blocks of the arguments. -/
theorem out_apply (x : Vec Ideal S1x2x512x2048 .bf16) (y : Vec Ideal S1x512x2048 .bf16) (p : Fin 512) (l : Fin 2048) :
    (out0_2 x y (ix3 0 p l) : EReal) = x (ix4 0 0 p l) + y (ix3 0 p l) := by
  frame_out
  refine (pay_apply _ _ p l).trans ?_
  rw [half_apply]

/-- Where each window's block lies. -/
theorem idx : ∀ t : Fin cfg0.N, win0_0.index t = ![t.val, 0, 0, 0] ∧ win0_1.index t = ![t.val, 0, 0] ∧ win0_2.index t = ![t.val, 0, 0] :=
  (by decide +kernel : ∀ t : Fin grid0.N, _)

variable (m : (ℓ : Loc nD τ sig) → Buf (Elt Ideal) ℓ)

/-- The gradient as the call reads it, one pair of parts for each chip. -/
theorem V_pair (c : Dev nD) : V m c main_v0 = shapeCast S4x2x512x2048 (m ((c : Thread nD τ).loc main_arg0)) shapeCasts_S8x512x2048_S4x2x512x2048 := by
  unfold V
  after_results
  rfl

/-- The first of a pair. -/
theorem V_pair_apply (c : Dev nD) (q : Fin 4) (p : Fin 512) (l : Fin 2048) :
    V m c main_v0 (ix4 q 0 p l) = m ((c : Thread nD τ).loc main_arg0) (ix3 (core q) p l) := by
  rw [V_pair]
  refine shapeCast_apply _ _ _ _ ?_
  refine (Shape.rowMajor_val_three (d := ![8, 512, 2048]) _).trans (Eq.trans ?_ (Shape.rowMajor_val_four (d := ![4, 2, 512, 2048]) _).symm)
  show (2 * q.val * 512 + p.val) * 2048 + l.val = (((q.val * 2 + 0) * 512 + p.val) * 2048 + l.val)
  omega

/-- A block of the gradient. -/
theorem block_a (c : Dev nD) (t : Fin cfg0.N) (p : Fin 512) (l : Fin 2048) :
    iblk m c 0 t (ix4 0 0 p l) = V m c main_v0 (ix4 t 0 p l) := by blk_ext [iblk, idx t]

/-- A block of the other core's. -/
theorem block_b (c : Dev nD) (t : Fin cfg0.N) (p : Fin 512) (l : Fin 2048) :
    iblk m c 1 t (ix3 0 p l) = V m c main_arg1 (ix3 t p l) := by blk_ext [iblk, idx t]

/-- The result array holds the sum. -/
theorem final (c : Dev nD) : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2]
  idx_vars y
  obtain rfl := Fin.eq_zero y0
  refine (out_apply _ _ y1 y2).trans ?_
  rw [block_a, block_b, V_main_arg1]
  refine (congrArg₂ (fun a b : EReal => a + b) (V_pair_apply m c t y1 y2) rfl).trans ?_
  refine congrArg (total (m ((c : Thread nD τ).loc main_arg0)) (m ((c : Thread nD τ).loc main_arg1))) (a₁ := ix3 t y1 y2) ?_
  blk_ext [idx t]

end Kernel

section Reference

open Cert.PairSumRefIdeal.Read

/-- The reference's value is the sum. -/
theorem ref_eq (a : Vec Ideal Cert.PairSumIdeal.S8x512x2048 .bf16) (b : Vec Ideal Cert.PairSumIdeal.S4x512x2048 .bf16) :
    val_main_v4 (F := Ideal) a b = total a b := by
  funext i
  idx_vars i
  have e : val_main_v0 (F := Ideal) a (ix3 i0 i1 i2) = a (ix3 (core i0) i1 i2) := by
    unfold val_main_v0 Host.slice
    refine congrArg a (funext fun k => Fin.ext ?_)
    fin_cases k <;> simp
  pointwise [val_main_v4, val_main_v3, val_main_v2, val_main_v1]
  rw [e]
  rfl

/-- The reference runs to the end with its arguments unchanged and every counter at zero. -/
theorem reference_frame : Cert.quiescent_PairSumRefIdeal := fun m ρ _ =>
  (θ_run Cert.PairSumRefIdeal.defs _ _).mono
    (fun r h => ⟨fun c => (h c).2, Idealize.ShloMosaic.sem_eq_zero_of_no_sems (by decide) r.2⟩)
    (Cert.PairSumRefIdeal.Value.run (F := Ideal) m ρ)

/-- The kernel's result is the reference's, element by element. -/
theorem algebraic : Cert.algebraic_PairSumIdeal_PairSumRefIdeal := by
  intro m g m' g' _ hagree
  refine ⟨fun c => (Cert.PairSumIdeal.Gen.dats m 0 c).arrAt 2 Cert.PairSumIdeal.cfg0.N,
    Cert.PairSumIdeal.Value.run_blocks (F := Ideal) m g,
    (θ_run Cert.PairSumRefIdeal.defs _ _).mono (fun r h c => ⟨?_, (h c).2⟩)
      (Cert.PairSumRefIdeal.Value.run (F := Ideal) m' g')⟩
  refine ((h c).1.trans ((val_main_v4_eq _ _).trans (ref_eq _ _))).trans ?_
  rw [(hagree c).1, (hagree c).2]
  exact (final m c).symm

end Reference

end Cert.Proof.PairSum

end
-- ==== Proof.Optim.Reduce.lean ====
/-
  The sum of the four parts of a gradient: the kernel's run and the reference's end with equal results.
-/
module

public import proofs.«01_k».proof.Defs
public import proofs.«01_k».proof.Proof.Gen.ReduceIdeal.Value
public import proofs.«01_k».proof.Proof.Gen.ReduceRefIdeal.Run
public import proofs.«01_k».proof.Proof.Gen.ReduceRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Reduce

open Idealize.ShloMosaic Idealize.ShloMosaic.TcCoe Idealize.SL.Sem

section Kernel

open Cert.ReduceIdeal Cert.ReduceIdeal.Gen

/-- The sum over the parts of each layer. -/
def total (a : Vec Ideal S4x4x512x2048 .bf16) : Vec Ideal S4x512x2048 .f32 :=
  fun i => ∑ k : Fin 4, a (ix4 (i 0) k (i 1) (i 2))

/-- The layer that block `t` is of. -/
abbrev layer (t : Fin 8) : Fin 4 := ⟨t.val / 2, by omega⟩

/-- The row of the layer that row `p` of block `t` holds. -/
abbrev row (t : Fin 8) (p : Fin 256) : Fin 512 := ⟨t.val % 2 * 256 + p.val, by omega⟩

/-- One part of a block, as the body loads it. -/
theorem part_apply (x : Vec Ideal S1x4x256x2048 .bf16) (k : Fin 4)
    (h : ∀ a, ![0, k.val, 0, 0] a + S1x1x256x2048.size a ≤ S1x4x256x2048.size a) (p : Fin 256) (l : Fin 2048) :
    View.ld x (Rect.unit (s := S1x4x256x2048) ![0, k.val, 0, 0] S1x1x256x2048.size h) (ix4 0 0 p l) = x (ix4 0 k p l) := by
  refine View.ld_unit_apply_of x _ _ h _ _ fun a => ?_
  fin_cases a
  · rfl
  · rfl
  · show p.val = 0 + p.val
    omega
  · show l.val = 0 + l.val
    omega

/-- A block of the result is the sum of the parts of its block of the argument. -/
theorem pay_apply (v0 v1 v2 v3 : Vec Ideal S1x1x256x2048 .bf16) (p : Fin 256) (l : Fin 2048) :
    (k0_pay1 v0 v1 v2 v3 (ix3 0 p l) : EReal) = v0 (ix4 0 0 p l) + v1 (ix4 0 0 p l) + v2 (ix4 0 0 p l) + v3 (ix4 0 0 p l) := by
  pointwise [k0_pay1]

/-- Where each window's block lies. -/
theorem idx : ∀ t : Fin cfg0.N, win0_0.index t = ![t.val / 2, 0, t.val % 2, 0] ∧ win0_1.index t = ![t.val / 2, t.val % 2, 0] :=
  (by decide +kernel : ∀ t : Fin grid0.N, _)

variable (m : (ℓ : Loc nD τ sig) → Buf (Elt Ideal) ℓ)

/-- A block of the argument. -/
theorem block (c : Dev nD) (t : Fin cfg0.N) (k : Fin 4) (p : Fin 256) (l : Fin 2048) :
    iblk m c 0 t (ix4 0 k p l) = V m c main_arg0 (ix4 (layer t) k (row t p) l) := by blk_ext [iblk, idx t]

/-- A block of the result, from its block of the argument. -/
theorem out_apply (x : Vec Ideal S1x4x256x2048 .bf16) (p : Fin 256) (l : Fin 2048) :
    (out0_1 x (ix3 0 p l) : EReal) = ∑ k : Fin 4, x (ix4 0 k p l) := by
  frame_out
  refine (pay_apply _ _ _ _ p l).trans ?_
  rw [Fin.sum_univ_four]
  exact congrArg₂ (· + ·) (congrArg₂ (· + ·) (congrArg₂ (· + ·) (part_apply x 0 _ p l) (part_apply x 1 _ p l))
    (part_apply x 2 _ p l)) (part_apply x 3 _ p l)

/-- The result array holds the sum. -/
theorem final (c : Dev nD) : (dats m 0 c).arrAt 1 cfg0.N = total (m ((c : Thread nD τ).loc main_arg0)) := by
  refine (dats m 0 c).arrAt_eq_of_covers 1 _ (by decide +kernel) fun t hf y => ?_
  blk_simp
  rw [after0_1]
  idx_vars y
  obtain rfl := Fin.eq_zero y0
  refine (out_apply _ y1 y2).trans ?_
  have e : total (m ((c : Thread nD τ).loc main_arg0)) (ix3 (layer t) (row t y1) y2)
      = total (m ((c : Thread nD τ).loc main_arg0)) (((View.whole main_v0).slice (win0_1.rect t)).emb (ix3 0 y1 y2)) := by
    refine congrArg _ ?_
    blk_ext [idx t]
  refine Eq.trans ?_ e
  exact Finset.sum_congr rfl fun k _ => (block m c t k y1 y2).trans (congrFun (V_main_arg0 m c) _)

end Kernel

section Reference

open Cert.ReduceRefIdeal.Read

/-- The reference's value is the sum. -/
theorem ref_eq (a : Vec Ideal Cert.ReduceIdeal.S4x4x512x2048 .bf16) : val_main_v1 (F := Ideal) a = total a := by
  funext i
  idx_vars i
  pointwise [val_main_v1, val_main_v0, val_main_cst]
  rfl

/-- The reference runs to the end with its arguments unchanged and every counter at zero. -/
theorem reference_frame : Cert.quiescent_ReduceRefIdeal := fun m ρ _ =>
  (θ_run Cert.ReduceRefIdeal.defs _ _).mono
    (fun r h => ⟨fun c => (h c).2, Idealize.ShloMosaic.sem_eq_zero_of_no_sems (by decide) r.2⟩)
    (Cert.ReduceRefIdeal.Value.run (F := Ideal) m ρ)

/-- The kernel's result is the reference's, element by element. -/
theorem algebraic : Cert.algebraic_ReduceIdeal_ReduceRefIdeal := by
  intro m g m' g' _ hagree
  refine ⟨fun c => (Cert.ReduceIdeal.Gen.dats m 0 c).arrAt 1 Cert.ReduceIdeal.cfg0.N,
    Cert.ReduceIdeal.Value.run_blocks (F := Ideal) m g,
    (θ_run Cert.ReduceRefIdeal.defs _ _).mono (fun r h c => ⟨?_, (h c).2⟩)
      (Cert.ReduceRefIdeal.Value.run (F := Ideal) m' g')⟩
  refine ((h c).1.trans ((val_main_v1_eq _).trans (ref_eq _))).trans ?_
  rw [hagree c]
  exact (final m c).symm

end Reference

end Cert.Proof.Reduce

end
-- ==== Proof.Optim.State.lean ====
/-
  One step of the optimiser as functions of a layer, a row and a column.
-/
module

public import Idealize.ShloMosaic.Lib.Pointwise

@[expose] public section

noncomputable section

namespace Cert.Proof.Optim

open Idealize.ShloMosaic

/-- The first moment after a gradient `g`, from the moment `m` before it. -/
def first (g m : EReal) : EReal := Ideal.ofBits FTy.f32 0x3F666666#32 * m + Ideal.ofBits FTy.f32 0x3DCCCCCD#32 * g

/-- The second moment after a gradient `g`, from the moment `v` before it. -/
def second (g v : EReal) : EReal := Ideal.ofBits FTy.f32 0x3F7FBE77#32 * v + Ideal.ofBits FTy.f32 0x3A83126F#32 * (g * g)

/-- The change of a weight `w`. -/
def delta (g w m v : EReal) : EReal := Ideal.ofBits FTy.f32 0xBA83126F#32
  * (Ideal.div (Ideal.div (first g m) (Ideal.ofBits FTy.f32 0x3F26BD02#32))
      (Ideal.sqrt (Ideal.div (second g v) (Ideal.ofBits FTy.f32 0x3C231ACC#32)) + Ideal.ofBits FTy.f32 0x322BCC77#32)
    + Ideal.ofBits FTy.f32 0x3C23D70A#32 * w)

/-- The gradient, the weight and its two moments, by layer, row and column. -/
structure State (R C : ℕ) where
  g : Fin 4 → Fin R → Fin C → EReal
  w : Fin 4 → Fin R → Fin C → EReal
  m : Fin 4 → Fin R → Fin C → EReal
  v : Fin 4 → Fin R → Fin C → EReal

namespace State

variable {R C : ℕ} (S : State R C) (n : Fin 4) (r : Fin R) (l : Fin C)

/-- The first moment after the step. -/
def m' : EReal := first (S.g n r l) (S.m n r l)

/-- The second moment after the step. -/
def v' : EReal := second (S.g n r l) (S.v n r l)

/-- The change of the weight. -/
def d : EReal := delta (S.g n r l) (S.w n r l) (S.m n r l) (S.v n r l)

end State

end Cert.Proof.Optim

end
-- ==== Proof.Optim.Step.lean ====
/-
  One step of the optimiser, on the sum of the parts of a gradient: the kernel's run and the reference's end with equal results.
-/
module

public import proofs.«01_k».proof.Defs
public import proofs.«01_k».proof.Proof.Optim.State
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Adamw

open Idealize.ShloMosaic Idealize.ShloMosaic.TcCoe Idealize.SL.Sem Cert.Proof.Optim

section Kernel

open Cert.AdamwIdeal Cert.AdamwIdeal.Gen

/-- The layer that block `t` is of. -/
abbrev layer (t : Fin 16) : Fin 4 := ⟨t.val / 4, by omega⟩

/-- The row of the layer that row `p` of block `t` holds. -/
abbrev row (t : Fin 16) (p : Fin 176) : Fin 704 := ⟨t.val % 4 * 176 + p.val, by omega⟩

/-- One part of a block of the gradient, as the body loads it. -/
theorem part_apply (x : Vec Ideal S1x4x176x2048 .bf16) (k : Fin 4)
    (h : ∀ a, ![0, k.val, 0, 0] a + S1x1x176x2048.size a ≤ S1x4x176x2048.size a) (p : Fin 176) (l : Fin 2048) :
    View.ld x (Rect.unit (s := S1x4x176x2048) ![0, k.val, 0, 0] S1x1x176x2048.size h) (ix4 0 0 p l) = x (ix4 0 k p l) := by
  refine View.ld_unit_apply_of x _ _ h _ _ fun a => ?_
  fin_cases a
  · rfl
  · rfl
  · show p.val = 0 + p.val
    omega
  · show l.val = 0 + l.val
    omega

/-- The blocks hold the rows of block `t`. -/
structure Blocks (S : State 704 2048) (t : Fin 16) (a : Vec Ideal S1x4x176x2048 .bf16) (w m v : Vec Ideal S1x176x2048 .f32) : Prop where
  a : ∀ (p : Fin 176) (l : Fin 2048), (∑ k : Fin 4, (a (ix4 0 k p l) : EReal)) = S.g (layer t) (row t p) l
  w : ∀ (p : Fin 176) (l : Fin 2048), w (ix3 0 p l) = S.w (layer t) (row t p) l
  m : ∀ (p : Fin 176) (l : Fin 2048), m (ix3 0 p l) = S.m (layer t) (row t p) l
  v : ∀ (p : Fin 176) (l : Fin 2048), v (ix3 0 p l) = S.v (layer t) (row t p) l

section Points

variable {S : State 704 2048} {t : Fin 16} {a : Vec Ideal S1x4x176x2048 .bf16} {w m v : Vec Ideal S1x176x2048 .f32}

/-- The sum of four parts. -/
theorem sum_apply (v0 v1 v2 v3 : Vec Ideal S1x1x176x2048 .bf16) (p : Fin 176) (l : Fin 2048) :
    (k0_pay6 v0 v1 v2 v3 (ix2 p l) : EReal) = v0 (ix4 0 0 p l) + v1 (ix4 0 0 p l) + v2 (ix4 0 0 p l) + v3 (ix4 0 0 p l) := by
  pointwise [k0_pay6]

/-- A block's element of the gradient. -/
theorem g_apply (h : Blocks S t a w m v) (p : Fin 176) (l : Fin 2048) :
    (k0_pay6 (View.ld a r0_0) (View.ld a r0_1) (View.ld a r0_2) (View.ld a r0_3) (ix2 p l) : EReal) = S.g (layer t) (row t p) l := by
  refine (sum_apply _ _ _ _ p l).trans ?_
  refine Eq.trans ?_ (h.a p l)
  rw [Fin.sum_univ_four]
  exact congrArg₂ (· + ·) (congrArg₂ (· + ·) (congrArg₂ (· + ·) (part_apply a 0 _ p l) (part_apply a 1 _ p l)) (part_apply a 2 _ p l))
    (part_apply a 3 _ p l)

/-- A whole block, as the body loads it. -/
theorem whole_eq (x : Vec Ideal S1x176x2048 .f32) : View.ld x r0_4 = x := View.ld_unit_zero (by decide) _ x

/-- A block's element of the first moment. -/
theorem m_apply (h : Blocks S t a w m v) (p : Fin 176) (l : Fin 2048) :
    (k0_pay11 a w m v (ix2 p l) : EReal) = S.m' (layer t) (row t p) l := by
  unfold k0_pay11
  rw [whole_eq]
  pointwise [k0_pay8]
  rw [g_apply h, h.m]
  rfl

/-- A block's element of the second moment. -/
theorem v_apply (h : Blocks S t a w m v) (p : Fin 176) (l : Fin 2048) :
    (k0_pay1 (k0_pay12 a w m v) (k0_pay13 a w m v) (Ideal.ofBits FTy.f32 0x3A83126F#32) (ix2 p l) : EReal) = S.v' (layer t) (row t p) l := by
  unfold k0_pay12 k0_pay13
  rw [whole_eq]
  pointwise [k0_pay1, k0_pay9, k0_pay10]
  rw [g_apply h, h.v]
  rfl

/-- The first result's block. -/
theorem out_g (h : Blocks S t a w m v) (p : Fin 176) (l : Fin 2048) : (out0_4 a w m v (ix3 0 p l) : EReal) = S.g (layer t) (row t p) l := by
  frame_out
  pointwise [k0_pay2]
  exact g_apply h p l

/-- The second result's block. -/
theorem out_d (h : Blocks S t a w m v) (p : Fin 176) (l : Fin 2048) : (out0_5 a w m v (ix3 0 p l) : EReal) = S.d (layer t) (row t p) l := by
  frame_out
  pointwise [k0_pay3, k0_pay7]
  rw [m_apply h, v_apply h, h.w]
  rfl

/-- The third result's block. -/
theorem out_m (h : Blocks S t a w m v) (p : Fin 176) (l : Fin 2048) : (out0_6 a w m v (ix3 0 p l) : EReal) = S.m' (layer t) (row t p) l := by
  frame_out
  pointwise [k0_pay4]
  exact m_apply h p l

/-- The fourth result's block. -/
theorem out_v (h : Blocks S t a w m v) (p : Fin 176) (l : Fin 2048) : (out0_7 a w m v (ix3 0 p l) : EReal) = S.v' (layer t) (row t p) l := by
  frame_out
  pointwise [k0_pay5]
  exact v_apply h p l

end Points

/-- The arrays as functions of their indices. -/
def state (a : Vec Ideal S4x4x704x2048 .bf16) (w m v : Vec Ideal S4x704x2048 .f32) : State 704 2048 where
  g n r l := ∑ k : Fin 4, a (ix4 n k r l)
  w n r l := w (ix3 n r l)
  m n r l := m (ix3 n r l)
  v n r l := v (ix3 n r l)

/-- Where each window's block lies. -/
theorem idx : ∀ t : Fin cfg0.N, win0_0.index t = ![t.val / 4, 0, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

variable (m : (ℓ : Loc nD τ sig) → Buf (Elt Ideal) ℓ)

/-- The arrays the program is called with. -/
abbrev argState (c : Dev nD) : State 704 2048 := state (m ((c : Thread nD τ).loc main_arg0)) (m ((c : Thread nD τ).loc main_arg1))
  (m ((c : Thread nD τ).loc main_arg2)) (m ((c : Thread nD τ).loc main_arg3))

/-- A block of the parts. -/
theorem block_a (c : Dev nD) (t : Fin cfg0.N) (k : Fin 4) (p : Fin 176) (l : Fin 2048) :
    iblk m c 0 t (ix4 0 k p l) = V m c main_arg0 (ix4 (layer t) k (row t p) l) := by blk_ext [iblk, idx t]

/-- A block of the weight. -/
theorem block_w (c : Dev nD) (t : Fin cfg0.N) (p : Fin 176) (l : Fin 2048) :
    iblk m c 1 t (ix3 0 p l) = V m c main_arg1 (ix3 (layer t) (row t p) l) := by blk_ext [iblk, idx t]

/-- A block of the first moment. -/
theorem block_m (c : Dev nD) (t : Fin cfg0.N) (p : Fin 176) (l : Fin 2048) :
    iblk m c 2 t (ix3 0 p l) = V m c main_arg2 (ix3 (layer t) (row t p) l) := by blk_ext [iblk, idx t]

/-- A block of the second moment. -/
theorem block_v (c : Dev nD) (t : Fin cfg0.N) (p : Fin 176) (l : Fin 2048) :
    iblk m c 3 t (ix3 0 p l) = V m c main_arg3 (ix3 (layer t) (row t p) l) := by blk_ext [iblk, idx t]

/-- Grid point `t`'s blocks are those of block `t`'s rows. -/
theorem blocks (c : Dev nD) (t : Fin cfg0.N) :
    Blocks (argState m c) t (iblk m c 0 t) (iblk m c 1 t) (iblk m c 2 t) (iblk m c 3 t) where
  a p l := congrArg (fun f : Fin 4 → EReal => ∑ k, f k) (funext fun k => (block_a m c t k p l).trans (congrFun (V_main_arg0 m c) _))
  w p l := (block_w m c t p l).trans (congrFun (V_main_arg1 m c) _)
  m p l := (block_m m c t p l).trans (congrFun (V_main_arg2 m c) _)
  v p l := (block_v m c t p l).trans (congrFun (V_main_arg3 m c) _)

/-- The results as arrays. -/
def arrG (S : State 704 2048) : Vec Ideal S4x704x2048 .f32 := fun i => S.g (i 0) (i 1) (i 2)
def arrD (S : State 704 2048) : Vec Ideal S4x704x2048 .f32 := fun i => S.d (i 0) (i 1) (i 2)
def arrM (S : State 704 2048) : Vec Ideal S4x704x2048 .f32 := fun i => S.m' (i 0) (i 1) (i 2)
def arrV (S : State 704 2048) : Vec Ideal S4x704x2048 .f32 := fun i => S.v' (i 0) (i 1) (i 2)

/-- The first result holds the gradient. -/
theorem final_g (c : Dev nD) : (dats m 0 c).arrAt 4 cfg0.N = arrG (argState m c) := by
  refine (dats m 0 c).arrAt_eq_of_covers 4 _ (by decide +kernel) fun t hf y => ?_
  blk_simp
  rw [after0_4]
  idx_vars y
  obtain rfl := Fin.eq_zero y0
  refine (out_g (blocks m c t) y1 y2).trans ?_
  refine congrArg (arrG (argState m c)) (a₁ := ix3 (layer t) (row t y1) y2) ?_
  blk_ext [idx t]

/-- The second holds the change of the weight. -/
theorem final_d (c : Dev nD) : (dats m 0 c).arrAt 5 cfg0.N = arrD (argState m c) := by
  refine (dats m 0 c).arrAt_eq_of_covers 5 _ (by decide +kernel) fun t hf y => ?_
  blk_simp
  rw [after0_5]
  idx_vars y
  obtain rfl := Fin.eq_zero y0
  refine (out_d (blocks m c t) y1 y2).trans ?_
  refine congrArg (arrD (argState m c)) (a₁ := ix3 (layer t) (row t y1) y2) ?_
  blk_ext [idx t]

/-- The third holds the first moment. -/
theorem final_m (c : Dev nD) : (dats m 0 c).arrAt 6 cfg0.N = arrM (argState m c) := by
  refine (dats m 0 c).arrAt_eq_of_covers 6 _ (by decide +kernel) fun t hf y => ?_
  blk_simp
  rw [after0_6]
  idx_vars y
  obtain rfl := Fin.eq_zero y0
  refine (out_m (blocks m c t) y1 y2).trans ?_
  refine congrArg (arrM (argState m c)) (a₁ := ix3 (layer t) (row t y1) y2) ?_
  blk_ext [idx t]

/-- The fourth holds the second moment. -/
theorem final_v (c : Dev nD) : (dats m 0 c).arrAt 7 cfg0.N = arrV (argState m c) := by
  refine (dats m 0 c).arrAt_eq_of_covers 7 _ (by decide +kernel) fun t hf y => ?_
  blk_simp
  rw [after0_7]
  idx_vars y
  obtain rfl := Fin.eq_zero y0
  refine (out_v (blocks m c t) y1 y2).trans ?_
  refine congrArg (arrV (argState m c)) (a₁ := ix3 (layer t) (row t y1) y2) ?_
  blk_ext [idx t]

end Kernel

section Reference

open Cert.AdamwRefIdeal Cert.AdamwRefIdeal.Read

variable (a : Vec Ideal S4x4x704x2048 .bf16) (w m v : Vec Ideal S4x704x2048 .f32)

/-- The reference's gradient. -/
theorem ref_g : val_main_v1 (F := Ideal) a = arrG (state a w m v) := by
  funext i
  idx_vars i
  pointwise [val_main_v1, val_main_v0, val_main_cst]
  rfl

/-- The reference's first moment. -/
theorem ref_m : val_main_v6 (F := Ideal) a m = arrM (state a w m v) := by
  funext i
  idx_vars i
  pointwise [val_main_v6, val_main_v5, val_main_v4, val_main_v3, val_main_v2, val_main_cst_0, val_main_cst_1]
  rw [ref_g a w m v]
  rfl

/-- The reference's second moment. -/
theorem ref_v : val_main_v12 (F := Ideal) a v = arrV (state a w m v) := by
  funext i
  idx_vars i
  pointwise [val_main_v12, val_main_v11, val_main_v10, val_main_v9, val_main_v8, val_main_v7, val_main_cst_2, val_main_cst_3]
  rw [ref_g a w m v]
  rfl

/-- The reference's change of the weight. -/
theorem ref_d : val_main_v25 (F := Ideal) a w m v = arrD (state a w m v) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [ref_m a w m v, ref_v a w m v]
  rfl

/-- The reference runs to the end with its arguments unchanged and every counter at zero. -/
theorem reference_frame : Cert.quiescent_AdamwRefIdeal := fun m ρ _ =>
  (θ_run Cert.AdamwRefIdeal.defs _ _).mono
    (fun r h => ⟨fun c => (h c).2.2.2.2, Idealize.ShloMosaic.sem_eq_zero_of_no_sems (by decide) r.2⟩)
    (Cert.AdamwRefIdeal.Value.run (F := Ideal) m ρ)

/-- Equal arrays give equal functions. -/
theorem state_agree {m : (ℓ : Loc Cert.AdamwIdeal.nD Cert.AdamwIdeal.τ Cert.AdamwIdeal.sig) → Buf (Elt Ideal) ℓ}
    {m' : (ℓ : Loc nD τ sig) → Buf (Elt Ideal) ℓ} (c : Dev nD)
    (h : m' (c.tc.loc main_arg0) = m (c.tc.loc Cert.AdamwIdeal.main_arg0) ∧ m' (c.tc.loc main_arg1) = m (c.tc.loc Cert.AdamwIdeal.main_arg1)
      ∧ m' (c.tc.loc main_arg2) = m (c.tc.loc Cert.AdamwIdeal.main_arg2) ∧ m' (c.tc.loc main_arg3) = m (c.tc.loc Cert.AdamwIdeal.main_arg3)) :
    state (m' (c.tc.loc main_arg0)) (m' (c.tc.loc main_arg1)) (m' (c.tc.loc main_arg2)) (m' (c.tc.loc main_arg3)) = argState m c := by
  rw [h.1, h.2.1, h.2.2.1, h.2.2.2]

/-- The kernel's results are the reference's, element by element. -/
theorem algebraic : Cert.algebraic_AdamwIdeal_AdamwRefIdeal := by
  intro m ρ m' ρ' _ hagree
  refine ⟨fun c => (Cert.AdamwIdeal.Gen.dats m 0 c).arrAt 4 Cert.AdamwIdeal.cfg0.N,
    fun c => (Cert.AdamwIdeal.Gen.dats m 0 c).arrAt 5 Cert.AdamwIdeal.cfg0.N,
    fun c => (Cert.AdamwIdeal.Gen.dats m 0 c).arrAt 6 Cert.AdamwIdeal.cfg0.N,
    fun c => (Cert.AdamwIdeal.Gen.dats m 0 c).arrAt 7 Cert.AdamwIdeal.cfg0.N,
    Cert.AdamwIdeal.Value.run_blocks (F := Ideal) m ρ,
    (θ_run Cert.AdamwRefIdeal.defs _ _).mono (fun r h c => ⟨?_, ?_, ?_, ?_, (h c).2.2.2.2⟩)
      (Cert.AdamwRefIdeal.Value.run (F := Ideal) m' ρ')⟩
  · exact ((h c).1.trans ((val_main_v1_eq _).trans (ref_g (m' (c.tc.loc main_arg0)) (m' (c.tc.loc main_arg1))
      (m' (c.tc.loc main_arg2)) (m' (c.tc.loc main_arg3))))).trans
      ((congrArg arrG (state_agree c (hagree c))).trans (final_g m c).symm)
  · exact ((h c).2.1.trans ((val_main_v25_eq _ _ _ _).trans (ref_d (m' (c.tc.loc main_arg0)) (m' (c.tc.loc main_arg1))
      (m' (c.tc.loc main_arg2)) (m' (c.tc.loc main_arg3))))).trans
      ((congrArg arrD (state_agree c (hagree c))).trans (final_d m c).symm)
  · exact ((h c).2.2.1.trans ((val_main_v6_eq _ _).trans (ref_m (m' (c.tc.loc main_arg0)) (m' (c.tc.loc main_arg1))
      (m' (c.tc.loc main_arg2)) (m' (c.tc.loc main_arg3))))).trans
      ((congrArg arrM (state_agree c (hagree c))).trans (final_m m c).symm)
  · exact ((h c).2.2.2.1.trans ((val_main_v12_eq _ _).trans (ref_v (m' (c.tc.loc main_arg0)) (m' (c.tc.loc main_arg1))
      (m' (c.tc.loc main_arg2)) (m' (c.tc.loc main_arg3))))).trans
      ((congrArg arrV (state_agree c (hagree c))).trans (final_v m c).symm)

end Reference

end Cert.Proof.Adamw

end
-- ==== Proof.Optim.StepGlu.lean ====
/-
  One step of the optimiser at the shapes of the gate's weight: the kernel's run and the reference's end with equal results.
-/
module

public import proofs.«01_k».proof.Defs
public import proofs.«01_k».proof.Proof.Optim.State
public import proofs.«01_k».proof.Proof.Gen.AdamwGluIdeal.Value
public import proofs.«01_k».proof.Proof.Gen.AdamwGluRefIdeal.Run
public import proofs.«01_k».proof.Proof.Gen.AdamwGluRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AdamwGlu

open Idealize.ShloMosaic Idealize.ShloMosaic.TcCoe Idealize.SL.Sem Cert.Proof.Optim

section Kernel

open Cert.AdamwGluIdeal Cert.AdamwGluIdeal.Gen

/-- The layer that block `t` is of. -/
abbrev layer (t : Fin 4) : Fin 4 := ⟨t.val, by omega⟩

/-- The row of the layer that row `p` of block `t` holds. -/
abbrev row (_ : Fin 4) (p : Fin 128) : Fin 128 := p

/-- One part of a block of the gradient, as the body loads it. -/
theorem part_apply (x : Vec Ideal S1x4x128x1024 .bf16) (k : Fin 4)
    (h : ∀ a, ![0, k.val, 0, 0] a + S1x1x128x1024.size a ≤ S1x4x128x1024.size a) (p : Fin 128) (l : Fin 1024) :
    View.ld x (Rect.unit (s := S1x4x128x1024) ![0, k.val, 0, 0] S1x1x128x1024.size h) (ix4 0 0 p l) = x (ix4 0 k p l) := by
  refine View.ld_unit_apply_of x _ _ h _ _ fun a => ?_
  fin_cases a
  · rfl
  · rfl
  · show p.val = 0 + p.val
    omega
  · show l.val = 0 + l.val
    omega

/-- The blocks hold the rows of block `t`. -/
structure Blocks (S : State 128 1024) (t : Fin 4) (a : Vec Ideal S1x4x128x1024 .bf16) (w m v : Vec Ideal S1x128x1024 .f32) : Prop where
  a : ∀ (p : Fin 128) (l : Fin 1024), (∑ k : Fin 4, (a (ix4 0 k p l) : EReal)) = S.g (layer t) (row t p) l
  w : ∀ (p : Fin 128) (l : Fin 1024), w (ix3 0 p l) = S.w (layer t) (row t p) l
  m : ∀ (p : Fin 128) (l : Fin 1024), m (ix3 0 p l) = S.m (layer t) (row t p) l
  v : ∀ (p : Fin 128) (l : Fin 1024), v (ix3 0 p l) = S.v (layer t) (row t p) l

section Points

variable {S : State 128 1024} {t : Fin 4} {a : Vec Ideal S1x4x128x1024 .bf16} {w m v : Vec Ideal S1x128x1024 .f32}

/-- The sum of four parts. -/
theorem sum_apply (v0 v1 v2 v3 : Vec Ideal S1x1x128x1024 .bf16) (p : Fin 128) (l : Fin 1024) :
    (k0_pay6 v0 v1 v2 v3 (ix2 p l) : EReal) = v0 (ix4 0 0 p l) + v1 (ix4 0 0 p l) + v2 (ix4 0 0 p l) + v3 (ix4 0 0 p l) := by
  pointwise [k0_pay6]

/-- A block's element of the gradient. -/
theorem g_apply (h : Blocks S t a w m v) (p : Fin 128) (l : Fin 1024) :
    (k0_pay6 (View.ld a r0_0) (View.ld a r0_1) (View.ld a r0_2) (View.ld a r0_3) (ix2 p l) : EReal) = S.g (layer t) (row t p) l := by
  refine (sum_apply _ _ _ _ p l).trans ?_
  refine Eq.trans ?_ (h.a p l)
  rw [Fin.sum_univ_four]
  exact congrArg₂ (· + ·) (congrArg₂ (· + ·) (congrArg₂ (· + ·) (part_apply a 0 _ p l) (part_apply a 1 _ p l)) (part_apply a 2 _ p l))
    (part_apply a 3 _ p l)

/-- A whole block, as the body loads it. -/
theorem whole_eq (x : Vec Ideal S1x128x1024 .f32) : View.ld x r0_4 = x := View.ld_unit_zero (by decide) _ x

/-- A block's element of the first moment. -/
theorem m_apply (h : Blocks S t a w m v) (p : Fin 128) (l : Fin 1024) :
    (k0_pay11 a w m v (ix2 p l) : EReal) = S.m' (layer t) (row t p) l := by
  unfold k0_pay11
  rw [whole_eq]
  pointwise [k0_pay8]
  rw [g_apply h, h.m]
  rfl

/-- A block's element of the second moment. -/
theorem v_apply (h : Blocks S t a w m v) (p : Fin 128) (l : Fin 1024) :
    (k0_pay1 (k0_pay12 a w m v) (k0_pay13 a w m v) (Ideal.ofBits FTy.f32 0x3A83126F#32) (ix2 p l) : EReal) = S.v' (layer t) (row t p) l := by
  unfold k0_pay12 k0_pay13
  rw [whole_eq]
  pointwise [k0_pay1, k0_pay9, k0_pay10]
  rw [g_apply h, h.v]
  rfl

/-- The first result's block. -/
theorem out_g (h : Blocks S t a w m v) (p : Fin 128) (l : Fin 1024) : (out0_4 a w m v (ix3 0 p l) : EReal) = S.g (layer t) (row t p) l := by
  frame_out
  pointwise [k0_pay2]
  exact g_apply h p l

/-- The second result's block. -/
theorem out_d (h : Blocks S t a w m v) (p : Fin 128) (l : Fin 1024) : (out0_5 a w m v (ix3 0 p l) : EReal) = S.d (layer t) (row t p) l := by
  frame_out
  pointwise [k0_pay3, k0_pay7]
  rw [m_apply h, v_apply h, h.w]
  rfl

/-- The third result's block. -/
theorem out_m (h : Blocks S t a w m v) (p : Fin 128) (l : Fin 1024) : (out0_6 a w m v (ix3 0 p l) : EReal) = S.m' (layer t) (row t p) l := by
  frame_out
  pointwise [k0_pay4]
  exact m_apply h p l

/-- The fourth result's block. -/
theorem out_v (h : Blocks S t a w m v) (p : Fin 128) (l : Fin 1024) : (out0_7 a w m v (ix3 0 p l) : EReal) = S.v' (layer t) (row t p) l := by
  frame_out
  pointwise [k0_pay5]
  exact v_apply h p l

end Points

/-- The arrays as functions of their indices. -/
def state (a : Vec Ideal S4x4x128x1024 .bf16) (w m v : Vec Ideal S4x128x1024 .f32) : State 128 1024 where
  g n r l := ∑ k : Fin 4, a (ix4 n k r l)
  w n r l := w (ix3 n r l)
  m n r l := m (ix3 n r l)
  v n r l := v (ix3 n r l)

/-- Where each window's block lies. -/
theorem idx : ∀ t : Fin cfg0.N, win0_0.index t = ![t.val, 0, 0, 0] ∧ win0_1.index t = ![t.val, 0, 0]
    ∧ win0_2.index t = ![t.val, 0, 0] ∧ win0_3.index t = ![t.val, 0, 0]
    ∧ win0_4.index t = ![t.val, 0, 0] ∧ win0_5.index t = ![t.val, 0, 0]
    ∧ win0_6.index t = ![t.val, 0, 0] ∧ win0_7.index t = ![t.val, 0, 0] :=
  (by decide +kernel : ∀ t : Fin grid0.N, _)

variable (m : (ℓ : Loc nD τ sig) → Buf (Elt Ideal) ℓ)

/-- The arrays the program is called with. -/
abbrev argState (c : Dev nD) : State 128 1024 := state (m ((c : Thread nD τ).loc main_arg0)) (m ((c : Thread nD τ).loc main_arg1))
  (m ((c : Thread nD τ).loc main_arg2)) (m ((c : Thread nD τ).loc main_arg3))

/-- A block of the parts. -/
theorem block_a (c : Dev nD) (t : Fin cfg0.N) (k : Fin 4) (p : Fin 128) (l : Fin 1024) :
    iblk m c 0 t (ix4 0 k p l) = V m c main_arg0 (ix4 (layer t) k (row t p) l) := by blk_ext [iblk, idx t]

/-- A block of the weight. -/
theorem block_w (c : Dev nD) (t : Fin cfg0.N) (p : Fin 128) (l : Fin 1024) :
    iblk m c 1 t (ix3 0 p l) = V m c main_arg1 (ix3 (layer t) (row t p) l) := by blk_ext [iblk, idx t]

/-- A block of the first moment. -/
theorem block_m (c : Dev nD) (t : Fin cfg0.N) (p : Fin 128) (l : Fin 1024) :
    iblk m c 2 t (ix3 0 p l) = V m c main_arg2 (ix3 (layer t) (row t p) l) := by blk_ext [iblk, idx t]

/-- A block of the second moment. -/
theorem block_v (c : Dev nD) (t : Fin cfg0.N) (p : Fin 128) (l : Fin 1024) :
    iblk m c 3 t (ix3 0 p l) = V m c main_arg3 (ix3 (layer t) (row t p) l) := by blk_ext [iblk, idx t]

/-- Grid point `t`'s blocks are those of block `t`'s rows. -/
theorem blocks (c : Dev nD) (t : Fin cfg0.N) :
    Blocks (argState m c) t (iblk m c 0 t) (iblk m c 1 t) (iblk m c 2 t) (iblk m c 3 t) where
  a p l := congrArg (fun f : Fin 4 → EReal => ∑ k, f k) (funext fun k => (block_a m c t k p l).trans (congrFun (V_main_arg0 m c) _))
  w p l := (block_w m c t p l).trans (congrFun (V_main_arg1 m c) _)
  m p l := (block_m m c t p l).trans (congrFun (V_main_arg2 m c) _)
  v p l := (block_v m c t p l).trans (congrFun (V_main_arg3 m c) _)

/-- The results as arrays. -/
def arrG (S : State 128 1024) : Vec Ideal S4x128x1024 .f32 := fun i => S.g (i 0) (i 1) (i 2)
def arrD (S : State 128 1024) : Vec Ideal S4x128x1024 .f32 := fun i => S.d (i 0) (i 1) (i 2)
def arrM (S : State 128 1024) : Vec Ideal S4x128x1024 .f32 := fun i => S.m' (i 0) (i 1) (i 2)
def arrV (S : State 128 1024) : Vec Ideal S4x128x1024 .f32 := fun i => S.v' (i 0) (i 1) (i 2)

/-- The first result holds the gradient. -/
theorem final_g (c : Dev nD) : (dats m 0 c).arrAt 4 cfg0.N = arrG (argState m c) := by
  refine (dats m 0 c).arrAt_eq_of_covers 4 _ (by decide +kernel) fun t hf y => ?_
  blk_simp
  rw [after0_4]
  idx_vars y
  obtain rfl := Fin.eq_zero y0
  refine (out_g (blocks m c t) y1 y2).trans ?_
  refine congrArg (arrG (argState m c)) (a₁ := ix3 (layer t) (row t y1) y2) ?_
  blk_ext [idx t]

/-- The second holds the change of the weight. -/
theorem final_d (c : Dev nD) : (dats m 0 c).arrAt 5 cfg0.N = arrD (argState m c) := by
  refine (dats m 0 c).arrAt_eq_of_covers 5 _ (by decide +kernel) fun t hf y => ?_
  blk_simp
  rw [after0_5]
  idx_vars y
  obtain rfl := Fin.eq_zero y0
  refine (out_d (blocks m c t) y1 y2).trans ?_
  refine congrArg (arrD (argState m c)) (a₁ := ix3 (layer t) (row t y1) y2) ?_
  blk_ext [idx t]

/-- The third holds the first moment. -/
theorem final_m (c : Dev nD) : (dats m 0 c).arrAt 6 cfg0.N = arrM (argState m c) := by
  refine (dats m 0 c).arrAt_eq_of_covers 6 _ (by decide +kernel) fun t hf y => ?_
  blk_simp
  rw [after0_6]
  idx_vars y
  obtain rfl := Fin.eq_zero y0
  refine (out_m (blocks m c t) y1 y2).trans ?_
  refine congrArg (arrM (argState m c)) (a₁ := ix3 (layer t) (row t y1) y2) ?_
  blk_ext [idx t]

/-- The fourth holds the second moment. -/
theorem final_v (c : Dev nD) : (dats m 0 c).arrAt 7 cfg0.N = arrV (argState m c) := by
  refine (dats m 0 c).arrAt_eq_of_covers 7 _ (by decide +kernel) fun t hf y => ?_
  blk_simp
  rw [after0_7]
  idx_vars y
  obtain rfl := Fin.eq_zero y0
  refine (out_v (blocks m c t) y1 y2).trans ?_
  refine congrArg (arrV (argState m c)) (a₁ := ix3 (layer t) (row t y1) y2) ?_
  blk_ext [idx t]

end Kernel

section Reference

open Cert.AdamwGluRefIdeal Cert.AdamwGluRefIdeal.Read

variable (a : Vec Ideal S4x4x128x1024 .bf16) (w m v : Vec Ideal S4x128x1024 .f32)

/-- The reference's gradient. -/
theorem ref_g : val_main_v1 (F := Ideal) a = arrG (state a w m v) := by
  funext i
  idx_vars i
  pointwise [val_main_v1, val_main_v0, val_main_cst]
  rfl

/-- The reference's first moment. -/
theorem ref_m : val_main_v6 (F := Ideal) a m = arrM (state a w m v) := by
  funext i
  idx_vars i
  pointwise [val_main_v6, val_main_v5, val_main_v4, val_main_v3, val_main_v2, val_main_cst_0, val_main_cst_1]
  rw [ref_g a w m v]
  rfl

/-- The reference's second moment. -/
theorem ref_v : val_main_v12 (F := Ideal) a v = arrV (state a w m v) := by
  funext i
  idx_vars i
  pointwise [val_main_v12, val_main_v11, val_main_v10, val_main_v9, val_main_v8, val_main_v7, val_main_cst_2, val_main_cst_3]
  rw [ref_g a w m v]
  rfl

/-- The reference's change of the weight. -/
theorem ref_d : val_main_v25 (F := Ideal) a w m v = arrD (state a w m v) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [ref_m a w m v, ref_v a w m v]
  rfl

/-- The reference runs to the end with its arguments unchanged and every counter at zero. -/
theorem reference_frame : Cert.quiescent_AdamwGluRefIdeal := fun m ρ _ =>
  (θ_run Cert.AdamwGluRefIdeal.defs _ _).mono
    (fun r h => ⟨fun c => (h c).2.2.2.2, Idealize.ShloMosaic.sem_eq_zero_of_no_sems (by decide) r.2⟩)
    (Cert.AdamwGluRefIdeal.Value.run (F := Ideal) m ρ)

/-- Equal arrays give equal functions. -/
theorem state_agree {m : (ℓ : Loc Cert.AdamwGluIdeal.nD Cert.AdamwGluIdeal.τ Cert.AdamwGluIdeal.sig) → Buf (Elt Ideal) ℓ}
    {m' : (ℓ : Loc nD τ sig) → Buf (Elt Ideal) ℓ} (c : Dev nD)
    (h : m' (c.tc.loc main_arg0) = m (c.tc.loc Cert.AdamwGluIdeal.main_arg0) ∧ m' (c.tc.loc main_arg1) = m (c.tc.loc Cert.AdamwGluIdeal.main_arg1)
      ∧ m' (c.tc.loc main_arg2) = m (c.tc.loc Cert.AdamwGluIdeal.main_arg2) ∧ m' (c.tc.loc main_arg3) = m (c.tc.loc Cert.AdamwGluIdeal.main_arg3)) :
    state (m' (c.tc.loc main_arg0)) (m' (c.tc.loc main_arg1)) (m' (c.tc.loc main_arg2)) (m' (c.tc.loc main_arg3)) = argState m c := by
  rw [h.1, h.2.1, h.2.2.1, h.2.2.2]

/-- The kernel's results are the reference's, element by element. -/
theorem algebraic : Cert.algebraic_AdamwGluIdeal_AdamwGluRefIdeal := by
  intro m ρ m' ρ' _ hagree
  refine ⟨fun c => (Cert.AdamwGluIdeal.Gen.dats m 0 c).arrAt 4 Cert.AdamwGluIdeal.cfg0.N,
    fun c => (Cert.AdamwGluIdeal.Gen.dats m 0 c).arrAt 5 Cert.AdamwGluIdeal.cfg0.N,
    fun c => (Cert.AdamwGluIdeal.Gen.dats m 0 c).arrAt 6 Cert.AdamwGluIdeal.cfg0.N,
    fun c => (Cert.AdamwGluIdeal.Gen.dats m 0 c).arrAt 7 Cert.AdamwGluIdeal.cfg0.N,
    Cert.AdamwGluIdeal.Value.run_blocks (F := Ideal) m ρ,
    (θ_run Cert.AdamwGluRefIdeal.defs _ _).mono (fun r h c => ⟨?_, ?_, ?_, ?_, (h c).2.2.2.2⟩)
      (Cert.AdamwGluRefIdeal.Value.run (F := Ideal) m' ρ')⟩
  · exact ((h c).1.trans ((val_main_v1_eq _).trans (ref_g (m' (c.tc.loc main_arg0)) (m' (c.tc.loc main_arg1))
      (m' (c.tc.loc main_arg2)) (m' (c.tc.loc main_arg3))))).trans
      ((congrArg arrG (state_agree c (hagree c))).trans (final_g m c).symm)
  · exact ((h c).2.1.trans ((val_main_v25_eq _ _ _ _).trans (ref_d (m' (c.tc.loc main_arg0)) (m' (c.tc.loc main_arg1))
      (m' (c.tc.loc main_arg2)) (m' (c.tc.loc main_arg3))))).trans
      ((congrArg arrD (state_agree c (hagree c))).trans (final_d m c).symm)
  · exact ((h c).2.2.1.trans ((val_main_v6_eq _ _).trans (ref_m (m' (c.tc.loc main_arg0)) (m' (c.tc.loc main_arg1))
      (m' (c.tc.loc main_arg2)) (m' (c.tc.loc main_arg3))))).trans
      ((congrArg arrM (state_agree c (hagree c))).trans (final_m m c).symm)
  · exact ((h c).2.2.2.1.trans ((val_main_v12_eq _ _).trans (ref_v (m' (c.tc.loc main_arg0)) (m' (c.tc.loc main_arg1))
      (m' (c.tc.loc main_arg2)) (m' (c.tc.loc main_arg3))))).trans
      ((congrArg arrV (state_agree c (hagree c))).trans (final_v m c).symm)

end Reference

end Cert.Proof.AdamwGlu

end
-- ==== Proof.Optim.StepIn.lean ====
/-
  One step of the optimiser on a gradient that is already summed, that of the mixer's first weight: the kernel's run and the reference's end with equal results.
-/
module

public import proofs.«01_k».proof.Defs
public import proofs.«01_k».proof.Proof.Optim.State
public import proofs.«01_k».proof.Proof.Gen.AdamwInIdeal.Value
public import proofs.«01_k».proof.Proof.Gen.AdamwInRefIdeal.Run
public import proofs.«01_k».proof.Proof.Gen.AdamwInRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AdamwIn

open Idealize.ShloMosaic Idealize.ShloMosaic.TcCoe Idealize.SL.Sem Cert.Proof.Optim

section Kernel

open Cert.AdamwInIdeal Cert.AdamwInIdeal.Gen

/-- The layer that block `t` is of. -/
abbrev layer (t : Fin 8) : Fin 4 := ⟨t.val / 2, by omega⟩

/-- The row of the layer that row `p` of block `t` holds. -/
abbrev row (t : Fin 8) (p : Fin 1024) : Fin 2048 := ⟨t.val % 2 * 1024 + p.val, by omega⟩

/-- The blocks hold the rows of block `t`. -/
structure Blocks (S : State 2048 512) (t : Fin 8) (a w m v : Vec Ideal S1x1024x512 .f32) : Prop where
  a : ∀ (p : Fin 1024) (l : Fin 512), a (ix3 0 p l) = S.g (layer t) (row t p) l
  w : ∀ (p : Fin 1024) (l : Fin 512), w (ix3 0 p l) = S.w (layer t) (row t p) l
  m : ∀ (p : Fin 1024) (l : Fin 512), m (ix3 0 p l) = S.m (layer t) (row t p) l
  v : ∀ (p : Fin 1024) (l : Fin 512), v (ix3 0 p l) = S.v (layer t) (row t p) l

section Points

variable {S : State 2048 512} {t : Fin 8} {a w m v : Vec Ideal S1x1024x512 .f32}

/-- The first result's block. -/
theorem out_g (h : Blocks S t a w m v) (p : Fin 1024) (l : Fin 512) : (out0_4 a w m v (ix3 0 p l) : EReal) = S.g (layer t) (row t p) l := by
  frame_out
  pointwise [k0_pay1, k0_pay5]
  exact h.a p l

/-- The second result's block. -/
theorem out_d (h : Blocks S t a w m v) (p : Fin 1024) (l : Fin 512) : (out0_5 a w m v (ix3 0 p l) : EReal) = S.d (layer t) (row t p) l := by
  frame_out
  pointwise [k0_pay2, k0_pay8, k0_pay7, k0_pay6, k0_pay5]
  rw [h.a, h.w, h.m, h.v]
  rfl

/-- The third result's block. -/
theorem out_m (h : Blocks S t a w m v) (p : Fin 1024) (l : Fin 512) : (out0_6 a w m v (ix3 0 p l) : EReal) = S.m' (layer t) (row t p) l := by
  frame_out
  pointwise [k0_pay3, k0_pay6, k0_pay5]
  rw [h.a, h.m]
  rfl

/-- The fourth result's block. -/
theorem out_v (h : Blocks S t a w m v) (p : Fin 1024) (l : Fin 512) : (out0_7 a w m v (ix3 0 p l) : EReal) = S.v' (layer t) (row t p) l := by
  frame_out
  pointwise [k0_pay4, k0_pay7, k0_pay5]
  rw [h.a, h.v]
  rfl

end Points

/-- The arrays as functions of their indices. -/
def state (a w m v : Vec Ideal S4x2048x512 .f32) : State 2048 512 where
  g n r l := a (ix3 n r l)
  w n r l := w (ix3 n r l)
  m n r l := m (ix3 n r l)
  v n r l := v (ix3 n r l)

/-- Where each window's block lies. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0] :=
  (by decide +kernel : ∀ t : Fin grid0.N, _)

variable (m : (ℓ : Loc nD τ sig) → Buf (Elt Ideal) ℓ)

/-- The arrays the program is called with. -/
abbrev argState (c : Dev nD) : State 2048 512 := state (m ((c : Thread nD τ).loc main_arg0)) (m ((c : Thread nD τ).loc main_arg1))
  (m ((c : Thread nD τ).loc main_arg2)) (m ((c : Thread nD τ).loc main_arg3))

/-- A block of the gradient. -/
theorem block_a (c : Dev nD) (t : Fin cfg0.N) (p : Fin 1024) (l : Fin 512) :
    iblk m c 0 t (ix3 0 p l) = V m c main_arg0 (ix3 (layer t) (row t p) l) := by blk_ext [iblk, idx t]

/-- A block of the weight. -/
theorem block_w (c : Dev nD) (t : Fin cfg0.N) (p : Fin 1024) (l : Fin 512) :
    iblk m c 1 t (ix3 0 p l) = V m c main_arg1 (ix3 (layer t) (row t p) l) := by blk_ext [iblk, idx t]

/-- A block of the first moment. -/
theorem block_m (c : Dev nD) (t : Fin cfg0.N) (p : Fin 1024) (l : Fin 512) :
    iblk m c 2 t (ix3 0 p l) = V m c main_arg2 (ix3 (layer t) (row t p) l) := by blk_ext [iblk, idx t]

/-- A block of the second moment. -/
theorem block_v (c : Dev nD) (t : Fin cfg0.N) (p : Fin 1024) (l : Fin 512) :
    iblk m c 3 t (ix3 0 p l) = V m c main_arg3 (ix3 (layer t) (row t p) l) := by blk_ext [iblk, idx t]

/-- Grid point `t`'s blocks are those of block `t`'s rows. -/
theorem blocks (c : Dev nD) (t : Fin cfg0.N) :
    Blocks (argState m c) t (iblk m c 0 t) (iblk m c 1 t) (iblk m c 2 t) (iblk m c 3 t) where
  a p l := (block_a m c t p l).trans (congrFun (V_main_arg0 m c) _)
  w p l := (block_w m c t p l).trans (congrFun (V_main_arg1 m c) _)
  m p l := (block_m m c t p l).trans (congrFun (V_main_arg2 m c) _)
  v p l := (block_v m c t p l).trans (congrFun (V_main_arg3 m c) _)

/-- The results as arrays. -/
def arrG (S : State 2048 512) : Vec Ideal S4x2048x512 .f32 := fun i => S.g (i 0) (i 1) (i 2)
def arrD (S : State 2048 512) : Vec Ideal S4x2048x512 .f32 := fun i => S.d (i 0) (i 1) (i 2)
def arrM (S : State 2048 512) : Vec Ideal S4x2048x512 .f32 := fun i => S.m' (i 0) (i 1) (i 2)
def arrV (S : State 2048 512) : Vec Ideal S4x2048x512 .f32 := fun i => S.v' (i 0) (i 1) (i 2)

/-- The first result holds the gradient. -/
theorem final_g (c : Dev nD) : (dats m 0 c).arrAt 4 cfg0.N = arrG (argState m c) := by
  refine (dats m 0 c).arrAt_eq_of_covers 4 _ (by decide +kernel) fun t hf y => ?_
  blk_simp
  rw [after0_4]
  idx_vars y
  obtain rfl := Fin.eq_zero y0
  refine (out_g (blocks m c t) y1 y2).trans ?_
  refine congrArg (arrG (argState m c)) (a₁ := ix3 (layer t) (row t y1) y2) ?_
  blk_ext [idx t]

/-- The second holds the change of the weight. -/
theorem final_d (c : Dev nD) : (dats m 0 c).arrAt 5 cfg0.N = arrD (argState m c) := by
  refine (dats m 0 c).arrAt_eq_of_covers 5 _ (by decide +kernel) fun t hf y => ?_
  blk_simp
  rw [after0_5]
  idx_vars y
  obtain rfl := Fin.eq_zero y0
  refine (out_d (blocks m c t) y1 y2).trans ?_
  refine congrArg (arrD (argState m c)) (a₁ := ix3 (layer t) (row t y1) y2) ?_
  blk_ext [idx t]

/-- The third holds the first moment. -/
theorem final_m (c : Dev nD) : (dats m 0 c).arrAt 6 cfg0.N = arrM (argState m c) := by
  refine (dats m 0 c).arrAt_eq_of_covers 6 _ (by decide +kernel) fun t hf y => ?_
  blk_simp
  rw [after0_6]
  idx_vars y
  obtain rfl := Fin.eq_zero y0
  refine (out_m (blocks m c t) y1 y2).trans ?_
  refine congrArg (arrM (argState m c)) (a₁ := ix3 (layer t) (row t y1) y2) ?_
  blk_ext [idx t]

/-- The fourth holds the second moment. -/
theorem final_v (c : Dev nD) : (dats m 0 c).arrAt 7 cfg0.N = arrV (argState m c) := by
  refine (dats m 0 c).arrAt_eq_of_covers 7 _ (by decide +kernel) fun t hf y => ?_
  blk_simp
  rw [after0_7]
  idx_vars y
  obtain rfl := Fin.eq_zero y0
  refine (out_v (blocks m c t) y1 y2).trans ?_
  refine congrArg (arrV (argState m c)) (a₁ := ix3 (layer t) (row t y1) y2) ?_
  blk_ext [idx t]

end Kernel

section Reference

open Cert.AdamwInRefIdeal Cert.AdamwInRefIdeal.Read

variable (a w m v : Vec Ideal S4x2048x512 .f32)

/-- The reference's gradient. -/
theorem ref_g : a = arrG (state a w m v) := by
  funext i
  idx_vars i
  rfl

/-- The reference's first moment. -/
theorem ref_m : val_main_v4 (F := Ideal) a m = arrM (state a w m v) := by
  funext i
  idx_vars i
  pointwise [val_main_v4, val_main_v3, val_main_v2, val_main_v1, val_main_v0, val_main_cst, val_main_cst_0]
  rfl

/-- The reference's second moment. -/
theorem ref_v : val_main_v10 (F := Ideal) a v = arrV (state a w m v) := by
  funext i
  idx_vars i
  pointwise [val_main_v10, val_main_v9, val_main_v8, val_main_v7, val_main_v6, val_main_v5, val_main_cst_1, val_main_cst_2]
  rfl

/-- The reference's change of the weight. -/
theorem ref_d : val_main_v23 (F := Ideal) a w m v = arrD (state a w m v) := by
  funext i
  idx_vars i
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [ref_m a w m v, ref_v a w m v]
  rfl

/-- The reference runs to the end with its arguments unchanged and every counter at zero. -/
theorem reference_frame : Cert.quiescent_AdamwInRefIdeal := fun m ρ _ =>
  (θ_run Cert.AdamwInRefIdeal.defs _ _).mono
    (fun r h => ⟨fun c => (h c).2.2.2.2, Idealize.ShloMosaic.sem_eq_zero_of_no_sems (by decide) r.2⟩)
    (Cert.AdamwInRefIdeal.Value.run (F := Ideal) m ρ)

/-- Equal arrays give equal functions. -/
theorem state_agree {m : (ℓ : Loc Cert.AdamwInIdeal.nD Cert.AdamwInIdeal.τ Cert.AdamwInIdeal.sig) → Buf (Elt Ideal) ℓ}
    {m' : (ℓ : Loc nD τ sig) → Buf (Elt Ideal) ℓ} (c : Dev nD)
    (h : m' (c.tc.loc main_arg0) = m (c.tc.loc Cert.AdamwInIdeal.main_arg0) ∧ m' (c.tc.loc main_arg1) = m (c.tc.loc Cert.AdamwInIdeal.main_arg1)
      ∧ m' (c.tc.loc main_arg2) = m (c.tc.loc Cert.AdamwInIdeal.main_arg2) ∧ m' (c.tc.loc main_arg3) = m (c.tc.loc Cert.AdamwInIdeal.main_arg3)) :
    state (m' (c.tc.loc main_arg0)) (m' (c.tc.loc main_arg1)) (m' (c.tc.loc main_arg2)) (m' (c.tc.loc main_arg3)) = argState m c := by
  rw [h.1, h.2.1, h.2.2.1, h.2.2.2]

/-- The kernel's results are the reference's, element by element. -/
theorem algebraic : Cert.algebraic_AdamwInIdeal_AdamwInRefIdeal := by
  intro m ρ m' ρ' _ hagree
  refine ⟨fun c => (Cert.AdamwInIdeal.Gen.dats m 0 c).arrAt 4 Cert.AdamwInIdeal.cfg0.N,
    fun c => (Cert.AdamwInIdeal.Gen.dats m 0 c).arrAt 5 Cert.AdamwInIdeal.cfg0.N,
    fun c => (Cert.AdamwInIdeal.Gen.dats m 0 c).arrAt 6 Cert.AdamwInIdeal.cfg0.N,
    fun c => (Cert.AdamwInIdeal.Gen.dats m 0 c).arrAt 7 Cert.AdamwInIdeal.cfg0.N,
    Cert.AdamwInIdeal.Value.run_blocks (F := Ideal) m ρ,
    (θ_run Cert.AdamwInRefIdeal.defs _ _).mono (fun r h c => ⟨?_, ?_, ?_, ?_, (h c).2.2.2.2⟩)
      (Cert.AdamwInRefIdeal.Value.run (F := Ideal) m' ρ')⟩
  · exact ((h c).1.trans (ref_g (m' (c.tc.loc main_arg0)) (m' (c.tc.loc main_arg1))
      (m' (c.tc.loc main_arg2)) (m' (c.tc.loc main_arg3)))).trans
      ((congrArg arrG (state_agree c (hagree c))).trans (final_g m c).symm)
  · exact ((h c).2.1.trans ((val_main_v23_eq _ _ _ _).trans (ref_d (m' (c.tc.loc main_arg0)) (m' (c.tc.loc main_arg1))
      (m' (c.tc.loc main_arg2)) (m' (c.tc.loc main_arg3))))).trans
      ((congrArg arrD (state_agree c (hagree c))).trans (final_d m c).symm)
  · exact ((h c).2.2.1.trans ((val_main_v4_eq _ _).trans (ref_m (m' (c.tc.loc main_arg0)) (m' (c.tc.loc main_arg1))
      (m' (c.tc.loc main_arg2)) (m' (c.tc.loc main_arg3))))).trans
      ((congrArg arrM (state_agree c (hagree c))).trans (final_m m c).symm)
  · exact ((h c).2.2.2.1.trans ((val_main_v10_eq _ _).trans (ref_v (m' (c.tc.loc main_arg0)) (m' (c.tc.loc main_arg1))
      (m' (c.tc.loc main_arg2)) (m' (c.tc.loc main_arg3))))).trans
      ((congrArg arrV (state_agree c (hagree c))).trans (final_v m c).symm)

end Reference

end Cert.Proof.AdamwIn

end
-- ==== Proof.Optim.StepOut.lean ====
/-
  One step of the optimiser at the shapes of the mixer's last weight: the kernel's run and the reference's end with equal results.
-/
module

public import proofs.«01_k».proof.Defs
public import proofs.«01_k».proof.Proof.Optim.State
public import proofs.«01_k».proof.Proof.Gen.AdamwOutIdeal.Value
public import proofs.«01_k».proof.Proof.Gen.AdamwOutRefIdeal.Run
public import proofs.«01_k».proof.Proof.Gen.AdamwOutRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AdamwOut

open Idealize.ShloMosaic Idealize.ShloMosaic.TcCoe Idealize.SL.Sem Cert.Proof.Optim

section Kernel

open Cert.AdamwOutIdeal Cert.AdamwOutIdeal.Gen

/-- The layer that block `t` is of. -/
abbrev layer (t : Fin 8) : Fin 4 := ⟨t.val / 2, by omega⟩

/-- The row of the layer that row `p` of block `t` holds. -/
abbrev row (t : Fin 8) (p : Fin 128) : Fin 256 := ⟨t.val % 2 * 128 + p.val, by omega⟩

/-- One part of a block of the gradient, as the body loads it. -/
theorem part_apply (x : Vec Ideal S1x4x128x2048 .bf16) (k : Fin 4)
    (h : ∀ a, ![0, k.val, 0, 0] a + S1x1x128x2048.size a ≤ S1x4x128x2048.size a) (p : Fin 128) (l : Fin 2048) :
    View.ld x (Rect.unit (s := S1x4x128x2048) ![0, k.val, 0, 0] S1x1x128x2048.size h) (ix4 0 0 p l) = x (ix4 0 k p l) := by
  refine View.ld_unit_apply_of x _ _ h _ _ fun a => ?_
  fin_cases a
  · rfl
  · rfl
  · show p.val = 0 + p.val
    omega
  · show l.val = 0 + l.val
    omega

/-- The blocks hold the rows of block `t`. -/
structure Blocks (S : State 256 2048) (t : Fin 8) (a : Vec Ideal S1x4x128x2048 .bf16) (w m v : Vec Ideal S1x128x2048 .f32) : Prop where
  a : ∀ (p : Fin 128) (l : Fin 2048), (∑ k : Fin 4, (a (ix4 0 k p l) : EReal)) = S.g (layer t) (row t p) l
  w : ∀ (p : Fin 128) (l : Fin 2048), w (ix3 0 p l) = S.w (layer t) (row t p) l
  m : ∀ (p : Fin 128) (l : Fin 2048), m (ix3 0 p l) = S.m (layer t) (row t p) l
  v : ∀ (p : Fin 128) (l : Fin 2048), v (ix3 0 p l) = S.v (layer t) (row t p) l

section Points

variable {S : State 256 2048} {t : Fin 8} {a : Vec Ideal S1x4x128x2048 .bf16} {w m v : Vec Ideal S1x128x2048 .f32}

/-- The sum of four parts. -/
theorem sum_apply (v0 v1 v2 v3 : Vec Ideal S1x1x128x2048 .bf16) (p : Fin 128) (l : Fin 2048) :
    (k0_pay6 v0 v1 v2 v3 (ix2 p l) : EReal) = v0 (ix4 0 0 p l) + v1 (ix4 0 0 p l) + v2 (ix4 0 0 p l) + v3 (ix4 0 0 p l) := by
  pointwise [k0_pay6]

/-- A block's element of the gradient. -/
theorem g_apply (h : Blocks S t a w m v) (p : Fin 128) (l : Fin 2048) :
    (k0_pay6 (View.ld a r0_0) (View.ld a r0_1) (View.ld a r0_2) (View.ld a r0_3) (ix2 p l) : EReal) = S.g (layer t) (row t p) l := by
  refine (sum_apply _ _ _ _ p l).trans ?_
  refine Eq.trans ?_ (h.a p l)
  rw [Fin.sum_univ_four]
  exact congrArg₂ (· + ·) (congrArg₂ (· + ·) (congrArg₂ (· + ·) (part_apply a 0 _ p l) (part_apply a 1 _ p l)) (part_apply a 2 _ p l))
    (part_apply a 3 _ p l)

/-- A whole block, as the body loads it. -/
theorem whole_eq (x : Vec Ideal S1x128x2048 .f32) : View.ld x r0_4 = x := View.ld_unit_zero (by decide) _ x

/-- A block's element of the first moment. -/
theorem m_apply (h : Blocks S t a w m v) (p : Fin 128) (l : Fin 2048) :
    (k0_pay11 a w m v (ix2 p l) : EReal) = S.m' (layer t) (row t p) l := by
  unfold k0_pay11
  rw [whole_eq]
  pointwise [k0_pay8]
  rw [g_apply h, h.m]
  rfl

/-- A block's element of the second moment. -/
theorem v_apply (h : Blocks S t a w m v) (p : Fin 128) (l : Fin 2048) :
    (k0_pay1 (k0_pay12 a w m v) (k0_pay13 a w m v) (Ideal.ofBits FTy.f32 0x3A83126F#32) (ix2 p l) : EReal) = S.v' (layer t) (row t p) l := by
  unfold k0_pay12 k0_pay13
  rw [whole_eq]
  pointwise [k0_pay1, k0_pay9, k0_pay10]
  rw [g_apply h, h.v]
  rfl

/-- The first result's block. -/
theorem out_g (h : Blocks S t a w m v) (p : Fin 128) (l : Fin 2048) : (out0_4 a w m v (ix3 0 p l) : EReal) = S.g (layer t) (row t p) l := by
  frame_out
  pointwise [k0_pay2]
  exact g_apply h p l

/-- The second result's block. -/
theorem out_d (h : Blocks S t a w m v) (p : Fin 128) (l : Fin 2048) : (out0_5 a w m v (ix3 0 p l) : EReal) = S.d (layer t) (row t p) l := by
  frame_out
  pointwise [k0_pay3, k0_pay7]
  rw [m_apply h, v_apply h, h.w]
  rfl

/-- The third result's block. -/
theorem out_m (h : Blocks S t a w m v) (p : Fin 128) (l : Fin 2048) : (out0_6 a w m v (ix3 0 p l) : EReal) = S.m' (layer t) (row t p) l := by
  frame_out
  pointwise [k0_pay4]
  exact m_apply h p l

/-- The fourth result's block. -/
theorem out_v (h : Blocks S t a w m v) (p : Fin 128) (l : Fin 2048) : (out0_7 a w m v (ix3 0 p l) : EReal) = S.v' (layer t) (row t p) l := by
  frame_out
  pointwise [k0_pay5]
  exact v_apply h p l

end Points

/-- The arrays as functions of their indices. -/
def state (a : Vec Ideal S4x4x256x2048 .bf16) (w m v : Vec Ideal S4x256x2048 .f32) : State 256 2048 where
  g n r l := ∑ k : Fin 4, a (ix4 n k r l)
  w n r l := w (ix3 n r l)
  m n r l := m (ix3 n r l)
  v n r l := v (ix3 n r l)

/-- Where each window's block lies. -/
theorem idx : ∀ t : Fin cfg0.N, win0_0.index t = ![t.val / 2, 0, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0] :=
  (by decide +kernel : ∀ t : Fin grid0.N, _)

variable (m : (ℓ : Loc nD τ sig) → Buf (Elt Ideal) ℓ)

/-- The arrays the program is called with. -/
abbrev argState (c : Dev nD) : State 256 2048 := state (m ((c : Thread nD τ).loc main_arg0)) (m ((c : Thread nD τ).loc main_arg1))
  (m ((c : Thread nD τ).loc main_arg2)) (m ((c : Thread nD τ).loc main_arg3))

/-- A block of the parts. -/
theorem block_a (c : Dev nD) (t : Fin cfg0.N) (k : Fin 4) (p : Fin 128) (l : Fin 2048) :
    iblk m c 0 t (ix4 0 k p l) = V m c main_arg0 (ix4 (layer t) k (row t p) l) := by blk_ext [iblk, idx t]

/-- A block of the weight. -/
theorem block_w (c : Dev nD) (t : Fin cfg0.N) (p : Fin 128) (l : Fin 2048) :
    iblk m c 1 t (ix3 0 p l) = V m c main_arg1 (ix3 (layer t) (row t p) l) := by blk_ext [iblk, idx t]

/-- A block of the first moment. -/
theorem block_m (c : Dev nD) (t : Fin cfg0.N) (p : Fin 128) (l : Fin 2048) :
    iblk m c 2 t (ix3 0 p l) = V m c main_arg2 (ix3 (layer t) (row t p) l) := by blk_ext [iblk, idx t]

/-- A block of the second moment. -/
theorem block_v (c : Dev nD) (t : Fin cfg0.N) (p : Fin 128) (l : Fin 2048) :
    iblk m c 3 t (ix3 0 p l) = V m c main_arg3 (ix3 (layer t) (row t p) l) := by blk_ext [iblk, idx t]

/-- Grid point `t`'s blocks are those of block `t`'s rows. -/
theorem blocks (c : Dev nD) (t : Fin cfg0.N) :
    Blocks (argState m c) t (iblk m c 0 t) (iblk m c 1 t) (iblk m c 2 t) (iblk m c 3 t) where
  a p l := congrArg (fun f : Fin 4 → EReal => ∑ k, f k) (funext fun k => (block_a m c t k p l).trans (congrFun (V_main_arg0 m c) _))
  w p l := (block_w m c t p l).trans (congrFun (V_main_arg1 m c) _)
  m p l := (block_m m c t p l).trans (congrFun (V_main_arg2 m c) _)
  v p l := (block_v m c t p l).trans (congrFun (V_main_arg3 m c) _)

/-- The results as arrays. -/
def arrG (S : State 256 2048) : Vec Ideal S4x256x2048 .f32 := fun i => S.g (i 0) (i 1) (i 2)
def arrD (S : State 256 2048) : Vec Ideal S4x256x2048 .f32 := fun i => S.d (i 0) (i 1) (i 2)
def arrM (S : State 256 2048) : Vec Ideal S4x256x2048 .f32 := fun i => S.m' (i 0) (i 1) (i 2)
def arrV (S : State 256 2048) : Vec Ideal S4x256x2048 .f32 := fun i => S.v' (i 0) (i 1) (i 2)

/-- The first result holds the gradient. -/
theorem final_g (c : Dev nD) : (dats m 0 c).arrAt 4 cfg0.N = arrG (argState m c) := by
  refine (dats m 0 c).arrAt_eq_of_covers 4 _ (by decide +kernel) fun t hf y => ?_
  blk_simp
  rw [after0_4]
  idx_vars y
  obtain rfl := Fin.eq_zero y0
  refine (out_g (blocks m c t) y1 y2).trans ?_
  refine congrArg (arrG (argState m c)) (a₁ := ix3 (layer t) (row t y1) y2) ?_
  blk_ext [idx t]

/-- The second holds the change of the weight. -/
theorem final_d (c : Dev nD) : (dats m 0 c).arrAt 5 cfg0.N = arrD (argState m c) := by
  refine (dats m 0 c).arrAt_eq_of_covers 5 _ (by decide +kernel) fun t hf y => ?_
  blk_simp
  rw [after0_5]
  idx_vars y
  obtain rfl := Fin.eq_zero y0
  refine (out_d (blocks m c t) y1 y2).trans ?_
  refine congrArg (arrD (argState m c)) (a₁ := ix3 (layer t) (row t y1) y2) ?_
  blk_ext [idx t]

/-- The third holds the first moment. -/
theorem final_m (c : Dev nD) : (dats m 0 c).arrAt 6 cfg0.N = arrM (argState m c) := by
  refine (dats m 0 c).arrAt_eq_of_covers 6 _ (by decide +kernel) fun t hf y => ?_
  blk_simp
  rw [after0_6]
  idx_vars y
  obtain rfl := Fin.eq_zero y0
  refine (out_m (blocks m c t) y1 y2).trans ?_
  refine congrArg (arrM (argState m c)) (a₁ := ix3 (layer t) (row t y1) y2) ?_
  blk_ext [idx t]

/-- The fourth holds the second moment. -/
theorem final_v (c : Dev nD) : (dats m 0 c).arrAt 7 cfg0.N = arrV (argState m c) := by
  refine (dats m 0 c).arrAt_eq_of_covers 7 _ (by decide +kernel) fun t hf y => ?_
  blk_simp
  rw [after0_7]
  idx_vars y
  obtain rfl := Fin.eq_zero y0
  refine (out_v (blocks m c t) y1 y2).trans ?_
  refine congrArg (arrV (argState m c)) (a₁ := ix3 (layer t) (row t y1) y2) ?_
  blk_ext [idx t]

end Kernel

section Reference

open Cert.AdamwOutRefIdeal Cert.AdamwOutRefIdeal.Read

variable (a : Vec Ideal S4x4x256x2048 .bf16) (w m v : Vec Ideal S4x256x2048 .f32)

/-- The reference's gradient. -/
theorem ref_g : val_main_v1 (F := Ideal) a = arrG (state a w m v) := by
  funext i
  idx_vars i
  pointwise [val_main_v1, val_main_v0, val_main_cst]
  rfl

/-- The reference's first moment. -/
theorem ref_m : val_main_v6 (F := Ideal) a m = arrM (state a w m v) := by
  funext i
  idx_vars i
  pointwise [val_main_v6, val_main_v5, val_main_v4, val_main_v3, val_main_v2, val_main_cst_0, val_main_cst_1]
  rw [ref_g a w m v]
  rfl

/-- The reference's second moment. -/
theorem ref_v : val_main_v12 (F := Ideal) a v = arrV (state a w m v) := by
  funext i
  idx_vars i
  pointwise [val_main_v12, val_main_v11, val_main_v10, val_main_v9, val_main_v8, val_main_v7, val_main_cst_2, val_main_cst_3]
  rw [ref_g a w m v]
  rfl

/-- The reference's change of the weight. -/
theorem ref_d : val_main_v25 (F := Ideal) a w m v = arrD (state a w m v) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [ref_m a w m v, ref_v a w m v]
  rfl

/-- The reference runs to the end with its arguments unchanged and every counter at zero. -/
theorem reference_frame : Cert.quiescent_AdamwOutRefIdeal := fun m ρ _ =>
  (θ_run Cert.AdamwOutRefIdeal.defs _ _).mono
    (fun r h => ⟨fun c => (h c).2.2.2.2, Idealize.ShloMosaic.sem_eq_zero_of_no_sems (by decide) r.2⟩)
    (Cert.AdamwOutRefIdeal.Value.run (F := Ideal) m ρ)

/-- Equal arrays give equal functions. -/
theorem state_agree {m : (ℓ : Loc Cert.AdamwOutIdeal.nD Cert.AdamwOutIdeal.τ Cert.AdamwOutIdeal.sig) → Buf (Elt Ideal) ℓ}
    {m' : (ℓ : Loc nD τ sig) → Buf (Elt Ideal) ℓ} (c : Dev nD)
    (h : m' (c.tc.loc main_arg0) = m (c.tc.loc Cert.AdamwOutIdeal.main_arg0) ∧ m' (c.tc.loc main_arg1) = m (c.tc.loc Cert.AdamwOutIdeal.main_arg1)
      ∧ m' (c.tc.loc main_arg2) = m (c.tc.loc Cert.AdamwOutIdeal.main_arg2) ∧ m' (c.tc.loc main_arg3) = m (c.tc.loc Cert.AdamwOutIdeal.main_arg3)) :
    state (m' (c.tc.loc main_arg0)) (m' (c.tc.loc main_arg1)) (m' (c.tc.loc main_arg2)) (m' (c.tc.loc main_arg3)) = argState m c := by
  rw [h.1, h.2.1, h.2.2.1, h.2.2.2]

/-- The kernel's results are the reference's, element by element. -/
theorem algebraic : Cert.algebraic_AdamwOutIdeal_AdamwOutRefIdeal := by
  intro m ρ m' ρ' _ hagree
  refine ⟨fun c => (Cert.AdamwOutIdeal.Gen.dats m 0 c).arrAt 4 Cert.AdamwOutIdeal.cfg0.N,
    fun c => (Cert.AdamwOutIdeal.Gen.dats m 0 c).arrAt 5 Cert.AdamwOutIdeal.cfg0.N,
    fun c => (Cert.AdamwOutIdeal.Gen.dats m 0 c).arrAt 6 Cert.AdamwOutIdeal.cfg0.N,
    fun c => (Cert.AdamwOutIdeal.Gen.dats m 0 c).arrAt 7 Cert.AdamwOutIdeal.cfg0.N,
    Cert.AdamwOutIdeal.Value.run_blocks (F := Ideal) m ρ,
    (θ_run Cert.AdamwOutRefIdeal.defs _ _).mono (fun r h c => ⟨?_, ?_, ?_, ?_, (h c).2.2.2.2⟩)
      (Cert.AdamwOutRefIdeal.Value.run (F := Ideal) m' ρ')⟩
  · exact ((h c).1.trans ((val_main_v1_eq _).trans (ref_g (m' (c.tc.loc main_arg0)) (m' (c.tc.loc main_arg1))
      (m' (c.tc.loc main_arg2)) (m' (c.tc.loc main_arg3))))).trans
      ((congrArg arrG (state_agree c (hagree c))).trans (final_g m c).symm)
  · exact ((h c).2.1.trans ((val_main_v25_eq _ _ _ _).trans (ref_d (m' (c.tc.loc main_arg0)) (m' (c.tc.loc main_arg1))
      (m' (c.tc.loc main_arg2)) (m' (c.tc.loc main_arg3))))).trans
      ((congrArg arrD (state_agree c (hagree c))).trans (final_d m c).symm)
  · exact ((h c).2.2.1.trans ((val_main_v6_eq _ _).trans (ref_m (m' (c.tc.loc main_arg0)) (m' (c.tc.loc main_arg1))
      (m' (c.tc.loc main_arg2)) (m' (c.tc.loc main_arg3))))).trans
      ((congrArg arrM (state_agree c (hagree c))).trans (final_m m c).symm)
  · exact ((h c).2.2.2.1.trans ((val_main_v12_eq _ _).trans (ref_v (m' (c.tc.loc main_arg0)) (m' (c.tc.loc main_arg1))
      (m' (c.tc.loc main_arg2)) (m' (c.tc.loc main_arg3))))).trans
      ((congrArg arrV (state_agree c (hagree c))).trans (final_v m c).symm)

end Reference

end Cert.Proof.AdamwOut

end
-- ==== Proof.Params.Spec.lean ====
/-
  The state space model's parameters as functions of a layer's group (one of 256 rows) and a state (one of 64): the
  discretised matrices, and the gradient through the discretisation.
-/
module

public import Idealize.ShloMosaic.Lib.Pipeline.ValueKit
public import Idealize.ShloMosaic.Lib.Pointwise

@[expose] public section

noncomputable section

namespace Cert.Proof.Params

open Idealize.ShloMosaic

/-- The continuous system: the poles' real and imaginary parts, the logarithm of the step, the input matrix. -/
structure System where
  lre : Fin 256 → Fin 64 → EReal
  lim : Fin 256 → Fin 64 → EReal
  ldt : Fin 256 → EReal
  br : Fin 16 → Fin 256 → Fin 64 → EReal
  bi : Fin 16 → Fin 256 → Fin 64 → EReal

/-- The gradients that arrive at the discretised poles and at the discretised input matrix. -/
structure Arriving where
  ar : Fin 256 → Fin 64 → EReal
  ai : Fin 256 → Fin 64 → EReal
  br : Fin 16 → Fin 256 → Fin 64 → EReal
  bi : Fin 16 → Fin 256 → Fin 64 → EReal

namespace System

variable (S : System) (r : Fin 256) (n : Fin 64)

/-- The step. -/
def dt : EReal := Ideal.exp (S.ldt r)

/-- The discretised pole's magnitude. -/
def mag : EReal := Ideal.exp (S.lre r n * S.dt r)

/-- The discretised pole's angle. -/
def ang : EReal := S.lim r n * S.dt r

/-- The discretised pole's real part. -/
def are : EReal := S.mag r n * Ideal.cos (S.ang r n)

/-- The discretised pole's imaginary part. -/
def aim : EReal := S.mag r n * Ideal.sin (S.ang r n)

/-- The squared modulus of the continuous pole. -/
def den : EReal := S.lre r n * S.lre r n + S.lim r n * S.lim r n

/-- The discretised pole's real part less one. -/
def less : EReal := S.are r n - 1

/-- The numerator of the input scale's real part. -/
def numRe : EReal := S.less r n * S.lre r n + S.aim r n * S.lim r n

/-- The numerator of the input scale's imaginary part. -/
def numIm : EReal := S.aim r n * S.lre r n - S.less r n * S.lim r n

/-- The input scale's real part. -/
def qre : EReal := Ideal.div (S.numRe r n) (S.den r n)

/-- The input scale's imaginary part. -/
def qim : EReal := Ideal.div (S.numIm r n) (S.den r n)

/-- The reciprocal of the squared denominator. -/
def recip : EReal := Ideal.div 1 (S.den r n * S.den r n)

/-- The discretised input matrix's real part. -/
def bre (p : Fin 16) : EReal := S.qre r n * S.br p r n - S.qim r n * S.bi p r n

/-- The discretised input matrix's imaginary part. -/
def bim (p : Fin 16) : EReal := S.qre r n * S.bi p r n + S.qim r n * S.br p r n

variable (A : Arriving)

/-- The gradient of the input matrix's real part. -/
def dbr (p : Fin 16) : EReal := S.qim r n * A.bi p r n + S.qre r n * A.br p r n

/-- The gradient of the input matrix's imaginary part. -/
def dbi (p : Fin 16) : EReal := S.qre r n * A.bi p r n + S.qim r n * -A.br p r n

/-- The gradient of the input scale's real part. -/
def dqre : EReal := (∑ p, A.bi p r n * S.bi p r n) + ∑ p, A.br p r n * S.br p r n

/-- The gradient of the input scale's imaginary part. -/
def dqim : EReal := (∑ p, A.bi p r n * S.br p r n) + ∑ p, -A.br p r n * S.bi p r n

/-- The gradient of the real part's numerator. -/
def dnumRe : EReal := Ideal.div (S.dqre r n A) (S.den r n)

/-- The gradient of the imaginary part's numerator. -/
def dnumIm : EReal := Ideal.div (S.dqim r n A) (S.den r n)

/-- The gradient of the denominator. -/
def dden : EReal := -(S.dqim r n A * S.recip r n * S.numIm r n) + -(S.dqre r n A * S.recip r n * S.numRe r n)

/-- The gradient of the discretised pole's imaginary part. -/
def daim : EReal := A.ai r n + S.dnumIm r n A * S.lre r n + S.dnumRe r n A * S.lim r n

/-- The gradient of the discretised pole's real part. -/
def dare : EReal := A.ar r n + -S.dnumIm r n A * S.lim r n + S.dnumRe r n A * S.lre r n

/-- The gradient of the angle. -/
def dang : EReal := S.mag r n * S.daim r n A * Ideal.cos (S.ang r n) + -(S.mag r n * S.dare r n A) * Ideal.sin (S.ang r n)

/-- The gradient of the magnitude's exponent. -/
def dexp : EReal := (S.daim r n A * Ideal.sin (S.ang r n) + S.dare r n A * Ideal.cos (S.ang r n)) * S.mag r n

/-- The gradient of the poles' real parts. -/
def dlre : EReal := S.aim r n * S.dnumIm r n A + S.less r n * S.dnumRe r n A + S.lre r n * S.dden r n A
  + S.dden r n A * S.lre r n + S.dexp r n A * S.dt r

/-- The gradient of the poles' imaginary parts. -/
def dlim : EReal := S.less r n * -S.dnumIm r n A + S.aim r n * S.dnumRe r n A + S.lim r n * S.dden r n A
  + S.dden r n A * S.lim r n + S.dang r n A * S.dt r

/-- The gradient of the logarithm of the step. -/
def dldt : EReal := ((∑ k, S.lim r k * S.dang r k A) + ∑ k, S.lre r k * S.dexp r k A) * S.dt r

end System

/-- Zero less `x` is `-x`. -/
theorem zero_less (x : EReal) : 0 - x = -x := by rw [sub_eq_add_neg, zero_add]

/-- A sum over the one index of a unit axis. -/
theorem sum_unit (f : Fin 1 → EReal) : (∑ k, f k) = f 0 := Fin.sum_univ_one f

end Cert.Proof.Params

end
-- ==== Proof.Params.Kernel.lean ====
/-
  The backward kernel's five result arrays hold the gradients through the discretisation. The call has one grid point,
  whose blocks are the whole arrays.
-/
module

public import proofs.«01_k».proof.Proof.Gen.ParamsBwdIdeal.Value
public import proofs.«01_k».proof.Proof.Params.Spec

@[expose] public section

set_option maxRecDepth 16384

noncomputable section

namespace Cert.Proof.Params

open Idealize.ShloMosaic Idealize.ShloMosaic.TcCoe Idealize.SL.Sem
open Cert.ParamsBwdIdeal Cert.ParamsBwdIdeal.Gen

/-- The blocks hold the system and the arriving gradients. -/
structure Blocks (S : System) (A : Arriving) (lre lim : Vec Ideal S256x64 .f32) (ldt : Vec Ideal S256x1 .f32)
    (br bi : Vec Ideal S16x256x64 .f32) (dar dai : Vec Ideal S256x64 .f32) (dbr dbi : Vec Ideal S16x256x64 .f32) :
    Prop where
  lre : ∀ (r : Fin 256) (n : Fin 64), lre (ix2 r n) = S.lre r n
  lim : ∀ (r : Fin 256) (n : Fin 64), lim (ix2 r n) = S.lim r n
  ldt : ∀ (r : Fin 256) (k : Fin 1), ldt (ix2 r k) = S.ldt r
  br : ∀ (p : Fin 16) (r : Fin 256) (n : Fin 64), br (ix3 p r n) = S.br p r n
  bi : ∀ (p : Fin 16) (r : Fin 256) (n : Fin 64), bi (ix3 p r n) = S.bi p r n
  dar : ∀ (r : Fin 256) (n : Fin 64), dar (ix2 r n) = A.ar r n
  dai : ∀ (r : Fin 256) (n : Fin 64), dai (ix2 r n) = A.ai r n
  dbr : ∀ (p : Fin 16) (r : Fin 256) (n : Fin 64), dbr (ix3 p r n) = A.br p r n
  dbi : ∀ (p : Fin 16) (r : Fin 256) (n : Fin 64), dbi (ix3 p r n) = A.bi p r n

section Block

variable {S : System} {A : Arriving} {lre lim : Vec Ideal S256x64 .f32} {ldt : Vec Ideal S256x1 .f32}
  {br bi : Vec Ideal S16x256x64 .f32} {dar dai : Vec Ideal S256x64 .f32} {dbr dbi : Vec Ideal S16x256x64 .f32}
  (h : Blocks S A lre lim ldt br bi dar dai dbr dbi)
include h

/-- The poles' real parts. -/
theorem lre_apply (r : Fin 256) (n : Fin 64) : k0_pay3 lre (ix2 r n) = S.lre r n := by
  pointwise [k0_pay3]
  exact h.lre r n

/-- The poles' imaginary parts. -/
theorem lim_apply (r : Fin 256) (n : Fin 64) : k0_pay4 lim (ix2 r n) = S.lim r n := by
  pointwise [k0_pay4]
  exact h.lim r n

/-- The step. -/
theorem dt_apply (r : Fin 256) (k : Fin 1) : k0_pay7 ldt (ix2 r k) = S.dt r := by
  pointwise [k0_pay7]
  rw [h.ldt]
  rfl

/-- The magnitude. -/
theorem mag_apply (r : Fin 256) (n : Fin 64) : k0_pay8 lre ldt (ix2 r n) = S.mag r n := by
  pointwise [k0_pay8]
  rw [lre_apply h, dt_apply h]
  rfl

/-- The angle. -/
theorem ang_apply (r : Fin 256) (n : Fin 64) : k0_pay9 lim ldt (ix2 r n) = S.ang r n := by
  pointwise [k0_pay9]
  rw [lim_apply h, dt_apply h]
  rfl

/-- The angle's cosine. -/
theorem cos_apply (r : Fin 256) (n : Fin 64) : k0_pay10 lim ldt (ix2 r n) = Ideal.cos (S.ang r n) := by
  pointwise [k0_pay10]
  rw [ang_apply h]

/-- The angle's sine. -/
theorem sin_apply (r : Fin 256) (n : Fin 64) : k0_pay11 lim ldt (ix2 r n) = Ideal.sin (S.ang r n) := by
  pointwise [k0_pay11]
  rw [ang_apply h]

/-- The angle's sine once more. -/
theorem sin_apply' (r : Fin 256) (n : Fin 64) : k0_pay12 lim ldt (ix2 r n) = Ideal.sin (S.ang r n) := by
  pointwise [k0_pay12]
  rw [ang_apply h]

/-- The angle's cosine once more. -/
theorem cos_apply' (r : Fin 256) (n : Fin 64) : k0_pay13 lim ldt (ix2 r n) = Ideal.cos (S.ang r n) := by
  pointwise [k0_pay13]
  rw [ang_apply h]

/-- The discretised pole's imaginary part. -/
theorem aim_apply (r : Fin 256) (n : Fin 64) : k0_pay14 lre lim ldt (ix2 r n) = S.aim r n := by
  pointwise [k0_pay14]
  rw [mag_apply h, sin_apply' h]
  rfl

/-- The denominator. -/
theorem den_apply (r : Fin 256) (n : Fin 64) : k0_pay15 lre lim (ix2 r n) = S.den r n := by
  pointwise [k0_pay15]
  rw [lre_apply h, lim_apply h]
  rfl

/-- The discretised pole's real part less one. -/
theorem less_apply (r : Fin 256) (n : Fin 64) : k0_pay16 lre lim ldt (ix2 r n) = S.less r n := by
  pointwise [k0_pay16]
  rw [mag_apply h, cos_apply h]
  rfl

/-- The numerator of the input scale's real part. -/
theorem numRe_apply (r : Fin 256) (n : Fin 64) : k0_pay17 lre lim ldt (ix2 r n) = S.numRe r n := by
  pointwise [k0_pay17]
  rw [less_apply h, aim_apply h, lre_apply h, lim_apply h]
  rfl

/-- The input scale's real part. -/
theorem qre_apply (r : Fin 256) (n : Fin 64) : k0_pay18 lre lim ldt (ix2 r n) = S.qre r n := by
  pointwise [k0_pay18]
  rw [numRe_apply h, den_apply h]
  rfl

/-- The reciprocal of the squared denominator. -/
theorem recip_apply (r : Fin 256) (n : Fin 64) : k0_pay19 lre lim (ix2 r n) = S.recip r n := by
  pointwise [k0_pay19]
  rw [den_apply h]
  rfl

/-- The numerator of the input scale's imaginary part. -/
theorem numIm_apply (r : Fin 256) (n : Fin 64) : k0_pay20 lre lim ldt (ix2 r n) = S.numIm r n := by
  pointwise [k0_pay20]
  rw [less_apply h, aim_apply h, lre_apply h, lim_apply h]
  rfl

/-- The input scale's imaginary part. -/
theorem qim_apply (r : Fin 256) (n : Fin 64) : k0_pay21 lre lim ldt (ix2 r n) = S.qim r n := by
  pointwise [k0_pay21]
  rw [numIm_apply h, den_apply h]
  rfl

/-- The reciprocal of the squared denominator once more. -/
theorem recip_apply' (r : Fin 256) (n : Fin 64) : k0_pay22 lre lim (ix2 r n) = S.recip r n := by
  pointwise [k0_pay22]
  rw [den_apply h]
  rfl

/-- The gradient of the input matrix's real part. -/
theorem dbr_apply (p : Fin 16) (r : Fin 256) (n : Fin 64) :
    k0_pay34 (k0_pay23 lre lim ldt) (k0_pay26 lre lim ldt) dbr dbi (ix3 p r n) = S.dbr r n A p := by
  pointwise [k0_pay34, k0_pay23, k0_pay26, k0_pay29, k0_pay30]
  rw [qre_apply h, qim_apply h, h.dbr, h.dbi]
  rfl

/-- The gradient of the input matrix's imaginary part. -/
theorem dbi_apply (p : Fin 16) (r : Fin 256) (n : Fin 64) :
    k0_pay32 (k0_pay24 lre lim ldt) (k0_pay25 lre lim ldt) dbr dbi (ix3 p r n) = S.dbi r n A p := by
  pointwise [k0_pay32, k0_pay24, k0_pay25, k0_pay30, k0_pay31, k0_pay29]
  rw [qre_apply h, qim_apply h, h.dbr, h.dbi, zero_less]
  rfl

/-- The gradient of the input scale's imaginary part. -/
theorem dqim_apply (r : Fin 256) (n : Fin 64) : k0_pay33 (k0_pay5 br) (k0_pay6 bi) dbr dbi (ix2 r n) = S.dqim r n A := by
  pointwise [k0_pay33, k0_pay30, k0_pay31, k0_pay29, k0_pay5, k0_pay6]
  simp only [sum_unit, h.br, h.bi, h.dbr, h.dbi, zero_less]
  rfl

/-- The gradient of the input scale's real part. -/
theorem dqre_apply (r : Fin 256) (n : Fin 64) : k0_pay35 (k0_pay5 br) (k0_pay6 bi) dbr dbi (ix2 r n) = S.dqre r n A := by
  pointwise [k0_pay35, k0_pay30, k0_pay29, k0_pay5, k0_pay6]
  simp only [sum_unit, h.br, h.bi, h.dbr, h.dbi]
  rfl

/-- The denominator's share of the imaginary part. -/
theorem dnum_apply (r : Fin 256) (n : Fin 64) :
    k0_pay36 (k0_pay5 br) (k0_pay6 bi) (k0_pay20 lre lim ldt) (k0_pay22 lre lim) dbr dbi (ix2 r n)
      = S.dqim r n A * S.recip r n * S.numIm r n := by
  pointwise [k0_pay36]
  rw [dqim_apply h, recip_apply' h, numIm_apply h]

/-- The poles' real parts' gradient that arrives. -/
theorem dar_apply (r : Fin 256) (n : Fin 64) : k0_pay27 dar (ix2 r n) = A.ar r n := by
  pointwise [k0_pay27]
  exact h.dar r n

/-- The poles' imaginary parts' gradient that arrives. -/
theorem dai_apply (r : Fin 256) (n : Fin 64) : k0_pay28 dai (ix2 r n) = A.ai r n := by
  pointwise [k0_pay28]
  exact h.dai r n

end Block

/-- The values that the last part of the body starts from are the quantities they are named after. -/
structure Stage (S : System) (A : Arriving) (lre lim : FVec Ideal S256x64 .f32) (dt : FVec Ideal S256x1 .f32)
    (mag cos sin sin' cos' aim den less numRe recip dar dai dqim dqre dnum : FVec Ideal S256x64 .f32) : Prop where
  lre : ∀ (r : Fin 256) (n : Fin 64), lre (ix2 r n) = S.lre r n
  lim : ∀ (r : Fin 256) (n : Fin 64), lim (ix2 r n) = S.lim r n
  dt : ∀ (r : Fin 256) (k : Fin 1), dt (ix2 r k) = S.dt r
  mag : ∀ (r : Fin 256) (n : Fin 64), mag (ix2 r n) = S.mag r n
  cos : ∀ (r : Fin 256) (n : Fin 64), cos (ix2 r n) = Ideal.cos (S.ang r n)
  sin : ∀ (r : Fin 256) (n : Fin 64), sin (ix2 r n) = Ideal.sin (S.ang r n)
  sin' : ∀ (r : Fin 256) (n : Fin 64), sin' (ix2 r n) = Ideal.sin (S.ang r n)
  cos' : ∀ (r : Fin 256) (n : Fin 64), cos' (ix2 r n) = Ideal.cos (S.ang r n)
  aim : ∀ (r : Fin 256) (n : Fin 64), aim (ix2 r n) = S.aim r n
  den : ∀ (r : Fin 256) (n : Fin 64), den (ix2 r n) = S.den r n
  less : ∀ (r : Fin 256) (n : Fin 64), less (ix2 r n) = S.less r n
  numRe : ∀ (r : Fin 256) (n : Fin 64), numRe (ix2 r n) = S.numRe r n
  recip : ∀ (r : Fin 256) (n : Fin 64), recip (ix2 r n) = S.recip r n
  dar : ∀ (r : Fin 256) (n : Fin 64), dar (ix2 r n) = A.ar r n
  dai : ∀ (r : Fin 256) (n : Fin 64), dai (ix2 r n) = A.ai r n
  dqim : ∀ (r : Fin 256) (n : Fin 64), dqim (ix2 r n) = S.dqim r n A
  dqre : ∀ (r : Fin 256) (n : Fin 64), dqre (ix2 r n) = S.dqre r n A
  dnum : ∀ (r : Fin 256) (n : Fin 64), dnum (ix2 r n) = S.dqim r n A * S.recip r n * S.numIm r n

section Last

variable {S : System} {A : Arriving} {lre lim : FVec Ideal S256x64 .f32} {dt : FVec Ideal S256x1 .f32}
  {mag cos sin sin' cos' aim den less numRe recip dar dai dqim dqre dnum : FVec Ideal S256x64 .f32}
  (h : Stage S A lre lim dt mag cos sin sin' cos' aim den less numRe recip dar dai dqim dqre dnum)
include h

/-- The gradient of the imaginary numerator. -/
theorem dnumIm_apply (r : Fin 256) (n : Fin 64) : k0_pay37 den dqim (ix2 r n) = S.dnumIm r n A := by
  pointwise [k0_pay37]
  rw [h.den, h.dqim]
  rfl

/-- The gradient of the imaginary numerator, negated. -/
theorem neg_dnumIm_apply (r : Fin 256) (n : Fin 64) : k0_pay38 den dqim (ix2 r n) = -S.dnumIm r n A := by
  pointwise [k0_pay38]
  rw [dnumIm_apply h, zero_less]

/-- The gradient of the real numerator. -/
theorem dnumRe_apply (r : Fin 256) (n : Fin 64) : k0_pay40 den dqre (ix2 r n) = S.dnumRe r n A := by
  pointwise [k0_pay40]
  rw [h.den, h.dqre]
  rfl

/-- The gradient of the denominator. -/
theorem dden_apply (r : Fin 256) (n : Fin 64) :
    k0_pay39 numRe recip dqre dnum (0 : EReal) (ix2 r n) = S.dden r n A := by
  pointwise [k0_pay39]
  rw [h.dqre, h.recip, h.numRe, h.dnum, zero_less, zero_less]
  rfl

/-- The gradient of the discretised pole's imaginary part. -/
theorem daim_apply (r : Fin 256) (n : Fin 64) : k0_pay41 lre lim den dai dqim dqre (ix2 r n) = S.daim r n A := by
  pointwise [k0_pay41]
  rw [dnumIm_apply h, dnumRe_apply h, h.dai, h.lre, h.lim]
  rfl

/-- The gradient of the discretised pole's real part. -/
theorem dare_apply (r : Fin 256) (n : Fin 64) : k0_pay42 lre lim den dar dqim dqre (ix2 r n) = S.dare r n A := by
  pointwise [k0_pay42]
  rw [neg_dnumIm_apply h, dnumRe_apply h, h.dar, h.lre, h.lim]
  rfl

/-- The gradient of the angle. -/
theorem dang_apply (r : Fin 256) (n : Fin 64) :
    k0_pay44 lre lim mag sin cos' den dar dai dqim dqre (ix2 r n) = S.dang r n A := by
  pointwise [k0_pay44]
  rw [daim_apply h, dare_apply h, h.mag, h.sin, h.cos', zero_less]
  rfl

/-- The gradient of the magnitude's exponent. -/
theorem dexp_apply (r : Fin 256) (n : Fin 64) :
    k0_pay46 lre lim mag cos sin' den dar dai dqim dqre (ix2 r n) = S.dexp r n A := by
  pointwise [k0_pay46]
  rw [daim_apply h, dare_apply h, h.mag, h.sin', h.cos]
  rfl

/-- The gradient of the poles' real parts. -/
theorem dlre_apply (r : Fin 256) (n : Fin 64) :
    k0_pay1 (k0_pay43 lre aim den less numRe recip dqim dqre dnum (FloatOps.ofBits FTy.f32 0#32))
      (k0_pay46 lre lim mag cos sin' den dar dai dqim dqre) (k0_pay48 dt) (ix2 r n) = S.dlre r n A := by
  pointwise [k0_pay1, k0_pay43, k0_pay48]
  rw [dexp_apply h, dden_apply h, dnumIm_apply h, dnumRe_apply h, h.aim, h.less, h.lre, h.dt]
  rfl

/-- The gradient of the poles' imaginary parts. -/
theorem dlim_apply (r : Fin 256) (n : Fin 64) :
    k0_pay45 lre lim dt mag sin cos' aim den less numRe recip dar dai dqim dqre dnum (FloatOps.ofBits FTy.f32 0#32) (ix2 r n)
      = S.dlim r n A := by
  pointwise [k0_pay45]
  rw [dang_apply h, dden_apply h, neg_dnumIm_apply h, dnumRe_apply h, h.aim, h.less, h.lim, h.dt]
  rfl

/-- The gradient of the logarithm of the step. -/
theorem dldt_apply (r : Fin 256) (k : Fin 1) :
    k0_pay2 dt (k0_pay47 lre lim mag cos sin sin' cos' den dar dai dqim dqre) (ix2 r k) = S.dldt r A := by
  pointwise [k0_pay2, k0_pay47]
  simp only [dang_apply h, dexp_apply h, h.lre, h.lim, h.dt]
  rfl

end Last

/-! The values named with all nine blocks, written with the blocks they read. -/

section Names

variable (lre lim : Vec Ideal S256x64 .f32) (ldt : Vec Ideal S256x1 .f32)
  (br bi : Vec Ideal S16x256x64 .f32) (dar dai : Vec Ideal S256x64 .f32) (dbr dbi : Vec Ideal S16x256x64 .f32)

/-- The poles' real parts. -/
theorem name49 : k0_pay49 lre lim ldt br bi dar dai dbr dbi = k0_pay3 lre := by
  unfold k0_pay49
  repeat rw [View.ld_unit_zero (by decide)]

/-- The poles' imaginary parts. -/
theorem name50 : k0_pay50 lre lim ldt br bi dar dai dbr dbi = k0_pay4 lim := by
  unfold k0_pay50
  repeat rw [View.ld_unit_zero (by decide)]

/-- The step. -/
theorem name53 : k0_pay53 lre lim ldt br bi dar dai dbr dbi = k0_pay7 ldt := by
  unfold k0_pay53
  repeat rw [View.ld_unit_zero (by decide)]

/-- The magnitude. -/
theorem name54 : k0_pay54 lre lim ldt br bi dar dai dbr dbi = k0_pay8 lre ldt := by
  unfold k0_pay54
  repeat rw [View.ld_unit_zero (by decide)]

/-- The cosine. -/
theorem name55 : k0_pay55 lre lim ldt br bi dar dai dbr dbi = k0_pay10 lim ldt := by
  unfold k0_pay55
  repeat rw [View.ld_unit_zero (by decide)]

/-- The sine. -/
theorem name56 : k0_pay56 lre lim ldt br bi dar dai dbr dbi = k0_pay11 lim ldt := by
  unfold k0_pay56
  repeat rw [View.ld_unit_zero (by decide)]

/-- The second sine. -/
theorem name57 : k0_pay57 lre lim ldt br bi dar dai dbr dbi = k0_pay12 lim ldt := by
  unfold k0_pay57
  repeat rw [View.ld_unit_zero (by decide)]

/-- The second cosine. -/
theorem name58 : k0_pay58 lre lim ldt br bi dar dai dbr dbi = k0_pay13 lim ldt := by
  unfold k0_pay58
  repeat rw [View.ld_unit_zero (by decide)]

/-- The imaginary part. -/
theorem name59 : k0_pay59 lre lim ldt br bi dar dai dbr dbi = k0_pay14 lre lim ldt := by
  unfold k0_pay59
  repeat rw [View.ld_unit_zero (by decide)]

/-- The denominator. -/
theorem name60 : k0_pay60 lre lim ldt br bi dar dai dbr dbi = k0_pay15 lre lim := by
  unfold k0_pay60
  repeat rw [View.ld_unit_zero (by decide)]

/-- The real part less one. -/
theorem name61 : k0_pay61 lre lim ldt br bi dar dai dbr dbi = k0_pay16 lre lim ldt := by
  unfold k0_pay61
  repeat rw [View.ld_unit_zero (by decide)]

/-- The real numerator. -/
theorem name62 : k0_pay62 lre lim ldt br bi dar dai dbr dbi = k0_pay17 lre lim ldt := by
  unfold k0_pay62
  repeat rw [View.ld_unit_zero (by decide)]

/-- The reciprocal. -/
theorem name63 : k0_pay63 lre lim ldt br bi dar dai dbr dbi = k0_pay19 lre lim := by
  unfold k0_pay63
  repeat rw [View.ld_unit_zero (by decide)]

/-- The first arriving gradient. -/
theorem name64 : k0_pay64 lre lim ldt br bi dar dai dbr dbi = k0_pay27 dar := by
  unfold k0_pay64
  repeat rw [View.ld_unit_zero (by decide)]

/-- The second arriving gradient. -/
theorem name65 : k0_pay65 lre lim ldt br bi dar dai dbr dbi = k0_pay28 dai := by
  unfold k0_pay65
  repeat rw [View.ld_unit_zero (by decide)]

/-- The imaginary scale's gradient. -/
theorem name66 : k0_pay66 lre lim ldt br bi dar dai dbr dbi = k0_pay33 (k0_pay5 br) (k0_pay6 bi) dbr dbi := by
  unfold k0_pay66 k0_pay51 k0_pay52
  repeat rw [View.ld_unit_zero (by decide)]

/-- The real scale's gradient. -/
theorem name67 : k0_pay67 lre lim ldt br bi dar dai dbr dbi = k0_pay35 (k0_pay5 br) (k0_pay6 bi) dbr dbi := by
  unfold k0_pay67 k0_pay51 k0_pay52
  repeat rw [View.ld_unit_zero (by decide)]

/-- The denominator's imaginary share. -/
theorem name68 : k0_pay68 lre lim ldt br bi dar dai dbr dbi = k0_pay36 (k0_pay5 br) (k0_pay6 bi) (k0_pay20 lre lim ldt) (k0_pay22 lre lim) dbr dbi := by
  unfold k0_pay68 k0_pay51 k0_pay52
  repeat rw [View.ld_unit_zero (by decide)]

end Names

section Whole

variable {S : System} {A : Arriving} {lre lim : Vec Ideal S256x64 .f32} {ldt : Vec Ideal S256x1 .f32}
  {br bi : Vec Ideal S16x256x64 .f32} {dar dai : Vec Ideal S256x64 .f32} {dbr dbi : Vec Ideal S16x256x64 .f32}
  (h : Blocks S A lre lim ldt br bi dar dai dbr dbi)
include h

/-- What the first part of the body leaves for the last. -/
theorem stage : Stage S A (k0_pay49 lre lim ldt br bi dar dai dbr dbi)
    (k0_pay50 lre lim ldt br bi dar dai dbr dbi)
    (k0_pay53 lre lim ldt br bi dar dai dbr dbi)
    (k0_pay54 lre lim ldt br bi dar dai dbr dbi)
    (k0_pay55 lre lim ldt br bi dar dai dbr dbi)
    (k0_pay56 lre lim ldt br bi dar dai dbr dbi)
    (k0_pay57 lre lim ldt br bi dar dai dbr dbi)
    (k0_pay58 lre lim ldt br bi dar dai dbr dbi)
    (k0_pay59 lre lim ldt br bi dar dai dbr dbi)
    (k0_pay60 lre lim ldt br bi dar dai dbr dbi)
    (k0_pay61 lre lim ldt br bi dar dai dbr dbi)
    (k0_pay62 lre lim ldt br bi dar dai dbr dbi)
    (k0_pay63 lre lim ldt br bi dar dai dbr dbi)
    (k0_pay64 lre lim ldt br bi dar dai dbr dbi)
    (k0_pay65 lre lim ldt br bi dar dai dbr dbi)
    (k0_pay66 lre lim ldt br bi dar dai dbr dbi)
    (k0_pay67 lre lim ldt br bi dar dai dbr dbi)
    (k0_pay68 lre lim ldt br bi dar dai dbr dbi) := by
  rw [name49, name50, name53, name54, name55, name56, name57, name58, name59, name60, name61, name62, name63, name64, name65, name66, name67, name68]
  exact {
    lre := lre_apply h
    lim := lim_apply h
    dt := dt_apply h
    mag := mag_apply h
    cos := cos_apply h
    sin := sin_apply h
    sin' := sin_apply' h
    cos' := cos_apply' h
    aim := aim_apply h
    den := den_apply h
    less := less_apply h
    numRe := numRe_apply h
    recip := recip_apply h
    dar := dar_apply h
    dai := dai_apply h
    dqim := dqim_apply h
    dqre := dqre_apply h
    dnum := dnum_apply h }

/-- The first result's block. -/
theorem out_lre (r : Fin 256) (n : Fin 64) : out0_9 lre lim ldt br bi dar dai dbr dbi (ix2 r n) = S.dlre r n A := by
  frame_out
  exact dlre_apply (stage h) r n

/-- The second result's block. -/
theorem out_lim (r : Fin 256) (n : Fin 64) : out0_10 lre lim ldt br bi dar dai dbr dbi (ix2 r n) = S.dlim r n A := by
  frame_out
  exact dlim_apply (stage h) r n

/-- The third result's block. -/
theorem out_ldt (r : Fin 256) (k : Fin 1) : out0_11 lre lim ldt br bi dar dai dbr dbi (ix2 r k) = S.dldt r A := by
  frame_out
  exact dldt_apply (stage h) r k

/-- The fourth result's block. -/
theorem out_br (p : Fin 16) (r : Fin 256) (n : Fin 64) : out0_12 lre lim ldt br bi dar dai dbr dbi (ix3 p r n) = S.dbr r n A p := by
  frame_out
  exact dbr_apply h p r n

/-- The fifth result's block. -/
theorem out_bi (p : Fin 16) (r : Fin 256) (n : Fin 64) : out0_13 lre lim ldt br bi dar dai dbr dbi (ix3 p r n) = S.dbi r n A p := by
  frame_out
  exact dbi_apply h p r n

end Whole

end Cert.Proof.Params

end
-- ==== Proof.Params.Layout.lean ====
/-
  A layer's groups laid out as rows, and a matrix's columns moved to the front: what the host does to the arguments.
-/
module

public import proofs.«01_k».proof.Proof.Gen.ParamsBwdIdeal.Frame
public import proofs.«01_k».proof.Proof.Params.Spec

@[expose] public section

set_option maxRecDepth 16384

noncomputable section

namespace Cert.Proof.Params

open Idealize.ShloMosaic Cert.ParamsBwdIdeal

/-- The layer of a row. -/
def layer (r : Fin 256) : Fin 4 := ⟨r.val / 64, by omega⟩

/-- The group of a row. -/
def group (r : Fin 256) : Fin 64 := ⟨r.val % 64, by omega⟩

/-- Layers of groups as rows. -/
theorem rows_apply (x : Vec Ideal S4x64x64 .f32) (h : S4x64x64.ShapeCasts S256x64) (r : Fin 256) (n : Fin 64) :
    shapeCast S256x64 x h (ix2 r n) = x (ix3 (layer r) (group r) n) := by
  pointwise []
  rfl

/-- Layers of groups as rows of one element. -/
theorem steps_apply (x : Vec Ideal S4x64 .f32) (h : S4x64.ShapeCasts S256x1) (r : Fin 256) (k : Fin 1) :
    shapeCast S256x1 x h (ix2 r k) = x (ix2 (layer r) (group r)) := by
  pointwise []
  rfl

/-- Columns moved to the front of layers of groups, and these as rows. -/
theorem columns_apply (x : Vec Ideal S4x64x64x16 .f32) (ht : S4x64x64x16.Transposes [3, 0, 1, 2] S16x4x64x64)
    (h : S16x4x64x64.ShapeCasts S16x256x64) (p : Fin 16) (r : Fin 256) (n : Fin 64) :
    shapeCast S16x256x64 (transpose S16x4x64x64 [3, 0, 1, 2] x ht) h (ix3 p r n) = x (ix4 (layer r) (group r) n p) := by
  pointwise []
  rfl

end Cert.Proof.Params

end
-- ==== Proof.Params.Reference.lean ====
/-
  The reference's five results are the gradients through the discretisation, one layer's group at a time.
-/
module

public import proofs.«01_k».proof.Proof.Gen.ParamsBwdRefIdeal.Read
public import proofs.«01_k».proof.Proof.Params.Spec

@[expose] public section

set_option maxRecDepth 16384

noncomputable section

namespace Cert.Proof.Params

open Idealize.ShloMosaic Cert.ParamsBwdRefIdeal Cert.ParamsBwdRefIdeal.Read

/-- The row of layer `l`'s group `g`. -/
def row (l : Fin 4) (g : Fin 64) : Fin 256 := ⟨l.val * 64 + g.val, by omega⟩

/-- A row is the one of its layer and its group. -/
theorem row_split (r : Fin 256) (h₁ : r.val / 64 < 4) (h₂ : r.val % 64 < 64) : row ⟨r.val / 64, h₁⟩ ⟨r.val % 64, h₂⟩ = r :=
  Fin.ext (by simp only [row]; omega)

/-- The arrays hold the system and the arriving gradients. -/
structure Holds (S : System) (A : Arriving) (lre lim : Vec Ideal S4x64x64 .f32) (ldt : Vec Ideal S4x64 .f32)
    (br bi : Vec Ideal S4x64x64x16 .f32) (dar dai : Vec Ideal S4x64x64 .f32) (dbr dbi : Vec Ideal S4x64x64x16 .f32) :
    Prop where
  lre : ∀ (l : Fin 4) (g n : Fin 64), lre (ix3 l g n) = S.lre (row l g) n
  lim : ∀ (l : Fin 4) (g n : Fin 64), lim (ix3 l g n) = S.lim (row l g) n
  ldt : ∀ (l : Fin 4) (g : Fin 64), ldt (ix2 l g) = S.ldt (row l g)
  br : ∀ (l : Fin 4) (g n : Fin 64) (p : Fin 16), br (ix4 l g n p) = S.br p (row l g) n
  bi : ∀ (l : Fin 4) (g n : Fin 64) (p : Fin 16), bi (ix4 l g n p) = S.bi p (row l g) n
  dar : ∀ (l : Fin 4) (g n : Fin 64), dar (ix3 l g n) = A.ar (row l g) n
  dai : ∀ (l : Fin 4) (g n : Fin 64), dai (ix3 l g n) = A.ai (row l g) n
  dbr : ∀ (l : Fin 4) (g n : Fin 64) (p : Fin 16), dbr (ix4 l g n p) = A.br p (row l g) n
  dbi : ∀ (l : Fin 4) (g n : Fin 64) (p : Fin 16), dbi (ix4 l g n p) = A.bi p (row l g) n

section Stages

variable {S : System} {A : Arriving} {lre lim : Vec Ideal S4x64x64 .f32} {ldt : Vec Ideal S4x64 .f32}
  {br bi : Vec Ideal S4x64x64x16 .f32} {dar dai : Vec Ideal S4x64x64 .f32} {dbr dbi : Vec Ideal S4x64x64x16 .f32}
  (h : Holds S A lre lim ldt br bi dar dai dbr dbi)
include h

/-- The step. -/
theorem ref_dt (l : Fin 4) (g : Fin 64) : val_main_v0 ldt (ix2 l g) = S.dt (row l g) := by
  pointwise [val_main_v0]
  rw [h.ldt]
  rfl

/-- The magnitude. -/
theorem ref_mag (l : Fin 4) (g : Fin 64) (n : Fin 64) : val_main_v4 lre ldt (ix3 l g n) = S.mag (row l g) n := by
  pointwise [val_main_v4, val_main_v3, val_main_v2, val_main_v1]
  rw [ref_dt h, h.lre]
  rfl

/-- The angle. -/
theorem ref_ang (l : Fin 4) (g : Fin 64) (n : Fin 64) : val_main_v6 lim ldt (ix3 l g n) = S.ang (row l g) n := by
  pointwise [val_main_v6, val_main_v5, val_main_v1]
  rw [ref_dt h, h.lim]
  rfl

/-- The angle's cosine. -/
theorem ref_cos (l : Fin 4) (g : Fin 64) (n : Fin 64) : val_main_v7 lim ldt (ix3 l g n) = Ideal.cos (S.ang (row l g) n) := by
  pointwise [val_main_v7]
  rw [ref_ang h]

/-- The angle's sine. -/
theorem ref_sin (l : Fin 4) (g : Fin 64) (n : Fin 64) : val_main_v8 lim ldt (ix3 l g n) = Ideal.sin (S.ang (row l g) n) := by
  pointwise [val_main_v8]
  rw [ref_ang h]

/-- The angle's sine once more. -/
theorem ref_sin' (l : Fin 4) (g : Fin 64) (n : Fin 64) : val_main_v10 lim ldt (ix3 l g n) = Ideal.sin (S.ang (row l g) n) := by
  pointwise [val_main_v10]
  rw [ref_ang h]

/-- The angle's cosine once more. -/
theorem ref_cos' (l : Fin 4) (g : Fin 64) (n : Fin 64) : val_main_v11 lim ldt (ix3 l g n) = Ideal.cos (S.ang (row l g) n) := by
  pointwise [val_main_v11]
  rw [ref_ang h]

/-- The discretised pole's imaginary part. -/
theorem ref_aim (l : Fin 4) (g : Fin 64) (n : Fin 64) : val_main_v12 lre lim ldt (ix3 l g n) = S.aim (row l g) n := by
  pointwise [val_main_v12]
  rw [ref_mag h, ref_sin' h]
  rfl

/-- The denominator. -/
theorem ref_den (l : Fin 4) (g : Fin 64) (n : Fin 64) : val_main_v15 lre lim (ix3 l g n) = S.den (row l g) n := by
  pointwise [val_main_v15, val_main_v13, val_main_v14]
  rw [h.lre, h.lim]
  rfl

/-- The discretised pole's real part less one. -/
theorem ref_less (l : Fin 4) (g : Fin 64) (n : Fin 64) : val_main_v17 lre lim ldt (ix3 l g n) = S.less (row l g) n := by
  pointwise [val_main_v17, val_main_v9, val_main_v16, val_main_cst]
  rw [ref_mag h, ref_cos h]
  rfl

/-- The real numerator. -/
theorem ref_numRe (l : Fin 4) (g : Fin 64) (n : Fin 64) : val_main_v20 lre lim ldt (ix3 l g n) = S.numRe (row l g) n := by
  pointwise [val_main_v20, val_main_v18, val_main_v19]
  rw [ref_less h, ref_aim h, h.lre, h.lim]
  rfl

/-- The input scale's real part. -/
theorem ref_qre (l : Fin 4) (g : Fin 64) (n : Fin 64) : val_main_v21 lre lim ldt (ix3 l g n) = S.qre (row l g) n := by
  pointwise [val_main_v21]
  rw [ref_numRe h, ref_den h]
  rfl

/-- The reciprocal of the squared denominator. -/
theorem ref_recip (l : Fin 4) (g : Fin 64) (n : Fin 64) : val_main_v24 lre lim (ix3 l g n) = S.recip (row l g) n := by
  pointwise [val_main_v24, val_main_v22, val_main_v23, val_main_cst_0]
  rw [ref_den h]
  rfl

/-- The imaginary numerator. -/
theorem ref_numIm (l : Fin 4) (g : Fin 64) (n : Fin 64) : val_main_v27 lre lim ldt (ix3 l g n) = S.numIm (row l g) n := by
  pointwise [val_main_v27, val_main_v25, val_main_v26]
  rw [ref_less h, ref_aim h, h.lre, h.lim]
  rfl

/-- The input scale's imaginary part. -/
theorem ref_qim (l : Fin 4) (g : Fin 64) (n : Fin 64) : val_main_v28 lre lim ldt (ix3 l g n) = S.qim (row l g) n := by
  pointwise [val_main_v28]
  rw [ref_numIm h, ref_den h]
  rfl

/-- The reciprocal of the squared denominator once more. -/
theorem ref_recip' (l : Fin 4) (g : Fin 64) (n : Fin 64) : val_main_v31 lre lim (ix3 l g n) = S.recip (row l g) n := by
  pointwise [val_main_v31, val_main_v29, val_main_v30, val_main_cst_1]
  rw [ref_den h]
  rfl

/-- The gradient of the input matrix's imaginary part. -/
theorem ref_dbi (l : Fin 4) (g : Fin 64) (n : Fin 64) (p : Fin 16) : val_main_v64 lre lim ldt dbr dbi (ix4 l g n p) = S.dbi (row l g) n A p := by
  pointwise [val_main_v64, val_main_v55, val_main_v54, val_main_v39, val_main_v46, val_main_v63, val_main_v62, val_main_v35, val_main_v61]
  rw [ref_qre h, ref_qim h, h.dbr, h.dbi]
  rfl

/-- The gradient of the input matrix's real part. -/
theorem ref_dbr (l : Fin 4) (g : Fin 64) (n : Fin 64) (p : Fin 16) : val_main_v72 lre lim ldt dbr dbi (ix4 l g n p) = S.dbr (row l g) n A p := by
  pointwise [val_main_v72, val_main_v49, val_main_v48, val_main_v42, val_main_v47, val_main_v71, val_main_v70, val_main_v32, val_main_v60]
  rw [ref_qre h, ref_qim h, h.dbr, h.dbi]
  rfl

/-- The gradient of the input scale's imaginary part. -/
theorem ref_dqim (l : Fin 4) (g : Fin 64) (n : Fin 64) : val_main_v69 br bi dbr dbi (ix3 l g n) = S.dqim (row l g) n A := by
  pointwise [val_main_v69, val_main_v53, val_main_cst_2, val_main_cst_3, val_main_cst_6, val_main_cst_7, val_main_v52, val_main_v51, val_main_v50, val_main_v47, val_main_v68, val_main_v67, val_main_v66, val_main_v65, val_main_v61]
  simp only [sum_unit, h.dbr, h.dbi, h.br, h.bi, zero_add]
  rfl

/-- The gradient of the input scale's real part. -/
theorem ref_dqre (l : Fin 4) (g : Fin 64) (n : Fin 64) : val_main_v77 br bi dbr dbi (ix3 l g n) = S.dqre (row l g) n A := by
  pointwise [val_main_v77, val_main_v59, val_main_cst_4, val_main_cst_5, val_main_cst_8, val_main_cst_9, val_main_v58, val_main_v57, val_main_v56, val_main_v46, val_main_v76, val_main_v75, val_main_v74, val_main_v73, val_main_v60]
  simp only [sum_unit, h.dbr, h.dbi, h.br, h.bi, zero_add]
  rfl

/-- The gradient of the imaginary numerator. -/
theorem ref_dnumIm (l : Fin 4) (g : Fin 64) (n : Fin 64) : val_main_v81 lre lim br bi dbr dbi (ix3 l g n) = S.dnumIm (row l g) n A := by
  pointwise [val_main_v81]
  rw [ref_dqim h, ref_den h]
  rfl

/-- The gradient of the imaginary numerator, negated. -/
theorem ref_neg_dnumIm (l : Fin 4) (g : Fin 64) (n : Fin 64) : val_main_v82 lre lim br bi dbr dbi (ix3 l g n) = -S.dnumIm (row l g) n A := by
  pointwise [val_main_v82]
  rw [ref_dnumIm h]

/-- The gradient of the real numerator. -/
theorem ref_dnumRe (l : Fin 4) (g : Fin 64) (n : Fin 64) : val_main_v93 lre lim br bi dbr dbi (ix3 l g n) = S.dnumRe (row l g) n A := by
  pointwise [val_main_v93]
  rw [ref_dqre h, ref_den h]
  rfl

/-- The gradient of the denominator. -/
theorem ref_dden (l : Fin 4) (g : Fin 64) (n : Fin 64) : val_main_v92 lre lim ldt br bi dbr dbi (ix3 l g n) = S.dden (row l g) n A := by
  pointwise [val_main_v92, val_main_v80, val_main_v79, val_main_v78, val_main_v91, val_main_v90, val_main_v89]
  rw [ref_dqim h, ref_dqre h, ref_recip h, ref_recip' h, ref_numRe h, ref_numIm h]
  rfl

/-- The gradient of the discretised pole's imaginary part. -/
theorem ref_daim (l : Fin 4) (g : Fin 64) (n : Fin 64) : val_main_v97 lre lim br bi dai dbr dbi (ix3 l g n) = S.daim (row l g) n A := by
  pointwise [val_main_v97, val_main_v88, val_main_v87, val_main_v96]
  rw [ref_dnumIm h, ref_dnumRe h, h.dai, h.lre, h.lim]
  rfl

/-- The gradient of the discretised pole's real part. -/
theorem ref_dare (l : Fin 4) (g : Fin 64) (n : Fin 64) : val_main_v101 lre lim br bi dar dbr dbi (ix3 l g n) = S.dare (row l g) n A := by
  pointwise [val_main_v101, val_main_v85, val_main_v84, val_main_v100]
  rw [ref_neg_dnumIm h, ref_dnumRe h, h.dar, h.lre, h.lim]
  rfl

/-- The gradient of the angle. -/
theorem ref_dang (l : Fin 4) (g : Fin 64) (n : Fin 64) : val_main_v118 lre lim ldt br bi dar dai dbr dbi (ix3 l g n) = S.dang (row l g) n A := by
  pointwise [val_main_v118, val_main_v112, val_main_v110, val_main_v117, val_main_v116, val_main_v113]
  rw [ref_daim h, ref_dare h, ref_mag h, ref_cos' h, ref_sin h]
  rfl

/-- The gradient of the magnitude's exponent. -/
theorem ref_dexp (l : Fin 4) (g : Fin 64) (n : Fin 64) : val_main_v125 lre lim ldt br bi dar dai dbr dbi (ix3 l g n) = S.dexp (row l g) n A := by
  pointwise [val_main_v125, val_main_v115, val_main_v111, val_main_v114]
  rw [ref_daim h, ref_dare h, ref_mag h, ref_cos h, ref_sin' h]
  rfl

/-- The gradient of the poles' real parts. -/
theorem ref_dlre (l : Fin 4) (g : Fin 64) (n : Fin 64) : val_main_v132 lre lim ldt br bi dar dai dbr dbi (ix3 l g n) = S.dlre (row l g) n A := by
  pointwise [val_main_v132, val_main_v109, val_main_v107, val_main_v99, val_main_v86, val_main_v98, val_main_v106, val_main_v108, val_main_v131, val_main_v130, val_main_v1]
  rw [ref_dexp h, ref_dden h, ref_dnumIm h, ref_dnumRe h, ref_aim h, ref_less h, ref_dt h, h.lre]
  rfl

/-- The gradient of the poles' imaginary parts. -/
theorem ref_dlim (l : Fin 4) (g : Fin 64) (n : Fin 64) : val_main_v124 lre lim ldt br bi dar dai dbr dbi (ix3 l g n) = S.dlim (row l g) n A := by
  pointwise [val_main_v124, val_main_v105, val_main_v103, val_main_v95, val_main_v83, val_main_v94, val_main_v102, val_main_v104, val_main_v123, val_main_v122, val_main_v1]
  rw [ref_dang h, ref_dden h, ref_neg_dnumIm h, ref_dnumRe h, ref_aim h, ref_less h, ref_dt h, h.lim]
  rfl

/-- The gradient of the logarithm of the step. -/
theorem ref_dldt (l : Fin 4) (g : Fin 64) : val_main_v134 lre lim ldt br bi dar dai dbr dbi (ix2 l g) = S.dldt (row l g) A := by
  pointwise [val_main_v134, val_main_v133, val_main_cst_10, val_main_cst_11, val_main_cst_12, val_main_v129, val_main_v121, val_main_v120, val_main_v119, val_main_v128, val_main_v127, val_main_v126]
  simp only [sum_unit, ref_dang h, ref_dexp h, ref_dt h, h.lre, h.lim, zero_add]
  rfl

/-- The first result. -/
theorem ref_lre (r : Fin 256) (n : Fin 64) : val_main_v135 lre lim ldt br bi dar dai dbr dbi (ix2 r n) = S.dlre r n A := by
  pointwise [val_main_v135]
  rw [ref_dlre h, row_split]

/-- The second result. -/
theorem ref_lim (r : Fin 256) (n : Fin 64) : val_main_v136 lre lim ldt br bi dar dai dbr dbi (ix2 r n) = S.dlim r n A := by
  pointwise [val_main_v136]
  rw [ref_dlim h, row_split]

/-- The third result. -/
theorem ref_ldt (r : Fin 256) (k : Fin 1) : val_main_v137 lre lim ldt br bi dar dai dbr dbi (ix2 r k) = S.dldt r A := by
  pointwise [val_main_v137]
  rw [ref_dldt h, row_split]

/-- The fourth result. -/
theorem ref_br (p : Fin 16) (r : Fin 256) (n : Fin 64) : val_main_v139 lre lim ldt dbr dbi (ix3 p r n) = S.dbr r n A p := by
  pointwise [val_main_v139, val_main_v138]
  rw [ref_dbr h, row_split]

/-- The fifth result. -/
theorem ref_bi (p : Fin 16) (r : Fin 256) (n : Fin 64) : val_main_v141 lre lim ldt dbr dbi (ix3 p r n) = S.dbi r n A p := by
  pointwise [val_main_v141, val_main_v140]
  rw [ref_dbi h, row_split]

end Stages

end Cert.Proof.Params

end
-- ==== Proof.Params.Arrays.lean ====
/-
  The system and the arriving gradients that arrays of four layers of 64 groups hold, and the results as arrays.
-/
module

public import proofs.«01_k».proof.Proof.Params.Layout
public import proofs.«01_k».proof.Proof.Params.Reference

@[expose] public section

set_option maxRecDepth 16384

noncomputable section

namespace Cert.Proof.Params

open Idealize.ShloMosaic Cert.ParamsBwdRefIdeal Cert.ParamsBwdRefIdeal.Read

/-- The layer of the row of layer `l`'s group `g` is `l`. -/
theorem layer_row (l : Fin 4) (g : Fin 64) : layer (row l g) = l := Fin.ext (by simp only [layer, row]; omega)

/-- The group of the row of layer `l`'s group `g` is `g`. -/
theorem group_row (l : Fin 4) (g : Fin 64) : group (row l g) = g := Fin.ext (by simp only [group, row]; omega)

variable (lre lim : Vec Ideal S4x64x64 .f32) (ldt : Vec Ideal S4x64 .f32) (br bi : Vec Ideal S4x64x64x16 .f32)
  (dar dai : Vec Ideal S4x64x64 .f32) (dbr dbi : Vec Ideal S4x64x64x16 .f32)

/-- The system of the parameters' arrays. -/
def systemOf : System where
  lre r n := lre (ix3 (layer r) (group r) n)
  lim r n := lim (ix3 (layer r) (group r) n)
  ldt r := ldt (ix2 (layer r) (group r))
  br p r n := br (ix4 (layer r) (group r) n p)
  bi p r n := bi (ix4 (layer r) (group r) n p)

/-- The arriving gradients of their arrays. -/
def arrivingOf : Arriving where
  ar r n := dar (ix3 (layer r) (group r) n)
  ai r n := dai (ix3 (layer r) (group r) n)
  br p r n := dbr (ix4 (layer r) (group r) n p)
  bi p r n := dbi (ix4 (layer r) (group r) n p)

/-- The arrays hold what is read off them. -/
theorem holds : Holds (systemOf lre lim ldt br bi) (arrivingOf dar dai dbr dbi) lre lim ldt br bi dar dai dbr dbi where
  lre l g n := by simp only [systemOf, layer_row, group_row]
  lim l g n := by simp only [systemOf, layer_row, group_row]
  ldt l g := by simp only [systemOf, layer_row, group_row]
  br l g n p := by simp only [systemOf, layer_row, group_row]
  bi l g n p := by simp only [systemOf, layer_row, group_row]
  dar l g n := by simp only [arrivingOf, layer_row, group_row]
  dai l g n := by simp only [arrivingOf, layer_row, group_row]
  dbr l g n p := by simp only [arrivingOf, layer_row, group_row]
  dbi l g n p := by simp only [arrivingOf, layer_row, group_row]

variable (S : System) (A : Arriving)

/-- The gradient of the poles' real parts as an array. -/
def arrLre : Vec Ideal S256x64 .f32 := fun i => S.dlre (i 0) (i 1) A

/-- The gradient of the poles' imaginary parts as an array. -/
def arrLim : Vec Ideal S256x64 .f32 := fun i => S.dlim (i 0) (i 1) A

/-- The gradient of the logarithm of the step as an array. -/
def arrLdt : Vec Ideal S256x1 .f32 := fun i => S.dldt (i 0) A

/-- The gradient of the input matrix's real part as an array. -/
def arrBr : Vec Ideal S16x256x64 .f32 := fun i => S.dbr (i 1) (i 2) A (i 0)

/-- The gradient of the input matrix's imaginary part as an array. -/
def arrBi : Vec Ideal S16x256x64 .f32 := fun i => S.dbi (i 1) (i 2) A (i 0)

/-- The reference's first result. -/
theorem ref_arrLre : val_main_v135 lre lim ldt br bi dar dai dbr dbi
    = arrLre (systemOf lre lim ldt br bi) (arrivingOf dar dai dbr dbi) := by
  funext i
  idx_vars i
  exact ref_lre (holds lre lim ldt br bi dar dai dbr dbi) i0 i1

/-- The reference's second result. -/
theorem ref_arrLim : val_main_v136 lre lim ldt br bi dar dai dbr dbi
    = arrLim (systemOf lre lim ldt br bi) (arrivingOf dar dai dbr dbi) := by
  funext i
  idx_vars i
  exact ref_lim (holds lre lim ldt br bi dar dai dbr dbi) i0 i1

/-- The reference's third result. -/
theorem ref_arrLdt : val_main_v137 lre lim ldt br bi dar dai dbr dbi
    = arrLdt (systemOf lre lim ldt br bi) (arrivingOf dar dai dbr dbi) := by
  funext i
  idx_vars i
  exact ref_ldt (holds lre lim ldt br bi dar dai dbr dbi) i0 i1

/-- The reference's fourth result. -/
theorem ref_arrBr : val_main_v139 lre lim ldt dbr dbi
    = arrBr (systemOf lre lim ldt br bi) (arrivingOf dar dai dbr dbi) := by
  funext i
  idx_vars i
  exact ref_br (holds lre lim ldt br bi dar dai dbr dbi) i0 i1 i2

/-- The reference's fifth result. -/
theorem ref_arrBi : val_main_v141 lre lim ldt dbr dbi
    = arrBi (systemOf lre lim ldt br bi) (arrivingOf dar dai dbr dbi) := by
  funext i
  idx_vars i
  exact ref_bi (holds lre lim ldt br bi dar dai dbr dbi) i0 i1 i2

end Cert.Proof.Params

end
-- ==== Proof.Params.Claim.lean ====
/-
  The gradient through the discretisation of the state space model: the kernel's run and the reference's end with equal
  results.
-/
module

public import proofs.«01_k».proof.Defs
public import proofs.«01_k».proof.Proof.Gen.ParamsBwdRefIdeal.Run
public import proofs.«01_k».proof.Proof.Params.Kernel
public import proofs.«01_k».proof.Proof.Params.Arrays
public import Idealize.ShloMosaic.Lib.Claim
public import Idealize.ShloMosaic.Lib.Quiescent

@[expose] public section

set_option maxRecDepth 16384

noncomputable section

namespace Cert.Proof.Params

open Idealize.ShloMosaic Idealize.ShloMosaic.TcCoe Idealize.SL.Sem

section Kernel

open Cert.ParamsBwdIdeal Cert.ParamsBwdIdeal.Gen

/-- The one grid point's blocks start at the arrays' first elements. -/
theorem idx : ∀ t : Fin grid0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0]
    ∧ win0_9.index t = ![0, 0]
    ∧ win0_10.index t = ![0, 0]
    ∧ win0_11.index t = ![0, 0]
    ∧ win0_12.index t = ![0, 0, 0]
    ∧ win0_13.index t = ![0, 0, 0] :=
  (by decide +kernel : ∀ t : Fin grid0.N, _)

variable (m : (ℓ : Loc nD τ sig) → Buf (Elt Ideal) ℓ)

/-- Argument 0 as the call reads it. -/
theorem V_lre (c : Dev nD) : V m c main_v0 = shapeCast S256x64 (m ((c : Thread nD τ).loc main_arg0)) shapeCasts_S4x64x64_S256x64 := by
  unfold V
  after_results
  rfl

/-- Argument 1 as the call reads it. -/
theorem V_lim (c : Dev nD) : V m c main_v1 = shapeCast S256x64 (m ((c : Thread nD τ).loc main_arg1)) shapeCasts_S4x64x64_S256x64 := by
  unfold V
  after_results
  rfl

/-- Argument 2 as the call reads it. -/
theorem V_ldt (c : Dev nD) : V m c main_v2 = shapeCast S256x1 (m ((c : Thread nD τ).loc main_arg2)) shapeCasts_S4x64_S256x1 := by
  unfold V
  after_results
  rfl

/-- Argument 5 as the call reads it. -/
theorem V_dar (c : Dev nD) : V m c main_v7 = shapeCast S256x64 (m ((c : Thread nD τ).loc main_arg5)) shapeCasts_S4x64x64_S256x64 := by
  unfold V
  after_results
  rfl

/-- Argument 6 as the call reads it. -/
theorem V_dai (c : Dev nD) : V m c main_v8 = shapeCast S256x64 (m ((c : Thread nD τ).loc main_arg6)) shapeCasts_S4x64x64_S256x64 := by
  unfold V
  after_results
  rfl

/-- Argument 3 as the call reads it. -/
theorem V_br (c : Dev nD) : V m c main_v4 = shapeCast S16x256x64 (transpose S16x4x64x64 [3, 0, 1, 2]
    (m ((c : Thread nD τ).loc main_arg3)) transposes_S4x64x64x16_S16x4x64x64_3_0_1_2) shapeCasts_S16x4x64x64_S16x256x64 := by
  unfold V
  after_results
  rfl

/-- Argument 4 as the call reads it. -/
theorem V_bi (c : Dev nD) : V m c main_v6 = shapeCast S16x256x64 (transpose S16x4x64x64 [3, 0, 1, 2]
    (m ((c : Thread nD τ).loc main_arg4)) transposes_S4x64x64x16_S16x4x64x64_3_0_1_2) shapeCasts_S16x4x64x64_S16x256x64 := by
  unfold V
  after_results
  rfl

/-- Argument 7 as the call reads it. -/
theorem V_dbr (c : Dev nD) : V m c main_v10 = shapeCast S16x256x64 (transpose S16x4x64x64 [3, 0, 1, 2]
    (m ((c : Thread nD τ).loc main_arg7)) transposes_S4x64x64x16_S16x4x64x64_3_0_1_2) shapeCasts_S16x4x64x64_S16x256x64 := by
  unfold V
  after_results
  rfl

/-- Argument 8 as the call reads it. -/
theorem V_dbi (c : Dev nD) : V m c main_v12 = shapeCast S16x256x64 (transpose S16x4x64x64 [3, 0, 1, 2]
    (m ((c : Thread nD τ).loc main_arg8)) transposes_S4x64x64x16_S16x4x64x64_3_0_1_2) shapeCasts_S16x4x64x64_S16x256x64 := by
  unfold V
  after_results
  rfl

/-- The system that the launch's arrays hold. -/
abbrev sys (c : Dev nD) : System := systemOf (m ((c : Thread nD τ).loc main_arg0)) (m ((c : Thread nD τ).loc main_arg1)) (m ((c : Thread nD τ).loc main_arg2)) (m ((c : Thread nD τ).loc main_arg3)) (m ((c : Thread nD τ).loc main_arg4))

/-- The arriving gradients that the launch's arrays hold. -/
abbrev arr (c : Dev nD) : Arriving := arrivingOf (m ((c : Thread nD τ).loc main_arg5)) (m ((c : Thread nD τ).loc main_arg6)) (m ((c : Thread nD τ).loc main_arg7)) (m ((c : Thread nD τ).loc main_arg8))

/-- The call's array `lre`, read at an index. -/
theorem V_lre_apply (c : Dev nD) (r : Fin 256) (n : Fin 64) : V m c main_v0 (ix2 r n) = (sys m c).lre r n := by
  rw [V_lre]
  exact rows_apply _ _ r n

/-- The call's array `lim`, read at an index. -/
theorem V_lim_apply (c : Dev nD) (r : Fin 256) (n : Fin 64) : V m c main_v1 (ix2 r n) = (sys m c).lim r n := by
  rw [V_lim]
  exact rows_apply _ _ r n

/-- The call's array `ldt`, read at an index. -/
theorem V_ldt_apply (c : Dev nD) (r : Fin 256) (k : Fin 1) : V m c main_v2 (ix2 r k) = (sys m c).ldt r := by
  rw [V_ldt]
  exact steps_apply _ _ r k

/-- The call's array `br`, read at an index. -/
theorem V_br_apply (c : Dev nD) (p : Fin 16) (r : Fin 256) (n : Fin 64) : V m c main_v4 (ix3 p r n) = (sys m c).br p r n := by
  rw [V_br]
  exact columns_apply _ _ _ p r n

/-- The call's array `bi`, read at an index. -/
theorem V_bi_apply (c : Dev nD) (p : Fin 16) (r : Fin 256) (n : Fin 64) : V m c main_v6 (ix3 p r n) = (sys m c).bi p r n := by
  rw [V_bi]
  exact columns_apply _ _ _ p r n

/-- The call's array `dar`, read at an index. -/
theorem V_dar_apply (c : Dev nD) (r : Fin 256) (n : Fin 64) : V m c main_v7 (ix2 r n) = (arr m c).ar r n := by
  rw [V_dar]
  exact rows_apply _ _ r n

/-- The call's array `dai`, read at an index. -/
theorem V_dai_apply (c : Dev nD) (r : Fin 256) (n : Fin 64) : V m c main_v8 (ix2 r n) = (arr m c).ai r n := by
  rw [V_dai]
  exact rows_apply _ _ r n

/-- The call's array `dbr`, read at an index. -/
theorem V_dbr_apply (c : Dev nD) (p : Fin 16) (r : Fin 256) (n : Fin 64) : V m c main_v10 (ix3 p r n) = (arr m c).br p r n := by
  rw [V_dbr]
  exact columns_apply _ _ _ p r n

/-- The call's array `dbi`, read at an index. -/
theorem V_dbi_apply (c : Dev nD) (p : Fin 16) (r : Fin 256) (n : Fin 64) : V m c main_v12 (ix3 p r n) = (arr m c).bi p r n := by
  rw [V_dbi]
  exact columns_apply _ _ _ p r n

/-- Block 0 is the whole array. -/
theorem block_lre (c : Dev nD) (t : Fin cfg0.N) (r : Fin 256) (n : Fin 64) : iblk m c 0 t (ix2 r n) = V m c main_v0 (ix2 r n) := by
  blk_ext [iblk, idx t]

/-- Block 1 is the whole array. -/
theorem block_lim (c : Dev nD) (t : Fin cfg0.N) (r : Fin 256) (n : Fin 64) : iblk m c 1 t (ix2 r n) = V m c main_v1 (ix2 r n) := by
  blk_ext [iblk, idx t]

/-- Block 2 is the whole array. -/
theorem block_ldt (c : Dev nD) (t : Fin cfg0.N) (r : Fin 256) (k : Fin 1) : iblk m c 2 t (ix2 r k) = V m c main_v2 (ix2 r k) := by
  blk_ext [iblk, idx t]

/-- Block 3 is the whole array. -/
theorem block_br (c : Dev nD) (t : Fin cfg0.N) (p : Fin 16) (r : Fin 256) (n : Fin 64) : iblk m c 3 t (ix3 p r n) = V m c main_v4 (ix3 p r n) := by
  blk_ext [iblk, idx t]

/-- Block 4 is the whole array. -/
theorem block_bi (c : Dev nD) (t : Fin cfg0.N) (p : Fin 16) (r : Fin 256) (n : Fin 64) : iblk m c 4 t (ix3 p r n) = V m c main_v6 (ix3 p r n) := by
  blk_ext [iblk, idx t]

/-- Block 5 is the whole array. -/
theorem block_dar (c : Dev nD) (t : Fin cfg0.N) (r : Fin 256) (n : Fin 64) : iblk m c 5 t (ix2 r n) = V m c main_v7 (ix2 r n) := by
  blk_ext [iblk, idx t]

/-- Block 6 is the whole array. -/
theorem block_dai (c : Dev nD) (t : Fin cfg0.N) (r : Fin 256) (n : Fin 64) : iblk m c 6 t (ix2 r n) = V m c main_v8 (ix2 r n) := by
  blk_ext [iblk, idx t]

/-- Block 7 is the whole array. -/
theorem block_dbr (c : Dev nD) (t : Fin cfg0.N) (p : Fin 16) (r : Fin 256) (n : Fin 64) : iblk m c 7 t (ix3 p r n) = V m c main_v10 (ix3 p r n) := by
  blk_ext [iblk, idx t]

/-- Block 8 is the whole array. -/
theorem block_dbi (c : Dev nD) (t : Fin cfg0.N) (p : Fin 16) (r : Fin 256) (n : Fin 64) : iblk m c 8 t (ix3 p r n) = V m c main_v12 (ix3 p r n) := by
  blk_ext [iblk, idx t]

/-- The blocks hold the system and the arriving gradients. -/
theorem blocks (c : Dev nD) (t : Fin cfg0.N) : Blocks (sys m c) (arr m c) (iblk m c 0 t) (iblk m c 1 t) (iblk m c 2 t) (iblk m c 3 t) (iblk m c 4 t) (iblk m c 5 t) (iblk m c 6 t) (iblk m c 7 t) (iblk m c 8 t) where
  lre r n := (block_lre m c t r n).trans (V_lre_apply m c r n)
  lim r n := (block_lim m c t r n).trans (V_lim_apply m c r n)
  ldt r k := (block_ldt m c t r k).trans (V_ldt_apply m c r k)
  br p r n := (block_br m c t p r n).trans (V_br_apply m c p r n)
  bi p r n := (block_bi m c t p r n).trans (V_bi_apply m c p r n)
  dar r n := (block_dar m c t r n).trans (V_dar_apply m c r n)
  dai r n := (block_dai m c t r n).trans (V_dai_apply m c r n)
  dbr p r n := (block_dbr m c t p r n).trans (V_dbr_apply m c p r n)
  dbi p r n := (block_dbi m c t p r n).trans (V_dbi_apply m c p r n)

/-- The result array of the poles' real parts. -/
theorem final9 (c : Dev nD) : (dats m 0 c).arrAt 9 cfg0.N = arrLre (sys m c) (arr m c) := by
  refine (dats m 0 c).arrAt_eq_of_covers 9 _ (by decide +kernel) fun t hf y => ?_
  blk_simp
  rw [after0_9]
  idx_vars y
  refine (out_lre (blocks m c t) y0 y1).trans ?_
  refine congrArg (arrLre (sys m c) (arr m c)) (a₁ := ix2 y0 y1) ?_
  blk_ext [idx t]

/-- The result array of the poles' imaginary parts. -/
theorem final10 (c : Dev nD) : (dats m 0 c).arrAt 10 cfg0.N = arrLim (sys m c) (arr m c) := by
  refine (dats m 0 c).arrAt_eq_of_covers 10 _ (by decide +kernel) fun t hf y => ?_
  blk_simp
  rw [after0_10]
  idx_vars y
  refine (out_lim (blocks m c t) y0 y1).trans ?_
  refine congrArg (arrLim (sys m c) (arr m c)) (a₁ := ix2 y0 y1) ?_
  blk_ext [idx t]

/-- The result array of the logarithm of the step. -/
theorem final11 (c : Dev nD) : (dats m 0 c).arrAt 11 cfg0.N = arrLdt (sys m c) (arr m c) := by
  refine (dats m 0 c).arrAt_eq_of_covers 11 _ (by decide +kernel) fun t hf y => ?_
  blk_simp
  rw [after0_11]
  idx_vars y
  refine (out_ldt (blocks m c t) y0 y1).trans ?_
  refine congrArg (arrLdt (sys m c) (arr m c)) (a₁ := ix2 y0 y1) ?_
  blk_ext [idx t]

/-- The result array of the input matrix's real part. -/
theorem final12 (c : Dev nD) : (dats m 0 c).arrAt 12 cfg0.N = arrBr (sys m c) (arr m c) := by
  refine (dats m 0 c).arrAt_eq_of_covers 12 _ (by decide +kernel) fun t hf y => ?_
  blk_simp
  rw [after0_12]
  idx_vars y
  refine (out_br (blocks m c t) y0 y1 y2).trans ?_
  refine congrArg (arrBr (sys m c) (arr m c)) (a₁ := ix3 y0 y1 y2) ?_
  blk_ext [idx t]

/-- The result array of the input matrix's imaginary part. -/
theorem final13 (c : Dev nD) : (dats m 0 c).arrAt 13 cfg0.N = arrBi (sys m c) (arr m c) := by
  refine (dats m 0 c).arrAt_eq_of_covers 13 _ (by decide +kernel) fun t hf y => ?_
  blk_simp
  rw [after0_13]
  idx_vars y
  refine (out_bi (blocks m c t) y0 y1 y2).trans ?_
  refine congrArg (arrBi (sys m c) (arr m c)) (a₁ := ix3 y0 y1 y2) ?_
  blk_ext [idx t]

end Kernel

/-- The reference runs to the end with its arguments unchanged and every counter at zero. -/
theorem reference_frame : Cert.quiescent_ParamsBwdRefIdeal := fun m ρ _ =>
  (θ_run Cert.ParamsBwdRefIdeal.defs _ _).mono
    (fun r h => ⟨fun c => (h c).2.2.2.2.2, Idealize.ShloMosaic.sem_eq_zero_of_no_sems (by decide) r.2⟩)
    (Cert.ParamsBwdRefIdeal.Value.run (F := Ideal) m ρ)

open Cert.ParamsBwdRefIdeal.Read in
/-- The kernel's five results are the reference's, element by element. -/
theorem algebraic : Cert.algebraic_ParamsBwdIdeal_ParamsBwdRefIdeal := by
  intro m g m' g' _ hagree
  refine ⟨fun c => (Cert.ParamsBwdIdeal.Gen.dats m 0 c).arrAt 9 Cert.ParamsBwdIdeal.cfg0.N,
    fun c => (Cert.ParamsBwdIdeal.Gen.dats m 0 c).arrAt 10 Cert.ParamsBwdIdeal.cfg0.N,
    fun c => (Cert.ParamsBwdIdeal.Gen.dats m 0 c).arrAt 11 Cert.ParamsBwdIdeal.cfg0.N,
    fun c => (Cert.ParamsBwdIdeal.Gen.dats m 0 c).arrAt 12 Cert.ParamsBwdIdeal.cfg0.N,
    fun c => (Cert.ParamsBwdIdeal.Gen.dats m 0 c).arrAt 13 Cert.ParamsBwdIdeal.cfg0.N,
    Cert.ParamsBwdIdeal.Value.run_blocks (F := Ideal) m g,
    (θ_run Cert.ParamsBwdRefIdeal.defs _ _).mono (fun r h c => ⟨?_, ?_, ?_, ?_, ?_, (h c).2.2.2.2.2⟩)
      (Cert.ParamsBwdRefIdeal.Value.run (F := Ideal) m' g')⟩
  · refine ((h c).1.trans ((val_main_v135_eq _ _).trans (ref_arrLre _ _ _ _ _ _ _ _ _))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (final9 m c).symm
  · refine ((h c).2.1.trans ((val_main_v136_eq _ _).trans (ref_arrLim _ _ _ _ _ _ _ _ _))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (final10 m c).symm
  · refine ((h c).2.2.1.trans ((val_main_v137_eq _ _).trans (ref_arrLdt _ _ _ _ _ _ _ _ _))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (final11 m c).symm
  · refine ((h c).2.2.2.1.trans ((val_main_v139_eq _ _ _ _ _).trans (ref_arrBr _ _ _ (m' ((c.tc : Thread Cert.ParamsBwdRefIdeal.nD Cert.ParamsBwdRefIdeal.τ).loc Cert.ParamsBwdRefIdeal.main_arg3)) (m' ((c.tc : Thread Cert.ParamsBwdRefIdeal.nD Cert.ParamsBwdRefIdeal.τ).loc Cert.ParamsBwdRefIdeal.main_arg4)) (m' ((c.tc : Thread Cert.ParamsBwdRefIdeal.nD Cert.ParamsBwdRefIdeal.τ).loc Cert.ParamsBwdRefIdeal.main_arg5)) (m' ((c.tc : Thread Cert.ParamsBwdRefIdeal.nD Cert.ParamsBwdRefIdeal.τ).loc Cert.ParamsBwdRefIdeal.main_arg6)) _ _))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (final12 m c).symm
  · refine ((h c).2.2.2.2.1.trans ((val_main_v141_eq _ _ _ _ _).trans (ref_arrBi _ _ _ (m' ((c.tc : Thread Cert.ParamsBwdRefIdeal.nD Cert.ParamsBwdRefIdeal.τ).loc Cert.ParamsBwdRefIdeal.main_arg3)) (m' ((c.tc : Thread Cert.ParamsBwdRefIdeal.nD Cert.ParamsBwdRefIdeal.τ).loc Cert.ParamsBwdRefIdeal.main_arg4)) (m' ((c.tc : Thread Cert.ParamsBwdRefIdeal.nD Cert.ParamsBwdRefIdeal.τ).loc Cert.ParamsBwdRefIdeal.main_arg5)) (m' ((c.tc : Thread Cert.ParamsBwdRefIdeal.nD Cert.ParamsBwdRefIdeal.τ).loc Cert.ParamsBwdRefIdeal.main_arg6)) _ _))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (final13 m c).symm

end Cert.Proof.Params

end
-- ==== Proof.Params.Forward.lean ====
/-
  The discretisation of the state space model: the kernel's run and the reference's end with equal results.
-/
module

public import proofs.«01_k».proof.Defs
public import proofs.«01_k».proof.Proof.Gen.ParamsIdeal.Value
public import proofs.«01_k».proof.Proof.Gen.ParamsRefIdeal.Run
public import proofs.«01_k».proof.Proof.Gen.ParamsRefIdeal.Read
public import proofs.«01_k».proof.Proof.Params.Arrays
public import Idealize.ShloMosaic.Lib.Claim
public import Idealize.ShloMosaic.Lib.Quiescent

@[expose] public section

set_option maxRecDepth 16384

noncomputable section

namespace Cert.Proof.ParamsFwd

open Idealize.ShloMosaic Idealize.ShloMosaic.TcCoe Idealize.SL.Sem
open Cert.Proof.Params (System layer group row row_split layer_row group_row rows_apply steps_apply columns_apply systemOf)

section Kernel

open Cert.ParamsIdeal Cert.ParamsIdeal.Gen

/-- The blocks hold the system. -/
structure Blocks (S : System) (lre lim : Vec Ideal S256x64 .f32) (ldt : Vec Ideal S256x1 .f32)
    (br bi : Vec Ideal S16x256x64 .f32) : Prop where
  lre : ∀ (r : Fin 256) (n : Fin 64), lre (ix2 r n) = S.lre r n
  lim : ∀ (r : Fin 256) (n : Fin 64), lim (ix2 r n) = S.lim r n
  ldt : ∀ (r : Fin 256) (k : Fin 1), ldt (ix2 r k) = S.ldt r
  br : ∀ (p : Fin 16) (r : Fin 256) (n : Fin 64), br (ix3 p r n) = S.br p r n
  bi : ∀ (p : Fin 16) (r : Fin 256) (n : Fin 64), bi (ix3 p r n) = S.bi p r n

section Block

variable {S : System} {lre lim : Vec Ideal S256x64 .f32} {ldt : Vec Ideal S256x1 .f32} {br bi : Vec Ideal S16x256x64 .f32}
  (h : Blocks S lre lim ldt br bi)
include h

/-- The poles' real parts. -/
theorem lre_apply (r : Fin 256) (n : Fin 64) : k0_pay1 lre (ix2 r n) = S.lre r n := by
  pointwise [k0_pay1]
  exact h.lre r n

/-- The poles' imaginary parts. -/
theorem lim_apply (r : Fin 256) (n : Fin 64) : k0_pay2 lim (ix2 r n) = S.lim r n := by
  pointwise [k0_pay2]
  exact h.lim r n

/-- The step. -/
theorem dt_apply (r : Fin 256) (k : Fin 1) : k0_pay5 ldt (ix2 r k) = S.dt r := by
  pointwise [k0_pay5]
  rw [h.ldt]
  rfl

/-- The magnitude. -/
theorem mag_apply (r : Fin 256) (n : Fin 64) : k0_pay6 lre ldt (ix2 r n) = S.mag r n := by
  pointwise [k0_pay6]
  rw [lre_apply h, dt_apply h]
  rfl

/-- The angle. -/
theorem ang_apply (r : Fin 256) (n : Fin 64) : k0_pay7 lim ldt (ix2 r n) = S.ang r n := by
  pointwise [k0_pay7]
  rw [lim_apply h, dt_apply h]
  rfl

/-- The discretised pole's real part. -/
theorem are_apply (r : Fin 256) (n : Fin 64) : k0_pay8 lre lim ldt (ix2 r n) = S.are r n := by
  pointwise [k0_pay8]
  rw [mag_apply h, ang_apply h]
  rfl

/-- The discretised pole's imaginary part. -/
theorem aim_apply (r : Fin 256) (n : Fin 64) : k0_pay9 lre lim ldt (ix2 r n) = S.aim r n := by
  pointwise [k0_pay9]
  rw [mag_apply h, ang_apply h]
  rfl

/-- The denominator. -/
theorem den_apply (r : Fin 256) (n : Fin 64) : k0_pay10 lre lim (ix2 r n) = S.den r n := by
  pointwise [k0_pay10]
  rw [lre_apply h, lim_apply h]
  rfl

/-- The discretised pole's real part less one. -/
theorem less_apply (r : Fin 256) (n : Fin 64) : k0_pay11 lre lim ldt (ix2 r n) = S.less r n := by
  pointwise [k0_pay11]
  rw [are_apply h]
  rfl

/-- The input scale's real part. -/
theorem qre_apply (r : Fin 256) (n : Fin 64) : k0_pay12 lre lim ldt (ix2 r n) = S.qre r n := by
  pointwise [k0_pay12]
  rw [less_apply h, aim_apply h, lre_apply h, lim_apply h, den_apply h]
  rfl

/-- The input scale's imaginary part. -/
theorem qim_apply (r : Fin 256) (n : Fin 64) : k0_pay13 lre lim ldt (ix2 r n) = S.qim r n := by
  pointwise [k0_pay13]
  rw [less_apply h, aim_apply h, lre_apply h, lim_apply h, den_apply h]
  rfl

/-- The discretised input matrix's real part. -/
theorem bre_apply (p : Fin 16) (r : Fin 256) (n : Fin 64) : k0_pay14 lre lim ldt br bi (ix3 p r n) = S.bre r n p := by
  pointwise [k0_pay14, k0_pay3, k0_pay4]
  rw [qre_apply h, qim_apply h, h.br, h.bi]
  rfl

/-- The discretised input matrix's imaginary part. -/
theorem bim_apply (p : Fin 16) (r : Fin 256) (n : Fin 64) : k0_pay15 lre lim ldt br bi (ix3 p r n) = S.bim r n p := by
  pointwise [k0_pay15, k0_pay3, k0_pay4]
  rw [qre_apply h, qim_apply h, h.br, h.bi]
  rfl

end Block

/-- The one grid point's blocks start at the arrays' first elements. -/
theorem idx : ∀ t : Fin grid0.N, win0_0.index t = ![0, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![0, 0]
    ∧ win0_7.index t = ![0, 0, 0]
    ∧ win0_8.index t = ![0, 0, 0] :=
  (by decide +kernel : ∀ t : Fin grid0.N, _)

variable (m : (ℓ : Loc nD τ sig) → Buf (Elt Ideal) ℓ)

/-- The system that the launch's arrays hold. -/
abbrev sys (c : Dev nD) : System := systemOf (m ((c : Thread nD τ).loc main_arg0)) (m ((c : Thread nD τ).loc main_arg1)) (m ((c : Thread nD τ).loc main_arg2)) (m ((c : Thread nD τ).loc main_arg3)) (m ((c : Thread nD τ).loc main_arg4))

/-- Argument 0 as the call reads it. -/
theorem V_lre (c : Dev nD) : V m c main_v0 = shapeCast S256x64 (m ((c : Thread nD τ).loc main_arg0)) shapeCasts_S4x64x64_S256x64 := by
  unfold V
  after_results
  rfl

/-- Block 0 is the whole array. -/
theorem block_lre (c : Dev nD) (t : Fin cfg0.N) (r : Fin 256) (n : Fin 64) : iblk m c 0 t (ix2 r n) = V m c main_v0 (ix2 r n) := by
  blk_ext [iblk, idx t]

/-- Block 0 holds its part of the system. -/
theorem holds_lre (c : Dev nD) (t : Fin cfg0.N) (r : Fin 256) (n : Fin 64) : iblk m c 0 t (ix2 r n) = (sys m c).lre r n := by
  rw [block_lre, V_lre]
  exact rows_apply _ _ r n

/-- Argument 1 as the call reads it. -/
theorem V_lim (c : Dev nD) : V m c main_v1 = shapeCast S256x64 (m ((c : Thread nD τ).loc main_arg1)) shapeCasts_S4x64x64_S256x64 := by
  unfold V
  after_results
  rfl

/-- Block 1 is the whole array. -/
theorem block_lim (c : Dev nD) (t : Fin cfg0.N) (r : Fin 256) (n : Fin 64) : iblk m c 1 t (ix2 r n) = V m c main_v1 (ix2 r n) := by
  blk_ext [iblk, idx t]

/-- Block 1 holds its part of the system. -/
theorem holds_lim (c : Dev nD) (t : Fin cfg0.N) (r : Fin 256) (n : Fin 64) : iblk m c 1 t (ix2 r n) = (sys m c).lim r n := by
  rw [block_lim, V_lim]
  exact rows_apply _ _ r n

/-- Argument 2 as the call reads it. -/
theorem V_ldt (c : Dev nD) : V m c main_v2 = shapeCast S256x1 (m ((c : Thread nD τ).loc main_arg2)) shapeCasts_S4x64_S256x1 := by
  unfold V
  after_results
  rfl

/-- Block 2 is the whole array. -/
theorem block_ldt (c : Dev nD) (t : Fin cfg0.N) (r : Fin 256) (k : Fin 1) : iblk m c 2 t (ix2 r k) = V m c main_v2 (ix2 r k) := by
  blk_ext [iblk, idx t]

/-- Block 2 holds its part of the system. -/
theorem holds_ldt (c : Dev nD) (t : Fin cfg0.N) (r : Fin 256) (k : Fin 1) : iblk m c 2 t (ix2 r k) = (sys m c).ldt r := by
  rw [block_ldt, V_ldt]
  exact steps_apply _ _ r k

/-- Argument 3 as the call reads it. -/
theorem V_br (c : Dev nD) : V m c main_v4 = shapeCast S16x256x64 (transpose S16x4x64x64 [3, 0, 1, 2]
    (m ((c : Thread nD τ).loc main_arg3)) transposes_S4x64x64x16_S16x4x64x64_3_0_1_2) shapeCasts_S16x4x64x64_S16x256x64 := by
  unfold V
  after_results
  rfl

/-- Block 3 is the whole array. -/
theorem block_br (c : Dev nD) (t : Fin cfg0.N) (p : Fin 16) (r : Fin 256) (n : Fin 64) : iblk m c 3 t (ix3 p r n) = V m c main_v4 (ix3 p r n) := by
  blk_ext [iblk, idx t]

/-- Block 3 holds its part of the system. -/
theorem holds_br (c : Dev nD) (t : Fin cfg0.N) (p : Fin 16) (r : Fin 256) (n : Fin 64) : iblk m c 3 t (ix3 p r n) = (sys m c).br p r n := by
  rw [block_br, V_br]
  exact columns_apply _ _ _ p r n

/-- Argument 4 as the call reads it. -/
theorem V_bi (c : Dev nD) : V m c main_v6 = shapeCast S16x256x64 (transpose S16x4x64x64 [3, 0, 1, 2]
    (m ((c : Thread nD τ).loc main_arg4)) transposes_S4x64x64x16_S16x4x64x64_3_0_1_2) shapeCasts_S16x4x64x64_S16x256x64 := by
  unfold V
  after_results
  rfl

/-- Block 4 is the whole array. -/
theorem block_bi (c : Dev nD) (t : Fin cfg0.N) (p : Fin 16) (r : Fin 256) (n : Fin 64) : iblk m c 4 t (ix3 p r n) = V m c main_v6 (ix3 p r n) := by
  blk_ext [iblk, idx t]

/-- Block 4 holds its part of the system. -/
theorem holds_bi (c : Dev nD) (t : Fin cfg0.N) (p : Fin 16) (r : Fin 256) (n : Fin 64) : iblk m c 4 t (ix3 p r n) = (sys m c).bi p r n := by
  rw [block_bi, V_bi]
  exact columns_apply _ _ _ p r n

/-- The blocks hold the system. -/
theorem blocks (c : Dev nD) (t : Fin cfg0.N) : Blocks (sys m c) (iblk m c 0 t) (iblk m c 1 t) (iblk m c 2 t) (iblk m c 3 t) (iblk m c 4 t) :=
  ⟨holds_lre m c t, holds_lim m c t, holds_ldt m c t, holds_br m c t, holds_bi m c t⟩

/-- The discretised poles' real parts as an array. -/
def arrAre (S : System) : Vec Ideal S256x64 .f32 := fun i => S.are (i 0) (i 1)

/-- The discretised poles' imaginary parts as an array. -/
def arrAim (S : System) : Vec Ideal S256x64 .f32 := fun i => S.aim (i 0) (i 1)

/-- The discretised input matrix's real part as an array. -/
def arrBre (S : System) : Vec Ideal S16x256x64 .f32 := fun i => S.bre (i 1) (i 2) (i 0)

/-- The discretised input matrix's imaginary part as an array. -/
def arrBim (S : System) : Vec Ideal S16x256x64 .f32 := fun i => S.bim (i 1) (i 2) (i 0)

/-- The result array of the poles' real parts. -/
theorem final5 (c : Dev nD) : (dats m 0 c).arrAt 5 cfg0.N = arrAre (sys m c) := by
  refine (dats m 0 c).arrAt_eq_of_covers 5 _ (by decide +kernel) fun t hf y => ?_
  blk_simp
  rw [after0_5]
  frame_out
  idx_vars y
  refine (are_apply (blocks m c t) y0 y1).trans ?_
  refine congrArg (arrAre (sys m c)) (a₁ := ix2 y0 y1) ?_
  blk_ext [idx t]

/-- The result array of the poles' imaginary parts. -/
theorem final6 (c : Dev nD) : (dats m 0 c).arrAt 6 cfg0.N = arrAim (sys m c) := by
  refine (dats m 0 c).arrAt_eq_of_covers 6 _ (by decide +kernel) fun t hf y => ?_
  blk_simp
  rw [after0_6]
  frame_out
  idx_vars y
  refine (aim_apply (blocks m c t) y0 y1).trans ?_
  refine congrArg (arrAim (sys m c)) (a₁ := ix2 y0 y1) ?_
  blk_ext [idx t]

/-- The result array of the input matrix's real part. -/
theorem final7 (c : Dev nD) : (dats m 0 c).arrAt 7 cfg0.N = arrBre (sys m c) := by
  refine (dats m 0 c).arrAt_eq_of_covers 7 _ (by decide +kernel) fun t hf y => ?_
  blk_simp
  rw [after0_7]
  frame_out
  idx_vars y
  refine (bre_apply (blocks m c t) y0 y1 y2).trans ?_
  refine congrArg (arrBre (sys m c)) (a₁ := ix3 y0 y1 y2) ?_
  blk_ext [idx t]

/-- The result array of the input matrix's imaginary part. -/
theorem final8 (c : Dev nD) : (dats m 0 c).arrAt 8 cfg0.N = arrBim (sys m c) := by
  refine (dats m 0 c).arrAt_eq_of_covers 8 _ (by decide +kernel) fun t hf y => ?_
  blk_simp
  rw [after0_8]
  frame_out
  idx_vars y
  refine (bim_apply (blocks m c t) y0 y1 y2).trans ?_
  refine congrArg (arrBim (sys m c)) (a₁ := ix3 y0 y1 y2) ?_
  blk_ext [idx t]

end Kernel

section Reference

open Cert.ParamsRefIdeal Cert.ParamsRefIdeal.Read

variable (lre lim : Vec Ideal S4x64x64 .f32) (ldt : Vec Ideal S4x64 .f32) (br bi : Vec Ideal S4x64x64x16 .f32)

/-- The step. -/
theorem ref_dt (l : Fin 4) (g : Fin 64) : val_main_v0 ldt (ix2 l g) = (systemOf lre lim ldt br bi).dt (row l g) := by
  pointwise [val_main_v0]
  simp only [System.dt, systemOf, layer_row, group_row]

/-- The magnitude. -/
theorem ref_mag (l : Fin 4) (g : Fin 64) (n : Fin 64) : val_main_v4 lre ldt (ix3 l g n) = (systemOf lre lim ldt br bi).mag (row l g) n := by
  pointwise [val_main_v4, val_main_v3, val_main_v2, val_main_v1]
  simp only [ref_dt lre lim ldt br bi, System.mag, systemOf, layer_row, group_row]

/-- The angle. -/
theorem ref_ang (l : Fin 4) (g : Fin 64) (n : Fin 64) : val_main_v6 lim ldt (ix3 l g n) = (systemOf lre lim ldt br bi).ang (row l g) n := by
  pointwise [val_main_v6, val_main_v5, val_main_v1]
  simp only [ref_dt lre lim ldt br bi, System.ang, systemOf, layer_row, group_row]

/-- The discretised pole's real part. -/
theorem ref_are (l : Fin 4) (g : Fin 64) (n : Fin 64) : val_main_v8 lre lim ldt (ix3 l g n) = (systemOf lre lim ldt br bi).are (row l g) n := by
  pointwise [val_main_v8, val_main_v7]
  simp only [ref_mag lre lim ldt br bi, ref_ang lre lim ldt br bi, System.are]

/-- The discretised pole's imaginary part. -/
theorem ref_aim (l : Fin 4) (g : Fin 64) (n : Fin 64) : val_main_v10 lre lim ldt (ix3 l g n) = (systemOf lre lim ldt br bi).aim (row l g) n := by
  pointwise [val_main_v10, val_main_v9]
  simp only [ref_mag lre lim ldt br bi, ref_ang lre lim ldt br bi, System.aim]

/-- The denominator. -/
theorem ref_den (l : Fin 4) (g : Fin 64) (n : Fin 64) : val_main_v13 lre lim (ix3 l g n) = (systemOf lre lim ldt br bi).den (row l g) n := by
  pointwise [val_main_v13, val_main_v11, val_main_v12]
  simp only [System.den, systemOf, layer_row, group_row]

/-- The discretised pole's real part less one. -/
theorem ref_less (l : Fin 4) (g : Fin 64) (n : Fin 64) : val_main_v15 lre lim ldt (ix3 l g n) = (systemOf lre lim ldt br bi).less (row l g) n := by
  pointwise [val_main_v15, val_main_v14, val_main_cst]
  simp only [ref_are lre lim ldt br bi, System.less]

/-- The input scale's real part. -/
theorem ref_qre (l : Fin 4) (g : Fin 64) (n : Fin 64) : val_main_v19 lre lim ldt (ix3 l g n) = (systemOf lre lim ldt br bi).qre (row l g) n := by
  pointwise [val_main_v19, val_main_v18, val_main_v17, val_main_v16]
  simp only [ref_less lre lim ldt br bi, ref_aim lre lim ldt br bi, ref_den lre lim ldt br bi, System.qre, System.numRe, systemOf, layer_row, group_row]

/-- The input scale's imaginary part. -/
theorem ref_qim (l : Fin 4) (g : Fin 64) (n : Fin 64) : val_main_v23 lre lim ldt (ix3 l g n) = (systemOf lre lim ldt br bi).qim (row l g) n := by
  pointwise [val_main_v23, val_main_v22, val_main_v21, val_main_v20]
  simp only [ref_less lre lim ldt br bi, ref_aim lre lim ldt br bi, ref_den lre lim ldt br bi, System.qim, System.numIm, systemOf, layer_row, group_row]

/-- The discretised input matrix's real part. -/
theorem ref_bre (l : Fin 4) (g : Fin 64) (n : Fin 64) (p : Fin 16) : val_main_v30 lre lim ldt br bi (ix4 l g n p) = (systemOf lre lim ldt br bi).bre (row l g) n p := by
  pointwise [val_main_v30, val_main_v26, val_main_v25, val_main_v24, val_main_v29, val_main_v28, val_main_v27]
  simp only [ref_qre lre lim ldt br bi, ref_qim lre lim ldt br bi, System.bre, systemOf, layer_row, group_row]

/-- The discretised input matrix's imaginary part. -/
theorem ref_bim (l : Fin 4) (g : Fin 64) (n : Fin 64) (p : Fin 16) : val_main_v37 lre lim ldt br bi (ix4 l g n p) = (systemOf lre lim ldt br bi).bim (row l g) n p := by
  pointwise [val_main_v37, val_main_v33, val_main_v32, val_main_v31, val_main_v36, val_main_v35, val_main_v34]
  simp only [ref_qre lre lim ldt br bi, ref_qim lre lim ldt br bi, System.bim, systemOf, layer_row, group_row]

/-- The reference's first result. -/
theorem ref_arrAre : val_main_v38 lre lim ldt = arrAre (systemOf lre lim ldt br bi) := by
  funext i
  idx_vars i
  pointwise [val_main_v38]
  rw [ref_are lre lim ldt br bi, row_split]
  rfl

/-- The reference's second result. -/
theorem ref_arrAim : val_main_v39 lre lim ldt = arrAim (systemOf lre lim ldt br bi) := by
  funext i
  idx_vars i
  pointwise [val_main_v39]
  rw [ref_aim lre lim ldt br bi, row_split]
  rfl

/-- The reference's third result. -/
theorem ref_arrBre : val_main_v41 lre lim ldt br bi = arrBre (systemOf lre lim ldt br bi) := by
  funext i
  idx_vars i
  pointwise [val_main_v41, val_main_v40]
  rw [ref_bre lre lim ldt br bi, row_split]
  rfl

/-- The reference's fourth result. -/
theorem ref_arrBim : val_main_v43 lre lim ldt br bi = arrBim (systemOf lre lim ldt br bi) := by
  funext i
  idx_vars i
  pointwise [val_main_v43, val_main_v42]
  rw [ref_bim lre lim ldt br bi, row_split]
  rfl

/-- The reference runs to the end with its arguments unchanged and every counter at zero. -/
theorem reference_frame : Cert.quiescent_ParamsRefIdeal := fun m ρ _ =>
  (θ_run Cert.ParamsRefIdeal.defs _ _).mono
    (fun r h => ⟨fun c => (h c).2.2.2.2, Idealize.ShloMosaic.sem_eq_zero_of_no_sems (by decide) r.2⟩)
    (Cert.ParamsRefIdeal.Value.run (F := Ideal) m ρ)

/-- The kernel's four results are the reference's, element by element. -/
theorem algebraic : Cert.algebraic_ParamsIdeal_ParamsRefIdeal := by
  intro m g m' g' _ hagree
  refine ⟨fun c => (Cert.ParamsIdeal.Gen.dats m 0 c).arrAt 5 Cert.ParamsIdeal.cfg0.N,
    fun c => (Cert.ParamsIdeal.Gen.dats m 0 c).arrAt 6 Cert.ParamsIdeal.cfg0.N,
    fun c => (Cert.ParamsIdeal.Gen.dats m 0 c).arrAt 7 Cert.ParamsIdeal.cfg0.N,
    fun c => (Cert.ParamsIdeal.Gen.dats m 0 c).arrAt 8 Cert.ParamsIdeal.cfg0.N,
    Cert.ParamsIdeal.Value.run_blocks (F := Ideal) m g,
    (θ_run Cert.ParamsRefIdeal.defs _ _).mono (fun r h c => ⟨?_, ?_, ?_, ?_, (h c).2.2.2.2⟩)
      (Cert.ParamsRefIdeal.Value.run (F := Ideal) m' g')⟩
  · refine ((h c).1.trans ((val_main_v38_eq _ _ _ ).trans (ref_arrAre _ _ _ (m' ((c.tc : Thread nD τ).loc main_arg3)) (m' ((c.tc : Thread nD τ).loc main_arg4))))).trans ?_
    rw [(hagree c).1, (hagree c).2.1, (hagree c).2.2.1, (hagree c).2.2.2.1, (hagree c).2.2.2.2]
    exact (final5 m c).symm
  · refine ((h c).2.1.trans ((val_main_v39_eq _ _ _ ).trans (ref_arrAim _ _ _ (m' ((c.tc : Thread nD τ).loc main_arg3)) (m' ((c.tc : Thread nD τ).loc main_arg4))))).trans ?_
    rw [(hagree c).1, (hagree c).2.1, (hagree c).2.2.1, (hagree c).2.2.2.1, (hagree c).2.2.2.2]
    exact (final6 m c).symm
  · refine ((h c).2.2.1.trans ((val_main_v41_eq _ _ _ _ _ ).trans (ref_arrBre _ _ _ _ _))).trans ?_
    rw [(hagree c).1, (hagree c).2.1, (hagree c).2.2.1, (hagree c).2.2.2.1, (hagree c).2.2.2.2]
    exact (final7 m c).symm
  · refine ((h c).2.2.2.1.trans ((val_main_v43_eq _ _ _ _ _ ).trans (ref_arrBim _ _ _ _ _))).trans ?_
    rw [(hagree c).1, (hagree c).2.1, (hagree c).2.2.1, (hagree c).2.2.2.1, (hagree c).2.2.2.2]
    exact (final8 m c).symm

end Reference

end Cert.Proof.ParamsFwd

end
-- ==== Proof.Products.ActBwd.lean ====
/-
  The gradient of the gate and up products from the gradient of the feed-forward block's result. The kernel multiplies
  the gradient of the hidden activation by the two factors the forward pass saved; the reference differentiates.
-/
module

public import proofs.«01_k».proof.Defs
public import proofs.«01_k».proof.Proof.Gen.ActBwdIdeal.Value
public import proofs.«01_k».proof.Proof.Gen.ActBwdRefIdeal.Read
public import proofs.«01_k».proof.Proof.Products.Silu
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.ActBwd

open Idealize.ShloMosaic Idealize.ShloMosaic.TcCoe Idealize.SL.Sem

section Kernel

open Cert.ActBwdIdeal Cert.ActBwdIdeal.Gen

/-- Element `(i, j)` of the gradient of the hidden activation: half the sum over `k` of the products. -/
def dhid (d : Vec Ideal S2048x2048 .f32) (w : Vec Ideal S5632x2048 .f32) (i : Fin 2048) (j : Fin 5632) : EReal :=
  Ideal.ofBits .f32 0x3F000000#32 * ∑ k : Fin 2048, d (ix2 i k) * w (ix2 j k)

/-- The gradient of the gate product: the hidden activation's times the derivative of `silu` at the gate times the up product. -/
def gateGrad (d : Vec Ideal S2048x2048 .f32) (w : Vec Ideal S5632x2048 .f32) (g u : Vec Ideal S2048x5632 .f32) :
    Vec Ideal S2048x5632 .bf16 :=
  fun i => dhid d w (i 0) (i 1) * dsilu (u i) (g i)

/-- A gate times its logistic. -/
def gateTimes (g : EReal) : EReal := g * sigma g

/-- The gradient of the up product: the hidden activation's times `g σ(g)`. -/
def upGrad (d : Vec Ideal S2048x2048 .f32) (w : Vec Ideal S5632x2048 .f32) (g : Vec Ideal S2048x5632 .f32) :
    Vec Ideal S2048x5632 .bf16 :=
  fun i => dhid d w (i 0) (i 1) * gateTimes (g i)

/-- Where each window's block lies: block `t` of each result takes all rows and its own columns. -/
theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

/-- The column of the array that column `q` of block `t` holds. -/
abbrev col (t : Fin 22) (q : Fin 256) : Fin 5632 := ⟨t.val * 256 + q.val, by omega⟩

/-- The operands' blocks hold the parts of the arrays that block `t` of the results is of. -/
structure Blocks (D : Vec Ideal S2048x2048 .f32) (W : Vec Ideal S5632x2048 .f32) (G U : Vec Ideal S2048x5632 .f32) (t : Fin 22)
    (x : Vec Ideal S2048x2048 .bf16) (y : Vec Ideal S256x2048 .bf16) (z w : Vec Ideal S2048x256 .bf16) : Prop where
  x : ∀ (p : Fin 2048) (k : Fin 2048), (x (ix2 p k) : EReal) = D (ix2 p k)
  y : ∀ (q : Fin 256) (k : Fin 2048), (y (ix2 q k) : EReal) = W (ix2 (col t q) k)
  z : ∀ (p : Fin 2048) (q : Fin 256), (z (ix2 p q) : EReal) = dsilu (U (ix2 p (col t q))) (G (ix2 p (col t q)))
  w : ∀ (p : Fin 2048) (q : Fin 256), (w (ix2 p q) : EReal) = gateTimes (G (ix2 p (col t q)))

section
variable {D : Vec Ideal S2048x2048 .f32} {W : Vec Ideal S5632x2048 .f32} {G U : Vec Ideal S2048x5632 .f32} {t : Fin 22}
  {x : Vec Ideal S2048x2048 .bf16} {y : Vec Ideal S256x2048 .bf16} {z w : Vec Ideal S2048x256 .bf16}

/-- The gradient of the hidden activation, at one element of the block. -/
theorem dhid_apply (h : Blocks D W G U t x y z w) (p : Fin 2048) (q : Fin 256) :
    (k0_pay1 x y (ix2 p q) : EReal) = dhid D W p (col t q) := by
  pointwise [k0_pay1]
  exact congrArg (_ * ·) (Finset.sum_congr rfl fun k _ => congrArg₂ (· * ·) (h.x p k) (h.y q k))

/-- The first result's block. -/
theorem pay_gate (h : Blocks D W G U t x y z w) (p : Fin 2048) (q : Fin 256) :
    k0_pay3 x y z (ix2 p q) = gateGrad D W G U (ix2 p (col t q)) := by
  pointwise [k0_pay3]
  rw [dhid_apply h, h.z]
  rfl

/-- The second result's block. -/
theorem pay_up (h : Blocks D W G U t x y z w) (p : Fin 2048) (q : Fin 256) :
    k0_pay2 x y w (ix2 p q) = upGrad D W G (ix2 p (col t q)) := by
  pointwise [k0_pay2]
  rw [dhid_apply h, h.w]
  rfl

end

variable (m : (ℓ : Loc nD τ sig) → Buf (Elt Ideal) ℓ)

/-- The incoming gradient as the call reads it. -/
theorem V_rows (c : Dev nD) : V m c main_v6
    = truncf (F := Ideal) (s := S2048x2048) .bf16 (m ((c : Thread nD τ).loc main_arg0)) bitsLt_bf16_f32 := by
  simp only [V, List.flatten_cons, List.flatten_nil, List.cons_append, List.nil_append, List.append_nil]
  after_results

/-- The down weight as the call reads it. -/
theorem V_down (c : Dev nD) : V m c main_v7
    = truncf (F := Ideal) (s := S5632x2048) .bf16 (m ((c : Thread nD τ).loc main_arg1)) bitsLt_bf16_f32 := by
  simp only [V, List.flatten_cons, List.flatten_nil, List.cons_append, List.nil_append, List.append_nil]
  after_results

/-- The gate's factor as the call reads it. -/
theorem V_gate (c : Dev nD) (p : Fin 2048) (j : Fin 5632) : (V m c main_v8 (ix2 p j) : EReal)
    = dsilu (m ((c : Thread nD τ).loc main_arg3) (ix2 p j)) (m ((c : Thread nD τ).loc main_arg2) (ix2 p j)) := by
  simp only [V, List.flatten_cons, List.flatten_nil, List.cons_append, List.nil_append, List.append_nil]
  after_results
  simp only [StableHlo.TRef.ofBuf_toBuf]
  simp only [StableHlo.TRef.toBuf, StableHlo.TRef.ofBuf, cast_eq]
  pointwise [dsilu, sigma]

/-- The up factor as the call reads it. -/
theorem V_up (c : Dev nD) (p : Fin 2048) (j : Fin 5632) : (V m c main_v9 (ix2 p j) : EReal)
    = gateTimes (m ((c : Thread nD τ).loc main_arg2) (ix2 p j)) := by
  simp only [V, List.flatten_cons, List.flatten_nil, List.cons_append, List.nil_append, List.append_nil]
  after_results
  simp only [StableHlo.TRef.ofBuf_toBuf]
  simp only [StableHlo.TRef.toBuf, StableHlo.TRef.ofBuf, cast_eq]
  pointwise [gateTimes, sigma]

/-- Grid point `t`'s operand blocks are those of block `t` of the results. -/
theorem blocks (c : Dev nD) (t : Fin cfg0.N) :
    Blocks (m ((c : Thread nD τ).loc main_arg0)) (m ((c : Thread nD τ).loc main_arg1)) (m ((c : Thread nD τ).loc main_arg2))
      (m ((c : Thread nD τ).loc main_arg3)) t (iblk m c 0 t) (iblk m c 1 t) (iblk m c 2 t) (iblk m c 3 t) where
  x p k := by blk_ext [iblk, V_rows, idx t]
  y q k := by blk_ext [iblk, V_down, idx t]
  z p q := by
    refine Eq.trans ?_ (V_gate m c p (col t q))
    blk_ext [iblk, idx t]
  w p q := by
    refine Eq.trans ?_ (V_up m c p (col t q))
    blk_ext [iblk, idx t]

/-- The first result array holds the gradient of the gate product. -/
theorem final_gate (c : Dev nD) : (dats m 0 c).arrAt 4 cfg0.N
    = gateGrad (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  frame_out
  idx_vars y
  rw [pay_gate (blocks m c t)]
  refine congrArg _ ?_
  blk_ext [idx t]

/-- The second result array holds the gradient of the up product. -/
theorem final_up (c : Dev nD) : (dats m 0 c).arrAt 5 cfg0.N
    = upGrad (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  rw [pay_up (blocks m c t)]
  refine congrArg _ ?_
  blk_ext [idx t]

end Kernel

section Reference

open Cert.ActBwdRefIdeal.Read

variable (d : Vec Ideal Cert.ActBwdIdeal.S2048x2048 .f32) (w : Vec Ideal Cert.ActBwdIdeal.S5632x2048 .f32)
  (g u : Vec Ideal Cert.ActBwdIdeal.S2048x5632 .f32)

/-- The reference's gradient of the hidden activation: the factor one half stands inside the sum. -/
theorem ref_dhid (i : Fin 2048) (j : Fin 5632) : (val_main_v7 (F := Ideal) d w (ix2 i j) : EReal) = dhid d w i j := by
  pointwise [val_main_v7, val_main_v6, val_main_v5, val_main_cst_0, dhid]
  rw [mul_half_sum]
  exact Finset.sum_congr rfl fun k _ => mul_assoc _ _ _

/-- The reference's logistic of the gate. -/
theorem ref_sigma (i : Fin 2048) (j : Fin 5632) :
    (val_main_v0_2 (F := Ideal) g (ix2 i j) : EReal) = sigma (g (ix2 i j)) := by
  pointwise [val_main_v0_2, val_main_call0_v4, val_main_call0_v3, val_main_call0_v2, val_main_call0_v1, val_main_call0_v0,
    val_main_call0_cst, val_main_call0_cst_0, sigma]

/-- The reference's first result, where the gradient of the hidden activation and the up product are real. -/
theorem ref_gateGrad (h : ∀ i j, ∃ r : ℝ, dhid d w i j = r) (hu : ∀ i j, ∃ r : ℝ, (u (ix2 i j) : EReal) = r) :
    val_main_v11 (F := Ideal) d w g u = gateGrad d w g u := by
  funext i
  idx_vars i
  obtain ⟨r, hr⟩ := h i0 i1
  obtain ⟨s, hs⟩ := hu i0 i1
  refine Eq.trans ?_ (Eq.trans (mul_dsilu r s (g (ix2 i0 i1))).symm (by rw [← hr, ← hs]; rfl))
  rw [← hr, ← hs]
  pointwise [val_main_v11, val_main_v10, val_main_call1_v1, val_main_call1_v2, val_main_call1_v0, val_main_v9,
    val_main_v0_1, val_main_call0_v7, val_main_call0_v6, val_main_call0_cst_1]
  rw [ref_dhid, ref_sigma]
  rfl

/-- The reference's second result. -/
theorem ref_upGrad : val_main_v12 (F := Ideal) d w g = upGrad d w g := by
  funext i
  idx_vars i
  pointwise [val_main_v12, val_main_v8, val_main_v0_0]
  rw [ref_dhid, ref_sigma]
  exact mul_comm _ _

/-- Where the precondition holds, the incoming gradient is real. -/
theorem rows_real [Cert.Pre_act_finite.Facts] (h : (Cert.Pre_act_finite.fn (F := Ideal) d w g u).1 = fun _ => 1#1)
    (i k : Fin 2048) : ∃ r : ℝ, (d (ix2 i k) : EReal) = r := by
  have h1 := congrFun h (ix2 i k)
  revert h1
  pointwise [Cert.Pre_act_finite.fn]
  exact real_of_bit _

/-- Where the precondition holds, the down weight is real. -/
theorem down_real [Cert.Pre_act_finite.Facts] (h : (Cert.Pre_act_finite.fn (F := Ideal) d w g u).2.1 = fun _ => 1#1)
    (j : Fin 5632) (k : Fin 2048) : ∃ r : ℝ, (w (ix2 j k) : EReal) = r := by
  have h1 := congrFun h (ix2 j k)
  revert h1
  pointwise [Cert.Pre_act_finite.fn]
  exact real_of_bit _

/-- Where the precondition holds, the up product is real. -/
theorem up_real [Cert.Pre_act_finite.Facts] (h : (Cert.Pre_act_finite.fn (F := Ideal) d w g u).2.2 = fun _ => 1#1)
    (i : Fin 2048) (j : Fin 5632) : ∃ r : ℝ, (u (ix2 i j) : EReal) = r := by
  have h1 := congrFun h (ix2 i j)
  revert h1
  pointwise [Cert.Pre_act_finite.fn]
  exact real_of_bit _

/-- Where the precondition holds, the gradient of the hidden activation is real. -/
theorem dhid_real [Cert.Pre_act_finite.Facts] (h1 : (Cert.Pre_act_finite.fn (F := Ideal) d w g u).1 = fun _ => 1#1)
    (h2 : (Cert.Pre_act_finite.fn (F := Ideal) d w g u).2.1 = fun _ => 1#1)
    (i : Fin 2048) (j : Fin 5632) : ∃ r : ℝ, dhid d w i j = r := by
  obtain ⟨s, hs⟩ := sum_mul_real (fun k => (d (ix2 i k) : EReal)) (fun k => (w (ix2 j k) : EReal))
    (fun k => rows_real d w g u h1 i k) (fun k => down_real d w g u h2 j k)
  refine ⟨(1 / 2 : ℝ) * s, ?_⟩
  unfold dhid
  rw [EReal.coe_mul, ← hs, ofBits_half]

/-- The reference runs to the end with its arguments unchanged and every counter at zero. -/
theorem reference_frame : Cert.quiescent_ActBwdRefIdeal := fun m ρ _ =>
  (θ_run Cert.ActBwdRefIdeal.defs _ _).mono
    (fun r h => ⟨fun c => (h c).2.2, Idealize.ShloMosaic.sem_eq_zero_of_no_sems (by decide) r.2⟩)
    (Cert.ActBwdRefIdeal.Value.run (F := Ideal) m ρ)

/-- It does so under the precondition. -/
theorem reference_frame_pre [Cert.Pre_act_finite.Facts] : Cert.quiescent_ActBwdRefIdeal_pre_act_finite := fun m ρ _ =>
  reference_frame m ρ trivial

/-- The kernel's two results are the reference's, element by element, where the incoming gradient, the down weight and the
    up product are finite. -/
theorem algebraic [Cert.Pre_act_finite.Facts] : Cert.algebraic_ActBwdIdeal_ActBwdRefIdeal_pre_act_finite := by
  intro m g m' g' hpre hagree
  refine ⟨fun c => (Cert.ActBwdIdeal.Gen.dats m 0 c).arrAt 4 Cert.ActBwdIdeal.cfg0.N,
    fun c => (Cert.ActBwdIdeal.Gen.dats m 0 c).arrAt 5 Cert.ActBwdIdeal.cfg0.N,
    Cert.ActBwdIdeal.Value.run_blocks (F := Ideal) m g,
    (θ_run Cert.ActBwdRefIdeal.defs _ _).mono (fun r h c => ⟨?_, ?_, (h c).2.2⟩)
      (Cert.ActBwdRefIdeal.Value.run (F := Ideal) m' g')⟩
  · refine ((h c).1.trans (val_main_v11_eq _ _ _ _)).trans ?_
    rw [(hagree c).1, (hagree c).2.1, (hagree c).2.2.1, (hagree c).2.2.2,
      ref_gateGrad _ _ _ _ (dhid_real _ _ _ _ (hpre c).1 (hpre c).2.1) (up_real _ _ _ _ (hpre c).2.2)]
    exact (final_gate m c).symm
  · refine ((h c).2.1.trans (val_main_v12_eq _ _ _)).trans ?_
    rw [(hagree c).1, (hagree c).2.1, (hagree c).2.2.1, ref_upGrad]
    exact (final_up m c).symm

end Reference

end Cert.Proof.ActBwd

end
-- ==== Proof.Products.DownGrad.lean ====
/-
  The gradient of the down weight, first half of its rows.
-/
module

public import proofs.«01_k».proof.Defs
public import proofs.«01_k».proof.Proof.Gen.DownGradIdeal.Value
public import proofs.«01_k».proof.Proof.Gen.DownGradRefIdeal.Read
public import proofs.«01_k».proof.Proof.Products.Scale
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.DownGrad

open Idealize.ShloMosaic Idealize.ShloMosaic.TcCoe Idealize.SL.Sem

section Kernel

open Cert.DownGradIdeal Cert.DownGradIdeal.Gen

/-- Row `i`, column `j` of the gradient: half the sum over the rows `k` of the products. -/
def grad (a : Vec Ideal S2048x5632 .f32) (b : Vec Ideal S2048x2048 .f32) : Vec Ideal S2816x2048 .bf16 :=
  fun i => Ideal.ofBits .f32 0x3F000000#32 * ∑ k : Fin 2048, a (ix2 k ⟨(i 0).val, by have h : (i 0).val < 2816 := (i 0).isLt; omega⟩) * b (ix2 k (i 1))

/-- Where each window's block lies: the rows of the result follow the first operand's columns, the columns the second's. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row of the array that row `p` of block `t` holds. -/
abbrev row (t : Fin 4) (p : Fin 1408) : Fin 2816 := ⟨t.val / 2 * 1408 + p.val, by omega⟩

/-- The column of the array that column `q` of block `t` holds. -/
abbrev col (t : Fin 4) (q : Fin 1024) : Fin 2048 := ⟨t.val % 2 * 1024 + q.val, by omega⟩

/-- The operands' blocks hold the parts of the arrays that block `t` of the result is of. -/
structure Blocks (A : Vec Ideal S2048x5632 .f32) (B : Vec Ideal S2048x2048 .f32) (t : Fin 4) (x : Vec Ideal S2048x1408 .bf16)
    (y : Vec Ideal S2048x1024 .bf16) : Prop where
  x : ∀ (k : Fin 2048) (p : Fin 1408), (x (ix2 k p) : EReal) = A (ix2 k ⟨(row t p).val, by omega⟩)
  y : ∀ (k : Fin 2048) (q : Fin 1024), (y (ix2 k q) : EReal) = B (ix2 k (col t q))

/-- One block is the product of its two operands' blocks. -/
theorem pay_apply {A : Vec Ideal S2048x5632 .f32} {B : Vec Ideal S2048x2048 .f32} {t : Fin 4}
    {x : Vec Ideal S2048x1408 .bf16} {y : Vec Ideal S2048x1024 .bf16} (h : Blocks A B t x y) (p : Fin 1408) (q : Fin 1024) :
    k0_pay1 x y (ix2 p q) = grad A B (ix2 (row t p) (col t q)) := by
  pointwise [k0_pay1]
  exact congrArg (_ * ·) (Finset.sum_congr rfl fun k _ => congrArg₂ (· * ·) (h.x k p) (h.y k q))

variable (m : (ℓ : Loc nD τ sig) → Buf (Elt Ideal) ℓ)

/-- The first operand as the call reads it. -/
theorem V_lhs (c : Dev nD) : V m c main_v0
    = truncf (F := Ideal) (s := S2048x5632) .bf16 (m ((c : Thread nD τ).loc main_arg0)) bitsLt_bf16_f32 := by
  unfold V
  after_results

/-- The second operand as the call reads it. -/
theorem V_rhs (c : Dev nD) : V m c main_v1
    = truncf (F := Ideal) (s := S2048x2048) .bf16 (m ((c : Thread nD τ).loc main_arg1)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) t
      (iblk m c 0 t) (iblk m c 1 t) where
  x k p := by blk_ext [iblk, V_lhs, idx t]
  y k q := by blk_ext [iblk, V_rhs, idx t]

/-- The result array holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply (blocks m c t)]
  refine congrArg _ ?_
  blk_ext [idx t]

end Kernel

section Reference

open Cert.DownGradRefIdeal.Read

/-- The reference's value is the gradient. -/
theorem ref_eq (a : Vec Ideal Cert.DownGradIdeal.S2048x5632 .f32) (b : Vec Ideal Cert.DownGradIdeal.S2048x2048 .f32) :
    val_main_v9 (F := Ideal) a b = grad a b := by
  funext i
  idx_vars i
  pointwise [val_main_v9, val_main_v8, val_main_v7, val_main_v6, val_main_v5, val_main_v4, val_main_cst_1, grad]
  rw [mul_half_sum]
  exact Finset.sum_congr rfl fun k _ => scaled_comm _ _ _

/-- The reference runs to the end with its arguments unchanged and every counter at zero. -/
theorem reference_frame : Cert.quiescent_DownGradRefIdeal := fun m ρ _ =>
  (θ_run Cert.DownGradRefIdeal.defs _ _).mono
    (fun r h => ⟨fun c => (h c).2, Idealize.ShloMosaic.sem_eq_zero_of_no_sems (by decide) r.2⟩)
    (Cert.DownGradRefIdeal.Value.run (F := Ideal) m ρ)

/-- The kernel's result is the reference's, element by element. -/
theorem algebraic : Cert.algebraic_DownGradIdeal_DownGradRefIdeal := by
  intro m g m' g' _ hagree
  refine ⟨fun c => (Cert.DownGradIdeal.Gen.dats m 0 c).arrAt 2 Cert.DownGradIdeal.cfg0.N,
    Cert.DownGradIdeal.Value.run_blocks (F := Ideal) m g,
    (θ_run Cert.DownGradRefIdeal.defs _ _).mono (fun r h c => ⟨?_, (h c).2⟩)
      (Cert.DownGradRefIdeal.Value.run (F := Ideal) m' g')⟩
  refine ((h c).1.trans ((val_main_v9_eq _ _).trans (ref_eq _ _))).trans ?_
  rw [(hagree c).1, (hagree c).2]
  exact (final m c).symm

end Reference

end Cert.Proof.DownGrad

end
-- ==== Proof.Products.DownGradSum.lean ====
/-
  The gradient of the down weight, second half of its rows, with the other core's part added.
-/
module

public import proofs.«01_k».proof.Defs
public import proofs.«01_k».proof.Proof.Gen.DownGradSumIdeal.Value
public import proofs.«01_k».proof.Proof.Gen.DownGradSumRefIdeal.Read
public import proofs.«01_k».proof.Proof.Products.Scale
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.DownGradSum

open Idealize.ShloMosaic Idealize.ShloMosaic.TcCoe Idealize.SL.Sem

section Kernel

open Cert.DownGradSumIdeal Cert.DownGradSumIdeal.Gen

/-- Row `i`, column `j` of the gradient: half the sum over the rows `k` of the products, and the other part. -/
def grad (a : Vec Ideal S2048x5632 .f32) (b : Vec Ideal S2048x2048 .f32) (o : Vec Ideal S2816x2048 .f32) : Vec Ideal S2816x2048 .bf16 :=
  fun i => (Ideal.ofBits .f32 0x3F000000#32 * ∑ k : Fin 2048, a (ix2 k ⟨2816 + (i 0).val, by have h : (i 0).val < 2816 := (i 0).isLt; omega⟩) * b (ix2 k (i 1))) + o i

/-- Where each window's block lies: the rows of the result follow the first operand's columns, the columns the second's. -/
theorem idx : ∀ t : Fin cfg0.N, win0_0.index t = ![0, 2 + t.val / 2] ∧ win0_1.index t = ![0, t.val % 2]
    ∧ win0_2.index t = ![t.val / 2, t.val % 2] ∧ win0_3.index t = ![t.val / 2, t.val % 2] :=
  (by decide +kernel : ∀ t : Fin grid0.N, _)

/-- The row of the array that row `p` of block `t` holds. -/
abbrev row (t : Fin 4) (p : Fin 1408) : Fin 2816 := ⟨t.val / 2 * 1408 + p.val, by omega⟩

/-- The column of the array that column `q` of block `t` holds. -/
abbrev col (t : Fin 4) (q : Fin 1024) : Fin 2048 := ⟨t.val % 2 * 1024 + q.val, by omega⟩

/-- The operands' blocks hold the parts of the arrays that block `t` of the result is of. -/
structure Blocks (A : Vec Ideal S2048x5632 .f32) (B : Vec Ideal S2048x2048 .f32) (O : Vec Ideal S2816x2048 .f32) (t : Fin 4) (x : Vec Ideal S2048x1408 .bf16)
    (y : Vec Ideal S2048x1024 .bf16) (z : Vec Ideal S1408x1024 .bf16) : Prop where
  x : ∀ (k : Fin 2048) (p : Fin 1408), (x (ix2 k p) : EReal) = A (ix2 k ⟨2816 + (row t p).val, by omega⟩)
  y : ∀ (k : Fin 2048) (q : Fin 1024), (y (ix2 k q) : EReal) = B (ix2 k (col t q))
  z : ∀ (p : Fin 1408) (q : Fin 1024), (z (ix2 p q) : EReal) = O (ix2 (row t p) (col t q))

/-- One block is the product of its two operands' blocks. -/
theorem pay_apply {A : Vec Ideal S2048x5632 .f32} {B : Vec Ideal S2048x2048 .f32} {O : Vec Ideal S2816x2048 .f32} {t : Fin 4}
    {x : Vec Ideal S2048x1408 .bf16} {y : Vec Ideal S2048x1024 .bf16} {z : Vec Ideal S1408x1024 .bf16} (h : Blocks A B O t x y z) (p : Fin 1408) (q : Fin 1024) :
    k0_pay1 x y z (ix2 p q) = grad A B O (ix2 (row t p) (col t q)) := by
  pointwise [k0_pay1]
  exact congrArg₂ (· + ·) (congrArg (_ * ·) (Finset.sum_congr rfl fun k _ => congrArg₂ (· * ·) (h.x k p) (h.y k q))) (h.z p q)

variable (m : (ℓ : Loc nD τ sig) → Buf (Elt Ideal) ℓ)

/-- The first operand as the call reads it. -/
theorem V_lhs (c : Dev nD) : V m c main_v0
    = truncf (F := Ideal) (s := S2048x5632) .bf16 (m ((c : Thread nD τ).loc main_arg0)) bitsLt_bf16_f32 := by
  unfold V
  after_results

/-- The second operand as the call reads it. -/
theorem V_rhs (c : Dev nD) : V m c main_v1
    = truncf (F := Ideal) (s := S2048x2048) .bf16 (m ((c : Thread nD τ).loc main_arg1)) bitsLt_bf16_f32 := by
  unfold V
  after_results

/-- The other part as the call reads it. -/
theorem V_other (c : Dev nD) : V m c main_v2
    = truncf (F := Ideal) (s := S2816x2048) .bf16 (m ((c : Thread nD τ).loc main_arg2)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) (m ((c : Thread nD τ).loc main_arg2)) t
      (iblk m c 0 t) (iblk m c 1 t) (iblk m c 2 t) where
  x k p := by blk_ext [iblk, V_lhs, idx t]
  y k q := by blk_ext [iblk, V_rhs, idx t]
  z p q := by blk_ext [iblk, V_other, idx t]

/-- The result array holds the gradient. -/
theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  rw [pay_apply (blocks m c t)]
  refine congrArg _ ?_
  blk_ext [idx t]

end Kernel

section Reference

open Cert.DownGradSumRefIdeal.Read

/-- The reference's value is the gradient. -/
theorem ref_eq (a : Vec Ideal Cert.DownGradSumIdeal.S2048x5632 .f32) (b : Vec Ideal Cert.DownGradSumIdeal.S2048x2048 .f32)
    (o : Vec Ideal Cert.DownGradSumIdeal.S2816x2048 .f32) :
    val_main_v10 (F := Ideal) a b o = grad a b o := by
  funext i
  idx_vars i
  pointwise [val_main_v10, val_main_v9, val_main_v8, val_main_v7, val_main_v6, val_main_v5, val_main_v4, val_main_cst_1, grad]
  rw [mul_half_sum]
  exact congrArg (· + _) (Finset.sum_congr rfl fun k _ => scaled_comm _ _ _)

/-- The reference runs to the end with its arguments unchanged and every counter at zero. -/
theorem reference_frame : Cert.quiescent_DownGradSumRefIdeal := fun m ρ _ =>
  (θ_run Cert.DownGradSumRefIdeal.defs _ _).mono
    (fun r h => ⟨fun c => (h c).2, Idealize.ShloMosaic.sem_eq_zero_of_no_sems (by decide) r.2⟩)
    (Cert.DownGradSumRefIdeal.Value.run (F := Ideal) m ρ)

/-- The kernel's result is the reference's, element by element. -/
theorem algebraic : Cert.algebraic_DownGradSumIdeal_DownGradSumRefIdeal := by
  intro m g m' g' _ hagree
  refine ⟨fun c => (Cert.DownGradSumIdeal.Gen.dats m 0 c).arrAt 3 Cert.DownGradSumIdeal.cfg0.N,
    Cert.DownGradSumIdeal.Value.run_blocks (F := Ideal) m g,
    (θ_run Cert.DownGradSumRefIdeal.defs _ _).mono (fun r h c => ⟨?_, (h c).2⟩)
      (Cert.DownGradSumRefIdeal.Value.run (F := Ideal) m' g')⟩
  refine ((h c).1.trans ((val_main_v10_eq _ _ _).trans (ref_eq _ _ _))).trans ?_
  rw [(hagree c).1, (hagree c).2.1, (hagree c).2.2]
  exact (final m c).symm

end Reference

end Cert.Proof.DownGradSum

end
-- ==== Proof.Products.RowTiles.lean ====
/-
  An accumulator of 2048 rows written in four tiles of 512 rows: what the four stores leave, and what a tile's load reads.
-/
module

public import Idealize.ShloMosaic.Lib.Pipeline.ValueKit
public import Idealize.ShloMosaic.Lib.Pipeline.RowLoads
public import Idealize.ShloMosaic.Lib.Pointwise

@[expose] public section

noncomputable section

namespace Cert.Proof

open Idealize.ShloMosaic

/-- The accumulator's shape. -/
abbrev Acc : Shape := ⟨2, ![2048, 2048]⟩
/-- A tile's shape. -/
abbrev AccTile : Shape := ⟨2, ![512, 2048]⟩

variable {Val : EltTy → Type} [∀ e, Nonempty (Val e)] {e : EltTy}

/-- After a store of rows `o … o + 511`, an element is the stored one if its row is among them, else what it was. -/
theorem canon_tile (o : Nat) (inb : ∀ a, (![o, 0] : Fin 2 → Nat) a + (![512, 2048] : Fin 2 → Nat) a ≤ Acc.size a)
    (w : AccTile.Idx → Val e) (L : List (View.Piece Val Acc e)) (i j : Fin 2048) (v : Val e)
    (h1 : ∀ p : Fin 512, i.val = o + p.val → w (ix2 p j) = v) (h2 : ¬(o ≤ i.val ∧ i.val < o + 512) → View.canon L (ix2 i j) = v) :
    View.canon ((⟨Rect.unit (s := Acc) ![o, 0] ![512, 2048] inb, w⟩ : View.Piece Val Acc e) :: L) (ix2 i j) = v := by
  by_cases hi : o ≤ i.val ∧ i.val < o + 512
  · have hx : (ix2 i j : Acc.Idx) = (Rect.unit (s := Acc) ![o, 0] ![512, 2048] inb).emb
        (ix2 (⟨i.val - o, by omega⟩ : Fin 512) j) := by
      funext a
      refine Fin.ext ?_
      refine Eq.trans ?_ (Rect.idx_unit_val _ _ inb _ a).symm
      fin_cases a
      · show i.val = o + (i.val - o)
        omega
      · show j.val = 0 + j.val
        omega
    rw [hx, View.canon_cons_emb]
    exact h1 _ (by show i.val = o + (i.val - o); omega)
  · rw [View.canon_cons_of_not_mem _ _ ?_]
    · exact h2 hi
    · intro hm
      obtain ⟨x, hx⟩ := LoadRect.exists_idx_of_mem _ hm
      have h0 := congrArg Fin.val (congrFun hx 0)
      have hv : ((Rect.unit (s := Acc) ![o, 0] ![512, 2048] inb).idx x 0 : Nat) = o + (x 0).val := Rect.idx_unit_val _ _ inb x 0
      have hl : (x 0).val < 512 := (x 0).isLt
      have h0' : ((Rect.unit (s := Acc) ![o, 0] ![512, 2048] inb).idx x 0 : Nat) = i.val := h0
      omega

/-- Four stores that between them write every row leave the array whose tiles they are. -/
theorem canon_four (L : List (View.Piece Val Acc e)) (v : Acc.Idx → Val e) (w0 w1 w2 w3 : AccTile.Idx → Val e)
    (inb0 : ∀ a, (![0, 0] : Fin 2 → Nat) a + (![512, 2048] : Fin 2 → Nat) a ≤ Acc.size a)
    (inb1 : ∀ a, (![512, 0] : Fin 2 → Nat) a + (![512, 2048] : Fin 2 → Nat) a ≤ Acc.size a)
    (inb2 : ∀ a, (![1024, 0] : Fin 2 → Nat) a + (![512, 2048] : Fin 2 → Nat) a ≤ Acc.size a)
    (inb3 : ∀ a, (![1536, 0] : Fin 2 → Nat) a + (![512, 2048] : Fin 2 → Nat) a ≤ Acc.size a)
    (h0 : ∀ (p : Fin 512) (q : Fin 2048), w0 (ix2 p q) = v (ix2 ⟨0 + p.val, by omega⟩ q))
    (h1 : ∀ (p : Fin 512) (q : Fin 2048), w1 (ix2 p q) = v (ix2 ⟨512 + p.val, by omega⟩ q))
    (h2 : ∀ (p : Fin 512) (q : Fin 2048), w2 (ix2 p q) = v (ix2 ⟨1024 + p.val, by omega⟩ q))
    (h3 : ∀ (p : Fin 512) (q : Fin 2048), w3 (ix2 p q) = v (ix2 ⟨1536 + p.val, by omega⟩ q)) :
    View.canon ((⟨Rect.unit (s := Acc) ![1536, 0] ![512, 2048] inb3, w3⟩ : View.Piece Val Acc e)
      :: ⟨Rect.unit (s := Acc) ![1024, 0] ![512, 2048] inb2, w2⟩ :: ⟨Rect.unit (s := Acc) ![512, 0] ![512, 2048] inb1, w1⟩
      :: ⟨Rect.unit (s := Acc) ![0, 0] ![512, 2048] inb0, w0⟩ :: L) = v := by
  funext y
  idx_vars y
  refine canon_tile 1536 inb3 w3 _ y0 y1 _ (fun p hp => ?_) fun n3 => ?_
  · rw [h3]; exact congrArg (fun r => v (ix2 r y1)) (Fin.ext hp.symm)
  refine canon_tile 1024 inb2 w2 _ y0 y1 _ (fun p hp => ?_) fun n2 => ?_
  · rw [h2]; exact congrArg (fun r => v (ix2 r y1)) (Fin.ext hp.symm)
  refine canon_tile 512 inb1 w1 _ y0 y1 _ (fun p hp => ?_) fun n1 => ?_
  · rw [h1]; exact congrArg (fun r => v (ix2 r y1)) (Fin.ext hp.symm)
  refine canon_tile 0 inb0 w0 _ y0 y1 _ (fun p hp => ?_) fun n0 => ?_
  · rw [h0]; exact congrArg (fun r => v (ix2 r y1)) (Fin.ext hp.symm)
  omega

/-- A tile's load from an array at an element: the array's at the tile's row. -/
theorem ld_tile {c : Nat} (o : Nat) (X : (⟨2, ![2048, c]⟩ : Shape).Idx → Val e)
    (inb : ∀ a, (![o, 0] : Fin 2 → Nat) a + (![512, c] : Fin 2 → Nat) a ≤ (⟨2, ![2048, c]⟩ : Shape).size a)
    (p : Fin 512) (q : Fin c) (h : o + p.val < 2048) :
    View.ld X (Rect.unit (s := (⟨2, ![2048, c]⟩ : Shape)) ![o, 0] ![512, c] inb) (ix2 p q) = X (ix2 ⟨o + p.val, h⟩ q) := by
  refine View.ld_unit_apply_of X _ _ inb _ _ fun a => ?_
  fin_cases a
  · rfl
  · show q.val = 0 + q.val
    omega

variable {sig : RefSig} {κ : Kind} {sp : Space}

/-- A store of earlier rows does not change what a later tile's load reads. -/
theorem readCov_skip (v : View sig κ sp Acc e) (o o' : Nat) (h : o + 512 ≤ o') (x : AccTile.Idx → Val e)
    (L : List (View.Piece Val Acc e)) (inb : ∀ a, (![o, 0] : Fin 2 → Nat) a + (![512, 2048] : Fin 2 → Nat) a ≤ Acc.size a)
    (inb' : ∀ a, (![o', 0] : Fin 2 → Nat) a + (![512, 2048] : Fin 2 → Nat) a ≤ Acc.size a) :
    v.readCov ((⟨Rect.unit (s := Acc) ![o, 0] ![512, 2048] inb, x⟩ : View.Piece Val Acc e) :: L)
        (Rect.unit (s := Acc) ![o', 0] ![512, 2048] inb').toLoadRect
      = v.readCov L (Rect.unit (s := Acc) ![o', 0] ![512, 2048] inb').toLoadRect :=
  View.readCov_cons_of_rows_disjoint v o o' (.inl h) x L inb inb'

set_option maxRecDepth 8192 in
/-- A tile's load after a store of the whole array reads the stored array's rows. -/
theorem readCov_whole (v : View sig κ sp Acc e) (o : Nat) (w : Acc.Idx → Val e)
    (inb : ∀ a, (![0, 0] : Fin 2 → Nat) a + (![2048, 2048] : Fin 2 → Nat) a ≤ Acc.size a)
    (inb' : ∀ a, (![o, 0] : Fin 2 → Nat) a + (![512, 2048] : Fin 2 → Nat) a ≤ Acc.size a) :
    v.readCov [(⟨Rect.unit (s := Acc) ![0, 0] ![2048, 2048] inb, w⟩ : View.Piece Val Acc e)]
        (Rect.unit (s := Acc) ![o, 0] ![512, 2048] inb').toLoadRect
      = View.ld w (Rect.unit (s := Acc) ![o, 0] ![512, 2048] inb') := by
  have hz : (![0, 0] : Fin 2 → Nat) = fun _ => 0 := by
    funext a
    fin_cases a <;> rfl
  have hc : ∀ y : Acc.Idx, ∃ p ∈ [(⟨Rect.unit (s := Acc) ![0, 0] Acc.size inb, w⟩ : View.Piece Val Acc e)], y ∈ p.1.set :=
    fun y => ⟨_, List.mem_singleton_self _, View.mem_set_unit_zero (S := Acc) hz inb y⟩
  rw [View.readCov_eq_canon_ld _ _ _ hc]
  rw [View.canon_cons_unit_lit (S := Acc) inb w [] (by decide)]

end Cert.Proof

end
-- ==== Proof.Products.FfnDown.lean ====
/-
  The feed-forward block's down product: the hidden rows times the weight, accumulated over the hidden columns.
-/
module

public import proofs.«01_k».proof.Defs
public import proofs.«01_k».proof.Proof.Gen.FfnDownIdeal.Value
public import proofs.«01_k».proof.Proof.Gen.FfnDownRefIdeal.Read
public import proofs.«01_k».proof.Proof.Products.RowTiles
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.FfnDown

open Idealize.ShloMosaic Idealize.ShloMosaic.TcCoe Idealize.SL.Sem

section Kernel

open Cert.FfnDownIdeal Cert.FfnDownIdeal.Gen

/-- Element `(i, j)` of the product: the sum over `k` of the products. -/
def prod (a : Vec Ideal S2048x5632 .f32) (b : Vec Ideal S5632x2048 .f32) : Vec Ideal S2048x2048 .f32 :=
  fun i => ∑ k : Fin 5632, a (ix2 (i 0) k) * b (ix2 k (i 1))

/-- Where each window's block lies: point `t` takes its own columns of the rows and its own rows of the weight; the result is
    one block. -/
theorem idx : ∀ t : Fin cfg0.N, win0_0.index t = ![0, t.val] ∧ win0_1.index t = ![t.val, 0]
    ∧ win0_2.index t = ![0, 0] :=
  (by decide +kernel : ∀ t : Fin grid0.N, _)

/-- The position of the contracted axis that lane `k` of point `t` holds. -/
abbrev at_ (t : Fin 11) (k : Fin 512) : Fin 5632 := ⟨t.val * 512 + k.val, by omega⟩

/-- The operands' blocks hold the parts of the arrays that point `t` reads. -/
structure Blocks (A : Vec Ideal S2048x5632 .f32) (B : Vec Ideal S5632x2048 .f32) (t : Fin 11) (x : Vec Ideal S2048x512 .bf16)
    (y : Vec Ideal S512x2048 .bf16) : Prop where
  x : ∀ (i : Fin 2048) (k : Fin 512), (x (ix2 i k) : EReal) = A (ix2 i (at_ t k))
  y : ∀ (k : Fin 512) (j : Fin 2048), (y (ix2 k j) : EReal) = B (ix2 (at_ t k) j)

/-- One point's share of element `(i, j)`. -/
def share (x : Vec Ideal S2048x512 .bf16) (y : Vec Ideal S512x2048 .bf16) (i j : Fin 2048) : EReal :=
  ∑ k : Fin 512, x (ix2 i k) * y (ix2 k j)

/-- The points' shares sum to the whole contraction. -/
theorem share_sum (A : Vec Ideal S2048x5632 .f32) (B : Vec Ideal S5632x2048 .f32) (x : Fin 11 → Vec Ideal S2048x512 .bf16)
    (y : Fin 11 → Vec Ideal S512x2048 .bf16) (h : ∀ t, Blocks A B t (x t) (y t)) (i j : Fin 2048) :
    ∑ t : Fin 11, share (x t) (y t) i j = ∑ k : Fin 5632, (A (ix2 i k) : EReal) * B (ix2 k j) := by
  unfold share
  refine Fin.sum_mul_add_congr fun s k hl => ?_
  exact congrArg₂ (· * ·) ((h s).x i k) ((h s).y k j)

/-- The stored zero. -/
theorem zero_apply (i j : Fin 2048) : (k0_pay2 (F := Ideal) (ix2 i j) : EReal) = 0 := by
  pointwise [k0_pay2]

/-- What the body stores in the rows from 0 on: what it found plus the tile's product. -/
theorem tile0_apply (a : Vec Ideal S512x512 .bf16) (b : Vec Ideal S512x2048 .bf16) (acc : Vec Ideal S512x2048 .f32)
    (p : Fin 512) (q : Fin 2048) : (k0_pay3 a b acc (ix2 p q) : EReal) = acc (ix2 p q) + (∑ k : Fin 512, a (ix2 p k) * b (ix2 k q) : EReal) := by
  pointwise [k0_pay3]

/-- What the body stores in the rows from 512 on: what it found plus the tile's product. -/
theorem tile512_apply (a : Vec Ideal S512x512 .bf16) (b : Vec Ideal S512x2048 .bf16) (acc : Vec Ideal S512x2048 .f32)
    (p : Fin 512) (q : Fin 2048) : (k0_pay4 a b acc (ix2 p q) : EReal) = acc (ix2 p q) + (∑ k : Fin 512, a (ix2 p k) * b (ix2 k q) : EReal) := by
  pointwise [k0_pay4]

/-- What the body stores in the rows from 1024 on: what it found plus the tile's product. -/
theorem tile1024_apply (a : Vec Ideal S512x512 .bf16) (b : Vec Ideal S512x2048 .bf16) (acc : Vec Ideal S512x2048 .f32)
    (p : Fin 512) (q : Fin 2048) : (k0_pay5 a b acc (ix2 p q) : EReal) = acc (ix2 p q) + (∑ k : Fin 512, a (ix2 p k) * b (ix2 k q) : EReal) := by
  pointwise [k0_pay5]

/-- What the body stores in the rows from 1536 on: what it found plus the tile's product. -/
theorem tile1536_apply (a : Vec Ideal S512x512 .bf16) (b : Vec Ideal S512x2048 .bf16) (acc : Vec Ideal S512x2048 .f32)
    (p : Fin 512) (q : Fin 2048) : (k0_pay1 a b acc (ix2 p q) : EReal) = acc (ix2 p q) + (∑ k : Fin 512, a (ix2 p k) * b (ix2 k q) : EReal) := by
  pointwise [k0_pay1]

variable (m : (ℓ : Loc nD τ sig) → Buf (Elt Ideal) ℓ)

/-- The rows as the call reads them. -/
theorem V_lhs (c : Dev nD) : V m c main_v0
    = truncf (F := Ideal) (s := S2048x5632) .bf16 (m ((c : Thread nD τ).loc main_arg0)) bitsLt_bf16_f32 := by
  unfold V
  after_results

/-- The weight as the call reads it. -/
theorem V_rhs (c : Dev nD) : V m c main_v1
    = truncf (F := Ideal) (s := S5632x2048) .bf16 (m ((c : Thread nD τ).loc main_arg1)) bitsLt_bf16_f32 := by
  unfold V
  after_results

/-- Point `t`'s operand blocks are those of its share. -/
theorem blocks (c : Dev nD) (t : Fin cfg0.N) :
    Blocks (m ((c : Thread nD τ).loc main_arg0)) (m ((c : Thread nD τ).loc main_arg1)) t
      (iblk m c 0 t) (iblk m c 1 t) where
  x i k := by blk_ext [iblk, V_lhs, idx t]
  y k j := by blk_ext [iblk, V_rhs, idx t]

/-- At the first point each tile is zero plus its share. -/
theorem first (c : Dev nD) (t : Fin cfg0.N) (h : t.val % 11 = 0) (i : S2048x2048.Idx) :
    outsAt0 m c t.val t.isLt i = (0 : EReal) + share (iblk m c 0 t) (iblk m c 1 t) (i 0) (i 1) := by
  rw [outsAt0_A m c t h]
  frame_out
  refine congrFun (canon_four (Val := Elt Ideal) (e := .f32) _ (fun i => ((0 : EReal) + share (iblk m c 0 t) (iblk m c 1 t) (i 0) (i 1) : EReal)) _ _ _ _ _ _ _ _ ?_ ?_ ?_ ?_) i
  · intro p q
    rw [tile0_apply, readCov_whole, ld_tile 0 _ _ p q (by omega), zero_apply]
    refine congrArg (_ + ·) (Finset.sum_congr rfl fun k _ => congrArg (· * _) (ld_tile 0 (iblk m c 0 t) _ p k (by omega)))
  · intro p q
    rw [tile512_apply, readCov_skip _ 0 512 (by decide), readCov_whole, ld_tile 512 _ _ p q (by omega), zero_apply]
    refine congrArg (_ + ·) (Finset.sum_congr rfl fun k _ => congrArg (· * _) (ld_tile 512 (iblk m c 0 t) _ p k (by omega)))
  · intro p q
    rw [tile1024_apply, readCov_skip _ 512 1024 (by decide), readCov_skip _ 0 1024 (by decide), readCov_whole, ld_tile 1024 _ _ p q (by omega), zero_apply]
    refine congrArg (_ + ·) (Finset.sum_congr rfl fun k _ => congrArg (· * _) (ld_tile 1024 (iblk m c 0 t) _ p k (by omega)))
  · intro p q
    rw [tile1536_apply, readCov_skip _ 1024 1536 (by decide), readCov_skip _ 512 1536 (by decide), readCov_skip _ 0 1536 (by decide), readCov_whole, ld_tile 1536 _ _ p q (by omega), zero_apply]
    refine congrArg (_ + ·) (Finset.sum_congr rfl fun k _ => congrArg (· * _) (ld_tile 1536 (iblk m c 0 t) _ p k (by omega)))

/-- At a later point each tile is what the point before left plus its share. -/
theorem later (c : Dev nD) (t : Fin cfg0.N) (h : ¬t.val % 11 = 0) (i : S2048x2048.Idx) :
    outsAt0 m c t.val t.isLt i = (outsAt0 m c (t.val - 1) (Nat.lt_of_le_of_lt (Nat.sub_le _ _) t.isLt) i : EReal) + share (iblk m c 0 t) (iblk m c 1 t) (i 0) (i 1) := by
  rw [outsAt0_B m c t h]
  frame_out
  refine congrFun (canon_four (Val := Elt Ideal) (e := .f32) _ (fun i => ((outsAt0 m c (t.val - 1) (Nat.lt_of_le_of_lt (Nat.sub_le _ _) t.isLt) i : EReal) + share (iblk m c 0 t) (iblk m c 1 t) (i 0) (i 1) : EReal)) _ _ _ _ _ _ _ _ ?_ ?_ ?_ ?_) i
  · intro p q
    rw [tile0_apply, ld_tile 0 _ _ p q (by omega)]
    refine congrArg (_ + ·) (Finset.sum_congr rfl fun k _ => congrArg (· * _) (ld_tile 0 (iblk m c 0 t) _ p k (by omega)))
  · intro p q
    rw [tile512_apply, ld_tile 512 _ _ p q (by omega)]
    refine congrArg (_ + ·) (Finset.sum_congr rfl fun k _ => congrArg (· * _) (ld_tile 512 (iblk m c 0 t) _ p k (by omega)))
  · intro p q
    rw [tile1024_apply, ld_tile 1024 _ _ p q (by omega)]
    refine congrArg (_ + ·) (Finset.sum_congr rfl fun k _ => congrArg (· * _) (ld_tile 1024 (iblk m c 0 t) _ p k (by omega)))
  · intro p q
    rw [tile1536_apply, ld_tile 1536 _ _ p q (by omega)]
    refine congrArg (_ + ·) (Finset.sum_congr rfl fun k _ => congrArg (· * _) (ld_tile 1536 (iblk m c 0 t) _ p k (by omega)))

/-- After the last point the accumulator holds the whole product. -/
theorem outs_last (c : Dev nD) (t : Fin cfg0.N) (ht : t.val + 1 = cfg0.N) (i : S2048x2048.Idx) :
    outsAt0 m c t.val t.isLt i = prod (m ((c : Thread nD τ).loc main_arg0)) (m ((c : Thread nD τ).loc main_arg1)) i := by
  rw [Pipeline.eq_sum_fin_of_reset_step_apply_last (M := EReal) (fun n h => outsAt0 m c n h) 11 (fun _ => 0)
    (fun t i => share (iblk m c 0 t) (iblk m c 1 t) (i 0) (i 1))
    (fun t h i => first m c t h i) (fun t h i => later m c t h i) (le_of_eq N_0) t ht i, zero_add]
  exact share_sum _ _ (fun t => iblk m c 0 t) (fun t => iblk m c 1 t) (blocks m c) (i 0) (i 1)

/-- The result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h10 := (flush0_2 t).mp hf
  have hN : cfg0.N = 11 := N_0
  have hlt := t.isLt
  blk_simp
  rw [after0_2, outs_last m c t (by omega) _]
  refine congrArg _ ?_
  blk_ext [idx t]

end Kernel

section Reference

open Cert.FfnDownRefIdeal.Read

/-- The reference's value is the product. -/
theorem ref_eq (a : Vec Ideal Cert.FfnDownIdeal.S2048x5632 .f32) (b : Vec Ideal Cert.FfnDownIdeal.S5632x2048 .f32) :
    val_main_v0 (F := Ideal) a b = prod a b := by
  funext i
  idx_vars i
  pointwise [val_main_v0, prod]

/-- The reference runs to the end with its arguments unchanged and every counter at zero. -/
theorem reference_frame : Cert.quiescent_FfnDownRefIdeal := fun m ρ _ =>
  (θ_run Cert.FfnDownRefIdeal.defs _ _).mono
    (fun r h => ⟨fun c => (h c).2, Idealize.ShloMosaic.sem_eq_zero_of_no_sems (by decide) r.2⟩)
    (Cert.FfnDownRefIdeal.Value.run (F := Ideal) m ρ)

/-- The kernel's result is the reference's, element by element. -/
theorem algebraic : Cert.algebraic_FfnDownIdeal_FfnDownRefIdeal := by
  intro m g m' g' _ hagree
  refine ⟨fun c => (Cert.FfnDownIdeal.Gen.dats m 0 c).arrAt 2 Cert.FfnDownIdeal.cfg0.N,
    Cert.FfnDownIdeal.Value.run_blocks (F := Ideal) m g,
    (θ_run Cert.FfnDownRefIdeal.defs _ _).mono (fun r h c => ⟨?_, (h c).2⟩)
      (Cert.FfnDownRefIdeal.Value.run (F := Ideal) m' g')⟩
  refine ((h c).1.trans ((val_main_v0_eq _ _).trans (ref_eq _ _))).trans ?_
  rw [(hagree c).1, (hagree c).2]
  exact (final m c).symm

end Reference

end Cert.Proof.FfnDown

end
-- ==== Proof.Products.FfnDx.lean ====
/-
  The gradient of the feed-forward block with respect to its rows: the gate's and the up product's shares together.
-/
module

public import proofs.«01_k».proof.Defs
public import proofs.«01_k».proof.Proof.Gen.FfnDxIdeal.Value
public import proofs.«01_k».proof.Proof.Gen.FfnDxRefIdeal.Read
public import proofs.«01_k».proof.Proof.Products.RowTiles
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.FfnDx

open Idealize.ShloMosaic Idealize.ShloMosaic.TcCoe Idealize.SL.Sem

section Kernel

open Cert.FfnDxIdeal Cert.FfnDxIdeal.Gen

/-- Element `(i, j)` of the products' sum: the sum over `k` of the products of each pair. -/
def prod (a : Vec Ideal S2048x5632 .f32) (b : Vec Ideal S2048x5632 .f32) (a2 : Vec Ideal S2048x5632 .f32) (b2 : Vec Ideal S2048x5632 .f32) : Vec Ideal S2048x2048 .f32 :=
  fun i => (∑ k : Fin 5632, a (ix2 (i 0) k) * b (ix2 (i 1) k)) + ∑ k : Fin 5632, a2 (ix2 (i 0) k) * b2 (ix2 (i 1) k)

/-- Where each window's block lies: point `t` takes its own columns of the rows and its own rows of the weight; the result is
    one block. -/
theorem idx : ∀ t : Fin cfg0.N, win0_0.index t = ![0, t.val] ∧ win0_1.index t = ![t.val, 0]
    ∧ win0_2.index t = ![0, t.val] ∧ win0_3.index t = ![t.val, 0]
    ∧ win0_4.index t = ![0, 0] :=
  (by decide +kernel : ∀ t : Fin grid0.N, _)

/-- The position of the contracted axis that lane `k` of point `t` holds. -/
abbrev at_ (t : Fin 11) (k : Fin 512) : Fin 5632 := ⟨t.val * 512 + k.val, by omega⟩

/-- The operands' blocks hold the parts of the arrays that point `t` reads. -/
structure Blocks (A : Vec Ideal S2048x5632 .f32) (B : Vec Ideal S2048x5632 .f32) (t : Fin 11) (x : Vec Ideal S2048x512 .bf16)
    (y : Vec Ideal S512x2048 .bf16) : Prop where
  x : ∀ (i : Fin 2048) (k : Fin 512), (x (ix2 i k) : EReal) = A (ix2 i (at_ t k))
  y : ∀ (k : Fin 512) (j : Fin 2048), (y (ix2 k j) : EReal) = B (ix2 j (at_ t k))

/-- One point's share of element `(i, j)`. -/
def share (x : Vec Ideal S2048x512 .bf16) (y : Vec Ideal S512x2048 .bf16) (i j : Fin 2048) : EReal :=
  ∑ k : Fin 512, x (ix2 i k) * y (ix2 k j)

/-- The points' shares sum to the whole contraction. -/
theorem share_sum (A : Vec Ideal S2048x5632 .f32) (B : Vec Ideal S2048x5632 .f32) (x : Fin 11 → Vec Ideal S2048x512 .bf16)
    (y : Fin 11 → Vec Ideal S512x2048 .bf16) (h : ∀ t, Blocks A B t (x t) (y t)) (i j : Fin 2048) :
    ∑ t : Fin 11, share (x t) (y t) i j = ∑ k : Fin 5632, (A (ix2 i k) : EReal) * B (ix2 j k) := by
  unfold share
  refine Fin.sum_mul_add_congr fun s k hl => ?_
  exact congrArg₂ (· * ·) ((h s).x i k) ((h s).y k j)

/-- The stored zero. -/
theorem zero_apply (i j : Fin 2048) : (k0_pay2 (F := Ideal) (ix2 i j) : EReal) = 0 := by
  pointwise [k0_pay2]

/-- What the body stores in the rows from 0 on: what it found plus the tile's products. -/
theorem tile0_apply (a a2 : Vec Ideal S512x512 .bf16) (b b2 : Vec Ideal S512x2048 .bf16) (acc : Vec Ideal S512x2048 .f32)
    (p : Fin 512) (q : Fin 2048) : (k0_pay3 a b a2 b2 acc (ix2 p q) : EReal) = acc (ix2 p q) + ((∑ k : Fin 512, a (ix2 p k) * b (ix2 k q)) + ∑ k : Fin 512, a2 (ix2 p k) * b2 (ix2 k q) : EReal) := by
  pointwise [k0_pay3]

/-- What the body stores in the rows from 512 on: what it found plus the tile's products. -/
theorem tile512_apply (a a2 : Vec Ideal S512x512 .bf16) (b b2 : Vec Ideal S512x2048 .bf16) (acc : Vec Ideal S512x2048 .f32)
    (p : Fin 512) (q : Fin 2048) : (k0_pay5 (k0_pay4 a b a2 b2) acc (ix2 p q) : EReal) = acc (ix2 p q) + ((∑ k : Fin 512, a (ix2 p k) * b (ix2 k q)) + ∑ k : Fin 512, a2 (ix2 p k) * b2 (ix2 k q) : EReal) := by
  pointwise [k0_pay5, k0_pay4]

/-- What the body stores in the rows from 1024 on: what it found plus the tile's products. -/
theorem tile1024_apply (a a2 : Vec Ideal S512x512 .bf16) (b b2 : Vec Ideal S512x2048 .bf16) (acc : Vec Ideal S512x2048 .f32)
    (p : Fin 512) (q : Fin 2048) : (k0_pay6 a b a2 b2 acc (ix2 p q) : EReal) = acc (ix2 p q) + ((∑ k : Fin 512, a (ix2 p k) * b (ix2 k q)) + ∑ k : Fin 512, a2 (ix2 p k) * b2 (ix2 k q) : EReal) := by
  pointwise [k0_pay6]

/-- What the body stores in the rows from 1536 on: what it found plus the tile's products. -/
theorem tile1536_apply (a a2 : Vec Ideal S512x512 .bf16) (b b2 : Vec Ideal S512x2048 .bf16) (acc : Vec Ideal S512x2048 .f32)
    (p : Fin 512) (q : Fin 2048) : (k0_pay1 (k0_pay7 a b a2 b2) acc (ix2 p q) : EReal) = acc (ix2 p q) + ((∑ k : Fin 512, a (ix2 p k) * b (ix2 k q)) + ∑ k : Fin 512, a2 (ix2 p k) * b2 (ix2 k q) : EReal) := by
  pointwise [k0_pay1, k0_pay7]

variable (m : (ℓ : Loc nD τ sig) → Buf (Elt Ideal) ℓ)

/-- The rows of the first pair as the call reads them. -/
theorem V_lhs (c : Dev nD) : V m c main_v0
    = truncf (F := Ideal) (s := S2048x5632) .bf16 (m ((c : Thread nD τ).loc main_arg0)) bitsLt_bf16_f32 := by
  unfold V
  after_results

/-- The weight of the first pair as the call reads it: rows and columns exchanged. -/
theorem V_rhs (c : Dev nD) (k : Fin 5632) (j : Fin 2048) :
    (V m c main_v2 (ix2 k j) : EReal) = m ((c : Thread nD τ).loc main_arg2) (ix2 j k) := by
  have h : V m c main_v2 = truncf (F := Ideal) (s := S5632x2048) .bf16
      (transpose S5632x2048 [1, 0] (m ((c : Thread nD τ).loc main_arg2)) transposes_S2048x5632_S5632x2048_1_0) bitsLt_bf16_f32 := by
    unfold V
    after_results
  rw [h]
  pointwise []

/-- Point `t`'s operand blocks of the first pair are those of its share. -/
theorem blocks (c : Dev nD) (t : Fin cfg0.N) :
    Blocks (m ((c : Thread nD τ).loc main_arg0)) (m ((c : Thread nD τ).loc main_arg2)) t
      (iblk m c 0 t) (iblk m c 1 t) where
  x i k := by blk_ext [iblk, V_lhs, idx t]
  y k j := by
    refine Eq.trans ?_ (V_rhs m c (at_ t k) j)
    blk_ext [iblk, idx t]

/-- The rows of the second pair as the call reads them. -/
theorem V_lhs2 (c : Dev nD) : V m c main_v3
    = truncf (F := Ideal) (s := S2048x5632) .bf16 (m ((c : Thread nD τ).loc main_arg1)) bitsLt_bf16_f32 := by
  unfold V
  after_results

/-- The weight of the second pair as the call reads it: rows and columns exchanged. -/
theorem V_rhs2 (c : Dev nD) (k : Fin 5632) (j : Fin 2048) :
    (V m c main_v5 (ix2 k j) : EReal) = m ((c : Thread nD τ).loc main_arg3) (ix2 j k) := by
  have h : V m c main_v5 = truncf (F := Ideal) (s := S5632x2048) .bf16
      (transpose S5632x2048 [1, 0] (m ((c : Thread nD τ).loc main_arg3)) transposes_S2048x5632_S5632x2048_1_0) bitsLt_bf16_f32 := by
    unfold V
    after_results
  rw [h]
  pointwise []

/-- Point `t`'s operand blocks of the second pair are those of its share. -/
theorem blocks2 (c : Dev nD) (t : Fin cfg0.N) :
    Blocks (m ((c : Thread nD τ).loc main_arg1)) (m ((c : Thread nD τ).loc main_arg3)) t
      (iblk m c 2 t) (iblk m c 3 t) where
  x i k := by blk_ext [iblk, V_lhs2, idx t]
  y k j := by
    refine Eq.trans ?_ (V_rhs2 m c (at_ t k) j)
    blk_ext [iblk, idx t]

/-- At the first point each tile is zero plus its share. -/
theorem first (c : Dev nD) (t : Fin cfg0.N) (h : t.val % 11 = 0) (i : S2048x2048.Idx) :
    outsAt0 m c t.val t.isLt i = (0 : EReal) + (share (iblk m c 0 t) (iblk m c 1 t) (i 0) (i 1) + share (iblk m c 2 t) (iblk m c 3 t) (i 0) (i 1)) := by
  rw [outsAt0_A m c t h]
  frame_out
  refine congrFun (canon_four (Val := Elt Ideal) (e := .f32) _ (fun i => ((0 : EReal) + (share (iblk m c 0 t) (iblk m c 1 t) (i 0) (i 1) + share (iblk m c 2 t) (iblk m c 3 t) (i 0) (i 1)) : EReal)) _ _ _ _ _ _ _ _ ?_ ?_ ?_ ?_) i
  · intro p q
    rw [tile0_apply, readCov_whole, ld_tile 0 _ _ p q (by omega), zero_apply]
    refine congrArg (_ + ·) (congrArg₂ (· + ·) (Finset.sum_congr rfl fun k _ => congrArg (· * _) (ld_tile 0 (iblk m c 0 t) _ p k (by omega)))
      (Finset.sum_congr rfl fun k _ => congrArg (· * _) (ld_tile 0 (iblk m c 2 t) _ p k (by omega))))
  · intro p q
    rw [tile512_apply, readCov_skip _ 0 512 (by decide), readCov_whole, ld_tile 512 _ _ p q (by omega), zero_apply]
    refine congrArg (_ + ·) (congrArg₂ (· + ·) (Finset.sum_congr rfl fun k _ => congrArg (· * _) (ld_tile 512 (iblk m c 0 t) _ p k (by omega)))
      (Finset.sum_congr rfl fun k _ => congrArg (· * _) (ld_tile 512 (iblk m c 2 t) _ p k (by omega))))
  · intro p q
    rw [tile1024_apply, readCov_skip _ 512 1024 (by decide), readCov_skip _ 0 1024 (by decide), readCov_whole, ld_tile 1024 _ _ p q (by omega), zero_apply]
    refine congrArg (_ + ·) (congrArg₂ (· + ·) (Finset.sum_congr rfl fun k _ => congrArg (· * _) (ld_tile 1024 (iblk m c 0 t) _ p k (by omega)))
      (Finset.sum_congr rfl fun k _ => congrArg (· * _) (ld_tile 1024 (iblk m c 2 t) _ p k (by omega))))
  · intro p q
    rw [tile1536_apply, readCov_skip _ 1024 1536 (by decide), readCov_skip _ 512 1536 (by decide), readCov_skip _ 0 1536 (by decide), readCov_whole, ld_tile 1536 _ _ p q (by omega), zero_apply]
    refine congrArg (_ + ·) (congrArg₂ (· + ·) (Finset.sum_congr rfl fun k _ => congrArg (· * _) (ld_tile 1536 (iblk m c 0 t) _ p k (by omega)))
      (Finset.sum_congr rfl fun k _ => congrArg (· * _) (ld_tile 1536 (iblk m c 2 t) _ p k (by omega))))

/-- At a later point each tile is what the point before left plus its share. -/
theorem later (c : Dev nD) (t : Fin cfg0.N) (h : ¬t.val % 11 = 0) (i : S2048x2048.Idx) :
    outsAt0 m c t.val t.isLt i = (outsAt0 m c (t.val - 1) (Nat.lt_of_le_of_lt (Nat.sub_le _ _) t.isLt) i : EReal) + (share (iblk m c 0 t) (iblk m c 1 t) (i 0) (i 1) + share (iblk m c 2 t) (iblk m c 3 t) (i 0) (i 1)) := by
  rw [outsAt0_B m c t h]
  frame_out
  refine congrFun (canon_four (Val := Elt Ideal) (e := .f32) _ (fun i => ((outsAt0 m c (t.val - 1) (Nat.lt_of_le_of_lt (Nat.sub_le _ _) t.isLt) i : EReal) + (share (iblk m c 0 t) (iblk m c 1 t) (i 0) (i 1) + share (iblk m c 2 t) (iblk m c 3 t) (i 0) (i 1)) : EReal)) _ _ _ _ _ _ _ _ ?_ ?_ ?_ ?_) i
  · intro p q
    rw [tile0_apply, ld_tile 0 _ _ p q (by omega)]
    refine congrArg (_ + ·) (congrArg₂ (· + ·) (Finset.sum_congr rfl fun k _ => congrArg (· * _) (ld_tile 0 (iblk m c 0 t) _ p k (by omega)))
      (Finset.sum_congr rfl fun k _ => congrArg (· * _) (ld_tile 0 (iblk m c 2 t) _ p k (by omega))))
  · intro p q
    rw [tile512_apply, ld_tile 512 _ _ p q (by omega)]
    refine congrArg (_ + ·) (congrArg₂ (· + ·) (Finset.sum_congr rfl fun k _ => congrArg (· * _) (ld_tile 512 (iblk m c 0 t) _ p k (by omega)))
      (Finset.sum_congr rfl fun k _ => congrArg (· * _) (ld_tile 512 (iblk m c 2 t) _ p k (by omega))))
  · intro p q
    rw [tile1024_apply, ld_tile 1024 _ _ p q (by omega)]
    refine congrArg (_ + ·) (congrArg₂ (· + ·) (Finset.sum_congr rfl fun k _ => congrArg (· * _) (ld_tile 1024 (iblk m c 0 t) _ p k (by omega)))
      (Finset.sum_congr rfl fun k _ => congrArg (· * _) (ld_tile 1024 (iblk m c 2 t) _ p k (by omega))))
  · intro p q
    rw [tile1536_apply, ld_tile 1536 _ _ p q (by omega)]
    refine congrArg (_ + ·) (congrArg₂ (· + ·) (Finset.sum_congr rfl fun k _ => congrArg (· * _) (ld_tile 1536 (iblk m c 0 t) _ p k (by omega)))
      (Finset.sum_congr rfl fun k _ => congrArg (· * _) (ld_tile 1536 (iblk m c 2 t) _ p k (by omega))))

/-- After the last point the accumulator holds the whole product. -/
theorem outs_last (c : Dev nD) (t : Fin cfg0.N) (ht : t.val + 1 = cfg0.N) (i : S2048x2048.Idx) :
    outsAt0 m c t.val t.isLt i = prod (m ((c : Thread nD τ).loc main_arg0)) (m ((c : Thread nD τ).loc main_arg2)) (m ((c : Thread nD τ).loc main_arg1)) (m ((c : Thread nD τ).loc main_arg3)) i := by
  rw [Pipeline.eq_sum_fin_of_reset_step_apply_last (M := EReal) (fun n h => outsAt0 m c n h) 11 (fun _ => 0)
    (fun t i => (share (iblk m c 0 t) (iblk m c 1 t) (i 0) (i 1) + share (iblk m c 2 t) (iblk m c 3 t) (i 0) (i 1)))
    (fun t h i => first m c t h i) (fun t h i => later m c t h i) (le_of_eq N_0) t ht i, zero_add]
  refine (Finset.sum_add_distrib (f := fun t => share (iblk m c 0 t) (iblk m c 1 t) (i 0) (i 1))).trans ?_
  exact congrArg₂ (· + ·) (share_sum _ _ (fun t => iblk m c 0 t) (fun t => iblk m c 1 t) (blocks m c) (i 0) (i 1))
    (share_sum _ _ (fun t => iblk m c 2 t) (fun t => iblk m c 3 t) (blocks2 m c) (i 0) (i 1))

/-- The result array holds the product. -/
theorem final (c : Dev nD) : (dats m 0 c).arrAt 4 cfg0.N = prod (m ((c : Thread nD τ).loc main_arg0)) (m ((c : Thread nD τ).loc main_arg2)) (m ((c : Thread nD τ).loc main_arg1)) (m ((c : Thread nD τ).loc main_arg3)) := by
  refine (dats m 0 c).arrAt_eq_of_covers 4 _ (by decide +kernel) fun t hf y => ?_
  have h10 := (flush0_4 t).mp hf
  have hN : cfg0.N = 11 := N_0
  have hlt := t.isLt
  blk_simp
  rw [after0_4, outs_last m c t (by omega) _]
  refine congrArg _ ?_
  blk_ext [idx t]

end Kernel

section Reference

open Cert.FfnDxRefIdeal.Read

/-- The reference's value is the sum of the products. -/
theorem ref_eq (a : Vec Ideal Cert.FfnDxIdeal.S2048x5632 .f32) (b : Vec Ideal Cert.FfnDxIdeal.S2048x5632 .f32) (a2 : Vec Ideal Cert.FfnDxIdeal.S2048x5632 .f32) (b2 : Vec Ideal Cert.FfnDxIdeal.S2048x5632 .f32) :
    val_main_v5 (F := Ideal) a a2 b b2 = prod a b a2 b2 := by
  funext i
  idx_vars i
  refine Eq.trans ?_ (add_comm _ _)
  pointwise [val_main_v5, val_main_v3, val_main_v4, prod]

/-- The reference runs to the end with its arguments unchanged and every counter at zero. -/
theorem reference_frame : Cert.quiescent_FfnDxRefIdeal := fun m ρ _ =>
  (θ_run Cert.FfnDxRefIdeal.defs _ _).mono
    (fun r h => ⟨fun c => (h c).2, Idealize.ShloMosaic.sem_eq_zero_of_no_sems (by decide) r.2⟩)
    (Cert.FfnDxRefIdeal.Value.run (F := Ideal) m ρ)

/-- The kernel's result is the reference's, element by element. -/
theorem algebraic : Cert.algebraic_FfnDxIdeal_FfnDxRefIdeal := by
  intro m g m' g' _ hagree
  refine ⟨fun c => (Cert.FfnDxIdeal.Gen.dats m 0 c).arrAt 4 Cert.FfnDxIdeal.cfg0.N,
    Cert.FfnDxIdeal.Value.run_blocks (F := Ideal) m g,
    (θ_run Cert.FfnDxRefIdeal.defs _ _).mono (fun r h c => ⟨?_, (h c).2⟩)
      (Cert.FfnDxRefIdeal.Value.run (F := Ideal) m' g')⟩
  refine ((h c).1.trans ((val_main_v5_eq _ _ _ _).trans (ref_eq _ _ _ _))).trans ?_
  rw [(hagree c).1, (hagree c).2.1, (hagree c).2.2.1, (hagree c).2.2.2]
  exact (final m c).symm

end Reference

end Cert.Proof.FfnDx

end
-- ==== Proof.Products.FfnUp.lean ====
/-
  The gate and up products of the feed-forward block: the hidden activation, and the two factors its gradient needs.
  The kernel writes the derivative of `silu` as `σ (1 + g (1 - σ))`, the reference as the chain rule does.
-/
module

public import proofs.«01_k».proof.Defs
public import proofs.«01_k».proof.Proof.Gen.FfnUpIdeal.Value
public import proofs.«01_k».proof.Proof.Gen.FfnUpRefIdeal.Read
public import proofs.«01_k».proof.Proof.Products.Silu
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.FfnUp

open Idealize.ShloMosaic Idealize.ShloMosaic.TcCoe Idealize.SL.Sem

section Kernel

open Cert.FfnUpIdeal Cert.FfnUpIdeal.Gen

/-- Element `(i, j)` of the product of the rows and a weight. -/
def lin (x : Vec Ideal S2048x2048 .f32) (w : Vec Ideal S2048x5632 .f32) (i : Fin 2048) (j : Fin 5632) : EReal :=
  ∑ k : Fin 2048, x (ix2 i k) * w (ix2 k j)

/-- The factor of the gate's gradient, in the kernel's form: `u (σ(g) (1 + g (1 - σ(g))))`. -/
def gateFactor (x : Vec Ideal S2048x2048 .f32) (wg wu : Vec Ideal S2048x5632 .f32) : Vec Ideal S2048x5632 .bf16 :=
  fun i => lin x wu (i 0) (i 1) * (sigma (lin x wg (i 0) (i 1)) * (1 + lin x wg (i 0) (i 1) * (1 - sigma (lin x wg (i 0) (i 1)))))

/-- The factor of the up gradient: `g σ(g)`. -/
def upFactor (x : Vec Ideal S2048x2048 .f32) (wg : Vec Ideal S2048x5632 .f32) : Vec Ideal S2048x5632 .bf16 :=
  fun i => lin x wg (i 0) (i 1) * sigma (lin x wg (i 0) (i 1))

/-- The hidden activation: `(g σ(g)) u`. -/
def hidden (x : Vec Ideal S2048x2048 .f32) (wg wu : Vec Ideal S2048x5632 .f32) : Vec Ideal S2048x5632 .bf16 :=
  fun i => lin x wg (i 0) (i 1) * sigma (lin x wg (i 0) (i 1)) * lin x wu (i 0) (i 1)

/-- Where each window's block lies: block `t` of each result takes all rows and its own columns. -/
theorem idx : ∀ t : Fin cfg0.N, win0_0.index t = ![0, 0] ∧ win0_1.index t = ![t.val, 0] ∧ win0_2.index t = ![t.val, 0]
    ∧ win0_3.index t = ![0, t.val] ∧ win0_4.index t = ![0, t.val] ∧ win0_5.index t = ![0, t.val] :=
  (by decide +kernel : ∀ t : Fin grid0.N, _)

/-- The column of the array that column `q` of block `t` holds. -/
abbrev col (t : Fin 22) (q : Fin 256) : Fin 5632 := ⟨t.val * 256 + q.val, by omega⟩

/-- The operands' blocks hold the parts of the arrays that block `t` of the results is of. -/
structure Blocks (X : Vec Ideal S2048x2048 .f32) (G U : Vec Ideal S2048x5632 .f32) (t : Fin 22)
    (x : Vec Ideal S2048x2048 .bf16) (y z : Vec Ideal S256x2048 .bf16) : Prop where
  x : ∀ (p : Fin 2048) (k : Fin 2048), (x (ix2 p k) : EReal) = X (ix2 p k)
  y : ∀ (q : Fin 256) (k : Fin 2048), (y (ix2 q k) : EReal) = G (ix2 k (col t q))
  z : ∀ (q : Fin 256) (k : Fin 2048), (z (ix2 q k) : EReal) = U (ix2 k (col t q))

section
variable {X : Vec Ideal S2048x2048 .f32} {G U : Vec Ideal S2048x5632 .f32} {t : Fin 22}
  {x : Vec Ideal S2048x2048 .bf16} {y z : Vec Ideal S256x2048 .bf16}

/-- The gate's product, at one element of the block. -/
theorem gate_apply (h : Blocks X G U t x y z) (p : Fin 2048) (q : Fin 256) :
    (k0_pay2 x y (ix2 p q) : EReal) = lin X G p (col t q) := by
  pointwise [k0_pay2, k0_pay1]
  exact Finset.sum_congr rfl fun k _ => congrArg₂ (· * ·) (h.x p k) (h.y q k)

/-- The up product, at one element of the block. -/
theorem up_apply (h : Blocks X G U t x y z) (p : Fin 2048) (q : Fin 256) :
    (k0_pay3 x z (ix2 p q) : EReal) = lin X U p (col t q) := by
  pointwise [k0_pay3, k0_pay1]
  exact Finset.sum_congr rfl fun k _ => congrArg₂ (· * ·) (h.x p k) (h.z q k)

/-- The logistic of the gate, at one element of the block. -/
theorem sigma_apply (h : Blocks X G U t x y z) (p : Fin 2048) (q : Fin 256) :
    (k0_pay4 x y (ix2 p q) : EReal) = sigma (lin X G p (col t q)) :=
  congrArg Ideal.logistic (gate_apply h p q)

/-- The first result's block. -/
theorem pay_gate (h : Blocks X G U t x y z) (p : Fin 2048) (q : Fin 256) :
    k0_pay7 x y z (ix2 p q) = gateFactor X G U (ix2 p (col t q)) := by
  pointwise [k0_pay7]
  rw [up_apply h, gate_apply h, sigma_apply h]
  rfl

/-- The second result's block. -/
theorem pay_up (h : Blocks X G U t x y z) (p : Fin 2048) (q : Fin 256) :
    k0_pay6 x y (ix2 p q) = upFactor X G (ix2 p (col t q)) := by
  pointwise [k0_pay6, k0_pay5]
  rw [gate_apply h, sigma_apply h]
  rfl

/-- The third result's block. -/
theorem pay_hidden (h : Blocks X G U t x y z) (p : Fin 2048) (q : Fin 256) :
    k0_pay8 x y z (ix2 p q) = hidden X G U (ix2 p (col t q)) := by
  pointwise [k0_pay8, k0_pay5]
  rw [up_apply h, gate_apply h, sigma_apply h]
  rfl

end

variable (m : (ℓ : Loc nD τ sig) → Buf (Elt Ideal) ℓ)

/-- The rows as the call reads them. -/
theorem V_rows (c : Dev nD) : V m c main_v0
    = truncf (F := Ideal) (s := S2048x2048) .bf16 (m ((c : Thread nD τ).loc main_arg0)) bitsLt_bf16_f32 := by
  unfold V
  after_results

/-- The gate weight as the call reads it, transposed: row `q`, column `k`. -/
theorem V_gate (c : Dev nD) (q : Fin 5632) (k : Fin 2048) : (V m c main_v2 (ix2 q k) : EReal)
    = m ((c : Thread nD τ).loc main_arg1) (ix2 k q) := by
  have h : V m c main_v2 = truncf (F := Ideal) (s := S5632x2048) .bf16
      (transpose S5632x2048 [1, 0] (m ((c : Thread nD τ).loc main_arg1)) transposes_S2048x5632_S5632x2048_1_0) bitsLt_bf16_f32 := by
    unfold V
    after_results
  rw [h]
  pointwise []

/-- The up weight as the call reads it, transposed: row `q`, column `k`. -/
theorem V_up (c : Dev nD) (q : Fin 5632) (k : Fin 2048) : (V m c main_v4 (ix2 q k) : EReal)
    = m ((c : Thread nD τ).loc main_arg2) (ix2 k q) := by
  have h : V m c main_v4 = truncf (F := Ideal) (s := S5632x2048) .bf16
      (transpose S5632x2048 [1, 0] (m ((c : Thread nD τ).loc main_arg2)) transposes_S2048x5632_S5632x2048_1_0) bitsLt_bf16_f32 := by
    unfold V
    after_results
  rw [h]
  pointwise []

/-- Grid point `t`'s operand blocks are those of block `t` of the results. -/
theorem blocks (c : Dev nD) (t : Fin cfg0.N) :
    Blocks (m ((c : Thread nD τ).loc main_arg0)) (m ((c : Thread nD τ).loc main_arg1)) (m ((c : Thread nD τ).loc main_arg2)) t
      (iblk m c 0 t) (iblk m c 1 t) (iblk m c 2 t) where
  x p k := by blk_ext [iblk, V_rows, idx t]
  y q k := by
    refine Eq.trans ?_ (V_gate m c (col t q) k)
    blk_ext [iblk, idx t]
  z q k := by
    refine Eq.trans ?_ (V_up m c (col t q) k)
    blk_ext [iblk, idx t]

/-- The first result array holds the gate's factor. -/
theorem final_gate (c : Dev nD) : (dats m 0 c).arrAt 3 cfg0.N
    = gateFactor (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  rw [pay_gate (blocks m c t)]
  refine congrArg _ ?_
  blk_ext [idx t]

/-- The second result array holds the up factor. -/
theorem final_up (c : Dev nD) : (dats m 0 c).arrAt 4 cfg0.N
    = upFactor (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  rw [pay_up (blocks m c t)]
  refine congrArg _ ?_
  blk_ext [idx t]

/-- The third result array holds the hidden activation. -/
theorem final_hidden (c : Dev nD) : (dats m 0 c).arrAt 5 cfg0.N
    = hidden (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  rw [pay_hidden (blocks m c t)]
  refine congrArg _ ?_
  blk_ext [idx t]

end Kernel

section Reference

open Cert.FfnUpRefIdeal.Read

variable (x : Vec Ideal Cert.FfnUpIdeal.S2048x2048 .f32) (wg wu : Vec Ideal Cert.FfnUpIdeal.S2048x5632 .f32)

/-- The reference's gate. -/
theorem ref_gate (i : Fin 2048) (j : Fin 5632) : (val_main_v0 (F := Ideal) x wg (ix2 i j) : EReal) = lin x wg i j := by
  pointwise [val_main_v0, lin]

/-- The reference's up product. -/
theorem ref_up (i : Fin 2048) (j : Fin 5632) : (val_main_v1 (F := Ideal) x wu (ix2 i j) : EReal) = lin x wu i j := by
  pointwise [val_main_v1, lin]

/-- The reference's logistic of the gate. -/
theorem ref_sigma (i : Fin 2048) (j : Fin 5632) :
    (val_main_v2_2 (F := Ideal) x wg (ix2 i j) : EReal) = sigma (lin x wg i j) := by
  rw [← ref_gate x wg i j]
  pointwise [val_main_v2_2, val_main_call0_v4, val_main_call0_v3, val_main_call0_v2, val_main_call0_v1, val_main_call0_v0,
    val_main_call0_cst, val_main_call0_cst_0, sigma]

/-- The reference's first result, where the up product is real. -/
theorem ref_gateFactor (h : ∀ i j, ∃ r : ℝ, lin x wu i j = r) :
    val_main_v8 (F := Ideal) x wg wu = gateFactor x wg wu := by
  funext i
  idx_vars i
  obtain ⟨r, hr⟩ := h i0 i1
  refine Eq.trans ?_ (Eq.trans (factored r (lin x wg i0 i1)).symm (by rw [← hr]; rfl))
  rw [← hr]
  pointwise [val_main_v8, val_main_v7, val_main_call1_v1, val_main_call1_v2, val_main_call1_v0, val_main_v6, val_main_v4,
    val_main_cst, val_main_v2_1, val_main_call0_v7, val_main_call0_v6, val_main_call0_cst_1]
  rw [ref_up, ref_gate, ref_sigma]
  rfl

/-- The reference's second result. -/
theorem ref_upFactor : val_main_v9 (F := Ideal) x wg = upFactor x wg := by
  funext i
  idx_vars i
  pointwise [val_main_v9, val_main_v5, val_main_v4, val_main_cst, val_main_v2_0]
  rw [ref_gate, ref_sigma]
  rfl

/-- The reference's third result. -/
theorem ref_hidden : val_main_v10 (F := Ideal) x wg wu = hidden x wg wu := by
  funext i
  idx_vars i
  pointwise [val_main_v10, val_main_v3, val_main_v2_0]
  rw [ref_gate, ref_sigma, ref_up]
  rfl

/-- Where the precondition holds, the rows are real. -/
theorem rows_real [Cert.Pre_up_finite.Facts] (h : (Cert.Pre_up_finite.fn (F := Ideal) x wg wu).1 = fun _ => 1#1)
    (i k : Fin 2048) : ∃ r : ℝ, (x (ix2 i k) : EReal) = r := by
  have h1 := congrFun h (ix2 i k)
  revert h1
  pointwise [Cert.Pre_up_finite.fn]
  exact real_of_bit _

/-- Where the precondition holds, the up weight is real. -/
theorem up_real [Cert.Pre_up_finite.Facts] (h : (Cert.Pre_up_finite.fn (F := Ideal) x wg wu).2 = fun _ => 1#1)
    (k : Fin 2048) (j : Fin 5632) : ∃ r : ℝ, (wu (ix2 k j) : EReal) = r := by
  have h1 := congrFun h (ix2 k j)
  revert h1
  pointwise [Cert.Pre_up_finite.fn]
  exact real_of_bit _

/-- The reference runs to the end with its arguments unchanged and every counter at zero. -/
theorem reference_frame : Cert.quiescent_FfnUpRefIdeal := fun m ρ _ =>
  (θ_run Cert.FfnUpRefIdeal.defs _ _).mono
    (fun r h => ⟨fun c => (h c).2.2.2, Idealize.ShloMosaic.sem_eq_zero_of_no_sems (by decide) r.2⟩)
    (Cert.FfnUpRefIdeal.Value.run (F := Ideal) m ρ)

/-- It does so under the precondition. -/
theorem reference_frame_pre [Cert.Pre_up_finite.Facts] : Cert.quiescent_FfnUpRefIdeal_pre_up_finite := fun m ρ _ =>
  reference_frame m ρ trivial

/-- The kernel's three results are the reference's, element by element, where the rows and the up weight are finite. -/
theorem algebraic [Cert.Pre_up_finite.Facts] : Cert.algebraic_FfnUpIdeal_FfnUpRefIdeal_pre_up_finite := by
  intro m g m' g' hpre hagree
  have hu : ∀ (c : Dev Cert.FfnUpIdeal.nD) (i : Fin 2048) (j : Fin 5632), ∃ r : ℝ, lin (m ((c.tc : Thread Cert.FfnUpIdeal.nD Cert.FfnUpIdeal.τ).loc Cert.FfnUpIdeal.main_arg0))
      (m ((c.tc : Thread Cert.FfnUpIdeal.nD Cert.FfnUpIdeal.τ).loc Cert.FfnUpIdeal.main_arg2)) i j = r := fun c i j =>
    sum_mul_real _ _ (fun k => rows_real _ _ _ (hpre c).1 i k) (fun k => up_real _ _ _ (hpre c).2 k j)
  refine ⟨fun c => (Cert.FfnUpIdeal.Gen.dats m 0 c).arrAt 3 Cert.FfnUpIdeal.cfg0.N,
    fun c => (Cert.FfnUpIdeal.Gen.dats m 0 c).arrAt 4 Cert.FfnUpIdeal.cfg0.N,
    fun c => (Cert.FfnUpIdeal.Gen.dats m 0 c).arrAt 5 Cert.FfnUpIdeal.cfg0.N,
    Cert.FfnUpIdeal.Value.run_blocks (F := Ideal) m g,
    (θ_run Cert.FfnUpRefIdeal.defs _ _).mono (fun r h c => ⟨?_, ?_, ?_, (h c).2.2.2⟩)
      (Cert.FfnUpRefIdeal.Value.run (F := Ideal) m' g')⟩
  · refine ((h c).1.trans (val_main_v8_eq _ _ _)).trans ?_
    rw [(hagree c).1, (hagree c).2.1, (hagree c).2.2, ref_gateFactor _ _ _ (hu c)]
    exact (final_gate m c).symm
  · refine ((h c).2.1.trans (val_main_v9_eq _ _)).trans ?_
    rw [(hagree c).1, (hagree c).2.1, ref_upFactor]
    exact (final_up m c).symm
  · refine ((h c).2.2.1.trans (val_main_v10_eq _ _ _)).trans ?_
    rw [(hagree c).1, (hagree c).2.1, (hagree c).2.2, ref_hidden]
    exact (final_hidden m c).symm

end Reference

end Cert.Proof.FfnUp

end
-- ==== Proof.Products.InDx.lean ====
/-
  The gradient of the mixer's input projection with respect to its rows.
-/
module

public import proofs.«01_k».proof.Defs
public import proofs.«01_k».proof.Proof.Gen.InDxIdeal.Value
public import proofs.«01_k».proof.Proof.Gen.InDxRefIdeal.Read
public import proofs.«01_k».proof.Proof.Products.RowTiles
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.InDx

open Idealize.ShloMosaic Idealize.ShloMosaic.TcCoe Idealize.SL.Sem

section Kernel

open Cert.InDxIdeal Cert.InDxIdeal.Gen

/-- Element `(i, j)` of the product: the sum over `k` of the products. -/
def prod (a : Vec Ideal S2048x4096 .f32) (b : Vec Ideal S2048x4096 .f32) : Vec Ideal S2048x2048 .f32 :=
  fun i => ∑ k : Fin 4096, a (ix2 (i 0) k) * b (ix2 (i 1) k)

/-- Where each window's block lies: point `t` takes its own columns of the rows and its own rows of the weight; the result is
    one block. -/
theorem idx : ∀ t : Fin cfg0.N, win0_0.index t = ![0, t.val] ∧ win0_1.index t = ![t.val, 0]
    ∧ win0_2.index t = ![0, 0] :=
  (by decide +kernel : ∀ t : Fin grid0.N, _)

/-- The position of the contracted axis that lane `k` of point `t` holds. -/
abbrev at_ (t : Fin 8) (k : Fin 512) : Fin 4096 := ⟨t.val * 512 + k.val, by omega⟩

/-- The operands' blocks hold the parts of the arrays that point `t` reads. -/
structure Blocks (A : Vec Ideal S2048x4096 .f32) (B : Vec Ideal S2048x4096 .f32) (t : Fin 8) (x : Vec Ideal S2048x512 .bf16)
    (y : Vec Ideal S512x2048 .bf16) : Prop where
  x : ∀ (i : Fin 2048) (k : Fin 512), (x (ix2 i k) : EReal) = A (ix2 i (at_ t k))
  y : ∀ (k : Fin 512) (j : Fin 2048), (y (ix2 k j) : EReal) = B (ix2 j (at_ t k))

/-- One point's share of element `(i, j)`. -/
def share (x : Vec Ideal S2048x512 .bf16) (y : Vec Ideal S512x2048 .bf16) (i j : Fin 2048) : EReal :=
  ∑ k : Fin 512, x (ix2 i k) * y (ix2 k j)

/-- The points' shares sum to the whole contraction. -/
theorem share_sum (A : Vec Ideal S2048x4096 .f32) (B : Vec Ideal S2048x4096 .f32) (x : Fin 8 → Vec Ideal S2048x512 .bf16)
    (y : Fin 8 → Vec Ideal S512x2048 .bf16) (h : ∀ t, Blocks A B t (x t) (y t)) (i j : Fin 2048) :
    ∑ t : Fin 8, share (x t) (y t) i j = ∑ k : Fin 4096, (A (ix2 i k) : EReal) * B (ix2 j k) := by
  unfold share
  refine Fin.sum_mul_add_congr fun s k hl => ?_
  exact congrArg₂ (· * ·) ((h s).x i k) ((h s).y k j)

/-- The stored zero. -/
theorem zero_apply (i j : Fin 2048) : (k0_pay2 (F := Ideal) (ix2 i j) : EReal) = 0 := by
  pointwise [k0_pay2]

/-- What the body stores in the rows from 0 on: what it found plus the tile's product. -/
theorem tile0_apply (a : Vec Ideal S512x512 .bf16) (b : Vec Ideal S512x2048 .bf16) (acc : Vec Ideal S512x2048 .f32)
    (p : Fin 512) (q : Fin 2048) : (k0_pay3 a b acc (ix2 p q) : EReal) = acc (ix2 p q) + (∑ k : Fin 512, a (ix2 p k) * b (ix2 k q) : EReal) := by
  pointwise [k0_pay3]

/-- What the body stores in the rows from 512 on: what it found plus the tile's product. -/
theorem tile512_apply (a : Vec Ideal S512x512 .bf16) (b : Vec Ideal S512x2048 .bf16) (acc : Vec Ideal S512x2048 .f32)
    (p : Fin 512) (q : Fin 2048) : (k0_pay4 a b acc (ix2 p q) : EReal) = acc (ix2 p q) + (∑ k : Fin 512, a (ix2 p k) * b (ix2 k q) : EReal) := by
  pointwise [k0_pay4]

/-- What the body stores in the rows from 1024 on: what it found plus the tile's product. -/
theorem tile1024_apply (a : Vec Ideal S512x512 .bf16) (b : Vec Ideal S512x2048 .bf16) (acc : Vec Ideal S512x2048 .f32)
    (p : Fin 512) (q : Fin 2048) : (k0_pay5 a b acc (ix2 p q) : EReal) = acc (ix2 p q) + (∑ k : Fin 512, a (ix2 p k) * b (ix2 k q) : EReal) := by
  pointwise [k0_pay5]

/-- What the body stores in the rows from 1536 on: what it found plus the tile's product. -/
theorem tile1536_apply (a : Vec Ideal S512x512 .bf16) (b : Vec Ideal S512x2048 .bf16) (acc : Vec Ideal S512x2048 .f32)
    (p : Fin 512) (q : Fin 2048) : (k0_pay1 a b acc (ix2 p q) : EReal) = acc (ix2 p q) + (∑ k : Fin 512, a (ix2 p k) * b (ix2 k q) : EReal) := by
  pointwise [k0_pay1]

variable (m : (ℓ : Loc nD τ sig) → Buf (Elt Ideal) ℓ)

/-- The rows as the call reads them. -/
theorem V_lhs (c : Dev nD) : V m c main_v0
    = truncf (F := Ideal) (s := S2048x4096) .bf16 (m ((c : Thread nD τ).loc main_arg0)) bitsLt_bf16_f32 := by
  unfold V
  after_results

/-- The weight as the call reads it: rows and columns exchanged. -/
theorem V_rhs (c : Dev nD) (k : Fin 4096) (j : Fin 2048) :
    (V m c main_v2 (ix2 k j) : EReal) = m ((c : Thread nD τ).loc main_arg1) (ix2 j k) := by
  have h : V m c main_v2 = truncf (F := Ideal) (s := S4096x2048) .bf16
      (transpose S4096x2048 [1, 0] (m ((c : Thread nD τ).loc main_arg1)) transposes_S2048x4096_S4096x2048_1_0) bitsLt_bf16_f32 := by
    unfold V
    after_results
  rw [h]
  pointwise []

/-- Point `t`'s operand blocks are those of its share. -/
theorem blocks (c : Dev nD) (t : Fin cfg0.N) :
    Blocks (m ((c : Thread nD τ).loc main_arg0)) (m ((c : Thread nD τ).loc main_arg1)) t
      (iblk m c 0 t) (iblk m c 1 t) where
  x i k := by blk_ext [iblk, V_lhs, idx t]
  y k j := by
    refine Eq.trans ?_ (V_rhs m c (at_ t k) j)
    blk_ext [iblk, idx t]

/-- At the first point each tile is zero plus its share. -/
theorem first (c : Dev nD) (t : Fin cfg0.N) (h : t.val % 8 = 0) (i : S2048x2048.Idx) :
    outsAt0 m c t.val t.isLt i = (0 : EReal) + share (iblk m c 0 t) (iblk m c 1 t) (i 0) (i 1) := by
  rw [outsAt0_A m c t h]
  frame_out
  refine congrFun (canon_four (Val := Elt Ideal) (e := .f32) _ (fun i => ((0 : EReal) + share (iblk m c 0 t) (iblk m c 1 t) (i 0) (i 1) : EReal)) _ _ _ _ _ _ _ _ ?_ ?_ ?_ ?_) i
  · intro p q
    rw [tile0_apply, readCov_whole, ld_tile 0 _ _ p q (by omega), zero_apply]
    refine congrArg (_ + ·) (Finset.sum_congr rfl fun k _ => congrArg (· * _) (ld_tile 0 (iblk m c 0 t) _ p k (by omega)))
  · intro p q
    rw [tile512_apply, readCov_skip _ 0 512 (by decide), readCov_whole, ld_tile 512 _ _ p q (by omega), zero_apply]
    refine congrArg (_ + ·) (Finset.sum_congr rfl fun k _ => congrArg (· * _) (ld_tile 512 (iblk m c 0 t) _ p k (by omega)))
  · intro p q
    rw [tile1024_apply, readCov_skip _ 512 1024 (by decide), readCov_skip _ 0 1024 (by decide), readCov_whole, ld_tile 1024 _ _ p q (by omega), zero_apply]
    refine congrArg (_ + ·) (Finset.sum_congr rfl fun k _ => congrArg (· * _) (ld_tile 1024 (iblk m c 0 t) _ p k (by omega)))
  · intro p q
    rw [tile1536_apply, readCov_skip _ 1024 1536 (by decide), readCov_skip _ 512 1536 (by decide), readCov_skip _ 0 1536 (by decide), readCov_whole, ld_tile 1536 _ _ p q (by omega), zero_apply]
    refine congrArg (_ + ·) (Finset.sum_congr rfl fun k _ => congrArg (· * _) (ld_tile 1536 (iblk m c 0 t) _ p k (by omega)))

/-- At a later point each tile is what the point before left plus its share. -/
theorem later (c : Dev nD) (t : Fin cfg0.N) (h : ¬t.val % 8 = 0) (i : S2048x2048.Idx) :
    outsAt0 m c t.val t.isLt i = (outsAt0 m c (t.val - 1) (Nat.lt_of_le_of_lt (Nat.sub_le _ _) t.isLt) i : EReal) + share (iblk m c 0 t) (iblk m c 1 t) (i 0) (i 1) := by
  rw [outsAt0_B m c t h]
  frame_out
  refine congrFun (canon_four (Val := Elt Ideal) (e := .f32) _ (fun i => ((outsAt0 m c (t.val - 1) (Nat.lt_of_le_of_lt (Nat.sub_le _ _) t.isLt) i : EReal) + share (iblk m c 0 t) (iblk m c 1 t) (i 0) (i 1) : EReal)) _ _ _ _ _ _ _ _ ?_ ?_ ?_ ?_) i
  · intro p q
    rw [tile0_apply, ld_tile 0 _ _ p q (by omega)]
    refine congrArg (_ + ·) (Finset.sum_congr rfl fun k _ => congrArg (· * _) (ld_tile 0 (iblk m c 0 t) _ p k (by omega)))
  · intro p q
    rw [tile512_apply, ld_tile 512 _ _ p q (by omega)]
    refine congrArg (_ + ·) (Finset.sum_congr rfl fun k _ => congrArg (· * _) (ld_tile 512 (iblk m c 0 t) _ p k (by omega)))
  · intro p q
    rw [tile1024_apply, ld_tile 1024 _ _ p q (by omega)]
    refine congrArg (_ + ·) (Finset.sum_congr rfl fun k _ => congrArg (· * _) (ld_tile 1024 (iblk m c 0 t) _ p k (by omega)))
  · intro p q
    rw [tile1536_apply, ld_tile 1536 _ _ p q (by omega)]
    refine congrArg (_ + ·) (Finset.sum_congr rfl fun k _ => congrArg (· * _) (ld_tile 1536 (iblk m c 0 t) _ p k (by omega)))

/-- After the last point the accumulator holds the whole product. -/
theorem outs_last (c : Dev nD) (t : Fin cfg0.N) (ht : t.val + 1 = cfg0.N) (i : S2048x2048.Idx) :
    outsAt0 m c t.val t.isLt i = prod (m ((c : Thread nD τ).loc main_arg0)) (m ((c : Thread nD τ).loc main_arg1)) i := by
  rw [Pipeline.eq_sum_fin_of_reset_step_apply_last (M := EReal) (fun n h => outsAt0 m c n h) 8 (fun _ => 0)
    (fun t i => share (iblk m c 0 t) (iblk m c 1 t) (i 0) (i 1))
    (fun t h i => first m c t h i) (fun t h i => later m c t h i) (le_of_eq N_0) t ht i, zero_add]
  exact share_sum _ _ (fun t => iblk m c 0 t) (fun t => iblk m c 1 t) (blocks m c) (i 0) (i 1)

/-- The result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h10 := (flush0_2 t).mp hf
  have hN : cfg0.N = 8 := N_0
  have hlt := t.isLt
  blk_simp
  rw [after0_2, outs_last m c t (by omega) _]
  refine congrArg _ ?_
  blk_ext [idx t]

end Kernel

section Reference

open Cert.InDxRefIdeal.Read

/-- The reference's value is the product. -/
theorem ref_eq (a : Vec Ideal Cert.InDxIdeal.S2048x4096 .f32) (b : Vec Ideal Cert.InDxIdeal.S2048x4096 .f32) :
    val_main_v2 (F := Ideal) a b = prod a b := by
  funext i
  idx_vars i
  pointwise [val_main_v2, prod]

/-- The reference runs to the end with its arguments unchanged and every counter at zero. -/
theorem reference_frame : Cert.quiescent_InDxRefIdeal := fun m ρ _ =>
  (θ_run Cert.InDxRefIdeal.defs _ _).mono
    (fun r h => ⟨fun c => (h c).2, Idealize.ShloMosaic.sem_eq_zero_of_no_sems (by decide) r.2⟩)
    (Cert.InDxRefIdeal.Value.run (F := Ideal) m ρ)

/-- The kernel's result is the reference's, element by element. -/
theorem algebraic : Cert.algebraic_InDxIdeal_InDxRefIdeal := by
  intro m g m' g' _ hagree
  refine ⟨fun c => (Cert.InDxIdeal.Gen.dats m 0 c).arrAt 2 Cert.InDxIdeal.cfg0.N,
    Cert.InDxIdeal.Value.run_blocks (F := Ideal) m g,
    (θ_run Cert.InDxRefIdeal.defs _ _).mono (fun r h c => ⟨?_, (h c).2⟩)
      (Cert.InDxRefIdeal.Value.run (F := Ideal) m' g')⟩
  refine ((h c).1.trans ((val_main_v2_eq _ _).trans (ref_eq _ _))).trans ?_
  rw [(hagree c).1, (hagree c).2]
  exact (final m c).symm

end Reference

end Cert.Proof.InDx

end
-- ==== Proof.Products.InGrad.lean ====
/-
  The gradient of the mixer's input weight, transposed.
-/
module

public import proofs.«01_k».proof.Defs
public import proofs.«01_k».proof.Proof.Gen.InGradIdeal.Value
public import proofs.«01_k».proof.Proof.Gen.InGradRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.InGrad

open Idealize.ShloMosaic Idealize.ShloMosaic.TcCoe Idealize.SL.Sem

section Kernel

open Cert.InGradIdeal Cert.InGradIdeal.Gen

/-- Row `i`, column `j` of the gradient: the sum over the rows `k` of the products. -/
def grad (a : Vec Ideal S2048x4096 .f32) (b : Vec Ideal S2048x2048 .f32) : Vec Ideal S4096x2048 .bf16 :=
  fun i => ∑ k : Fin 2048, a (ix2 k (i 0)) * b (ix2 k (i 1))

/-- Where each window's block lies: the rows of the result follow the first operand's columns, the columns the second's. -/
theorem idx : ∀ t : Fin cfg0.N, win0_0.index t = ![0, t.val] ∧ win0_1.index t = ![0, 0]
    ∧ win0_2.index t = ![t.val, 0] :=
  (by decide +kernel : ∀ t : Fin grid0.N, _)

/-- The row of the array that row `p` of block `t` holds. -/
abbrev row (t : Fin 8) (p : Fin 512) : Fin 4096 := ⟨t.val * 512 + p.val, by omega⟩

/-- The column of the array that column `q` of block `t` holds. -/
abbrev col (t : Fin 8) (q : Fin 2048) : Fin 2048 := q

/-- The operands' blocks hold the parts of the arrays that block `t` of the result is of. -/
structure Blocks (A : Vec Ideal S2048x4096 .f32) (B : Vec Ideal S2048x2048 .f32) (t : Fin 8) (x : Vec Ideal S2048x512 .bf16)
    (y : Vec Ideal S2048x2048 .bf16) : Prop where
  x : ∀ (k : Fin 2048) (p : Fin 512), (x (ix2 k p) : EReal) = A (ix2 k ⟨(row t p).val, by omega⟩)
  y : ∀ (k : Fin 2048) (q : Fin 2048), (y (ix2 k q) : EReal) = B (ix2 k (col t q))

/-- One block is the product of its two operands' blocks. -/
theorem pay_apply {A : Vec Ideal S2048x4096 .f32} {B : Vec Ideal S2048x2048 .f32} {t : Fin 8}
    {x : Vec Ideal S2048x512 .bf16} {y : Vec Ideal S2048x2048 .bf16} (h : Blocks A B t x y) (p : Fin 512) (q : Fin 2048) :
    k0_pay1 x y (ix2 p q) = grad A B (ix2 (row t p) (col t q)) := by
  pointwise [k0_pay1]
  exact Finset.sum_congr rfl fun k _ => congrArg₂ (· * ·) (h.x k p) (h.y k q)

variable (m : (ℓ : Loc nD τ sig) → Buf (Elt Ideal) ℓ)

/-- The first operand as the call reads it. -/
theorem V_lhs (c : Dev nD) : V m c main_v0
    = truncf (F := Ideal) (s := S2048x4096) .bf16 (m ((c : Thread nD τ).loc main_arg0)) bitsLt_bf16_f32 := by
  unfold V
  after_results

/-- The second operand as the call reads it. -/
theorem V_rhs (c : Dev nD) : V m c main_v1
    = truncf (F := Ideal) (s := S2048x2048) .bf16 (m ((c : Thread nD τ).loc main_arg1)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) t
      (iblk m c 0 t) (iblk m c 1 t) where
  x k p := by blk_ext [iblk, V_lhs, idx t]
  y k q := by blk_ext [iblk, V_rhs, idx t]

/-- The result array holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply (blocks m c t)]
  refine congrArg _ ?_
  blk_ext [idx t]

end Kernel

section Reference

open Cert.InGradRefIdeal.Read

/-- The reference's value is the gradient. -/
theorem ref_eq (a : Vec Ideal Cert.InGradIdeal.S2048x4096 .f32) (b : Vec Ideal Cert.InGradIdeal.S2048x2048 .f32) :
    val_main_v5 (F := Ideal) a b = grad a b := by
  funext i
  idx_vars i
  pointwise [val_main_v5, val_main_v4, val_main_v3, val_main_v2, grad]

/-- The reference runs to the end with its arguments unchanged and every counter at zero. -/
theorem reference_frame : Cert.quiescent_InGradRefIdeal := fun m ρ _ =>
  (θ_run Cert.InGradRefIdeal.defs _ _).mono
    (fun r h => ⟨fun c => (h c).2, Idealize.ShloMosaic.sem_eq_zero_of_no_sems (by decide) r.2⟩)
    (Cert.InGradRefIdeal.Value.run (F := Ideal) m ρ)

/-- The kernel's result is the reference's, element by element. -/
theorem algebraic : Cert.algebraic_InGradIdeal_InGradRefIdeal := by
  intro m g m' g' _ hagree
  refine ⟨fun c => (Cert.InGradIdeal.Gen.dats m 0 c).arrAt 2 Cert.InGradIdeal.cfg0.N,
    Cert.InGradIdeal.Value.run_blocks (F := Ideal) m g,
    (θ_run Cert.InGradRefIdeal.defs _ _).mono (fun r h c => ⟨?_, (h c).2⟩)
      (Cert.InGradRefIdeal.Value.run (F := Ideal) m' g')⟩
  refine ((h c).1.trans ((val_main_v5_eq _ _).trans (ref_eq _ _))).trans ?_
  rw [(hagree c).1, (hagree c).2]
  exact (final m c).symm

end Reference

end Cert.Proof.InGrad

end
-- ==== Proof.Products.InProj.lean ====
/-
  The mixer's input projection.
-/
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.InProj

open Idealize.ShloMosaic Idealize.ShloMosaic.TcCoe Idealize.SL.Sem

section Kernel

open Cert.InProjIdeal Cert.InProjIdeal.Gen

/-- Element `(i, j)` of the product: the sum over `k` of the products. -/
def prod (a : Vec Ideal S2048x2048 .f32) (b : Vec Ideal S2048x4096 .f32) : Vec Ideal S2048x4096 .f32 :=
  fun i => ∑ k : Fin 2048, a (ix2 (i 0) k) * b (ix2 k (i 1))

/-- Where each window's block lies: block `t` of the result takes all rows and its own columns. -/
theorem idx : ∀ t : Fin cfg0.N, win0_0.index t = ![0, 0] ∧ win0_1.index t = ![t.val, 0]
    ∧ win0_2.index t = ![0, t.val] :=
  (by decide +kernel : ∀ t : Fin grid0.N, _)

/-- The column of the array that column `q` of block `t` holds. -/
abbrev col (t : Fin 16) (q : Fin 256) : Fin 4096 := ⟨t.val * 256 + q.val, by omega⟩

/-- The operands' blocks hold the parts of the arrays that block `t` of the result is of. -/
structure Blocks (A : Vec Ideal S2048x2048 .f32) (B : Vec Ideal S2048x4096 .f32) (t : Fin 16) (x : Vec Ideal S2048x2048 .bf16)
    (y : Vec Ideal S256x2048 .bf16) : Prop where
  x : ∀ (p : Fin 2048) (k : Fin 2048), (x (ix2 p k) : EReal) = A (ix2 p k)
  y : ∀ (q : Fin 256) (k : Fin 2048), (y (ix2 q k) : EReal) = B (ix2 k (col t q))

/-- One block is the product of its two operands' blocks. -/
theorem pay_apply {A : Vec Ideal S2048x2048 .f32} {B : Vec Ideal S2048x4096 .f32} {t : Fin 16}
    {x : Vec Ideal S2048x2048 .bf16} {y : Vec Ideal S256x2048 .bf16} (h : Blocks A B t x y) (p : Fin 2048) (q : Fin 256) :
    k0_pay1 x y (ix2 p q) = prod A B (ix2 p (col t q)) := by
  pointwise [k0_pay1]
  exact Finset.sum_congr rfl fun k _ => congrArg₂ (· * ·) (h.x p k) (h.y q k)

variable (m : (ℓ : Loc nD τ sig) → Buf (Elt Ideal) ℓ)

/-- The rows as the call reads them. -/
theorem V_lhs (c : Dev nD) : V m c main_v0
    = truncf (F := Ideal) (s := S2048x2048) .bf16 (m ((c : Thread nD τ).loc main_arg0)) bitsLt_bf16_f32 := by
  unfold V
  after_results

/-- The weight as the call reads it, transposed: row `q`, column `k`. -/
theorem V_rhs (c : Dev nD) (q : Fin 4096) (k : Fin 2048) : (V m c main_v2 (ix2 q k) : EReal)
    = m ((c : Thread nD τ).loc main_arg1) (ix2 k q) := by
  have h : V m c main_v2 = truncf (F := Ideal) (s := S4096x2048) .bf16
      (transpose S4096x2048 [1, 0] (m ((c : Thread nD τ).loc main_arg1)) transposes_S2048x4096_S4096x2048_1_0) bitsLt_bf16_f32 := by
    unfold V
    after_results
  rw [h]
  pointwise []

/-- Grid point `t`'s operand blocks are those of block `t` of the result. -/
theorem blocks (c : Dev nD) (t : Fin cfg0.N) :
    Blocks (m ((c : Thread nD τ).loc main_arg0)) (m ((c : Thread nD τ).loc main_arg1)) t
      (iblk m c 0 t) (iblk m c 1 t) where
  x p k := by blk_ext [iblk, V_lhs, idx t]
  y q k := by
    refine Eq.trans ?_ (V_rhs m c (col t q) k)
    blk_ext [iblk, idx t]

/-- The result array holds the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply (blocks m c t)]
  refine congrArg _ ?_
  blk_ext [idx t]

end Kernel

section Reference

open Cert.InProjRefIdeal.Read

/-- The reference's value is the product. -/
theorem ref_eq (a : Vec Ideal Cert.InProjIdeal.S2048x2048 .f32) (b : Vec Ideal Cert.InProjIdeal.S2048x4096 .f32) :
    val_main_v0 (F := Ideal) a b = prod a b := by
  funext i
  idx_vars i
  pointwise [val_main_v0, prod]

/-- The reference runs to the end with its arguments unchanged and every counter at zero. -/
theorem reference_frame : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- The kernel's result is the reference's, element by element. -/
theorem algebraic : Cert.algebraic_InProjIdeal_InProjRefIdeal := by
  intro m g m' g' _ hagree
  refine ⟨fun c => (Cert.InProjIdeal.Gen.dats m 0 c).arrAt 2 Cert.InProjIdeal.cfg0.N,
    Cert.InProjIdeal.Value.run_blocks (F := Ideal) m g,
    (θ_run Cert.InProjRefIdeal.defs _ _).mono (fun r h c => ⟨?_, (h c).2⟩)
      (Cert.InProjRefIdeal.Value.run (F := Ideal) m' g')⟩
  refine ((h c).1.trans ((val_main_v0_eq _ _).trans (ref_eq _ _))).trans ?_
  rw [(hagree c).1, (hagree c).2]
  exact (final m c).symm

end Reference

end Cert.Proof.InProj

end
-- ==== Proof.Products.OutDx.lean ====
/-
  The gradient of the mixer's output projection with respect to the mixed rows.
-/
module

public import proofs.«01_k».proof.Defs
public import proofs.«01_k».proof.Proof.Gen.OutDxIdeal.Value
public import proofs.«01_k».proof.Proof.Gen.OutDxRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.OutDx

open Idealize.ShloMosaic Idealize.ShloMosaic.TcCoe Idealize.SL.Sem

section Kernel

open Cert.OutDxIdeal Cert.OutDxIdeal.Gen

/-- Element `(i, j)` of the product: the sum over `k` of the products. -/
def prod (a : Vec Ideal S2048x2048 .f32) (b : Vec Ideal S2048x2048 .f32) : Vec Ideal S2048x2048 .f32 :=
  fun i => ∑ k : Fin 2048, a (ix2 (i 0) k) * b (ix2 (i 1) k)

/-- Where each window's block lies: block `t` of the result takes all rows and its own columns. -/
theorem idx : ∀ t : Fin cfg0.N, win0_0.index t = ![0, 0] ∧ win0_1.index t = ![t.val, 0]
    ∧ win0_2.index t = ![0, t.val] :=
  (by decide +kernel : ∀ t : Fin grid0.N, _)

/-- The column of the array that column `q` of block `t` holds. -/
abbrev col (t : Fin 8) (q : Fin 256) : Fin 2048 := ⟨t.val * 256 + q.val, by omega⟩

/-- The operands' blocks hold the parts of the arrays that block `t` of the result is of. -/
structure Blocks (A : Vec Ideal S2048x2048 .f32) (B : Vec Ideal S2048x2048 .f32) (t : Fin 8) (x : Vec Ideal S2048x2048 .bf16)
    (y : Vec Ideal S256x2048 .bf16) : Prop where
  x : ∀ (p : Fin 2048) (k : Fin 2048), (x (ix2 p k) : EReal) = A (ix2 p k)
  y : ∀ (q : Fin 256) (k : Fin 2048), (y (ix2 q k) : EReal) = B (ix2 (col t q) k)

/-- One block is the product of its two operands' blocks. -/
theorem pay_apply {A : Vec Ideal S2048x2048 .f32} {B : Vec Ideal S2048x2048 .f32} {t : Fin 8}
    {x : Vec Ideal S2048x2048 .bf16} {y : Vec Ideal S256x2048 .bf16} (h : Blocks A B t x y) (p : Fin 2048) (q : Fin 256) :
    k0_pay1 x y (ix2 p q) = prod A B (ix2 p (col t q)) := by
  pointwise [k0_pay1]
  exact Finset.sum_congr rfl fun k _ => congrArg₂ (· * ·) (h.x p k) (h.y q k)

variable (m : (ℓ : Loc nD τ sig) → Buf (Elt Ideal) ℓ)

/-- The rows as the call reads them. -/
theorem V_lhs (c : Dev nD) : V m c main_v0
    = truncf (F := Ideal) (s := S2048x2048) .bf16 (m ((c : Thread nD τ).loc main_arg0)) bitsLt_bf16_f32 := by
  unfold V
  after_results

/-- The weight as the call reads it. -/
theorem V_rhs (c : Dev nD) : V m c main_v1
    = truncf (F := Ideal) (s := S2048x2048) .bf16 (m ((c : Thread nD τ).loc main_arg1)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) t
      (iblk m c 0 t) (iblk m c 1 t) where
  x p k := by blk_ext [iblk, V_lhs, idx t]
  y q k := by blk_ext [iblk, V_rhs, idx t]

/-- The result array holds the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply (blocks m c t)]
  refine congrArg _ ?_
  blk_ext [idx t]

end Kernel

section Reference

open Cert.OutDxRefIdeal.Read

/-- The reference's value is the product. -/
theorem ref_eq (a : Vec Ideal Cert.OutDxIdeal.S2048x2048 .f32) (b : Vec Ideal Cert.OutDxIdeal.S2048x2048 .f32) :
    val_main_v2 (F := Ideal) a b = prod a b := by
  funext i
  idx_vars i
  pointwise [val_main_v2, prod]

/-- The reference runs to the end with its arguments unchanged and every counter at zero. -/
theorem reference_frame : Cert.quiescent_OutDxRefIdeal := fun m ρ _ =>
  (θ_run Cert.OutDxRefIdeal.defs _ _).mono
    (fun r h => ⟨fun c => (h c).2, Idealize.ShloMosaic.sem_eq_zero_of_no_sems (by decide) r.2⟩)
    (Cert.OutDxRefIdeal.Value.run (F := Ideal) m ρ)

/-- The kernel's result is the reference's, element by element. -/
theorem algebraic : Cert.algebraic_OutDxIdeal_OutDxRefIdeal := by
  intro m g m' g' _ hagree
  refine ⟨fun c => (Cert.OutDxIdeal.Gen.dats m 0 c).arrAt 2 Cert.OutDxIdeal.cfg0.N,
    Cert.OutDxIdeal.Value.run_blocks (F := Ideal) m g,
    (θ_run Cert.OutDxRefIdeal.defs _ _).mono (fun r h c => ⟨?_, (h c).2⟩)
      (Cert.OutDxRefIdeal.Value.run (F := Ideal) m' g')⟩
  refine ((h c).1.trans ((val_main_v2_eq _ _).trans (ref_eq _ _))).trans ?_
  rw [(hagree c).1, (hagree c).2]
  exact (final m c).symm

end Reference

end Cert.Proof.OutDx

end
-- ==== Proof.Products.OutGrad.lean ====
/-
  The gradient of the mixer's output weight.
-/
module

public import proofs.«01_k».proof.Defs
public import proofs.«01_k».proof.Proof.Gen.OutGradIdeal.Value
public import proofs.«01_k».proof.Proof.Gen.OutGradRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.OutGrad

open Idealize.ShloMosaic Idealize.ShloMosaic.TcCoe Idealize.SL.Sem

section Kernel

open Cert.OutGradIdeal Cert.OutGradIdeal.Gen

/-- Row `i`, column `j` of the gradient: the sum over the rows `k` of the products. -/
def grad (a : Vec Ideal S2048x2048 .f32) (b : Vec Ideal S2048x2048 .f32) : Vec Ideal S2048x2048 .bf16 :=
  fun i => ∑ k : Fin 2048, a (ix2 k (i 0)) * b (ix2 k (i 1))

/-- Where each window's block lies: the rows of the result follow the first operand's columns, the columns the second's. -/
theorem idx : ∀ t : Fin cfg0.N, win0_0.index t = ![0, t.val] ∧ win0_1.index t = ![0, 0]
    ∧ win0_2.index t = ![t.val, 0] :=
  (by decide +kernel : ∀ t : Fin grid0.N, _)

/-- The row of the array that row `p` of block `t` holds. -/
abbrev row (t : Fin 4) (p : Fin 512) : Fin 2048 := ⟨t.val * 512 + p.val, by omega⟩

/-- The column of the array that column `q` of block `t` holds. -/
abbrev col (t : Fin 4) (q : Fin 2048) : Fin 2048 := q

/-- The operands' blocks hold the parts of the arrays that block `t` of the result is of. -/
structure Blocks (A : Vec Ideal S2048x2048 .f32) (B : Vec Ideal S2048x2048 .f32) (t : Fin 4) (x : Vec Ideal S2048x512 .bf16)
    (y : Vec Ideal S2048x2048 .bf16) : Prop where
  x : ∀ (k : Fin 2048) (p : Fin 512), (x (ix2 k p) : EReal) = A (ix2 k ⟨(row t p).val, by omega⟩)
  y : ∀ (k : Fin 2048) (q : Fin 2048), (y (ix2 k q) : EReal) = B (ix2 k (col t q))

/-- One block is the product of its two operands' blocks. -/
theorem pay_apply {A : Vec Ideal S2048x2048 .f32} {B : Vec Ideal S2048x2048 .f32} {t : Fin 4}
    {x : Vec Ideal S2048x512 .bf16} {y : Vec Ideal S2048x2048 .bf16} (h : Blocks A B t x y) (p : Fin 512) (q : Fin 2048) :
    k0_pay1 x y (ix2 p q) = grad A B (ix2 (row t p) (col t q)) := by
  pointwise [k0_pay1]
  exact Finset.sum_congr rfl fun k _ => congrArg₂ (· * ·) (h.x k p) (h.y k q)

variable (m : (ℓ : Loc nD τ sig) → Buf (Elt Ideal) ℓ)

/-- The first operand as the call reads it. -/
theorem V_lhs (c : Dev nD) : V m c main_v0
    = truncf (F := Ideal) (s := S2048x2048) .bf16 (m ((c : Thread nD τ).loc main_arg0)) bitsLt_bf16_f32 := by
  unfold V
  after_results

/-- The second operand as the call reads it. -/
theorem V_rhs (c : Dev nD) : V m c main_v1
    = truncf (F := Ideal) (s := S2048x2048) .bf16 (m ((c : Thread nD τ).loc main_arg1)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) t
      (iblk m c 0 t) (iblk m c 1 t) where
  x k p := by blk_ext [iblk, V_lhs, idx t]
  y k q := by blk_ext [iblk, V_rhs, idx t]

/-- The result array holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply (blocks m c t)]
  refine congrArg _ ?_
  blk_ext [idx t]

end Kernel

section Reference

open Cert.OutGradRefIdeal.Read

/-- The reference's value is the gradient. -/
theorem ref_eq (a : Vec Ideal Cert.OutGradIdeal.S2048x2048 .f32) (b : Vec Ideal Cert.OutGradIdeal.S2048x2048 .f32) :
    val_main_v4 (F := Ideal) a b = grad a b := by
  funext i
  idx_vars i
  pointwise [val_main_v4, val_main_v3, val_main_v2, grad]
  exact Finset.sum_congr rfl fun k _ => mul_comm _ _

/-- The reference runs to the end with its arguments unchanged and every counter at zero. -/
theorem reference_frame : Cert.quiescent_OutGradRefIdeal := fun m ρ _ =>
  (θ_run Cert.OutGradRefIdeal.defs _ _).mono
    (fun r h => ⟨fun c => (h c).2, Idealize.ShloMosaic.sem_eq_zero_of_no_sems (by decide) r.2⟩)
    (Cert.OutGradRefIdeal.Value.run (F := Ideal) m ρ)

/-- The kernel's result is the reference's, element by element. -/
theorem algebraic : Cert.algebraic_OutGradIdeal_OutGradRefIdeal := by
  intro m g m' g' _ hagree
  refine ⟨fun c => (Cert.OutGradIdeal.Gen.dats m 0 c).arrAt 2 Cert.OutGradIdeal.cfg0.N,
    Cert.OutGradIdeal.Value.run_blocks (F := Ideal) m g,
    (θ_run Cert.OutGradRefIdeal.defs _ _).mono (fun r h c => ⟨?_, (h c).2⟩)
      (Cert.OutGradRefIdeal.Value.run (F := Ideal) m' g')⟩
  refine ((h c).1.trans ((val_main_v4_eq _ _).trans (ref_eq _ _))).trans ?_
  rw [(hagree c).1, (hagree c).2]
  exact (final m c).symm

end Reference

end Cert.Proof.OutGrad

end
-- ==== Proof.Products.OutProj.lean ====
/-
  The mixer's output projection: the mixed rows times the weight, accumulated over the contracted columns.
-/
module

public import proofs.«01_k».proof.Defs
public import proofs.«01_k».proof.Proof.Gen.OutProjIdeal.Value
public import proofs.«01_k».proof.Proof.Gen.OutProjRefIdeal.Read
public import proofs.«01_k».proof.Proof.Products.RowTiles
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.OutProj

open Idealize.ShloMosaic Idealize.ShloMosaic.TcCoe Idealize.SL.Sem

section Kernel

open Cert.OutProjIdeal Cert.OutProjIdeal.Gen

/-- Element `(i, j)` of the product: the sum over `k` of the products. -/
def prod (a : Vec Ideal S2048x2048 .f32) (b : Vec Ideal S2048x2048 .f32) : Vec Ideal S2048x2048 .f32 :=
  fun i => ∑ k : Fin 2048, a (ix2 (i 0) k) * b (ix2 k (i 1))

/-- Where each window's block lies: point `t` takes its own columns of the rows and its own rows of the weight; the result is
    one block. -/
theorem idx : ∀ t : Fin cfg0.N, win0_0.index t = ![0, t.val] ∧ win0_1.index t = ![t.val, 0]
    ∧ win0_2.index t = ![0, 0] :=
  (by decide +kernel : ∀ t : Fin grid0.N, _)

/-- The position of the contracted axis that lane `k` of point `t` holds. -/
abbrev at_ (t : Fin 4) (k : Fin 512) : Fin 2048 := ⟨t.val * 512 + k.val, by omega⟩

/-- The operands' blocks hold the parts of the arrays that point `t` reads. -/
structure Blocks (A : Vec Ideal S2048x2048 .f32) (B : Vec Ideal S2048x2048 .f32) (t : Fin 4) (x : Vec Ideal S2048x512 .bf16)
    (y : Vec Ideal S512x2048 .bf16) : Prop where
  x : ∀ (i : Fin 2048) (k : Fin 512), (x (ix2 i k) : EReal) = A (ix2 i (at_ t k))
  y : ∀ (k : Fin 512) (j : Fin 2048), (y (ix2 k j) : EReal) = B (ix2 (at_ t k) j)

/-- One point's share of element `(i, j)`. -/
def share (x : Vec Ideal S2048x512 .bf16) (y : Vec Ideal S512x2048 .bf16) (i j : Fin 2048) : EReal :=
  ∑ k : Fin 512, x (ix2 i k) * y (ix2 k j)

/-- The points' shares sum to the whole contraction. -/
theorem share_sum (A : Vec Ideal S2048x2048 .f32) (B : Vec Ideal S2048x2048 .f32) (x : Fin 4 → Vec Ideal S2048x512 .bf16)
    (y : Fin 4 → Vec Ideal S512x2048 .bf16) (h : ∀ t, Blocks A B t (x t) (y t)) (i j : Fin 2048) :
    ∑ t : Fin 4, share (x t) (y t) i j = ∑ k : Fin 2048, (A (ix2 i k) : EReal) * B (ix2 k j) := by
  unfold share
  refine Fin.sum_mul_add_congr fun s k hl => ?_
  exact congrArg₂ (· * ·) ((h s).x i k) ((h s).y k j)

/-- The stored zero. -/
theorem zero_apply (i j : Fin 2048) : (k0_pay2 (F := Ideal) (ix2 i j) : EReal) = 0 := by
  pointwise [k0_pay2]

/-- What the body stores in the rows from 0 on: what it found plus the tile's product. -/
theorem tile0_apply (a : Vec Ideal S512x512 .bf16) (b : Vec Ideal S512x2048 .bf16) (acc : Vec Ideal S512x2048 .f32)
    (p : Fin 512) (q : Fin 2048) : (k0_pay3 a b acc (ix2 p q) : EReal) = acc (ix2 p q) + (∑ k : Fin 512, a (ix2 p k) * b (ix2 k q) : EReal) := by
  pointwise [k0_pay3]

/-- What the body stores in the rows from 512 on: what it found plus the tile's product. -/
theorem tile512_apply (a : Vec Ideal S512x512 .bf16) (b : Vec Ideal S512x2048 .bf16) (acc : Vec Ideal S512x2048 .f32)
    (p : Fin 512) (q : Fin 2048) : (k0_pay4 a b acc (ix2 p q) : EReal) = acc (ix2 p q) + (∑ k : Fin 512, a (ix2 p k) * b (ix2 k q) : EReal) := by
  pointwise [k0_pay4]

/-- What the body stores in the rows from 1024 on: what it found plus the tile's product. -/
theorem tile1024_apply (a : Vec Ideal S512x512 .bf16) (b : Vec Ideal S512x2048 .bf16) (acc : Vec Ideal S512x2048 .f32)
    (p : Fin 512) (q : Fin 2048) : (k0_pay5 a b acc (ix2 p q) : EReal) = acc (ix2 p q) + (∑ k : Fin 512, a (ix2 p k) * b (ix2 k q) : EReal) := by
  pointwise [k0_pay5]

/-- What the body stores in the rows from 1536 on: what it found plus the tile's product. -/
theorem tile1536_apply (a : Vec Ideal S512x512 .bf16) (b : Vec Ideal S512x2048 .bf16) (acc : Vec Ideal S512x2048 .f32)
    (p : Fin 512) (q : Fin 2048) : (k0_pay1 a b acc (ix2 p q) : EReal) = acc (ix2 p q) + (∑ k : Fin 512, a (ix2 p k) * b (ix2 k q) : EReal) := by
  pointwise [k0_pay1]

variable (m : (ℓ : Loc nD τ sig) → Buf (Elt Ideal) ℓ)

/-- The rows as the call reads them. -/
theorem V_lhs (c : Dev nD) : V m c main_v0
    = truncf (F := Ideal) (s := S2048x2048) .bf16 (m ((c : Thread nD τ).loc main_arg0)) bitsLt_bf16_f32 := by
  unfold V
  after_results

/-- The weight as the call reads it. -/
theorem V_rhs (c : Dev nD) : V m c main_v1
    = truncf (F := Ideal) (s := S2048x2048) .bf16 (m ((c : Thread nD τ).loc main_arg1)) bitsLt_bf16_f32 := by
  unfold V
  after_results

/-- Point `t`'s operand blocks are those of its share. -/
theorem blocks (c : Dev nD) (t : Fin cfg0.N) :
    Blocks (m ((c : Thread nD τ).loc main_arg0)) (m ((c : Thread nD τ).loc main_arg1)) t
      (iblk m c 0 t) (iblk m c 1 t) where
  x i k := by blk_ext [iblk, V_lhs, idx t]
  y k j := by blk_ext [iblk, V_rhs, idx t]

/-- At the first point each tile is zero plus its share. -/
theorem first (c : Dev nD) (t : Fin cfg0.N) (h : t.val % 4 = 0) (i : S2048x2048.Idx) :
    outsAt0 m c t.val t.isLt i = (0 : EReal) + share (iblk m c 0 t) (iblk m c 1 t) (i 0) (i 1) := by
  rw [outsAt0_A m c t h]
  frame_out
  refine congrFun (canon_four (Val := Elt Ideal) (e := .f32) _ (fun i => ((0 : EReal) + share (iblk m c 0 t) (iblk m c 1 t) (i 0) (i 1) : EReal)) _ _ _ _ _ _ _ _ ?_ ?_ ?_ ?_) i
  · intro p q
    rw [tile0_apply, readCov_whole, ld_tile 0 _ _ p q (by omega), zero_apply]
    refine congrArg (_ + ·) (Finset.sum_congr rfl fun k _ => congrArg (· * _) (ld_tile 0 (iblk m c 0 t) _ p k (by omega)))
  · intro p q
    rw [tile512_apply, readCov_skip _ 0 512 (by decide), readCov_whole, ld_tile 512 _ _ p q (by omega), zero_apply]
    refine congrArg (_ + ·) (Finset.sum_congr rfl fun k _ => congrArg (· * _) (ld_tile 512 (iblk m c 0 t) _ p k (by omega)))
  · intro p q
    rw [tile1024_apply, readCov_skip _ 512 1024 (by decide), readCov_skip _ 0 1024 (by decide), readCov_whole, ld_tile 1024 _ _ p q (by omega), zero_apply]
    refine congrArg (_ + ·) (Finset.sum_congr rfl fun k _ => congrArg (· * _) (ld_tile 1024 (iblk m c 0 t) _ p k (by omega)))
  · intro p q
    rw [tile1536_apply, readCov_skip _ 1024 1536 (by decide), readCov_skip _ 512 1536 (by decide), readCov_skip _ 0 1536 (by decide), readCov_whole, ld_tile 1536 _ _ p q (by omega), zero_apply]
    refine congrArg (_ + ·) (Finset.sum_congr rfl fun k _ => congrArg (· * _) (ld_tile 1536 (iblk m c 0 t) _ p k (by omega)))

/-- At a later point each tile is what the point before left plus its share. -/
theorem later (c : Dev nD) (t : Fin cfg0.N) (h : ¬t.val % 4 = 0) (i : S2048x2048.Idx) :
    outsAt0 m c t.val t.isLt i = (outsAt0 m c (t.val - 1) (Nat.lt_of_le_of_lt (Nat.sub_le _ _) t.isLt) i : EReal) + share (iblk m c 0 t) (iblk m c 1 t) (i 0) (i 1) := by
  rw [outsAt0_B m c t h]
  frame_out
  refine congrFun (canon_four (Val := Elt Ideal) (e := .f32) _ (fun i => ((outsAt0 m c (t.val - 1) (Nat.lt_of_le_of_lt (Nat.sub_le _ _) t.isLt) i : EReal) + share (iblk m c 0 t) (iblk m c 1 t) (i 0) (i 1) : EReal)) _ _ _ _ _ _ _ _ ?_ ?_ ?_ ?_) i
  · intro p q
    rw [tile0_apply, ld_tile 0 _ _ p q (by omega)]
    refine congrArg (_ + ·) (Finset.sum_congr rfl fun k _ => congrArg (· * _) (ld_tile 0 (iblk m c 0 t) _ p k (by omega)))
  · intro p q
    rw [tile512_apply, ld_tile 512 _ _ p q (by omega)]
    refine congrArg (_ + ·) (Finset.sum_congr rfl fun k _ => congrArg (· * _) (ld_tile 512 (iblk m c 0 t) _ p k (by omega)))
  · intro p q
    rw [tile1024_apply, ld_tile 1024 _ _ p q (by omega)]
    refine congrArg (_ + ·) (Finset.sum_congr rfl fun k _ => congrArg (· * _) (ld_tile 1024 (iblk m c 0 t) _ p k (by omega)))
  · intro p q
    rw [tile1536_apply, ld_tile 1536 _ _ p q (by omega)]
    refine congrArg (_ + ·) (Finset.sum_congr rfl fun k _ => congrArg (· * _) (ld_tile 1536 (iblk m c 0 t) _ p k (by omega)))

/-- After the last point the accumulator holds the whole product. -/
theorem outs_last (c : Dev nD) (t : Fin cfg0.N) (ht : t.val + 1 = cfg0.N) (i : S2048x2048.Idx) :
    outsAt0 m c t.val t.isLt i = prod (m ((c : Thread nD τ).loc main_arg0)) (m ((c : Thread nD τ).loc main_arg1)) i := by
  rw [Pipeline.eq_sum_fin_of_reset_step_apply_last (M := EReal) (fun n h => outsAt0 m c n h) 4 (fun _ => 0)
    (fun t i => share (iblk m c 0 t) (iblk m c 1 t) (i 0) (i 1))
    (fun t h i => first m c t h i) (fun t h i => later m c t h i) (le_of_eq N_0) t ht i, zero_add]
  exact share_sum _ _ (fun t => iblk m c 0 t) (fun t => iblk m c 1 t) (blocks m c) (i 0) (i 1)

/-- The result array holds the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h10 := (flush0_2 t).mp hf
  have hN : cfg0.N = 4 := N_0
  have hlt := t.isLt
  blk_simp
  rw [after0_2, outs_last m c t (by omega) _]
  refine congrArg _ ?_
  blk_ext [idx t]

end Kernel

section Reference

open Cert.OutProjRefIdeal.Read

/-- The reference's value is the product. -/
theorem ref_eq (a : Vec Ideal Cert.OutProjIdeal.S2048x2048 .f32) (b : Vec Ideal Cert.OutProjIdeal.S2048x2048 .f32) :
    val_main_v0 (F := Ideal) a b = prod a b := by
  funext i
  idx_vars i
  pointwise [val_main_v0, prod]

/-- The reference runs to the end with its arguments unchanged and every counter at zero. -/
theorem reference_frame : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The kernel's result is the reference's, element by element. -/
theorem algebraic : Cert.algebraic_OutProjIdeal_OutProjRefIdeal := by
  intro m g m' g' _ hagree
  refine ⟨fun c => (Cert.OutProjIdeal.Gen.dats m 0 c).arrAt 2 Cert.OutProjIdeal.cfg0.N,
    Cert.OutProjIdeal.Value.run_blocks (F := Ideal) m g,
    (θ_run Cert.OutProjRefIdeal.defs _ _).mono (fun r h c => ⟨?_, (h c).2⟩)
      (Cert.OutProjRefIdeal.Value.run (F := Ideal) m' g')⟩
  refine ((h c).1.trans ((val_main_v0_eq _ _).trans (ref_eq _ _))).trans ?_
  rw [(hagree c).1, (hagree c).2]
  exact (final m c).symm

end Reference

end Cert.Proof.OutProj

end
-- ==== Proof.Products.UpGrad.lean ====
/-
  The gradient of the gate or up weight, transposed, first half of its rows: the kernel's blocks and the reference's
  differentiated product are the same sums over the rows.
-/
module

public import proofs.«01_k».proof.Defs
public import proofs.«01_k».proof.Proof.Gen.UpGradIdeal.Value
public import proofs.«01_k».proof.Proof.Gen.UpGradRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.UpGrad

open Idealize.ShloMosaic Idealize.ShloMosaic.TcCoe Idealize.SL.Sem

section Kernel

open Cert.UpGradIdeal Cert.UpGradIdeal.Gen

/-- Row `i`, column `j` of the gradient: the sum over the rows `k` of the products. -/
def grad (a : Vec Ideal S2048x5632 .f32) (b : Vec Ideal S2048x2048 .f32) : Vec Ideal S2816x2048 .bf16 :=
  fun i => ∑ k : Fin 2048, a (ix2 k ⟨(i 0).val, by have h : (i 0).val < 2816 := (i 0).isLt; omega⟩) * b (ix2 k (i 1))

/-- Where each window's block lies: the rows of the result follow the first operand's columns, the columns the second's. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The row of the array that row `p` of block `t` holds. -/
abbrev row (t : Fin 4) (p : Fin 1408) : Fin 2816 := ⟨t.val / 2 * 1408 + p.val, by omega⟩

/-- The column of the array that column `q` of block `t` holds. -/
abbrev col (t : Fin 4) (q : Fin 1024) : Fin 2048 := ⟨t.val % 2 * 1024 + q.val, by omega⟩

/-- The operands' blocks hold the parts of the arrays that block `t` of the result is of. -/
structure Blocks (A : Vec Ideal S2048x5632 .f32) (B : Vec Ideal S2048x2048 .f32) (t : Fin 4) (x : Vec Ideal S2048x1408 .bf16)
    (y : Vec Ideal S2048x1024 .bf16) : Prop where
  x : ∀ (k : Fin 2048) (p : Fin 1408), (x (ix2 k p) : EReal) = A (ix2 k ⟨(row t p).val, by omega⟩)
  y : ∀ (k : Fin 2048) (q : Fin 1024), (y (ix2 k q) : EReal) = B (ix2 k (col t q))

/-- One block is the product of its two operands' blocks. -/
theorem pay_apply {A : Vec Ideal S2048x5632 .f32} {B : Vec Ideal S2048x2048 .f32} {t : Fin 4}
    {x : Vec Ideal S2048x1408 .bf16} {y : Vec Ideal S2048x1024 .bf16} (h : Blocks A B t x y) (p : Fin 1408) (q : Fin 1024) :
    k0_pay1 x y (ix2 p q) = grad A B (ix2 (row t p) (col t q)) := by
  pointwise [k0_pay1]
  exact Finset.sum_congr rfl fun k _ => congrArg₂ (· * ·) (h.x k p) (h.y k q)

variable (m : (ℓ : Loc nD τ sig) → Buf (Elt Ideal) ℓ)

/-- The first operand as the call reads it. -/
theorem V_lhs (c : Dev nD) : V m c main_v0
    = truncf (F := Ideal) (s := S2048x5632) .bf16 (m ((c : Thread nD τ).loc main_arg0)) bitsLt_bf16_f32 := by
  unfold V
  after_results

/-- The second operand as the call reads it. -/
theorem V_rhs (c : Dev nD) : V m c main_v1
    = truncf (F := Ideal) (s := S2048x2048) .bf16 (m ((c : Thread nD τ).loc main_arg1)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) t
      (iblk m c 0 t) (iblk m c 1 t) where
  x k p := by blk_ext [iblk, V_lhs, idx t]
  y k q := by blk_ext [iblk, V_rhs, idx t]

/-- The result array holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply (blocks m c t)]
  refine congrArg _ ?_
  blk_ext [idx t]

end Kernel

section Reference

open Cert.UpGradRefIdeal.Read

/-- The reference's value is the gradient. -/
theorem ref_eq (a : Vec Ideal Cert.UpGradIdeal.S2048x5632 .f32) (b : Vec Ideal Cert.UpGradIdeal.S2048x2048 .f32) :
    val_main_v6 (F := Ideal) a b = grad a b := by
  funext i
  idx_vars i
  pointwise [val_main_v6, val_main_v5, val_main_v4, val_main_v3, val_main_v2, grad]

/-- The reference runs to the end with its arguments unchanged and every counter at zero. -/
theorem reference_frame : Cert.quiescent_UpGradRefIdeal := fun m ρ _ =>
  (θ_run Cert.UpGradRefIdeal.defs _ _).mono
    (fun r h => ⟨fun c => (h c).2, Idealize.ShloMosaic.sem_eq_zero_of_no_sems (by decide) r.2⟩)
    (Cert.UpGradRefIdeal.Value.run (F := Ideal) m ρ)

/-- The kernel's result is the reference's, element by element. -/
theorem algebraic : Cert.algebraic_UpGradIdeal_UpGradRefIdeal := by
  intro m g m' g' _ hagree
  refine ⟨fun c => (Cert.UpGradIdeal.Gen.dats m 0 c).arrAt 2 Cert.UpGradIdeal.cfg0.N,
    Cert.UpGradIdeal.Value.run_blocks (F := Ideal) m g,
    (θ_run Cert.UpGradRefIdeal.defs _ _).mono (fun r h c => ⟨?_, (h c).2⟩)
      (Cert.UpGradRefIdeal.Value.run (F := Ideal) m' g')⟩
  refine ((h c).1.trans ((val_main_v6_eq _ _).trans (ref_eq _ _))).trans ?_
  rw [(hagree c).1, (hagree c).2]
  exact (final m c).symm

end Reference

end Cert.Proof.UpGrad

end
-- ==== Proof.Products.UpGradSum.lean ====
/-
  The gradient of the gate or up weight, transposed, second half of its rows, with the other core's part added.
-/
module

public import proofs.«01_k».proof.Defs
public import proofs.«01_k».proof.Proof.Gen.UpGradSumIdeal.Value
public import proofs.«01_k».proof.Proof.Gen.UpGradSumRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.UpGradSum

open Idealize.ShloMosaic Idealize.ShloMosaic.TcCoe Idealize.SL.Sem

section Kernel

open Cert.UpGradSumIdeal Cert.UpGradSumIdeal.Gen

/-- Row `i`, column `j` of the gradient: the sum over the rows `k` of the products, and the other part. -/
def grad (a : Vec Ideal S2048x5632 .f32) (b : Vec Ideal S2048x2048 .f32) (o : Vec Ideal S2816x2048 .f32) : Vec Ideal S2816x2048 .bf16 :=
  fun i => (∑ k : Fin 2048, a (ix2 k ⟨2816 + (i 0).val, by have h : (i 0).val < 2816 := (i 0).isLt; omega⟩) * b (ix2 k (i 1))) + o i

/-- Where each window's block lies: the rows of the result follow the first operand's columns, the columns the second's. -/
theorem idx : ∀ t : Fin cfg0.N, win0_0.index t = ![0, 2 + t.val / 2] ∧ win0_1.index t = ![0, t.val % 2]
    ∧ win0_2.index t = ![t.val / 2, t.val % 2] ∧ win0_3.index t = ![t.val / 2, t.val % 2] :=
  (by decide +kernel : ∀ t : Fin grid0.N, _)

/-- The row of the array that row `p` of block `t` holds. -/
abbrev row (t : Fin 4) (p : Fin 1408) : Fin 2816 := ⟨t.val / 2 * 1408 + p.val, by omega⟩

/-- The column of the array that column `q` of block `t` holds. -/
abbrev col (t : Fin 4) (q : Fin 1024) : Fin 2048 := ⟨t.val % 2 * 1024 + q.val, by omega⟩

/-- The operands' blocks hold the parts of the arrays that block `t` of the result is of. -/
structure Blocks (A : Vec Ideal S2048x5632 .f32) (B : Vec Ideal S2048x2048 .f32) (O : Vec Ideal S2816x2048 .f32) (t : Fin 4) (x : Vec Ideal S2048x1408 .bf16)
    (y : Vec Ideal S2048x1024 .bf16) (z : Vec Ideal S1408x1024 .bf16) : Prop where
  x : ∀ (k : Fin 2048) (p : Fin 1408), (x (ix2 k p) : EReal) = A (ix2 k ⟨2816 + (row t p).val, by omega⟩)
  y : ∀ (k : Fin 2048) (q : Fin 1024), (y (ix2 k q) : EReal) = B (ix2 k (col t q))
  z : ∀ (p : Fin 1408) (q : Fin 1024), (z (ix2 p q) : EReal) = O (ix2 (row t p) (col t q))

/-- One block is the product of its two operands' blocks. -/
theorem pay_apply {A : Vec Ideal S2048x5632 .f32} {B : Vec Ideal S2048x2048 .f32} {O : Vec Ideal S2816x2048 .f32} {t : Fin 4}
    {x : Vec Ideal S2048x1408 .bf16} {y : Vec Ideal S2048x1024 .bf16} {z : Vec Ideal S1408x1024 .bf16} (h : Blocks A B O t x y z) (p : Fin 1408) (q : Fin 1024) :
    k0_pay1 x y z (ix2 p q) = grad A B O (ix2 (row t p) (col t q)) := by
  pointwise [k0_pay1]
  exact congrArg₂ (· + ·) (Finset.sum_congr rfl fun k _ => congrArg₂ (· * ·) (h.x k p) (h.y k q)) (h.z p q)

variable (m : (ℓ : Loc nD τ sig) → Buf (Elt Ideal) ℓ)

/-- The first operand as the call reads it. -/
theorem V_lhs (c : Dev nD) : V m c main_v0
    = truncf (F := Ideal) (s := S2048x5632) .bf16 (m ((c : Thread nD τ).loc main_arg0)) bitsLt_bf16_f32 := by
  unfold V
  after_results

/-- The second operand as the call reads it. -/
theorem V_rhs (c : Dev nD) : V m c main_v1
    = truncf (F := Ideal) (s := S2048x2048) .bf16 (m ((c : Thread nD τ).loc main_arg1)) bitsLt_bf16_f32 := by
  unfold V
  after_results

/-- The other part as the call reads it. -/
theorem V_other (c : Dev nD) : V m c main_v2
    = truncf (F := Ideal) (s := S2816x2048) .bf16 (m ((c : Thread nD τ).loc main_arg2)) bitsLt_bf16_f32 := by
  unfold V
  after_results

/-- Grid point `t`'s operand blocks are those of block `t` of the result. -/
theorem blocks (c : Dev nD) (t : Fin cfg0.N) :
    Blocks (m ((c : Thread nD τ).loc main_arg0)) (m ((c : Thread nD τ).loc main_arg1)) (m ((c : Thread nD τ).loc main_arg2)) t
      (iblk m c 0 t) (iblk m c 1 t) (iblk m c 2 t) where
  x k p := by blk_ext [iblk, V_lhs, idx t]
  y k q := by blk_ext [iblk, V_rhs, idx t]
  z p q := by blk_ext [iblk, V_other, idx t]

/-- The result array holds the gradient. -/
theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  rw [pay_apply (blocks m c t)]
  refine congrArg _ ?_
  blk_ext [idx t]

end Kernel

section Reference

open Cert.UpGradSumRefIdeal.Read

/-- The reference's value is the gradient. -/
theorem ref_eq (a : Vec Ideal Cert.UpGradSumIdeal.S2048x5632 .f32) (b : Vec Ideal Cert.UpGradSumIdeal.S2048x2048 .f32)
    (o : Vec Ideal Cert.UpGradSumIdeal.S2816x2048 .f32) :
    val_main_v7 (F := Ideal) a b o = grad a b o := by
  funext i
  idx_vars i
  pointwise [val_main_v7, val_main_v6, val_main_v5, val_main_v4, val_main_v3, val_main_v2, grad]

/-- The reference runs to the end with its arguments unchanged and every counter at zero. -/
theorem reference_frame : Cert.quiescent_UpGradSumRefIdeal := fun m ρ _ =>
  (θ_run Cert.UpGradSumRefIdeal.defs _ _).mono
    (fun r h => ⟨fun c => (h c).2, Idealize.ShloMosaic.sem_eq_zero_of_no_sems (by decide) r.2⟩)
    (Cert.UpGradSumRefIdeal.Value.run (F := Ideal) m ρ)

/-- The kernel's result is the reference's, element by element. -/
theorem algebraic : Cert.algebraic_UpGradSumIdeal_UpGradSumRefIdeal := by
  intro m g m' g' _ hagree
  refine ⟨fun c => (Cert.UpGradSumIdeal.Gen.dats m 0 c).arrAt 3 Cert.UpGradSumIdeal.cfg0.N,
    Cert.UpGradSumIdeal.Value.run_blocks (F := Ideal) m g,
    (θ_run Cert.UpGradSumRefIdeal.defs _ _).mono (fun r h c => ⟨?_, (h c).2⟩)
      (Cert.UpGradSumRefIdeal.Value.run (F := Ideal) m' g')⟩
  refine ((h c).1.trans ((val_main_v7_eq _ _ _).trans (ref_eq _ _ _))).trans ?_
  rw [(hagree c).1, (hagree c).2.1, (hagree c).2.2]
  exact (final m c).symm

end Reference

end Cert.Proof.UpGradSum

end
-- ==== Proof.Scan.BwdIdeal.Body.lean ====
/- One grid step of the scan's gradient, idealized: the body, run from any contents of its buffers, ends holding every buffer again. -/
module

public import proofs.«01_k».proof.Proof.Gen.ScanBwdIdeal.Loops

@[expose] public section

set_option maxRecDepth 16384

noncomputable section

namespace Cert.Proof.ScanBwdIdeal

open Cert.ScanBwdIdeal Cert.ScanBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer behind a memory reference is held whole, at some contents. -/
def held (c : Dev nD) {sp : Space} {sh : Shape} {e : EltTy} (M : Memref sig .tc sp sh e) : sProp 𝕄 :=
  iprop(∃ f, M.view.loc (c : Thread nD τ) ↦[M.view.set]{fullShare} f)

/-- Every buffer the body works on (the 21 windows and the 11 scratch buffers), each at some contents. -/
def buffers (c : Dev nD)
    (arg2 : Memref sig .tc .vmem S256x128 .f32)
    (arg3 : Memref sig .tc .vmem S256x128 .f32)
    (arg4 : Memref sig .tc .vmem S256x512 .f32)
    (arg5 : Memref sig .tc .vmem S256x512 .f32)
    (arg6 : Memref sig .tc .vmem S8x512 .f32)
    (arg7 : Memref sig .tc .vmem S8x512 .f32)
    (arg8 : Memref sig .tc .vmem S1x128x512 .bf16)
    (arg9 : Memref sig .tc .vmem S1x128x512 .bf16)
    (arg10 : Memref sig .tc .vmem S1x512x128 .bf16)
    (arg11 : Memref sig .tc .vmem S1x512x128 .bf16)
    (arg12 : Memref sig .tc .vmem S1x512 .f32)
    (arg13 : Memref sig .tc .vmem S1x512 .f32)
    (arg14 : Memref sig .tc .vmem S1x128 .f32)
    (arg15 : Memref sig .tc .vmem S256x128 .f32)
    (arg16 : Memref sig .tc .vmem S1x128x512 .f32)
    (arg17 : Memref sig .tc .vmem S1x128x512 .f32)
    (arg18 : Memref sig .tc .vmem S1x512x128 .f32)
    (arg19 : Memref sig .tc .vmem S1x512x128 .f32)
    (arg20 : Memref sig .tc .vmem S1x512 .f32)
    (arg21 : Memref sig .tc .vmem S1x512 .f32)
    (arg22 : Memref sig .tc .vmem S1x128 .f32)
    (arg23 : Memref sig .tc .vmem S256x512 .f32)
    (arg24 : Memref sig .tc .vmem S256x512 .f32)
    (arg25 : Memref sig .tc .vmem S32x512 .f32)
    (arg26 : Memref sig .tc .vmem S32x512 .f32)
    (arg27 : Memref sig .tc .vmem S8x512 .f32)
    (arg28 : Memref sig .tc .vmem S8x512 .f32)
    (arg29 : Memref sig .tc .vmem S1x512 .f32)
    (arg30 : Memref sig .tc .vmem S1x512 .f32)
    (arg31 : Memref sig .tc .vmem S256x128 .f32)
    (arg32 : Memref sig .tc .vmem S256x128 .f32)
    (arg33 : Memref sig .tc .vmem S256x128 .f32) : sProp 𝕄 :=
  iprop(held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ held c arg24 ∗ held c arg25 ∗ held c arg26 ∗ held c arg27 ∗ held c arg28 ∗ held c arg29 ∗ held c arg30 ∗ held c arg31 ∗ held c arg32 ∗ held c arg33)

/-- At the step that starts a block of groups the body clears its accumulators, then computes. -/
theorem body_first (c : Dev nD) (i : grid0.Coords) (E : Set ℕ)
    (arg2 : Memref sig .tc .vmem S256x128 .f32) (harg2 : arg2.IsWhole)
    (arg3 : Memref sig .tc .vmem S256x128 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S8x512 .f32) (harg6 : arg6.IsWhole)
    (arg7 : Memref sig .tc .vmem S8x512 .f32) (harg7 : arg7.IsWhole)
    (arg8 : Memref sig .tc .vmem S1x128x512 .bf16) (harg8 : arg8.IsWhole)
    (arg9 : Memref sig .tc .vmem S1x128x512 .bf16) (harg9 : arg9.IsWhole)
    (arg10 : Memref sig .tc .vmem S1x512x128 .bf16) (harg10 : arg10.IsWhole)
    (arg11 : Memref sig .tc .vmem S1x512x128 .bf16) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x128 .f32) (harg14 : arg14.IsWhole)
    (arg15 : Memref sig .tc .vmem S256x128 .f32) (harg15 : arg15.IsWhole)
    (arg16 : Memref sig .tc .vmem S1x128x512 .f32) (harg16 : arg16.IsWhole)
    (arg17 : Memref sig .tc .vmem S1x128x512 .f32) (harg17 : arg17.IsWhole)
    (arg18 : Memref sig .tc .vmem S1x512x128 .f32) (harg18 : arg18.IsWhole)
    (arg19 : Memref sig .tc .vmem S1x512x128 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S1x128 .f32) (harg22 : arg22.IsWhole)
    (arg23 : Memref sig .tc .vmem S256x512 .f32) (harg23 : arg23.IsWhole)
    (arg24 : Memref sig .tc .vmem S256x512 .f32) (harg24 : arg24.IsWhole)
    (arg25 : Memref sig .tc .vmem S32x512 .f32) (harg25 : arg25.IsWhole)
    (arg26 : Memref sig .tc .vmem S32x512 .f32) (harg26 : arg26.IsWhole)
    (arg27 : Memref sig .tc .vmem S8x512 .f32) (harg27 : arg27.IsWhole)
    (arg28 : Memref sig .tc .vmem S8x512 .f32) (harg28 : arg28.IsWhole)
    (arg29 : Memref sig .tc .vmem S1x512 .f32) (harg29 : arg29.IsWhole)
    (arg30 : Memref sig .tc .vmem S1x512 .f32) (harg30 : arg30.IsWhole)
    (arg31 : Memref sig .tc .vmem S256x128 .f32) (harg31 : arg31.IsWhole)
    (arg32 : Memref sig .tc .vmem S256x128 .f32) (harg32 : arg32.IsWhole)
    (arg33 : Memref sig .tc .vmem S256x128 .f32) (harg33 : arg33.IsWhole)
    (hc : k0_cond1 i = 1#1) :
    (buffers c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 : sProp 𝕄)
      ⊢ wp frame (wpE (defs₀ (F := F)) Variants.none (c : Thread nD τ) none) E
          (cc0_s5_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
          (fun _ => buffers c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33) := by
  unfold buffers held
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩⟩
  simp only [cc0_s5_bwd_eq_skeleton]; unfold cc0_s5_bwd_skel
  sl_exec_parts (disch := sl_exact hc)
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iexists _; iexact H33

/-- At the other steps the body accumulates onto what the step before left. -/
theorem body_later (c : Dev nD) (i : grid0.Coords) (E : Set ℕ)
    (arg2 : Memref sig .tc .vmem S256x128 .f32) (harg2 : arg2.IsWhole)
    (arg3 : Memref sig .tc .vmem S256x128 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S8x512 .f32) (harg6 : arg6.IsWhole)
    (arg7 : Memref sig .tc .vmem S8x512 .f32) (harg7 : arg7.IsWhole)
    (arg8 : Memref sig .tc .vmem S1x128x512 .bf16) (harg8 : arg8.IsWhole)
    (arg9 : Memref sig .tc .vmem S1x128x512 .bf16) (harg9 : arg9.IsWhole)
    (arg10 : Memref sig .tc .vmem S1x512x128 .bf16) (harg10 : arg10.IsWhole)
    (arg11 : Memref sig .tc .vmem S1x512x128 .bf16) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x128 .f32) (harg14 : arg14.IsWhole)
    (arg15 : Memref sig .tc .vmem S256x128 .f32) (harg15 : arg15.IsWhole)
    (arg16 : Memref sig .tc .vmem S1x128x512 .f32) (harg16 : arg16.IsWhole)
    (arg17 : Memref sig .tc .vmem S1x128x512 .f32) (harg17 : arg17.IsWhole)
    (arg18 : Memref sig .tc .vmem S1x512x128 .f32) (harg18 : arg18.IsWhole)
    (arg19 : Memref sig .tc .vmem S1x512x128 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S1x128 .f32) (harg22 : arg22.IsWhole)
    (arg23 : Memref sig .tc .vmem S256x512 .f32) (harg23 : arg23.IsWhole)
    (arg24 : Memref sig .tc .vmem S256x512 .f32) (harg24 : arg24.IsWhole)
    (arg25 : Memref sig .tc .vmem S32x512 .f32) (harg25 : arg25.IsWhole)
    (arg26 : Memref sig .tc .vmem S32x512 .f32) (harg26 : arg26.IsWhole)
    (arg27 : Memref sig .tc .vmem S8x512 .f32) (harg27 : arg27.IsWhole)
    (arg28 : Memref sig .tc .vmem S8x512 .f32) (harg28 : arg28.IsWhole)
    (arg29 : Memref sig .tc .vmem S1x512 .f32) (harg29 : arg29.IsWhole)
    (arg30 : Memref sig .tc .vmem S1x512 .f32) (harg30 : arg30.IsWhole)
    (arg31 : Memref sig .tc .vmem S256x128 .f32) (harg31 : arg31.IsWhole)
    (arg32 : Memref sig .tc .vmem S256x128 .f32) (harg32 : arg32.IsWhole)
    (arg33 : Memref sig .tc .vmem S256x128 .f32) (harg33 : arg33.IsWhole)
    (hc : ¬ k0_cond1 i = 1#1) :
    (buffers c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 : sProp 𝕄)
      ⊢ wp frame (wpE (defs₀ (F := F)) Variants.none (c : Thread nD τ) none) E
          (cc0_s5_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
          (fun _ => buffers c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33) := by
  unfold buffers held
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩⟩
  simp only [cc0_s5_bwd_eq_skeleton]; unfold cc0_s5_bwd_skel
  sl_exec_parts (disch := sl_exact hc)
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iexists _; iexact H33

/-- At every step the body runs to its end and hands its buffers back. -/
theorem body_all (c : Dev nD) (i : grid0.Coords) (E : Set ℕ)
    (arg2 : Memref sig .tc .vmem S256x128 .f32) (harg2 : arg2.IsWhole)
    (arg3 : Memref sig .tc .vmem S256x128 .f32) (harg3 : arg3.IsWhole)
    (arg4 : Memref sig .tc .vmem S256x512 .f32) (harg4 : arg4.IsWhole)
    (arg5 : Memref sig .tc .vmem S256x512 .f32) (harg5 : arg5.IsWhole)
    (arg6 : Memref sig .tc .vmem S8x512 .f32) (harg6 : arg6.IsWhole)
    (arg7 : Memref sig .tc .vmem S8x512 .f32) (harg7 : arg7.IsWhole)
    (arg8 : Memref sig .tc .vmem S1x128x512 .bf16) (harg8 : arg8.IsWhole)
    (arg9 : Memref sig .tc .vmem S1x128x512 .bf16) (harg9 : arg9.IsWhole)
    (arg10 : Memref sig .tc .vmem S1x512x128 .bf16) (harg10 : arg10.IsWhole)
    (arg11 : Memref sig .tc .vmem S1x512x128 .bf16) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x128 .f32) (harg14 : arg14.IsWhole)
    (arg15 : Memref sig .tc .vmem S256x128 .f32) (harg15 : arg15.IsWhole)
    (arg16 : Memref sig .tc .vmem S1x128x512 .f32) (harg16 : arg16.IsWhole)
    (arg17 : Memref sig .tc .vmem S1x128x512 .f32) (harg17 : arg17.IsWhole)
    (arg18 : Memref sig .tc .vmem S1x512x128 .f32) (harg18 : arg18.IsWhole)
    (arg19 : Memref sig .tc .vmem S1x512x128 .f32) (harg19 : arg19.IsWhole)
    (arg20 : Memref sig .tc .vmem S1x512 .f32) (harg20 : arg20.IsWhole)
    (arg21 : Memref sig .tc .vmem S1x512 .f32) (harg21 : arg21.IsWhole)
    (arg22 : Memref sig .tc .vmem S1x128 .f32) (harg22 : arg22.IsWhole)
    (arg23 : Memref sig .tc .vmem S256x512 .f32) (harg23 : arg23.IsWhole)
    (arg24 : Memref sig .tc .vmem S256x512 .f32) (harg24 : arg24.IsWhole)
    (arg25 : Memref sig .tc .vmem S32x512 .f32) (harg25 : arg25.IsWhole)
    (arg26 : Memref sig .tc .vmem S32x512 .f32) (harg26 : arg26.IsWhole)
    (arg27 : Memref sig .tc .vmem S8x512 .f32) (harg27 : arg27.IsWhole)
    (arg28 : Memref sig .tc .vmem S8x512 .f32) (harg28 : arg28.IsWhole)
    (arg29 : Memref sig .tc .vmem S1x512 .f32) (harg29 : arg29.IsWhole)
    (arg30 : Memref sig .tc .vmem S1x512 .f32) (harg30 : arg30.IsWhole)
    (arg31 : Memref sig .tc .vmem S256x128 .f32) (harg31 : arg31.IsWhole)
    (arg32 : Memref sig .tc .vmem S256x128 .f32) (harg32 : arg32.IsWhole)
    (arg33 : Memref sig .tc .vmem S256x128 .f32) (harg33 : arg33.IsWhole) :
    (buffers c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 : sProp 𝕄)
      ⊢ wp frame (wpE (defs₀ (F := F)) Variants.none (c : Thread nD τ) none) E
          (cc0_s5_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
          (fun _ => buffers c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33) := by
  by_cases hc : k0_cond1 i = 1#1
  · exact body_first c i E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc
  · exact body_later c i E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc

end Cert.Proof.ScanBwdIdeal

end
-- ==== Proof.Scan.BwdIdeal.Frame.lean ====
/- The frame of the scan's gradient, idealized: whatever the memory holds, the program runs to its end and leaves its arguments as they were. Nothing is said of what a step leaves in the staging buffers. -/
module

public import proofs.«01_k».proof.Proof.Scan.BwdIdeal.Body
public import proofs.«01_k».proof.Proof.Gen.ScanBwdIdeal.Frame
public import Idealize.ShloMosaic.Lib.Pipeline.Frame

@[expose] public section

set_option maxRecDepth 16384

noncomputable section

namespace Cert.Proof.ScanBwdIdeal

open Cert.ScanBwdIdeal Cert.ScanBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, any contents in the staging buffers, the scratch buffers held between steps. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The program's body at a step is the kernel function on the step's staging buffers. -/
theorem body_row (t : Fin cfg0.N) : defs₀ (F := F) .tc cfg0.body (cfg0.bodyArgs t (cfg0.slots t)) = bodyAt0 t := by
  unfold defs₀; rw [Defs.onTc_tc]

omit [FloatOps F] in
/-- A staging buffer at known contents is held. -/
theorem held_of_owns (c : Dev nD) {sp : Space} {sh : Shape} {e : EltTy} (M : Memref sig .tc sp sh e) (X : sh.Idx → Elt F e) :
    (owns (c : Thread nD τ) M fullShare X : sProp 𝕄) ⊢ held c M := by
  unfold owns held
  iintro ⟨%f, -, H⟩
  iexists f; iexact H

omit [FloatOps F] in
/-- A held staging buffer has some contents. -/
theorem owns_of_held (c : Dev nD) {sp : Space} {sh : Shape} {e : EltTy} (M : Memref sig .tc sp sh e) :
    (held c M : sProp 𝕄) ⊢ iprop(∃ X, ⌜True⌝ ∗ owns (c : Thread nD τ) M fullShare X) := by
  unfold owns held
  iintro ⟨%f, H⟩
  iexists (M.view.read (Elt F) f)
  isplitr; · ipureintro; trivial
  iexists f; isplitr; · ipureintro; rfl
  iexact H

omit [FloatOps F] in
/-- A scratch buffer at some contents is held, -/
theorem held_of_buf (c : Dev nD) (b : Ref sig .tc) :
    (iprop(∃ f : Buf (Elt F) ((c : Thread nD τ).loc b), ((c : Thread nD τ).loc b) ↦{fullShare} f) : sProp 𝕄) ⊢ held c (Memref.whole b) := by
  unfold held
  iintro ⟨%f, H⟩
  iexists f
  simp only [View.set_whole]
  iexact H

omit [FloatOps F] in
/-- and back. -/
theorem buf_of_held (c : Dev nD) (b : Ref sig .tc) :
    (held c (Memref.whole b) : sProp 𝕄) ⊢ iprop(∃ f : Buf (Elt F) ((c : Thread nD τ).loc b), ((c : Thread nD τ).loc b) ↦{fullShare} f) := by
  unfold held
  iintro ⟨%f, H⟩
  iexists f
  simp only [View.set_whole]
  iexact H

/-- The body obligation at a step: the buffers are handed over at whatever they hold and come back at whatever the body left. -/
theorem body_obligation (c : Dev nD) : (rdat m c).BodyObligation (defs₀ (F := F)) Variants.none () Set.univ := fun t Y _ => by
  rw [body_row, bigSep_W0, bigSep_W0]
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA; rw [scopedRest0_eq]
  iintro ⟨⟨⟨S0, S1, S2, S3, S4, S5, S6, S7, S8, S9, S10⟩, Hg⟩, Howes, H0, H1, H2, H3, H4, H5, H6, H7, H8, H9, H10, H11, H12, H13, H14, H15, H16, H17, H18, H19, H20⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 H20 S0 S1 S2 S3 S4 S5 S6 S7 S8 S9 S10]
  · iapply (body_all c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _))
    unfold buffers
    isplitl [H0]; · iapply (held_of_owns c (win0_0.stage (cfg0.slots t 0)) (Y 0)); iexact H0
    isplitl [H1]; · iapply (held_of_owns c (win0_1.stage (cfg0.slots t 1)) (Y 1)); iexact H1
    isplitl [H2]; · iapply (held_of_owns c (win0_2.stage (cfg0.slots t 2)) (Y 2)); iexact H2
    isplitl [H3]; · iapply (held_of_owns c (win0_3.stage (cfg0.slots t 3)) (Y 3)); iexact H3
    isplitl [H4]; · iapply (held_of_owns c (win0_4.stage (cfg0.slots t 4)) (Y 4)); iexact H4
    isplitl [H5]; · iapply (held_of_owns c (win0_5.stage (cfg0.slots t 5)) (Y 5)); iexact H5
    isplitl [H6]; · iapply (held_of_owns c (win0_6.stage (cfg0.slots t 6)) (Y 6)); iexact H6
    isplitl [H7]; · iapply (held_of_owns c (win0_7.stage (cfg0.slots t 7)) (Y 7)); iexact H7
    isplitl [H8]; · iapply (held_of_owns c (win0_8.stage (cfg0.slots t 8)) (Y 8)); iexact H8
    isplitl [H9]; · iapply (held_of_owns c (win0_9.stage (cfg0.slots t 9)) (Y 9)); iexact H9
    isplitl [H10]; · iapply (held_of_owns c (win0_10.stage (cfg0.slots t 10)) (Y 10)); iexact H10
    isplitl [H11]; · iapply (held_of_owns c (win0_11.stage (cfg0.slots t 11)) (Y 11)); iexact H11
    isplitl [H12]; · iapply (held_of_owns c (win0_12.stage (cfg0.slots t 12)) (Y 12)); iexact H12
    isplitl [H13]; · iapply (held_of_owns c (win0_13.stage (cfg0.slots t 13)) (Y 13)); iexact H13
    isplitl [H14]; · iapply (held_of_owns c (win0_14.stage (cfg0.slots t 14)) (Y 14)); iexact H14
    isplitl [H15]; · iapply (held_of_owns c (win0_15.stage (cfg0.slots t 15)) (Y 15)); iexact H15
    isplitl [H16]; · iapply (held_of_owns c (win0_16.stage (cfg0.slots t 16)) (Y 16)); iexact H16
    isplitl [H17]; · iapply (held_of_owns c (win0_17.stage (cfg0.slots t 17)) (Y 17)); iexact H17
    isplitl [H18]; · iapply (held_of_owns c (win0_18.stage (cfg0.slots t 18)) (Y 18)); iexact H18
    isplitl [H19]; · iapply (held_of_owns c (win0_19.stage (cfg0.slots t 19)) (Y 19)); iexact H19
    isplitl [H20]; · iapply (held_of_owns c (win0_20.stage (cfg0.slots t 20)) (Y 20)); iexact H20
    isplitl [S0]; · iapply (held_of_buf c cc0_scratch0); iexact S0
    isplitl [S1]; · iapply (held_of_buf c cc0_scratch1); iexact S1
    isplitl [S2]; · iapply (held_of_buf c cc0_scratch2); iexact S2
    isplitl [S3]; · iapply (held_of_buf c cc0_scratch3); iexact S3
    isplitl [S4]; · iapply (held_of_buf c cc0_scratch4); iexact S4
    isplitl [S5]; · iapply (held_of_buf c cc0_scratch5); iexact S5
    isplitl [S6]; · iapply (held_of_buf c cc0_scratch6); iexact S6
    isplitl [S7]; · iapply (held_of_buf c cc0_scratch7); iexact S7
    isplitl [S8]; · iapply (held_of_buf c cc0_scratch8); iexact S8
    isplitl [S9]; · iapply (held_of_buf c cc0_scratch9); iexact S9
    iapply (held_of_buf c cc0_scratch10); iexact S10
  · iintro %_ Hb
    unfold buffers
    icases Hb with ⟨H0, H1, H2, H3, H4, H5, H6, H7, H8, H9, H10, H11, H12, H13, H14, H15, H16, H17, H18, H19, H20, S0, S1, S2, S3, S4, S5, S6, S7, S8, S9, S10⟩
    isplitl [S0 S1 S2 S3 S4 S5 S6 S7 S8 S9 S10 Hg]
    · isplitr [Hg]; swap; · iexact Hg
      isplitl [S0]; · iapply (buf_of_held c cc0_scratch0); iexact S0
      isplitl [S1]; · iapply (buf_of_held c cc0_scratch1); iexact S1
      isplitl [S2]; · iapply (buf_of_held c cc0_scratch2); iexact S2
      isplitl [S3]; · iapply (buf_of_held c cc0_scratch3); iexact S3
      isplitl [S4]; · iapply (buf_of_held c cc0_scratch4); iexact S4
      isplitl [S5]; · iapply (buf_of_held c cc0_scratch5); iexact S5
      isplitl [S6]; · iapply (buf_of_held c cc0_scratch6); iexact S6
      isplitl [S7]; · iapply (buf_of_held c cc0_scratch7); iexact S7
      isplitl [S8]; · iapply (buf_of_held c cc0_scratch8); iexact S8
      isplitl [S9]; · iapply (buf_of_held c cc0_scratch9); iexact S9
      iapply (buf_of_held c cc0_scratch10); iexact S10
    isplitl [Howes]; · iexact Howes
    isplitl [H0]; · iapply (owns_of_held c (win0_0.stage (cfg0.slots t 0))); iexact H0
    isplitl [H1]; · iapply (owns_of_held c (win0_1.stage (cfg0.slots t 1))); iexact H1
    isplitl [H2]; · iapply (owns_of_held c (win0_2.stage (cfg0.slots t 2))); iexact H2
    isplitl [H3]; · iapply (owns_of_held c (win0_3.stage (cfg0.slots t 3))); iexact H3
    isplitl [H4]; · iapply (owns_of_held c (win0_4.stage (cfg0.slots t 4))); iexact H4
    isplitl [H5]; · iapply (owns_of_held c (win0_5.stage (cfg0.slots t 5))); iexact H5
    isplitl [H6]; · iapply (owns_of_held c (win0_6.stage (cfg0.slots t 6))); iexact H6
    isplitl [H7]; · iapply (owns_of_held c (win0_7.stage (cfg0.slots t 7))); iexact H7
    isplitl [H8]; · iapply (owns_of_held c (win0_8.stage (cfg0.slots t 8))); iexact H8
    isplitl [H9]; · iapply (owns_of_held c (win0_9.stage (cfg0.slots t 9))); iexact H9
    isplitl [H10]; · iapply (owns_of_held c (win0_10.stage (cfg0.slots t 10))); iexact H10
    isplitl [H11]; · iapply (owns_of_held c (win0_11.stage (cfg0.slots t 11))); iexact H11
    isplitl [H12]; · iapply (owns_of_held c (win0_12.stage (cfg0.slots t 12))); iexact H12
    isplitl [H13]; · iapply (owns_of_held c (win0_13.stage (cfg0.slots t 13))); iexact H13
    isplitl [H14]; · iapply (owns_of_held c (win0_14.stage (cfg0.slots t 14))); iexact H14
    isplitl [H15]; · iapply (owns_of_held c (win0_15.stage (cfg0.slots t 15))); iexact H15
    isplitl [H16]; · iapply (owns_of_held c (win0_16.stage (cfg0.slots t 16))); iexact H16
    isplitl [H17]; · iapply (owns_of_held c (win0_17.stage (cfg0.slots t 17))); iexact H17
    isplitl [H18]; · iapply (owns_of_held c (win0_18.stage (cfg0.slots t 18))); iexact H18
    isplitl [H19]; · iapply (owns_of_held c (win0_19.stage (cfg0.slots t 19))); iexact H19
    iapply (owns_of_held c (win0_20.stage (cfg0.slots t 20))); iexact H20

/-- Every run ends with the windows' input arrays, and every buffer no window is on, as the region found them, and with every
counter at zero. -/
theorem run : θ_run (defs (F := F)) (onTc (τ := τ) (main (F := F))) ⟨m, fun _ => 0, ρ⟩
    (fun r => Pipeline.RDat.FramePost cfg0 (rdat m) (V m) r ∧ r.2.sem = fun _ => 0) :=
  Pipeline.RDat.θ_run_frame_track_shared cfgs 0 launch₀0 defs₀ Variants.none (rdat m) m ρ main (body_obligation m)
    (fun _ _ _ => rfl) (fun _ _ => rfl) (V m) (hmain m Variants.none) (fun _ _ => rfl) (fun _ => .rfl) (fun _ => .rfl) _ (fun _ h => h)

/-- The array an input window is on ends as the region found it. -/
theorem input_kept {r : PUnit × MemSt nD τ sig (Elt F)} (h : Pipeline.RDat.FramePost cfg0 (rdat m) (V m) r) (c : Dev nD) (w : Fin cfg0.W)
    (hw : (cfg0.win w).isOut = false) :
    r.2.mem ((spec0 w).arr.view.loc (c.tc : Thread nD τ)) = V m c (Pipeline.arrRef spec0 w) :=
  Pipeline.RDat.FramePost.arr_in h c w hw

/-- The frame: the program runs to its end, its arguments are as they were and every counter is at zero. -/
theorem frame_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => ⟨(input_kept m h.1 c 0 rfl).trans (V_main_arg0 m c),
    (input_kept m h.1 c 1 rfl).trans (V_main_arg1 m c),
    (input_kept m h.1 c 4 rfl).trans (V_main_arg2 m c),
    (input_kept m h.1 c 5 rfl).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    (input_kept m h.1 c 10 rfl).trans (V_main_arg8 m c),
    (input_kept m h.1 c 11 rfl).trans (V_main_arg9 m c),
    (input_kept m h.1 c 12 rfl).trans (V_main_arg10 m c)⟩, h.2⟩) (run m ρ)

end Cert.Proof.ScanBwdIdeal

end
-- ==== Proof.Scan.FwdIdeal.Body.lean ====
/- One grid step of the scan, idealized: the body, run from any contents of its buffers, ends holding every buffer again. -/
module

public import proofs.«01_k».proof.Proof.Gen.ScanIdeal.Loops

@[expose] public section

set_option maxRecDepth 16384

noncomputable section

namespace Cert.Proof.ScanIdeal

open Cert.ScanIdeal Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer behind a memory reference is held whole, at some contents. -/
def held (c : Dev nD) {sp : Space} {sh : Shape} {e : EltTy} (M : Memref sig .tc sp sh e) : sProp 𝕄 :=
  iprop(∃ f, M.view.loc (c : Thread nD τ) ↦[M.view.set]{fullShare} f)

/-- Every buffer the body works on (the 11 windows and the 8 scratch buffers), each at some contents. -/
def buffers (c : Dev nD)
    (arg2 : Memref sig .tc .vmem S256x128 .f32)
    (arg3 : Memref sig .tc .vmem S1x128x512 .bf16)
    (arg4 : Memref sig .tc .vmem S1x128x512 .bf16)
    (arg5 : Memref sig .tc .vmem S1x512x128 .bf16)
    (arg6 : Memref sig .tc .vmem S1x512x128 .bf16)
    (arg7 : Memref sig .tc .vmem S1x512 .f32)
    (arg8 : Memref sig .tc .vmem S1x512 .f32)
    (arg9 : Memref sig .tc .vmem S1x128 .f32)
    (arg10 : Memref sig .tc .vmem S256x128 .f32)
    (arg11 : Memref sig .tc .vmem S256x512 .f32)
    (arg12 : Memref sig .tc .vmem S256x512 .f32)
    (arg13 : Memref sig .tc .vmem S1x512 .f32)
    (arg14 : Memref sig .tc .vmem S1x512 .f32)
    (arg15 : Memref sig .tc .vmem S32x512 .f32)
    (arg16 : Memref sig .tc .vmem S32x512 .f32)
    (arg17 : Memref sig .tc .vmem S8x512 .f32)
    (arg18 : Memref sig .tc .vmem S8x512 .f32)
    (arg19 : Memref sig .tc .vmem S256x128 .f32)
    (arg20 : Memref sig .tc .vmem S256x128 .f32) : sProp 𝕄 :=
  iprop(held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20)

/-- At the step that starts a block of groups the body clears its accumulators, then computes. -/
theorem body_first (c : Dev nD) (i : grid0.Coords) (E : Set ℕ)
    (arg2 : Memref sig .tc .vmem S256x128 .f32) (harg2 : arg2.IsWhole)
    (arg3 : Memref sig .tc .vmem S1x128x512 .bf16) (harg3 : arg3.IsWhole)
    (arg4 : Memref sig .tc .vmem S1x128x512 .bf16) (harg4 : arg4.IsWhole)
    (arg5 : Memref sig .tc .vmem S1x512x128 .bf16) (harg5 : arg5.IsWhole)
    (arg6 : Memref sig .tc .vmem S1x512x128 .bf16) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S256x128 .f32) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S32x512 .f32) (harg15 : arg15.IsWhole)
    (arg16 : Memref sig .tc .vmem S32x512 .f32) (harg16 : arg16.IsWhole)
    (arg17 : Memref sig .tc .vmem S8x512 .f32) (harg17 : arg17.IsWhole)
    (arg18 : Memref sig .tc .vmem S8x512 .f32) (harg18 : arg18.IsWhole)
    (arg19 : Memref sig .tc .vmem S256x128 .f32) (harg19 : arg19.IsWhole)
    (arg20 : Memref sig .tc .vmem S256x128 .f32) (harg20 : arg20.IsWhole)
    (hc : k0_cond1 i = 1#1) :
    (buffers c arg2 arg3 arg4 arg5 arg6 arg7 arg8 arg9 arg10 arg11 arg12 arg13 arg14 arg15 arg16 arg17 arg18 arg19 arg20 : sProp 𝕄)
      ⊢ wp frame (wpE (defs₀ (F := F)) Variants.none (c : Thread nD τ) none) E
          (cc0_s5_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => buffers c arg2 arg3 arg4 arg5 arg6 arg7 arg8 arg9 arg10 arg11 arg12 arg13 arg14 arg15 arg16 arg17 arg18 arg19 arg20) := by
  unfold buffers held
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  simp only [cc0_s5_fwd_eq_skeleton]; unfold cc0_s5_fwd_skel
  sl_exec_parts (disch := sl_exact hc)
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

/-- At the other steps the body accumulates onto what the step before left. -/
theorem body_later (c : Dev nD) (i : grid0.Coords) (E : Set ℕ)
    (arg2 : Memref sig .tc .vmem S256x128 .f32) (harg2 : arg2.IsWhole)
    (arg3 : Memref sig .tc .vmem S1x128x512 .bf16) (harg3 : arg3.IsWhole)
    (arg4 : Memref sig .tc .vmem S1x128x512 .bf16) (harg4 : arg4.IsWhole)
    (arg5 : Memref sig .tc .vmem S1x512x128 .bf16) (harg5 : arg5.IsWhole)
    (arg6 : Memref sig .tc .vmem S1x512x128 .bf16) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S256x128 .f32) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S32x512 .f32) (harg15 : arg15.IsWhole)
    (arg16 : Memref sig .tc .vmem S32x512 .f32) (harg16 : arg16.IsWhole)
    (arg17 : Memref sig .tc .vmem S8x512 .f32) (harg17 : arg17.IsWhole)
    (arg18 : Memref sig .tc .vmem S8x512 .f32) (harg18 : arg18.IsWhole)
    (arg19 : Memref sig .tc .vmem S256x128 .f32) (harg19 : arg19.IsWhole)
    (arg20 : Memref sig .tc .vmem S256x128 .f32) (harg20 : arg20.IsWhole)
    (hc : ¬ k0_cond1 i = 1#1) :
    (buffers c arg2 arg3 arg4 arg5 arg6 arg7 arg8 arg9 arg10 arg11 arg12 arg13 arg14 arg15 arg16 arg17 arg18 arg19 arg20 : sProp 𝕄)
      ⊢ wp frame (wpE (defs₀ (F := F)) Variants.none (c : Thread nD τ) none) E
          (cc0_s5_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => buffers c arg2 arg3 arg4 arg5 arg6 arg7 arg8 arg9 arg10 arg11 arg12 arg13 arg14 arg15 arg16 arg17 arg18 arg19 arg20) := by
  unfold buffers held
  iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  simp only [cc0_s5_fwd_eq_skeleton]; unfold cc0_s5_fwd_skel
  sl_exec_parts (disch := sl_exact hc)
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

/-- At every step the body runs to its end and hands its buffers back. -/
theorem body_all (c : Dev nD) (i : grid0.Coords) (E : Set ℕ)
    (arg2 : Memref sig .tc .vmem S256x128 .f32) (harg2 : arg2.IsWhole)
    (arg3 : Memref sig .tc .vmem S1x128x512 .bf16) (harg3 : arg3.IsWhole)
    (arg4 : Memref sig .tc .vmem S1x128x512 .bf16) (harg4 : arg4.IsWhole)
    (arg5 : Memref sig .tc .vmem S1x512x128 .bf16) (harg5 : arg5.IsWhole)
    (arg6 : Memref sig .tc .vmem S1x512x128 .bf16) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S256x128 .f32) (harg10 : arg10.IsWhole)
    (arg11 : Memref sig .tc .vmem S256x512 .f32) (harg11 : arg11.IsWhole)
    (arg12 : Memref sig .tc .vmem S256x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S32x512 .f32) (harg15 : arg15.IsWhole)
    (arg16 : Memref sig .tc .vmem S32x512 .f32) (harg16 : arg16.IsWhole)
    (arg17 : Memref sig .tc .vmem S8x512 .f32) (harg17 : arg17.IsWhole)
    (arg18 : Memref sig .tc .vmem S8x512 .f32) (harg18 : arg18.IsWhole)
    (arg19 : Memref sig .tc .vmem S256x128 .f32) (harg19 : arg19.IsWhole)
    (arg20 : Memref sig .tc .vmem S256x128 .f32) (harg20 : arg20.IsWhole) :
    (buffers c arg2 arg3 arg4 arg5 arg6 arg7 arg8 arg9 arg10 arg11 arg12 arg13 arg14 arg15 arg16 arg17 arg18 arg19 arg20 : sProp 𝕄)
      ⊢ wp frame (wpE (defs₀ (F := F)) Variants.none (c : Thread nD τ) none) E
          (cc0_s5_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => buffers c arg2 arg3 arg4 arg5 arg6 arg7 arg8 arg9 arg10 arg11 arg12 arg13 arg14 arg15 arg16 arg17 arg18 arg19 arg20) := by
  by_cases hc : k0_cond1 i = 1#1
  · exact body_first c i E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc
  · exact body_later c i E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc

end Cert.Proof.ScanIdeal

end
-- ==== Proof.Scan.FwdIdeal.Frame.lean ====
/- The frame of the scan, idealized: whatever the memory holds, the program runs to its end and leaves its arguments as they were. Nothing is said of what a step leaves in the staging buffers. -/
module

public import proofs.«01_k».proof.Proof.Scan.FwdIdeal.Body
public import proofs.«01_k».proof.Proof.Gen.ScanIdeal.Frame
public import Idealize.ShloMosaic.Lib.Pipeline.Frame

@[expose] public section

set_option maxRecDepth 16384

noncomputable section

namespace Cert.Proof.ScanIdeal

open Cert.ScanIdeal Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, any contents in the staging buffers, the scratch buffers held between steps. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The program's body at a step is the kernel function on the step's staging buffers. -/
theorem body_row (t : Fin cfg0.N) : defs₀ (F := F) .tc cfg0.body (cfg0.bodyArgs t (cfg0.slots t)) = bodyAt0 t := by
  unfold defs₀; rw [Defs.onTc_tc]

omit [FloatOps F] in
/-- A staging buffer at known contents is held. -/
theorem held_of_owns (c : Dev nD) {sp : Space} {sh : Shape} {e : EltTy} (M : Memref sig .tc sp sh e) (X : sh.Idx → Elt F e) :
    (owns (c : Thread nD τ) M fullShare X : sProp 𝕄) ⊢ held c M := by
  unfold owns held
  iintro ⟨%f, -, H⟩
  iexists f; iexact H

omit [FloatOps F] in
/-- A held staging buffer has some contents. -/
theorem owns_of_held (c : Dev nD) {sp : Space} {sh : Shape} {e : EltTy} (M : Memref sig .tc sp sh e) :
    (held c M : sProp 𝕄) ⊢ iprop(∃ X, ⌜True⌝ ∗ owns (c : Thread nD τ) M fullShare X) := by
  unfold owns held
  iintro ⟨%f, H⟩
  iexists (M.view.read (Elt F) f)
  isplitr; · ipureintro; trivial
  iexists f; isplitr; · ipureintro; rfl
  iexact H

omit [FloatOps F] in
/-- A scratch buffer at some contents is held, -/
theorem held_of_buf (c : Dev nD) (b : Ref sig .tc) :
    (iprop(∃ f : Buf (Elt F) ((c : Thread nD τ).loc b), ((c : Thread nD τ).loc b) ↦{fullShare} f) : sProp 𝕄) ⊢ held c (Memref.whole b) := by
  unfold held
  iintro ⟨%f, H⟩
  iexists f
  simp only [View.set_whole]
  iexact H

omit [FloatOps F] in
/-- and back. -/
theorem buf_of_held (c : Dev nD) (b : Ref sig .tc) :
    (held c (Memref.whole b) : sProp 𝕄) ⊢ iprop(∃ f : Buf (Elt F) ((c : Thread nD τ).loc b), ((c : Thread nD τ).loc b) ↦{fullShare} f) := by
  unfold held
  iintro ⟨%f, H⟩
  iexists f
  simp only [View.set_whole]
  iexact H

/-- The body obligation at a step: the buffers are handed over at whatever they hold and come back at whatever the body left. -/
theorem body_obligation (c : Dev nD) : (rdat m c).BodyObligation (defs₀ (F := F)) Variants.none () Set.univ := fun t Y _ => by
  rw [body_row, bigSep_W0, bigSep_W0]
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA; rw [scopedRest0_eq]
  iintro ⟨⟨⟨S0, S1, S2, S3, S4, S5, S6, S7⟩, Hg⟩, Howes, H0, H1, H2, H3, H4, H5, H6, H7, H8, H9, H10⟩
  iapply (wp_wand_r Idealize.ShloMosaic.frame (wpE (defs₀ (F := F)) Variants.none (c : Thread nD τ) none) Set.univ)
  isplitl [H0 H1 H2 H3 H4 H5 H6 H7 H8 H9 H10 S0 S1 S2 S3 S4 S5 S6 S7]
  · iapply (body_all c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _))
    unfold buffers
    isplitl [H0]; · iapply (held_of_owns c (win0_0.stage (cfg0.slots t 0)) (Y 0)); iexact H0
    isplitl [H1]; · iapply (held_of_owns c (win0_1.stage (cfg0.slots t 1)) (Y 1)); iexact H1
    isplitl [H2]; · iapply (held_of_owns c (win0_2.stage (cfg0.slots t 2)) (Y 2)); iexact H2
    isplitl [H3]; · iapply (held_of_owns c (win0_3.stage (cfg0.slots t 3)) (Y 3)); iexact H3
    isplitl [H4]; · iapply (held_of_owns c (win0_4.stage (cfg0.slots t 4)) (Y 4)); iexact H4
    isplitl [H5]; · iapply (held_of_owns c (win0_5.stage (cfg0.slots t 5)) (Y 5)); iexact H5
    isplitl [H6]; · iapply (held_of_owns c (win0_6.stage (cfg0.slots t 6)) (Y 6)); iexact H6
    isplitl [H7]; · iapply (held_of_owns c (win0_7.stage (cfg0.slots t 7)) (Y 7)); iexact H7
    isplitl [H8]; · iapply (held_of_owns c (win0_8.stage (cfg0.slots t 8)) (Y 8)); iexact H8
    isplitl [H9]; · iapply (held_of_owns c (win0_9.stage (cfg0.slots t 9)) (Y 9)); iexact H9
    isplitl [H10]; · iapply (held_of_owns c (win0_10.stage (cfg0.slots t 10)) (Y 10)); iexact H10
    isplitl [S0]; · iapply (held_of_buf c cc0_scratch0); iexact S0
    isplitl [S1]; · iapply (held_of_buf c cc0_scratch1); iexact S1
    isplitl [S2]; · iapply (held_of_buf c cc0_scratch2); iexact S2
    isplitl [S3]; · iapply (held_of_buf c cc0_scratch3); iexact S3
    isplitl [S4]; · iapply (held_of_buf c cc0_scratch4); iexact S4
    isplitl [S5]; · iapply (held_of_buf c cc0_scratch5); iexact S5
    isplitl [S6]; · iapply (held_of_buf c cc0_scratch6); iexact S6
    iapply (held_of_buf c cc0_scratch7); iexact S7
  · iintro %_ Hb
    unfold buffers
    icases Hb with ⟨H0, H1, H2, H3, H4, H5, H6, H7, H8, H9, H10, S0, S1, S2, S3, S4, S5, S6, S7⟩
    isplitl [S0 S1 S2 S3 S4 S5 S6 S7 Hg]
    · isplitr [Hg]; swap; · iexact Hg
      isplitl [S0]; · iapply (buf_of_held c cc0_scratch0); iexact S0
      isplitl [S1]; · iapply (buf_of_held c cc0_scratch1); iexact S1
      isplitl [S2]; · iapply (buf_of_held c cc0_scratch2); iexact S2
      isplitl [S3]; · iapply (buf_of_held c cc0_scratch3); iexact S3
      isplitl [S4]; · iapply (buf_of_held c cc0_scratch4); iexact S4
      isplitl [S5]; · iapply (buf_of_held c cc0_scratch5); iexact S5
      isplitl [S6]; · iapply (buf_of_held c cc0_scratch6); iexact S6
      iapply (buf_of_held c cc0_scratch7); iexact S7
    isplitl [Howes]; · iexact Howes
    isplitl [H0]; · iapply (owns_of_held c (win0_0.stage (cfg0.slots t 0))); iexact H0
    isplitl [H1]; · iapply (owns_of_held c (win0_1.stage (cfg0.slots t 1))); iexact H1
    isplitl [H2]; · iapply (owns_of_held c (win0_2.stage (cfg0.slots t 2))); iexact H2
    isplitl [H3]; · iapply (owns_of_held c (win0_3.stage (cfg0.slots t 3))); iexact H3
    isplitl [H4]; · iapply (owns_of_held c (win0_4.stage (cfg0.slots t 4))); iexact H4
    isplitl [H5]; · iapply (owns_of_held c (win0_5.stage (cfg0.slots t 5))); iexact H5
    isplitl [H6]; · iapply (owns_of_held c (win0_6.stage (cfg0.slots t 6))); iexact H6
    isplitl [H7]; · iapply (owns_of_held c (win0_7.stage (cfg0.slots t 7))); iexact H7
    isplitl [H8]; · iapply (owns_of_held c (win0_8.stage (cfg0.slots t 8))); iexact H8
    isplitl [H9]; · iapply (owns_of_held c (win0_9.stage (cfg0.slots t 9))); iexact H9
    iapply (owns_of_held c (win0_10.stage (cfg0.slots t 10))); iexact H10

/-- Every run ends with the windows' input arrays, and every buffer no window is on, as the region found them, and with every
counter at zero. -/
theorem run : θ_run (defs (F := F)) (onTc (τ := τ) (main (F := F))) ⟨m, fun _ => 0, ρ⟩
    (fun r => Pipeline.RDat.FramePost cfg0 (rdat m) (V m) r ∧ r.2.sem = fun _ => 0) :=
  Pipeline.RDat.θ_run_frame_track cfgs 0 launch0 defs₀ Variants.none (rdat m) m ρ main (body_obligation m)
    (fun _ w => by fin_cases w <;> rfl) (fun _ _ => rfl) (V m) (hmain m Variants.none) (fun _ _ => rfl) (fun _ => .rfl) (fun _ => .rfl) _ (fun _ h => h)

/-- The array an input window is on ends as the region found it. -/
theorem input_kept {r : PUnit × MemSt nD τ sig (Elt F)} (h : Pipeline.RDat.FramePost cfg0 (rdat m) (V m) r) (c : Dev nD) (w : Fin cfg0.W)
    (hw : (cfg0.win w).isOut = false) :
    r.2.mem ((spec0 w).arr.view.loc (c.tc : Thread nD τ)) = V m c (Pipeline.arrRef spec0 w) :=
  Pipeline.RDat.FramePost.arr_in h c w hw

/-- The frame: the program runs to its end, its arguments are as they were and every counter is at zero. -/
theorem frame_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(input_kept m h.1 c 0 rfl).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    (input_kept m h.1 c 5 rfl).trans (V_main_arg5 m c),
    (input_kept m h.1 c 6 rfl).trans (V_main_arg6 m c),
    (input_kept m h.1 c 7 rfl).trans (V_main_arg7 m c)⟩, h.2⟩) (run m ρ)

end Cert.Proof.ScanIdeal

end
-- ==== Proof.lean ====
/- The certificate: the kernels' frames are the generated ones; the value claims are assembled from the modules under Proof/. -/
module

public import proofs.«01_k».proof.Defs
public import proofs.«01_k».proof.Proof.Conv.Claim
public import proofs.«01_k».proof.Proof.Conv.Forward
public import proofs.«01_k».proof.Proof.Gen.ActBwd.Frame
public import proofs.«01_k».proof.Proof.Gen.Adamw.Frame
public import proofs.«01_k».proof.Proof.Gen.AdamwGlu.Frame
public import proofs.«01_k».proof.Proof.Gen.AdamwIn.Frame
public import proofs.«01_k».proof.Proof.Gen.AdamwOut.Frame
public import proofs.«01_k».proof.Proof.Gen.ConvFwd.Frame
public import proofs.«01_k».proof.Proof.Gen.DownGrad.Frame
public import proofs.«01_k».proof.Proof.Gen.DownGradSum.Frame
public import proofs.«01_k».proof.Proof.Gen.DxLn.Frame
public import proofs.«01_k».proof.Proof.Gen.DxRes.Frame
public import proofs.«01_k».proof.Proof.Gen.FfnDown.Frame
public import proofs.«01_k».proof.Proof.Gen.FfnDx.Frame
public import proofs.«01_k».proof.Proof.Gen.FfnUp.Frame
public import proofs.«01_k».proof.Proof.Gen.InDx.Frame
public import proofs.«01_k».proof.Proof.Gen.InGrad.Frame
public import proofs.«01_k».proof.Proof.Gen.InProj.Frame
public import proofs.«01_k».proof.Proof.Gen.Kernel.Frame
public import proofs.«01_k».proof.Proof.Gen.LossLn.Frame
public import proofs.«01_k».proof.Proof.Gen.Mix.Frame
public import proofs.«01_k».proof.Proof.Gen.MixBwd.Frame
public import proofs.«01_k».proof.Proof.Gen.OutDx.Frame
public import proofs.«01_k».proof.Proof.Gen.OutGrad.Frame
public import proofs.«01_k».proof.Proof.Gen.OutProj.Frame
public import proofs.«01_k».proof.Proof.Gen.PairSum.Frame
public import proofs.«01_k».proof.Proof.Gen.Params.Frame
public import proofs.«01_k».proof.Proof.Gen.ParamsBwd.Frame
public import proofs.«01_k».proof.Proof.Gen.Reduce.Frame
public import proofs.«01_k».proof.Proof.Gen.ResLn.Frame
public import proofs.«01_k».proof.Proof.Gen.UpGrad.Frame
public import proofs.«01_k».proof.Proof.Gen.UpGradSum.Frame
public import proofs.«01_k».proof.Proof.Ln.Backward
public import proofs.«01_k».proof.Proof.Ln.Claim
public import proofs.«01_k».proof.Proof.Ln.Forward
public import proofs.«01_k».proof.Proof.Mix.Backward
public import proofs.«01_k».proof.Proof.Mix.Forward
public import proofs.«01_k».proof.Proof.Optim.InputGrad
public import proofs.«01_k».proof.Proof.Optim.PairSum
public import proofs.«01_k».proof.Proof.Optim.Reduce
public import proofs.«01_k».proof.Proof.Optim.Step
public import proofs.«01_k».proof.Proof.Optim.StepGlu
public import proofs.«01_k».proof.Proof.Optim.StepIn
public import proofs.«01_k».proof.Proof.Optim.StepOut
public import proofs.«01_k».proof.Proof.Params.Claim
public import proofs.«01_k».proof.Proof.Params.Forward
public import proofs.«01_k».proof.Proof.Products.ActBwd
public import proofs.«01_k».proof.Proof.Products.DownGrad
public import proofs.«01_k».proof.Proof.Products.DownGradSum
public import proofs.«01_k».proof.Proof.Products.FfnDown
public import proofs.«01_k».proof.Proof.Products.FfnDx
public import proofs.«01_k».proof.Proof.Products.FfnUp
public import proofs.«01_k».proof.Proof.Products.InDx
public import proofs.«01_k».proof.Proof.Products.InGrad
public import proofs.«01_k».proof.Proof.Products.InProj
public import proofs.«01_k».proof.Proof.Products.OutDx
public import proofs.«01_k».proof.Proof.Products.OutGrad
public import proofs.«01_k».proof.Proof.Products.OutProj
public import proofs.«01_k».proof.Proof.Products.UpGrad
public import proofs.«01_k».proof.Proof.Products.UpGradSum
public import proofs.«01_k».proof.Proof.Scan.Bwd.Frame
public import proofs.«01_k».proof.Proof.Scan.BwdIdeal.Frame
public import proofs.«01_k».proof.Proof.Scan.Fwd.Frame
public import proofs.«01_k».proof.Proof.Scan.FwdIdeal.Frame

@[expose] public section

noncomputable section

namespace Cert.Proof

open Idealize.ShloMosaic Idealize.SL.Sem

/-- The shape relations the precondition's operations take. -/
theorem pre_up_finite_facts : Cert.Pre_up_finite.Facts := ⟨by decide, by decide⟩

/-- The shape relations the precondition's operations take. -/
theorem pre_act_finite_facts : Cert.Pre_act_finite.Facts := ⟨by decide, by decide, by decide⟩

/-- The shape relations the precondition's operations take. -/
theorem pre_loss_finite_facts : Cert.Pre_loss_finite.Facts := ⟨by decide, by decide⟩

/-- The shape relations the precondition's operations take. -/
theorem pre_dx_finite_facts : Cert.Pre_dx_finite.Facts := ⟨by decide, by decide⟩

/-- Everything claimed. -/
theorem claim : Cert.Claim := ⟨Cert.Kernel.Gen.facts,
  Cert.KernelIdeal.Gen.facts,
  Cert.ReferenceIdeal.Gen.facts,
  Cert.FfnUp.Gen.facts,
  Cert.FfnUpIdeal.Gen.facts,
  Cert.FfnUpRefIdeal.Gen.facts,
  Cert.ActBwd.Gen.facts,
  Cert.ActBwdIdeal.Gen.facts,
  Cert.ActBwdRefIdeal.Gen.facts,
  Cert.UpGrad.Gen.facts,
  Cert.UpGradIdeal.Gen.facts,
  Cert.UpGradRefIdeal.Gen.facts,
  Cert.UpGradSum.Gen.facts,
  Cert.UpGradSumIdeal.Gen.facts,
  Cert.UpGradSumRefIdeal.Gen.facts,
  Cert.DownGrad.Gen.facts,
  Cert.DownGradIdeal.Gen.facts,
  Cert.DownGradRefIdeal.Gen.facts,
  Cert.DownGradSum.Gen.facts,
  Cert.DownGradSumIdeal.Gen.facts,
  Cert.DownGradSumRefIdeal.Gen.facts,
  Cert.FfnDx.Gen.facts,
  Cert.FfnDxIdeal.Gen.facts,
  Cert.FfnDxRefIdeal.Gen.facts,
  Cert.FfnDown.Gen.facts,
  Cert.FfnDownIdeal.Gen.facts,
  Cert.FfnDownRefIdeal.Gen.facts,
  Cert.InProj.Gen.facts,
  Cert.InProjIdeal.Gen.facts,
  Cert.InProjRefIdeal.Gen.facts,
  Cert.InGrad.Gen.facts,
  Cert.InGradIdeal.Gen.facts,
  Cert.InGradRefIdeal.Gen.facts,
  Cert.InDx.Gen.facts,
  Cert.InDxIdeal.Gen.facts,
  Cert.InDxRefIdeal.Gen.facts,
  Cert.OutProj.Gen.facts,
  Cert.OutProjIdeal.Gen.facts,
  Cert.OutProjRefIdeal.Gen.facts,
  Cert.OutGrad.Gen.facts,
  Cert.OutGradIdeal.Gen.facts,
  Cert.OutGradRefIdeal.Gen.facts,
  Cert.OutDx.Gen.facts,
  Cert.OutDxIdeal.Gen.facts,
  Cert.OutDxRefIdeal.Gen.facts,
  Cert.ParamsBwd.Gen.facts,
  Cert.ParamsBwdIdeal.Gen.facts,
  Cert.ParamsBwdRefIdeal.Gen.facts,
  Cert.Params.Gen.facts,
  Cert.ParamsIdeal.Gen.facts,
  Cert.ParamsRefIdeal.Gen.facts,
  Cert.MixBwd.Gen.facts,
  Cert.MixBwdIdeal.Gen.facts,
  Cert.MixBwdRefIdeal.Gen.facts,
  Cert.Mix.Gen.facts,
  Cert.MixIdeal.Gen.facts,
  Cert.MixRefIdeal.Gen.facts,
  Cert.ConvFwd.Gen.facts,
  Cert.ConvFwdIdeal.Gen.facts,
  Cert.ConvFwdRefIdeal.Gen.facts,
  Cert.Scan.Gen.facts,
  Cert.ScanIdeal.Gen.facts,
  Cert.ScanBwd.Gen.facts,
  Cert.ScanBwdIdeal.Gen.facts,
  Cert.LossLn.Gen.facts,
  Cert.LossLnIdeal.Gen.facts,
  Cert.LossLnRefIdeal.Gen.facts,
  Cert.DxLn.Gen.facts,
  Cert.DxLnIdeal.Gen.facts,
  Cert.DxLnRefIdeal.Gen.facts,
  Cert.ResLn.Gen.facts,
  Cert.ResLnIdeal.Gen.facts,
  Cert.ResLnRefIdeal.Gen.facts,
  Cert.Adamw.Gen.facts,
  Cert.AdamwIdeal.Gen.facts,
  Cert.AdamwRefIdeal.Gen.facts,
  Cert.Reduce.Gen.facts,
  Cert.ReduceIdeal.Gen.facts,
  Cert.ReduceRefIdeal.Gen.facts,
  Cert.DxRes.Gen.facts,
  Cert.DxResIdeal.Gen.facts,
  Cert.DxResRefIdeal.Gen.facts,
  Cert.AdamwIn.Gen.facts,
  Cert.AdamwInIdeal.Gen.facts,
  Cert.AdamwInRefIdeal.Gen.facts,
  Cert.AdamwOut.Gen.facts,
  Cert.AdamwOutIdeal.Gen.facts,
  Cert.AdamwOutRefIdeal.Gen.facts,
  Cert.AdamwGlu.Gen.facts,
  Cert.AdamwGluIdeal.Gen.facts,
  Cert.AdamwGluRefIdeal.Gen.facts,
  Cert.PairSum.Gen.facts,
  Cert.PairSumIdeal.Gen.facts,
  Cert.PairSumRefIdeal.Gen.facts,
  pre_up_finite_facts,
  pre_act_finite_facts,
  pre_loss_finite_facts,
  pre_dx_finite_facts,
  fun m ρ _ => Cert.Kernel.Gen.frame m ρ,
  fun m ρ _ => Cert.KernelIdeal.Gen.frame m ρ,
  Conv.reference_frame,
  fun m ρ _ => Cert.FfnUp.Gen.frame m ρ,
  fun m ρ _ => Cert.FfnUpIdeal.Gen.frame m ρ,
  fun m ρ _ => Cert.FfnUpIdeal.Gen.frame m ρ,
  FfnUp.reference_frame,
  (haveI := pre_up_finite_facts; FfnUp.reference_frame_pre),
  fun m ρ _ => Cert.ActBwd.Gen.frame m ρ,
  fun m ρ _ => Cert.ActBwdIdeal.Gen.frame m ρ,
  fun m ρ _ => Cert.ActBwdIdeal.Gen.frame m ρ,
  ActBwd.reference_frame,
  (haveI := pre_act_finite_facts; ActBwd.reference_frame_pre),
  fun m ρ _ => Cert.UpGrad.Gen.frame m ρ,
  fun m ρ _ => Cert.UpGradIdeal.Gen.frame m ρ,
  UpGrad.reference_frame,
  fun m ρ _ => Cert.UpGradSum.Gen.frame m ρ,
  fun m ρ _ => Cert.UpGradSumIdeal.Gen.frame m ρ,
  UpGradSum.reference_frame,
  fun m ρ _ => Cert.DownGrad.Gen.frame m ρ,
  fun m ρ _ => Cert.DownGradIdeal.Gen.frame m ρ,
  DownGrad.reference_frame,
  fun m ρ _ => Cert.DownGradSum.Gen.frame m ρ,
  fun m ρ _ => Cert.DownGradSumIdeal.Gen.frame m ρ,
  DownGradSum.reference_frame,
  fun m ρ _ => Cert.FfnDx.Gen.frame m ρ,
  fun m ρ _ => Cert.FfnDxIdeal.Gen.frame m ρ,
  FfnDx.reference_frame,
  fun m ρ _ => Cert.FfnDown.Gen.frame m ρ,
  fun m ρ _ => Cert.FfnDownIdeal.Gen.frame m ρ,
  FfnDown.reference_frame,
  fun m ρ _ => Cert.InProj.Gen.frame m ρ,
  fun m ρ _ => Cert.InProjIdeal.Gen.frame m ρ,
  InProj.reference_frame,
  fun m ρ _ => Cert.InGrad.Gen.frame m ρ,
  fun m ρ _ => Cert.InGradIdeal.Gen.frame m ρ,
  InGrad.reference_frame,
  fun m ρ _ => Cert.InDx.Gen.frame m ρ,
  fun m ρ _ => Cert.InDxIdeal.Gen.frame m ρ,
  InDx.reference_frame,
  fun m ρ _ => Cert.OutProj.Gen.frame m ρ,
  fun m ρ _ => Cert.OutProjIdeal.Gen.frame m ρ,
  OutProj.reference_frame,
  fun m ρ _ => Cert.OutGrad.Gen.frame m ρ,
  fun m ρ _ => Cert.OutGradIdeal.Gen.frame m ρ,
  OutGrad.reference_frame,
  fun m ρ _ => Cert.OutDx.Gen.frame m ρ,
  fun m ρ _ => Cert.OutDxIdeal.Gen.frame m ρ,
  OutDx.reference_frame,
  fun m ρ _ => Cert.ParamsBwd.Gen.frame m ρ,
  fun m ρ _ => Cert.ParamsBwdIdeal.Gen.frame m ρ,
  Params.reference_frame,
  fun m ρ _ => Cert.Params.Gen.frame m ρ,
  fun m ρ _ => Cert.ParamsIdeal.Gen.frame m ρ,
  ParamsFwd.reference_frame,
  fun m ρ _ => Cert.MixBwd.Gen.frame m ρ,
  fun m ρ _ => Cert.MixBwdIdeal.Gen.frame m ρ,
  MixBwd.reference_frame,
  fun m ρ _ => Cert.Mix.Gen.frame m ρ,
  fun m ρ _ => Cert.MixIdeal.Gen.frame m ρ,
  Mix.reference_frame,
  fun m ρ _ => Cert.ConvFwd.Gen.frame m ρ,
  fun m ρ _ => Cert.ConvFwdIdeal.Gen.frame m ρ,
  ConvFwd.reference_frame,
  fun m ρ _ => Scan.frame_args m ρ,
  fun m ρ _ => ScanIdeal.frame_args m ρ,
  fun m ρ _ => ScanBwd.frame_args m ρ,
  fun m ρ _ => ScanBwdIdeal.frame_args m ρ,
  fun m ρ _ => Cert.LossLn.Gen.frame m ρ,
  fun m ρ _ => Cert.LossLnIdeal.Gen.frame m ρ,
  fun m ρ _ => Cert.LossLnIdeal.Gen.frame m ρ,
  LossLn.reference_frame,
  (haveI := pre_loss_finite_facts; LossLn.reference_frame_pre),
  fun m ρ _ => Cert.DxLn.Gen.frame m ρ,
  fun m ρ _ => Cert.DxLnIdeal.Gen.frame m ρ,
  fun m ρ _ => Cert.DxLnIdeal.Gen.frame m ρ,
  DxLn.reference_frame,
  (haveI := pre_dx_finite_facts; DxLn.reference_frame_pre),
  fun m ρ _ => Cert.ResLn.Gen.frame m ρ,
  fun m ρ _ => Cert.ResLnIdeal.Gen.frame m ρ,
  ResLn.reference_frame,
  fun m ρ _ => Cert.Adamw.Gen.frame m ρ,
  fun m ρ _ => Cert.AdamwIdeal.Gen.frame m ρ,
  Adamw.reference_frame,
  fun m ρ _ => Cert.Reduce.Gen.frame m ρ,
  fun m ρ _ => Cert.ReduceIdeal.Gen.frame m ρ,
  Reduce.reference_frame,
  fun m ρ _ => Cert.DxRes.Gen.frame m ρ,
  fun m ρ _ => Cert.DxResIdeal.Gen.frame m ρ,
  DxRes.reference_frame,
  fun m ρ _ => Cert.AdamwIn.Gen.frame m ρ,
  fun m ρ _ => Cert.AdamwInIdeal.Gen.frame m ρ,
  AdamwIn.reference_frame,
  fun m ρ _ => Cert.AdamwOut.Gen.frame m ρ,
  fun m ρ _ => Cert.AdamwOutIdeal.Gen.frame m ρ,
  AdamwOut.reference_frame,
  fun m ρ _ => Cert.AdamwGlu.Gen.frame m ρ,
  fun m ρ _ => Cert.AdamwGluIdeal.Gen.frame m ρ,
  AdamwGlu.reference_frame,
  fun m ρ _ => Cert.PairSum.Gen.frame m ρ,
  fun m ρ _ => Cert.PairSumIdeal.Gen.frame m ρ,
  PairSum.reference_frame,
  trivial,
  Conv.algebraic,
  trivial,
  (haveI := pre_up_finite_facts; FfnUp.algebraic),
  trivial,
  (haveI := pre_act_finite_facts; ActBwd.algebraic),
  trivial,
  UpGrad.algebraic,
  trivial,
  UpGradSum.algebraic,
  trivial,
  DownGrad.algebraic,
  trivial,
  DownGradSum.algebraic,
  trivial,
  FfnDx.algebraic,
  trivial,
  FfnDown.algebraic,
  trivial,
  InProj.algebraic,
  trivial,
  InGrad.algebraic,
  trivial,
  InDx.algebraic,
  trivial,
  OutProj.algebraic,
  trivial,
  OutGrad.algebraic,
  trivial,
  OutDx.algebraic,
  trivial,
  Params.algebraic,
  trivial,
  ParamsFwd.algebraic,
  trivial,
  MixBwd.algebraic,
  trivial,
  Mix.algebraic,
  trivial,
  ConvFwd.algebraic,
  trivial,
  trivial,
  trivial,
  (haveI := pre_loss_finite_facts; LossLn.algebraic),
  trivial,
  (haveI := pre_dx_finite_facts; DxLn.algebraic),
  trivial,
  ResLn.algebraic,
  trivial,
  Adamw.algebraic,
  trivial,
  Reduce.algebraic,
  trivial,
  DxRes.algebraic,
  trivial,
  AdamwIn.algebraic,
  trivial,
  AdamwOut.algebraic,
  trivial,
  AdamwGlu.algebraic,
  trivial,
  PairSum.algebraic⟩

end Cert.Proof

end
